-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdReferenceIdeal (m : (ℓ : Loc Cert.DwdReferenceIdeal.nD Cert.DwdReferenceIdeal.τ Cert.DwdReferenceIdeal.sig) → Buf (Elt Ideal) ℓ) : Prop :=
  True

def Pre_Dwu (m : (ℓ : Loc Cert.Dwu.nD Cert.Dwu.τ Cert.Dwu.sig) → Buf (Elt Bits) ℓ) : Prop :=
  True

def Pre_DwuIdeal (m : (ℓ : Loc Cert.DwuIdeal.nD Cert.DwuIdeal.τ Cert.DwuIdeal.sig) → Buf (Elt Ideal) ℓ) : Prop :=
  True

def Pre_DwuReferenceIdeal (m : (ℓ : Loc Cert.DwuReferenceIdeal.nD Cert.DwuReferenceIdeal.τ Cert.DwuReferenceIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenReferenceIdeal (m : (ℓ : Loc Cert.InEvenReferenceIdeal.nD Cert.InEvenReferenceIdeal.τ Cert.InEvenReferenceIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddReferenceIdeal (m : (ℓ : Loc Cert.InOddReferenceIdeal.nD Cert.InOddReferenceIdeal.τ Cert.InOddReferenceIdeal.sig) → Buf (Elt Ideal) ℓ) : Prop :=
  True

def Pre_InEvenDw (m : (ℓ : Loc Cert.InEvenDw.nD Cert.InEvenDw.τ Cert.InEvenDw.sig) → Buf (Elt Bits) ℓ) : Prop :=
  True

def Pre_InEvenDwIdeal (m : (ℓ : Loc Cert.InEvenDwIdeal.nD Cert.InEvenDwIdeal.τ Cert.InEvenDwIdeal.sig) → Buf (Elt Ideal) ℓ) : Prop :=
  True

def Pre_InEvenDwReferenceIdeal (m : (ℓ : Loc Cert.InEvenDwReferenceIdeal.nD Cert.InEvenDwReferenceIdeal.τ Cert.InEvenDwReferenceIdeal.sig) → Buf (Elt Ideal) ℓ) : Prop :=
  True

def Pre_InOddDw (m : (ℓ : Loc Cert.InOddDw.nD Cert.InOddDw.τ Cert.InOddDw.sig) → Buf (Elt Bits) ℓ) : Prop :=
  True

def Pre_InOddDwIdeal (m : (ℓ : Loc Cert.InOddDwIdeal.nD Cert.InOddDwIdeal.τ Cert.InOddDwIdeal.sig) → Buf (Elt Ideal) ℓ) : Prop :=
  True

def Pre_InOddDwReferenceIdeal (m : (ℓ : Loc Cert.InOddDwReferenceIdeal.nD Cert.InOddDwReferenceIdeal.τ Cert.InOddDwReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_InEvenDx (m : (ℓ : Loc Cert.InEvenDx.nD Cert.InEvenDx.τ Cert.InEvenDx.sig) → Buf (Elt Bits) ℓ) : Prop :=
  True

def Pre_InEvenDxIdeal (m : (ℓ : Loc Cert.InEvenDxIdeal.nD Cert.InEvenDxIdeal.τ Cert.InEvenDxIdeal.sig) → Buf (Elt Ideal) ℓ) : Prop :=
  True

def Pre_InEvenDxReferenceIdeal (m : (ℓ : Loc Cert.InEvenDxReferenceIdeal.nD Cert.InEvenDxReferenceIdeal.τ Cert.InEvenDxReferenceIdeal.sig) → Buf (Elt Ideal) ℓ) : Prop :=
  True

def Pre_InOddDx (m : (ℓ : Loc Cert.InOddDx.nD Cert.InOddDx.τ Cert.InOddDx.sig) → Buf (Elt Bits) ℓ) : Prop :=
  True

def Pre_InOddDxIdeal (m : (ℓ : Loc Cert.InOddDxIdeal.nD Cert.InOddDxIdeal.τ Cert.InOddDxIdeal.sig) → Buf (Elt Ideal) ℓ) : Prop :=
  True

def Pre_InOddDxReferenceIdeal (m : (ℓ : Loc Cert.InOddDxReferenceIdeal.nD Cert.InOddDxReferenceIdeal.τ Cert.InOddDxReferenceIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamUp0 (m : (ℓ : Loc Cert.AdamUp0.nD Cert.AdamUp0.τ Cert.AdamUp0.sig) → Buf (Elt Bits) ℓ) : Prop :=
  True

def Pre_AdamUp0Ideal (m : (ℓ : Loc Cert.AdamUp0Ideal.nD Cert.AdamUp0Ideal.τ Cert.AdamUp0Ideal.sig) → Buf (Elt Ideal) ℓ) : Prop :=
  True

def Pre_AdamUp0ReferenceIdeal (m : (ℓ : Loc Cert.AdamUp0ReferenceIdeal.nD Cert.AdamUp0ReferenceIdeal.τ Cert.AdamUp0ReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AdamDown0 (m : (ℓ : Loc Cert.AdamDown0.nD Cert.AdamDown0.τ Cert.AdamDown0.sig) → Buf (Elt Bits) ℓ) : Prop :=
  True

def Pre_AdamDown0Ideal (m : (ℓ : Loc Cert.AdamDown0Ideal.nD Cert.AdamDown0Ideal.τ Cert.AdamDown0Ideal.sig) → Buf (Elt Ideal) ℓ) : Prop :=
  True

def Pre_AdamDown0ReferenceIdeal (m : (ℓ : Loc Cert.AdamDown0ReferenceIdeal.nD Cert.AdamDown0ReferenceIdeal.τ Cert.AdamDown0ReferenceIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamLruConv (m : (ℓ : Loc Cert.AdamLruConv.nD Cert.AdamLruConv.τ Cert.AdamLruConv.sig) → Buf (Elt Bits) ℓ) : Prop :=
  True

def Pre_AdamLruConvIdeal (m : (ℓ : Loc Cert.AdamLruConvIdeal.nD Cert.AdamLruConvIdeal.τ Cert.AdamLruConvIdeal.sig) → Buf (Elt Ideal) ℓ) : Prop :=
  True

def Pre_AdamLruConvReferenceIdeal (m : (ℓ : Loc Cert.AdamLruConvReferenceIdeal.nD Cert.AdamLruConvReferenceIdeal.τ Cert.AdamLruConvReferenceIdeal.sig) → Buf (Elt Ideal) ℓ) : Prop :=
  True

def Pre_AdamGdnConv (m : (ℓ : Loc Cert.AdamGdnConv.nD Cert.AdamGdnConv.τ Cert.AdamGdnConv.sig) → Buf (Elt Bits) ℓ) : Prop :=
  True

def Pre_AdamGdnConvIdeal (m : (ℓ : Loc Cert.AdamGdnConvIdeal.nD Cert.AdamGdnConvIdeal.τ Cert.AdamGdnConvIdeal.sig) → Buf (Elt Ideal) ℓ) : Prop :=
  True

def Pre_AdamGdnConvReferenceIdeal (m : (ℓ : Loc Cert.AdamGdnConvReferenceIdeal.nD Cert.AdamGdnConvReferenceIdeal.τ Cert.AdamGdnConvReferenceIdeal.sig) → Buf (Elt Ideal) ℓ) : Prop :=
  True

def Pre_LruConv (m : (ℓ : Loc Cert.LruConv.nD Cert.LruConv.τ Cert.LruConv.sig) → Buf (Elt Bits) ℓ) : Prop :=
  True

def Pre_LruConvIdeal (m : (ℓ : Loc Cert.LruConvIdeal.nD Cert.LruConvIdeal.τ Cert.LruConvIdeal.sig) → Buf (Elt Ideal) ℓ) : Prop :=
  True

def Pre_LruConvReferenceIdeal (m : (ℓ : Loc Cert.LruConvReferenceIdeal.nD Cert.LruConvReferenceIdeal.τ Cert.LruConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1)
      ∧ r.2.mem ((c.tc : Thread Cert.Dwd.nD Cert.Dwd.τ).loc Cert.Dwd.main_arg2) = m ((c.tc : Thread Cert.Dwd.nD Cert.Dwd.τ).loc Cert.Dwd.main_arg2))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
      ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2))
      ∧ r.2.sem = fun _ => 0)

def quiescent_DwdReferenceIdeal [hDwdReferenceIdeal : Cert.DwdReferenceIdeal.Facts] : Prop :=
  ∀ (m : (ℓ : Loc Cert.DwdReferenceIdeal.nD Cert.DwdReferenceIdeal.τ Cert.DwdReferenceIdeal.sig) → Buf (Elt Ideal) ℓ) (g : Dev Cert.DwdReferenceIdeal.nD → PrngReg), Pre_DwdReferenceIdeal m →
    θ_run (Cert.DwdReferenceIdeal.defs (F := Ideal)) (onTc (τ := Cert.DwdReferenceIdeal.τ) (Cert.DwdReferenceIdeal.main (F := Ideal))) ⟨m, fun _ => 0, g⟩ (fun r => (∀ c : Dev Cert.DwdReferenceIdeal.nD,
      r.2.mem ((c.tc : Thread Cert.DwdReferenceIdeal.nD Cert.DwdReferenceIdeal.τ).loc Cert.DwdReferenceIdeal.main_arg0) = m ((c.tc : Thread Cert.DwdReferenceIdeal.nD Cert.DwdReferenceIdeal.τ).loc Cert.DwdReferenceIdeal.main_arg0)
      ∧ r.2.mem ((c.tc : Thread Cert.DwdReferenceIdeal.nD Cert.DwdReferenceIdeal.τ).loc Cert.DwdReferenceIdeal.main_arg1) = m ((c.tc : Thread Cert.DwdReferenceIdeal.nD Cert.DwdReferenceIdeal.τ).loc Cert.DwdReferenceIdeal.main_arg1)
      ∧ r.2.mem ((c.tc : Thread Cert.DwdReferenceIdeal.nD Cert.DwdReferenceIdeal.τ).loc Cert.DwdReferenceIdeal.main_arg2) = m ((c.tc : Thread Cert.DwdReferenceIdeal.nD Cert.DwdReferenceIdeal.τ).loc Cert.DwdReferenceIdeal.main_arg2))
      ∧ r.2.sem = fun _ => 0)

def quiescent_Dwu [hDwu : Cert.Dwu.Facts] : Prop :=
  ∀ (m : (ℓ : Loc Cert.Dwu.nD Cert.Dwu.τ Cert.Dwu.sig) → Buf (Elt Bits) ℓ) (g : Dev Cert.Dwu.nD → PrngReg), Pre_Dwu m →
    θ_run (Cert.Dwu.defs (F := Bits)) (onTc (τ := Cert.Dwu.τ) (Cert.Dwu.main (F := Bits))) ⟨m, fun _ => 0, g⟩ (fun r => (∀ c : Dev Cert.Dwu.nD,
      r.2.mem ((c.tc : Thread Cert.Dwu.nD Cert.Dwu.τ).loc Cert.Dwu.main_arg0) = m ((c.tc : Thread Cert.Dwu.nD Cert.Dwu.τ).loc Cert.Dwu.main_arg0)
      ∧ r.2.mem ((c.tc : Thread Cert.Dwu.nD Cert.Dwu.τ).loc Cert.Dwu.main_arg1) = m ((c.tc : Thread Cert.Dwu.nD Cert.Dwu.τ).loc Cert.Dwu.main_arg1)
      ∧ r.2.mem ((c.tc : Thread Cert.Dwu.nD Cert.Dwu.τ).loc Cert.Dwu.main_arg2) = m ((c.tc : Thread Cert.Dwu.nD Cert.Dwu.τ).loc Cert.Dwu.main_arg2))
      ∧ r.2.sem = fun _ => 0)

def quiescent_DwuIdeal [hDwuIdeal : Cert.DwuIdeal.Facts] : Prop :=
  ∀ (m : (ℓ : Loc Cert.DwuIdeal.nD Cert.DwuIdeal.τ Cert.DwuIdeal.sig) → Buf (Elt Ideal) ℓ) (g : Dev Cert.DwuIdeal.nD → PrngReg), Pre_DwuIdeal m →
    θ_run (Cert.DwuIdeal.defs (F := Ideal)) (onTc (τ := Cert.DwuIdeal.τ) (Cert.DwuIdeal.main (F := Ideal))) ⟨m, fun _ => 0, g⟩ (fun r => (∀ c : Dev Cert.DwuIdeal.nD,
      r.2.mem ((c.tc : Thread Cert.DwuIdeal.nD Cert.DwuIdeal.τ).loc Cert.DwuIdeal.main_arg0) = m ((c.tc : Thread Cert.DwuIdeal.nD Cert.DwuIdeal.τ).loc Cert.DwuIdeal.main_arg0)
      ∧ r.2.mem ((c.tc : Thread Cert.DwuIdeal.nD Cert.DwuIdeal.τ).loc Cert.DwuIdeal.main_arg1) = m ((c.tc : Thread Cert.DwuIdeal.nD Cert.DwuIdeal.τ).loc Cert.DwuIdeal.main_arg1)
      ∧ r.2.mem ((c.tc : Thread Cert.DwuIdeal.nD Cert.DwuIdeal.τ).loc Cert.DwuIdeal.main_arg2) = m ((c.tc : Thread Cert.DwuIdeal.nD Cert.DwuIdeal.τ).loc Cert.DwuIdeal.main_arg2))
      ∧ r.2.sem = fun _ => 0)

def quiescent_DwuReferenceIdeal [hDwuReferenceIdeal : Cert.DwuReferenceIdeal.Facts] : Prop :=
  ∀ (m : (ℓ : Loc Cert.DwuReferenceIdeal.nD Cert.DwuReferenceIdeal.τ Cert.DwuReferenceIdeal.sig) → Buf (Elt Ideal) ℓ) (g : Dev Cert.DwuReferenceIdeal.nD → PrngReg), Pre_DwuReferenceIdeal m →
    θ_run (Cert.DwuReferenceIdeal.defs (F := Ideal)) (onTc (τ := Cert.DwuReferenceIdeal.τ) (Cert.DwuReferenceIdeal.main (F := Ideal))) ⟨m, fun _ => 0, g⟩ (fun r => (∀ c : Dev Cert.DwuReferenceIdeal.nD,
      r.2.mem ((c.tc : Thread Cert.DwuReferenceIdeal.nD Cert.DwuReferenceIdeal.τ).loc Cert.DwuReferenceIdeal.main_arg0) = m ((c.tc : Thread Cert.DwuReferenceIdeal.nD Cert.DwuReferenceIdeal.τ).loc Cert.DwuReferenceIdeal.main_arg0)
      ∧ r.2.mem ((c.tc : Thread Cert.DwuReferenceIdeal.nD Cert.DwuReferenceIdeal.τ).loc Cert.DwuReferenceIdeal.main_arg1) = m ((c.tc : Thread Cert.DwuReferenceIdeal.nD Cert.DwuReferenceIdeal.τ).loc Cert.DwuReferenceIdeal.main_arg1)
      ∧ r.2.mem ((c.tc : Thread Cert.DwuReferenceIdeal.nD Cert.DwuReferenceIdeal.τ).loc Cert.DwuReferenceIdeal.main_arg2) = m ((c.tc : Thread Cert.DwuReferenceIdeal.nD Cert.DwuReferenceIdeal.τ).loc Cert.DwuReferenceIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ r.2.sem = fun _ => 0)

def quiescent_InEvenReferenceIdeal [hInEvenReferenceIdeal : Cert.InEvenReferenceIdeal.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1))
      ∧ r.2.sem = fun _ => 0)

def quiescent_InEvenDw [hInEvenDw : Cert.InEvenDw.Facts] : Prop :=
  ∀ (m : (ℓ : Loc Cert.InEvenDw.nD Cert.InEvenDw.τ Cert.InEvenDw.sig) → Buf (Elt Bits) ℓ) (g : Dev Cert.InEvenDw.nD → PrngReg), Pre_InEvenDw m →
    θ_run (Cert.InEvenDw.defs (F := Bits)) (onTc (τ := Cert.InEvenDw.τ) (Cert.InEvenDw.main (F := Bits))) ⟨m, fun _ => 0, g⟩ (fun r => (∀ c : Dev Cert.InEvenDw.nD,
      r.2.mem ((c.tc : Thread Cert.InEvenDw.nD Cert.InEvenDw.τ).loc Cert.InEvenDw.main_arg0) = m ((c.tc : Thread Cert.InEvenDw.nD Cert.InEvenDw.τ).loc Cert.InEvenDw.main_arg0)
      ∧ r.2.mem ((c.tc : Thread Cert.InEvenDw.nD Cert.InEvenDw.τ).loc Cert.InEvenDw.main_arg1) = m ((c.tc : Thread Cert.InEvenDw.nD Cert.InEvenDw.τ).loc Cert.InEvenDw.main_arg1)
      ∧ r.2.mem ((c.tc : Thread Cert.InEvenDw.nD Cert.InEvenDw.τ).loc Cert.InEvenDw.main_arg2) = m ((c.tc : Thread Cert.InEvenDw.nD Cert.InEvenDw.τ).loc Cert.InEvenDw.main_arg2))
      ∧ r.2.sem = fun _ => 0)

def quiescent_InEvenDwIdeal [hInEvenDwIdeal : Cert.InEvenDwIdeal.Facts] : Prop :=
  ∀ (m : (ℓ : Loc Cert.InEvenDwIdeal.nD Cert.InEvenDwIdeal.τ Cert.InEvenDwIdeal.sig) → Buf (Elt Ideal) ℓ) (g : Dev Cert.InEvenDwIdeal.nD → PrngReg), Pre_InEvenDwIdeal m →
    θ_run (Cert.InEvenDwIdeal.defs (F := Ideal)) (onTc (τ := Cert.InEvenDwIdeal.τ) (Cert.InEvenDwIdeal.main (F := Ideal))) ⟨m, fun _ => 0, g⟩ (fun r => (∀ c : Dev Cert.InEvenDwIdeal.nD,
      r.2.mem ((c.tc : Thread Cert.InEvenDwIdeal.nD Cert.InEvenDwIdeal.τ).loc Cert.InEvenDwIdeal.main_arg0) = m ((c.tc : Thread Cert.InEvenDwIdeal.nD Cert.InEvenDwIdeal.τ).loc Cert.InEvenDwIdeal.main_arg0)
      ∧ r.2.mem ((c.tc : Thread Cert.InEvenDwIdeal.nD Cert.InEvenDwIdeal.τ).loc Cert.InEvenDwIdeal.main_arg1) = m ((c.tc : Thread Cert.InEvenDwIdeal.nD Cert.InEvenDwIdeal.τ).loc Cert.InEvenDwIdeal.main_arg1)
      ∧ r.2.mem ((c.tc : Thread Cert.InEvenDwIdeal.nD Cert.InEvenDwIdeal.τ).loc Cert.InEvenDwIdeal.main_arg2) = m ((c.tc : Thread Cert.InEvenDwIdeal.nD Cert.InEvenDwIdeal.τ).loc Cert.InEvenDwIdeal.main_arg2))
      ∧ r.2.sem = fun _ => 0)

def quiescent_InEvenDwReferenceIdeal [hInEvenDwReferenceIdeal : Cert.InEvenDwReferenceIdeal.Facts] : Prop :=
  ∀ (m : (ℓ : Loc Cert.InEvenDwReferenceIdeal.nD Cert.InEvenDwReferenceIdeal.τ Cert.InEvenDwReferenceIdeal.sig) → Buf (Elt Ideal) ℓ) (g : Dev Cert.InEvenDwReferenceIdeal.nD → PrngReg), Pre_InEvenDwReferenceIdeal m →
    θ_run (Cert.InEvenDwReferenceIdeal.defs (F := Ideal)) (onTc (τ := Cert.InEvenDwReferenceIdeal.τ) (Cert.InEvenDwReferenceIdeal.main (F := Ideal))) ⟨m, fun _ => 0, g⟩ (fun r => (∀ c : Dev Cert.InEvenDwReferenceIdeal.nD,
      r.2.mem ((c.tc : Thread Cert.InEvenDwReferenceIdeal.nD Cert.InEvenDwReferenceIdeal.τ).loc Cert.InEvenDwReferenceIdeal.main_arg0) = m ((c.tc : Thread Cert.InEvenDwReferenceIdeal.nD Cert.InEvenDwReferenceIdeal.τ).loc Cert.InEvenDwReferenceIdeal.main_arg0)
      ∧ r.2.mem ((c.tc : Thread Cert.InEvenDwReferenceIdeal.nD Cert.InEvenDwReferenceIdeal.τ).loc Cert.InEvenDwReferenceIdeal.main_arg1) = m ((c.tc : Thread Cert.InEvenDwReferenceIdeal.nD Cert.InEvenDwReferenceIdeal.τ).loc Cert.InEvenDwReferenceIdeal.main_arg1)
      ∧ r.2.mem ((c.tc : Thread Cert.InEvenDwReferenceIdeal.nD Cert.InEvenDwReferenceIdeal.τ).loc Cert.InEvenDwReferenceIdeal.main_arg2) = m ((c.tc : Thread Cert.InEvenDwReferenceIdeal.nD Cert.InEvenDwReferenceIdeal.τ).loc Cert.InEvenDwReferenceIdeal.main_arg2))
      ∧ r.2.sem = fun _ => 0)

def quiescent_InOddDw [hInOddDw : Cert.InOddDw.Facts] : Prop :=
  ∀ (m : (ℓ : Loc Cert.InOddDw.nD Cert.InOddDw.τ Cert.InOddDw.sig) → Buf (Elt Bits) ℓ) (g : Dev Cert.InOddDw.nD → PrngReg), Pre_InOddDw m →
    θ_run (Cert.InOddDw.defs (F := Bits)) (onTc (τ := Cert.InOddDw.τ) (Cert.InOddDw.main (F := Bits))) ⟨m, fun _ => 0, g⟩ (fun r => (∀ c : Dev Cert.InOddDw.nD,
      r.2.mem ((c.tc : Thread Cert.InOddDw.nD Cert.InOddDw.τ).loc Cert.InOddDw.main_arg0) = m ((c.tc : Thread Cert.InOddDw.nD Cert.InOddDw.τ).loc Cert.InOddDw.main_arg0)
      ∧ r.2.mem ((c.tc : Thread Cert.InOddDw.nD Cert.InOddDw.τ).loc Cert.InOddDw.main_arg1) = m ((c.tc : Thread Cert.InOddDw.nD Cert.InOddDw.τ).loc Cert.InOddDw.main_arg1)
      ∧ r.2.mem ((c.tc : Thread Cert.InOddDw.nD Cert.InOddDw.τ).loc Cert.InOddDw.main_arg2) = m ((c.tc : Thread Cert.InOddDw.nD Cert.InOddDw.τ).loc Cert.InOddDw.main_arg2))
      ∧ r.2.sem = fun _ => 0)

def quiescent_InOddDwIdeal [hInOddDwIdeal : Cert.InOddDwIdeal.Facts] : Prop :=
  ∀ (m : (ℓ : Loc Cert.InOddDwIdeal.nD Cert.InOddDwIdeal.τ Cert.InOddDwIdeal.sig) → Buf (Elt Ideal) ℓ) (g : Dev Cert.InOddDwIdeal.nD → PrngReg), Pre_InOddDwIdeal m →
    θ_run (Cert.InOddDwIdeal.defs (F := Ideal)) (onTc (τ := Cert.InOddDwIdeal.τ) (Cert.InOddDwIdeal.main (F := Ideal))) ⟨m, fun _ => 0, g⟩ (fun r => (∀ c : Dev Cert.InOddDwIdeal.nD,
      r.2.mem ((c.tc : Thread Cert.InOddDwIdeal.nD Cert.InOddDwIdeal.τ).loc Cert.InOddDwIdeal.main_arg0) = m ((c.tc : Thread Cert.InOddDwIdeal.nD Cert.InOddDwIdeal.τ).loc Cert.InOddDwIdeal.main_arg0)
      ∧ r.2.mem ((c.tc : Thread Cert.InOddDwIdeal.nD Cert.InOddDwIdeal.τ).loc Cert.InOddDwIdeal.main_arg1) = m ((c.tc : Thread Cert.InOddDwIdeal.nD Cert.InOddDwIdeal.τ).loc Cert.InOddDwIdeal.main_arg1)
      ∧ r.2.mem ((c.tc : Thread Cert.InOddDwIdeal.nD Cert.InOddDwIdeal.τ).loc Cert.InOddDwIdeal.main_arg2) = m ((c.tc : Thread Cert.InOddDwIdeal.nD Cert.InOddDwIdeal.τ).loc Cert.InOddDwIdeal.main_arg2))
      ∧ r.2.sem = fun _ => 0)

def quiescent_InOddDwReferenceIdeal [hInOddDwReferenceIdeal : Cert.InOddDwReferenceIdeal.Facts] : Prop :=
  ∀ (m : (ℓ : Loc Cert.InOddDwReferenceIdeal.nD Cert.InOddDwReferenceIdeal.τ Cert.InOddDwReferenceIdeal.sig) → Buf (Elt Ideal) ℓ) (g : Dev Cert.InOddDwReferenceIdeal.nD → PrngReg), Pre_InOddDwReferenceIdeal m →
    θ_run (Cert.InOddDwReferenceIdeal.defs (F := Ideal)) (onTc (τ := Cert.InOddDwReferenceIdeal.τ) (Cert.InOddDwReferenceIdeal.main (F := Ideal))) ⟨m, fun _ => 0, g⟩ (fun r => (∀ c : Dev Cert.InOddDwReferenceIdeal.nD,
      r.2.mem ((c.tc : Thread Cert.InOddDwReferenceIdeal.nD Cert.InOddDwReferenceIdeal.τ).loc Cert.InOddDwReferenceIdeal.main_arg0) = m ((c.tc : Thread Cert.InOddDwReferenceIdeal.nD Cert.InOddDwReferenceIdeal.τ).loc Cert.InOddDwReferenceIdeal.main_arg0)
      ∧ r.2.mem ((c.tc : Thread Cert.InOddDwReferenceIdeal.nD Cert.InOddDwReferenceIdeal.τ).loc Cert.InOddDwReferenceIdeal.main_arg1) = m ((c.tc : Thread Cert.InOddDwReferenceIdeal.nD Cert.InOddDwReferenceIdeal.τ).loc Cert.InOddDwReferenceIdeal.main_arg1)
      ∧ r.2.mem ((c.tc : Thread Cert.InOddDwReferenceIdeal.nD Cert.InOddDwReferenceIdeal.τ).loc Cert.InOddDwReferenceIdeal.main_arg2) = m ((c.tc : Thread Cert.InOddDwReferenceIdeal.nD Cert.InOddDwReferenceIdeal.τ).loc Cert.InOddDwReferenceIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_InEvenDx [hInEvenDx : Cert.InEvenDx.Facts] : Prop :=
  ∀ (m : (ℓ : Loc Cert.InEvenDx.nD Cert.InEvenDx.τ Cert.InEvenDx.sig) → Buf (Elt Bits) ℓ) (g : Dev Cert.InEvenDx.nD → PrngReg), Pre_InEvenDx m →
    θ_run (Cert.InEvenDx.defs (F := Bits)) (onTc (τ := Cert.InEvenDx.τ) (Cert.InEvenDx.main (F := Bits))) ⟨m, fun _ => 0, g⟩ (fun r => (∀ c : Dev Cert.InEvenDx.nD,
      r.2.mem ((c.tc : Thread Cert.InEvenDx.nD Cert.InEvenDx.τ).loc Cert.InEvenDx.main_arg0) = m ((c.tc : Thread Cert.InEvenDx.nD Cert.InEvenDx.τ).loc Cert.InEvenDx.main_arg0)
      ∧ r.2.mem ((c.tc : Thread Cert.InEvenDx.nD Cert.InEvenDx.τ).loc Cert.InEvenDx.main_arg1) = m ((c.tc : Thread Cert.InEvenDx.nD Cert.InEvenDx.τ).loc Cert.InEvenDx.main_arg1)
      ∧ r.2.mem ((c.tc : Thread Cert.InEvenDx.nD Cert.InEvenDx.τ).loc Cert.InEvenDx.main_arg2) = m ((c.tc : Thread Cert.InEvenDx.nD Cert.InEvenDx.τ).loc Cert.InEvenDx.main_arg2)
      ∧ r.2.mem ((c.tc : Thread Cert.InEvenDx.nD Cert.InEvenDx.τ).loc Cert.InEvenDx.main_arg3) = m ((c.tc : Thread Cert.InEvenDx.nD Cert.InEvenDx.τ).loc Cert.InEvenDx.main_arg3)
      ∧ r.2.mem ((c.tc : Thread Cert.InEvenDx.nD Cert.InEvenDx.τ).loc Cert.InEvenDx.main_arg4) = m ((c.tc : Thread Cert.InEvenDx.nD Cert.InEvenDx.τ).loc Cert.InEvenDx.main_arg4))
      ∧ r.2.sem = fun _ => 0)

def quiescent_InEvenDxIdeal [hInEvenDxIdeal : Cert.InEvenDxIdeal.Facts] : Prop :=
  ∀ (m : (ℓ : Loc Cert.InEvenDxIdeal.nD Cert.InEvenDxIdeal.τ Cert.InEvenDxIdeal.sig) → Buf (Elt Ideal) ℓ) (g : Dev Cert.InEvenDxIdeal.nD → PrngReg), Pre_InEvenDxIdeal m →
    θ_run (Cert.InEvenDxIdeal.defs (F := Ideal)) (onTc (τ := Cert.InEvenDxIdeal.τ) (Cert.InEvenDxIdeal.main (F := Ideal))) ⟨m, fun _ => 0, g⟩ (fun r => (∀ c : Dev Cert.InEvenDxIdeal.nD,
      r.2.mem ((c.tc : Thread Cert.InEvenDxIdeal.nD Cert.InEvenDxIdeal.τ).loc Cert.InEvenDxIdeal.main_arg0) = m ((c.tc : Thread Cert.InEvenDxIdeal.nD Cert.InEvenDxIdeal.τ).loc Cert.InEvenDxIdeal.main_arg0)
      ∧ r.2.mem ((c.tc : Thread Cert.InEvenDxIdeal.nD Cert.InEvenDxIdeal.τ).loc Cert.InEvenDxIdeal.main_arg1) = m ((c.tc : Thread Cert.InEvenDxIdeal.nD Cert.InEvenDxIdeal.τ).loc Cert.InEvenDxIdeal.main_arg1)
      ∧ r.2.mem ((c.tc : Thread Cert.InEvenDxIdeal.nD Cert.InEvenDxIdeal.τ).loc Cert.InEvenDxIdeal.main_arg2) = m ((c.tc : Thread Cert.InEvenDxIdeal.nD Cert.InEvenDxIdeal.τ).loc Cert.InEvenDxIdeal.main_arg2)
      ∧ r.2.mem ((c.tc : Thread Cert.InEvenDxIdeal.nD Cert.InEvenDxIdeal.τ).loc Cert.InEvenDxIdeal.main_arg3) = m ((c.tc : Thread Cert.InEvenDxIdeal.nD Cert.InEvenDxIdeal.τ).loc Cert.InEvenDxIdeal.main_arg3)
      ∧ r.2.mem ((c.tc : Thread Cert.InEvenDxIdeal.nD Cert.InEvenDxIdeal.τ).loc Cert.InEvenDxIdeal.main_arg4) = m ((c.tc : Thread Cert.InEvenDxIdeal.nD Cert.InEvenDxIdeal.τ).loc Cert.InEvenDxIdeal.main_arg4))
      ∧ r.2.sem = fun _ => 0)

def quiescent_InEvenDxReferenceIdeal [hInEvenDxReferenceIdeal : Cert.InEvenDxReferenceIdeal.Facts] : Prop :=
  ∀ (m : (ℓ : Loc Cert.InEvenDxReferenceIdeal.nD Cert.InEvenDxReferenceIdeal.τ Cert.InEvenDxReferenceIdeal.sig) → Buf (Elt Ideal) ℓ) (g : Dev Cert.InEvenDxReferenceIdeal.nD → PrngReg), Pre_InEvenDxReferenceIdeal m →
    θ_run (Cert.InEvenDxReferenceIdeal.defs (F := Ideal)) (onTc (τ := Cert.InEvenDxReferenceIdeal.τ) (Cert.InEvenDxReferenceIdeal.main (F := Ideal))) ⟨m, fun _ => 0, g⟩ (fun r => (∀ c : Dev Cert.InEvenDxReferenceIdeal.nD,
      r.2.mem ((c.tc : Thread Cert.InEvenDxReferenceIdeal.nD Cert.InEvenDxReferenceIdeal.τ).loc Cert.InEvenDxReferenceIdeal.main_arg0) = m ((c.tc : Thread Cert.InEvenDxReferenceIdeal.nD Cert.InEvenDxReferenceIdeal.τ).loc Cert.InEvenDxReferenceIdeal.main_arg0)
      ∧ r.2.mem ((c.tc : Thread Cert.InEvenDxReferenceIdeal.nD Cert.InEvenDxReferenceIdeal.τ).loc Cert.InEvenDxReferenceIdeal.main_arg1) = m ((c.tc : Thread Cert.InEvenDxReferenceIdeal.nD Cert.InEvenDxReferenceIdeal.τ).loc Cert.InEvenDxReferenceIdeal.main_arg1)
      ∧ r.2.mem ((c.tc : Thread Cert.InEvenDxReferenceIdeal.nD Cert.InEvenDxReferenceIdeal.τ).loc Cert.InEvenDxReferenceIdeal.main_arg2) = m ((c.tc : Thread Cert.InEvenDxReferenceIdeal.nD Cert.InEvenDxReferenceIdeal.τ).loc Cert.InEvenDxReferenceIdeal.main_arg2)
      ∧ r.2.mem ((c.tc : Thread Cert.InEvenDxReferenceIdeal.nD Cert.InEvenDxReferenceIdeal.τ).loc Cert.InEvenDxReferenceIdeal.main_arg3) = m ((c.tc : Thread Cert.InEvenDxReferenceIdeal.nD Cert.InEvenDxReferenceIdeal.τ).loc Cert.InEvenDxReferenceIdeal.main_arg3)
      ∧ r.2.mem ((c.tc : Thread Cert.InEvenDxReferenceIdeal.nD Cert.InEvenDxReferenceIdeal.τ).loc Cert.InEvenDxReferenceIdeal.main_arg4) = m ((c.tc : Thread Cert.InEvenDxReferenceIdeal.nD Cert.InEvenDxReferenceIdeal.τ).loc Cert.InEvenDxReferenceIdeal.main_arg4))
      ∧ r.2.sem = fun _ => 0)

def quiescent_InOddDx [hInOddDx : Cert.InOddDx.Facts] : Prop :=
  ∀ (m : (ℓ : Loc Cert.InOddDx.nD Cert.InOddDx.τ Cert.InOddDx.sig) → Buf (Elt Bits) ℓ) (g : Dev Cert.InOddDx.nD → PrngReg), Pre_InOddDx m →
    θ_run (Cert.InOddDx.defs (F := Bits)) (onTc (τ := Cert.InOddDx.τ) (Cert.InOddDx.main (F := Bits))) ⟨m, fun _ => 0, g⟩ (fun r => (∀ c : Dev Cert.InOddDx.nD,
      r.2.mem ((c.tc : Thread Cert.InOddDx.nD Cert.InOddDx.τ).loc Cert.InOddDx.main_arg0) = m ((c.tc : Thread Cert.InOddDx.nD Cert.InOddDx.τ).loc Cert.InOddDx.main_arg0)
      ∧ r.2.mem ((c.tc : Thread Cert.InOddDx.nD Cert.InOddDx.τ).loc Cert.InOddDx.main_arg1) = m ((c.tc : Thread Cert.InOddDx.nD Cert.InOddDx.τ).loc Cert.InOddDx.main_arg1)
      ∧ r.2.mem ((c.tc : Thread Cert.InOddDx.nD Cert.InOddDx.τ).loc Cert.InOddDx.main_arg2) = m ((c.tc : Thread Cert.InOddDx.nD Cert.InOddDx.τ).loc Cert.InOddDx.main_arg2)
      ∧ r.2.mem ((c.tc : Thread Cert.InOddDx.nD Cert.InOddDx.τ).loc Cert.InOddDx.main_arg3) = m ((c.tc : Thread Cert.InOddDx.nD Cert.InOddDx.τ).loc Cert.InOddDx.main_arg3)
      ∧ r.2.mem ((c.tc : Thread Cert.InOddDx.nD Cert.InOddDx.τ).loc Cert.InOddDx.main_arg4) = m ((c.tc : Thread Cert.InOddDx.nD Cert.InOddDx.τ).loc Cert.InOddDx.main_arg4))
      ∧ r.2.sem = fun _ => 0)

def quiescent_InOddDxIdeal [hInOddDxIdeal : Cert.InOddDxIdeal.Facts] : Prop :=
  ∀ (m : (ℓ : Loc Cert.InOddDxIdeal.nD Cert.InOddDxIdeal.τ Cert.InOddDxIdeal.sig) → Buf (Elt Ideal) ℓ) (g : Dev Cert.InOddDxIdeal.nD → PrngReg), Pre_InOddDxIdeal m →
    θ_run (Cert.InOddDxIdeal.defs (F := Ideal)) (onTc (τ := Cert.InOddDxIdeal.τ) (Cert.InOddDxIdeal.main (F := Ideal))) ⟨m, fun _ => 0, g⟩ (fun r => (∀ c : Dev Cert.InOddDxIdeal.nD,
      r.2.mem ((c.tc : Thread Cert.InOddDxIdeal.nD Cert.InOddDxIdeal.τ).loc Cert.InOddDxIdeal.main_arg0) = m ((c.tc : Thread Cert.InOddDxIdeal.nD Cert.InOddDxIdeal.τ).loc Cert.InOddDxIdeal.main_arg0)
      ∧ r.2.mem ((c.tc : Thread Cert.InOddDxIdeal.nD Cert.InOddDxIdeal.τ).loc Cert.InOddDxIdeal.main_arg1) = m ((c.tc : Thread Cert.InOddDxIdeal.nD Cert.InOddDxIdeal.τ).loc Cert.InOddDxIdeal.main_arg1)
      ∧ r.2.mem ((c.tc : Thread Cert.InOddDxIdeal.nD Cert.InOddDxIdeal.τ).loc Cert.InOddDxIdeal.main_arg2) = m ((c.tc : Thread Cert.InOddDxIdeal.nD Cert.InOddDxIdeal.τ).loc Cert.InOddDxIdeal.main_arg2)
      ∧ r.2.mem ((c.tc : Thread Cert.InOddDxIdeal.nD Cert.InOddDxIdeal.τ).loc Cert.InOddDxIdeal.main_arg3) = m ((c.tc : Thread Cert.InOddDxIdeal.nD Cert.InOddDxIdeal.τ).loc Cert.InOddDxIdeal.main_arg3)
      ∧ r.2.mem ((c.tc : Thread Cert.InOddDxIdeal.nD Cert.InOddDxIdeal.τ).loc Cert.InOddDxIdeal.main_arg4) = m ((c.tc : Thread Cert.InOddDxIdeal.nD Cert.InOddDxIdeal.τ).loc Cert.InOddDxIdeal.main_arg4))
      ∧ r.2.sem = fun _ => 0)

def quiescent_InOddDxReferenceIdeal [hInOddDxReferenceIdeal : Cert.InOddDxReferenceIdeal.Facts] : Prop :=
  ∀ (m : (ℓ : Loc Cert.InOddDxReferenceIdeal.nD Cert.InOddDxReferenceIdeal.τ Cert.InOddDxReferenceIdeal.sig) → Buf (Elt Ideal) ℓ) (g : Dev Cert.InOddDxReferenceIdeal.nD → PrngReg), Pre_InOddDxReferenceIdeal m →
    θ_run (Cert.InOddDxReferenceIdeal.defs (F := Ideal)) (onTc (τ := Cert.InOddDxReferenceIdeal.τ) (Cert.InOddDxReferenceIdeal.main (F := Ideal))) ⟨m, fun _ => 0, g⟩ (fun r => (∀ c : Dev Cert.InOddDxReferenceIdeal.nD,
      r.2.mem ((c.tc : Thread Cert.InOddDxReferenceIdeal.nD Cert.InOddDxReferenceIdeal.τ).loc Cert.InOddDxReferenceIdeal.main_arg0) = m ((c.tc : Thread Cert.InOddDxReferenceIdeal.nD Cert.InOddDxReferenceIdeal.τ).loc Cert.InOddDxReferenceIdeal.main_arg0)
      ∧ r.2.mem ((c.tc : Thread Cert.InOddDxReferenceIdeal.nD Cert.InOddDxReferenceIdeal.τ).loc Cert.InOddDxReferenceIdeal.main_arg1) = m ((c.tc : Thread Cert.InOddDxReferenceIdeal.nD Cert.InOddDxReferenceIdeal.τ).loc Cert.InOddDxReferenceIdeal.main_arg1)
      ∧ r.2.mem ((c.tc : Thread Cert.InOddDxReferenceIdeal.nD Cert.InOddDxReferenceIdeal.τ).loc Cert.InOddDxReferenceIdeal.main_arg2) = m ((c.tc : Thread Cert.InOddDxReferenceIdeal.nD Cert.InOddDxReferenceIdeal.τ).loc Cert.InOddDxReferenceIdeal.main_arg2)
      ∧ r.2.mem ((c.tc : Thread Cert.InOddDxReferenceIdeal.nD Cert.InOddDxReferenceIdeal.τ).loc Cert.InOddDxReferenceIdeal.main_arg3) = m ((c.tc : Thread Cert.InOddDxReferenceIdeal.nD Cert.InOddDxReferenceIdeal.τ).loc Cert.InOddDxReferenceIdeal.main_arg3)
      ∧ r.2.mem ((c.tc : Thread Cert.InOddDxReferenceIdeal.nD Cert.InOddDxReferenceIdeal.τ).loc Cert.InOddDxReferenceIdeal.main_arg4) = m ((c.tc : Thread Cert.InOddDxReferenceIdeal.nD Cert.InOddDxReferenceIdeal.τ).loc Cert.InOddDxReferenceIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6)
      ∧ r.2.mem ((c.tc : Thread Cert.AdamUp.nD Cert.AdamUp.τ).loc Cert.AdamUp.main_arg7) = m ((c.tc : Thread Cert.AdamUp.nD Cert.AdamUp.τ).loc Cert.AdamUp.main_arg7))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6)
      ∧ r.2.mem ((c.tc : Thread Cert.AdamUpIdeal.nD Cert.AdamUpIdeal.τ).loc Cert.AdamUpIdeal.main_arg7) = m ((c.tc : Thread Cert.AdamUpIdeal.nD Cert.AdamUpIdeal.τ).loc Cert.AdamUpIdeal.main_arg7))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4)
      ∧ r.2.mem ((c.tc : Thread Cert.AdamUpReferenceIdeal.nD Cert.AdamUpReferenceIdeal.τ).loc Cert.AdamUpReferenceIdeal.main_arg5) = m ((c.tc : Thread Cert.AdamUpReferenceIdeal.nD Cert.AdamUpReferenceIdeal.τ).loc Cert.AdamUpReferenceIdeal.main_arg5)
      ∧ r.2.mem ((c.tc : Thread Cert.AdamUpReferenceIdeal.nD Cert.AdamUpReferenceIdeal.τ).loc Cert.AdamUpReferenceIdeal.main_arg6) = m ((c.tc : Thread Cert.AdamUpReferenceIdeal.nD Cert.AdamUpReferenceIdeal.τ).loc Cert.AdamUpReferenceIdeal.main_arg6)
      ∧ r.2.mem ((c.tc : Thread Cert.AdamUpReferenceIdeal.nD Cert.AdamUpReferenceIdeal.τ).loc Cert.AdamUpReferenceIdeal.main_arg7) = m ((c.tc : Thread Cert.AdamUpReferenceIdeal.nD Cert.AdamUpReferenceIdeal.τ).loc Cert.AdamUpReferenceIdeal.main_arg7))
      ∧ r.2.sem = fun _ => 0)

def quiescent_AdamUp0 [hAdamUp0 : Cert.AdamUp0.Facts] : Prop :=
  ∀ (m : (ℓ : Loc Cert.AdamUp0.nD Cert.AdamUp0.τ Cert.AdamUp0.sig) → Buf (Elt Bits) ℓ) (g : Dev Cert.AdamUp0.nD → PrngReg), Pre_AdamUp0 m →
    θ_run (Cert.AdamUp0.defs (F := Bits)) (onTc (τ := Cert.AdamUp0.τ) (Cert.AdamUp0.main (F := Bits))) ⟨m, fun _ => 0, g⟩ (fun r => (∀ c : Dev Cert.AdamUp0.nD,
      r.2.mem ((c.tc : Thread Cert.AdamUp0.nD Cert.AdamUp0.τ).loc Cert.AdamUp0.main_arg0) = m ((c.tc : Thread Cert.AdamUp0.nD Cert.AdamUp0.τ).loc Cert.AdamUp0.main_arg0)
      ∧ r.2.mem ((c.tc : Thread Cert.AdamUp0.nD Cert.AdamUp0.τ).loc Cert.AdamUp0.main_arg1) = m ((c.tc : Thread Cert.AdamUp0.nD Cert.AdamUp0.τ).loc Cert.AdamUp0.main_arg1)
      ∧ r.2.mem ((c.tc : Thread Cert.AdamUp0.nD Cert.AdamUp0.τ).loc Cert.AdamUp0.main_arg2) = m ((c.tc : Thread Cert.AdamUp0.nD Cert.AdamUp0.τ).loc Cert.AdamUp0.main_arg2)
      ∧ r.2.mem ((c.tc : Thread Cert.AdamUp0.nD Cert.AdamUp0.τ).loc Cert.AdamUp0.main_arg3) = m ((c.tc : Thread Cert.AdamUp0.nD Cert.AdamUp0.τ).loc Cert.AdamUp0.main_arg3))
      ∧ r.2.sem = fun _ => 0)

def quiescent_AdamUp0Ideal [hAdamUp0Ideal : Cert.AdamUp0Ideal.Facts] : Prop :=
  ∀ (m : (ℓ : Loc Cert.AdamUp0Ideal.nD Cert.AdamUp0Ideal.τ Cert.AdamUp0Ideal.sig) → Buf (Elt Ideal) ℓ) (g : Dev Cert.AdamUp0Ideal.nD → PrngReg), Pre_AdamUp0Ideal m →
    θ_run (Cert.AdamUp0Ideal.defs (F := Ideal)) (onTc (τ := Cert.AdamUp0Ideal.τ) (Cert.AdamUp0Ideal.main (F := Ideal))) ⟨m, fun _ => 0, g⟩ (fun r => (∀ c : Dev Cert.AdamUp0Ideal.nD,
      r.2.mem ((c.tc : Thread Cert.AdamUp0Ideal.nD Cert.AdamUp0Ideal.τ).loc Cert.AdamUp0Ideal.main_arg0) = m ((c.tc : Thread Cert.AdamUp0Ideal.nD Cert.AdamUp0Ideal.τ).loc Cert.AdamUp0Ideal.main_arg0)
      ∧ r.2.mem ((c.tc : Thread Cert.AdamUp0Ideal.nD Cert.AdamUp0Ideal.τ).loc Cert.AdamUp0Ideal.main_arg1) = m ((c.tc : Thread Cert.AdamUp0Ideal.nD Cert.AdamUp0Ideal.τ).loc Cert.AdamUp0Ideal.main_arg1)
      ∧ r.2.mem ((c.tc : Thread Cert.AdamUp0Ideal.nD Cert.AdamUp0Ideal.τ).loc Cert.AdamUp0Ideal.main_arg2) = m ((c.tc : Thread Cert.AdamUp0Ideal.nD Cert.AdamUp0Ideal.τ).loc Cert.AdamUp0Ideal.main_arg2)
      ∧ r.2.mem ((c.tc : Thread Cert.AdamUp0Ideal.nD Cert.AdamUp0Ideal.τ).loc Cert.AdamUp0Ideal.main_arg3) = m ((c.tc : Thread Cert.AdamUp0Ideal.nD Cert.AdamUp0Ideal.τ).loc Cert.AdamUp0Ideal.main_arg3))
      ∧ r.2.sem = fun _ => 0)

def quiescent_AdamUp0ReferenceIdeal [hAdamUp0ReferenceIdeal : Cert.AdamUp0ReferenceIdeal.Facts] : Prop :=
  ∀ (m : (ℓ : Loc Cert.AdamUp0ReferenceIdeal.nD Cert.AdamUp0ReferenceIdeal.τ Cert.AdamUp0ReferenceIdeal.sig) → Buf (Elt Ideal) ℓ) (g : Dev Cert.AdamUp0ReferenceIdeal.nD → PrngReg), Pre_AdamUp0ReferenceIdeal m →
    θ_run (Cert.AdamUp0ReferenceIdeal.defs (F := Ideal)) (onTc (τ := Cert.AdamUp0ReferenceIdeal.τ) (Cert.AdamUp0ReferenceIdeal.main (F := Ideal))) ⟨m, fun _ => 0, g⟩ (fun r => (∀ c : Dev Cert.AdamUp0ReferenceIdeal.nD,
      r.2.mem ((c.tc : Thread Cert.AdamUp0ReferenceIdeal.nD Cert.AdamUp0ReferenceIdeal.τ).loc Cert.AdamUp0ReferenceIdeal.main_arg0) = m ((c.tc : Thread Cert.AdamUp0ReferenceIdeal.nD Cert.AdamUp0ReferenceIdeal.τ).loc Cert.AdamUp0ReferenceIdeal.main_arg0)
      ∧ r.2.mem ((c.tc : Thread Cert.AdamUp0ReferenceIdeal.nD Cert.AdamUp0ReferenceIdeal.τ).loc Cert.AdamUp0ReferenceIdeal.main_arg1) = m ((c.tc : Thread Cert.AdamUp0ReferenceIdeal.nD Cert.AdamUp0ReferenceIdeal.τ).loc Cert.AdamUp0ReferenceIdeal.main_arg1)
      ∧ r.2.mem ((c.tc : Thread Cert.AdamUp0ReferenceIdeal.nD Cert.AdamUp0ReferenceIdeal.τ).loc Cert.AdamUp0ReferenceIdeal.main_arg2) = m ((c.tc : Thread Cert.AdamUp0ReferenceIdeal.nD Cert.AdamUp0ReferenceIdeal.τ).loc Cert.AdamUp0ReferenceIdeal.main_arg2)
      ∧ r.2.mem ((c.tc : Thread Cert.AdamUp0ReferenceIdeal.nD Cert.AdamUp0ReferenceIdeal.τ).loc Cert.AdamUp0ReferenceIdeal.main_arg3) = m ((c.tc : Thread Cert.AdamUp0ReferenceIdeal.nD Cert.AdamUp0ReferenceIdeal.τ).loc Cert.AdamUp0ReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6)
      ∧ r.2.mem ((c.tc : Thread Cert.AdamDown.nD Cert.AdamDown.τ).loc Cert.AdamDown.main_arg7) = m ((c.tc : Thread Cert.AdamDown.nD Cert.AdamDown.τ).loc Cert.AdamDown.main_arg7))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6)
      ∧ r.2.mem ((c.tc : Thread Cert.AdamDownIdeal.nD Cert.AdamDownIdeal.τ).loc Cert.AdamDownIdeal.main_arg7) = m ((c.tc : Thread Cert.AdamDownIdeal.nD Cert.AdamDownIdeal.τ).loc Cert.AdamDownIdeal.main_arg7))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4)
      ∧ r.2.mem ((c.tc : Thread Cert.AdamDownReferenceIdeal.nD Cert.AdamDownReferenceIdeal.τ).loc Cert.AdamDownReferenceIdeal.main_arg5) = m ((c.tc : Thread Cert.AdamDownReferenceIdeal.nD Cert.AdamDownReferenceIdeal.τ).loc Cert.AdamDownReferenceIdeal.main_arg5)
      ∧ r.2.mem ((c.tc : Thread Cert.AdamDownReferenceIdeal.nD Cert.AdamDownReferenceIdeal.τ).loc Cert.AdamDownReferenceIdeal.main_arg6) = m ((c.tc : Thread Cert.AdamDownReferenceIdeal.nD Cert.AdamDownReferenceIdeal.τ).loc Cert.AdamDownReferenceIdeal.main_arg6)
      ∧ r.2.mem ((c.tc : Thread Cert.AdamDownReferenceIdeal.nD Cert.AdamDownReferenceIdeal.τ).loc Cert.AdamDownReferenceIdeal.main_arg7) = m ((c.tc : Thread Cert.AdamDownReferenceIdeal.nD Cert.AdamDownReferenceIdeal.τ).loc Cert.AdamDownReferenceIdeal.main_arg7))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_AdamDown0 [hAdamDown0 : Cert.AdamDown0.Facts] : Prop :=
  ∀ (m : (ℓ : Loc Cert.AdamDown0.nD Cert.AdamDown0.τ Cert.AdamDown0.sig) → Buf (Elt Bits) ℓ) (g : Dev Cert.AdamDown0.nD → PrngReg), Pre_AdamDown0 m →
    θ_run (Cert.AdamDown0.defs (F := Bits)) (onTc (τ := Cert.AdamDown0.τ) (Cert.AdamDown0.main (F := Bits))) ⟨m, fun _ => 0, g⟩ (fun r => (∀ c : Dev Cert.AdamDown0.nD,
      r.2.mem ((c.tc : Thread Cert.AdamDown0.nD Cert.AdamDown0.τ).loc Cert.AdamDown0.main_arg0) = m ((c.tc : Thread Cert.AdamDown0.nD Cert.AdamDown0.τ).loc Cert.AdamDown0.main_arg0)
      ∧ r.2.mem ((c.tc : Thread Cert.AdamDown0.nD Cert.AdamDown0.τ).loc Cert.AdamDown0.main_arg1) = m ((c.tc : Thread Cert.AdamDown0.nD Cert.AdamDown0.τ).loc Cert.AdamDown0.main_arg1)
      ∧ r.2.mem ((c.tc : Thread Cert.AdamDown0.nD Cert.AdamDown0.τ).loc Cert.AdamDown0.main_arg2) = m ((c.tc : Thread Cert.AdamDown0.nD Cert.AdamDown0.τ).loc Cert.AdamDown0.main_arg2)
      ∧ r.2.mem ((c.tc : Thread Cert.AdamDown0.nD Cert.AdamDown0.τ).loc Cert.AdamDown0.main_arg3) = m ((c.tc : Thread Cert.AdamDown0.nD Cert.AdamDown0.τ).loc Cert.AdamDown0.main_arg3))
      ∧ r.2.sem = fun _ => 0)

def quiescent_AdamDown0Ideal [hAdamDown0Ideal : Cert.AdamDown0Ideal.Facts] : Prop :=
  ∀ (m : (ℓ : Loc Cert.AdamDown0Ideal.nD Cert.AdamDown0Ideal.τ Cert.AdamDown0Ideal.sig) → Buf (Elt Ideal) ℓ) (g : Dev Cert.AdamDown0Ideal.nD → PrngReg), Pre_AdamDown0Ideal m →
    θ_run (Cert.AdamDown0Ideal.defs (F := Ideal)) (onTc (τ := Cert.AdamDown0Ideal.τ) (Cert.AdamDown0Ideal.main (F := Ideal))) ⟨m, fun _ => 0, g⟩ (fun r => (∀ c : Dev Cert.AdamDown0Ideal.nD,
      r.2.mem ((c.tc : Thread Cert.AdamDown0Ideal.nD Cert.AdamDown0Ideal.τ).loc Cert.AdamDown0Ideal.main_arg0) = m ((c.tc : Thread Cert.AdamDown0Ideal.nD Cert.AdamDown0Ideal.τ).loc Cert.AdamDown0Ideal.main_arg0)
      ∧ r.2.mem ((c.tc : Thread Cert.AdamDown0Ideal.nD Cert.AdamDown0Ideal.τ).loc Cert.AdamDown0Ideal.main_arg1) = m ((c.tc : Thread Cert.AdamDown0Ideal.nD Cert.AdamDown0Ideal.τ).loc Cert.AdamDown0Ideal.main_arg1)
      ∧ r.2.mem ((c.tc : Thread Cert.AdamDown0Ideal.nD Cert.AdamDown0Ideal.τ).loc Cert.AdamDown0Ideal.main_arg2) = m ((c.tc : Thread Cert.AdamDown0Ideal.nD Cert.AdamDown0Ideal.τ).loc Cert.AdamDown0Ideal.main_arg2)
      ∧ r.2.mem ((c.tc : Thread Cert.AdamDown0Ideal.nD Cert.AdamDown0Ideal.τ).loc Cert.AdamDown0Ideal.main_arg3) = m ((c.tc : Thread Cert.AdamDown0Ideal.nD Cert.AdamDown0Ideal.τ).loc Cert.AdamDown0Ideal.main_arg3))
      ∧ r.2.sem = fun _ => 0)

def quiescent_AdamDown0ReferenceIdeal [hAdamDown0ReferenceIdeal : Cert.AdamDown0ReferenceIdeal.Facts] : Prop :=
  ∀ (m : (ℓ : Loc Cert.AdamDown0ReferenceIdeal.nD Cert.AdamDown0ReferenceIdeal.τ Cert.AdamDown0ReferenceIdeal.sig) → Buf (Elt Ideal) ℓ) (g : Dev Cert.AdamDown0ReferenceIdeal.nD → PrngReg), Pre_AdamDown0ReferenceIdeal m →
    θ_run (Cert.AdamDown0ReferenceIdeal.defs (F := Ideal)) (onTc (τ := Cert.AdamDown0ReferenceIdeal.τ) (Cert.AdamDown0ReferenceIdeal.main (F := Ideal))) ⟨m, fun _ => 0, g⟩ (fun r => (∀ c : Dev Cert.AdamDown0ReferenceIdeal.nD,
      r.2.mem ((c.tc : Thread Cert.AdamDown0ReferenceIdeal.nD Cert.AdamDown0ReferenceIdeal.τ).loc Cert.AdamDown0ReferenceIdeal.main_arg0) = m ((c.tc : Thread Cert.AdamDown0ReferenceIdeal.nD Cert.AdamDown0ReferenceIdeal.τ).loc Cert.AdamDown0ReferenceIdeal.main_arg0)
      ∧ r.2.mem ((c.tc : Thread Cert.AdamDown0ReferenceIdeal.nD Cert.AdamDown0ReferenceIdeal.τ).loc Cert.AdamDown0ReferenceIdeal.main_arg1) = m ((c.tc : Thread Cert.AdamDown0ReferenceIdeal.nD Cert.AdamDown0ReferenceIdeal.τ).loc Cert.AdamDown0ReferenceIdeal.main_arg1)
      ∧ r.2.mem ((c.tc : Thread Cert.AdamDown0ReferenceIdeal.nD Cert.AdamDown0ReferenceIdeal.τ).loc Cert.AdamDown0ReferenceIdeal.main_arg2) = m ((c.tc : Thread Cert.AdamDown0ReferenceIdeal.nD Cert.AdamDown0ReferenceIdeal.τ).loc Cert.AdamDown0ReferenceIdeal.main_arg2)
      ∧ r.2.mem ((c.tc : Thread Cert.AdamDown0ReferenceIdeal.nD Cert.AdamDown0ReferenceIdeal.τ).loc Cert.AdamDown0ReferenceIdeal.main_arg3) = m ((c.tc : Thread Cert.AdamDown0ReferenceIdeal.nD Cert.AdamDown0ReferenceIdeal.τ).loc Cert.AdamDown0ReferenceIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamLruConv [hAdamLruConv : Cert.AdamLruConv.Facts] : Prop :=
  ∀ (m : (ℓ : Loc Cert.AdamLruConv.nD Cert.AdamLruConv.τ Cert.AdamLruConv.sig) → Buf (Elt Bits) ℓ) (g : Dev Cert.AdamLruConv.nD → PrngReg), Pre_AdamLruConv m →
    θ_run (Cert.AdamLruConv.defs (F := Bits)) (onTc (τ := Cert.AdamLruConv.τ) (Cert.AdamLruConv.main (F := Bits))) ⟨m, fun _ => 0, g⟩ (fun r => (∀ c : Dev Cert.AdamLruConv.nD,
      r.2.mem ((c.tc : Thread Cert.AdamLruConv.nD Cert.AdamLruConv.τ).loc Cert.AdamLruConv.main_arg0) = m ((c.tc : Thread Cert.AdamLruConv.nD Cert.AdamLruConv.τ).loc Cert.AdamLruConv.main_arg0)
      ∧ r.2.mem ((c.tc : Thread Cert.AdamLruConv.nD Cert.AdamLruConv.τ).loc Cert.AdamLruConv.main_arg1) = m ((c.tc : Thread Cert.AdamLruConv.nD Cert.AdamLruConv.τ).loc Cert.AdamLruConv.main_arg1)
      ∧ r.2.mem ((c.tc : Thread Cert.AdamLruConv.nD Cert.AdamLruConv.τ).loc Cert.AdamLruConv.main_arg2) = m ((c.tc : Thread Cert.AdamLruConv.nD Cert.AdamLruConv.τ).loc Cert.AdamLruConv.main_arg2)
      ∧ r.2.mem ((c.tc : Thread Cert.AdamLruConv.nD Cert.AdamLruConv.τ).loc Cert.AdamLruConv.main_arg3) = m ((c.tc : Thread Cert.AdamLruConv.nD Cert.AdamLruConv.τ).loc Cert.AdamLruConv.main_arg3))
      ∧ r.2.sem = fun _ => 0)

def quiescent_AdamLruConvIdeal [hAdamLruConvIdeal : Cert.AdamLruConvIdeal.Facts] : Prop :=
  ∀ (m : (ℓ : Loc Cert.AdamLruConvIdeal.nD Cert.AdamLruConvIdeal.τ Cert.AdamLruConvIdeal.sig) → Buf (Elt Ideal) ℓ) (g : Dev Cert.AdamLruConvIdeal.nD → PrngReg), Pre_AdamLruConvIdeal m →
    θ_run (Cert.AdamLruConvIdeal.defs (F := Ideal)) (onTc (τ := Cert.AdamLruConvIdeal.τ) (Cert.AdamLruConvIdeal.main (F := Ideal))) ⟨m, fun _ => 0, g⟩ (fun r => (∀ c : Dev Cert.AdamLruConvIdeal.nD,
      r.2.mem ((c.tc : Thread Cert.AdamLruConvIdeal.nD Cert.AdamLruConvIdeal.τ).loc Cert.AdamLruConvIdeal.main_arg0) = m ((c.tc : Thread Cert.AdamLruConvIdeal.nD Cert.AdamLruConvIdeal.τ).loc Cert.AdamLruConvIdeal.main_arg0)
      ∧ r.2.mem ((c.tc : Thread Cert.AdamLruConvIdeal.nD Cert.AdamLruConvIdeal.τ).loc Cert.AdamLruConvIdeal.main_arg1) = m ((c.tc : Thread Cert.AdamLruConvIdeal.nD Cert.AdamLruConvIdeal.τ).loc Cert.AdamLruConvIdeal.main_arg1)
      ∧ r.2.mem ((c.tc : Thread Cert.AdamLruConvIdeal.nD Cert.AdamLruConvIdeal.τ).loc Cert.AdamLruConvIdeal.main_arg2) = m ((c.tc : Thread Cert.AdamLruConvIdeal.nD Cert.AdamLruConvIdeal.τ).loc Cert.AdamLruConvIdeal.main_arg2)
      ∧ r.2.mem ((c.tc : Thread Cert.AdamLruConvIdeal.nD Cert.AdamLruConvIdeal.τ).loc Cert.AdamLruConvIdeal.main_arg3) = m ((c.tc : Thread Cert.AdamLruConvIdeal.nD Cert.AdamLruConvIdeal.τ).loc Cert.AdamLruConvIdeal.main_arg3))
      ∧ r.2.sem = fun _ => 0)

def quiescent_AdamLruConvReferenceIdeal [hAdamLruConvReferenceIdeal : Cert.AdamLruConvReferenceIdeal.Facts] : Prop :=
  ∀ (m : (ℓ : Loc Cert.AdamLruConvReferenceIdeal.nD Cert.AdamLruConvReferenceIdeal.τ Cert.AdamLruConvReferenceIdeal.sig) → Buf (Elt Ideal) ℓ) (g : Dev Cert.AdamLruConvReferenceIdeal.nD → PrngReg), Pre_AdamLruConvReferenceIdeal m →
    θ_run (Cert.AdamLruConvReferenceIdeal.defs (F := Ideal)) (onTc (τ := Cert.AdamLruConvReferenceIdeal.τ) (Cert.AdamLruConvReferenceIdeal.main (F := Ideal))) ⟨m, fun _ => 0, g⟩ (fun r => (∀ c : Dev Cert.AdamLruConvReferenceIdeal.nD,
      r.2.mem ((c.tc : Thread Cert.AdamLruConvReferenceIdeal.nD Cert.AdamLruConvReferenceIdeal.τ).loc Cert.AdamLruConvReferenceIdeal.main_arg0) = m ((c.tc : Thread Cert.AdamLruConvReferenceIdeal.nD Cert.AdamLruConvReferenceIdeal.τ).loc Cert.AdamLruConvReferenceIdeal.main_arg0)
      ∧ r.2.mem ((c.tc : Thread Cert.AdamLruConvReferenceIdeal.nD Cert.AdamLruConvReferenceIdeal.τ).loc Cert.AdamLruConvReferenceIdeal.main_arg1) = m ((c.tc : Thread Cert.AdamLruConvReferenceIdeal.nD Cert.AdamLruConvReferenceIdeal.τ).loc Cert.AdamLruConvReferenceIdeal.main_arg1)
      ∧ r.2.mem ((c.tc : Thread Cert.AdamLruConvReferenceIdeal.nD Cert.AdamLruConvReferenceIdeal.τ).loc Cert.AdamLruConvReferenceIdeal.main_arg2) = m ((c.tc : Thread Cert.AdamLruConvReferenceIdeal.nD Cert.AdamLruConvReferenceIdeal.τ).loc Cert.AdamLruConvReferenceIdeal.main_arg2)
      ∧ r.2.mem ((c.tc : Thread Cert.AdamLruConvReferenceIdeal.nD Cert.AdamLruConvReferenceIdeal.τ).loc Cert.AdamLruConvReferenceIdeal.main_arg3) = m ((c.tc : Thread Cert.AdamLruConvReferenceIdeal.nD Cert.AdamLruConvReferenceIdeal.τ).loc Cert.AdamLruConvReferenceIdeal.main_arg3))
      ∧ r.2.sem = fun _ => 0)

def quiescent_AdamGdnConv [hAdamGdnConv : Cert.AdamGdnConv.Facts] : Prop :=
  ∀ (m : (ℓ : Loc Cert.AdamGdnConv.nD Cert.AdamGdnConv.τ Cert.AdamGdnConv.sig) → Buf (Elt Bits) ℓ) (g : Dev Cert.AdamGdnConv.nD → PrngReg), Pre_AdamGdnConv m →
    θ_run (Cert.AdamGdnConv.defs (F := Bits)) (onTc (τ := Cert.AdamGdnConv.τ) (Cert.AdamGdnConv.main (F := Bits))) ⟨m, fun _ => 0, g⟩ (fun r => (∀ c : Dev Cert.AdamGdnConv.nD,
      r.2.mem ((c.tc : Thread Cert.AdamGdnConv.nD Cert.AdamGdnConv.τ).loc Cert.AdamGdnConv.main_arg0) = m ((c.tc : Thread Cert.AdamGdnConv.nD Cert.AdamGdnConv.τ).loc Cert.AdamGdnConv.main_arg0)
      ∧ r.2.mem ((c.tc : Thread Cert.AdamGdnConv.nD Cert.AdamGdnConv.τ).loc Cert.AdamGdnConv.main_arg1) = m ((c.tc : Thread Cert.AdamGdnConv.nD Cert.AdamGdnConv.τ).loc Cert.AdamGdnConv.main_arg1)
      ∧ r.2.mem ((c.tc : Thread Cert.AdamGdnConv.nD Cert.AdamGdnConv.τ).loc Cert.AdamGdnConv.main_arg2) = m ((c.tc : Thread Cert.AdamGdnConv.nD Cert.AdamGdnConv.τ).loc Cert.AdamGdnConv.main_arg2)
      ∧ r.2.mem ((c.tc : Thread Cert.AdamGdnConv.nD Cert.AdamGdnConv.τ).loc Cert.AdamGdnConv.main_arg3) = m ((c.tc : Thread Cert.AdamGdnConv.nD Cert.AdamGdnConv.τ).loc Cert.AdamGdnConv.main_arg3))
      ∧ r.2.sem = fun _ => 0)

def quiescent_AdamGdnConvIdeal [hAdamGdnConvIdeal : Cert.AdamGdnConvIdeal.Facts] : Prop :=
  ∀ (m : (ℓ : Loc Cert.AdamGdnConvIdeal.nD Cert.AdamGdnConvIdeal.τ Cert.AdamGdnConvIdeal.sig) → Buf (Elt Ideal) ℓ) (g : Dev Cert.AdamGdnConvIdeal.nD → PrngReg), Pre_AdamGdnConvIdeal m →
    θ_run (Cert.AdamGdnConvIdeal.defs (F := Ideal)) (onTc (τ := Cert.AdamGdnConvIdeal.τ) (Cert.AdamGdnConvIdeal.main (F := Ideal))) ⟨m, fun _ => 0, g⟩ (fun r => (∀ c : Dev Cert.AdamGdnConvIdeal.nD,
      r.2.mem ((c.tc : Thread Cert.AdamGdnConvIdeal.nD Cert.AdamGdnConvIdeal.τ).loc Cert.AdamGdnConvIdeal.main_arg0) = m ((c.tc : Thread Cert.AdamGdnConvIdeal.nD Cert.AdamGdnConvIdeal.τ).loc Cert.AdamGdnConvIdeal.main_arg0)
      ∧ r.2.mem ((c.tc : Thread Cert.AdamGdnConvIdeal.nD Cert.AdamGdnConvIdeal.τ).loc Cert.AdamGdnConvIdeal.main_arg1) = m ((c.tc : Thread Cert.AdamGdnConvIdeal.nD Cert.AdamGdnConvIdeal.τ).loc Cert.AdamGdnConvIdeal.main_arg1)
      ∧ r.2.mem ((c.tc : Thread Cert.AdamGdnConvIdeal.nD Cert.AdamGdnConvIdeal.τ).loc Cert.AdamGdnConvIdeal.main_arg2) = m ((c.tc : Thread Cert.AdamGdnConvIdeal.nD Cert.AdamGdnConvIdeal.τ).loc Cert.AdamGdnConvIdeal.main_arg2)
      ∧ r.2.mem ((c.tc : Thread Cert.AdamGdnConvIdeal.nD Cert.AdamGdnConvIdeal.τ).loc Cert.AdamGdnConvIdeal.main_arg3) = m ((c.tc : Thread Cert.AdamGdnConvIdeal.nD Cert.AdamGdnConvIdeal.τ).loc Cert.AdamGdnConvIdeal.main_arg3))
      ∧ r.2.sem = fun _ => 0)

def quiescent_AdamGdnConvReferenceIdeal [hAdamGdnConvReferenceIdeal : Cert.AdamGdnConvReferenceIdeal.Facts] : Prop :=
  ∀ (m : (ℓ : Loc Cert.AdamGdnConvReferenceIdeal.nD Cert.AdamGdnConvReferenceIdeal.τ Cert.AdamGdnConvReferenceIdeal.sig) → Buf (Elt Ideal) ℓ) (g : Dev Cert.AdamGdnConvReferenceIdeal.nD → PrngReg), Pre_AdamGdnConvReferenceIdeal m →
    θ_run (Cert.AdamGdnConvReferenceIdeal.defs (F := Ideal)) (onTc (τ := Cert.AdamGdnConvReferenceIdeal.τ) (Cert.AdamGdnConvReferenceIdeal.main (F := Ideal))) ⟨m, fun _ => 0, g⟩ (fun r => (∀ c : Dev Cert.AdamGdnConvReferenceIdeal.nD,
      r.2.mem ((c.tc : Thread Cert.AdamGdnConvReferenceIdeal.nD Cert.AdamGdnConvReferenceIdeal.τ).loc Cert.AdamGdnConvReferenceIdeal.main_arg0) = m ((c.tc : Thread Cert.AdamGdnConvReferenceIdeal.nD Cert.AdamGdnConvReferenceIdeal.τ).loc Cert.AdamGdnConvReferenceIdeal.main_arg0)
      ∧ r.2.mem ((c.tc : Thread Cert.AdamGdnConvReferenceIdeal.nD Cert.AdamGdnConvReferenceIdeal.τ).loc Cert.AdamGdnConvReferenceIdeal.main_arg1) = m ((c.tc : Thread Cert.AdamGdnConvReferenceIdeal.nD Cert.AdamGdnConvReferenceIdeal.τ).loc Cert.AdamGdnConvReferenceIdeal.main_arg1)
      ∧ r.2.mem ((c.tc : Thread Cert.AdamGdnConvReferenceIdeal.nD Cert.AdamGdnConvReferenceIdeal.τ).loc Cert.AdamGdnConvReferenceIdeal.main_arg2) = m ((c.tc : Thread Cert.AdamGdnConvReferenceIdeal.nD Cert.AdamGdnConvReferenceIdeal.τ).loc Cert.AdamGdnConvReferenceIdeal.main_arg2)
      ∧ r.2.mem ((c.tc : Thread Cert.AdamGdnConvReferenceIdeal.nD Cert.AdamGdnConvReferenceIdeal.τ).loc Cert.AdamGdnConvReferenceIdeal.main_arg3) = m ((c.tc : Thread Cert.AdamGdnConvReferenceIdeal.nD Cert.AdamGdnConvReferenceIdeal.τ).loc Cert.AdamGdnConvReferenceIdeal.main_arg3))
      ∧ r.2.sem = fun _ => 0)

def quiescent_LruConv [hLruConv : Cert.LruConv.Facts] : Prop :=
  ∀ (m : (ℓ : Loc Cert.LruConv.nD Cert.LruConv.τ Cert.LruConv.sig) → Buf (Elt Bits) ℓ) (g : Dev Cert.LruConv.nD → PrngReg), Pre_LruConv m →
    θ_run (Cert.LruConv.defs (F := Bits)) (onTc (τ := Cert.LruConv.τ) (Cert.LruConv.main (F := Bits))) ⟨m, fun _ => 0, g⟩ (fun r => (∀ c : Dev Cert.LruConv.nD,
      r.2.mem ((c.tc : Thread Cert.LruConv.nD Cert.LruConv.τ).loc Cert.LruConv.main_arg0) = m ((c.tc : Thread Cert.LruConv.nD Cert.LruConv.τ).loc Cert.LruConv.main_arg0)
      ∧ r.2.mem ((c.tc : Thread Cert.LruConv.nD Cert.LruConv.τ).loc Cert.LruConv.main_arg1) = m ((c.tc : Thread Cert.LruConv.nD Cert.LruConv.τ).loc Cert.LruConv.main_arg1)
      ∧ r.2.mem ((c.tc : Thread Cert.LruConv.nD Cert.LruConv.τ).loc Cert.LruConv.main_arg2) = m ((c.tc : Thread Cert.LruConv.nD Cert.LruConv.τ).loc Cert.LruConv.main_arg2))
      ∧ r.2.sem = fun _ => 0)

def quiescent_LruConvIdeal [hLruConvIdeal : Cert.LruConvIdeal.Facts] : Prop :=
  ∀ (m : (ℓ : Loc Cert.LruConvIdeal.nD Cert.LruConvIdeal.τ Cert.LruConvIdeal.sig) → Buf (Elt Ideal) ℓ) (g : Dev Cert.LruConvIdeal.nD → PrngReg), Pre_LruConvIdeal m →
    θ_run (Cert.LruConvIdeal.defs (F := Ideal)) (onTc (τ := Cert.LruConvIdeal.τ) (Cert.LruConvIdeal.main (F := Ideal))) ⟨m, fun _ => 0, g⟩ (fun r => (∀ c : Dev Cert.LruConvIdeal.nD,
      r.2.mem ((c.tc : Thread Cert.LruConvIdeal.nD Cert.LruConvIdeal.τ).loc Cert.LruConvIdeal.main_arg0) = m ((c.tc : Thread Cert.LruConvIdeal.nD Cert.LruConvIdeal.τ).loc Cert.LruConvIdeal.main_arg0)
      ∧ r.2.mem ((c.tc : Thread Cert.LruConvIdeal.nD Cert.LruConvIdeal.τ).loc Cert.LruConvIdeal.main_arg1) = m ((c.tc : Thread Cert.LruConvIdeal.nD Cert.LruConvIdeal.τ).loc Cert.LruConvIdeal.main_arg1)
      ∧ r.2.mem ((c.tc : Thread Cert.LruConvIdeal.nD Cert.LruConvIdeal.τ).loc Cert.LruConvIdeal.main_arg2) = m ((c.tc : Thread Cert.LruConvIdeal.nD Cert.LruConvIdeal.τ).loc Cert.LruConvIdeal.main_arg2))
      ∧ r.2.sem = fun _ => 0)

def quiescent_LruConvReferenceIdeal [hLruConvReferenceIdeal : Cert.LruConvReferenceIdeal.Facts] : Prop :=
  ∀ (m : (ℓ : Loc Cert.LruConvReferenceIdeal.nD Cert.LruConvReferenceIdeal.τ Cert.LruConvReferenceIdeal.sig) → Buf (Elt Ideal) ℓ) (g : Dev Cert.LruConvReferenceIdeal.nD → PrngReg), Pre_LruConvReferenceIdeal m →
    θ_run (Cert.LruConvReferenceIdeal.defs (F := Ideal)) (onTc (τ := Cert.LruConvReferenceIdeal.τ) (Cert.LruConvReferenceIdeal.main (F := Ideal))) ⟨m, fun _ => 0, g⟩ (fun r => (∀ c : Dev Cert.LruConvReferenceIdeal.nD,
      r.2.mem ((c.tc : Thread Cert.LruConvReferenceIdeal.nD Cert.LruConvReferenceIdeal.τ).loc Cert.LruConvReferenceIdeal.main_arg0) = m ((c.tc : Thread Cert.LruConvReferenceIdeal.nD Cert.LruConvReferenceIdeal.τ).loc Cert.LruConvReferenceIdeal.main_arg0)
      ∧ r.2.mem ((c.tc : Thread Cert.LruConvReferenceIdeal.nD Cert.LruConvReferenceIdeal.τ).loc Cert.LruConvReferenceIdeal.main_arg1) = m ((c.tc : Thread Cert.LruConvReferenceIdeal.nD Cert.LruConvReferenceIdeal.τ).loc Cert.LruConvReferenceIdeal.main_arg1)
      ∧ r.2.mem ((c.tc : Thread Cert.LruConvReferenceIdeal.nD Cert.LruConvReferenceIdeal.τ).loc Cert.LruConvReferenceIdeal.main_arg2) = m ((c.tc : Thread Cert.LruConvReferenceIdeal.nD Cert.LruConvReferenceIdeal.τ).loc Cert.LruConvReferenceIdeal.main_arg2))
      ∧ r.2.sem = fun _ => 0)

def preserves_Kernel_KernelIdeal : Prop :=
  True

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v207)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v207) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v183) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Dact_DactIdeal : Prop :=
  True

def algebraic_DactIdeal_DactReferenceIdeal [hDactIdeal : Cert.DactIdeal.Facts] [hDactReferenceIdeal : Cert.DactReferenceIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactIdeal m →
    (∀ c : Dev Cert.DactIdeal.nD,
      m' ((c.tc : Thread Cert.DactReferenceIdeal.nD Cert.DactReferenceIdeal.τ).loc Cert.DactReferenceIdeal.main_arg0) = m ((c.tc : Thread Cert.DactIdeal.nD Cert.DactIdeal.τ).loc Cert.DactIdeal.main_arg0)
      ∧ m' ((c.tc : Thread Cert.DactReferenceIdeal.nD Cert.DactReferenceIdeal.τ).loc Cert.DactReferenceIdeal.main_arg1) = m ((c.tc : Thread Cert.DactIdeal.nD Cert.DactIdeal.τ).loc Cert.DactIdeal.main_arg1)
      ∧ m' ((c.tc : Thread Cert.DactReferenceIdeal.nD Cert.DactReferenceIdeal.τ).loc Cert.DactReferenceIdeal.main_arg2) = m ((c.tc : Thread Cert.DactIdeal.nD Cert.DactIdeal.τ).loc Cert.DactIdeal.main_arg2)
      ∧ m' ((c.tc : Thread Cert.DactReferenceIdeal.nD Cert.DactReferenceIdeal.τ).loc Cert.DactReferenceIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v5)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v5) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v13) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2)
          ∧ r.2.mem ((c.tc : Thread Cert.DactReferenceIdeal.nD Cert.DactReferenceIdeal.τ).loc Cert.DactReferenceIdeal.main_arg3) = m' ((c.tc : Thread Cert.DactReferenceIdeal.nD Cert.DactReferenceIdeal.τ).loc Cert.DactReferenceIdeal.main_arg3))

def preserves_Dwd_DwdIdeal : Prop :=
  True

def algebraic_DwdIdeal_DwdReferenceIdeal [hDwdIdeal : Cert.DwdIdeal.Facts] [hDwdReferenceIdeal : Cert.DwdReferenceIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdReferenceIdeal.nD Cert.DwdReferenceIdeal.τ Cert.DwdReferenceIdeal.sig) → Buf (Elt Ideal) ℓ) (g' : Dev Cert.DwdReferenceIdeal.nD → PrngReg), Pre_DwdIdeal m →
    (∀ c : Dev Cert.DwdIdeal.nD,
      m' ((c.tc : Thread Cert.DwdReferenceIdeal.nD Cert.DwdReferenceIdeal.τ).loc Cert.DwdReferenceIdeal.main_arg0) = m ((c.tc : Thread Cert.DwdIdeal.nD Cert.DwdIdeal.τ).loc Cert.DwdIdeal.main_arg0)
      ∧ m' ((c.tc : Thread Cert.DwdReferenceIdeal.nD Cert.DwdReferenceIdeal.τ).loc Cert.DwdReferenceIdeal.main_arg1) = m ((c.tc : Thread Cert.DwdIdeal.nD Cert.DwdIdeal.τ).loc Cert.DwdIdeal.main_arg1)
      ∧ m' ((c.tc : Thread Cert.DwdReferenceIdeal.nD Cert.DwdReferenceIdeal.τ).loc Cert.DwdReferenceIdeal.main_arg2) = m ((c.tc : Thread Cert.DwdIdeal.nD Cert.DwdIdeal.τ).loc Cert.DwdIdeal.main_arg2)) →
    ∃ (v0 : (c : Dev Cert.DwdIdeal.nD) → Buf (Elt Ideal) ((c.tc : Thread Cert.DwdIdeal.nD Cert.DwdIdeal.τ).loc Cert.DwdIdeal.main_v4)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v4) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
          ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2))
      ∧ θ_run (Cert.DwdReferenceIdeal.defs (F := Ideal)) (onTc (τ := Cert.DwdReferenceIdeal.τ) (Cert.DwdReferenceIdeal.main (F := Ideal))) ⟨m', fun _ => 0, g'⟩ (fun r => ∀ c : Dev Cert.DwdReferenceIdeal.nD,
          r.2.mem ((c.tc : Thread Cert.DwdReferenceIdeal.nD Cert.DwdReferenceIdeal.τ).loc Cert.DwdReferenceIdeal.main_v7) = v0 c
          ∧ r.2.mem ((c.tc : Thread Cert.DwdReferenceIdeal.nD Cert.DwdReferenceIdeal.τ).loc Cert.DwdReferenceIdeal.main_arg0) = m' ((c.tc : Thread Cert.DwdReferenceIdeal.nD Cert.DwdReferenceIdeal.τ).loc Cert.DwdReferenceIdeal.main_arg0)
          ∧ r.2.mem ((c.tc : Thread Cert.DwdReferenceIdeal.nD Cert.DwdReferenceIdeal.τ).loc Cert.DwdReferenceIdeal.main_arg1) = m' ((c.tc : Thread Cert.DwdReferenceIdeal.nD Cert.DwdReferenceIdeal.τ).loc Cert.DwdReferenceIdeal.main_arg1)
          ∧ r.2.mem ((c.tc : Thread Cert.DwdReferenceIdeal.nD Cert.DwdReferenceIdeal.τ).loc Cert.DwdReferenceIdeal.main_arg2) = m' ((c.tc : Thread Cert.DwdReferenceIdeal.nD Cert.DwdReferenceIdeal.τ).loc Cert.DwdReferenceIdeal.main_arg2))

def preserves_Dwu_DwuIdeal : Prop :=
  True

def algebraic_DwuIdeal_DwuReferenceIdeal [hDwuIdeal : Cert.DwuIdeal.Facts] [hDwuReferenceIdeal : Cert.DwuReferenceIdeal.Facts] : Prop :=
  ∀ (m : (ℓ : Loc Cert.DwuIdeal.nD Cert.DwuIdeal.τ Cert.DwuIdeal.sig) → Buf (Elt Ideal) ℓ) (g : Dev Cert.DwuIdeal.nD → PrngReg)
    (m' : (ℓ : Loc Cert.DwuReferenceIdeal.nD Cert.DwuReferenceIdeal.τ Cert.DwuReferenceIdeal.sig) → Buf (Elt Ideal) ℓ) (g' : Dev Cert.DwuReferenceIdeal.nD → PrngReg), Pre_DwuIdeal m →
    (∀ c : Dev Cert.DwuIdeal.nD,
      m' ((c.tc : Thread Cert.DwuReferenceIdeal.nD Cert.DwuReferenceIdeal.τ).loc Cert.DwuReferenceIdeal.main_arg0) = m ((c.tc : Thread Cert.DwuIdeal.nD Cert.DwuIdeal.τ).loc Cert.DwuIdeal.main_arg0)
      ∧ m' ((c.tc : Thread Cert.DwuReferenceIdeal.nD Cert.DwuReferenceIdeal.τ).loc Cert.DwuReferenceIdeal.main_arg1) = m ((c.tc : Thread Cert.DwuIdeal.nD Cert.DwuIdeal.τ).loc Cert.DwuIdeal.main_arg1)
      ∧ m' ((c.tc : Thread Cert.DwuReferenceIdeal.nD Cert.DwuReferenceIdeal.τ).loc Cert.DwuReferenceIdeal.main_arg2) = m ((c.tc : Thread Cert.DwuIdeal.nD Cert.DwuIdeal.τ).loc Cert.DwuIdeal.main_arg2)) →
    ∃ (v0 : (c : Dev Cert.DwuIdeal.nD) → Buf (Elt Ideal) ((c.tc : Thread Cert.DwuIdeal.nD Cert.DwuIdeal.τ).loc Cert.DwuIdeal.main_v13)),
      θ_run (Cert.DwuIdeal.defs (F := Ideal)) (onTc (τ := Cert.DwuIdeal.τ) (Cert.DwuIdeal.main (F := Ideal))) ⟨m, fun _ => 0, g⟩ (fun r => ∀ c : Dev Cert.DwuIdeal.nD,
          r.2.mem ((c.tc : Thread Cert.DwuIdeal.nD Cert.DwuIdeal.τ).loc Cert.DwuIdeal.main_v13) = v0 c
          ∧ r.2.mem ((c.tc : Thread Cert.DwuIdeal.nD Cert.DwuIdeal.τ).loc Cert.DwuIdeal.main_arg0) = m ((c.tc : Thread Cert.DwuIdeal.nD Cert.DwuIdeal.τ).loc Cert.DwuIdeal.main_arg0)
          ∧ r.2.mem ((c.tc : Thread Cert.DwuIdeal.nD Cert.DwuIdeal.τ).loc Cert.DwuIdeal.main_arg1) = m ((c.tc : Thread Cert.DwuIdeal.nD Cert.DwuIdeal.τ).loc Cert.DwuIdeal.main_arg1)
          ∧ r.2.mem ((c.tc : Thread Cert.DwuIdeal.nD Cert.DwuIdeal.τ).loc Cert.DwuIdeal.main_arg2) = m ((c.tc : Thread Cert.DwuIdeal.nD Cert.DwuIdeal.τ).loc Cert.DwuIdeal.main_arg2))
      ∧ θ_run (Cert.DwuReferenceIdeal.defs (F := Ideal)) (onTc (τ := Cert.DwuReferenceIdeal.τ) (Cert.DwuReferenceIdeal.main (F := Ideal))) ⟨m', fun _ => 0, g'⟩ (fun r => ∀ c : Dev Cert.DwuReferenceIdeal.nD,
          r.2.mem ((c.tc : Thread Cert.DwuReferenceIdeal.nD Cert.DwuReferenceIdeal.τ).loc Cert.DwuReferenceIdeal.main_v19) = v0 c
          ∧ r.2.mem ((c.tc : Thread Cert.DwuReferenceIdeal.nD Cert.DwuReferenceIdeal.τ).loc Cert.DwuReferenceIdeal.main_arg0) = m' ((c.tc : Thread Cert.DwuReferenceIdeal.nD Cert.DwuReferenceIdeal.τ).loc Cert.DwuReferenceIdeal.main_arg0)
          ∧ r.2.mem ((c.tc : Thread Cert.DwuReferenceIdeal.nD Cert.DwuReferenceIdeal.τ).loc Cert.DwuReferenceIdeal.main_arg1) = m' ((c.tc : Thread Cert.DwuReferenceIdeal.nD Cert.DwuReferenceIdeal.τ).loc Cert.DwuReferenceIdeal.main_arg1)
          ∧ r.2.mem ((c.tc : Thread Cert.DwuReferenceIdeal.nD Cert.DwuReferenceIdeal.τ).loc Cert.DwuReferenceIdeal.main_arg2) = m' ((c.tc : Thread Cert.DwuReferenceIdeal.nD Cert.DwuReferenceIdeal.τ).loc Cert.DwuReferenceIdeal.main_arg2))

def preserves_Dh_DhIdeal : Prop :=
  True

def algebraic_DhIdeal_DhReferenceIdeal [hDhIdeal : Cert.DhIdeal.Facts] [hDhReferenceIdeal : Cert.DhReferenceIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)
      ∧ m' ((c.tc : Thread Cert.DhReferenceIdeal.nD Cert.DhReferenceIdeal.τ).loc Cert.DhReferenceIdeal.main_arg2) = m ((c.tc : Thread Cert.DhIdeal.nD Cert.DhIdeal.τ).loc Cert.DhIdeal.main_arg2)
      ∧ m' ((c.tc : Thread Cert.DhReferenceIdeal.nD Cert.DhReferenceIdeal.τ).loc Cert.DhReferenceIdeal.main_arg3) = m ((c.tc : Thread Cert.DhIdeal.nD Cert.DhIdeal.τ).loc Cert.DhIdeal.main_arg3)
      ∧ m' ((c.tc : Thread Cert.DhReferenceIdeal.nD Cert.DhReferenceIdeal.τ).loc Cert.DhReferenceIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v3_0)) (v1 : (c : Dev Cert.DhIdeal.nD) → Buf (Elt Ideal) ((c.tc : Thread Cert.DhIdeal.nD Cert.DhIdeal.τ).loc Cert.DhIdeal.main_v3_1)) (v2 : (c : Dev Cert.DhIdeal.nD) → Buf (Elt Ideal) ((c.tc : Thread Cert.DhIdeal.nD Cert.DhIdeal.τ).loc Cert.DhIdeal.main_v3_2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v3_0) = v0 c
          ∧ r.2.mem ((c.tc : Thread Cert.DhIdeal.nD Cert.DhIdeal.τ).loc Cert.DhIdeal.main_v3_1) = v1 c
          ∧ r.2.mem ((c.tc : Thread Cert.DhIdeal.nD Cert.DhIdeal.τ).loc Cert.DhIdeal.main_v3_2) = v2 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v37) = v0 c
          ∧ r.2.mem ((c.tc : Thread Cert.DhReferenceIdeal.nD Cert.DhReferenceIdeal.τ).loc Cert.DhReferenceIdeal.main_v38) = v1 c
          ∧ r.2.mem ((c.tc : Thread Cert.DhReferenceIdeal.nD Cert.DhReferenceIdeal.τ).loc Cert.DhReferenceIdeal.main_v20) = v2 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4))

def preserves_InEven_InEvenIdeal : Prop :=
  True

def algebraic_InEvenIdeal_InEvenReferenceIdeal [hInEvenIdeal : Cert.InEvenIdeal.Facts] [hInEvenReferenceIdeal : Cert.InEvenReferenceIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenReferenceIdeal.nD Cert.InEvenReferenceIdeal.τ Cert.InEvenReferenceIdeal.sig) → Buf (Elt Ideal) ℓ) (g' : Dev Cert.InEvenReferenceIdeal.nD → PrngReg), Pre_InEvenIdeal m →
    (∀ c : Dev Cert.InEvenIdeal.nD,
      m' ((c.tc : Thread Cert.InEvenReferenceIdeal.nD Cert.InEvenReferenceIdeal.τ).loc Cert.InEvenReferenceIdeal.main_arg0) = m ((c.tc : Thread Cert.InEvenIdeal.nD Cert.InEvenIdeal.τ).loc Cert.InEvenIdeal.main_arg0)
      ∧ m' ((c.tc : Thread Cert.InEvenReferenceIdeal.nD Cert.InEvenReferenceIdeal.τ).loc Cert.InEvenReferenceIdeal.main_arg1) = m ((c.tc : Thread Cert.InEvenIdeal.nD Cert.InEvenIdeal.τ).loc Cert.InEvenIdeal.main_arg1)) →
    ∃ (v0 : (c : Dev Cert.InEvenIdeal.nD) → Buf (Elt Ideal) ((c.tc : Thread Cert.InEvenIdeal.nD Cert.InEvenIdeal.τ).loc Cert.InEvenIdeal.main_v4)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v4) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ θ_run (Cert.InEvenReferenceIdeal.defs (F := Ideal)) (onTc (τ := Cert.InEvenReferenceIdeal.τ) (Cert.InEvenReferenceIdeal.main (F := Ideal))) ⟨m', fun _ => 0, g'⟩ (fun r => ∀ c : Dev Cert.InEvenReferenceIdeal.nD,
          r.2.mem ((c.tc : Thread Cert.InEvenReferenceIdeal.nD Cert.InEvenReferenceIdeal.τ).loc Cert.InEvenReferenceIdeal.main_v0) = v0 c
          ∧ r.2.mem ((c.tc : Thread Cert.InEvenReferenceIdeal.nD Cert.InEvenReferenceIdeal.τ).loc Cert.InEvenReferenceIdeal.main_arg0) = m' ((c.tc : Thread Cert.InEvenReferenceIdeal.nD Cert.InEvenReferenceIdeal.τ).loc Cert.InEvenReferenceIdeal.main_arg0)
          ∧ r.2.mem ((c.tc : Thread Cert.InEvenReferenceIdeal.nD Cert.InEvenReferenceIdeal.τ).loc Cert.InEvenReferenceIdeal.main_arg1) = m' ((c.tc : Thread Cert.InEvenReferenceIdeal.nD Cert.InEvenReferenceIdeal.τ).loc Cert.InEvenReferenceIdeal.main_arg1))

def preserves_InOdd_InOddIdeal : Prop :=
  True

def algebraic_InOddIdeal_InOddReferenceIdeal [hInOddIdeal : Cert.InOddIdeal.Facts] [hInOddReferenceIdeal : Cert.InOddReferenceIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddIdeal m →
    (∀ c : Dev Cert.InOddIdeal.nD,
      m' ((c.tc : Thread Cert.InOddReferenceIdeal.nD Cert.InOddReferenceIdeal.τ).loc Cert.InOddReferenceIdeal.main_arg0) = m ((c.tc : Thread Cert.InOddIdeal.nD Cert.InOddIdeal.τ).loc Cert.InOddIdeal.main_arg0)
      ∧ m' ((c.tc : Thread Cert.InOddReferenceIdeal.nD Cert.InOddReferenceIdeal.τ).loc Cert.InOddReferenceIdeal.main_arg1) = m ((c.tc : Thread Cert.InOddIdeal.nD Cert.InOddIdeal.τ).loc Cert.InOddIdeal.main_arg1)) →
    ∃ (v0 : (c : Dev Cert.InOddIdeal.nD) → Buf (Elt Ideal) ((c.tc : Thread Cert.InOddIdeal.nD Cert.InOddIdeal.τ).loc Cert.InOddIdeal.main_v2)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v2) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v0) = v0 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1))

def preserves_InEvenDw_InEvenDwIdeal : Prop :=
  True

def algebraic_InEvenDwIdeal_InEvenDwReferenceIdeal [hInEvenDwIdeal : Cert.InEvenDwIdeal.Facts] [hInEvenDwReferenceIdeal : Cert.InEvenDwReferenceIdeal.Facts] : Prop :=
  ∀ (m : (ℓ : Loc Cert.InEvenDwIdeal.nD Cert.InEvenDwIdeal.τ Cert.InEvenDwIdeal.sig) → Buf (Elt Ideal) ℓ) (g : Dev Cert.InEvenDwIdeal.nD → PrngReg)
    (m' : (ℓ : Loc Cert.InEvenDwReferenceIdeal.nD Cert.InEvenDwReferenceIdeal.τ Cert.InEvenDwReferenceIdeal.sig) → Buf (Elt Ideal) ℓ) (g' : Dev Cert.InEvenDwReferenceIdeal.nD → PrngReg), Pre_InEvenDwIdeal m →
    (∀ c : Dev Cert.InEvenDwIdeal.nD,
      m' ((c.tc : Thread Cert.InEvenDwReferenceIdeal.nD Cert.InEvenDwReferenceIdeal.τ).loc Cert.InEvenDwReferenceIdeal.main_arg0) = m ((c.tc : Thread Cert.InEvenDwIdeal.nD Cert.InEvenDwIdeal.τ).loc Cert.InEvenDwIdeal.main_arg0)
      ∧ m' ((c.tc : Thread Cert.InEvenDwReferenceIdeal.nD Cert.InEvenDwReferenceIdeal.τ).loc Cert.InEvenDwReferenceIdeal.main_arg1) = m ((c.tc : Thread Cert.InEvenDwIdeal.nD Cert.InEvenDwIdeal.τ).loc Cert.InEvenDwIdeal.main_arg1)
      ∧ m' ((c.tc : Thread Cert.InEvenDwReferenceIdeal.nD Cert.InEvenDwReferenceIdeal.τ).loc Cert.InEvenDwReferenceIdeal.main_arg2) = m ((c.tc : Thread Cert.InEvenDwIdeal.nD Cert.InEvenDwIdeal.τ).loc Cert.InEvenDwIdeal.main_arg2)) →
    ∃ (v0 : (c : Dev Cert.InEvenDwIdeal.nD) → Buf (Elt Ideal) ((c.tc : Thread Cert.InEvenDwIdeal.nD Cert.InEvenDwIdeal.τ).loc Cert.InEvenDwIdeal.main_v13)),
      θ_run (Cert.InEvenDwIdeal.defs (F := Ideal)) (onTc (τ := Cert.InEvenDwIdeal.τ) (Cert.InEvenDwIdeal.main (F := Ideal))) ⟨m, fun _ => 0, g⟩ (fun r => ∀ c : Dev Cert.InEvenDwIdeal.nD,
          r.2.mem ((c.tc : Thread Cert.InEvenDwIdeal.nD Cert.InEvenDwIdeal.τ).loc Cert.InEvenDwIdeal.main_v13) = v0 c
          ∧ r.2.mem ((c.tc : Thread Cert.InEvenDwIdeal.nD Cert.InEvenDwIdeal.τ).loc Cert.InEvenDwIdeal.main_arg0) = m ((c.tc : Thread Cert.InEvenDwIdeal.nD Cert.InEvenDwIdeal.τ).loc Cert.InEvenDwIdeal.main_arg0)
          ∧ r.2.mem ((c.tc : Thread Cert.InEvenDwIdeal.nD Cert.InEvenDwIdeal.τ).loc Cert.InEvenDwIdeal.main_arg1) = m ((c.tc : Thread Cert.InEvenDwIdeal.nD Cert.InEvenDwIdeal.τ).loc Cert.InEvenDwIdeal.main_arg1)
          ∧ r.2.mem ((c.tc : Thread Cert.InEvenDwIdeal.nD Cert.InEvenDwIdeal.τ).loc Cert.InEvenDwIdeal.main_arg2) = m ((c.tc : Thread Cert.InEvenDwIdeal.nD Cert.InEvenDwIdeal.τ).loc Cert.InEvenDwIdeal.main_arg2))
      ∧ θ_run (Cert.InEvenDwReferenceIdeal.defs (F := Ideal)) (onTc (τ := Cert.InEvenDwReferenceIdeal.τ) (Cert.InEvenDwReferenceIdeal.main (F := Ideal))) ⟨m', fun _ => 0, g'⟩ (fun r => ∀ c : Dev Cert.InEvenDwReferenceIdeal.nD,
          r.2.mem ((c.tc : Thread Cert.InEvenDwReferenceIdeal.nD Cert.InEvenDwReferenceIdeal.τ).loc Cert.InEvenDwReferenceIdeal.main_v19) = v0 c
          ∧ r.2.mem ((c.tc : Thread Cert.InEvenDwReferenceIdeal.nD Cert.InEvenDwReferenceIdeal.τ).loc Cert.InEvenDwReferenceIdeal.main_arg0) = m' ((c.tc : Thread Cert.InEvenDwReferenceIdeal.nD Cert.InEvenDwReferenceIdeal.τ).loc Cert.InEvenDwReferenceIdeal.main_arg0)
          ∧ r.2.mem ((c.tc : Thread Cert.InEvenDwReferenceIdeal.nD Cert.InEvenDwReferenceIdeal.τ).loc Cert.InEvenDwReferenceIdeal.main_arg1) = m' ((c.tc : Thread Cert.InEvenDwReferenceIdeal.nD Cert.InEvenDwReferenceIdeal.τ).loc Cert.InEvenDwReferenceIdeal.main_arg1)
          ∧ r.2.mem ((c.tc : Thread Cert.InEvenDwReferenceIdeal.nD Cert.InEvenDwReferenceIdeal.τ).loc Cert.InEvenDwReferenceIdeal.main_arg2) = m' ((c.tc : Thread Cert.InEvenDwReferenceIdeal.nD Cert.InEvenDwReferenceIdeal.τ).loc Cert.InEvenDwReferenceIdeal.main_arg2))

def preserves_InOddDw_InOddDwIdeal : Prop :=
  True

def algebraic_InOddDwIdeal_InOddDwReferenceIdeal [hInOddDwIdeal : Cert.InOddDwIdeal.Facts] [hInOddDwReferenceIdeal : Cert.InOddDwReferenceIdeal.Facts] : Prop :=
  ∀ (m : (ℓ : Loc Cert.InOddDwIdeal.nD Cert.InOddDwIdeal.τ Cert.InOddDwIdeal.sig) → Buf (Elt Ideal) ℓ) (g : Dev Cert.InOddDwIdeal.nD → PrngReg)
    (m' : (ℓ : Loc Cert.InOddDwReferenceIdeal.nD Cert.InOddDwReferenceIdeal.τ Cert.InOddDwReferenceIdeal.sig) → Buf (Elt Ideal) ℓ) (g' : Dev Cert.InOddDwReferenceIdeal.nD → PrngReg), Pre_InOddDwIdeal m →
    (∀ c : Dev Cert.InOddDwIdeal.nD,
      m' ((c.tc : Thread Cert.InOddDwReferenceIdeal.nD Cert.InOddDwReferenceIdeal.τ).loc Cert.InOddDwReferenceIdeal.main_arg0) = m ((c.tc : Thread Cert.InOddDwIdeal.nD Cert.InOddDwIdeal.τ).loc Cert.InOddDwIdeal.main_arg0)
      ∧ m' ((c.tc : Thread Cert.InOddDwReferenceIdeal.nD Cert.InOddDwReferenceIdeal.τ).loc Cert.InOddDwReferenceIdeal.main_arg1) = m ((c.tc : Thread Cert.InOddDwIdeal.nD Cert.InOddDwIdeal.τ).loc Cert.InOddDwIdeal.main_arg1)
      ∧ m' ((c.tc : Thread Cert.InOddDwReferenceIdeal.nD Cert.InOddDwReferenceIdeal.τ).loc Cert.InOddDwReferenceIdeal.main_arg2) = m ((c.tc : Thread Cert.InOddDwIdeal.nD Cert.InOddDwIdeal.τ).loc Cert.InOddDwIdeal.main_arg2)) →
    ∃ (v0 : (c : Dev Cert.InOddDwIdeal.nD) → Buf (Elt Ideal) ((c.tc : Thread Cert.InOddDwIdeal.nD Cert.InOddDwIdeal.τ).loc Cert.InOddDwIdeal.main_v13)),
      θ_run (Cert.InOddDwIdeal.defs (F := Ideal)) (onTc (τ := Cert.InOddDwIdeal.τ) (Cert.InOddDwIdeal.main (F := Ideal))) ⟨m, fun _ => 0, g⟩ (fun r => ∀ c : Dev Cert.InOddDwIdeal.nD,
          r.2.mem ((c.tc : Thread Cert.InOddDwIdeal.nD Cert.InOddDwIdeal.τ).loc Cert.InOddDwIdeal.main_v13) = v0 c
          ∧ r.2.mem ((c.tc : Thread Cert.InOddDwIdeal.nD Cert.InOddDwIdeal.τ).loc Cert.InOddDwIdeal.main_arg0) = m ((c.tc : Thread Cert.InOddDwIdeal.nD Cert.InOddDwIdeal.τ).loc Cert.InOddDwIdeal.main_arg0)
          ∧ r.2.mem ((c.tc : Thread Cert.InOddDwIdeal.nD Cert.InOddDwIdeal.τ).loc Cert.InOddDwIdeal.main_arg1) = m ((c.tc : Thread Cert.InOddDwIdeal.nD Cert.InOddDwIdeal.τ).loc Cert.InOddDwIdeal.main_arg1)
          ∧ r.2.mem ((c.tc : Thread Cert.InOddDwIdeal.nD Cert.InOddDwIdeal.τ).loc Cert.InOddDwIdeal.main_arg2) = m ((c.tc : Thread Cert.InOddDwIdeal.nD Cert.InOddDwIdeal.τ).loc Cert.InOddDwIdeal.main_arg2))
      ∧ θ_run (Cert.InOddDwReferenceIdeal.defs (F := Ideal)) (onTc (τ := Cert.InOddDwReferenceIdeal.τ) (Cert.InOddDwReferenceIdeal.main (F := Ideal))) ⟨m', fun _ => 0, g'⟩ (fun r => ∀ c : Dev Cert.InOddDwReferenceIdeal.nD,
          r.2.mem ((c.tc : Thread Cert.InOddDwReferenceIdeal.nD Cert.InOddDwReferenceIdeal.τ).loc Cert.InOddDwReferenceIdeal.main_v17) = v0 c
          ∧ r.2.mem ((c.tc : Thread Cert.InOddDwReferenceIdeal.nD Cert.InOddDwReferenceIdeal.τ).loc Cert.InOddDwReferenceIdeal.main_arg0) = m' ((c.tc : Thread Cert.InOddDwReferenceIdeal.nD Cert.InOddDwReferenceIdeal.τ).loc Cert.InOddDwReferenceIdeal.main_arg0)
          ∧ r.2.mem ((c.tc : Thread Cert.InOddDwReferenceIdeal.nD Cert.InOddDwReferenceIdeal.τ).loc Cert.InOddDwReferenceIdeal.main_arg1) = m' ((c.tc : Thread Cert.InOddDwReferenceIdeal.nD Cert.InOddDwReferenceIdeal.τ).loc Cert.InOddDwReferenceIdeal.main_arg1)
          ∧ r.2.mem ((c.tc : Thread Cert.InOddDwReferenceIdeal.nD Cert.InOddDwReferenceIdeal.τ).loc Cert.InOddDwReferenceIdeal.main_arg2) = m' ((c.tc : Thread Cert.InOddDwReferenceIdeal.nD Cert.InOddDwReferenceIdeal.τ).loc Cert.InOddDwReferenceIdeal.main_arg2))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v5) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v2) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_v15) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_v16) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_InEvenDx_InEvenDxIdeal : Prop :=
  True

def algebraic_InEvenDxIdeal_InEvenDxReferenceIdeal [hInEvenDxIdeal : Cert.InEvenDxIdeal.Facts] [hInEvenDxReferenceIdeal : Cert.InEvenDxReferenceIdeal.Facts] : Prop :=
  ∀ (m : (ℓ : Loc Cert.InEvenDxIdeal.nD Cert.InEvenDxIdeal.τ Cert.InEvenDxIdeal.sig) → Buf (Elt Ideal) ℓ) (g : Dev Cert.InEvenDxIdeal.nD → PrngReg)
    (m' : (ℓ : Loc Cert.InEvenDxReferenceIdeal.nD Cert.InEvenDxReferenceIdeal.τ Cert.InEvenDxReferenceIdeal.sig) → Buf (Elt Ideal) ℓ) (g' : Dev Cert.InEvenDxReferenceIdeal.nD → PrngReg), Pre_InEvenDxIdeal m →
    (∀ c : Dev Cert.InEvenDxIdeal.nD,
      m' ((c.tc : Thread Cert.InEvenDxReferenceIdeal.nD Cert.InEvenDxReferenceIdeal.τ).loc Cert.InEvenDxReferenceIdeal.main_arg0) = m ((c.tc : Thread Cert.InEvenDxIdeal.nD Cert.InEvenDxIdeal.τ).loc Cert.InEvenDxIdeal.main_arg0)
      ∧ m' ((c.tc : Thread Cert.InEvenDxReferenceIdeal.nD Cert.InEvenDxReferenceIdeal.τ).loc Cert.InEvenDxReferenceIdeal.main_arg1) = m ((c.tc : Thread Cert.InEvenDxIdeal.nD Cert.InEvenDxIdeal.τ).loc Cert.InEvenDxIdeal.main_arg1)
      ∧ m' ((c.tc : Thread Cert.InEvenDxReferenceIdeal.nD Cert.InEvenDxReferenceIdeal.τ).loc Cert.InEvenDxReferenceIdeal.main_arg2) = m ((c.tc : Thread Cert.InEvenDxIdeal.nD Cert.InEvenDxIdeal.τ).loc Cert.InEvenDxIdeal.main_arg2)
      ∧ m' ((c.tc : Thread Cert.InEvenDxReferenceIdeal.nD Cert.InEvenDxReferenceIdeal.τ).loc Cert.InEvenDxReferenceIdeal.main_arg3) = m ((c.tc : Thread Cert.InEvenDxIdeal.nD Cert.InEvenDxIdeal.τ).loc Cert.InEvenDxIdeal.main_arg3)
      ∧ m' ((c.tc : Thread Cert.InEvenDxReferenceIdeal.nD Cert.InEvenDxReferenceIdeal.τ).loc Cert.InEvenDxReferenceIdeal.main_arg4) = m ((c.tc : Thread Cert.InEvenDxIdeal.nD Cert.InEvenDxIdeal.τ).loc Cert.InEvenDxIdeal.main_arg4)) →
    ∃ (v0 : (c : Dev Cert.InEvenDxIdeal.nD) → Buf (Elt Ideal) ((c.tc : Thread Cert.InEvenDxIdeal.nD Cert.InEvenDxIdeal.τ).loc Cert.InEvenDxIdeal.main_v3_0)) (v1 : (c : Dev Cert.InEvenDxIdeal.nD) → Buf (Elt Ideal) ((c.tc : Thread Cert.InEvenDxIdeal.nD Cert.InEvenDxIdeal.τ).loc Cert.InEvenDxIdeal.main_v3_1)) (v2 : (c : Dev Cert.InEvenDxIdeal.nD) → Buf (Elt Ideal) ((c.tc : Thread Cert.InEvenDxIdeal.nD Cert.InEvenDxIdeal.τ).loc Cert.InEvenDxIdeal.main_v3_2)),
      θ_run (Cert.InEvenDxIdeal.defs (F := Ideal)) (onTc (τ := Cert.InEvenDxIdeal.τ) (Cert.InEvenDxIdeal.main (F := Ideal))) ⟨m, fun _ => 0, g⟩ (fun r => ∀ c : Dev Cert.InEvenDxIdeal.nD,
          r.2.mem ((c.tc : Thread Cert.InEvenDxIdeal.nD Cert.InEvenDxIdeal.τ).loc Cert.InEvenDxIdeal.main_v3_0) = v0 c
          ∧ r.2.mem ((c.tc : Thread Cert.InEvenDxIdeal.nD Cert.InEvenDxIdeal.τ).loc Cert.InEvenDxIdeal.main_v3_1) = v1 c
          ∧ r.2.mem ((c.tc : Thread Cert.InEvenDxIdeal.nD Cert.InEvenDxIdeal.τ).loc Cert.InEvenDxIdeal.main_v3_2) = v2 c
          ∧ r.2.mem ((c.tc : Thread Cert.InEvenDxIdeal.nD Cert.InEvenDxIdeal.τ).loc Cert.InEvenDxIdeal.main_arg0) = m ((c.tc : Thread Cert.InEvenDxIdeal.nD Cert.InEvenDxIdeal.τ).loc Cert.InEvenDxIdeal.main_arg0)
          ∧ r.2.mem ((c.tc : Thread Cert.InEvenDxIdeal.nD Cert.InEvenDxIdeal.τ).loc Cert.InEvenDxIdeal.main_arg1) = m ((c.tc : Thread Cert.InEvenDxIdeal.nD Cert.InEvenDxIdeal.τ).loc Cert.InEvenDxIdeal.main_arg1)
          ∧ r.2.mem ((c.tc : Thread Cert.InEvenDxIdeal.nD Cert.InEvenDxIdeal.τ).loc Cert.InEvenDxIdeal.main_arg2) = m ((c.tc : Thread Cert.InEvenDxIdeal.nD Cert.InEvenDxIdeal.τ).loc Cert.InEvenDxIdeal.main_arg2)
          ∧ r.2.mem ((c.tc : Thread Cert.InEvenDxIdeal.nD Cert.InEvenDxIdeal.τ).loc Cert.InEvenDxIdeal.main_arg3) = m ((c.tc : Thread Cert.InEvenDxIdeal.nD Cert.InEvenDxIdeal.τ).loc Cert.InEvenDxIdeal.main_arg3)
          ∧ r.2.mem ((c.tc : Thread Cert.InEvenDxIdeal.nD Cert.InEvenDxIdeal.τ).loc Cert.InEvenDxIdeal.main_arg4) = m ((c.tc : Thread Cert.InEvenDxIdeal.nD Cert.InEvenDxIdeal.τ).loc Cert.InEvenDxIdeal.main_arg4))
      ∧ θ_run (Cert.InEvenDxReferenceIdeal.defs (F := Ideal)) (onTc (τ := Cert.InEvenDxReferenceIdeal.τ) (Cert.InEvenDxReferenceIdeal.main (F := Ideal))) ⟨m', fun _ => 0, g'⟩ (fun r => ∀ c : Dev Cert.InEvenDxReferenceIdeal.nD,
          r.2.mem ((c.tc : Thread Cert.InEvenDxReferenceIdeal.nD Cert.InEvenDxReferenceIdeal.τ).loc Cert.InEvenDxReferenceIdeal.main_v37) = v0 c
          ∧ r.2.mem ((c.tc : Thread Cert.InEvenDxReferenceIdeal.nD Cert.InEvenDxReferenceIdeal.τ).loc Cert.InEvenDxReferenceIdeal.main_v38) = v1 c
          ∧ r.2.mem ((c.tc : Thread Cert.InEvenDxReferenceIdeal.nD Cert.InEvenDxReferenceIdeal.τ).loc Cert.InEvenDxReferenceIdeal.main_v20) = v2 c
          ∧ r.2.mem ((c.tc : Thread Cert.InEvenDxReferenceIdeal.nD Cert.InEvenDxReferenceIdeal.τ).loc Cert.InEvenDxReferenceIdeal.main_arg0) = m' ((c.tc : Thread Cert.InEvenDxReferenceIdeal.nD Cert.InEvenDxReferenceIdeal.τ).loc Cert.InEvenDxReferenceIdeal.main_arg0)
          ∧ r.2.mem ((c.tc : Thread Cert.InEvenDxReferenceIdeal.nD Cert.InEvenDxReferenceIdeal.τ).loc Cert.InEvenDxReferenceIdeal.main_arg1) = m' ((c.tc : Thread Cert.InEvenDxReferenceIdeal.nD Cert.InEvenDxReferenceIdeal.τ).loc Cert.InEvenDxReferenceIdeal.main_arg1)
          ∧ r.2.mem ((c.tc : Thread Cert.InEvenDxReferenceIdeal.nD Cert.InEvenDxReferenceIdeal.τ).loc Cert.InEvenDxReferenceIdeal.main_arg2) = m' ((c.tc : Thread Cert.InEvenDxReferenceIdeal.nD Cert.InEvenDxReferenceIdeal.τ).loc Cert.InEvenDxReferenceIdeal.main_arg2)
          ∧ r.2.mem ((c.tc : Thread Cert.InEvenDxReferenceIdeal.nD Cert.InEvenDxReferenceIdeal.τ).loc Cert.InEvenDxReferenceIdeal.main_arg3) = m' ((c.tc : Thread Cert.InEvenDxReferenceIdeal.nD Cert.InEvenDxReferenceIdeal.τ).loc Cert.InEvenDxReferenceIdeal.main_arg3)
          ∧ r.2.mem ((c.tc : Thread Cert.InEvenDxReferenceIdeal.nD Cert.InEvenDxReferenceIdeal.τ).loc Cert.InEvenDxReferenceIdeal.main_arg4) = m' ((c.tc : Thread Cert.InEvenDxReferenceIdeal.nD Cert.InEvenDxReferenceIdeal.τ).loc Cert.InEvenDxReferenceIdeal.main_arg4))

def preserves_InOddDx_InOddDxIdeal : Prop :=
  True

def algebraic_InOddDxIdeal_InOddDxReferenceIdeal [hInOddDxIdeal : Cert.InOddDxIdeal.Facts] [hInOddDxReferenceIdeal : Cert.InOddDxReferenceIdeal.Facts] : Prop :=
  ∀ (m : (ℓ : Loc Cert.InOddDxIdeal.nD Cert.InOddDxIdeal.τ Cert.InOddDxIdeal.sig) → Buf (Elt Ideal) ℓ) (g : Dev Cert.InOddDxIdeal.nD → PrngReg)
    (m' : (ℓ : Loc Cert.InOddDxReferenceIdeal.nD Cert.InOddDxReferenceIdeal.τ Cert.InOddDxReferenceIdeal.sig) → Buf (Elt Ideal) ℓ) (g' : Dev Cert.InOddDxReferenceIdeal.nD → PrngReg), Pre_InOddDxIdeal m →
    (∀ c : Dev Cert.InOddDxIdeal.nD,
      m' ((c.tc : Thread Cert.InOddDxReferenceIdeal.nD Cert.InOddDxReferenceIdeal.τ).loc Cert.InOddDxReferenceIdeal.main_arg0) = m ((c.tc : Thread Cert.InOddDxIdeal.nD Cert.InOddDxIdeal.τ).loc Cert.InOddDxIdeal.main_arg0)
      ∧ m' ((c.tc : Thread Cert.InOddDxReferenceIdeal.nD Cert.InOddDxReferenceIdeal.τ).loc Cert.InOddDxReferenceIdeal.main_arg1) = m ((c.tc : Thread Cert.InOddDxIdeal.nD Cert.InOddDxIdeal.τ).loc Cert.InOddDxIdeal.main_arg1)
      ∧ m' ((c.tc : Thread Cert.InOddDxReferenceIdeal.nD Cert.InOddDxReferenceIdeal.τ).loc Cert.InOddDxReferenceIdeal.main_arg2) = m ((c.tc : Thread Cert.InOddDxIdeal.nD Cert.InOddDxIdeal.τ).loc Cert.InOddDxIdeal.main_arg2)
      ∧ m' ((c.tc : Thread Cert.InOddDxReferenceIdeal.nD Cert.InOddDxReferenceIdeal.τ).loc Cert.InOddDxReferenceIdeal.main_arg3) = m ((c.tc : Thread Cert.InOddDxIdeal.nD Cert.InOddDxIdeal.τ).loc Cert.InOddDxIdeal.main_arg3)
      ∧ m' ((c.tc : Thread Cert.InOddDxReferenceIdeal.nD Cert.InOddDxReferenceIdeal.τ).loc Cert.InOddDxReferenceIdeal.main_arg4) = m ((c.tc : Thread Cert.InOddDxIdeal.nD Cert.InOddDxIdeal.τ).loc Cert.InOddDxIdeal.main_arg4)) →
    ∃ (v0 : (c : Dev Cert.InOddDxIdeal.nD) → Buf (Elt Ideal) ((c.tc : Thread Cert.InOddDxIdeal.nD Cert.InOddDxIdeal.τ).loc Cert.InOddDxIdeal.main_v1_0)) (v1 : (c : Dev Cert.InOddDxIdeal.nD) → Buf (Elt Ideal) ((c.tc : Thread Cert.InOddDxIdeal.nD Cert.InOddDxIdeal.τ).loc Cert.InOddDxIdeal.main_v1_1)) (v2 : (c : Dev Cert.InOddDxIdeal.nD) → Buf (Elt Ideal) ((c.tc : Thread Cert.InOddDxIdeal.nD Cert.InOddDxIdeal.τ).loc Cert.InOddDxIdeal.main_v1_2)),
      θ_run (Cert.InOddDxIdeal.defs (F := Ideal)) (onTc (τ := Cert.InOddDxIdeal.τ) (Cert.InOddDxIdeal.main (F := Ideal))) ⟨m, fun _ => 0, g⟩ (fun r => ∀ c : Dev Cert.InOddDxIdeal.nD,
          r.2.mem ((c.tc : Thread Cert.InOddDxIdeal.nD Cert.InOddDxIdeal.τ).loc Cert.InOddDxIdeal.main_v1_0) = v0 c
          ∧ r.2.mem ((c.tc : Thread Cert.InOddDxIdeal.nD Cert.InOddDxIdeal.τ).loc Cert.InOddDxIdeal.main_v1_1) = v1 c
          ∧ r.2.mem ((c.tc : Thread Cert.InOddDxIdeal.nD Cert.InOddDxIdeal.τ).loc Cert.InOddDxIdeal.main_v1_2) = v2 c
          ∧ r.2.mem ((c.tc : Thread Cert.InOddDxIdeal.nD Cert.InOddDxIdeal.τ).loc Cert.InOddDxIdeal.main_arg0) = m ((c.tc : Thread Cert.InOddDxIdeal.nD Cert.InOddDxIdeal.τ).loc Cert.InOddDxIdeal.main_arg0)
          ∧ r.2.mem ((c.tc : Thread Cert.InOddDxIdeal.nD Cert.InOddDxIdeal.τ).loc Cert.InOddDxIdeal.main_arg1) = m ((c.tc : Thread Cert.InOddDxIdeal.nD Cert.InOddDxIdeal.τ).loc Cert.InOddDxIdeal.main_arg1)
          ∧ r.2.mem ((c.tc : Thread Cert.InOddDxIdeal.nD Cert.InOddDxIdeal.τ).loc Cert.InOddDxIdeal.main_arg2) = m ((c.tc : Thread Cert.InOddDxIdeal.nD Cert.InOddDxIdeal.τ).loc Cert.InOddDxIdeal.main_arg2)
          ∧ r.2.mem ((c.tc : Thread Cert.InOddDxIdeal.nD Cert.InOddDxIdeal.τ).loc Cert.InOddDxIdeal.main_arg3) = m ((c.tc : Thread Cert.InOddDxIdeal.nD Cert.InOddDxIdeal.τ).loc Cert.InOddDxIdeal.main_arg3)
          ∧ r.2.mem ((c.tc : Thread Cert.InOddDxIdeal.nD Cert.InOddDxIdeal.τ).loc Cert.InOddDxIdeal.main_arg4) = m ((c.tc : Thread Cert.InOddDxIdeal.nD Cert.InOddDxIdeal.τ).loc Cert.InOddDxIdeal.main_arg4))
      ∧ θ_run (Cert.InOddDxReferenceIdeal.defs (F := Ideal)) (onTc (τ := Cert.InOddDxReferenceIdeal.τ) (Cert.InOddDxReferenceIdeal.main (F := Ideal))) ⟨m', fun _ => 0, g'⟩ (fun r => ∀ c : Dev Cert.InOddDxReferenceIdeal.nD,
          r.2.mem ((c.tc : Thread Cert.InOddDxReferenceIdeal.nD Cert.InOddDxReferenceIdeal.τ).loc Cert.InOddDxReferenceIdeal.main_v37) = v0 c
          ∧ r.2.mem ((c.tc : Thread Cert.InOddDxReferenceIdeal.nD Cert.InOddDxReferenceIdeal.τ).loc Cert.InOddDxReferenceIdeal.main_v38) = v1 c
          ∧ r.2.mem ((c.tc : Thread Cert.InOddDxReferenceIdeal.nD Cert.InOddDxReferenceIdeal.τ).loc Cert.InOddDxReferenceIdeal.main_v20) = v2 c
          ∧ r.2.mem ((c.tc : Thread Cert.InOddDxReferenceIdeal.nD Cert.InOddDxReferenceIdeal.τ).loc Cert.InOddDxReferenceIdeal.main_arg0) = m' ((c.tc : Thread Cert.InOddDxReferenceIdeal.nD Cert.InOddDxReferenceIdeal.τ).loc Cert.InOddDxReferenceIdeal.main_arg0)
          ∧ r.2.mem ((c.tc : Thread Cert.InOddDxReferenceIdeal.nD Cert.InOddDxReferenceIdeal.τ).loc Cert.InOddDxReferenceIdeal.main_arg1) = m' ((c.tc : Thread Cert.InOddDxReferenceIdeal.nD Cert.InOddDxReferenceIdeal.τ).loc Cert.InOddDxReferenceIdeal.main_arg1)
          ∧ r.2.mem ((c.tc : Thread Cert.InOddDxReferenceIdeal.nD Cert.InOddDxReferenceIdeal.τ).loc Cert.InOddDxReferenceIdeal.main_arg2) = m' ((c.tc : Thread Cert.InOddDxReferenceIdeal.nD Cert.InOddDxReferenceIdeal.τ).loc Cert.InOddDxReferenceIdeal.main_arg2)
          ∧ r.2.mem ((c.tc : Thread Cert.InOddDxReferenceIdeal.nD Cert.InOddDxReferenceIdeal.τ).loc Cert.InOddDxReferenceIdeal.main_arg3) = m' ((c.tc : Thread Cert.InOddDxReferenceIdeal.nD Cert.InOddDxReferenceIdeal.τ).loc Cert.InOddDxReferenceIdeal.main_arg3)
          ∧ r.2.mem ((c.tc : Thread Cert.InOddDxReferenceIdeal.nD Cert.InOddDxReferenceIdeal.τ).loc Cert.InOddDxReferenceIdeal.main_arg4) = m' ((c.tc : Thread Cert.InOddDxReferenceIdeal.nD Cert.InOddDxReferenceIdeal.τ).loc Cert.InOddDxReferenceIdeal.main_arg4))

def preserves_Head_HeadIdeal : Prop :=
  True

def algebraic_HeadIdeal_HeadReferenceIdeal [hHeadIdeal : Cert.HeadIdeal.Facts] [hHeadReferenceIdeal : Cert.HeadReferenceIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v1_0)) (v1 : (c : Dev Cert.HeadIdeal.nD) → Buf (Elt Ideal) ((c.tc : Thread Cert.HeadIdeal.nD Cert.HeadIdeal.τ).loc Cert.HeadIdeal.main_v1_1)) (v2 : (c : Dev Cert.HeadIdeal.nD) → Buf (Elt Ideal) ((c.tc : Thread Cert.HeadIdeal.nD Cert.HeadIdeal.τ).loc Cert.HeadIdeal.main_v1_2)) (v3 : (c : Dev Cert.HeadIdeal.nD) → Buf (Elt Ideal) ((c.tc : Thread Cert.HeadIdeal.nD Cert.HeadIdeal.τ).loc Cert.HeadIdeal.main_v1_3)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v1_0) = v0 c
          ∧ r.2.mem ((c.tc : Thread Cert.HeadIdeal.nD Cert.HeadIdeal.τ).loc Cert.HeadIdeal.main_v1_1) = v1 c
          ∧ r.2.mem ((c.tc : Thread Cert.HeadIdeal.nD Cert.HeadIdeal.τ).loc Cert.HeadIdeal.main_v1_2) = v2 c
          ∧ r.2.mem ((c.tc : Thread Cert.HeadIdeal.nD Cert.HeadIdeal.τ).loc Cert.HeadIdeal.main_v1_3) = v3 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v53) = v0 c
          ∧ r.2.mem ((c.tc : Thread Cert.HeadReferenceIdeal.nD Cert.HeadReferenceIdeal.τ).loc Cert.HeadReferenceIdeal.main_v52) = v1 c
          ∧ r.2.mem ((c.tc : Thread Cert.HeadReferenceIdeal.nD Cert.HeadReferenceIdeal.τ).loc Cert.HeadReferenceIdeal.main_v54) = v2 c
          ∧ r.2.mem ((c.tc : Thread Cert.HeadReferenceIdeal.nD Cert.HeadReferenceIdeal.τ).loc Cert.HeadReferenceIdeal.main_v36) = v3 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v2) = v0 c
          ∧ r.2.mem ((c.tc : Thread Cert.AdamInReferenceIdeal.nD Cert.AdamInReferenceIdeal.τ).loc Cert.AdamInReferenceIdeal.main_v26) = v1 c
          ∧ r.2.mem ((c.tc : Thread Cert.AdamInReferenceIdeal.nD Cert.AdamInReferenceIdeal.τ).loc Cert.AdamInReferenceIdeal.main_v7) = v2 c
          ∧ r.2.mem ((c.tc : Thread Cert.AdamInReferenceIdeal.nD Cert.AdamInReferenceIdeal.τ).loc Cert.AdamInReferenceIdeal.main_v13) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)
      ∧ m' ((c.tc : Thread Cert.AdamUpReferenceIdeal.nD Cert.AdamUpReferenceIdeal.τ).loc Cert.AdamUpReferenceIdeal.main_arg4) = m ((c.tc : Thread Cert.AdamUpIdeal.nD Cert.AdamUpIdeal.τ).loc Cert.AdamUpIdeal.main_arg4)
      ∧ m' ((c.tc : Thread Cert.AdamUpReferenceIdeal.nD Cert.AdamUpReferenceIdeal.τ).loc Cert.AdamUpReferenceIdeal.main_arg5) = m ((c.tc : Thread Cert.AdamUpIdeal.nD Cert.AdamUpIdeal.τ).loc Cert.AdamUpIdeal.main_arg5)
      ∧ m' ((c.tc : Thread Cert.AdamUpReferenceIdeal.nD Cert.AdamUpReferenceIdeal.τ).loc Cert.AdamUpReferenceIdeal.main_arg6) = m ((c.tc : Thread Cert.AdamUpIdeal.nD Cert.AdamUpIdeal.τ).loc Cert.AdamUpIdeal.main_arg6)
      ∧ m' ((c.tc : Thread Cert.AdamUpReferenceIdeal.nD Cert.AdamUpReferenceIdeal.τ).loc Cert.AdamUpReferenceIdeal.main_arg7) = m ((c.tc : Thread Cert.AdamUpIdeal.nD Cert.AdamUpIdeal.τ).loc Cert.AdamUpIdeal.main_arg7)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6)
          ∧ r.2.mem ((c.tc : Thread Cert.AdamUpIdeal.nD Cert.AdamUpIdeal.τ).loc Cert.AdamUpIdeal.main_arg7) = m ((c.tc : Thread Cert.AdamUpIdeal.nD Cert.AdamUpIdeal.τ).loc Cert.AdamUpIdeal.main_arg7))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v31) = v0 c
          ∧ r.2.mem ((c.tc : Thread Cert.AdamUpReferenceIdeal.nD Cert.AdamUpReferenceIdeal.τ).loc Cert.AdamUpReferenceIdeal.main_v33) = v1 c
          ∧ r.2.mem ((c.tc : Thread Cert.AdamUpReferenceIdeal.nD Cert.AdamUpReferenceIdeal.τ).loc Cert.AdamUpReferenceIdeal.main_v35) = v2 c
          ∧ r.2.mem ((c.tc : Thread Cert.AdamUpReferenceIdeal.nD Cert.AdamUpReferenceIdeal.τ).loc Cert.AdamUpReferenceIdeal.main_v37) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4)
          ∧ r.2.mem ((c.tc : Thread Cert.AdamUpReferenceIdeal.nD Cert.AdamUpReferenceIdeal.τ).loc Cert.AdamUpReferenceIdeal.main_arg5) = m' ((c.tc : Thread Cert.AdamUpReferenceIdeal.nD Cert.AdamUpReferenceIdeal.τ).loc Cert.AdamUpReferenceIdeal.main_arg5)
          ∧ r.2.mem ((c.tc : Thread Cert.AdamUpReferenceIdeal.nD Cert.AdamUpReferenceIdeal.τ).loc Cert.AdamUpReferenceIdeal.main_arg6) = m' ((c.tc : Thread Cert.AdamUpReferenceIdeal.nD Cert.AdamUpReferenceIdeal.τ).loc Cert.AdamUpReferenceIdeal.main_arg6)
          ∧ r.2.mem ((c.tc : Thread Cert.AdamUpReferenceIdeal.nD Cert.AdamUpReferenceIdeal.τ).loc Cert.AdamUpReferenceIdeal.main_arg7) = m' ((c.tc : Thread Cert.AdamUpReferenceIdeal.nD Cert.AdamUpReferenceIdeal.τ).loc Cert.AdamUpReferenceIdeal.main_arg7))

def preserves_AdamUp0_AdamUp0Ideal : Prop :=
  True

def algebraic_AdamUp0Ideal_AdamUp0ReferenceIdeal_on_first_layer [hAdamUp0Ideal : Cert.AdamUp0Ideal.Facts] [hAdamUp0ReferenceIdeal : Cert.AdamUp0ReferenceIdeal.Facts] [hOn_first_layer : Cert.On_first_layer.Facts] : Prop :=
  ∀ (m : (ℓ : Loc Cert.AdamUp0Ideal.nD Cert.AdamUp0Ideal.τ Cert.AdamUp0Ideal.sig) → Buf (Elt Ideal) ℓ) (g : Dev Cert.AdamUp0Ideal.nD → PrngReg)
    (m' : (ℓ : Loc Cert.AdamUp0ReferenceIdeal.nD Cert.AdamUp0ReferenceIdeal.τ Cert.AdamUp0ReferenceIdeal.sig) → Buf (Elt Ideal) ℓ) (g' : Dev Cert.AdamUp0ReferenceIdeal.nD → PrngReg), Pre_AdamUp0Ideal m →
    (∀ c : Dev Cert.AdamUp0Ideal.nD,
      m' ((c.tc : Thread Cert.AdamUp0ReferenceIdeal.nD Cert.AdamUp0ReferenceIdeal.τ).loc Cert.AdamUp0ReferenceIdeal.main_arg0) = m ((c.tc : Thread Cert.AdamUp0Ideal.nD Cert.AdamUp0Ideal.τ).loc Cert.AdamUp0Ideal.main_arg0)
      ∧ m' ((c.tc : Thread Cert.AdamUp0ReferenceIdeal.nD Cert.AdamUp0ReferenceIdeal.τ).loc Cert.AdamUp0ReferenceIdeal.main_arg1) = m ((c.tc : Thread Cert.AdamUp0Ideal.nD Cert.AdamUp0Ideal.τ).loc Cert.AdamUp0Ideal.main_arg1)
      ∧ m' ((c.tc : Thread Cert.AdamUp0ReferenceIdeal.nD Cert.AdamUp0ReferenceIdeal.τ).loc Cert.AdamUp0ReferenceIdeal.main_arg2) = m ((c.tc : Thread Cert.AdamUp0Ideal.nD Cert.AdamUp0Ideal.τ).loc Cert.AdamUp0Ideal.main_arg2)
      ∧ m' ((c.tc : Thread Cert.AdamUp0ReferenceIdeal.nD Cert.AdamUp0ReferenceIdeal.τ).loc Cert.AdamUp0ReferenceIdeal.main_arg3) = m ((c.tc : Thread Cert.AdamUp0Ideal.nD Cert.AdamUp0Ideal.τ).loc Cert.AdamUp0Ideal.main_arg3)) →
    ∃ (v0 : (c : Dev Cert.AdamUp0Ideal.nD) → Buf (Elt Ideal) ((c.tc : Thread Cert.AdamUp0Ideal.nD Cert.AdamUp0Ideal.τ).loc Cert.AdamUp0Ideal.main_v0_0)) (v1 : (c : Dev Cert.AdamUp0Ideal.nD) → Buf (Elt Ideal) ((c.tc : Thread Cert.AdamUp0Ideal.nD Cert.AdamUp0Ideal.τ).loc Cert.AdamUp0Ideal.main_v0_1)) (v2 : (c : Dev Cert.AdamUp0Ideal.nD) → Buf (Elt Ideal) ((c.tc : Thread Cert.AdamUp0Ideal.nD Cert.AdamUp0Ideal.τ).loc Cert.AdamUp0Ideal.main_v0_2)) (v3 : (c : Dev Cert.AdamUp0Ideal.nD) → Buf (Elt Ideal) ((c.tc : Thread Cert.AdamUp0Ideal.nD Cert.AdamUp0Ideal.τ).loc Cert.AdamUp0Ideal.main_v0_3)),
      θ_run (Cert.AdamUp0Ideal.defs (F := Ideal)) (onTc (τ := Cert.AdamUp0Ideal.τ) (Cert.AdamUp0Ideal.main (F := Ideal))) ⟨m, fun _ => 0, g⟩ (fun r => ∀ c : Dev Cert.AdamUp0Ideal.nD,
          (∀ i : (⟨3, ![2, 1024, 512]⟩ : Shape).Idx, (Cert.On_first_layer.fn (F := Ideal) (m ((c.tc : Thread Cert.AdamUp0Ideal.nD Cert.AdamUp0Ideal.τ).loc Cert.AdamUp0Ideal.main_arg0)) (m ((c.tc : Thread Cert.AdamUp0Ideal.nD Cert.AdamUp0Ideal.τ).loc Cert.AdamUp0Ideal.main_arg1)) (m ((c.tc : Thread Cert.AdamUp0Ideal.nD Cert.AdamUp0Ideal.τ).loc Cert.AdamUp0Ideal.main_arg2)) (m ((c.tc : Thread Cert.AdamUp0Ideal.nD Cert.AdamUp0Ideal.τ).loc Cert.AdamUp0Ideal.main_arg3))).1 i = 1#1 → r.2.mem ((c.tc : Thread Cert.AdamUp0Ideal.nD Cert.AdamUp0Ideal.τ).loc Cert.AdamUp0Ideal.main_v0_0) i = v0 c i)
          ∧ (∀ i : (⟨3, ![2, 1024, 512]⟩ : Shape).Idx, (Cert.On_first_layer.fn (F := Ideal) (m ((c.tc : Thread Cert.AdamUp0Ideal.nD Cert.AdamUp0Ideal.τ).loc Cert.AdamUp0Ideal.main_arg0)) (m ((c.tc : Thread Cert.AdamUp0Ideal.nD Cert.AdamUp0Ideal.τ).loc Cert.AdamUp0Ideal.main_arg1)) (m ((c.tc : Thread Cert.AdamUp0Ideal.nD Cert.AdamUp0Ideal.τ).loc Cert.AdamUp0Ideal.main_arg2)) (m ((c.tc : Thread Cert.AdamUp0Ideal.nD Cert.AdamUp0Ideal.τ).loc Cert.AdamUp0Ideal.main_arg3))).2.1 i = 1#1 → r.2.mem ((c.tc : Thread Cert.AdamUp0Ideal.nD Cert.AdamUp0Ideal.τ).loc Cert.AdamUp0Ideal.main_v0_1) i = v1 c i)
          ∧ (∀ i : (⟨3, ![2, 1024, 512]⟩ : Shape).Idx, (Cert.On_first_layer.fn (F := Ideal) (m ((c.tc : Thread Cert.AdamUp0Ideal.nD Cert.AdamUp0Ideal.τ).loc Cert.AdamUp0Ideal.main_arg0)) (m ((c.tc : Thread Cert.AdamUp0Ideal.nD Cert.AdamUp0Ideal.τ).loc Cert.AdamUp0Ideal.main_arg1)) (m ((c.tc : Thread Cert.AdamUp0Ideal.nD Cert.AdamUp0Ideal.τ).loc Cert.AdamUp0Ideal.main_arg2)) (m ((c.tc : Thread Cert.AdamUp0Ideal.nD Cert.AdamUp0Ideal.τ).loc Cert.AdamUp0Ideal.main_arg3))).2.2.1 i = 1#1 → r.2.mem ((c.tc : Thread Cert.AdamUp0Ideal.nD Cert.AdamUp0Ideal.τ).loc Cert.AdamUp0Ideal.main_v0_2) i = v2 c i)
          ∧ (∀ i : (⟨3, ![2, 1024, 512]⟩ : Shape).Idx, (Cert.On_first_layer.fn (F := Ideal) (m ((c.tc : Thread Cert.AdamUp0Ideal.nD Cert.AdamUp0Ideal.τ).loc Cert.AdamUp0Ideal.main_arg0)) (m ((c.tc : Thread Cert.AdamUp0Ideal.nD Cert.AdamUp0Ideal.τ).loc Cert.AdamUp0Ideal.main_arg1)) (m ((c.tc : Thread Cert.AdamUp0Ideal.nD Cert.AdamUp0Ideal.τ).loc Cert.AdamUp0Ideal.main_arg2)) (m ((c.tc : Thread Cert.AdamUp0Ideal.nD Cert.AdamUp0Ideal.τ).loc Cert.AdamUp0Ideal.main_arg3))).2.2.2 i = 1#1 → r.2.mem ((c.tc : Thread Cert.AdamUp0Ideal.nD Cert.AdamUp0Ideal.τ).loc Cert.AdamUp0Ideal.main_v0_3) i = v3 c i)
          ∧ r.2.mem ((c.tc : Thread Cert.AdamUp0Ideal.nD Cert.AdamUp0Ideal.τ).loc Cert.AdamUp0Ideal.main_arg0) = m ((c.tc : Thread Cert.AdamUp0Ideal.nD Cert.AdamUp0Ideal.τ).loc Cert.AdamUp0Ideal.main_arg0)
          ∧ r.2.mem ((c.tc : Thread Cert.AdamUp0Ideal.nD Cert.AdamUp0Ideal.τ).loc Cert.AdamUp0Ideal.main_arg1) = m ((c.tc : Thread Cert.AdamUp0Ideal.nD Cert.AdamUp0Ideal.τ).loc Cert.AdamUp0Ideal.main_arg1)
          ∧ r.2.mem ((c.tc : Thread Cert.AdamUp0Ideal.nD Cert.AdamUp0Ideal.τ).loc Cert.AdamUp0Ideal.main_arg2) = m ((c.tc : Thread Cert.AdamUp0Ideal.nD Cert.AdamUp0Ideal.τ).loc Cert.AdamUp0Ideal.main_arg2)
          ∧ r.2.mem ((c.tc : Thread Cert.AdamUp0Ideal.nD Cert.AdamUp0Ideal.τ).loc Cert.AdamUp0Ideal.main_arg3) = m ((c.tc : Thread Cert.AdamUp0Ideal.nD Cert.AdamUp0Ideal.τ).loc Cert.AdamUp0Ideal.main_arg3))
      ∧ θ_run (Cert.AdamUp0ReferenceIdeal.defs (F := Ideal)) (onTc (τ := Cert.AdamUp0ReferenceIdeal.τ) (Cert.AdamUp0ReferenceIdeal.main (F := Ideal))) ⟨m', fun _ => 0, g'⟩ (fun r => ∀ c : Dev Cert.AdamUp0ReferenceIdeal.nD,
          (∀ i : (⟨3, ![2, 1024, 512]⟩ : Shape).Idx, (Cert.On_first_layer.fn (F := Ideal) (m ((c.tc : Thread Cert.AdamUp0Ideal.nD Cert.AdamUp0Ideal.τ).loc Cert.AdamUp0Ideal.main_arg0)) (m ((c.tc : Thread Cert.AdamUp0Ideal.nD Cert.AdamUp0Ideal.τ).loc Cert.AdamUp0Ideal.main_arg1)) (m ((c.tc : Thread Cert.AdamUp0Ideal.nD Cert.AdamUp0Ideal.τ).loc Cert.AdamUp0Ideal.main_arg2)) (m ((c.tc : Thread Cert.AdamUp0Ideal.nD Cert.AdamUp0Ideal.τ).loc Cert.AdamUp0Ideal.main_arg3))).1 i = 1#1 → r.2.mem ((c.tc : Thread Cert.AdamUp0ReferenceIdeal.nD Cert.AdamUp0ReferenceIdeal.τ).loc Cert.AdamUp0ReferenceIdeal.main_v31) i = v0 c i)
          ∧ (∀ i : (⟨3, ![2, 1024, 512]⟩ : Shape).Idx, (Cert.On_first_layer.fn (F := Ideal) (m ((c.tc : Thread Cert.AdamUp0Ideal.nD Cert.AdamUp0Ideal.τ).loc Cert.AdamUp0Ideal.main_arg0)) (m ((c.tc : Thread Cert.AdamUp0Ideal.nD Cert.AdamUp0Ideal.τ).loc Cert.AdamUp0Ideal.main_arg1)) (m ((c.tc : Thread Cert.AdamUp0Ideal.nD Cert.AdamUp0Ideal.τ).loc Cert.AdamUp0Ideal.main_arg2)) (m ((c.tc : Thread Cert.AdamUp0Ideal.nD Cert.AdamUp0Ideal.τ).loc Cert.AdamUp0Ideal.main_arg3))).2.1 i = 1#1 → r.2.mem ((c.tc : Thread Cert.AdamUp0ReferenceIdeal.nD Cert.AdamUp0ReferenceIdeal.τ).loc Cert.AdamUp0ReferenceIdeal.main_v33) i = v1 c i)
          ∧ (∀ i : (⟨3, ![2, 1024, 512]⟩ : Shape).Idx, (Cert.On_first_layer.fn (F := Ideal) (m ((c.tc : Thread Cert.AdamUp0Ideal.nD Cert.AdamUp0Ideal.τ).loc Cert.AdamUp0Ideal.main_arg0)) (m ((c.tc : Thread Cert.AdamUp0Ideal.nD Cert.AdamUp0Ideal.τ).loc Cert.AdamUp0Ideal.main_arg1)) (m ((c.tc : Thread Cert.AdamUp0Ideal.nD Cert.AdamUp0Ideal.τ).loc Cert.AdamUp0Ideal.main_arg2)) (m ((c.tc : Thread Cert.AdamUp0Ideal.nD Cert.AdamUp0Ideal.τ).loc Cert.AdamUp0Ideal.main_arg3))).2.2.1 i = 1#1 → r.2.mem ((c.tc : Thread Cert.AdamUp0ReferenceIdeal.nD Cert.AdamUp0ReferenceIdeal.τ).loc Cert.AdamUp0ReferenceIdeal.main_v35) i = v2 c i)
          ∧ (∀ i : (⟨3, ![2, 1024, 512]⟩ : Shape).Idx, (Cert.On_first_layer.fn (F := Ideal) (m ((c.tc : Thread Cert.AdamUp0Ideal.nD Cert.AdamUp0Ideal.τ).loc Cert.AdamUp0Ideal.main_arg0)) (m ((c.tc : Thread Cert.AdamUp0Ideal.nD Cert.AdamUp0Ideal.τ).loc Cert.AdamUp0Ideal.main_arg1)) (m ((c.tc : Thread Cert.AdamUp0Ideal.nD Cert.AdamUp0Ideal.τ).loc Cert.AdamUp0Ideal.main_arg2)) (m ((c.tc : Thread Cert.AdamUp0Ideal.nD Cert.AdamUp0Ideal.τ).loc Cert.AdamUp0Ideal.main_arg3))).2.2.2 i = 1#1 → r.2.mem ((c.tc : Thread Cert.AdamUp0ReferenceIdeal.nD Cert.AdamUp0ReferenceIdeal.τ).loc Cert.AdamUp0ReferenceIdeal.main_v37) i = v3 c i)
          ∧ r.2.mem ((c.tc : Thread Cert.AdamUp0ReferenceIdeal.nD Cert.AdamUp0ReferenceIdeal.τ).loc Cert.AdamUp0ReferenceIdeal.main_arg0) = m' ((c.tc : Thread Cert.AdamUp0ReferenceIdeal.nD Cert.AdamUp0ReferenceIdeal.τ).loc Cert.AdamUp0ReferenceIdeal.main_arg0)
          ∧ r.2.mem ((c.tc : Thread Cert.AdamUp0ReferenceIdeal.nD Cert.AdamUp0ReferenceIdeal.τ).loc Cert.AdamUp0ReferenceIdeal.main_arg1) = m' ((c.tc : Thread Cert.AdamUp0ReferenceIdeal.nD Cert.AdamUp0ReferenceIdeal.τ).loc Cert.AdamUp0ReferenceIdeal.main_arg1)
          ∧ r.2.mem ((c.tc : Thread Cert.AdamUp0ReferenceIdeal.nD Cert.AdamUp0ReferenceIdeal.τ).loc Cert.AdamUp0ReferenceIdeal.main_arg2) = m' ((c.tc : Thread Cert.AdamUp0ReferenceIdeal.nD Cert.AdamUp0ReferenceIdeal.τ).loc Cert.AdamUp0ReferenceIdeal.main_arg2)
          ∧ r.2.mem ((c.tc : Thread Cert.AdamUp0ReferenceIdeal.nD Cert.AdamUp0ReferenceIdeal.τ).loc Cert.AdamUp0ReferenceIdeal.main_arg3) = m' ((c.tc : Thread Cert.AdamUp0ReferenceIdeal.nD Cert.AdamUp0ReferenceIdeal.τ).loc Cert.AdamUp0ReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)
      ∧ m' ((c.tc : Thread Cert.AdamDownReferenceIdeal.nD Cert.AdamDownReferenceIdeal.τ).loc Cert.AdamDownReferenceIdeal.main_arg4) = m ((c.tc : Thread Cert.AdamDownIdeal.nD Cert.AdamDownIdeal.τ).loc Cert.AdamDownIdeal.main_arg4)
      ∧ m' ((c.tc : Thread Cert.AdamDownReferenceIdeal.nD Cert.AdamDownReferenceIdeal.τ).loc Cert.AdamDownReferenceIdeal.main_arg5) = m ((c.tc : Thread Cert.AdamDownIdeal.nD Cert.AdamDownIdeal.τ).loc Cert.AdamDownIdeal.main_arg5)
      ∧ m' ((c.tc : Thread Cert.AdamDownReferenceIdeal.nD Cert.AdamDownReferenceIdeal.τ).loc Cert.AdamDownReferenceIdeal.main_arg6) = m ((c.tc : Thread Cert.AdamDownIdeal.nD Cert.AdamDownIdeal.τ).loc Cert.AdamDownIdeal.main_arg6)
      ∧ m' ((c.tc : Thread Cert.AdamDownReferenceIdeal.nD Cert.AdamDownReferenceIdeal.τ).loc Cert.AdamDownReferenceIdeal.main_arg7) = m ((c.tc : Thread Cert.AdamDownIdeal.nD Cert.AdamDownIdeal.τ).loc Cert.AdamDownIdeal.main_arg7)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6)
          ∧ r.2.mem ((c.tc : Thread Cert.AdamDownIdeal.nD Cert.AdamDownIdeal.τ).loc Cert.AdamDownIdeal.main_arg7) = m ((c.tc : Thread Cert.AdamDownIdeal.nD Cert.AdamDownIdeal.τ).loc Cert.AdamDownIdeal.main_arg7))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v31) = v0 c
          ∧ r.2.mem ((c.tc : Thread Cert.AdamDownReferenceIdeal.nD Cert.AdamDownReferenceIdeal.τ).loc Cert.AdamDownReferenceIdeal.main_v33) = v1 c
          ∧ r.2.mem ((c.tc : Thread Cert.AdamDownReferenceIdeal.nD Cert.AdamDownReferenceIdeal.τ).loc Cert.AdamDownReferenceIdeal.main_v35) = v2 c
          ∧ r.2.mem ((c.tc : Thread Cert.AdamDownReferenceIdeal.nD Cert.AdamDownReferenceIdeal.τ).loc Cert.AdamDownReferenceIdeal.main_v37) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4)
          ∧ r.2.mem ((c.tc : Thread Cert.AdamDownReferenceIdeal.nD Cert.AdamDownReferenceIdeal.τ).loc Cert.AdamDownReferenceIdeal.main_arg5) = m' ((c.tc : Thread Cert.AdamDownReferenceIdeal.nD Cert.AdamDownReferenceIdeal.τ).loc Cert.AdamDownReferenceIdeal.main_arg5)
          ∧ r.2.mem ((c.tc : Thread Cert.AdamDownReferenceIdeal.nD Cert.AdamDownReferenceIdeal.τ).loc Cert.AdamDownReferenceIdeal.main_arg6) = m' ((c.tc : Thread Cert.AdamDownReferenceIdeal.nD Cert.AdamDownReferenceIdeal.τ).loc Cert.AdamDownReferenceIdeal.main_arg6)
          ∧ r.2.mem ((c.tc : Thread Cert.AdamDownReferenceIdeal.nD Cert.AdamDownReferenceIdeal.τ).loc Cert.AdamDownReferenceIdeal.main_arg7) = m' ((c.tc : Thread Cert.AdamDownReferenceIdeal.nD Cert.AdamDownReferenceIdeal.τ).loc Cert.AdamDownReferenceIdeal.main_arg7))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v2) = v0 c
          ∧ r.2.mem ((c.tc : Thread Cert.AdamOutReferenceIdeal.nD Cert.AdamOutReferenceIdeal.τ).loc Cert.AdamOutReferenceIdeal.main_v26) = v1 c
          ∧ r.2.mem ((c.tc : Thread Cert.AdamOutReferenceIdeal.nD Cert.AdamOutReferenceIdeal.τ).loc Cert.AdamOutReferenceIdeal.main_v7) = v2 c
          ∧ r.2.mem ((c.tc : Thread Cert.AdamOutReferenceIdeal.nD Cert.AdamOutReferenceIdeal.τ).loc Cert.AdamOutReferenceIdeal.main_v13) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v24) = v1 c
          ∧ r.2.mem ((c.tc : Thread Cert.AdamSmallReferenceIdeal.nD Cert.AdamSmallReferenceIdeal.τ).loc Cert.AdamSmallReferenceIdeal.main_v5) = v2 c
          ∧ r.2.mem ((c.tc : Thread Cert.AdamSmallReferenceIdeal.nD Cert.AdamSmallReferenceIdeal.τ).loc Cert.AdamSmallReferenceIdeal.main_v11) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_AdamDown0_AdamDown0Ideal : Prop :=
  True

def algebraic_AdamDown0Ideal_AdamDown0ReferenceIdeal_on_first_layer_down [hAdamDown0Ideal : Cert.AdamDown0Ideal.Facts] [hAdamDown0ReferenceIdeal : Cert.AdamDown0ReferenceIdeal.Facts] [hOn_first_layer_down : Cert.On_first_layer_down.Facts] : Prop :=
  ∀ (m : (ℓ : Loc Cert.AdamDown0Ideal.nD Cert.AdamDown0Ideal.τ Cert.AdamDown0Ideal.sig) → Buf (Elt Ideal) ℓ) (g : Dev Cert.AdamDown0Ideal.nD → PrngReg)
    (m' : (ℓ : Loc Cert.AdamDown0ReferenceIdeal.nD Cert.AdamDown0ReferenceIdeal.τ Cert.AdamDown0ReferenceIdeal.sig) → Buf (Elt Ideal) ℓ) (g' : Dev Cert.AdamDown0ReferenceIdeal.nD → PrngReg), Pre_AdamDown0Ideal m →
    (∀ c : Dev Cert.AdamDown0Ideal.nD,
      m' ((c.tc : Thread Cert.AdamDown0ReferenceIdeal.nD Cert.AdamDown0ReferenceIdeal.τ).loc Cert.AdamDown0ReferenceIdeal.main_arg0) = m ((c.tc : Thread Cert.AdamDown0Ideal.nD Cert.AdamDown0Ideal.τ).loc Cert.AdamDown0Ideal.main_arg0)
      ∧ m' ((c.tc : Thread Cert.AdamDown0ReferenceIdeal.nD Cert.AdamDown0ReferenceIdeal.τ).loc Cert.AdamDown0ReferenceIdeal.main_arg1) = m ((c.tc : Thread Cert.AdamDown0Ideal.nD Cert.AdamDown0Ideal.τ).loc Cert.AdamDown0Ideal.main_arg1)
      ∧ m' ((c.tc : Thread Cert.AdamDown0ReferenceIdeal.nD Cert.AdamDown0ReferenceIdeal.τ).loc Cert.AdamDown0ReferenceIdeal.main_arg2) = m ((c.tc : Thread Cert.AdamDown0Ideal.nD Cert.AdamDown0Ideal.τ).loc Cert.AdamDown0Ideal.main_arg2)
      ∧ m' ((c.tc : Thread Cert.AdamDown0ReferenceIdeal.nD Cert.AdamDown0ReferenceIdeal.τ).loc Cert.AdamDown0ReferenceIdeal.main_arg3) = m ((c.tc : Thread Cert.AdamDown0Ideal.nD Cert.AdamDown0Ideal.τ).loc Cert.AdamDown0Ideal.main_arg3)) →
    ∃ (v0 : (c : Dev Cert.AdamDown0Ideal.nD) → Buf (Elt Ideal) ((c.tc : Thread Cert.AdamDown0Ideal.nD Cert.AdamDown0Ideal.τ).loc Cert.AdamDown0Ideal.main_v0_0)) (v1 : (c : Dev Cert.AdamDown0Ideal.nD) → Buf (Elt Ideal) ((c.tc : Thread Cert.AdamDown0Ideal.nD Cert.AdamDown0Ideal.τ).loc Cert.AdamDown0Ideal.main_v0_1)) (v2 : (c : Dev Cert.AdamDown0Ideal.nD) → Buf (Elt Ideal) ((c.tc : Thread Cert.AdamDown0Ideal.nD Cert.AdamDown0Ideal.τ).loc Cert.AdamDown0Ideal.main_v0_2)) (v3 : (c : Dev Cert.AdamDown0Ideal.nD) → Buf (Elt Ideal) ((c.tc : Thread Cert.AdamDown0Ideal.nD Cert.AdamDown0Ideal.τ).loc Cert.AdamDown0Ideal.main_v0_3)),
      θ_run (Cert.AdamDown0Ideal.defs (F := Ideal)) (onTc (τ := Cert.AdamDown0Ideal.τ) (Cert.AdamDown0Ideal.main (F := Ideal))) ⟨m, fun _ => 0, g⟩ (fun r => ∀ c : Dev Cert.AdamDown0Ideal.nD,
          (∀ i : (⟨3, ![2, 512, 1024]⟩ : Shape).Idx, (Cert.On_first_layer_down.fn (F := Ideal) (m ((c.tc : Thread Cert.AdamDown0Ideal.nD Cert.AdamDown0Ideal.τ).loc Cert.AdamDown0Ideal.main_arg0)) (m ((c.tc : Thread Cert.AdamDown0Ideal.nD Cert.AdamDown0Ideal.τ).loc Cert.AdamDown0Ideal.main_arg1)) (m ((c.tc : Thread Cert.AdamDown0Ideal.nD Cert.AdamDown0Ideal.τ).loc Cert.AdamDown0Ideal.main_arg2)) (m ((c.tc : Thread Cert.AdamDown0Ideal.nD Cert.AdamDown0Ideal.τ).loc Cert.AdamDown0Ideal.main_arg3))).1 i = 1#1 → r.2.mem ((c.tc : Thread Cert.AdamDown0Ideal.nD Cert.AdamDown0Ideal.τ).loc Cert.AdamDown0Ideal.main_v0_0) i = v0 c i)
          ∧ (∀ i : (⟨3, ![2, 512, 1024]⟩ : Shape).Idx, (Cert.On_first_layer_down.fn (F := Ideal) (m ((c.tc : Thread Cert.AdamDown0Ideal.nD Cert.AdamDown0Ideal.τ).loc Cert.AdamDown0Ideal.main_arg0)) (m ((c.tc : Thread Cert.AdamDown0Ideal.nD Cert.AdamDown0Ideal.τ).loc Cert.AdamDown0Ideal.main_arg1)) (m ((c.tc : Thread Cert.AdamDown0Ideal.nD Cert.AdamDown0Ideal.τ).loc Cert.AdamDown0Ideal.main_arg2)) (m ((c.tc : Thread Cert.AdamDown0Ideal.nD Cert.AdamDown0Ideal.τ).loc Cert.AdamDown0Ideal.main_arg3))).2.1 i = 1#1 → r.2.mem ((c.tc : Thread Cert.AdamDown0Ideal.nD Cert.AdamDown0Ideal.τ).loc Cert.AdamDown0Ideal.main_v0_1) i = v1 c i)
          ∧ (∀ i : (⟨3, ![2, 512, 1024]⟩ : Shape).Idx, (Cert.On_first_layer_down.fn (F := Ideal) (m ((c.tc : Thread Cert.AdamDown0Ideal.nD Cert.AdamDown0Ideal.τ).loc Cert.AdamDown0Ideal.main_arg0)) (m ((c.tc : Thread Cert.AdamDown0Ideal.nD Cert.AdamDown0Ideal.τ).loc Cert.AdamDown0Ideal.main_arg1)) (m ((c.tc : Thread Cert.AdamDown0Ideal.nD Cert.AdamDown0Ideal.τ).loc Cert.AdamDown0Ideal.main_arg2)) (m ((c.tc : Thread Cert.AdamDown0Ideal.nD Cert.AdamDown0Ideal.τ).loc Cert.AdamDown0Ideal.main_arg3))).2.2.1 i = 1#1 → r.2.mem ((c.tc : Thread Cert.AdamDown0Ideal.nD Cert.AdamDown0Ideal.τ).loc Cert.AdamDown0Ideal.main_v0_2) i = v2 c i)
          ∧ (∀ i : (⟨3, ![2, 512, 1024]⟩ : Shape).Idx, (Cert.On_first_layer_down.fn (F := Ideal) (m ((c.tc : Thread Cert.AdamDown0Ideal.nD Cert.AdamDown0Ideal.τ).loc Cert.AdamDown0Ideal.main_arg0)) (m ((c.tc : Thread Cert.AdamDown0Ideal.nD Cert.AdamDown0Ideal.τ).loc Cert.AdamDown0Ideal.main_arg1)) (m ((c.tc : Thread Cert.AdamDown0Ideal.nD Cert.AdamDown0Ideal.τ).loc Cert.AdamDown0Ideal.main_arg2)) (m ((c.tc : Thread Cert.AdamDown0Ideal.nD Cert.AdamDown0Ideal.τ).loc Cert.AdamDown0Ideal.main_arg3))).2.2.2 i = 1#1 → r.2.mem ((c.tc : Thread Cert.AdamDown0Ideal.nD Cert.AdamDown0Ideal.τ).loc Cert.AdamDown0Ideal.main_v0_3) i = v3 c i)
          ∧ r.2.mem ((c.tc : Thread Cert.AdamDown0Ideal.nD Cert.AdamDown0Ideal.τ).loc Cert.AdamDown0Ideal.main_arg0) = m ((c.tc : Thread Cert.AdamDown0Ideal.nD Cert.AdamDown0Ideal.τ).loc Cert.AdamDown0Ideal.main_arg0)
          ∧ r.2.mem ((c.tc : Thread Cert.AdamDown0Ideal.nD Cert.AdamDown0Ideal.τ).loc Cert.AdamDown0Ideal.main_arg1) = m ((c.tc : Thread Cert.AdamDown0Ideal.nD Cert.AdamDown0Ideal.τ).loc Cert.AdamDown0Ideal.main_arg1)
          ∧ r.2.mem ((c.tc : Thread Cert.AdamDown0Ideal.nD Cert.AdamDown0Ideal.τ).loc Cert.AdamDown0Ideal.main_arg2) = m ((c.tc : Thread Cert.AdamDown0Ideal.nD Cert.AdamDown0Ideal.τ).loc Cert.AdamDown0Ideal.main_arg2)
          ∧ r.2.mem ((c.tc : Thread Cert.AdamDown0Ideal.nD Cert.AdamDown0Ideal.τ).loc Cert.AdamDown0Ideal.main_arg3) = m ((c.tc : Thread Cert.AdamDown0Ideal.nD Cert.AdamDown0Ideal.τ).loc Cert.AdamDown0Ideal.main_arg3))
      ∧ θ_run (Cert.AdamDown0ReferenceIdeal.defs (F := Ideal)) (onTc (τ := Cert.AdamDown0ReferenceIdeal.τ) (Cert.AdamDown0ReferenceIdeal.main (F := Ideal))) ⟨m', fun _ => 0, g'⟩ (fun r => ∀ c : Dev Cert.AdamDown0ReferenceIdeal.nD,
          (∀ i : (⟨3, ![2, 512, 1024]⟩ : Shape).Idx, (Cert.On_first_layer_down.fn (F := Ideal) (m ((c.tc : Thread Cert.AdamDown0Ideal.nD Cert.AdamDown0Ideal.τ).loc Cert.AdamDown0Ideal.main_arg0)) (m ((c.tc : Thread Cert.AdamDown0Ideal.nD Cert.AdamDown0Ideal.τ).loc Cert.AdamDown0Ideal.main_arg1)) (m ((c.tc : Thread Cert.AdamDown0Ideal.nD Cert.AdamDown0Ideal.τ).loc Cert.AdamDown0Ideal.main_arg2)) (m ((c.tc : Thread Cert.AdamDown0Ideal.nD Cert.AdamDown0Ideal.τ).loc Cert.AdamDown0Ideal.main_arg3))).1 i = 1#1 → r.2.mem ((c.tc : Thread Cert.AdamDown0ReferenceIdeal.nD Cert.AdamDown0ReferenceIdeal.τ).loc Cert.AdamDown0ReferenceIdeal.main_v31) i = v0 c i)
          ∧ (∀ i : (⟨3, ![2, 512, 1024]⟩ : Shape).Idx, (Cert.On_first_layer_down.fn (F := Ideal) (m ((c.tc : Thread Cert.AdamDown0Ideal.nD Cert.AdamDown0Ideal.τ).loc Cert.AdamDown0Ideal.main_arg0)) (m ((c.tc : Thread Cert.AdamDown0Ideal.nD Cert.AdamDown0Ideal.τ).loc Cert.AdamDown0Ideal.main_arg1)) (m ((c.tc : Thread Cert.AdamDown0Ideal.nD Cert.AdamDown0Ideal.τ).loc Cert.AdamDown0Ideal.main_arg2)) (m ((c.tc : Thread Cert.AdamDown0Ideal.nD Cert.AdamDown0Ideal.τ).loc Cert.AdamDown0Ideal.main_arg3))).2.1 i = 1#1 → r.2.mem ((c.tc : Thread Cert.AdamDown0ReferenceIdeal.nD Cert.AdamDown0ReferenceIdeal.τ).loc Cert.AdamDown0ReferenceIdeal.main_v33) i = v1 c i)
          ∧ (∀ i : (⟨3, ![2, 512, 1024]⟩ : Shape).Idx, (Cert.On_first_layer_down.fn (F := Ideal) (m ((c.tc : Thread Cert.AdamDown0Ideal.nD Cert.AdamDown0Ideal.τ).loc Cert.AdamDown0Ideal.main_arg0)) (m ((c.tc : Thread Cert.AdamDown0Ideal.nD Cert.AdamDown0Ideal.τ).loc Cert.AdamDown0Ideal.main_arg1)) (m ((c.tc : Thread Cert.AdamDown0Ideal.nD Cert.AdamDown0Ideal.τ).loc Cert.AdamDown0Ideal.main_arg2)) (m ((c.tc : Thread Cert.AdamDown0Ideal.nD Cert.AdamDown0Ideal.τ).loc Cert.AdamDown0Ideal.main_arg3))).2.2.1 i = 1#1 → r.2.mem ((c.tc : Thread Cert.AdamDown0ReferenceIdeal.nD Cert.AdamDown0ReferenceIdeal.τ).loc Cert.AdamDown0ReferenceIdeal.main_v35) i = v2 c i)
          ∧ (∀ i : (⟨3, ![2, 512, 1024]⟩ : Shape).Idx, (Cert.On_first_layer_down.fn (F := Ideal) (m ((c.tc : Thread Cert.AdamDown0Ideal.nD Cert.AdamDown0Ideal.τ).loc Cert.AdamDown0Ideal.main_arg0)) (m ((c.tc : Thread Cert.AdamDown0Ideal.nD Cert.AdamDown0Ideal.τ).loc Cert.AdamDown0Ideal.main_arg1)) (m ((c.tc : Thread Cert.AdamDown0Ideal.nD Cert.AdamDown0Ideal.τ).loc Cert.AdamDown0Ideal.main_arg2)) (m ((c.tc : Thread Cert.AdamDown0Ideal.nD Cert.AdamDown0Ideal.τ).loc Cert.AdamDown0Ideal.main_arg3))).2.2.2 i = 1#1 → r.2.mem ((c.tc : Thread Cert.AdamDown0ReferenceIdeal.nD Cert.AdamDown0ReferenceIdeal.τ).loc Cert.AdamDown0ReferenceIdeal.main_v37) i = v3 c i)
          ∧ r.2.mem ((c.tc : Thread Cert.AdamDown0ReferenceIdeal.nD Cert.AdamDown0ReferenceIdeal.τ).loc Cert.AdamDown0ReferenceIdeal.main_arg0) = m' ((c.tc : Thread Cert.AdamDown0ReferenceIdeal.nD Cert.AdamDown0ReferenceIdeal.τ).loc Cert.AdamDown0ReferenceIdeal.main_arg0)
          ∧ r.2.mem ((c.tc : Thread Cert.AdamDown0ReferenceIdeal.nD Cert.AdamDown0ReferenceIdeal.τ).loc Cert.AdamDown0ReferenceIdeal.main_arg1) = m' ((c.tc : Thread Cert.AdamDown0ReferenceIdeal.nD Cert.AdamDown0ReferenceIdeal.τ).loc Cert.AdamDown0ReferenceIdeal.main_arg1)
          ∧ r.2.mem ((c.tc : Thread Cert.AdamDown0ReferenceIdeal.nD Cert.AdamDown0ReferenceIdeal.τ).loc Cert.AdamDown0ReferenceIdeal.main_arg2) = m' ((c.tc : Thread Cert.AdamDown0ReferenceIdeal.nD Cert.AdamDown0ReferenceIdeal.τ).loc Cert.AdamDown0ReferenceIdeal.main_arg2)
          ∧ r.2.mem ((c.tc : Thread Cert.AdamDown0ReferenceIdeal.nD Cert.AdamDown0ReferenceIdeal.τ).loc Cert.AdamDown0ReferenceIdeal.main_arg3) = m' ((c.tc : Thread Cert.AdamDown0ReferenceIdeal.nD Cert.AdamDown0ReferenceIdeal.τ).loc Cert.AdamDown0ReferenceIdeal.main_arg3))

def preserves_AdamNorm_AdamNormIdeal : Prop :=
  True

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v3_0)) (v1 : (c : Dev Cert.AdamNormIdeal.nD) → Buf (Elt Ideal) ((c.tc : Thread Cert.AdamNormIdeal.nD Cert.AdamNormIdeal.τ).loc Cert.AdamNormIdeal.main_v3_1)) (v2 : (c : Dev Cert.AdamNormIdeal.nD) → Buf (Elt Ideal) ((c.tc : Thread Cert.AdamNormIdeal.nD Cert.AdamNormIdeal.τ).loc Cert.AdamNormIdeal.main_v3_2)) (v3 : (c : Dev Cert.AdamNormIdeal.nD) → Buf (Elt Ideal) ((c.tc : Thread Cert.AdamNormIdeal.nD Cert.AdamNormIdeal.τ).loc Cert.AdamNormIdeal.main_v3_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v3_0) = v0 c
          ∧ r.2.mem ((c.tc : Thread Cert.AdamNormIdeal.nD Cert.AdamNormIdeal.τ).loc Cert.AdamNormIdeal.main_v3_1) = v1 c
          ∧ r.2.mem ((c.tc : Thread Cert.AdamNormIdeal.nD Cert.AdamNormIdeal.τ).loc Cert.AdamNormIdeal.main_v3_2) = v2 c
          ∧ r.2.mem ((c.tc : Thread Cert.AdamNormIdeal.nD Cert.AdamNormIdeal.τ).loc Cert.AdamNormIdeal.main_v3_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v1) = v0 c
          ∧ r.2.mem ((c.tc : Thread Cert.AdamNormReferenceIdeal.nD Cert.AdamNormReferenceIdeal.τ).loc Cert.AdamNormReferenceIdeal.main_v27) = v1 c
          ∧ r.2.mem ((c.tc : Thread Cert.AdamNormReferenceIdeal.nD Cert.AdamNormReferenceIdeal.τ).loc Cert.AdamNormReferenceIdeal.main_v8) = v2 c
          ∧ r.2.mem ((c.tc : Thread Cert.AdamNormReferenceIdeal.nD Cert.AdamNormReferenceIdeal.τ).loc Cert.AdamNormReferenceIdeal.main_v14) = v3 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamLruConv_AdamLruConvIdeal : Prop :=
  True

def algebraic_AdamLruConvIdeal_AdamLruConvReferenceIdeal [hAdamLruConvIdeal : Cert.AdamLruConvIdeal.Facts] [hAdamLruConvReferenceIdeal : Cert.AdamLruConvReferenceIdeal.Facts] : Prop :=
  ∀ (m : (ℓ : Loc Cert.AdamLruConvIdeal.nD Cert.AdamLruConvIdeal.τ Cert.AdamLruConvIdeal.sig) → Buf (Elt Ideal) ℓ) (g : Dev Cert.AdamLruConvIdeal.nD → PrngReg)
    (m' : (ℓ : Loc Cert.AdamLruConvReferenceIdeal.nD Cert.AdamLruConvReferenceIdeal.τ Cert.AdamLruConvReferenceIdeal.sig) → Buf (Elt Ideal) ℓ) (g' : Dev Cert.AdamLruConvReferenceIdeal.nD → PrngReg), Pre_AdamLruConvIdeal m →
    (∀ c : Dev Cert.AdamLruConvIdeal.nD,
      m' ((c.tc : Thread Cert.AdamLruConvReferenceIdeal.nD Cert.AdamLruConvReferenceIdeal.τ).loc Cert.AdamLruConvReferenceIdeal.main_arg0) = m ((c.tc : Thread Cert.AdamLruConvIdeal.nD Cert.AdamLruConvIdeal.τ).loc Cert.AdamLruConvIdeal.main_arg0)
      ∧ m' ((c.tc : Thread Cert.AdamLruConvReferenceIdeal.nD Cert.AdamLruConvReferenceIdeal.τ).loc Cert.AdamLruConvReferenceIdeal.main_arg1) = m ((c.tc : Thread Cert.AdamLruConvIdeal.nD Cert.AdamLruConvIdeal.τ).loc Cert.AdamLruConvIdeal.main_arg1)
      ∧ m' ((c.tc : Thread Cert.AdamLruConvReferenceIdeal.nD Cert.AdamLruConvReferenceIdeal.τ).loc Cert.AdamLruConvReferenceIdeal.main_arg2) = m ((c.tc : Thread Cert.AdamLruConvIdeal.nD Cert.AdamLruConvIdeal.τ).loc Cert.AdamLruConvIdeal.main_arg2)
      ∧ m' ((c.tc : Thread Cert.AdamLruConvReferenceIdeal.nD Cert.AdamLruConvReferenceIdeal.τ).loc Cert.AdamLruConvReferenceIdeal.main_arg3) = m ((c.tc : Thread Cert.AdamLruConvIdeal.nD Cert.AdamLruConvIdeal.τ).loc Cert.AdamLruConvIdeal.main_arg3)) →
    ∃ (v0 : (c : Dev Cert.AdamLruConvIdeal.nD) → Buf (Elt Ideal) ((c.tc : Thread Cert.AdamLruConvIdeal.nD Cert.AdamLruConvIdeal.τ).loc Cert.AdamLruConvIdeal.main_v0_0)) (v1 : (c : Dev Cert.AdamLruConvIdeal.nD) → Buf (Elt Ideal) ((c.tc : Thread Cert.AdamLruConvIdeal.nD Cert.AdamLruConvIdeal.τ).loc Cert.AdamLruConvIdeal.main_v0_1)) (v2 : (c : Dev Cert.AdamLruConvIdeal.nD) → Buf (Elt Ideal) ((c.tc : Thread Cert.AdamLruConvIdeal.nD Cert.AdamLruConvIdeal.τ).loc Cert.AdamLruConvIdeal.main_v0_2)) (v3 : (c : Dev Cert.AdamLruConvIdeal.nD) → Buf (Elt Ideal) ((c.tc : Thread Cert.AdamLruConvIdeal.nD Cert.AdamLruConvIdeal.τ).loc Cert.AdamLruConvIdeal.main_v0_3)),
      θ_run (Cert.AdamLruConvIdeal.defs (F := Ideal)) (onTc (τ := Cert.AdamLruConvIdeal.τ) (Cert.AdamLruConvIdeal.main (F := Ideal))) ⟨m, fun _ => 0, g⟩ (fun r => ∀ c : Dev Cert.AdamLruConvIdeal.nD,
          r.2.mem ((c.tc : Thread Cert.AdamLruConvIdeal.nD Cert.AdamLruConvIdeal.τ).loc Cert.AdamLruConvIdeal.main_v0_0) = v0 c
          ∧ r.2.mem ((c.tc : Thread Cert.AdamLruConvIdeal.nD Cert.AdamLruConvIdeal.τ).loc Cert.AdamLruConvIdeal.main_v0_1) = v1 c
          ∧ r.2.mem ((c.tc : Thread Cert.AdamLruConvIdeal.nD Cert.AdamLruConvIdeal.τ).loc Cert.AdamLruConvIdeal.main_v0_2) = v2 c
          ∧ r.2.mem ((c.tc : Thread Cert.AdamLruConvIdeal.nD Cert.AdamLruConvIdeal.τ).loc Cert.AdamLruConvIdeal.main_v0_3) = v3 c
          ∧ r.2.mem ((c.tc : Thread Cert.AdamLruConvIdeal.nD Cert.AdamLruConvIdeal.τ).loc Cert.AdamLruConvIdeal.main_arg0) = m ((c.tc : Thread Cert.AdamLruConvIdeal.nD Cert.AdamLruConvIdeal.τ).loc Cert.AdamLruConvIdeal.main_arg0)
          ∧ r.2.mem ((c.tc : Thread Cert.AdamLruConvIdeal.nD Cert.AdamLruConvIdeal.τ).loc Cert.AdamLruConvIdeal.main_arg1) = m ((c.tc : Thread Cert.AdamLruConvIdeal.nD Cert.AdamLruConvIdeal.τ).loc Cert.AdamLruConvIdeal.main_arg1)
          ∧ r.2.mem ((c.tc : Thread Cert.AdamLruConvIdeal.nD Cert.AdamLruConvIdeal.τ).loc Cert.AdamLruConvIdeal.main_arg2) = m ((c.tc : Thread Cert.AdamLruConvIdeal.nD Cert.AdamLruConvIdeal.τ).loc Cert.AdamLruConvIdeal.main_arg2)
          ∧ r.2.mem ((c.tc : Thread Cert.AdamLruConvIdeal.nD Cert.AdamLruConvIdeal.τ).loc Cert.AdamLruConvIdeal.main_arg3) = m ((c.tc : Thread Cert.AdamLruConvIdeal.nD Cert.AdamLruConvIdeal.τ).loc Cert.AdamLruConvIdeal.main_arg3))
      ∧ θ_run (Cert.AdamLruConvReferenceIdeal.defs (F := Ideal)) (onTc (τ := Cert.AdamLruConvReferenceIdeal.τ) (Cert.AdamLruConvReferenceIdeal.main (F := Ideal))) ⟨m', fun _ => 0, g'⟩ (fun r => ∀ c : Dev Cert.AdamLruConvReferenceIdeal.nD,
          r.2.mem ((c.tc : Thread Cert.AdamLruConvReferenceIdeal.nD Cert.AdamLruConvReferenceIdeal.τ).loc Cert.AdamLruConvReferenceIdeal.main_v1) = v0 c
          ∧ r.2.mem ((c.tc : Thread Cert.AdamLruConvReferenceIdeal.nD Cert.AdamLruConvReferenceIdeal.τ).loc Cert.AdamLruConvReferenceIdeal.main_v25) = v1 c
          ∧ r.2.mem ((c.tc : Thread Cert.AdamLruConvReferenceIdeal.nD Cert.AdamLruConvReferenceIdeal.τ).loc Cert.AdamLruConvReferenceIdeal.main_v6) = v2 c
          ∧ r.2.mem ((c.tc : Thread Cert.AdamLruConvReferenceIdeal.nD Cert.AdamLruConvReferenceIdeal.τ).loc Cert.AdamLruConvReferenceIdeal.main_v12) = v3 c
          ∧ r.2.mem ((c.tc : Thread Cert.AdamLruConvReferenceIdeal.nD Cert.AdamLruConvReferenceIdeal.τ).loc Cert.AdamLruConvReferenceIdeal.main_arg0) = m' ((c.tc : Thread Cert.AdamLruConvReferenceIdeal.nD Cert.AdamLruConvReferenceIdeal.τ).loc Cert.AdamLruConvReferenceIdeal.main_arg0)
          ∧ r.2.mem ((c.tc : Thread Cert.AdamLruConvReferenceIdeal.nD Cert.AdamLruConvReferenceIdeal.τ).loc Cert.AdamLruConvReferenceIdeal.main_arg1) = m' ((c.tc : Thread Cert.AdamLruConvReferenceIdeal.nD Cert.AdamLruConvReferenceIdeal.τ).loc Cert.AdamLruConvReferenceIdeal.main_arg1)
          ∧ r.2.mem ((c.tc : Thread Cert.AdamLruConvReferenceIdeal.nD Cert.AdamLruConvReferenceIdeal.τ).loc Cert.AdamLruConvReferenceIdeal.main_arg2) = m' ((c.tc : Thread Cert.AdamLruConvReferenceIdeal.nD Cert.AdamLruConvReferenceIdeal.τ).loc Cert.AdamLruConvReferenceIdeal.main_arg2)
          ∧ r.2.mem ((c.tc : Thread Cert.AdamLruConvReferenceIdeal.nD Cert.AdamLruConvReferenceIdeal.τ).loc Cert.AdamLruConvReferenceIdeal.main_arg3) = m' ((c.tc : Thread Cert.AdamLruConvReferenceIdeal.nD Cert.AdamLruConvReferenceIdeal.τ).loc Cert.AdamLruConvReferenceIdeal.main_arg3))

def preserves_AdamGdnConv_AdamGdnConvIdeal : Prop :=
  True

def algebraic_AdamGdnConvIdeal_AdamGdnConvReferenceIdeal [hAdamGdnConvIdeal : Cert.AdamGdnConvIdeal.Facts] [hAdamGdnConvReferenceIdeal : Cert.AdamGdnConvReferenceIdeal.Facts] : Prop :=
  ∀ (m : (ℓ : Loc Cert.AdamGdnConvIdeal.nD Cert.AdamGdnConvIdeal.τ Cert.AdamGdnConvIdeal.sig) → Buf (Elt Ideal) ℓ) (g : Dev Cert.AdamGdnConvIdeal.nD → PrngReg)
    (m' : (ℓ : Loc Cert.AdamGdnConvReferenceIdeal.nD Cert.AdamGdnConvReferenceIdeal.τ Cert.AdamGdnConvReferenceIdeal.sig) → Buf (Elt Ideal) ℓ) (g' : Dev Cert.AdamGdnConvReferenceIdeal.nD → PrngReg), Pre_AdamGdnConvIdeal m →
    (∀ c : Dev Cert.AdamGdnConvIdeal.nD,
      m' ((c.tc : Thread Cert.AdamGdnConvReferenceIdeal.nD Cert.AdamGdnConvReferenceIdeal.τ).loc Cert.AdamGdnConvReferenceIdeal.main_arg0) = m ((c.tc : Thread Cert.AdamGdnConvIdeal.nD Cert.AdamGdnConvIdeal.τ).loc Cert.AdamGdnConvIdeal.main_arg0)
      ∧ m' ((c.tc : Thread Cert.AdamGdnConvReferenceIdeal.nD Cert.AdamGdnConvReferenceIdeal.τ).loc Cert.AdamGdnConvReferenceIdeal.main_arg1) = m ((c.tc : Thread Cert.AdamGdnConvIdeal.nD Cert.AdamGdnConvIdeal.τ).loc Cert.AdamGdnConvIdeal.main_arg1)
      ∧ m' ((c.tc : Thread Cert.AdamGdnConvReferenceIdeal.nD Cert.AdamGdnConvReferenceIdeal.τ).loc Cert.AdamGdnConvReferenceIdeal.main_arg2) = m ((c.tc : Thread Cert.AdamGdnConvIdeal.nD Cert.AdamGdnConvIdeal.τ).loc Cert.AdamGdnConvIdeal.main_arg2)
      ∧ m' ((c.tc : Thread Cert.AdamGdnConvReferenceIdeal.nD Cert.AdamGdnConvReferenceIdeal.τ).loc Cert.AdamGdnConvReferenceIdeal.main_arg3) = m ((c.tc : Thread Cert.AdamGdnConvIdeal.nD Cert.AdamGdnConvIdeal.τ).loc Cert.AdamGdnConvIdeal.main_arg3)) →
    ∃ (v0 : (c : Dev Cert.AdamGdnConvIdeal.nD) → Buf (Elt Ideal) ((c.tc : Thread Cert.AdamGdnConvIdeal.nD Cert.AdamGdnConvIdeal.τ).loc Cert.AdamGdnConvIdeal.main_v0_0)) (v1 : (c : Dev Cert.AdamGdnConvIdeal.nD) → Buf (Elt Ideal) ((c.tc : Thread Cert.AdamGdnConvIdeal.nD Cert.AdamGdnConvIdeal.τ).loc Cert.AdamGdnConvIdeal.main_v0_1)) (v2 : (c : Dev Cert.AdamGdnConvIdeal.nD) → Buf (Elt Ideal) ((c.tc : Thread Cert.AdamGdnConvIdeal.nD Cert.AdamGdnConvIdeal.τ).loc Cert.AdamGdnConvIdeal.main_v0_2)) (v3 : (c : Dev Cert.AdamGdnConvIdeal.nD) → Buf (Elt Ideal) ((c.tc : Thread Cert.AdamGdnConvIdeal.nD Cert.AdamGdnConvIdeal.τ).loc Cert.AdamGdnConvIdeal.main_v0_3)),
      θ_run (Cert.AdamGdnConvIdeal.defs (F := Ideal)) (onTc (τ := Cert.AdamGdnConvIdeal.τ) (Cert.AdamGdnConvIdeal.main (F := Ideal))) ⟨m, fun _ => 0, g⟩ (fun r => ∀ c : Dev Cert.AdamGdnConvIdeal.nD,
          r.2.mem ((c.tc : Thread Cert.AdamGdnConvIdeal.nD Cert.AdamGdnConvIdeal.τ).loc Cert.AdamGdnConvIdeal.main_v0_0) = v0 c
          ∧ r.2.mem ((c.tc : Thread Cert.AdamGdnConvIdeal.nD Cert.AdamGdnConvIdeal.τ).loc Cert.AdamGdnConvIdeal.main_v0_1) = v1 c
          ∧ r.2.mem ((c.tc : Thread Cert.AdamGdnConvIdeal.nD Cert.AdamGdnConvIdeal.τ).loc Cert.AdamGdnConvIdeal.main_v0_2) = v2 c
          ∧ r.2.mem ((c.tc : Thread Cert.AdamGdnConvIdeal.nD Cert.AdamGdnConvIdeal.τ).loc Cert.AdamGdnConvIdeal.main_v0_3) = v3 c
          ∧ r.2.mem ((c.tc : Thread Cert.AdamGdnConvIdeal.nD Cert.AdamGdnConvIdeal.τ).loc Cert.AdamGdnConvIdeal.main_arg0) = m ((c.tc : Thread Cert.AdamGdnConvIdeal.nD Cert.AdamGdnConvIdeal.τ).loc Cert.AdamGdnConvIdeal.main_arg0)
          ∧ r.2.mem ((c.tc : Thread Cert.AdamGdnConvIdeal.nD Cert.AdamGdnConvIdeal.τ).loc Cert.AdamGdnConvIdeal.main_arg1) = m ((c.tc : Thread Cert.AdamGdnConvIdeal.nD Cert.AdamGdnConvIdeal.τ).loc Cert.AdamGdnConvIdeal.main_arg1)
          ∧ r.2.mem ((c.tc : Thread Cert.AdamGdnConvIdeal.nD Cert.AdamGdnConvIdeal.τ).loc Cert.AdamGdnConvIdeal.main_arg2) = m ((c.tc : Thread Cert.AdamGdnConvIdeal.nD Cert.AdamGdnConvIdeal.τ).loc Cert.AdamGdnConvIdeal.main_arg2)
          ∧ r.2.mem ((c.tc : Thread Cert.AdamGdnConvIdeal.nD Cert.AdamGdnConvIdeal.τ).loc Cert.AdamGdnConvIdeal.main_arg3) = m ((c.tc : Thread Cert.AdamGdnConvIdeal.nD Cert.AdamGdnConvIdeal.τ).loc Cert.AdamGdnConvIdeal.main_arg3))
      ∧ θ_run (Cert.AdamGdnConvReferenceIdeal.defs (F := Ideal)) (onTc (τ := Cert.AdamGdnConvReferenceIdeal.τ) (Cert.AdamGdnConvReferenceIdeal.main (F := Ideal))) ⟨m', fun _ => 0, g'⟩ (fun r => ∀ c : Dev Cert.AdamGdnConvReferenceIdeal.nD,
          r.2.mem ((c.tc : Thread Cert.AdamGdnConvReferenceIdeal.nD Cert.AdamGdnConvReferenceIdeal.τ).loc Cert.AdamGdnConvReferenceIdeal.main_v1) = v0 c
          ∧ r.2.mem ((c.tc : Thread Cert.AdamGdnConvReferenceIdeal.nD Cert.AdamGdnConvReferenceIdeal.τ).loc Cert.AdamGdnConvReferenceIdeal.main_v25) = v1 c
          ∧ r.2.mem ((c.tc : Thread Cert.AdamGdnConvReferenceIdeal.nD Cert.AdamGdnConvReferenceIdeal.τ).loc Cert.AdamGdnConvReferenceIdeal.main_v6) = v2 c
          ∧ r.2.mem ((c.tc : Thread Cert.AdamGdnConvReferenceIdeal.nD Cert.AdamGdnConvReferenceIdeal.τ).loc Cert.AdamGdnConvReferenceIdeal.main_v12) = v3 c
          ∧ r.2.mem ((c.tc : Thread Cert.AdamGdnConvReferenceIdeal.nD Cert.AdamGdnConvReferenceIdeal.τ).loc Cert.AdamGdnConvReferenceIdeal.main_arg0) = m' ((c.tc : Thread Cert.AdamGdnConvReferenceIdeal.nD Cert.AdamGdnConvReferenceIdeal.τ).loc Cert.AdamGdnConvReferenceIdeal.main_arg0)
          ∧ r.2.mem ((c.tc : Thread Cert.AdamGdnConvReferenceIdeal.nD Cert.AdamGdnConvReferenceIdeal.τ).loc Cert.AdamGdnConvReferenceIdeal.main_arg1) = m' ((c.tc : Thread Cert.AdamGdnConvReferenceIdeal.nD Cert.AdamGdnConvReferenceIdeal.τ).loc Cert.AdamGdnConvReferenceIdeal.main_arg1)
          ∧ r.2.mem ((c.tc : Thread Cert.AdamGdnConvReferenceIdeal.nD Cert.AdamGdnConvReferenceIdeal.τ).loc Cert.AdamGdnConvReferenceIdeal.main_arg2) = m' ((c.tc : Thread Cert.AdamGdnConvReferenceIdeal.nD Cert.AdamGdnConvReferenceIdeal.τ).loc Cert.AdamGdnConvReferenceIdeal.main_arg2)
          ∧ r.2.mem ((c.tc : Thread Cert.AdamGdnConvReferenceIdeal.nD Cert.AdamGdnConvReferenceIdeal.τ).loc Cert.AdamGdnConvReferenceIdeal.main_arg3) = m' ((c.tc : Thread Cert.AdamGdnConvReferenceIdeal.nD Cert.AdamGdnConvReferenceIdeal.τ).loc Cert.AdamGdnConvReferenceIdeal.main_arg3))

def preserves_LruConv_LruConvIdeal : Prop :=
  True

def algebraic_LruConvIdeal_LruConvReferenceIdeal [hLruConvIdeal : Cert.LruConvIdeal.Facts] [hLruConvReferenceIdeal : Cert.LruConvReferenceIdeal.Facts] : Prop :=
  ∀ (m : (ℓ : Loc Cert.LruConvIdeal.nD Cert.LruConvIdeal.τ Cert.LruConvIdeal.sig) → Buf (Elt Ideal) ℓ) (g : Dev Cert.LruConvIdeal.nD → PrngReg)
    (m' : (ℓ : Loc Cert.LruConvReferenceIdeal.nD Cert.LruConvReferenceIdeal.τ Cert.LruConvReferenceIdeal.sig) → Buf (Elt Ideal) ℓ) (g' : Dev Cert.LruConvReferenceIdeal.nD → PrngReg), Pre_LruConvIdeal m →
    (∀ c : Dev Cert.LruConvIdeal.nD,
      m' ((c.tc : Thread Cert.LruConvReferenceIdeal.nD Cert.LruConvReferenceIdeal.τ).loc Cert.LruConvReferenceIdeal.main_arg0) = m ((c.tc : Thread Cert.LruConvIdeal.nD Cert.LruConvIdeal.τ).loc Cert.LruConvIdeal.main_arg0)
      ∧ m' ((c.tc : Thread Cert.LruConvReferenceIdeal.nD Cert.LruConvReferenceIdeal.τ).loc Cert.LruConvReferenceIdeal.main_arg1) = m ((c.tc : Thread Cert.LruConvIdeal.nD Cert.LruConvIdeal.τ).loc Cert.LruConvIdeal.main_arg1)
      ∧ m' ((c.tc : Thread Cert.LruConvReferenceIdeal.nD Cert.LruConvReferenceIdeal.τ).loc Cert.LruConvReferenceIdeal.main_arg2) = m ((c.tc : Thread Cert.LruConvIdeal.nD Cert.LruConvIdeal.τ).loc Cert.LruConvIdeal.main_arg2)) →
    ∃ (v0 : (c : Dev Cert.LruConvIdeal.nD) → Buf (Elt Ideal) ((c.tc : Thread Cert.LruConvIdeal.nD Cert.LruConvIdeal.τ).loc Cert.LruConvIdeal.main_v0)),
      θ_run (Cert.LruConvIdeal.defs (F := Ideal)) (onTc (τ := Cert.LruConvIdeal.τ) (Cert.LruConvIdeal.main (F := Ideal))) ⟨m, fun _ => 0, g⟩ (fun r => ∀ c : Dev Cert.LruConvIdeal.nD,
          r.2.mem ((c.tc : Thread Cert.LruConvIdeal.nD Cert.LruConvIdeal.τ).loc Cert.LruConvIdeal.main_v0) = v0 c
          ∧ r.2.mem ((c.tc : Thread Cert.LruConvIdeal.nD Cert.LruConvIdeal.τ).loc Cert.LruConvIdeal.main_arg0) = m ((c.tc : Thread Cert.LruConvIdeal.nD Cert.LruConvIdeal.τ).loc Cert.LruConvIdeal.main_arg0)
          ∧ r.2.mem ((c.tc : Thread Cert.LruConvIdeal.nD Cert.LruConvIdeal.τ).loc Cert.LruConvIdeal.main_arg1) = m ((c.tc : Thread Cert.LruConvIdeal.nD Cert.LruConvIdeal.τ).loc Cert.LruConvIdeal.main_arg1)
          ∧ r.2.mem ((c.tc : Thread Cert.LruConvIdeal.nD Cert.LruConvIdeal.τ).loc Cert.LruConvIdeal.main_arg2) = m ((c.tc : Thread Cert.LruConvIdeal.nD Cert.LruConvIdeal.τ).loc Cert.LruConvIdeal.main_arg2))
      ∧ θ_run (Cert.LruConvReferenceIdeal.defs (F := Ideal)) (onTc (τ := Cert.LruConvReferenceIdeal.τ) (Cert.LruConvReferenceIdeal.main (F := Ideal))) ⟨m', fun _ => 0, g'⟩ (fun r => ∀ c : Dev Cert.LruConvReferenceIdeal.nD,
          r.2.mem ((c.tc : Thread Cert.LruConvReferenceIdeal.nD Cert.LruConvReferenceIdeal.τ).loc Cert.LruConvReferenceIdeal.main_v32) = v0 c
          ∧ r.2.mem ((c.tc : Thread Cert.LruConvReferenceIdeal.nD Cert.LruConvReferenceIdeal.τ).loc Cert.LruConvReferenceIdeal.main_arg0) = m' ((c.tc : Thread Cert.LruConvReferenceIdeal.nD Cert.LruConvReferenceIdeal.τ).loc Cert.LruConvReferenceIdeal.main_arg0)
          ∧ r.2.mem ((c.tc : Thread Cert.LruConvReferenceIdeal.nD Cert.LruConvReferenceIdeal.τ).loc Cert.LruConvReferenceIdeal.main_arg1) = m' ((c.tc : Thread Cert.LruConvReferenceIdeal.nD Cert.LruConvReferenceIdeal.τ).loc Cert.LruConvReferenceIdeal.main_arg1)
          ∧ r.2.mem ((c.tc : Thread Cert.LruConvReferenceIdeal.nD Cert.LruConvReferenceIdeal.τ).loc Cert.LruConvReferenceIdeal.main_arg2) = m' ((c.tc : Thread Cert.LruConvReferenceIdeal.nD Cert.LruConvReferenceIdeal.τ).loc Cert.LruConvReferenceIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDact : Cert.Dact.Facts) (hDactIdeal : Cert.DactIdeal.Facts) (hDactReferenceIdeal : Cert.DactReferenceIdeal.Facts) (hDwd : Cert.Dwd.Facts) (hDwdIdeal : Cert.DwdIdeal.Facts) (hDwdReferenceIdeal : Cert.DwdReferenceIdeal.Facts) (hDwu : Cert.Dwu.Facts) (hDwuIdeal : Cert.DwuIdeal.Facts) (hDwuReferenceIdeal : Cert.DwuReferenceIdeal.Facts) (hDh : Cert.Dh.Facts) (hDhIdeal : Cert.DhIdeal.Facts) (hDhReferenceIdeal : Cert.DhReferenceIdeal.Facts) (hInEven : Cert.InEven.Facts) (hInEvenIdeal : Cert.InEvenIdeal.Facts) (hInEvenReferenceIdeal : Cert.InEvenReferenceIdeal.Facts) (hInOdd : Cert.InOdd.Facts) (hInOddIdeal : Cert.InOddIdeal.Facts) (hInOddReferenceIdeal : Cert.InOddReferenceIdeal.Facts) (hInEvenDw : Cert.InEvenDw.Facts) (hInEvenDwIdeal : Cert.InEvenDwIdeal.Facts) (hInEvenDwReferenceIdeal : Cert.InEvenDwReferenceIdeal.Facts) (hInOddDw : Cert.InOddDw.Facts) (hInOddDwIdeal : Cert.InOddDwIdeal.Facts) (hInOddDwReferenceIdeal : Cert.InOddDwReferenceIdeal.Facts) (hOutDw : Cert.OutDw.Facts) (hOutDwIdeal : Cert.OutDwIdeal.Facts) (hOutDwReferenceIdeal : Cert.OutDwReferenceIdeal.Facts) (hOutDx : Cert.OutDx.Facts) (hOutDxIdeal : Cert.OutDxIdeal.Facts) (hOutDxReferenceIdeal : Cert.OutDxReferenceIdeal.Facts) (hOut : Cert.Out.Facts) (hOutIdeal : Cert.OutIdeal.Facts) (hOutReferenceIdeal : Cert.OutReferenceIdeal.Facts) (hDown : Cert.Down.Facts) (hDownIdeal : Cert.DownIdeal.Facts) (hDownReferenceIdeal : Cert.DownReferenceIdeal.Facts) (hInEvenDx : Cert.InEvenDx.Facts) (hInEvenDxIdeal : Cert.InEvenDxIdeal.Facts) (hInEvenDxReferenceIdeal : Cert.InEvenDxReferenceIdeal.Facts) (hInOddDx : Cert.InOddDx.Facts) (hInOddDxIdeal : Cert.InOddDxIdeal.Facts) (hInOddDxReferenceIdeal : Cert.InOddDxReferenceIdeal.Facts) (hHead : Cert.Head.Facts) (hHeadIdeal : Cert.HeadIdeal.Facts) (hHeadReferenceIdeal : Cert.HeadReferenceIdeal.Facts) (hAdamIn : Cert.AdamIn.Facts) (hAdamInIdeal : Cert.AdamInIdeal.Facts) (hAdamInReferenceIdeal : Cert.AdamInReferenceIdeal.Facts) (hAdamUp : Cert.AdamUp.Facts) (hAdamUpIdeal : Cert.AdamUpIdeal.Facts) (hAdamUpReferenceIdeal : Cert.AdamUpReferenceIdeal.Facts) (hAdamUp0 : Cert.AdamUp0.Facts) (hAdamUp0Ideal : Cert.AdamUp0Ideal.Facts) (hAdamUp0ReferenceIdeal : Cert.AdamUp0ReferenceIdeal.Facts) (hAdamDown : Cert.AdamDown.Facts) (hAdamDownIdeal : Cert.AdamDownIdeal.Facts) (hAdamDownReferenceIdeal : Cert.AdamDownReferenceIdeal.Facts) (hAdamOut : Cert.AdamOut.Facts) (hAdamOutIdeal : Cert.AdamOutIdeal.Facts) (hAdamOutReferenceIdeal : Cert.AdamOutReferenceIdeal.Facts) (hAdamSmall : Cert.AdamSmall.Facts) (hAdamSmallIdeal : Cert.AdamSmallIdeal.Facts) (hAdamSmallReferenceIdeal : Cert.AdamSmallReferenceIdeal.Facts) (hAdamDown0 : Cert.AdamDown0.Facts) (hAdamDown0Ideal : Cert.AdamDown0Ideal.Facts) (hAdamDown0ReferenceIdeal : Cert.AdamDown0ReferenceIdeal.Facts) (hAdamNorm : Cert.AdamNorm.Facts) (hAdamNormIdeal : Cert.AdamNormIdeal.Facts) (hAdamNormReferenceIdeal : Cert.AdamNormReferenceIdeal.Facts) (hAdamLruConv : Cert.AdamLruConv.Facts) (hAdamLruConvIdeal : Cert.AdamLruConvIdeal.Facts) (hAdamLruConvReferenceIdeal : Cert.AdamLruConvReferenceIdeal.Facts) (hAdamGdnConv : Cert.AdamGdnConv.Facts) (hAdamGdnConvIdeal : Cert.AdamGdnConvIdeal.Facts) (hAdamGdnConvReferenceIdeal : Cert.AdamGdnConvReferenceIdeal.Facts) (hLruConv : Cert.LruConv.Facts) (hLruConvIdeal : Cert.LruConvIdeal.Facts) (hLruConvReferenceIdeal : Cert.LruConvReferenceIdeal.Facts) (hPre_finite : Cert.Pre_finite.Facts) (hOn_written : Cert.On_written.Facts) (hOn_first_layer : Cert.On_first_layer.Facts) (hOn_first_layer_down : Cert.On_first_layer_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_Dact (hDact := hDact)
    ∧ quiescent_DactIdeal (hDactIdeal := hDactIdeal)
    ∧ quiescent_DactReferenceIdeal (hDactReferenceIdeal := hDactReferenceIdeal)
    ∧ quiescent_Dwd (hDwd := hDwd)
    ∧ quiescent_DwdIdeal (hDwdIdeal := hDwdIdeal)
    ∧ quiescent_DwdReferenceIdeal (hDwdReferenceIdeal := hDwdReferenceIdeal)
    ∧ quiescent_Dwu (hDwu := hDwu)
    ∧ quiescent_DwuIdeal (hDwuIdeal := hDwuIdeal)
    ∧ quiescent_DwuReferenceIdeal (hDwuReferenceIdeal := hDwuReferenceIdeal)
    ∧ quiescent_Dh (hDh := hDh)
    ∧ quiescent_DhIdeal (hDhIdeal := hDhIdeal)
    ∧ quiescent_DhReferenceIdeal (hDhReferenceIdeal := hDhReferenceIdeal)
    ∧ quiescent_InEven (hInEven := hInEven)
    ∧ quiescent_InEvenIdeal (hInEvenIdeal := hInEvenIdeal)
    ∧ quiescent_InEvenReferenceIdeal (hInEvenReferenceIdeal := hInEvenReferenceIdeal)
    ∧ quiescent_InOdd (hInOdd := hInOdd)
    ∧ quiescent_InOddIdeal (hInOddIdeal := hInOddIdeal)
    ∧ quiescent_InOddReferenceIdeal (hInOddReferenceIdeal := hInOddReferenceIdeal)
    ∧ quiescent_InEvenDw (hInEvenDw := hInEvenDw)
    ∧ quiescent_InEvenDwIdeal (hInEvenDwIdeal := hInEvenDwIdeal)
    ∧ quiescent_InEvenDwReferenceIdeal (hInEvenDwReferenceIdeal := hInEvenDwReferenceIdeal)
    ∧ quiescent_InOddDw (hInOddDw := hInOddDw)
    ∧ quiescent_InOddDwIdeal (hInOddDwIdeal := hInOddDwIdeal)
    ∧ quiescent_InOddDwReferenceIdeal (hInOddDwReferenceIdeal := hInOddDwReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_Out (hOut := hOut)
    ∧ quiescent_OutIdeal (hOutIdeal := hOutIdeal)
    ∧ quiescent_OutReferenceIdeal (hOutReferenceIdeal := hOutReferenceIdeal)
    ∧ quiescent_Down (hDown := hDown)
    ∧ quiescent_DownIdeal (hDownIdeal := hDownIdeal)
    ∧ quiescent_DownReferenceIdeal (hDownReferenceIdeal := hDownReferenceIdeal)
    ∧ quiescent_InEvenDx (hInEvenDx := hInEvenDx)
    ∧ quiescent_InEvenDxIdeal (hInEvenDxIdeal := hInEvenDxIdeal)
    ∧ quiescent_InEvenDxReferenceIdeal (hInEvenDxReferenceIdeal := hInEvenDxReferenceIdeal)
    ∧ quiescent_InOddDx (hInOddDx := hInOddDx)
    ∧ quiescent_InOddDxIdeal (hInOddDxIdeal := hInOddDxIdeal)
    ∧ quiescent_InOddDxReferenceIdeal (hInOddDxReferenceIdeal := hInOddDxReferenceIdeal)
    ∧ quiescent_Head (hHead := hHead)
    ∧ quiescent_HeadIdeal (hHeadIdeal := hHeadIdeal)
    ∧ quiescent_HeadReferenceIdeal (hHeadReferenceIdeal := hHeadReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamUp0 (hAdamUp0 := hAdamUp0)
    ∧ quiescent_AdamUp0Ideal (hAdamUp0Ideal := hAdamUp0Ideal)
    ∧ quiescent_AdamUp0ReferenceIdeal (hAdamUp0ReferenceIdeal := hAdamUp0ReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AdamDown0 (hAdamDown0 := hAdamDown0)
    ∧ quiescent_AdamDown0Ideal (hAdamDown0Ideal := hAdamDown0Ideal)
    ∧ quiescent_AdamDown0ReferenceIdeal (hAdamDown0ReferenceIdeal := hAdamDown0ReferenceIdeal)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamLruConv (hAdamLruConv := hAdamLruConv)
    ∧ quiescent_AdamLruConvIdeal (hAdamLruConvIdeal := hAdamLruConvIdeal)
    ∧ quiescent_AdamLruConvReferenceIdeal (hAdamLruConvReferenceIdeal := hAdamLruConvReferenceIdeal)
    ∧ quiescent_AdamGdnConv (hAdamGdnConv := hAdamGdnConv)
    ∧ quiescent_AdamGdnConvIdeal (hAdamGdnConvIdeal := hAdamGdnConvIdeal)
    ∧ quiescent_AdamGdnConvReferenceIdeal (hAdamGdnConvReferenceIdeal := hAdamGdnConvReferenceIdeal)
    ∧ quiescent_LruConv (hLruConv := hLruConv)
    ∧ quiescent_LruConvIdeal (hLruConvIdeal := hLruConvIdeal)
    ∧ quiescent_LruConvReferenceIdeal (hLruConvReferenceIdeal := hLruConvReferenceIdeal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Up_UpIdeal
    ∧ algebraic_UpIdeal_UpReferenceIdeal (hUpIdeal := hUpIdeal) (hUpReferenceIdeal := hUpReferenceIdeal)
    ∧ preserves_Dact_DactIdeal
    ∧ algebraic_DactIdeal_DactReferenceIdeal (hDactIdeal := hDactIdeal) (hDactReferenceIdeal := hDactReferenceIdeal)
    ∧ preserves_Dwd_DwdIdeal
    ∧ algebraic_DwdIdeal_DwdReferenceIdeal (hDwdIdeal := hDwdIdeal) (hDwdReferenceIdeal := hDwdReferenceIdeal)
    ∧ preserves_Dwu_DwuIdeal
    ∧ algebraic_DwuIdeal_DwuReferenceIdeal (hDwuIdeal := hDwuIdeal) (hDwuReferenceIdeal := hDwuReferenceIdeal)
    ∧ preserves_Dh_DhIdeal
    ∧ algebraic_DhIdeal_DhReferenceIdeal (hDhIdeal := hDhIdeal) (hDhReferenceIdeal := hDhReferenceIdeal)
    ∧ preserves_InEven_InEvenIdeal
    ∧ algebraic_InEvenIdeal_InEvenReferenceIdeal (hInEvenIdeal := hInEvenIdeal) (hInEvenReferenceIdeal := hInEvenReferenceIdeal)
    ∧ preserves_InOdd_InOddIdeal
    ∧ algebraic_InOddIdeal_InOddReferenceIdeal (hInOddIdeal := hInOddIdeal) (hInOddReferenceIdeal := hInOddReferenceIdeal)
    ∧ preserves_InEvenDw_InEvenDwIdeal
    ∧ algebraic_InEvenDwIdeal_InEvenDwReferenceIdeal (hInEvenDwIdeal := hInEvenDwIdeal) (hInEvenDwReferenceIdeal := hInEvenDwReferenceIdeal)
    ∧ preserves_InOddDw_InOddDwIdeal
    ∧ algebraic_InOddDwIdeal_InOddDwReferenceIdeal (hInOddDwIdeal := hInOddDwIdeal) (hInOddDwReferenceIdeal := hInOddDwReferenceIdeal)
    ∧ preserves_OutDw_OutDwIdeal
    ∧ algebraic_OutDwIdeal_OutDwReferenceIdeal (hOutDwIdeal := hOutDwIdeal) (hOutDwReferenceIdeal := hOutDwReferenceIdeal)
    ∧ preserves_OutDx_OutDxIdeal
    ∧ algebraic_OutDxIdeal_OutDxReferenceIdeal (hOutDxIdeal := hOutDxIdeal) (hOutDxReferenceIdeal := hOutDxReferenceIdeal)
    ∧ preserves_Out_OutIdeal
    ∧ algebraic_OutIdeal_OutReferenceIdeal (hOutIdeal := hOutIdeal) (hOutReferenceIdeal := hOutReferenceIdeal)
    ∧ preserves_Down_DownIdeal
    ∧ algebraic_DownIdeal_DownReferenceIdeal (hDownIdeal := hDownIdeal) (hDownReferenceIdeal := hDownReferenceIdeal)
    ∧ preserves_InEvenDx_InEvenDxIdeal
    ∧ algebraic_InEvenDxIdeal_InEvenDxReferenceIdeal (hInEvenDxIdeal := hInEvenDxIdeal) (hInEvenDxReferenceIdeal := hInEvenDxReferenceIdeal)
    ∧ preserves_InOddDx_InOddDxIdeal
    ∧ algebraic_InOddDxIdeal_InOddDxReferenceIdeal (hInOddDxIdeal := hInOddDxIdeal) (hInOddDxReferenceIdeal := hInOddDxReferenceIdeal)
    ∧ preserves_Head_HeadIdeal
    ∧ algebraic_HeadIdeal_HeadReferenceIdeal (hHeadIdeal := hHeadIdeal) (hHeadReferenceIdeal := hHeadReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamUp0_AdamUp0Ideal
    ∧ algebraic_AdamUp0Ideal_AdamUp0ReferenceIdeal_on_first_layer (hAdamUp0Ideal := hAdamUp0Ideal) (hAdamUp0ReferenceIdeal := hAdamUp0ReferenceIdeal) (hOn_first_layer := hOn_first_layer)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AdamDown0_AdamDown0Ideal
    ∧ algebraic_AdamDown0Ideal_AdamDown0ReferenceIdeal_on_first_layer_down (hAdamDown0Ideal := hAdamDown0Ideal) (hAdamDown0ReferenceIdeal := hAdamDown0ReferenceIdeal) (hOn_first_layer_down := hOn_first_layer_down)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamLruConv_AdamLruConvIdeal
    ∧ algebraic_AdamLruConvIdeal_AdamLruConvReferenceIdeal (hAdamLruConvIdeal := hAdamLruConvIdeal) (hAdamLruConvReferenceIdeal := hAdamLruConvReferenceIdeal)
    ∧ preserves_AdamGdnConv_AdamGdnConvIdeal
    ∧ algebraic_AdamGdnConvIdeal_AdamGdnConvReferenceIdeal (hAdamGdnConvIdeal := hAdamGdnConvIdeal) (hAdamGdnConvReferenceIdeal := hAdamGdnConvReferenceIdeal)
    ∧ preserves_LruConv_LruConvIdeal
    ∧ algebraic_LruConvIdeal_LruConvReferenceIdeal (hLruConvIdeal := hLruConvIdeal) (hLruConvReferenceIdeal := hLruConvReferenceIdeal)
-- ==== On_first_layer.lean ====
abbrev S2x1024x512 : Shape := ⟨3, ![2, 1024, 512]⟩
abbrev S8x1024x512 : Shape := ⟨3, ![8, 1024, 512]⟩
abbrev S_ : Shape := ⟨0, ![]⟩

class Facts : Prop where
  bcast_S_S2x1024x512 : S_.BroadcastsInDim S2x1024x512 (![] : Fin 0 → Fin S2x1024x512.rank)

variable [Facts]

def fn {F : FTy → Type} [FloatOps F] (main_arg0 : FVec F S2x1024x512 .f32) (main_arg1 : FVec F S8x1024x512 .bf16) (main_arg2 : FVec F S2x1024x512 .f32) (main_arg3 : FVec F S2x1024x512 .f32) : IVec S2x1024x512 1 × IVec S2x1024x512 1 × IVec S2x1024x512 1 × IVec S2x1024x512 1 :=
  let main_v0 : IVec S2x1024x512 32 := iotaInDim S2x1024x512 32 0
  let main_c : IVec S_ 32 := constantI S_ 32 1#32
  let main_v1 : IVec S2x1024x512 32 := broadcastInDim S2x1024x512 ![] bcast_S_S2x1024x512 main_c
  let main_v2 : IVec S2x1024x512 1 := cmpi .slt main_v0 main_v1
  (main_v2, main_v2, main_v2, main_v2)
-- ==== On_first_layer_down.lean ====
abbrev S2x512x1024 : Shape := ⟨3, ![2, 512, 1024]⟩
abbrev S8x512x1024 : Shape := ⟨3, ![8, 512, 1024]⟩
abbrev S_ : Shape := ⟨0, ![]⟩

class Facts : Prop where
  bcast_S_S2x512x1024 : S_.BroadcastsInDim S2x512x1024 (![] : Fin 0 → Fin S2x512x1024.rank)

variable [Facts]

def fn {F : FTy → Type} [FloatOps F] (main_arg0 : FVec F S2x512x1024 .f32) (main_arg1 : FVec F S8x512x1024 .bf16) (main_arg2 : FVec F S2x512x1024 .f32) (main_arg3 : FVec F S2x512x1024 .f32) : IVec S2x512x1024 1 × IVec S2x512x1024 1 × IVec S2x512x1024 1 × IVec S2x512x1024 1 :=
  let main_v0 : IVec S2x512x1024 32 := iotaInDim S2x512x1024 32 0
  let main_c : IVec S_ 32 := constantI S_ 32 1#32
  let main_v1 : IVec S2x512x1024 32 := broadcastInDim S2x512x1024 ![] bcast_S_S2x512x1024 main_c
  let main_v2 : IVec S2x512x1024 1 := cmpi .slt main_v0 main_v1
  (main_v2, main_v2, main_v2, main_v2)
-- ==== On_written.lean ====
abbrev S4096x3072 : Shape := ⟨2, ![4096, 3072]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)

variable [Facts]

def fn {F : FTy → Type} [FloatOps F] (main_arg0 : FVec F S4096x3072 .f32) (main_arg1 : FVec F S4096x1024 .f32) : IVec S4096x3072 1 :=
  let main_v0 : IVec S4096x3072 32 := iotaInDim S4096x3072 32 1
  let main_c : IVec S_ 32 := constantI S_ 32 2048#32
  let main_v1 : IVec S4096x3072 32 := broadcastInDim S4096x3072 ![] bcast_S_S4096x3072 main_c
  let main_v2 : IVec S4096x3072 1 := cmpi .slt main_v0 main_v1
  main_v2
-- ==== Pre_finite.lean ====
abbrev S4096x3072 : Shape := ⟨2, ![4096, 3072]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  bcast_S_S4096x1024 : S_.BroadcastsInDim S4096x1024 (![] : Fin 0 → Fin S4096x1024.rank)

variable [Facts]

def fn {F : FTy → Type} [FloatOps F] (main_arg0 : FVec F S4096x3072 .f32) (main_arg1 : FVec F S4096x1024 .f32) : IVec S4096x3072 1 × IVec S4096x1024 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Kernel.lean ====
abbrev S4096x3072 : Shape := ⟨2, ![4096, 3072]⟩
abbrev S4096x1024 : Shape := ⟨2, ![4096, 1024]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128x128 : Shape := ⟨4, ![4, 1, 128, 128]⟩
abbrev S4x4x128x128 : Shape := ⟨4, ![4, 4, 128, 128]⟩
abbrev S4096x512 : Shape := ⟨2, ![4096, 512]⟩
abbrev S4096x4x128 : Shape := ⟨3, ![4096, 4, 128]⟩
abbrev S4096x1x64 : Shape := ⟨3, ![4096, 1, 64]⟩
abbrev S4096x4x64 : Shape := ⟨3, ![4096, 4, 64]⟩
abbrev S1x4096 : Shape := ⟨2, ![1, 4096]⟩
abbrev S4096x4096 : Shape := ⟨2, ![4096, 4096]⟩
abbrev S1x4096x4096 : Shape := ⟨3, ![1, 4096, 4096]⟩
abbrev S4x4096x4096 : Shape := ⟨3, ![4, 4096, 4096]⟩
abbrev S4x128x4096 : Shape := ⟨3, ![4, 128, 4096]⟩
abbrev S32 : Shape := ⟨1, ![32]⟩
abbrev S32x1 : Shape := ⟨2, ![32, 1]⟩
abbrev S32x4096 : Shape := ⟨2, ![32, 4096]⟩
abbrev S32x4096x1 : Shape := ⟨3, ![32, 4096, 1]⟩
abbrev S1x1x4 : Shape := ⟨3, ![1, 1, 4]⟩
abbrev S32x4096x4 : Shape := ⟨3, ![32, 4096, 4]⟩
abbrev S32x4096x4x1 : Shape := ⟨4, ![32, 4096, 4, 1]⟩
abbrev S1x4096x4x128 : Shape := ⟨4, ![1, 4096, 4, 128]⟩
abbrev S32x4096x4x128 : Shape := ⟨4, ![32, 4096, 4, 128]⟩
abbrev S4x128x32x128 : Shape := ⟨4, ![4, 128, 32, 128]⟩
abbrev S32x4x128x128 : Shape := ⟨4, ![32, 4, 128, 128]⟩
abbrev S512x512 : Shape := ⟨2, ![512, 512]⟩
abbrev S512x128 : Shape := ⟨2, ![512, 128]⟩
abbrev S512x2048 : Shape := ⟨2, ![512, 2048]⟩
abbrev S128x512 : Shape := ⟨2, ![128, 512]⟩
abbrev S1x4x128x128 : Shape := ⟨4, ![1, 4, 128, 128]⟩

abbrev nBuf : Space → Nat
  | .hbm => 253
  | .vmem => 22
  | .smem => 0
  | _ => 0

abbrev hbmTy0_0 (i : Nat) : BufTy := match i % 128 with
  | 0 => ⟨S4096x3072, .f32⟩
  | 1 => ⟨S4096x1024, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S4096, .f32⟩
  | 11 => ⟨S4096x1, .f32⟩
  | 12 => ⟨S1x64, .f32⟩
  | 13 => ⟨S4096x64, .f32⟩
  | 14 => ⟨S4096x64, .f32⟩
  | 15 => ⟨S4096x64, .f32⟩
  | 16 => ⟨S4096x64, .f32⟩
  | 17 => ⟨S4096x64, .f32⟩
  | 18 => ⟨S4096x128, .f32⟩
  | 19 => ⟨S4096x64, .f32⟩
  | 20 => ⟨S4096x128, .f32⟩
  | 21 => ⟨S4, .f32⟩
  | 22 => ⟨S_, .f32⟩
  | 23 => ⟨S4, .f32⟩
  | 24 => ⟨S4, .f32⟩
  | 25 => ⟨S_, .f32⟩
  | 26 => ⟨S4, .f32⟩
  | 27 => ⟨S4, .f32⟩
  | 28 => ⟨S4, .f32⟩
  | 29 => ⟨S4, .f32⟩
  | 30 => ⟨S4, .f32⟩
  | 31 => ⟨S128, .f32⟩
  | 32 => ⟨S128x1, .f32⟩
  | 33 => ⟨S1x128, .f32⟩
  | 34 => ⟨S128x128, .f32⟩
  | 35 => ⟨S128x128, .f32⟩
  | 36 => ⟨S128x128, .f32⟩
  | 37 => ⟨S_, .f32⟩
  | 38 => ⟨S128x128, .f32⟩
  | 39 => ⟨S128x128, .i1⟩
  | 40 => ⟨S1x128x128, .i1⟩
  | 41 => ⟨S4x1x1, .f32⟩
  | 42 => ⟨S_, .f32⟩
  | 43 => ⟨S_, .f32⟩
  | 44 => ⟨S128x128, .f32⟩
  | 45 => ⟨S128x128, .f32⟩
  | 46 => ⟨S1x128x128, .f32⟩
  | 47 => ⟨S4x128x128, .f32⟩
  | 48 => ⟨S4x128x128, .f32⟩
  | 49 => ⟨S4x128x128, .f32⟩
  | 50 => ⟨S4x128x128, .f32⟩
  | 51 => ⟨S_, .f32⟩
  | 52 => ⟨S_, .f32⟩
  | 53 => ⟨S4x128x128, .i1⟩
  | 54 => ⟨S4x128x128, .f32⟩
  | 55 => ⟨S4x128x128, .f32⟩
  | 56 => ⟨S4x1, .f32⟩
  | 57 => ⟨S1x128, .f32⟩
  | 58 => ⟨S_, .f32⟩
  | 59 => ⟨S1x128, .f32⟩
  | 60 => ⟨S1x128, .f32⟩
  | 61 => ⟨S4x128, .f32⟩
  | 62 => ⟨S4x128, .f32⟩
  | 63 => ⟨S4x128, .f32⟩
  | 64 => ⟨S4x128, .f32⟩
  | 65 => ⟨S4x1, .f32⟩
  | 66 => ⟨S1x128, .f32⟩
  | 67 => ⟨S_, .f32⟩
  | 68 => ⟨S1x128, .f32⟩
  | 69 => ⟨S1x128, .f32⟩
  | 70 => ⟨S4x128, .f32⟩
  | 71 => ⟨S4x128, .f32⟩
  | 72 => ⟨S4x128, .f32⟩
  | 73 => ⟨S4x128, .f32⟩
  | 74 => ⟨S_, .f32⟩
  | 75 => ⟨S4, .f32⟩
  | 76 => ⟨S4, .f32⟩
  | 77 => ⟨S4, .f32⟩
  | 78 => ⟨S4x128x1, .f32⟩
  | 79 => ⟨S4x128x128, .f32⟩
  | 80 => ⟨S4x128x1, .f32⟩
  | 81 => ⟨S4x128x128, .f32⟩
  | 82 => ⟨S4x1x1, .f32⟩
  | 83 => ⟨S4x128x128, .f32⟩
  | 84 => ⟨S4x1x128x128, .f32⟩
  | 85 => ⟨S4x1x128x128, .f32⟩
  | 86 => ⟨S4x1x128x128, .f32⟩
  | 87 => ⟨S4x1x128x128, .f32⟩
  | 88 => ⟨S4x4x128x128, .f32⟩
  | 89 => ⟨S4096x512, .f32⟩
  | 90 => ⟨S4096x512, .f32⟩
  | 91 => ⟨S4096x512, .f32⟩
  | 92 => ⟨S4096x512, .f32⟩
  | 93 => ⟨S4096x4x128, .f32⟩
  | 94 => ⟨S64, .f32⟩
  | 95 => ⟨S64, .f32⟩
  | 96 => ⟨S_, .f32⟩
  | 97 => ⟨S64, .f32⟩
  | 98 => ⟨S64, .f32⟩
  | 99 => ⟨S_, .f32⟩
  | 100 => ⟨S64, .f32⟩
  | 101 => ⟨S64, .f32⟩
  | 102 => ⟨S4096, .f32⟩
  | 103 => ⟨S4096x1, .f32⟩
  | 104 => ⟨S1x64, .f32⟩
  | 105 => ⟨S4096x64, .f32⟩
  | 106 => ⟨S4096x64, .f32⟩
  | 107 => ⟨S4096x64, .f32⟩
  | 108 => ⟨S4096x64, .f32⟩
  | 109 => ⟨S4096x1x64, .f32⟩
  | 110 => ⟨S4096x64, .f32⟩
  | 111 => ⟨S4096x1x64, .f32⟩
  | 112 => ⟨S4096x4x64, .f32⟩
  | 113 => ⟨S4096x4x64, .f32⟩
  | 114 => ⟨S4096x4x64, .f32⟩
  | 115 => ⟨S4096x4x64, .f32⟩
  | 116 => ⟨S4096x4x64, .f32⟩
  | 117 => ⟨S4096x4x64, .f32⟩
  | 118 => ⟨S4096x4x64, .f32⟩
  | 119 => ⟨S4096x4x64, .f32⟩
  | 120 => ⟨S4096x4x64, .f32⟩
  | 121 => ⟨S4096x4x64, .f32⟩
  | 122 => ⟨S4096x4x64, .f32⟩
  | 123 => ⟨S4096x4x64, .f32⟩
  | 124 => ⟨S4096x4x128, .f32⟩
  | 125 => ⟨S4096x4x128, .f32⟩
  | 126 => ⟨S64, .f32⟩
  | 127 => ⟨S64, .f32⟩
  | _ => ⟨S4096x3072, .f32⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S4096, .f32⟩
  | 7 => ⟨S4096x1, .f32⟩
  | 8 => ⟨S1x64, .f32⟩
  | 9 => ⟨S4096x64, .f32⟩
  | 10 => ⟨S4096x64, .f32⟩
  | 11 => ⟨S4096x64, .f32⟩
  | 12 => ⟨S4096x64, .f32⟩
  | 13 => ⟨S4096x1x64, .f32⟩
  | 14 => ⟨S4096x64, .f32⟩
  | 15 => ⟨S4096x1x64, .f32⟩
  | 16 => ⟨S4096x4x64, .f32⟩
  | 17 => ⟨S4096x4x64, .f32⟩
  | 18 => ⟨S4096x4x64, .f32⟩
  | 19 => ⟨S4096x4x64, .f32⟩
  | 20 => ⟨S4096x4x64, .f32⟩
  | 21 => ⟨S4096x4x64, .f32⟩
  | 22 => ⟨S4096x4x64, .f32⟩
  | 23 => ⟨S4096x4x64, .f32⟩
  | 24 => ⟨S4096x4x64, .f32⟩
  | 25 => ⟨S4096x4x64, .f32⟩
  | 26 => ⟨S4096x4x64, .f32⟩
  | 27 => ⟨S4096x4x64, .f32⟩
  | 28 => ⟨S4096x4x128, .f32⟩
  | 29 => ⟨S4096x4x128, .f32⟩
  | 30 => ⟨S4096, .f32⟩
  | 31 => ⟨S4096x1, .f32⟩
  | 32 => ⟨S1x4096, .f32⟩
  | 33 => ⟨S4096x4096, .f32⟩
  | 34 => ⟨S4096x4096, .f32⟩
  | 35 => ⟨S4096x4096, .f32⟩
  | 36 => ⟨S_, .f32⟩
  | 37 => ⟨S4096x4096, .f32⟩
  | 38 => ⟨S4096x4096, .i1⟩
  | 39 => ⟨S4, .f32⟩
  | 40 => ⟨S_, .f32⟩
  | 41 => ⟨S4, .f32⟩
  | 42 => ⟨S4, .f32⟩
  | 43 => ⟨S_, .f32⟩
  | 44 => ⟨S4, .f32⟩
  | 45 => ⟨S4, .f32⟩
  | 46 => ⟨S4, .f32⟩
  | 47 => ⟨S4, .f32⟩
  | 48 => ⟨S4, .f32⟩
  | 49 => ⟨S4x1x1, .f32⟩
  | 50 => ⟨S_, .f32⟩
  | 51 => ⟨S_, .f32⟩
  | 52 => ⟨S4096x4096, .f32⟩
  | 53 => ⟨S4096x4096, .f32⟩
  | 54 => ⟨S1x4096x4096, .f32⟩
  | 55 => ⟨S4x4096x4096, .f32⟩
  | 56 => ⟨S4x4096x4096, .f32⟩
  | 57 => ⟨S4x4096x4096, .f32⟩
  | 58 => ⟨S4x4096x4096, .f32⟩
  | 59 => ⟨S_, .f32⟩
  | 60 => ⟨S_, .f32⟩
  | 61 => ⟨S4x4096x4096, .i1⟩
  | 62 => ⟨S4x4096x4096, .f32⟩
  | 63 => ⟨S4x4096x4096, .f32⟩
  | 64 => ⟨S_, .f32⟩
  | 65 => ⟨S4096x4x128, .f32⟩
  | 66 => ⟨S4096x4x128, .f32⟩
  | 67 => ⟨S4x4096x4096, .f32⟩
  | 68 => ⟨S4x4096x4096, .f32⟩
  | 69 => ⟨S4x128x4096, .f32⟩
  | 70 => ⟨S4096x4x128, .f32⟩
  | 71 => ⟨S4096x512, .f32⟩
  | 72 => ⟨S32, .f32⟩
  | 73 => ⟨S_, .f32⟩
  | 74 => ⟨S32, .f32⟩
  | 75 => ⟨S32, .f32⟩
  | 76 => ⟨S32x1, .f32⟩
  | 77 => ⟨S_, .f32⟩
  | 78 => ⟨S32x1, .f32⟩
  | 79 => ⟨S32x1, .f32⟩
  | 80 => ⟨S4096, .f32⟩
  | 81 => ⟨S1x4096, .f32⟩
  | 82 => ⟨S32x4096, .f32⟩
  | 83 => ⟨S32x4096, .f32⟩
  | 84 => ⟨S32x4096, .f32⟩
  | 85 => ⟨S_, .f32⟩
  | 86 => ⟨S32x4096, .f32⟩
  | 87 => ⟨S32x4096, .i1⟩
  | 88 => ⟨S32x4096x1, .i1⟩
  | 89 => ⟨S4, .f32⟩
  | 90 => ⟨S_, .f32⟩
  | 91 => ⟨S4, .f32⟩
  | 92 => ⟨S4, .f32⟩
  | 93 => ⟨S_, .f32⟩
  | 94 => ⟨S4, .f32⟩
  | 95 => ⟨S4, .f32⟩
  | 96 => ⟨S4, .f32⟩
  | 97 => ⟨S4, .f32⟩
  | 98 => ⟨S4, .f32⟩
  | 99 => ⟨S_, .f32⟩
  | 100 => ⟨S_, .f32⟩
  | 101 => ⟨S32x4096, .f32⟩
  | 102 => ⟨S32x4096, .f32⟩
  | 103 => ⟨S32x4096x1, .f32⟩
  | 104 => ⟨S1x1x4, .f32⟩
  | 105 => ⟨S32x4096x4, .f32⟩
  | 106 => ⟨S32x4096x4, .f32⟩
  | 107 => ⟨S32x4096x4, .f32⟩
  | 108 => ⟨S32x4096x4, .f32⟩
  | 109 => ⟨S_, .f32⟩
  | 110 => ⟨S_, .f32⟩
  | 111 => ⟨S32x4096x4, .i1⟩
  | 112 => ⟨S32x4096x4, .f32⟩
  | 113 => ⟨S32x4096x4, .f32⟩
  | 114 => ⟨S_, .f32⟩
  | 115 => ⟨S4096x4x128, .f32⟩
  | 116 => ⟨S4096x4x128, .f32⟩
  | 117 => ⟨S32x4096x4x1, .f32⟩
  | 118 => ⟨S1x4096x4x128, .f32⟩
  | 119 => ⟨S32x4096x4x128, .f32⟩
  | 120 => ⟨S32x4096x4x128, .f32⟩
  | 121 => ⟨S32x4096x4x128, .f32⟩
  | 122 => ⟨S4x128x32x128, .f32⟩
  | 123 => ⟨S32x4x128x128, .f32⟩
  | 124 => ⟨S4096x3072, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x4x128x128, .f32⟩
  | .local _ .vmem, ⟨13, _⟩ => ⟨S512x512, .f32⟩
  | .local _ .vmem, ⟨14, _⟩ => ⟨S512x512, .f32⟩
  | .local _ .vmem, ⟨15, _⟩ => ⟨S4x4x128x128, .f32⟩
  | .local _ .vmem, ⟨16, _⟩ => ⟨S4x4x128x128, .f32⟩
  | .local _ .vmem, ⟨17, _⟩ => ⟨S512x512, .f32⟩
  | .local _ .vmem, ⟨18, _⟩ => ⟨S512x512, .f32⟩
  | .local _ .vmem, ⟨19, _⟩ => ⟨S512x2048, .bf16⟩
  | .local _ .vmem, ⟨20, _⟩ => ⟨S512x2048, .bf16⟩
  | .local _ .vmem, ⟨21, _⟩ => ⟨S4x128x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_9 : Ref sig .tc := ⟨.hbm, 96, rfl⟩
abbrev main_v79 : Ref sig .tc := ⟨.hbm, 97, rfl⟩
abbrev main_v80 : Ref sig .tc := ⟨.hbm, 98, rfl⟩
abbrev main_cst_10 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_cst_11 : Ref sig .tc := ⟨.hbm, 128, rfl⟩
abbrev main_v109 : Ref sig .tc := ⟨.hbm, 129, rfl⟩
abbrev main_v110 : Ref sig .tc := ⟨.hbm, 130, rfl⟩
abbrev main_cst_12 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_13 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_cst_14 : Ref sig .tc := ⟨.hbm, 168, rfl⟩
abbrev main_v146 : Ref sig .tc := ⟨.hbm, 169, rfl⟩
abbrev main_v147 : Ref sig .tc := ⟨.hbm, 170, rfl⟩
abbrev main_cst_15 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_cst_16 : Ref sig .tc := ⟨.hbm, 178, rfl⟩
abbrev main_call2_v0 : Ref sig .tc := ⟨.hbm, 179, rfl⟩
abbrev main_call2_v1 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_cst_17 : Ref sig .tc := ⟨.hbm, 187, rfl⟩
abbrev main_call3_v0 : Ref sig .tc := ⟨.hbm, 188, rfl⟩
abbrev main_call3_v1 : Ref sig .tc := ⟨.hbm, 189, rfl⟩
abbrev main_call3_v2 : Ref sig .tc := ⟨.hbm, 190, rfl⟩
abbrev main_v160 : Ref sig .tc := ⟨.hbm, 191, rfl⟩
abbrev main_cst_18 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_cst_19 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_cst_20 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_cst_21 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_cst_22 : Ref sig .tc := ⟨.hbm, 218, rfl⟩
abbrev main_v183 : Ref sig .tc := ⟨.hbm, 219, rfl⟩
abbrev main_v184 : Ref sig .tc := ⟨.hbm, 220, rfl⟩
abbrev main_cst_23 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_cst_24 : Ref sig .tc := ⟨.hbm, 227, rfl⟩
abbrev main_call4_v0 : Ref sig .tc := ⟨.hbm, 228, rfl⟩
abbrev main_call4_v1 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_cst_25 : Ref sig .tc := ⟨.hbm, 237, rfl⟩
abbrev main_call5_v0 : Ref sig .tc := ⟨.hbm, 238, rfl⟩
abbrev main_call5_v1 : Ref sig .tc := ⟨.hbm, 239, rfl⟩
abbrev main_call5_v2 : Ref sig .tc := ⟨.hbm, 240, rfl⟩
abbrev main_v197 : Ref sig .tc := ⟨.hbm, 241, rfl⟩
abbrev main_cst_26 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4096x3072 : Shape := ⟨2, ![4096, 3072]⟩
abbrev S4096x1024 : Shape := ⟨2, ![4096, 1024]⟩
abbrev S4096x512 : Shape := ⟨2, ![4096, 512]⟩
abbrev S4096x4x128 : Shape := ⟨3, ![4096, 4, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4096x4x64 : Shape := ⟨3, ![4096, 4, 64]⟩
abbrev S1x4096 : Shape := ⟨2, ![1, 4096]⟩
abbrev S4096x4096 : Shape := ⟨2, ![4096, 4096]⟩
abbrev S4 : Shape := ⟨1, ![4]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S4x128x4096 : Shape := ⟨3, ![4, 128, 4096]⟩
abbrev S4096x4 : Shape := ⟨2, ![4096, 4]⟩
abbrev S4096x4x1 : Shape := ⟨3, ![4096, 4, 1]⟩
abbrev S4x4096x128 : Shape := ⟨3, ![4, 4096, 128]⟩

abbrev nBuf : Space → Nat
  | .hbm => 232
  | .vmem => 0
  | .smem => 0
  | _ => 0

abbrev hbmTy0_0 (i : Nat) : BufTy := match i % 128 with
  | 0 => ⟨S4096x3072, .f32⟩
  | 1 => ⟨S4096x1024, .f32⟩
  | 2 => ⟨S4096x512, .f32⟩
  | 3 => ⟨S4096x512, .f32⟩
  | 4 => ⟨S4096x512, .f32⟩
  | 5 => ⟨S4096x512, .f32⟩
  | 6 => ⟨S4096x4x128, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S4096, .f32⟩
  | 16 => ⟨S4096x1, .f32⟩
  | 17 => ⟨S1x64, .f32⟩
  | 18 => ⟨S4096x64, .f32⟩
  | 19 => ⟨S4096x64, .f32⟩
  | 20 => ⟨S4096x64, .f32⟩
  | 21 => ⟨S4096x64, .f32⟩
  | 22 => ⟨S4096x1x64, .f32⟩
  | 23 => ⟨S4096x64, .f32⟩
  | 24 => ⟨S4096x1x64, .f32⟩
  | 25 => ⟨S4096x4x64, .f32⟩
  | 26 => ⟨S4096x4x64, .f32⟩
  | 27 => ⟨S4096x4x64, .f32⟩
  | 28 => ⟨S4096x4x64, .f32⟩
  | 29 => ⟨S4096x4x64, .f32⟩
  | 30 => ⟨S4096x4x64, .f32⟩
  | 31 => ⟨S4096x4x64, .f32⟩
  | 32 => ⟨S4096x4x64, .f32⟩
  | 33 => ⟨S4096x4x64, .f32⟩
  | 34 => ⟨S4096x4x64, .f32⟩
  | 35 => ⟨S4096x4x64, .f32⟩
  | 36 => ⟨S4096x4x64, .f32⟩
  | 37 => ⟨S4096x4x128, .f32⟩
  | 38 => ⟨S4096x4x128, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S4096, .f32⟩
  | 48 => ⟨S4096x1, .f32⟩
  | 49 => ⟨S1x64, .f32⟩
  | 50 => ⟨S4096x64, .f32⟩
  | 51 => ⟨S4096x64, .f32⟩
  | 52 => ⟨S4096x64, .f32⟩
  | 53 => ⟨S4096x64, .f32⟩
  | 54 => ⟨S4096x1x64, .f32⟩
  | 55 => ⟨S4096x64, .f32⟩
  | 56 => ⟨S4096x1x64, .f32⟩
  | 57 => ⟨S4096x4x64, .f32⟩
  | 58 => ⟨S4096x4x64, .f32⟩
  | 59 => ⟨S4096x4x64, .f32⟩
  | 60 => ⟨S4096x4x64, .f32⟩
  | 61 => ⟨S4096x4x64, .f32⟩
  | 62 => ⟨S4096x4x64, .f32⟩
  | 63 => ⟨S4096x4x64, .f32⟩
  | 64 => ⟨S4096x4x64, .f32⟩
  | 65 => ⟨S4096x4x64, .f32⟩
  | 66 => ⟨S4096x4x64, .f32⟩
  | 67 => ⟨S4096x4x64, .f32⟩
  | 68 => ⟨S4096x4x64, .f32⟩
  | 69 => ⟨S4096x4x128, .f32⟩
  | 70 => ⟨S4096x4x128, .f32⟩
  | 71 => ⟨S4096, .f32⟩
  | 72 => ⟨S4096x1, .f32⟩
  | 73 => ⟨S1x4096, .f32⟩
  | 74 => ⟨S4096x4096, .f32⟩
  | 75 => ⟨S4096x4096, .f32⟩
  | 76 => ⟨S4096x4096, .f32⟩
  | 77 => ⟨S_, .f32⟩
  | 78 => ⟨S4096x4096, .f32⟩
  | 79 => ⟨S4096x4096, .i1⟩
  | 80 => ⟨S4, .f32⟩
  | 81 => ⟨S_, .f32⟩
  | 82 => ⟨S4, .f32⟩
  | 83 => ⟨S4, .f32⟩
  | 84 => ⟨S_, .f32⟩
  | 85 => ⟨S4, .f32⟩
  | 86 => ⟨S4, .f32⟩
  | 87 => ⟨S4, .f32⟩
  | 88 => ⟨S4, .f32⟩
  | 89 => ⟨S4, .f32⟩
  | 90 => ⟨S4x1x1, .f32⟩
  | 91 => ⟨S_, .f32⟩
  | 92 => ⟨S_, .f32⟩
  | 93 => ⟨S4096x4096, .f32⟩
  | 94 => ⟨S4096x4096, .f32⟩
  | 95 => ⟨S1x4096x4096, .f32⟩
  | 96 => ⟨S4x4096x4096, .f32⟩
  | 97 => ⟨S4x4096x4096, .f32⟩
  | 98 => ⟨S4x4096x4096, .f32⟩
  | 99 => ⟨S4x4096x4096, .f32⟩
  | 100 => ⟨S_, .f32⟩
  | 101 => ⟨S_, .f32⟩
  | 102 => ⟨S4x4096x4096, .i1⟩
  | 103 => ⟨S4x4096x4096, .f32⟩
  | 104 => ⟨S4x4096x4096, .f32⟩
  | 105 => ⟨S_, .f32⟩
  | 106 => ⟨S4096x4x128, .f32⟩
  | 107 => ⟨S4096x4x128, .f32⟩
  | 108 => ⟨S4x4096x4096, .f32⟩
  | 109 => ⟨S4x4096x4096, .f32⟩
  | 110 => ⟨S4x128x4096, .f32⟩
  | 111 => ⟨S4096x4x128, .f32⟩
  | 112 => ⟨S4096x4x128, .f32⟩
  | 113 => ⟨S_, .f32⟩
  | 114 => ⟨S4096x4, .f32⟩
  | 115 => ⟨S4096x4x1, .f32⟩
  | 116 => ⟨S_, .f32⟩
  | 117 => ⟨S4096x4x1, .f32⟩
  | 118 => ⟨S4096x4x1, .f32⟩
  | 119 => ⟨S_, .f32⟩
  | 120 => ⟨S4096x4x1, .f32⟩
  | 121 => ⟨S4096x4x1, .f32⟩
  | 122 => ⟨S4096x4x1, .f32⟩
  | 123 => ⟨S4096x4x1, .f32⟩
  | 124 => ⟨S_, .f32⟩
  | 125 => ⟨S4096x4x1, .f32⟩
  | 126 => ⟨S4096x4x1, .f32⟩
  | 127 => ⟨S4096x4x128, .f32⟩
  | _ => ⟨S4096x3072, .f32⟩

abbrev hbmTy0_1 (i : Nat) : BufTy := match i % 128 with
  | 0 => ⟨S4096x4x128, .f32⟩
  | 1 => ⟨S4096x512, .f32⟩
  | 2 => ⟨S4096x512, .f32⟩
  | 3 => ⟨S4096x512, .f32⟩
  | 4 => ⟨S_, .f32⟩
  | 5 => ⟨S4096x512, .f32⟩
  | 6 => ⟨S4096x512, .f32⟩
  | 7 => ⟨S_, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S4096x512, .f32⟩
  | 14 => ⟨S4096x512, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S4096x512, .f32⟩
  | 21 => ⟨S4096x512, .f32⟩
  | 22 => ⟨S4096x512, .f32⟩
  | 23 => ⟨S4096x4x128, .f32⟩
  | 24 => ⟨S4096x4x128, .f32⟩
  | 25 => ⟨S_, .f32⟩
  | 26 => ⟨S4096x4, .f32⟩
  | 27 => ⟨S4096x4x1, .f32⟩
  | 28 => ⟨S4096x4x128, .f32⟩
  | 29 => ⟨S4096x4x128, .f32⟩
  | 30 => ⟨S4096x4x1, .f32⟩
  | 31 => ⟨S_, .f32⟩
  | 32 => ⟨S4096x4x1, .f32⟩
  | 33 => ⟨S4096x4x1, .f32⟩
  | 34 => ⟨S_, .f32⟩
  | 35 => ⟨S4096x4, .f32⟩
  | 36 => ⟨S4096x4x128, .f32⟩
  | 37 => ⟨S4096x4x128, .f32⟩
  | 38 => ⟨S4096x4x128, .f32⟩
  | 39 => ⟨S4096x4x128, .f32⟩
  | 40 => ⟨S4096x4x128, .f32⟩
  | 41 => ⟨S4x128x4096, .f32⟩
  | 42 => ⟨S4x4096x4096, .f32⟩
  | 43 => ⟨S4x128x4096, .f32⟩
  | 44 => ⟨S4096x4x128, .f32⟩
  | 45 => ⟨S4x4096x4096, .f32⟩
  | 46 => ⟨S4x4096x128, .f32⟩
  | 47 => ⟨S4096x4x128, .f32⟩
  | 48 => ⟨S4x4096x128, .f32⟩
  | 49 => ⟨S4096x4x128, .f32⟩
  | 50 => ⟨S_, .f32⟩
  | 51 => ⟨S4096x4x128, .f32⟩
  | 52 => ⟨S4096x4x128, .f32⟩
  | 53 => ⟨S4096x512, .f32⟩
  | 54 => ⟨S4096x4x64, .f32⟩
  | 55 => ⟨S4096x4x64, .f32⟩
  | 56 => ⟨S4096x4x64, .f32⟩
  | 57 => ⟨S4096x4x64, .f32⟩
  | 58 => ⟨S4096x4x64, .f32⟩
  | 59 => ⟨S4096x4x64, .f32⟩
  | 60 => ⟨S4096x4x64, .f32⟩
  | 61 => ⟨S4096x4x64, .f32⟩
  | 62 => ⟨S4096x4x64, .f32⟩
  | 63 => ⟨S4096x4x64, .f32⟩
  | 64 => ⟨S4096x4x64, .f32⟩
  | 65 => ⟨S4096x4x64, .f32⟩
  | 66 => ⟨S4096x4x64, .f32⟩
  | 67 => ⟨S_, .f32⟩
  | 68 => ⟨S4096x4x128, .f32⟩
  | 69 => ⟨S_, .f32⟩
  | 70 => ⟨S4096x4x128, .f32⟩
  | 71 => ⟨S4096x4x128, .f32⟩
  | 72 => ⟨S4096x512, .f32⟩
  | 73 => ⟨S4096x4x64, .f32⟩
  | 74 => ⟨S4096x4x64, .f32⟩
  | 75 => ⟨S4096x4x64, .f32⟩
  | 76 => ⟨S4096x4x64, .f32⟩
  | 77 => ⟨S4096x4x64, .f32⟩
  | 78 => ⟨S4096x4x64, .f32⟩
  | 79 => ⟨S4096x4x64, .f32⟩
  | 80 => ⟨S4096x4x64, .f32⟩
  | 81 => ⟨S4096x4x64, .f32⟩
  | 82 => ⟨S4096x4x64, .f32⟩
  | 83 => ⟨S4096x4x64, .f32⟩
  | 84 => ⟨S4096x4x64, .f32⟩
  | 85 => ⟨S4096x4x64, .f32⟩
  | 86 => ⟨S_, .f32⟩
  | 87 => ⟨S4096x4x128, .f32⟩
  | 88 => ⟨S_, .f32⟩
  | 89 => ⟨S4096x4x128, .f32⟩
  | 90 => ⟨S4096x4x128, .f32⟩
  | 91 => ⟨S4096x512, .f32⟩
  | 92 => ⟨S_, .f32⟩
  | 93 => ⟨S4096x3072, .f32⟩
  | 94 => ⟨S_, .f32⟩
  | 95 => ⟨S4096x3072, .f32⟩
  | 96 => ⟨S4096x3072, .f32⟩
  | 97 => ⟨S_, .f32⟩
  | 98 => ⟨S4096x3072, .f32⟩
  | 99 => ⟨S4096x3072, .f32⟩
  | 100 => ⟨S_, .f32⟩
  | 101 => ⟨S4096x3072, .f32⟩
  | 102 => ⟨S4096x3072, .f32⟩
  | 103 => ⟨S4096x3072, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_cst_3 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_cst_4 : Ref sig .tc := ⟨.hbm, 81, rfl⟩
abbrev main_v74 : Ref sig .tc := ⟨.hbm, 82, rfl⟩
abbrev main_v75 : Ref sig .tc := ⟨.hbm, 83, rfl⟩
abbrev main_cst_5 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_cst_6 : Ref sig .tc := ⟨.hbm, 91, rfl⟩
abbrev main_call0_v0 : Ref sig .tc := ⟨.hbm, 92, rfl⟩
abbrev main_call0_v1 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_7 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v88 : Ref sig .tc := ⟨.hbm, 104, rfl⟩
abbrev main_cst_8 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_v96 : Ref sig .tc := ⟨.hbm, 114, rfl⟩
abbrev main_v97 : Ref sig .tc := ⟨.hbm, 115, rfl⟩
abbrev main_cst_10 : Ref sig .tc := ⟨.hbm, 116, rfl⟩
abbrev main_v98 : Ref sig .tc := ⟨.hbm, 117, rfl⟩
abbrev main_v99 : Ref sig .tc := ⟨.hbm, 118, rfl⟩
abbrev main_cst_11 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_12 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_call2_v0 : Ref sig .tc := ⟨.hbm, 130, rfl⟩
abbrev main_call2_v1 : Ref sig .tc := ⟨.hbm, 131, rfl⟩
abbrev main_call2_cst : Ref sig .tc := ⟨.hbm, 132, rfl⟩
abbrev main_call2_v2 : Ref sig .tc := ⟨.hbm, 133, rfl⟩
abbrev main_call2_v3 : Ref sig .tc := ⟨.hbm, 134, rfl⟩
abbrev main_call2_cst_0 : Ref sig .tc := ⟨.hbm, 135, rfl⟩
abbrev main_call2_v4 : Ref sig .tc := ⟨.hbm, 136, rfl⟩
abbrev main_v109_2 : Ref sig .tc := ⟨.hbm, 137, rfl⟩
abbrev main_call2_cst_1 : Ref sig .tc := ⟨.hbm, 138, rfl⟩
abbrev main_call2_v6 : Ref sig .tc := ⟨.hbm, 139, rfl⟩
abbrev main_call2_v7 : Ref sig .tc := ⟨.hbm, 140, rfl⟩
abbrev main_v109_1 : Ref sig .tc := ⟨.hbm, 141, rfl⟩
abbrev main_v109_0 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_13 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_14 : Ref sig .tc := ⟨.hbm, 159, rfl⟩
abbrev main_v122 : Ref sig .tc := ⟨.hbm, 160, rfl⟩
abbrev main_v123 : Ref sig .tc := ⟨.hbm, 161, rfl⟩
abbrev main_cst_15 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_16 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_cst_17 : Ref sig .tc := ⟨.hbm, 195, rfl⟩
abbrev main_v155 : Ref sig .tc := ⟨.hbm, 196, rfl⟩
abbrev main_cst_18 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_cst_19 : Ref sig .tc := ⟨.hbm, 214, rfl⟩
abbrev main_v172 : Ref sig .tc := ⟨.hbm, 215, rfl⟩
abbrev main_cst_20 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_cst_21 : Ref sig .tc := ⟨.hbm, 220, rfl⟩
abbrev main_v176 : Ref sig .tc := ⟨.hbm, 221, rfl⟩
abbrev main_cst_22 : Ref sig .tc := ⟨.hbm, 222, rfl⟩
abbrev main_v177 : Ref sig .tc := ⟨.hbm, 223, rfl⟩
abbrev main_v178 : Ref sig .tc := ⟨.hbm, 224, rfl⟩
abbrev main_cst_23 : Ref sig .tc := ⟨.hbm, 225, rfl⟩
abbrev main_v179 : Ref sig .tc := ⟨.hbm, 226, rfl⟩
abbrev main_v180 : Ref sig .tc := ⟨.hbm, 227, rfl⟩
abbrev main_cst_24 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩

abbrev nD : Nat := 1
abbrev τ : Topo := Topo.v7x

variable {F : FTy → Type} [FloatOps F]
-- ==== Up.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x8x512, .f32⟩
  | .hbm, ⟨4, _⟩ => ⟨S8x1024x512, .f32⟩
  | .hbm, ⟨5, _⟩ => ⟨S8x1024x512, .bf16⟩
  | .hbm, ⟨6, _⟩ => ⟨S4096x4096, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Dact.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S512x1024 : Shape := ⟨2, ![512, 1024]⟩
abbrev S4096x512 : Shape := ⟨2, ![4096, 512]⟩

abbrev nBuf : Space → Nat
  | .hbm => 12
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S4096x1024, .bf16⟩
  | .hbm, ⟨11, _⟩ => ⟨S4096x4096, .bf16⟩
  | .local _ .vmem, ⟨0, _⟩ => ⟨S4096x1024, .bf16⟩
  | .local _ .vmem, ⟨1, _⟩ => ⟨S512x1024, .bf16⟩
  | .local _ .vmem, ⟨2, _⟩ => ⟨S512x1024, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Dwd.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdReferenceIdeal.lean ====
abbrev S4096x1024 : Shape := ⟨2, ![4096, 1024]⟩
abbrev S1024x4096 : Shape := ⟨2, ![1024, 4096]⟩
abbrev S_ : Shape := ⟨0, ![]⟩
abbrev S4096x4096 : Shape := ⟨2, ![4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Dwu.lean ====
abbrev S4096x1024 : Shape := ⟨2, ![4096, 1024]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S8x1024x512 : Shape := ⟨3, ![8, 1024, 512]⟩
abbrev S1024x1024 : Shape := ⟨2, ![1024, 1024]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 20
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4096, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwuReferenceIdeal.lean ====
abbrev S4096x1024 : Shape := ⟨2, ![4096, 1024]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4096, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1024x4096, .f32⟩
  | .hbm, ⟨20, _⟩ => ⟨S4096x4096, .f32⟩
  | .hbm, ⟨21, _⟩ => ⟨S4096x4096, .f32⟩
  | .hbm, ⟨22, _⟩ => ⟨S4096x1024, .f32⟩
  | .hbm, ⟨23, _⟩ => ⟨S1024x4096, .f32⟩
  | .hbm, ⟨24, _⟩ => ⟨S1024x4096, .bf16⟩
  | .hbm, ⟨25, _⟩ => ⟨S1024x8x512, .bf16⟩
  | .hbm, ⟨26, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Dh.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩
abbrev S1024x1024 : Shape := ⟨2, ![1024, 1024]⟩
abbrev S2x1024x512 : Shape := ⟨3, ![2, 1024, 512]⟩
abbrev S1024x512 : Shape := ⟨2, ![1024, 512]⟩
abbrev S1x1024x512 : Shape := ⟨3, ![1, 1024, 512]⟩
abbrev S1024 : Shape := ⟨1, ![1024]⟩
abbrev S1024x1 : Shape := ⟨2, ![1024, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x4096, .bf16⟩
  | .hbm, ⟨4, _⟩ => ⟨S4096x1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_32 : BitVec 32 := 0#32
  let v56 : BitVec 1 := Scalar.cmpi .eq arg0 c0_i32_32
  let v57 : BitVec 32 := Scalar.extui v56
  let c0_i32_33 : BitVec 32 := 0#32
  let v58 : BitVec 1 := Scalar.cmpi .ne v57 c0_i32_33
  v58

def k0_cond5 (i : grid0.Coords) : BitVec 1 :=
  let arg0 : BitVec 32 := BitVec.ofNat 32 (i 0).val
  let c0_i32_34 : BitVec 32 := 0#32
  let v59 : BitVec 1 := Scalar.cmpi .sgt arg0 c0_i32_34
  let v60 : BitVec 32 := Scalar.extui v59
  let c0_i32_35 : BitVec 32 := 0#32
  let v61 : BitVec 1 := Scalar.cmpi .ne v60 c0_i32_35
  v61

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== DhReferenceIdeal.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x4096, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== InEven.lean ====
abbrev S4096x1024 : Shape := ⟨2, ![4096, 1024]⟩
abbrev S1024x3072 : Shape := ⟨2, ![1024, 3072]⟩
abbrev S1024x8x384 : Shape := ⟨3, ![1024, 8, 384]⟩
abbrev S8x1024x384 : Shape := ⟨3, ![8, 1024, 384]⟩
abbrev S4096x3072 : Shape := ⟨2, ![4096, 3072]⟩
abbrev S1x1024x384 : Shape := ⟨3, ![1, 1024, 384]⟩
abbrev S4096x384 : Shape := ⟨2, ![4096, 384]⟩
abbrev S1024x384 : Shape := ⟨2, ![1024, 384]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x8x384, .f32⟩
  | .hbm, ⟨4, _⟩ => ⟨S8x1024x384, .f32⟩
  | .hbm, ⟨5, _⟩ => ⟨S8x1024x384, .bf16⟩
  | .hbm, ⟨6, _⟩ => ⟨S4096x3072, .f32⟩
  | .local _ .vmem, ⟨0, _⟩ => ⟨S4096x1024, .bf16⟩
  | .local _ .vmem, ⟨1, _⟩ => ⟨S1x1024x384, .bf16⟩
  | .local _ .vmem, ⟨2, _⟩ => ⟨S1x1024x384, .bf16⟩
  | .local _ .vmem, ⟨3, _⟩ => ⟨S4096x384, .f32⟩
  | .local _ .vmem, ⟨4, _⟩ => ⟨S4096x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InEvenReferenceIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InOdd.lean ====
abbrev S4096x1024 : Shape := ⟨2, ![4096, 1024]⟩
abbrev S1024x4224 : Shape := ⟨2, ![1024, 4224]⟩
abbrev S4096x4224 : Shape := ⟨2, ![4096, 4224]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4224, .f32⟩
  | .hbm, ⟨2, _⟩ => ⟨S4096x1024, .bf16⟩
  | .hbm, ⟨3, _⟩ => ⟨S1024x4224, .bf16⟩
  | .hbm, ⟨4, _⟩ => ⟨S4096x4224, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InOddReferenceIdeal.lean ====
abbrev S4096x1024 : Shape := ⟨2, ![4096, 1024]⟩
abbrev S1024x4224 : Shape := ⟨2, ![1024, 4224]⟩
abbrev S4096x4224 : Shape := ⟨2, ![4096, 4224]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4224, .f32⟩
  | .hbm, ⟨2, _⟩ => ⟨S4096x4224, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InEvenDw.lean ====
abbrev S4096x1024 : Shape := ⟨2, ![4096, 1024]⟩
abbrev S1x1024 : Shape := ⟨2, ![1, 1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S8x1024x384 : Shape := ⟨3, ![8, 1024, 384]⟩
abbrev S1024x1024 : Shape := ⟨2, ![1024, 1024]⟩
abbrev S1024x768 : Shape := ⟨2, ![1024, 768]⟩
abbrev S2x1024x384 : Shape := ⟨3, ![2, 1024, 384]⟩
abbrev S1024x384 : Shape := ⟨2, ![1024, 384]⟩
abbrev S1x1024x384 : Shape := ⟨3, ![1, 1024, 384]⟩

abbrev nBuf : Space → Nat
  | .hbm => 20
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x3072, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S8x1024x384, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S2x1024x384, .bf16⟩
  | .local _ .vmem, ⟨5, _⟩ => ⟨S2x1024x384, .bf16⟩
  | .local _ .vmem, ⟨6, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InEvenDwReferenceIdeal.lean ====
abbrev S4096x1024 : Shape := ⟨2, ![4096, 1024]⟩
abbrev S1x1024 : Shape := ⟨2, ![1, 1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x3072, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1024x3072, .f32⟩
  | .hbm, ⟨20, _⟩ => ⟨S4096x3072, .f32⟩
  | .hbm, ⟨21, _⟩ => ⟨S4096x3072, .f32⟩
  | .hbm, ⟨22, _⟩ => ⟨S3072x1024, .f32⟩
  | .hbm, ⟨23, _⟩ => ⟨S1024x3072, .f32⟩
  | .hbm, ⟨24, _⟩ => ⟨S1024x3072, .bf16⟩
  | .hbm, ⟨25, _⟩ => ⟨S1024x8x384, .bf16⟩
  | .hbm, ⟨26, _⟩ => ⟨S8x1024x384, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== InOddDw.lean ====
abbrev S4096x1024 : Shape := ⟨2, ![4096, 1024]⟩
abbrev S1x1024 : Shape := ⟨2, ![1, 1024]⟩
abbrev S4096x4224 : Shape := ⟨2, ![4096, 4224]⟩
abbrev S_ : Shape := ⟨0, ![]⟩
abbrev S4096 : Shape := ⟨1, ![4096]⟩
abbrev S4096x1 : Shape := ⟨2, ![4096, 1]⟩
abbrev S1024x4224 : Shape := ⟨2, ![1024, 4224]⟩
abbrev S1024x1024 : Shape := ⟨2, ![1024, 1024]⟩
abbrev S1024x1408 : Shape := ⟨2, ![1024, 1408]⟩

abbrev nBuf : Space → Nat
  | .hbm => 20
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4224, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x4224, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InOddDwReferenceIdeal.lean ====
abbrev S4096x1024 : Shape := ⟨2, ![4096, 1024]⟩
abbrev S1x1024 : Shape := ⟨2, ![1, 1024]⟩
abbrev S4096x4224 : Shape := ⟨2, ![4096, 4224]⟩
abbrev S_ : Shape := ⟨0, ![]⟩
abbrev S4096 : Shape := ⟨1, ![4096]⟩
abbrev S4096x1 : Shape := ⟨2, ![4096, 1]⟩
abbrev S1024x4224 : Shape := ⟨2, ![1024, 4224]⟩
abbrev S4224x1024 : Shape := ⟨2, ![4224, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4224, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1024x4224, .f32⟩
  | .hbm, ⟨20, _⟩ => ⟨S4096x4224, .f32⟩
  | .hbm, ⟨21, _⟩ => ⟨S4096x4224, .f32⟩
  | .hbm, ⟨22, _⟩ => ⟨S4224x1024, .f32⟩
  | .hbm, ⟨23, _⟩ => ⟨S1024x4224, .f32⟩
  | .hbm, ⟨24, _⟩ => ⟨S1024x4224, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S1024x1024 : Shape := ⟨2, ![1024, 1024]⟩
abbrev S4096x1024 : Shape := ⟨2, ![4096, 1024]⟩
abbrev S512x1024 : Shape := ⟨2, ![512, 1024]⟩
abbrev S4096x512 : Shape := ⟨2, ![4096, 512]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S4096x1024, .bf16⟩
  | .local _ .vmem, ⟨1, _⟩ => ⟨S512x1024, .bf16⟩
  | .local _ .vmem, ⟨2, _⟩ => ⟨S512x1024, .bf16⟩
  | .local _ .vmem, ⟨3, _⟩ => ⟨S4096x512, .f32⟩
  | .local _ .vmem, ⟨4, _⟩ => ⟨S4096x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutReferenceIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Down.lean ====
abbrev S4096x1024 : Shape := ⟨2, ![4096, 1024]⟩
abbrev S4096x4096 : Shape := ⟨2, ![4096, 4096]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownReferenceIdeal.lean ====
abbrev S4096x1024 : Shape := ⟨2, ![4096, 1024]⟩
abbrev S4096x4096 : Shape := ⟨2, ![4096, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== InEvenDx.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S1024x8x384 : Shape := ⟨3, ![1024, 8, 384]⟩
abbrev S8x1024x384 : Shape := ⟨3, ![8, 1024, 384]⟩
abbrev S1024x768 : Shape := ⟨2, ![1024, 768]⟩
abbrev S2x1024x384 : Shape := ⟨3, ![2, 1024, 384]⟩
abbrev S1024x1024 : Shape := ⟨2, ![1024, 1024]⟩
abbrev S1024x384 : Shape := ⟨2, ![1024, 384]⟩
abbrev S1x1024x384 : Shape := ⟨3, ![1, 1024, 384]⟩
abbrev S1024 : Shape := ⟨1, ![1024]⟩
abbrev S1024x1 : Shape := ⟨2, ![1024, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S4096x3072, .bf16⟩
  | .hbm, ⟨4, _⟩ => ⟨S4096x1024, .f32⟩
  | .hbm, ⟨5, _⟩ => ⟨S1024x8x384, .f32⟩
  | .hbm, ⟨6, _⟩ => ⟨S8x1024x384, .f32⟩
  | .hbm, ⟨7, _⟩ => ⟨S8x1024x384, .bf16⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S2x1024x384, .bf16⟩
  | .local _ .vmem, ⟨3, _⟩ => ⟨S2x1024x384, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_32 : BitVec 32 := 0#32
  let v56 : BitVec 1 := Scalar.cmpi .eq arg0 c0_i32_32
  let v57 : BitVec 32 := Scalar.extui v56
  let c0_i32_33 : BitVec 32 := 0#32
  let v58 : BitVec 1 := Scalar.cmpi .ne v57 c0_i32_33
  v58

def k0_cond5 (i : grid0.Coords) : BitVec 1 :=
  let arg0 : BitVec 32 := BitVec.ofNat 32 (i 0).val
  let c0_i32_34 : BitVec 32 := 0#32
  let v59 : BitVec 1 := Scalar.cmpi .sgt arg0 c0_i32_34
  let v60 : BitVec 32 := Scalar.extui v59
  let c0_i32_35 : BitVec 32 := 0#32
  let v61 : BitVec 1 := Scalar.cmpi .ne v60 c0_i32_35
  v61

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== InEvenDxReferenceIdeal.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S4096x3072, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3072, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== InOddDx.lean ====
abbrev S4096x1024 : Shape := ⟨2, ![4096, 1024]⟩
abbrev S1x1024 : Shape := ⟨2, ![1, 1024]⟩
abbrev S1024x4224 : Shape := ⟨2, ![1024, 4224]⟩
abbrev S4096x4224 : Shape := ⟨2, ![4096, 4224]⟩
abbrev S1024x1408 : Shape := ⟨2, ![1024, 1408]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4224, .f32⟩
  | .hbm, ⟨3, _⟩ => ⟨S4096x4224, .bf16⟩
  | .hbm, ⟨4, _⟩ => ⟨S4096x1024, .f32⟩
  | .hbm, ⟨5, _⟩ => ⟨S1024x4224, .bf16⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_26 : BitVec 32 := 0#32
  let v49 : BitVec 1 := Scalar.cmpi .eq arg0 c0_i32_26
  let v50 : BitVec 32 := Scalar.extui v49
  let c0_i32_27 : BitVec 32 := 0#32
  let v51 : BitVec 1 := Scalar.cmpi .ne v50 c0_i32_27
  v51

def k0_cond5 (i : grid0.Coords) : BitVec 1 :=
  let arg0 : BitVec 32 := BitVec.ofNat 32 (i 0).val
  let c0_i32_28 : BitVec 32 := 0#32
  let v52 : BitVec 1 := Scalar.cmpi .sgt arg0 c0_i32_28
  let v53 : BitVec 32 := Scalar.extui v52
  let c0_i32_29 : BitVec 32 := 0#32
  let v54 : BitVec 1 := Scalar.cmpi .ne v53 c0_i32_29
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== InOddDxReferenceIdeal.lean ====
abbrev S4096x1024 : Shape := ⟨2, ![4096, 1024]⟩
abbrev S1x1024 : Shape := ⟨2, ![1, 1024]⟩
abbrev S1024x4224 : Shape := ⟨2, ![1024, 4224]⟩
abbrev S4096x4224 : Shape := ⟨2, ![4096, 4224]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4224, .f32⟩
  | .hbm, ⟨3, _⟩ => ⟨S4096x4224, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4224, .f32⟩
  | .hbm, ⟨25, _⟩ => ⟨S4096x4224, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Head.lean ====
abbrev S4096x1024 : Shape := ⟨2, ![4096, 1024]⟩
abbrev S4096x4096 : Shape := ⟨2, ![4096, 4096]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_27 : BitVec 32 := 0#32
  let v63 : BitVec 1 := Scalar.cmpi .eq arg0 c0_i32_27
  let v64 : BitVec 32 := Scalar.extui v63
  let c0_i32_28 : BitVec 32 := 0#32
  let v65 : BitVec 1 := Scalar.cmpi .ne v64 c0_i32_28
  v65

def k0_cond5 (i : grid0.Coords) : BitVec 1 :=
  let arg0 : BitVec 32 := BitVec.ofNat 32 (i 0).val
  let c0_i32_29 : BitVec 32 := 0#32
  let v66 : BitVec 1 := Scalar.cmpi .sgt arg0 c0_i32_29
  let v67 : BitVec 32 := Scalar.extui v66
  let c0_i32_30 : BitVec 32 := 0#32
  let v68 : BitVec 1 := Scalar.cmpi .ne v67 c0_i32_30
  v68

def k0_cond6 (i : grid0.Coords) : BitVec 1 :=
  let arg0 : BitVec 32 := BitVec.ofNat 32 (i 0).val
  let c0_i32_35 : BitVec 32 := 0#32
  let v72 : BitVec 1 := Scalar.cmpi .eq arg0 c0_i32_35
  let v73 : BitVec 32 := Scalar.extui v72
  let c0_i32_36 : BitVec 32 := 0#32
  let v74 : BitVec 1 := Scalar.cmpi .ne v73 c0_i32_36
  v74

def k0_cond7 (i : grid0.Coords) : BitVec 1 :=
  let arg0 : BitVec 32 := BitVec.ofNat 32 (i 0).val
  let c0_i32_37 : BitVec 32 := 0#32
  let v75 : BitVec 1 := Scalar.cmpi .sgt arg0 c0_i32_37
  let v76 : BitVec 32 := Scalar.extui v75
  let c0_i32_38 : BitVec 32 := 0#32
  let v77 : BitVec 1 := Scalar.cmpi .ne v76 c0_i32_38
  v77

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== HeadReferenceIdeal.lean ====
abbrev S4096x1024 : Shape := ⟨2, ![4096, 1024]⟩
abbrev S4096x4096 : Shape := ⟨2, ![4096, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S1x1024, .f32⟩
  | .hbm, ⟨75, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== AdamIn.lean ====
abbrev S1x1024x384 : Shape := ⟨3, ![1, 1024, 384]⟩
abbrev S8x1024x384 : Shape := ⟨3, ![8, 1024, 384]⟩
abbrev S1x512x384 : Shape := ⟨3, ![1, 512, 384]⟩
abbrev S8x512x384 : Shape := ⟨3, ![8, 512, 384]⟩
abbrev S512x384 : Shape := ⟨2, ![512, 384]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x384, .f32⟩
  | .hbm, ⟨1, _⟩ => ⟨S8x1024x384, .bf16⟩
  | .hbm, ⟨2, _⟩ => ⟨S1x1024x384, .f32⟩
  | .hbm, ⟨3, _⟩ => ⟨S1x1024x384, .f32⟩
  | .hbm, ⟨4, _⟩ => ⟨S1x1024x384, .f32⟩
  | .hbm, ⟨5, _⟩ => ⟨S1x1024x384, .f32⟩
  | .hbm, ⟨6, _⟩ => ⟨S1x1024x384, .f32⟩
  | .hbm, ⟨7, _⟩ => ⟨S1x1024x384, .f32⟩
  | .local _ .vmem, ⟨0, _⟩ => ⟨S1x512x384, .f32⟩
  | .local _ .vmem, ⟨1, _⟩ => ⟨S1x512x384, .f32⟩
  | .local _ .vmem, ⟨2, _⟩ => ⟨S8x512x384, .bf16⟩
  | .local _ .vmem, ⟨3, _⟩ => ⟨S8x512x384, .bf16⟩
  | .local _ .vmem, ⟨4, _⟩ => ⟨S1x512x384, .f32⟩
  | .local _ .vmem, ⟨5, _⟩ => ⟨S1x512x384, .f32⟩
  | .local _ .vmem, ⟨6, _⟩ => ⟨S1x512x384, .f32⟩
  | .local _ .vmem, ⟨7, _⟩ => ⟨S1x512x384, .f32⟩
  | .local _ .vmem, ⟨8, _⟩ => ⟨S1x512x384, .f32⟩
  | .local _ .vmem, ⟨9, _⟩ => ⟨S1x512x384, .f32⟩
  | .local _ .vmem, ⟨10, _⟩ => ⟨S1x512x384, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S1x1024x384 : Shape := ⟨3, ![1, 1024, 384]⟩
abbrev S8x1024x384 : Shape := ⟨3, ![8, 1024, 384]⟩
abbrev S_ : Shape := ⟨0, ![]⟩
abbrev S1024x384 : Shape := ⟨2, ![1024, 384]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S8x1024x384, .bf16⟩
  | .hbm, ⟨2, _⟩ => ⟨S1x1024x384, .f32⟩
  | .hbm, ⟨3, _⟩ => ⟨S1x1024x384, .f32⟩
  | .hbm, ⟨4, _⟩ => ⟨S8x1024x384, .f32⟩
  | .hbm, ⟨5, _⟩ => ⟨S_, .f32⟩
  | .hbm, ⟨6, _⟩ => ⟨S1024x384, .f32⟩
  | .hbm, ⟨7, _⟩ => ⟨S1x1024x384, .f32⟩
  | .hbm, ⟨8, _⟩ => ⟨S_, .f32⟩
  | .hbm, ⟨9, _⟩ => ⟨S1x1024x384, .f32⟩
  | .hbm, ⟨10, _⟩ => ⟨S1x1024x384, .f32⟩
  | .hbm, ⟨11, _⟩ => ⟨S_, .f32⟩
  | .hbm, ⟨12, _⟩ => ⟨S1x1024x384, .f32⟩
  | .hbm, ⟨13, _⟩ => ⟨S1x1024x384, .f32⟩
  | .hbm, ⟨14, _⟩ => ⟨S1x1024x384, .f32⟩
  | .hbm, ⟨15, _⟩ => ⟨S_, .f32⟩
  | .hbm, ⟨16, _⟩ => ⟨S1x1024x384, .f32⟩
  | .hbm, ⟨17, _⟩ => ⟨S1x1024x384, .f32⟩
  | .hbm, ⟨18, _⟩ => ⟨S1x1024x384, .f32⟩
  | .hbm, ⟨19, _⟩ => ⟨S_, .f32⟩
  | .hbm, ⟨20, _⟩ => ⟨S1x1024x384, .f32⟩
  | .hbm, ⟨21, _⟩ => ⟨S1x1024x384, .f32⟩
  | .hbm, ⟨22, _⟩ => ⟨S1x1024x384, .f32⟩
  | .hbm, ⟨23, _⟩ => ⟨S_, .f32⟩
  | .hbm, ⟨24, _⟩ => ⟨S1x1024x384, .f32⟩
  | .hbm, ⟨25, _⟩ => ⟨S1x1024x384, .f32⟩
  | .hbm, ⟨26, _⟩ => ⟨S_, .f32⟩
  | .hbm, ⟨27, _⟩ => ⟨S1x1024x384, .f32⟩
  | .hbm, ⟨28, _⟩ => ⟨S1x1024x384, .f32⟩
  | .hbm, ⟨29, _⟩ => ⟨S1x1024x384, .f32⟩
  | .hbm, ⟨30, _⟩ => ⟨S_, .f32⟩
  | .hbm, ⟨31, _⟩ => ⟨S1x1024x384, .f32⟩
  | .hbm, ⟨32, _⟩ => ⟨S1x1024x384, .f32⟩
  | .hbm, ⟨33, _⟩ => ⟨S1x1024x384, .f32⟩
  | .hbm, ⟨34, _⟩ => ⟨S_, .f32⟩
  | .hbm, ⟨35, _⟩ => ⟨S1x1024x384, .f32⟩
  | .hbm, ⟨36, _⟩ => ⟨S1x1024x384, .f32⟩
  | .hbm, ⟨37, _⟩ => ⟨S1x1024x384, .f32⟩
  | .hbm, ⟨38, _⟩ => ⟨S_, .f32⟩
  | .hbm, ⟨39, _⟩ => ⟨S1x1024x384, .f32⟩
  | .hbm, ⟨40, _⟩ => ⟨S1x1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamUp.lean ====
abbrev S2x1024x512 : Shape := ⟨3, ![2, 1024, 512]⟩
abbrev S8x1024x512 : Shape := ⟨3, ![8, 1024, 512]⟩
abbrev S1x512x512 : Shape := ⟨3, ![1, 512, 512]⟩
abbrev S8x512x512 : Shape := ⟨3, ![8, 512, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x512, .f32⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S8x512x512, .bf16⟩
  | .local _ .vmem, ⟨3, _⟩ => ⟨S8x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpReferenceIdeal.lean ====
abbrev S2x1024x512 : Shape := ⟨3, ![2, 1024, 512]⟩
abbrev S8x1024x512 : Shape := ⟨3, ![8, 1024, 512]⟩
abbrev S1x1024x512 : Shape := ⟨3, ![1, 1024, 512]⟩
abbrev S_ : Shape := ⟨0, ![]⟩
abbrev S1024x512 : Shape := ⟨2, ![1024, 512]⟩

abbrev nBuf : Space → Nat
  | .hbm => 56
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S1x1024x512, .f32⟩
  | .hbm, ⟨9, _⟩ => ⟨S8x1024x512, .f32⟩
  | .hbm, ⟨10, _⟩ => ⟨S_, .f32⟩
  | .hbm, ⟨11, _⟩ => ⟨S1024x512, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S_, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S_, .f32⟩
  | .hbm, ⟨34, _⟩ => ⟨S1x1024x512, .f32⟩
  | .hbm, ⟨35, _⟩ => ⟨S1x1024x512, .f32⟩
  | .hbm, ⟨36, _⟩ => ⟨S1x1024x512, .f32⟩
  | .hbm, ⟨37, _⟩ => ⟨S_, .f32⟩
  | .hbm, ⟨38, _⟩ => ⟨S1x1024x512, .f32⟩
  | .hbm, ⟨39, _⟩ => ⟨S1x1024x512, .f32⟩
  | .hbm, ⟨40, _⟩ => ⟨S1x1024x512, .f32⟩
  | .hbm, ⟨41, _⟩ => ⟨S_, .f32⟩
  | .hbm, ⟨42, _⟩ => ⟨S1x1024x512, .f32⟩
  | .hbm, ⟨43, _⟩ => ⟨S1x1024x512, .f32⟩
  | .hbm, ⟨44, _⟩ => ⟨S1x1024x512, .f32⟩
  | .hbm, ⟨45, _⟩ => ⟨S_, .f32⟩
  | .hbm, ⟨46, _⟩ => ⟨S1x1024x512, .f32⟩
  | .hbm, ⟨47, _⟩ => ⟨S1x1024x512, .f32⟩
  | .hbm, ⟨48, _⟩ => ⟨S1x1024x512, .f32⟩
  | .hbm, ⟨49, _⟩ => ⟨S2x1024x512, .f32⟩
  | .hbm, ⟨50, _⟩ => ⟨S1x1024x512, .f32⟩
  | .hbm, ⟨51, _⟩ => ⟨S2x1024x512, .f32⟩
  | .hbm, ⟨52, _⟩ => ⟨S1x1024x512, .f32⟩
  | .hbm, ⟨53, _⟩ => ⟨S2x1024x512, .f32⟩
  | .hbm, ⟨54, _⟩ => ⟨S1x1024x512, .f32⟩
  | .hbm, ⟨55, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== AdamUp0.lean ====
abbrev S2x1024x512 : Shape := ⟨3, ![2, 1024, 512]⟩
abbrev S8x1024x512 : Shape := ⟨3, ![8, 1024, 512]⟩
abbrev S1x512x512 : Shape := ⟨3, ![1, 512, 512]⟩
abbrev S8x512x512 : Shape := ⟨3, ![8, 512, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x512, .f32⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S8x512x512, .bf16⟩
  | .local _ .vmem, ⟨3, _⟩ => ⟨S8x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUp0ReferenceIdeal.lean ====
abbrev S2x1024x512 : Shape := ⟨3, ![2, 1024, 512]⟩
abbrev S8x1024x512 : Shape := ⟨3, ![8, 1024, 512]⟩
abbrev S1x1024x512 : Shape := ⟨3, ![1, 1024, 512]⟩
abbrev S_ : Shape := ⟨0, ![]⟩
abbrev S1024x512 : Shape := ⟨2, ![1024, 512]⟩

abbrev nBuf : Space → Nat
  | .hbm => 56
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S1x1024x512, .f32⟩
  | .hbm, ⟨5, _⟩ => ⟨S8x1024x512, .f32⟩
  | .hbm, ⟨6, _⟩ => ⟨S_, .f32⟩
  | .hbm, ⟨7, _⟩ => ⟨S1024x512, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S_, .f32⟩
  | .hbm, ⟨15, _⟩ => ⟨S1x1024x512, .f32⟩
  | .hbm, ⟨16, _⟩ => ⟨S1x1024x512, .f32⟩
  | .hbm, ⟨17, _⟩ => ⟨S1x1024x512, .f32⟩
  | .hbm, ⟨18, _⟩ => ⟨S_, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S_, .f32⟩
  | .hbm, ⟨30, _⟩ => ⟨S1x1024x512, .f32⟩
  | .hbm, ⟨31, _⟩ => ⟨S1x1024x512, .f32⟩
  | .hbm, ⟨32, _⟩ => ⟨S1x1024x512, .f32⟩
  | .hbm, ⟨33, _⟩ => ⟨S_, .f32⟩
  | .hbm, ⟨34, _⟩ => ⟨S1x1024x512, .f32⟩
  | .hbm, ⟨35, _⟩ => ⟨S1x1024x512, .f32⟩
  | .hbm, ⟨36, _⟩ => ⟨S1x1024x512, .f32⟩
  | .hbm, ⟨37, _⟩ => ⟨S_, .f32⟩
  | .hbm, ⟨38, _⟩ => ⟨S1x1024x512, .f32⟩
  | .hbm, ⟨39, _⟩ => ⟨S1x1024x512, .f32⟩
  | .hbm, ⟨40, _⟩ => ⟨S1x1024x512, .f32⟩
  | .hbm, ⟨41, _⟩ => ⟨S_, .f32⟩
  | .hbm, ⟨42, _⟩ => ⟨S1x1024x512, .f32⟩
  | .hbm, ⟨43, _⟩ => ⟨S1x1024x512, .f32⟩
  | .hbm, ⟨44, _⟩ => ⟨S_, .f32⟩
  | .hbm, ⟨45, _⟩ => ⟨S1x1024x512, .f32⟩
  | .hbm, ⟨46, _⟩ => ⟨S2x1024x512, .f32⟩
  | .hbm, ⟨47, _⟩ => ⟨S_, .f32⟩
  | .hbm, ⟨48, _⟩ => ⟨S1x1024x512, .f32⟩
  | .hbm, ⟨49, _⟩ => ⟨S2x1024x512, .f32⟩
  | .hbm, ⟨50, _⟩ => ⟨S_, .f32⟩
  | .hbm, ⟨51, _⟩ => ⟨S1x1024x512, .f32⟩
  | .hbm, ⟨52, _⟩ => ⟨S2x1024x512, .f32⟩
  | .hbm, ⟨53, _⟩ => ⟨S_, .f32⟩
  | .hbm, ⟨54, _⟩ => ⟨S1x1024x512, .f32⟩
  | .hbm, ⟨55, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== AdamDown.lean ====
abbrev S2x512x1024 : Shape := ⟨3, ![2, 512, 1024]⟩
abbrev S8x512x1024 : Shape := ⟨3, ![8, 512, 1024]⟩
abbrev S1x256x1024 : Shape := ⟨3, ![1, 256, 1024]⟩
abbrev S8x256x1024 : Shape := ⟨3, ![8, 256, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x512x1024, .f32⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownReferenceIdeal.lean ====
abbrev S2x512x1024 : Shape := ⟨3, ![2, 512, 1024]⟩
abbrev S8x512x1024 : Shape := ⟨3, ![8, 512, 1024]⟩
abbrev S1x512x1024 : Shape := ⟨3, ![1, 512, 1024]⟩
abbrev S_ : Shape := ⟨0, ![]⟩
abbrev S512x1024 : Shape := ⟨2, ![512, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S1x512x1024, .f32⟩
  | .hbm, ⟨9, _⟩ => ⟨S8x512x1024, .f32⟩
  | .hbm, ⟨10, _⟩ => ⟨S_, .f32⟩
  | .hbm, ⟨11, _⟩ => ⟨S512x1024, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S_, .f32⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S_, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S_, .f32⟩
  | .hbm, ⟨34, _⟩ => ⟨S1x512x1024, .f32⟩
  | .hbm, ⟨35, _⟩ => ⟨S1x512x1024, .f32⟩
  | .hbm, ⟨36, _⟩ => ⟨S1x512x1024, .f32⟩
  | .hbm, ⟨37, _⟩ => ⟨S_, .f32⟩
  | .hbm, ⟨38, _⟩ => ⟨S1x512x1024, .f32⟩
  | .hbm, ⟨39, _⟩ => ⟨S1x512x1024, .f32⟩
  | .hbm, ⟨40, _⟩ => ⟨S1x512x1024, .f32⟩
  | .hbm, ⟨41, _⟩ => ⟨S_, .f32⟩
  | .hbm, ⟨42, _⟩ => ⟨S1x512x1024, .f32⟩
  | .hbm, ⟨43, _⟩ => ⟨S1x512x1024, .f32⟩
  | .hbm, ⟨44, _⟩ => ⟨S1x512x1024, .f32⟩
  | .hbm, ⟨45, _⟩ => ⟨S_, .f32⟩
  | .hbm, ⟨46, _⟩ => ⟨S1x512x1024, .f32⟩
  | .hbm, ⟨47, _⟩ => ⟨S1x512x1024, .f32⟩
  | .hbm, ⟨48, _⟩ => ⟨S1x512x1024, .f32⟩
  | .hbm, ⟨49, _⟩ => ⟨S2x512x1024, .f32⟩
  | .hbm, ⟨50, _⟩ => ⟨S1x512x1024, .f32⟩
  | .hbm, ⟨51, _⟩ => ⟨S2x512x1024, .f32⟩
  | .hbm, ⟨52, _⟩ => ⟨S1x512x1024, .f32⟩
  | .hbm, ⟨53, _⟩ => ⟨S2x512x1024, .f32⟩
  | .hbm, ⟨54, _⟩ => ⟨S1x512x1024, .f32⟩
  | .hbm, ⟨55, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== AdamOut.lean ====
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x128x1024, .f32⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutReferenceIdeal.lean ====
abbrev S1x128x1024 : Shape := ⟨3, ![1, 128, 1024]⟩
abbrev S8x128x1024 : Shape := ⟨3, ![8, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamSmall.lean ====
abbrev S688x128 : Shape := ⟨2, ![688, 128]⟩
abbrev S8x688x128 : Shape := ⟨3, ![8, 688, 128]⟩
abbrev S1x688x128 : Shape := ⟨3, ![1, 688, 128]⟩

abbrev nBuf : Space → Nat
  | .hbm => 8
  | .vmem => 8
  | .smem => 0
  | _ => 0

abbrev bufTy : (tb : Table) → Fin (tcTables nBuf tb) → BufTy
  | .hbm, ⟨0, _⟩ => ⟨S688x128, .f32⟩
  | .hbm, ⟨1, _⟩ => ⟨S8x688x128, .f32⟩
  | .hbm, ⟨2, _⟩ => ⟨S688x128, .f32⟩
  | .hbm, ⟨3, _⟩ => ⟨S688x128, .f32⟩
  | .hbm, ⟨4, _⟩ => ⟨S688x128, .f32⟩
  | .hbm, ⟨5, _⟩ => ⟨S688x128, .f32⟩
  | .hbm, ⟨6, _⟩ => ⟨S688x128, .f32⟩
  | .hbm, ⟨7, _⟩ => ⟨S688x128, .f32⟩
  | .local _ .vmem, ⟨0, _⟩ => ⟨S688x128, .f32⟩
  | .local _ .vmem, ⟨1, _⟩ => ⟨S8x688x128, .f32⟩
  | .local _ .vmem, ⟨2, _⟩ => ⟨S688x128, .f32⟩
  | .local _ .vmem, ⟨3, _⟩ => ⟨S688x128, .f32⟩
  | .local _ .vmem, ⟨4, _⟩ => ⟨S688x128, .f32⟩
  | .local _ .vmem, ⟨5, _⟩ => ⟨S688x128, .f32⟩
  | .local _ .vmem, ⟨6, _⟩ => ⟨S688x128, .f32⟩
  | .local _ .vmem, ⟨7, _⟩ => ⟨S688x128, .f32⟩
  | _, _ => ⟨S688x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S688x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x688x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S688x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S688x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S688x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S688x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S688x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S688x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallReferenceIdeal.lean ====
abbrev S688x128 : Shape := ⟨2, ![688, 128]⟩
abbrev S8x688x128 : Shape := ⟨3, ![8, 688, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S688x128, .f32⟩
  | .hbm, ⟨1, _⟩ => ⟨S8x688x128, .f32⟩
  | .hbm, ⟨2, _⟩ => ⟨S688x128, .f32⟩
  | .hbm, ⟨3, _⟩ => ⟨S688x128, .f32⟩
  | .hbm, ⟨4, _⟩ => ⟨S_, .f32⟩
  | .hbm, ⟨5, _⟩ => ⟨S688x128, .f32⟩
  | .hbm, ⟨6, _⟩ => ⟨S_, .f32⟩
  | .hbm, ⟨7, _⟩ => ⟨S688x128, .f32⟩
  | .hbm, ⟨8, _⟩ => ⟨S688x128, .f32⟩
  | .hbm, ⟨9, _⟩ => ⟨S_, .f32⟩
  | .hbm, ⟨10, _⟩ => ⟨S688x128, .f32⟩
  | .hbm, ⟨11, _⟩ => ⟨S688x128, .f32⟩
  | .hbm, ⟨12, _⟩ => ⟨S688x128, .f32⟩
  | .hbm, ⟨13, _⟩ => ⟨S_, .f32⟩
  | .hbm, ⟨14, _⟩ => ⟨S688x128, .f32⟩
  | .hbm, ⟨15, _⟩ => ⟨S688x128, .f32⟩
  | .hbm, ⟨16, _⟩ => ⟨S688x128, .f32⟩
  | .hbm, ⟨17, _⟩ => ⟨S_, .f32⟩
  | .hbm, ⟨18, _⟩ => ⟨S688x128, .f32⟩
  | .hbm, ⟨19, _⟩ => ⟨S688x128, .f32⟩
  | .hbm, ⟨20, _⟩ => ⟨S688x128, .f32⟩
  | .hbm, ⟨21, _⟩ => ⟨S_, .f32⟩
  | .hbm, ⟨22, _⟩ => ⟨S688x128, .f32⟩
  | .hbm, ⟨23, _⟩ => ⟨S688x128, .f32⟩
  | .hbm, ⟨24, _⟩ => ⟨S_, .f32⟩
  | .hbm, ⟨25, _⟩ => ⟨S688x128, .f32⟩
  | .hbm, ⟨26, _⟩ => ⟨S688x128, .f32⟩
  | .hbm, ⟨27, _⟩ => ⟨S688x128, .f32⟩
  | .hbm, ⟨28, _⟩ => ⟨S_, .f32⟩
  | .hbm, ⟨29, _⟩ => ⟨S688x128, .f32⟩
  | .hbm, ⟨30, _⟩ => ⟨S688x128, .f32⟩
  | .hbm, ⟨31, _⟩ => ⟨S688x128, .f32⟩
  | .hbm, ⟨32, _⟩ => ⟨S_, .f32⟩
  | .hbm, ⟨33, _⟩ => ⟨S688x128, .f32⟩
  | .hbm, ⟨34, _⟩ => ⟨S688x128, .f32⟩
  | .hbm, ⟨35, _⟩ => ⟨S688x128, .f32⟩
  | .hbm, ⟨36, _⟩ => ⟨S_, .f32⟩
  | .hbm, ⟨37, _⟩ => ⟨S688x128, .f32⟩
  | .hbm, ⟨38, _⟩ => ⟨S688x128, .f32⟩
  | _, _ => ⟨S688x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown0.lean ====
abbrev S2x512x1024 : Shape := ⟨3, ![2, 512, 1024]⟩
abbrev S8x512x1024 : Shape := ⟨3, ![8, 512, 1024]⟩
abbrev S1x256x1024 : Shape := ⟨3, ![1, 256, 1024]⟩
abbrev S8x256x1024 : Shape := ⟨3, ![8, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x512x1024, .f32⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDown0ReferenceIdeal.lean ====
abbrev S2x512x1024 : Shape := ⟨3, ![2, 512, 1024]⟩
abbrev S8x512x1024 : Shape := ⟨3, ![8, 512, 1024]⟩
abbrev S1x512x1024 : Shape := ⟨3, ![1, 512, 1024]⟩
abbrev S_ : Shape := ⟨0, ![]⟩
abbrev S512x1024 : Shape := ⟨2, ![512, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S1x512x1024, .f32⟩
  | .hbm, ⟨5, _⟩ => ⟨S8x512x1024, .f32⟩
  | .hbm, ⟨6, _⟩ => ⟨S_, .f32⟩
  | .hbm, ⟨7, _⟩ => ⟨S512x1024, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S_, .f32⟩
  | .hbm, ⟨15, _⟩ => ⟨S1x512x1024, .f32⟩
  | .hbm, ⟨16, _⟩ => ⟨S1x512x1024, .f32⟩
  | .hbm, ⟨17, _⟩ => ⟨S1x512x1024, .f32⟩
  | .hbm, ⟨18, _⟩ => ⟨S_, .f32⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S_, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S_, .f32⟩
  | .hbm, ⟨30, _⟩ => ⟨S1x512x1024, .f32⟩
  | .hbm, ⟨31, _⟩ => ⟨S1x512x1024, .f32⟩
  | .hbm, ⟨32, _⟩ => ⟨S1x512x1024, .f32⟩
  | .hbm, ⟨33, _⟩ => ⟨S_, .f32⟩
  | .hbm, ⟨34, _⟩ => ⟨S1x512x1024, .f32⟩
  | .hbm, ⟨35, _⟩ => ⟨S1x512x1024, .f32⟩
  | .hbm, ⟨36, _⟩ => ⟨S1x512x1024, .f32⟩
  | .hbm, ⟨37, _⟩ => ⟨S_, .f32⟩
  | .hbm, ⟨38, _⟩ => ⟨S1x512x1024, .f32⟩
  | .hbm, ⟨39, _⟩ => ⟨S1x512x1024, .f32⟩
  | .hbm, ⟨40, _⟩ => ⟨S1x512x1024, .f32⟩
  | .hbm, ⟨41, _⟩ => ⟨S_, .f32⟩
  | .hbm, ⟨42, _⟩ => ⟨S1x512x1024, .f32⟩
  | .hbm, ⟨43, _⟩ => ⟨S1x512x1024, .f32⟩
  | .hbm, ⟨44, _⟩ => ⟨S_, .f32⟩
  | .hbm, ⟨45, _⟩ => ⟨S1x512x1024, .f32⟩
  | .hbm, ⟨46, _⟩ => ⟨S2x512x1024, .f32⟩
  | .hbm, ⟨47, _⟩ => ⟨S_, .f32⟩
  | .hbm, ⟨48, _⟩ => ⟨S1x512x1024, .f32⟩
  | .hbm, ⟨49, _⟩ => ⟨S2x512x1024, .f32⟩
  | .hbm, ⟨50, _⟩ => ⟨S_, .f32⟩
  | .hbm, ⟨51, _⟩ => ⟨S1x512x1024, .f32⟩
  | .hbm, ⟨52, _⟩ => ⟨S2x512x1024, .f32⟩
  | .hbm, ⟨53, _⟩ => ⟨S_, .f32⟩
  | .hbm, ⟨54, _⟩ => ⟨S1x512x1024, .f32⟩
  | .hbm, ⟨55, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== AdamNorm.lean ====
abbrev S2x1024 : Shape := ⟨2, ![2, 1024]⟩
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 11
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S8x16x128, .f32⟩
  | .hbm, ⟨2, _⟩ => ⟨S2x1024, .f32⟩
  | .hbm, ⟨3, _⟩ => ⟨S2x1024, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormReferenceIdeal.lean ====
abbrev S2x1024 : Shape := ⟨2, ![2, 1024]⟩
abbrev S8x16x128 : Shape := ⟨3, ![8, 16, 128]⟩
abbrev S16x128 : Shape := ⟨2, ![16, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S8x16x128, .f32⟩
  | .hbm, ⟨2, _⟩ => ⟨S2x1024, .f32⟩
  | .hbm, ⟨3, _⟩ => ⟨S2x1024, .f32⟩
  | .hbm, ⟨4, _⟩ => ⟨S16x128, .f32⟩
  | .hbm, ⟨5, _⟩ => ⟨S_, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S_, .f32⟩
  | .hbm, ⟨13, _⟩ => ⟨S16x128, .f32⟩
  | .hbm, ⟨14, _⟩ => ⟨S16x128, .f32⟩
  | .hbm, ⟨15, _⟩ => ⟨S16x128, .f32⟩
  | .hbm, ⟨16, _⟩ => ⟨S_, .f32⟩
  | .hbm, ⟨17, _⟩ => ⟨S16x128, .f32⟩
  | .hbm, ⟨18, _⟩ => ⟨S16x128, .f32⟩
  | .hbm, ⟨19, _⟩ => ⟨S16x128, .f32⟩
  | .hbm, ⟨20, _⟩ => ⟨S_, .f32⟩
  | .hbm, ⟨21, _⟩ => ⟨S16x128, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S_, .f32⟩
  | .hbm, ⟨28, _⟩ => ⟨S16x128, .f32⟩
  | .hbm, ⟨29, _⟩ => ⟨S16x128, .f32⟩
  | .hbm, ⟨30, _⟩ => ⟨S16x128, .f32⟩
  | .hbm, ⟨31, _⟩ => ⟨S_, .f32⟩
  | .hbm, ⟨32, _⟩ => ⟨S16x128, .f32⟩
  | .hbm, ⟨33, _⟩ => ⟨S16x128, .f32⟩
  | .hbm, ⟨34, _⟩ => ⟨S16x128, .f32⟩
  | .hbm, ⟨35, _⟩ => ⟨S_, .f32⟩
  | .hbm, ⟨36, _⟩ => ⟨S16x128, .f32⟩
  | .hbm, ⟨37, _⟩ => ⟨S16x128, .f32⟩
  | .hbm, ⟨38, _⟩ => ⟨S16x128, .f32⟩
  | .hbm, ⟨39, _⟩ => ⟨S_, .f32⟩
  | .hbm, ⟨40, _⟩ => ⟨S16x128, .f32⟩
  | .hbm, ⟨41, _⟩ => ⟨S16x128, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamLruConv.lean ====
abbrev S1x4x64 : Shape := ⟨3, ![1, 4, 64]⟩
abbrev S4x64 : Shape := ⟨2, ![4, 64]⟩

abbrev nBuf : Space → Nat
  | .hbm => 8
  | .vmem => 8
  | .smem => 0
  | _ => 0

abbrev bufTy : (tb : Table) → Fin (tcTables nBuf tb) → BufTy
  | .hbm, ⟨0, _⟩ => ⟨S1x4x64, .f32⟩
  | .hbm, ⟨1, _⟩ => ⟨S1x4x64, .f32⟩
  | .hbm, ⟨2, _⟩ => ⟨S1x4x64, .f32⟩
  | .hbm, ⟨3, _⟩ => ⟨S1x4x64, .f32⟩
  | .hbm, ⟨4, _⟩ => ⟨S1x4x64, .f32⟩
  | .hbm, ⟨5, _⟩ => ⟨S1x4x64, .f32⟩
  | .hbm, ⟨6, _⟩ => ⟨S1x4x64, .f32⟩
  | .hbm, ⟨7, _⟩ => ⟨S1x4x64, .f32⟩
  | .local _ .vmem, ⟨0, _⟩ => ⟨S1x4x64, .f32⟩
  | .local _ .vmem, ⟨1, _⟩ => ⟨S1x4x64, .f32⟩
  | .local _ .vmem, ⟨2, _⟩ => ⟨S1x4x64, .f32⟩
  | .local _ .vmem, ⟨3, _⟩ => ⟨S1x4x64, .f32⟩
  | .local _ .vmem, ⟨4, _⟩ => ⟨S1x4x64, .f32⟩
  | .local _ .vmem, ⟨5, _⟩ => ⟨S1x4x64, .f32⟩
  | .local _ .vmem, ⟨6, _⟩ => ⟨S1x4x64, .f32⟩
  | .local _ .vmem, ⟨7, _⟩ => ⟨S1x4x64, .f32⟩
  | _, _ => ⟨S1x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLruConvReferenceIdeal.lean ====
abbrev S1x4x64 : Shape := ⟨3, ![1, 4, 64]⟩
abbrev S_ : Shape := ⟨0, ![]⟩
abbrev S4x64 : Shape := ⟨2, ![4, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x4x64, .f32⟩
  | .hbm, ⟨1, _⟩ => ⟨S1x4x64, .f32⟩
  | .hbm, ⟨2, _⟩ => ⟨S1x4x64, .f32⟩
  | .hbm, ⟨3, _⟩ => ⟨S1x4x64, .f32⟩
  | .hbm, ⟨4, _⟩ => ⟨S_, .f32⟩
  | .hbm, ⟨5, _⟩ => ⟨S4x64, .f32⟩
  | .hbm, ⟨6, _⟩ => ⟨S1x4x64, .f32⟩
  | .hbm, ⟨7, _⟩ => ⟨S_, .f32⟩
  | .hbm, ⟨8, _⟩ => ⟨S1x4x64, .f32⟩
  | .hbm, ⟨9, _⟩ => ⟨S1x4x64, .f32⟩
  | .hbm, ⟨10, _⟩ => ⟨S_, .f32⟩
  | .hbm, ⟨11, _⟩ => ⟨S1x4x64, .f32⟩
  | .hbm, ⟨12, _⟩ => ⟨S1x4x64, .f32⟩
  | .hbm, ⟨13, _⟩ => ⟨S1x4x64, .f32⟩
  | .hbm, ⟨14, _⟩ => ⟨S_, .f32⟩
  | .hbm, ⟨15, _⟩ => ⟨S1x4x64, .f32⟩
  | .hbm, ⟨16, _⟩ => ⟨S1x4x64, .f32⟩
  | .hbm, ⟨17, _⟩ => ⟨S1x4x64, .f32⟩
  | .hbm, ⟨18, _⟩ => ⟨S_, .f32⟩
  | .hbm, ⟨19, _⟩ => ⟨S1x4x64, .f32⟩
  | .hbm, ⟨20, _⟩ => ⟨S1x4x64, .f32⟩
  | .hbm, ⟨21, _⟩ => ⟨S1x4x64, .f32⟩
  | .hbm, ⟨22, _⟩ => ⟨S_, .f32⟩
  | .hbm, ⟨23, _⟩ => ⟨S1x4x64, .f32⟩
  | .hbm, ⟨24, _⟩ => ⟨S1x4x64, .f32⟩
  | .hbm, ⟨25, _⟩ => ⟨S_, .f32⟩
  | .hbm, ⟨26, _⟩ => ⟨S1x4x64, .f32⟩
  | .hbm, ⟨27, _⟩ => ⟨S1x4x64, .f32⟩
  | .hbm, ⟨28, _⟩ => ⟨S1x4x64, .f32⟩
  | .hbm, ⟨29, _⟩ => ⟨S_, .f32⟩
  | .hbm, ⟨30, _⟩ => ⟨S1x4x64, .f32⟩
  | .hbm, ⟨31, _⟩ => ⟨S1x4x64, .f32⟩
  | .hbm, ⟨32, _⟩ => ⟨S1x4x64, .f32⟩
  | .hbm, ⟨33, _⟩ => ⟨S_, .f32⟩
  | .hbm, ⟨34, _⟩ => ⟨S1x4x64, .f32⟩
  | .hbm, ⟨35, _⟩ => ⟨S1x4x64, .f32⟩
  | .hbm, ⟨36, _⟩ => ⟨S1x4x64, .f32⟩
  | .hbm, ⟨37, _⟩ => ⟨S_, .f32⟩
  | .hbm, ⟨38, _⟩ => ⟨S1x4x64, .f32⟩
  | .hbm, ⟨39, _⟩ => ⟨S1x4x64, .f32⟩
  | _, _ => ⟨S1x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGdnConv.lean ====
abbrev S1x4x384 : Shape := ⟨3, ![1, 4, 384]⟩
abbrev S4x384 : Shape := ⟨2, ![4, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S1x4x384, .f32⟩
  | .hbm, ⟨6, _⟩ => ⟨S1x4x384, .f32⟩
  | .hbm, ⟨7, _⟩ => ⟨S1x4x384, .f32⟩
  | .local _ .vmem, ⟨0, _⟩ => ⟨S1x4x384, .f32⟩
  | .local _ .vmem, ⟨1, _⟩ => ⟨S1x4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGdnConvReferenceIdeal.lean ====
abbrev S1x4x384 : Shape := ⟨3, ![1, 4, 384]⟩
abbrev S_ : Shape := ⟨0, ![]⟩
abbrev S4x384 : Shape := ⟨2, ![4, 384]⟩

abbrev nBuf : Space → Nat
  | .hbm => 40
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S_, .f32⟩
  | .hbm, ⟨5, _⟩ => ⟨S4x384, .f32⟩
  | .hbm, ⟨6, _⟩ => ⟨S1x4x384, .f32⟩
  | .hbm, ⟨7, _⟩ => ⟨S_, .f32⟩
  | .hbm, ⟨8, _⟩ => ⟨S1x4x384, .f32⟩
  | .hbm, ⟨9, _⟩ => ⟨S1x4x384, .f32⟩
  | .hbm, ⟨10, _⟩ => ⟨S_, .f32⟩
  | .hbm, ⟨11, _⟩ => ⟨S1x4x384, .f32⟩
  | .hbm, ⟨12, _⟩ => ⟨S1x4x384, .f32⟩
  | .hbm, ⟨13, _⟩ => ⟨S1x4x384, .f32⟩
  | .hbm, ⟨14, _⟩ => ⟨S_, .f32⟩
  | .hbm, ⟨15, _⟩ => ⟨S1x4x384, .f32⟩
  | .hbm, ⟨16, _⟩ => ⟨S1x4x384, .f32⟩
  | .hbm, ⟨17, _⟩ => ⟨S1x4x384, .f32⟩
  | .hbm, ⟨18, _⟩ => ⟨S_, .f32⟩
  | .hbm, ⟨19, _⟩ => ⟨S1x4x384, .f32⟩
  | .hbm, ⟨20, _⟩ => ⟨S1x4x384, .f32⟩
  | .hbm, ⟨21, _⟩ => ⟨S1x4x384, .f32⟩
  | .hbm, ⟨22, _⟩ => ⟨S_, .f32⟩
  | .hbm, ⟨23, _⟩ => ⟨S1x4x384, .f32⟩
  | .hbm, ⟨24, _⟩ => ⟨S1x4x384, .f32⟩
  | .hbm, ⟨25, _⟩ => ⟨S_, .f32⟩
  | .hbm, ⟨26, _⟩ => ⟨S1x4x384, .f32⟩
  | .hbm, ⟨27, _⟩ => ⟨S1x4x384, .f32⟩
  | .hbm, ⟨28, _⟩ => ⟨S1x4x384, .f32⟩
  | .hbm, ⟨29, _⟩ => ⟨S_, .f32⟩
  | .hbm, ⟨30, _⟩ => ⟨S1x4x384, .f32⟩
  | .hbm, ⟨31, _⟩ => ⟨S1x4x384, .f32⟩
  | .hbm, ⟨32, _⟩ => ⟨S1x4x384, .f32⟩
  | .hbm, ⟨33, _⟩ => ⟨S_, .f32⟩
  | .hbm, ⟨34, _⟩ => ⟨S1x4x384, .f32⟩
  | .hbm, ⟨35, _⟩ => ⟨S1x4x384, .f32⟩
  | .hbm, ⟨36, _⟩ => ⟨S1x4x384, .f32⟩
  | .hbm, ⟨37, _⟩ => ⟨S_, .f32⟩
  | .hbm, ⟨38, _⟩ => ⟨S1x4x384, .f32⟩
  | .hbm, ⟨39, _⟩ => ⟨S1x4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== LruConv.lean ====
abbrev S4096x3072 : Shape := ⟨2, ![4096, 3072]⟩
abbrev S4x512 : Shape := ⟨2, ![4, 512]⟩
abbrev S1x512 : Shape := ⟨2, ![1, 512]⟩
abbrev S4096x512 : Shape := ⟨2, ![4096, 512]⟩
abbrev S1024x512 : Shape := ⟨2, ![1024, 512]⟩
abbrev S1032x512 : Shape := ⟨2, ![1032, 512]⟩
abbrev S8x512 : Shape := ⟨2, ![8, 512]⟩
abbrev S4x128 : Shape := ⟨2, ![4, 128]⟩
abbrev S1x128 : Shape := ⟨2, ![1, 128]⟩
abbrev S64x128 : Shape := ⟨2, ![64, 128]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S4x512, .f32⟩
  | .hbm, ⟨2, _⟩ => ⟨S1x512, .f32⟩
  | .hbm, ⟨3, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S4x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1032x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LruConvReferenceIdeal.lean ====
abbrev S4096x3072 : Shape := ⟨2, ![4096, 3072]⟩
abbrev S4x512 : Shape := ⟨2, ![4, 512]⟩
abbrev S1x512 : Shape := ⟨2, ![1, 512]⟩
abbrev S4096x512 : Shape := ⟨2, ![4096, 512]⟩
abbrev S_ : Shape := ⟨0, ![]⟩
abbrev S4099x512 : Shape := ⟨2, ![4099, 512]⟩
abbrev S512 : Shape := ⟨1, ![512]⟩

abbrev nBuf : Space → Nat
  | .hbm => 39
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x512, .f32⟩
  | .hbm, ⟨2, _⟩ => ⟨S1x512, .f32⟩
  | .hbm, ⟨3, _⟩ => ⟨S4096x512, .f32⟩
  | .hbm, ⟨4, _⟩ => ⟨S_, .i32⟩
  | .hbm, ⟨5, _⟩ => ⟨S_, .f32⟩
  | .hbm, ⟨6, _⟩ => ⟨S4099x512, .f32⟩
  | .hbm, ⟨7, _⟩ => ⟨S1x512, .f32⟩
  | .hbm, ⟨8, _⟩ => ⟨S512, .f32⟩
  | .hbm, ⟨9, _⟩ => ⟨S4096x512, .f32⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S1x512, .f32⟩
  | .hbm, ⟨17, _⟩ => ⟨S512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S512, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S1x512, .f32⟩
  | .hbm, ⟨31, _⟩ => ⟨S512, .f32⟩
  | .hbm, ⟨32, _⟩ => ⟨S4096x512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Proof.Frames.lean ====
/- The frames of the retention's gradient: one run of the kernel over any values, read at both. -/
module
public import proofs.«01_k».proof.Defs
public import proofs.«01_k».proof.Proof.Gen.Kernel
public import proofs.«01_k».proof.Proof.Gen.KernelIdeal.Value
public import proofs.«01_k».proof.Proof.Gen.ReferenceIdeal
public import proofs.«01_k».proof.Proof.Gen.ReferenceIdeal.Read
public import Idealize.ShloMosaic.Adequacy
public import Idealize.ShloMosaic.Init
@[expose] public section
noncomputable section
namespace Cert.Proof
open Idealize.ShloMosaic Idealize.SL.Sem

/-- The two kernels are one function. -/
theorem body_eq : Cert.Kernel.cc0_ret_bwd (F := Bits) = Cert.KernelIdeal.cc0_ret_bwd (F := Bits) := rfl
/-- The two programs have one table of bodies. -/
theorem defs0_eq : Cert.KernelIdeal.defs₀ (F := Bits) = Cert.Kernel.defs₀ (F := Bits) := by
  unfold Cert.Kernel.defs₀ Cert.KernelIdeal.defs₀
  congr 1
  funext l a
  match l, a with
  | 0, (t, s) => rfl

set_option maxHeartbeats 4000000 in
/-- The kernel runs, keeps its arguments and ends quiescent, at machine words. -/
theorem frame_kernel : Cert.quiescent_Kernel := fun m g _ => by
  have h := Cert.KernelIdeal.Gen.frame (F := Bits) m g
  unfold Cert.KernelIdeal.defs at h
  rw [defs0_eq] at h
  exact h

/-- The reference is a line of host operations and declares no semaphore. -/
theorem frame_reference : Cert.quiescent_ReferenceIdeal := fun m g _ => by
  refine (θ_run Cert.ReferenceIdeal.defs _ _).mono (fun r h => ?_) (Cert.ReferenceIdeal.Value.run (F := Ideal) m g)
  refine ⟨fun c => (h c).2, ?_⟩
  exact sem_eq_zero_of_no_sems (by decide) _
end Cert.Proof
end
-- ==== Proof.Body.lean ====
/- What the kernel's stores hold, as functions of the blocks one grid point reads. -/
module

public import proofs.«01_k».proof.Proof.Gen.KernelIdeal.Value
public import Idealize.ShloMosaic.Lib.Pointwise
public import Idealize.ShloMosaic.Lib.Tactic

@[expose] public section

noncomputable section

namespace Cert.KernelIdeal.Body

open Cert.KernelIdeal Cert.KernelIdeal.Gen Idealize.ShloMosaic Idealize.ShloMosaic.TcCoe Idealize.SL.Sem

variable {F : FTy → Type} [FloatOps F]

/-! ## One chunk's arithmetic, four heads at a time -/

/-- A chunk of one head, with its rotary tables `c` and `s`, rotated; and rotated back. -/
def rot (c s a : FVec F S128x128 .f32) : FVec F S128x128 .f32 :=
  addf (mulf a c) (mulf (dynamicRotate 1 64#32 none a rotates_S128x128_d1) s)
def unrot (c s y : FVec F S128x128 .f32) : FVec F S128x128 .f32 :=
  addf (mulf y c) (dynamicRotate 1 64#32 none (mulf y s) rotates_S128x128_d1)

/-- Four heads in one array, and one head of it. -/
def stack (a : Fin 4 → FVec F S128x128 .f32) : FVec F S4x128x128 .f32 :=
  concatenate S4x128x128 0 [⟨S1x128x128, shapeCast S1x128x128 (a 0) shapeCasts_S128x128_S1x128x128⟩,
    ⟨S1x128x128, shapeCast S1x128x128 (a 1) shapeCasts_S128x128_S1x128x128⟩,
    ⟨S1x128x128, shapeCast S1x128x128 (a 2) shapeCasts_S128x128_S1x128x128⟩,
    ⟨S1x128x128, shapeCast S1x128x128 (a 3) shapeCasts_S128x128_S1x128x128⟩]
    concatenates_S1x128x128_S1x128x128_S1x128x128_S1x128x128_S4x128x128_d0
theorem slices_head (h : Fin 4) : S4x128x128.Slices ![h.val, 0, 0] S1x128x128 := by
  refine ⟨rfl, fun a => ?_⟩
  fin_cases h <;> fin_cases a <;> decide
def head (h : Fin 4) (x : FVec F S4x128x128 .f32) : FVec F S128x128 .f32 :=
  shapeCast S128x128 (extractStridedSlice S1x128x128 ![h.val, 0, 0] x (slices_head h)) shapeCasts_S1x128x128_S128x128

/-- The products: rows with rows, rows with columns, columns with columns. -/
def NT (a b : FVec F S4x128x128 .f32) : FVec F S4x128x128 .f32 :=
  matmul dot_S4x128x128_S4x128x128_S4x128x128_2_2_1_1_0_0 none (truncf .bf16 a bitsLt_bf16_f32) (truncf .bf16 b bitsLt_bf16_f32)
    (constant S4x128x128 .f32 0x00000000#32)
def NN (a b : FVec F S4x128x128 .f32) : FVec F S4x128x128 .f32 :=
  matmul dot_S4x128x128_S4x128x128_S4x128x128_2_1_1_2_0_0 none (truncf .bf16 a bitsLt_bf16_f32) (truncf .bf16 b bitsLt_bf16_f32)
    (constant S4x128x128 .f32 0x00000000#32)
def TN (a b : FVec F S4x128x128 .f32) : FVec F S4x128x128 .f32 :=
  matmul dot_S4x128x128_S4x128x128_S4x128x128_1_1_2_2_0_0 none (truncf .bf16 a bitsLt_bf16_f32) (truncf .bf16 b bitsLt_bf16_f32)
    (constant S4x128x128 .f32 0x00000000#32)

/-- The mean over the features. -/
def mean (x : FVec F S4x128x128 .f32) : FVec F S4x128x1 .f32 :=
  divf (shapeCast S4x128x1 (multiReduction .add [2] S4x128 x 0x00000000#32 reduces_S4x128x128_S4x128 (.inl rfl) rfl)
    shapeCasts_S4x128_S4x128x1) (broadcast S4x128x1 (Scalar.ofBits .f32 0x43000000#32))

def scaleV : FVec F S4x128x128 .f32 := broadcast S4x128x128 (Scalar.ofBits .f32 0x3DB504F3#32)

/-- The reciprocal root of the mean square, and the normed output. -/
def rs (o : FVec F S4x128x128 .f32) : FVec F S4x128x1 .f32 :=
  rsqrt (addf (mean (mulf o o)) (broadcast S4x128x1 (Scalar.ofBits .f32 0x358637BD#32)))
def nrm (o : FVec F S4x128x128 .f32) : FVec F S4x128x128 .f32 := mulf o (broadcastTo S4x128x128 (rs o) broadcasts_S4x128x1_S4x128x128)
def dnF (g dy : FVec F S4x128x128 .f32) : FVec F S4x128x128 .f32 := mulf dy (mulf g (logistic g))
def dgF (g o dy : FVec F S4x128x128 .f32) : FVec F S4x128x128 .f32 :=
  mulf (mulf dy (nrm o)) (mulf (logistic g) (addf (broadcast S4x128x128 (Scalar.ofBits .f32 0x3F800000#32))
    (mulf g (subf (broadcast S4x128x128 (Scalar.ofBits .f32 0x3F800000#32)) (logistic g)))))
def doF (g o dy : FVec F S4x128x128 .f32) : FVec F S4x128x128 .f32 :=
  mulf (broadcastTo S4x128x128 (rs o) broadcasts_S4x128x1_S4x128x128)
    (subf (dnF g dy) (mulf (nrm o) (broadcastTo S4x128x128 (mean (mulf (dnF g dy) (nrm o))) broadcasts_S4x128x1_S4x128x128)))

/-- The gradients of the rotated queries and keys, of the values, and the carry. -/
def dqF (k v S d dm qd : FVec F S4x128x128 .f32) : FVec F S4x128x128 .f32 :=
  addf (NN (mulf (NT d v) dm) k) (mulf (NT d S) qd)
def dkF (q v T d dm kd : FVec F S4x128x128 .f32) : FVec F S4x128x128 .f32 :=
  mulf (addf (TN (mulf (NT d v) dm) q) (mulf (NT v T) kd)) scaleV
def dvF (q k T d dm kd : FVec F S4x128x128 .f32) : FVec F S4x128x128 .f32 :=
  addf (TN (mulf (NT q k) dm) d) (NN (mulf k kd) T)
def dTF (q T d qd cg : FVec F S4x128x128 .f32) : FVec F S4x128x128 .f32 :=
  addf (mulf cg T) (TN (mulf q qd) d)

/-! ## The blocks' loads -/

theorem inb_rows (c : Fin 4) : ∀ a : Fin S512x512.rank, (![128 * c.val, 0] : Fin 2 → ℕ) a + S128x512.size a ≤ S512x512.size a := by
  intro a
  fin_cases c <;> fin_cases a <;> decide
theorem inb_trows (c : Fin 4) : ∀ a : Fin S512x128.rank, (![128 * c.val, 0] : Fin 2 → ℕ) a + S128x128.size a ≤ S512x128.size a := by
  intro a
  fin_cases c <;> fin_cases a <;> decide
theorem inb_cols (h : Fin 4) : ∀ a : Fin S128x512.rank, (![0, 128 * h.val] : Fin 2 → ℕ) a + S128x128.size a ≤ S128x512.size a := by
  intro a
  fin_cases h <;> fin_cases a <;> decide

/-- Chunk `c`, head `h` of a block; chunk `c` of a table's block. -/
def ldw {M : Memref sig .tc .vmem S512x512 .f32} (hM : M.IsWhole) (x : Vec F S512x512 .f32) (c h : Fin 4) : Vec F S128x128 .f32 :=
  View.readAt (Elt F) M.view ((Rect.unit (s := S512x512) ![128 * c.val, 0] S128x512.size (inb_rows c)).withinL
    (Rect.unit (s := S128x512) ![0, 128 * h.val] S128x128.size (inb_cols h)).toLoadRect (fun _ => rfl)) (hM.unread x)
def ldt {M : Memref sig .tc .vmem S512x128 .f32} (hM : M.IsWhole) (x : Vec F S512x128 .f32) (c : Fin 4) : Vec F S128x128 .f32 :=
  shapeCast S128x128 (View.readAt (Elt F) M.view (Rect.unit (s := S512x128) ![128 * c.val, 0] S128x128.size (inb_trows c)).toLoadRect (hM.unread x) :
    Vec F S128x128 .f32) shapeCasts_S128x128_S128x128
theorem inb_tab (k : Fin 4) : ∀ a : Fin S4x4x128x128.rank, (![0, k.val, 0, 0] : Fin 4 → ℕ) a + S4x1x128x128.size a ≤ S4x4x128x128.size a := by
  intro a
  fin_cases k <;> fin_cases a <;> decide
theorem inb_st (c : Fin 4) : ∀ a : Fin S4x4x128x128.rank, (![c.val, 0, 0, 0] : Fin 4 → ℕ) a + S1x4x128x128.size a ≤ S4x4x128x128.size a := by
  intro a
  fin_cases c <;> fin_cases a <;> decide
def ldtab {M : Memref sig .tc .vmem S4x4x128x128 .f32} (hM : M.IsWhole) (x : Vec F S4x4x128x128 .f32) (k : Fin 4) : FVec F S4x128x128 .f32 :=
  shapeCast S4x128x128 (View.readAt (Elt F) M.view (Rect.unit (s := S4x4x128x128) ![0, k.val, 0, 0] S4x1x128x128.size (inb_tab k)).toLoadRect (hM.unread x) :
    Vec F S4x1x128x128 .f32) shapeCasts_S4x1x128x128_S4x128x128
def ldS {M : Memref sig .tc .vmem S4x4x128x128 .f32} (hM : M.IsWhole) (x : Vec F S4x4x128x128 .f32) (c : Fin 4) : FVec F S4x128x128 .f32 :=
  shapeCast S4x128x128 (View.readAt (Elt F) M.view (Rect.unit (s := S4x4x128x128) ![c.val, 0, 0, 0] S1x4x128x128.size (inb_st c)).toLoadRect (hM.unread x) :
    Vec F S1x4x128x128 .f32) shapeCasts_S1x4x128x128_S4x128x128

/-! ## The stores of a grid point -/

/-- The arrays one chunk computes with. -/
structure Ch (F : FTy → Type) where
  (cos sin : FVec F S128x128 .f32)
  (q k v g o dy S : FVec F S4x128x128 .f32)

/-- The tables of the decays. -/
structure Tab (F : FTy → Type) where
  (dm qd kd cg : FVec F S4x128x128 .f32)

theorem inb_out (c h w : Fin 4) : ∀ a : Fin S512x2048.rank, (![128 * c.val, 512 * w.val + 128 * h.val] : Fin 2 → ℕ) a + S128x128.size a
    ≤ S512x2048.size a := by
  intro a
  match a with
  | 0 => show 128 * c.val + 128 ≤ 512; omega
  | 1 => show 512 * w.val + 128 * h.val + 128 ≤ 2048; omega

/-- One store: chunk `c`, head `h`, of the gradient of the projection's part `w`. -/
def piece (c h w : Fin 4) (x : FVec F S128x128 .f32) : View.Piece (Elt F) S512x2048 .bf16 :=
  ⟨Rect.unit (s := S512x2048) ![128 * c.val, 512 * w.val + 128 * h.val] S128x128.size (inb_out c h w), truncf .bf16 x bitsLt_bf16_f32⟩

/-- What chunk `x` leaves in part `w`, head `h`, over the carry `T`. -/
def val (t : Tab F) (x : Ch F) (T : FVec F S4x128x128 .f32) (h w : Fin 4) : FVec F S128x128 .f32 :=
  match w with
  | 0 => unrot x.cos x.sin (head h (dqF x.k x.v x.S (doF x.g x.o x.dy) t.dm t.qd))
  | 1 => unrot x.cos x.sin (head h (dkF x.q x.v T (doF x.g x.o x.dy) t.dm t.kd))
  | 2 => head h (dvF x.q x.k T (doF x.g x.o x.dy) t.dm t.kd)
  | 3 => head h (dgF x.g x.o x.dy)

def headPieces (t : Tab F) (x : Ch F) (T : FVec F S4x128x128 .f32) (c h : Fin 4) : List (View.Piece (Elt F) S512x2048 .bf16) :=
  [piece c h 3 (val t x T h 3), piece c h 2 (val t x T h 2), piece c h 1 (val t x T h 1), piece c h 0 (val t x T h 0)]

def chunkPieces (t : Tab F) (x : Ch F) (T : FVec F S4x128x128 .f32) (c : Fin 4) : List (View.Piece (Elt F) S512x2048 .bf16) :=
  headPieces t x T c 3 ++ headPieces t x T c 2 ++ headPieces t x T c 1 ++ headPieces t x T c 0

/-- The carry after chunk `x`. -/
def carry (t : Tab F) (x : Ch F) (T : FVec F S4x128x128 .f32) : FVec F S4x128x128 .f32 :=
  dTF x.q T (doF x.g x.o x.dy) t.qd t.cg

/-- The carry a chunk of the point meets: the chunks run from the last to the first. -/
def carryAt (t : Tab F) (x : Fin 4 → Ch F) (T : FVec F S4x128x128 .f32) (c : Fin 4) : FVec F S4x128x128 .f32 :=
  match c with
  | 3 => T
  | 2 => carry t (x 3) T
  | 1 => carry t (x 2) (carry t (x 3) T)
  | 0 => carry t (x 1) (carry t (x 2) (carry t (x 3) T))

def pieces (t : Tab F) (x : Fin 4 → Ch F) (T : FVec F S4x128x128 .f32) : List (View.Piece (Elt F) S512x2048 .bf16) :=
  chunkPieces t (x 0) (carryAt t x T 0) 0 ++ chunkPieces t (x 1) (carryAt t x T 1) 1 ++ chunkPieces t (x 2) (carryAt t x T 2) 2
    ++ chunkPieces t (x 3) (carryAt t x T 3) 3

section Runs
variable (c : Dev nD) (i : grid0.Coords)
  {arg1 : Memref sig .tc .vmem S512x512 .f32} (harg1 : arg1.IsWhole) {arg2 : Memref sig .tc .vmem S512x512 .f32} (harg2 : arg2.IsWhole) {arg3 : Memref sig .tc .vmem S512x512 .f32} (harg3 : arg3.IsWhole) {arg4 : Memref sig .tc .vmem S512x512 .f32} (harg4 : arg4.IsWhole) {arg5 : Memref sig .tc .vmem S512x128 .f32} (harg5 : arg5.IsWhole) {arg6 : Memref sig .tc .vmem S512x128 .f32} (harg6 : arg6.IsWhole) {arg7 : Memref sig .tc .vmem S4x4x128x128 .f32} (harg7 : arg7.IsWhole) {arg8 : Memref sig .tc .vmem S512x512 .f32} (harg8 : arg8.IsWhole) {arg9 : Memref sig .tc .vmem S4x4x128x128 .f32} (harg9 : arg9.IsWhole) {arg10 : Memref sig .tc .vmem S512x512 .f32} (harg10 : arg10.IsWhole) {arg11 : Memref sig .tc .vmem S512x2048 .bf16} (harg11 : arg11.IsWhole) {arg12 : Memref sig .tc .vmem S4x128x128 .f32} (harg12 : arg12.IsWhole)
  (x0 x1 x2 x3 : Vec F S512x512 .f32) (x4 x5 : Vec F S512x128 .f32) (x6 : Vec F S4x4x128x128 .f32) (x7 : Vec F S512x512 .f32)
  (x8 : Vec F S4x4x128x128 .f32) (x9 : Vec F S512x512 .f32) (xs0 : Vec F S4x128x128 .f32)

/-- The chunks of a grid point, from its blocks. -/
def chOf (n : Fin 4) : Ch F where
  cos := ldt harg5 x4 n
  sin := ldt harg6 x5 n
  q := stack fun h => rot (ldt harg5 x4 n) (ldt harg6 x5 n) (ldw harg1 x0 n h)
  k := mulf (stack fun h => rot (ldt harg5 x4 n) (ldt harg6 x5 n) (ldw harg2 x1 n h)) scaleV
  v := stack fun h => ldw harg3 x2 n h
  g := stack fun h => ldw harg4 x3 n h
  o := stack fun h => shapeCast S128x128 (ldw harg8 x7 n h) shapeCasts_S128x128_S128x128
  dy := stack fun h => ldw harg10 x9 n h
  S := ldS harg9 x8 n

def tabOf : Tab F where
  dm := ldtab harg7 x6 0
  qd := ldtab harg7 x6 1
  kd := ldtab harg7 x6 2
  cg := ldtab harg7 x6 3

end Runs

end Cert.KernelIdeal.Body

end
-- ==== Proof.Spec.lean ====
/- The retention's gradient over the reals: the sums over the whole sequence, the chunked sums, and why they agree. -/
module

public import Idealize.ShloMosaic.Lib.Pointwise

@[expose] public section

noncomputable section

namespace Cert.Ret

open Finset

/-- The decay from position `s` to position `t`, zero before `s`. -/
def D (lg : ℝ) (t s : ℕ) : ℝ := if s ≤ t then Real.exp (lg * ((t : ℝ) - s)) else 0

/-- The decay of position `s` into the state before chunk `n`. -/
def W (lg : ℝ) (n s : ℕ) : ℝ := if s < 128 * n then Real.exp (lg * (128 * n - 1 - s)) else 0

/-- The decay of position `t` into the carried gradient of the state after chunk `n - 1`. -/
def W' (lg : ℝ) (n t : ℕ) : ℝ := if 128 * n ≤ t then Real.exp (lg * ((t : ℝ) - 128 * n + 1)) else 0

theorem sum_chunk (g : ℕ → ℝ) (n : ℕ) (hn : n < 32) :
    ∑ s ∈ range 4096, g s = ∑ s ∈ range (128 * n), g s + ∑ j ∈ range 128, g (128 * n + j)
      + ∑ r ∈ range (4096 - 128 * (n + 1)), g (128 * (n + 1) + r) := by
  have h : 4096 = 128 * n + 128 + (4096 - 128 * (n + 1)) := by omega
  rw [h, sum_range_add, sum_range_add, ← h]
  rfl

theorem row_split (lg : ℝ) (f : ℕ → ℝ) (n i : ℕ) (hn : n < 32) (hi : i < 128) :
    ∑ s ∈ range 4096, f s * D lg (128 * n + i) s
      = ∑ j ∈ range 128, f (128 * n + j) * D lg i j
        + Real.exp (lg * (i + 1)) * ∑ s ∈ range 4096, f s * W lg n s := by
  rw [sum_chunk _ n hn, sum_chunk (fun s => f s * W lg n s) n hn]
  have h1 : ∑ s ∈ range (128 * n), f s * D lg (128 * n + i) s
      = Real.exp (lg * (i + 1)) * ∑ s ∈ range (128 * n), f s * W lg n s := by
    rw [mul_sum]
    refine sum_congr rfl fun s hs => ?_
    have hs := mem_range.1 hs
    rw [D, W, if_pos (by omega), if_pos hs, mul_left_comm, ← Real.exp_add]
    push_cast
    ring_nf
  have h2 : ∑ j ∈ range 128, f (128 * n + j) * D lg (128 * n + i) (128 * n + j)
      = ∑ j ∈ range 128, f (128 * n + j) * D lg i j := by
    refine sum_congr rfl fun j _ => ?_
    unfold D
    by_cases h : j ≤ i
    · rw [if_pos (by omega), if_pos h]; push_cast; ring_nf
    · rw [if_neg (by omega), if_neg h]
  have h3 : ∀ r, f (128 * (n + 1) + r) * D lg (128 * n + i) (128 * (n + 1) + r) = 0 := fun r => by
    rw [D, if_neg (by omega), mul_zero]
  have h4 : ∀ r, f (128 * (n + 1) + r) * W lg n (128 * (n + 1) + r) = 0 := fun r => by
    rw [W, if_neg (by omega), mul_zero]
  have h5 : ∀ j, f (128 * n + j) * W lg n (128 * n + j) = 0 := fun r => by
    rw [W, if_neg (by omega), mul_zero]
  simp only [h1, h2, h3, h4, h5, sum_const_zero, add_zero]
  ring

theorem col_split (lg : ℝ) (f : ℕ → ℝ) (n j : ℕ) (hn : n < 32) (hj : j < 128) :
    ∑ t ∈ range 4096, f t * D lg t (128 * n + j)
      = ∑ i ∈ range 128, f (128 * n + i) * D lg i j
        + Real.exp (lg * (127 - j)) * ∑ t ∈ range 4096, f t * W' lg (n + 1) t := by
  rw [sum_chunk _ n hn, sum_chunk (fun s => f s * W' lg (n + 1) s) n hn]
  have h1 : ∑ r ∈ range (4096 - 128 * (n + 1)), f (128 * (n + 1) + r) * D lg (128 * (n + 1) + r) (128 * n + j)
      = Real.exp (lg * (127 - j)) * ∑ r ∈ range (4096 - 128 * (n + 1)), f (128 * (n + 1) + r) * W' lg (n + 1) (128 * (n + 1) + r) := by
    rw [mul_sum]
    refine sum_congr rfl fun r _ => ?_
    rw [D, W', if_pos (by omega), if_pos (by omega), mul_left_comm, ← Real.exp_add]
    push_cast
    ring_nf
  have h2 : ∑ i ∈ range 128, f (128 * n + i) * D lg (128 * n + i) (128 * n + j)
      = ∑ i ∈ range 128, f (128 * n + i) * D lg i j := by
    refine sum_congr rfl fun i _ => ?_
    unfold D
    by_cases h : j ≤ i
    · rw [if_pos (by omega), if_pos h]; push_cast; ring_nf
    · rw [if_neg (by omega), if_neg h]
  have h3 : ∑ s ∈ range (128 * n), f s * D lg s (128 * n + j) = 0 := sum_eq_zero fun s hs => by
    have hs := mem_range.1 hs
    rw [D, if_neg (by omega), mul_zero]
  have h4 : ∑ s ∈ range (128 * n), f s * W' lg (n + 1) s = 0 := sum_eq_zero fun s hs => by
    have hs := mem_range.1 hs
    rw [W', if_neg (by omega), mul_zero]
  have h5 : ∑ i ∈ range 128, f (128 * n + i) * W' lg (n + 1) (128 * n + i) = 0 := sum_eq_zero fun i hi => by
    have hi := mem_range.1 hi
    rw [W', if_neg (by omega), mul_zero]
  rw [h1, h2, h3, h4, h5]
  ring

/-- The carried gradient of the state, one chunk further back. -/
theorem carry_split (lg : ℝ) (f : ℕ → ℝ) (n : ℕ) (hn : n < 32) :
    ∑ t ∈ range 4096, f t * W' lg n t
      = Real.exp (lg * 128) * ∑ t ∈ range 4096, f t * W' lg (n + 1) t
        + ∑ i ∈ range 128, f (128 * n + i) * Real.exp (lg * (i + 1)) := by
  rw [sum_chunk _ n hn, sum_chunk (fun s => f s * W' lg (n + 1) s) n hn]
  have h1 : ∑ r ∈ range (4096 - 128 * (n + 1)), f (128 * (n + 1) + r) * W' lg n (128 * (n + 1) + r)
      = Real.exp (lg * 128) * ∑ r ∈ range (4096 - 128 * (n + 1)), f (128 * (n + 1) + r) * W' lg (n + 1) (128 * (n + 1) + r) := by
    rw [mul_sum]
    refine sum_congr rfl fun r _ => ?_
    rw [W', W', if_pos (by omega), if_pos (by omega), mul_left_comm, ← Real.exp_add]
    push_cast
    ring_nf
  have h2 : ∑ i ∈ range 128, f (128 * n + i) * W' lg n (128 * n + i)
      = ∑ i ∈ range 128, f (128 * n + i) * Real.exp (lg * (i + 1)) := by
    refine sum_congr rfl fun i _ => ?_
    rw [W', if_pos (by omega)]
    push_cast
    ring_nf
  have h3 : ∑ s ∈ range (128 * n), f s * W' lg n s = 0 := sum_eq_zero fun s hs => by
    have hs := mem_range.1 hs
    rw [W', if_neg (by omega), mul_zero]
  have h4 : ∑ s ∈ range (128 * n), f s * W' lg (n + 1) s = 0 := sum_eq_zero fun s hs => by
    have hs := mem_range.1 hs
    rw [W', if_neg (by omega), mul_zero]
  have h5 : ∑ i ∈ range 128, f (128 * n + i) * W' lg (n + 1) (128 * n + i) = 0 := sum_eq_zero fun i hi => by
    have hi := mem_range.1 hi
    rw [W', if_neg (by omega), mul_zero]
  rw [h1, h2, h3, h4, h5]
  ring

theorem carry_top (lg : ℝ) (f : ℕ → ℝ) : ∑ t ∈ range 4096, f t * W' lg 32 t = 0 := sum_eq_zero fun s hs => by
  have hs := mem_range.1 hs
  rw [W', if_neg (by omega), mul_zero]

/-! ## One head's gradients: `q`, `k`, `v` and the gradient `o` of the output, position by feature; `k` is scaled -/

section Head
variable (lg : ℝ) (q k v o : ℕ → ℕ → ℝ)

/-- The products of the queries' side with the values' side, decayed. -/
def rdP (t s : ℕ) : ℝ := (∑ e ∈ range 128, o t e * v s e) * D lg t s
def rP (t s : ℕ) : ℝ := (∑ d ∈ range 128, q t d * k s d) * D lg t s

def rdq (t d : ℕ) : ℝ := ∑ s ∈ range 4096, rdP lg v o t s * k s d
def rdk (s d : ℕ) : ℝ := ∑ t ∈ range 4096, rdP lg v o t s * q t d
def rdv (s e : ℕ) : ℝ := ∑ t ∈ range 4096, o t e * rP lg q k t s

/-- The state before chunk `n`, and the carried gradient of the state before chunk `n`. -/
def rS (n d e : ℕ) : ℝ := ∑ s ∈ range 4096, (W lg n s * k s d) * v s e
def rT (n d e : ℕ) : ℝ := ∑ t ∈ range 4096, q t d * o t e * W' lg n t

theorem rdq_chunk (n i d : ℕ) (hn : n < 32) (hi : i < 128) :
    ∑ j ∈ range 128, ((∑ e ∈ range 128, o (128 * n + i) e * v (128 * n + j) e) * D lg i j) * k (128 * n + j) d
      + (∑ e ∈ range 128, o (128 * n + i) e * rS lg k v n d e) * Real.exp (lg * (i + 1))
    = rdq lg k v o (128 * n + i) d := by
  have h := row_split lg (fun s => (∑ e ∈ range 128, o (128 * n + i) e * v s e) * k s d) n i hn hi
  have hl : rdq lg k v o (128 * n + i) d
      = ∑ s ∈ range 4096, (∑ e ∈ range 128, o (128 * n + i) e * v s e) * k s d * D lg (128 * n + i) s :=
    sum_congr rfl fun s _ => by rw [rdP]; ring
  have hs : ∑ e ∈ range 128, o (128 * n + i) e * rS lg k v n d e
      = ∑ s ∈ range 4096, (∑ e ∈ range 128, o (128 * n + i) e * v s e) * k s d * W lg n s := by
    simp only [rS, mul_sum, sum_mul]
    rw [sum_comm]
    exact sum_congr rfl fun s _ => sum_congr rfl fun e _ => by ring
  rw [hl, h, hs]
  congr 1
  · exact sum_congr rfl fun j _ => by ring
  · ring

theorem rdk_chunk (n j d : ℕ) (hn : n < 32) (hj : j < 128) :
    ∑ i ∈ range 128, ((∑ e ∈ range 128, o (128 * n + i) e * v (128 * n + j) e) * D lg i j) * q (128 * n + i) d
      + (∑ e ∈ range 128, v (128 * n + j) e * rT lg q o (n + 1) d e) * Real.exp (lg * (127 - j))
    = rdk lg q v o (128 * n + j) d := by
  have h := col_split lg (fun t => (∑ e ∈ range 128, o t e * v (128 * n + j) e) * q t d) n j hn hj
  have hl : rdk lg q v o (128 * n + j) d
      = ∑ t ∈ range 4096, (∑ e ∈ range 128, o t e * v (128 * n + j) e) * q t d * D lg t (128 * n + j) :=
    sum_congr rfl fun s _ => by rw [rdP]; ring
  have hs : ∑ e ∈ range 128, v (128 * n + j) e * rT lg q o (n + 1) d e
      = ∑ t ∈ range 4096, (∑ e ∈ range 128, o t e * v (128 * n + j) e) * q t d * W' lg (n + 1) t := by
    simp only [rT, mul_sum, sum_mul]
    rw [sum_comm]
    exact sum_congr rfl fun s _ => sum_congr rfl fun e _ => by ring
  rw [hl, h, hs]
  congr 1
  · exact sum_congr rfl fun j _ => by ring
  · ring

theorem rdv_chunk (n j e : ℕ) (hn : n < 32) (hj : j < 128) :
    ∑ i ∈ range 128, ((∑ d ∈ range 128, q (128 * n + i) d * k (128 * n + j) d) * D lg i j) * o (128 * n + i) e
      + ∑ d ∈ range 128, (k (128 * n + j) d * Real.exp (lg * (127 - j))) * rT lg q o (n + 1) d e
    = rdv lg q k o (128 * n + j) e := by
  have h := col_split lg (fun t => (∑ d ∈ range 128, q t d * k (128 * n + j) d) * o t e) n j hn hj
  have hl : rdv lg q k o (128 * n + j) e
      = ∑ t ∈ range 4096, (∑ d ∈ range 128, q t d * k (128 * n + j) d) * o t e * D lg t (128 * n + j) :=
    sum_congr rfl fun s _ => by rw [rP]; ring
  have hs : ∑ d ∈ range 128, (k (128 * n + j) d * Real.exp (lg * (127 - j))) * rT lg q o (n + 1) d e
      = Real.exp (lg * (127 - j)) * ∑ t ∈ range 4096, (∑ d ∈ range 128, q t d * k (128 * n + j) d) * o t e * W' lg (n + 1) t := by
    simp only [rT, mul_sum, sum_mul]
    rw [sum_comm]
    exact sum_congr rfl fun s _ => sum_congr rfl fun e _ => by ring
  rw [hl, h, hs]
  congr 1
  exact sum_congr rfl fun j _ => by ring

theorem rT_chunk (n d e : ℕ) (hn : n < 32) :
    Real.exp (lg * 128) * rT lg q o (n + 1) d e
      + ∑ i ∈ range 128, (q (128 * n + i) d * Real.exp (lg * (i + 1))) * o (128 * n + i) e
    = rT lg q o n d e := by
  have h := carry_split lg (fun t => q t d * o t e) n hn
  rw [rT, rT, h]
  congr 1
  exact sum_congr rfl fun i _ => by ring

end Head

/-! ## The head norm and the gate -/

/-- The gate's logistic function. -/
def sgm (x : ℝ) : ℝ := (1 + Real.exp (-x))⁻¹

theorem one_add_exp_ne (x : ℝ) : 1 + Real.exp (-x) ≠ 0 := by positivity

/-- The reciprocal root of the mean square of `o`, over one head. -/
def rr (eps : ℝ) (o : ℕ → ℝ) : ℝ := (√((∑ e ∈ range 128, o e * o e) / 128 + eps))⁻¹

theorem ms_pos (eps : ℝ) (he : 0 < eps) (o : ℕ → ℝ) : 0 < (∑ e ∈ range 128, o e * o e) / 128 + eps := by
  have : 0 ≤ ∑ e ∈ range 128, o e * o e := sum_nonneg fun e _ => mul_self_nonneg _
  positivity

/-- The gradient of the retention's output under the head norm, as the kernel writes it. -/
def rdo (eps : ℝ) (o dn : ℕ → ℝ) (e : ℕ) : ℝ :=
  rr eps o * (dn e - o e * rr eps o * ((∑ a ∈ range 128, dn a * (o a * rr eps o)) / 128))

/-- The same as the derivative of the reciprocal root gives it. -/
theorem rdo_eq (eps : ℝ) (he : 0 < eps) (o dn : ℕ → ℝ) (e : ℕ) (x : ℝ)
    (hx : x = (∑ e ∈ range 128, o e * o e) / 128 + eps) :
    dn e * rr eps o + o e * ((∑ a ∈ range 128, o a * dn a) * (-(1 / 2) * (rr eps o / x)) / 128)
      + ((∑ a ∈ range 128, o a * dn a) * (-(1 / 2) * (rr eps o / x)) / 128) * o e = rdo eps o dn e := by
  have hp := ms_pos eps he o
  rw [← hx] at hp
  have hr : rr eps o * rr eps o = 1 / x := by
    rw [rr, ← hx, ← mul_inv, Real.mul_self_sqrt hp.le, one_div]
  have hs : ∑ a ∈ range 128, dn a * (o a * rr eps o) = (∑ a ∈ range 128, o a * dn a) * rr eps o := by
    rw [sum_mul]
    exact sum_congr rfl fun a _ => by ring
  rw [rdo, hs]
  have : rr eps o / x = rr eps o * (rr eps o * rr eps o) := by rw [hr]; ring
  rw [this]
  ring

/-! ## Literals, and sums, as extended reals -/

section Lits
open Idealize.ShloMosaic

/-- The features' scale and the norm's additive constant, as the float words give them. -/
def sc : ℝ := 11863283 / 134217728
def eps : ℝ := 8796093 / 8796093022208

theorem eps_pos : 0 < eps := by norm_num [eps]

theorem lit_sc : Ideal.ofBits .f32 0x3DB504F3#32 = ((sc : ℝ) : EReal) := by
  simp [Ideal.ofBits, Ideal.ieee, sc, -EReal.coe_mul,]; norm_num
theorem lit_eps : Ideal.ofBits .f32 0x358637BD#32 = ((eps : ℝ) : EReal) := by
  simp [Ideal.ofBits, Ideal.ieee, eps, -EReal.coe_mul,]; norm_num
theorem lit_128 : Ideal.ofBits .f32 0x43000000#32 = ((128 : ℝ) : EReal) := by
  simp [Ideal.ofBits, Ideal.ieee, -EReal.coe_mul]; norm_num

theorem coe_sum (s : Finset ℕ) (f : ℕ → ℝ) : ((∑ e ∈ s, f e : ℝ) : EReal) = ∑ e ∈ s, (f e : EReal) := by
  induction s using Finset.cons_induction with
  | empty => simp
  | cons a s h ih => rw [sum_cons, sum_cons, EReal.coe_add, ih]

/-- A sum over an axis whose terms are real. -/
theorem sum_coe {n : ℕ} (F : Fin n → EReal) (f : ℕ → ℝ) (h : ∀ e, F e = ((f e.val : ℝ) : EReal)) :
    ∑ e : Fin n, F e = ((∑ e ∈ range n, f e : ℝ) : EReal) := by
  rw [coe_sum, sum_range]
  exact sum_congr rfl fun e _ => h e

theorem div_128 (x : ℝ) : Ideal.div (x : EReal) ((128 : ℝ) : EReal) = ((x / 128 : ℝ) : EReal) := by
  rw [Ideal.div_coe (by norm_num), ← EReal.coe_mul, mul_one_div]

theorem rsqrt_pos {x : ℝ} (h : 0 < x) : Ideal.rsqrt (x : EReal) = (((√x)⁻¹ : ℝ) : EReal) := by
  rw [Ideal.rsqrt_coe, if_neg (by linarith), if_neg (by linarith)]

end Lits

/-! ## The retention's gradient -/

/-- The retention's inputs over the reals: the projection `p`, the gradient `y` of its output, the logs of the decays, and the angles' cosines and
    sines (`t`, `d < 64`). -/
structure Env where
  p : ℕ → ℕ → ℝ
  y : ℕ → ℕ → ℝ
  lg : ℕ → ℝ
  c : ℕ → ℕ → ℝ
  s : ℕ → ℕ → ℝ

namespace Env
variable (E : Env)

/-- The cosine and the signed sine of every feature of a head. -/
def C (t d : ℕ) : ℝ := E.c t (d % 64)
def S (t d : ℕ) : ℝ := if d < 64 then -E.s t (d % 64) else E.s t (d % 64)
/-- Part `w` of the projection, head `h`. -/
def raw (w h t d : ℕ) : ℝ := E.p t (512 * w + 128 * h + d)
def turn (w h t d : ℕ) : ℝ := E.raw w h t d * E.C t d + E.raw w h t ((d + 64) % 128) * E.S t d
def q (h : ℕ) : ℕ → ℕ → ℝ := E.turn 0 h
def k (h t d : ℕ) : ℝ := E.turn 1 h t d * sc
def v (h : ℕ) : ℕ → ℕ → ℝ := E.raw 2 h
def g (h : ℕ) : ℕ → ℕ → ℝ := E.raw 3 h
def dy (h t d : ℕ) : ℝ := E.y t (128 * h + d)
/-- The retention. -/
def o (h t e : ℕ) : ℝ := ∑ s ∈ range 4096, rP (E.lg h) (E.q h) (E.k h) t s * E.v h s e
/-- The gradient of the normed heads, and of the retention. -/
def dn (h t e : ℕ) : ℝ := E.dy h t e * (E.g h t e * sgm (E.g h t e))
def dO (h t : ℕ) : ℕ → ℝ := rdo eps (E.o h t) (E.dn h t)
/-- The gradients of the turned queries and keys, of the values and of the gates. -/
def dq (h : ℕ) : ℕ → ℕ → ℝ := rdq (E.lg h) (E.k h) (E.v h) (E.dO h)
def dk (h t d : ℕ) : ℝ := rdk (E.lg h) (E.q h) (E.v h) (E.dO h) t d * sc
def dv (h : ℕ) : ℕ → ℕ → ℝ := rdv (E.lg h) (E.q h) (E.k h) (E.dO h)
def dg (h t e : ℕ) : ℝ := E.dy h t e * (E.o h t e * rr eps (E.o h t)) * (sgm (E.g h t e) * (1 + E.g h t e * (1 - sgm (E.g h t e))))
/-- Turning a gradient back. -/
def back (z : ℕ → ℕ → ℝ) (t d : ℕ) : ℝ := z t d * E.C t d + z t ((d + 64) % 128) * E.S t ((d + 64) % 128)
/-- The gradient of part `w` of the projection. -/
def out (w h t d : ℕ) : ℝ :=
  if w = 0 then E.back (E.dq h) t d else if w = 1 then E.back (E.dk h) t d else if w = 2 then E.dv h t d else E.dg h t d
/-- The state before chunk `n`; the gradient of the state after the chunks from `n`. -/
def St (h n d e : ℕ) : ℝ := rS (E.lg h) (E.k h) (E.v h) n d e
def T (h n d e : ℕ) : ℝ := rT (E.lg h) (E.q h) (E.dO h) n d e

theorem T_top (h d e : ℕ) : E.T h 32 d e = 0 := carry_top (E.lg h) fun t => E.q h t d * E.dO h t e

end Env

end Cert.Ret

end
-- ==== Proof.Chunk.lean ====
/- One chunk of the kernel, read at an index, in exact arithmetic: on real blocks it computes the real sums of Spec. -/
module

public import proofs.«01_k».proof.Proof.Body
public import proofs.«01_k».proof.Proof.Spec

@[expose] public section

noncomputable section

namespace Cert.KernelIdeal.Body

open Cert.KernelIdeal Cert.KernelIdeal.Gen Idealize.ShloMosaic Idealize.ShloMosaic.TcCoe Idealize.SL.Sem Cert.Ret
open Finset (range)

abbrev A3 := FVec Ideal S4x128x128 .f32
abbrev A2 := FVec Ideal S128x128 .f32

/-- The feature half a head away. -/
def opp (d : Fin 128) : Fin 128 := ⟨(d.val + 64) % 128, Nat.mod_lt _ (by decide)⟩

theorem rot_apply (c s a : A2) (i d : Fin 128) :
    rot c s a (ix2 i d) = a (ix2 i d) * c (ix2 i d) + a (ix2 i (opp d)) * s (ix2 i d) := by
  pointwise [rot]
  rw [show (⟨(d.val + 128 - 64) % 128, Nat.mod_lt _ (by decide)⟩ : Fin 128) = opp d from rfl]

theorem unrot_apply (c s a : A2) (i d : Fin 128) :
    unrot c s a (ix2 i d) = a (ix2 i d) * c (ix2 i d) + a (ix2 i (opp d)) * s (ix2 i (opp d)) := by
  pointwise [unrot]
  rw [show (⟨(d.val + 128 - 64) % 128, Nat.mod_lt _ (by decide)⟩ : Fin 128) = opp d from rfl]

theorem stack_apply (a : Fin 4 → A2) (h : Fin 4) (i d : Fin 128) : stack a (ix3 h i d) = a h (ix2 i d) := by
  fin_cases h <;> pointwise [stack]

theorem head_apply (x : A3) (h : Fin 4) (i d : Fin 128) : head h x (ix2 i d) = x (ix3 h i d) := by
  fin_cases h <;> pointwise [head]

theorem NT_apply (a b : A3) (h : Fin 4) (i j : Fin 128) :
    NT a b (ix3 h i j) = ∑ e : Fin 128, a (ix3 h i e) * b (ix3 h j e) := by
  pointwise [NT]
theorem NN_apply (a b : A3) (h : Fin 4) (i j : Fin 128) :
    NN a b (ix3 h i j) = ∑ e : Fin 128, a (ix3 h i e) * b (ix3 h e j) := by
  pointwise [NN]
theorem TN_apply (a b : A3) (h : Fin 4) (i j : Fin 128) :
    TN a b (ix3 h i j) = ∑ e : Fin 128, a (ix3 h e i) * b (ix3 h e j) := by
  pointwise [TN]
theorem mean_apply (x : A3) (h : Fin 4) (i : Fin 128) (z : Fin 1) :
    mean x (ix3 h i z) = Ideal.div (∑ e : Fin 128, x (ix3 h i e)) ((128 : ℝ) : EReal) := by
  pointwise [mean]
  rw [lit_128]

theorem mean_real {X : A3} {x : ℕ → ℝ} {h : Fin 4} {i : Fin 128} (z : Fin 1) (hx : ∀ e, X (ix3 h i e) = ((x e.val : ℝ) : EReal)) :
    mean X (ix3 h i z) = (((∑ e ∈ range 128, x e) / 128 : ℝ) : EReal) := by
  rw [mean_apply, sum_coe _ x hx, div_128]

section Norm
variable {O G Y : A3} {o g y : ℕ → ℝ} {h : Fin 4} {i : Fin 128}

theorem rs_real (z : Fin 1) (ho : ∀ e, O (ix3 h i e) = ((o e.val : ℝ) : EReal)) : rs O (ix3 h i z) = ((rr eps o : ℝ) : EReal) := by
  pointwise [rs]
  rw [mean_real (X := mulf O O) (x := fun e => o e * o e) z
    (fun e => by show O _ * O _ = _; rw [ho, ← EReal.coe_mul]), lit_eps, ← EReal.coe_add, rsqrt_pos (ms_pos eps eps_pos o)]
  rfl

theorem nrm_real (e : Fin 128) (ho : ∀ e, O (ix3 h i e) = ((o e.val : ℝ) : EReal)) :
    nrm O (ix3 h i e) = ((o e.val * rr eps o : ℝ) : EReal) := by
  pointwise [nrm]
  rw [rs_real _ ho, ho, EReal.coe_mul]

theorem dn_real (e : Fin 128) (hg : ∀ e, G (ix3 h i e) = ((g e.val : ℝ) : EReal)) (hy : ∀ e, Y (ix3 h i e) = ((y e.val : ℝ) : EReal)) :
    dnF G Y (ix3 h i e) = ((y e.val * (g e.val * sgm (g e.val)) : ℝ) : EReal) := by
  pointwise [dnF]
  rw [hg, hy, Ideal.logistic_coe, EReal.coe_mul, EReal.coe_mul, sgm]

theorem dg_real (e : Fin 128) (hg : ∀ e, G (ix3 h i e) = ((g e.val : ℝ) : EReal)) (ho : ∀ e, O (ix3 h i e) = ((o e.val : ℝ) : EReal))
    (hy : ∀ e, Y (ix3 h i e) = ((y e.val : ℝ) : EReal)) :
    dgF G O Y (ix3 h i e) = ((y e.val * (o e.val * rr eps o) * (sgm (g e.val) * (1 + g e.val * (1 - sgm (g e.val)))) : ℝ) : EReal) := by
  pointwise [dgF]
  rw [nrm_real e ho, hg, hy, Ideal.logistic_coe, ← EReal.coe_one]
  simp only [← EReal.coe_mul, ← EReal.coe_add, ← EReal.coe_sub]
  rfl

theorem do_real (e : Fin 128) (hg : ∀ e, G (ix3 h i e) = ((g e.val : ℝ) : EReal)) (ho : ∀ e, O (ix3 h i e) = ((o e.val : ℝ) : EReal))
    (hy : ∀ e, Y (ix3 h i e) = ((y e.val : ℝ) : EReal)) :
    doF G O Y (ix3 h i e) = ((rdo eps o (fun a => y a * (g a * sgm (g a))) e.val : ℝ) : EReal) := by
  pointwise [doF]
  rw [nrm_real e ho, dn_real e hg hy, rs_real _ ho,
    mean_real (X := mulf (dnF G Y) (nrm O)) (x := fun a => y a * (g a * sgm (g a)) * (o a * rr eps o)) _
      (fun a => by show dnF G Y _ * nrm O _ = _; rw [nrm_real a ho, dn_real a hg hy, ← EReal.coe_mul])]
  simp only [← EReal.coe_mul, ← EReal.coe_add, ← EReal.coe_sub]
  rfl

end Norm

section Products
variable {A B : A3} {a b : ℕ → ℕ → ℝ} {h : Fin 4}
variable (ha : ∀ i d, A (ix3 h i d) = ((a i.val d.val : ℝ) : EReal)) (hb : ∀ i d, B (ix3 h i d) = ((b i.val d.val : ℝ) : EReal))
include ha hb

theorem NT_real (i j : Fin 128) : NT A B (ix3 h i j) = ((∑ e ∈ range 128, a i.val e * b j.val e : ℝ) : EReal) := by
  rw [NT_apply]
  exact sum_coe _ (fun e => a i.val e * b j.val e) fun e => by rw [ha, hb, ← EReal.coe_mul]
theorem NN_real (i j : Fin 128) : NN A B (ix3 h i j) = ((∑ e ∈ range 128, a i.val e * b e j.val : ℝ) : EReal) := by
  rw [NN_apply]
  exact sum_coe _ (fun e => a i.val e * b e j.val) fun e => by rw [ha, hb, ← EReal.coe_mul]
theorem TN_real (i j : Fin 128) : TN A B (ix3 h i j) = ((∑ e ∈ range 128, a e i.val * b e j.val : ℝ) : EReal) := by
  rw [TN_apply]
  exact sum_coe _ (fun e => a e i.val * b e j.val) fun e => by rw [ha, hb, ← EReal.coe_mul]
theorem mul_real (i j : Fin 128) : mulf A B (ix3 h i j) = ((a i.val j.val * b i.val j.val : ℝ) : EReal) := by
  show A _ * B _ = _
  rw [ha, hb, ← EReal.coe_mul]
theorem add_real (i j : Fin 128) : addf A B (ix3 h i j) = ((a i.val j.val + b i.val j.val : ℝ) : EReal) := by
  show A _ + B _ = _
  rw [ha, hb, ← EReal.coe_add]

end Products

section Grads
variable {Q K V DO S T DM QD KD CG : A3} {h : Fin 4} {lg : ℝ} {q k v o : ℕ → ℕ → ℝ} {n : ℕ} (hn : n < 32)
  (hQ : ∀ i d, Q (ix3 h i d) = ((q (128 * n + i.val) d.val : ℝ) : EReal))
  (hK : ∀ i d, K (ix3 h i d) = ((k (128 * n + i.val) d.val : ℝ) : EReal))
  (hV : ∀ i d, V (ix3 h i d) = ((v (128 * n + i.val) d.val : ℝ) : EReal))
  (hO : ∀ i d, DO (ix3 h i d) = ((o (128 * n + i.val) d.val : ℝ) : EReal))
  (hS : ∀ i d, S (ix3 h i d) = ((rS lg k v n i.val d.val : ℝ) : EReal))
  (hT : ∀ i d, T (ix3 h i d) = ((rT lg q o (n + 1) i.val d.val : ℝ) : EReal))
  (hDM : ∀ i j, DM (ix3 h i j) = ((D lg i.val j.val : ℝ) : EReal))
  (hQD : ∀ i e, QD (ix3 h i e) = ((Real.exp (lg * ((i.val : ℝ) + 1)) : ℝ) : EReal))
  (hKD : ∀ i e, KD (ix3 h i e) = ((Real.exp (lg * (127 - (i.val : ℝ))) : ℝ) : EReal))
  (hCG : ∀ i e, CG (ix3 h i e) = ((Real.exp (lg * 128) : ℝ) : EReal))
include hn

include hK hV hO hS hDM hQD in
theorem dq_real (i d : Fin 128) : dqF K V S DO DM QD (ix3 h i d) = ((rdq lg k v o (128 * n + i.val) d.val : ℝ) : EReal) := by
  rw [← rdq_chunk lg k v o n i.val d.val hn i.isLt]
  exact add_real (a := fun i d => ∑ j ∈ range 128, ((∑ e ∈ range 128, o (128 * n + i) e * v (128 * n + j) e) * D lg i j) * k (128 * n + j) d)
    (b := fun i d => (∑ e ∈ range 128, o (128 * n + i) e * rS lg k v n d e) * Real.exp (lg * (i + 1)))
    (fun i d => NN_real (a := fun i j => (∑ e ∈ range 128, o (128 * n + i) e * v (128 * n + j) e) * D lg i j) (b := fun j d => k (128 * n + j) d)
      (fun i j => mul_real (a := fun i j => ∑ e ∈ range 128, o (128 * n + i) e * v (128 * n + j) e) (b := fun i j => D lg i j)
        (NT_real (a := fun i e => o (128 * n + i) e) (b := fun j e => v (128 * n + j) e) hO hV) hDM i j) hK i d)
    (fun i d => mul_real (a := fun i d => ∑ e ∈ range 128, o (128 * n + i) e * rS lg k v n d e) (b := fun i _ => Real.exp (lg * (i + 1)))
      (NT_real (a := fun i e => o (128 * n + i) e) (b := fun d e => rS lg k v n d e) hO hS) hQD i d) i d

theorem scale_apply (X : A3) (h : Fin 4) (i d : Fin 128) : mulf X scaleV (ix3 h i d) = X (ix3 h i d) * ((sc : ℝ) : EReal) := by
  pointwise [scaleV]
  rw [lit_sc]

include hQ hV hO hT hDM hKD in
theorem dk_real (i d : Fin 128) : dkF Q V T DO DM KD (ix3 h i d) = ((rdk lg q v o (128 * n + i.val) d.val * sc : ℝ) : EReal) := by
  rw [← rdk_chunk lg q v o n i.val d.val hn i.isLt, EReal.coe_mul, dkF, scale_apply (n := n) hn]
  congr 1
  exact add_real (a := fun j d => ∑ i ∈ range 128, ((∑ e ∈ range 128, o (128 * n + i) e * v (128 * n + j) e) * D lg i j) * q (128 * n + i) d)
    (b := fun j d => (∑ e ∈ range 128, v (128 * n + j) e * rT lg q o (n + 1) d e) * Real.exp (lg * (127 - j)))
    (fun j d => TN_real (a := fun i j => (∑ e ∈ range 128, o (128 * n + i) e * v (128 * n + j) e) * D lg i j) (b := fun i d => q (128 * n + i) d)
      (fun i j => mul_real (a := fun i j => ∑ e ∈ range 128, o (128 * n + i) e * v (128 * n + j) e) (b := fun i j => D lg i j)
        (NT_real (a := fun i e => o (128 * n + i) e) (b := fun j e => v (128 * n + j) e) hO hV) hDM i j) hQ j d)
    (fun j d => mul_real (a := fun j d => ∑ e ∈ range 128, v (128 * n + j) e * rT lg q o (n + 1) d e) (b := fun j _ => Real.exp (lg * (127 - j)))
      (NT_real (a := fun j e => v (128 * n + j) e) (b := fun d e => rT lg q o (n + 1) d e) hV hT) hKD j d) i d

include hQ hK hO hT hDM hKD in
theorem dv_real (i d : Fin 128) : dvF Q K T DO DM KD (ix3 h i d) = ((rdv lg q k o (128 * n + i.val) d.val : ℝ) : EReal) := by
  rw [← rdv_chunk lg q k o n i.val d.val hn i.isLt]
  exact add_real (a := fun j e => ∑ i ∈ range 128, ((∑ d ∈ range 128, q (128 * n + i) d * k (128 * n + j) d) * D lg i j) * o (128 * n + i) e)
    (b := fun j e => ∑ d ∈ range 128, (k (128 * n + j) d * Real.exp (lg * (127 - j))) * rT lg q o (n + 1) d e)
    (fun j e => TN_real (a := fun i j => (∑ d ∈ range 128, q (128 * n + i) d * k (128 * n + j) d) * D lg i j) (b := fun i e => o (128 * n + i) e)
      (fun i j => mul_real (a := fun i j => ∑ d ∈ range 128, q (128 * n + i) d * k (128 * n + j) d) (b := fun i j => D lg i j)
        (NT_real (a := fun i e => q (128 * n + i) e) (b := fun j e => k (128 * n + j) e) hQ hK) hDM i j) hO j e)
    (fun j e => NN_real (a := fun j d => k (128 * n + j) d * Real.exp (lg * (127 - j))) (b := fun d e => rT lg q o (n + 1) d e)
      (fun j d => mul_real (a := fun j d => k (128 * n + j) d) (b := fun j _ => Real.exp (lg * (127 - j))) hK hKD j d) hT j e) i d

include hQ hO hT hQD hCG in
theorem dT_real (d e : Fin 128) : dTF Q T DO QD CG (ix3 h d e) = ((rT lg q o n d.val e.val : ℝ) : EReal) := by
  rw [← rT_chunk lg q o n d.val e.val hn]
  exact add_real (a := fun d e => Real.exp (lg * 128) * rT lg q o (n + 1) d e)
    (b := fun d e => ∑ i ∈ range 128, (q (128 * n + i) d * Real.exp (lg * (i + 1))) * o (128 * n + i) e)
    (fun d e => mul_real (a := fun _ _ => Real.exp (lg * 128)) (b := fun d e => rT lg q o (n + 1) d e) hCG hT d e)
    (fun d e => TN_real (a := fun i d => q (128 * n + i) d * Real.exp (lg * (i + 1))) (b := fun i e => o (128 * n + i) e)
      (fun i d => mul_real (a := fun i d => q (128 * n + i) d) (b := fun i _ => Real.exp (lg * (i + 1))) hQ hQD i d) hO d e) d e

end Grads

end Cert.KernelIdeal.Body

end
-- ==== Proof.PiecesA.lean ====
/- The stores of the first grid point. -/
module

public import proofs.«01_k».proof.Proof.Body

@[expose] public section

noncomputable section

namespace Cert.KernelIdeal.Body

open Cert.KernelIdeal Cert.KernelIdeal.Gen Idealize.ShloMosaic Idealize.ShloMosaic.TcCoe Idealize.SL.Sem

variable {F : FTy → Type} [FloatOps F]

section Runs
variable (c : Dev nD) (i : grid0.Coords)
  {arg1 : Memref sig .tc .vmem S512x512 .f32} (harg1 : arg1.IsWhole) {arg2 : Memref sig .tc .vmem S512x512 .f32} (harg2 : arg2.IsWhole) {arg3 : Memref sig .tc .vmem S512x512 .f32} (harg3 : arg3.IsWhole) {arg4 : Memref sig .tc .vmem S512x512 .f32} (harg4 : arg4.IsWhole) {arg5 : Memref sig .tc .vmem S512x128 .f32} (harg5 : arg5.IsWhole) {arg6 : Memref sig .tc .vmem S512x128 .f32} (harg6 : arg6.IsWhole) {arg7 : Memref sig .tc .vmem S4x4x128x128 .f32} (harg7 : arg7.IsWhole) {arg8 : Memref sig .tc .vmem S512x512 .f32} (harg8 : arg8.IsWhole) {arg9 : Memref sig .tc .vmem S4x4x128x128 .f32} (harg9 : arg9.IsWhole) {arg10 : Memref sig .tc .vmem S512x512 .f32} (harg10 : arg10.IsWhole) {arg11 : Memref sig .tc .vmem S512x2048 .bf16} (harg11 : arg11.IsWhole) {arg12 : Memref sig .tc .vmem S4x128x128 .f32} (harg12 : arg12.IsWhole)
  (x0 x1 x2 x3 : Vec F S512x512 .f32) (x4 x5 : Vec F S512x128 .f32) (x6 : Vec F S4x4x128x128 .f32) (x7 : Vec F S512x512 .f32)
  (x8 : Vec F S4x4x128x128 .f32) (x9 : Vec F S512x512 .f32) (xs0 : Vec F S4x128x128 .f32)

set_option maxHeartbeats 4000000 in
theorem piecesA (hc0 : cond0_0 i) :
    ((kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9).1)
      = pieces (tabOf harg7 x6) (chOf harg1 harg2 harg3 harg4 harg5 harg6 harg8 harg9 harg10 x0 x1 x2 x3 x4 x5 x7 x8 x9)
          (arg12.view.readCov (Val := Elt F) ([⟨Rect.unit (s := S4x128x128) ![0, 0, 0] S4x128x128.size inb_S4x128x128_S4x128x128_0_0_0, k0_pay5⟩] : List (View.Piece (Elt F) S4x128x128 .f32)) (Rect.unit (s := S4x128x128) ![0, 0, 0] S4x128x128.size inb_S4x128x128_S4x128x128_0_0_0).toLoadRect) := by
  unfold kernelRun0_A
  dsimp only
  sl_unfold_words
  rfl

end Runs

end Cert.KernelIdeal.Body

end
-- ==== Proof.PiecesA2.lean ====
/- The carry the first grid point leaves. -/
module

public import proofs.«01_k».proof.Proof.Body

@[expose] public section

noncomputable section

namespace Cert.KernelIdeal.Body

open Cert.KernelIdeal Cert.KernelIdeal.Gen Idealize.ShloMosaic Idealize.ShloMosaic.TcCoe Idealize.SL.Sem

variable {F : FTy → Type} [FloatOps F]

section Runs
variable (c : Dev nD) (i : grid0.Coords)
  {arg1 : Memref sig .tc .vmem S512x512 .f32} (harg1 : arg1.IsWhole) {arg2 : Memref sig .tc .vmem S512x512 .f32} (harg2 : arg2.IsWhole) {arg3 : Memref sig .tc .vmem S512x512 .f32} (harg3 : arg3.IsWhole) {arg4 : Memref sig .tc .vmem S512x512 .f32} (harg4 : arg4.IsWhole) {arg5 : Memref sig .tc .vmem S512x128 .f32} (harg5 : arg5.IsWhole) {arg6 : Memref sig .tc .vmem S512x128 .f32} (harg6 : arg6.IsWhole) {arg7 : Memref sig .tc .vmem S4x4x128x128 .f32} (harg7 : arg7.IsWhole) {arg8 : Memref sig .tc .vmem S512x512 .f32} (harg8 : arg8.IsWhole) {arg9 : Memref sig .tc .vmem S4x4x128x128 .f32} (harg9 : arg9.IsWhole) {arg10 : Memref sig .tc .vmem S512x512 .f32} (harg10 : arg10.IsWhole) {arg11 : Memref sig .tc .vmem S512x2048 .bf16} (harg11 : arg11.IsWhole) {arg12 : Memref sig .tc .vmem S4x128x128 .f32} (harg12 : arg12.IsWhole)
  (x0 x1 x2 x3 : Vec F S512x512 .f32) (x4 x5 : Vec F S512x128 .f32) (x6 : Vec F S4x4x128x128 .f32) (x7 : Vec F S512x512 .f32)
  (x8 : Vec F S4x4x128x128 .f32) (x9 : Vec F S512x512 .f32) (xs0 : Vec F S4x128x128 .f32)

set_option maxHeartbeats 4000000 in
theorem spiecesA (hc0 : cond0_0 i) :
    ((kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9).2.1)
      = [⟨Rect.unit (s := S4x128x128) ![0, 0, 0] S4x128x128.size inb_S4x128x128_S4x128x128_0_0_0, shapeCast S4x128x128 (carry (tabOf harg7 x6) ((chOf harg1 harg2 harg3 harg4 harg5 harg6 harg8 harg9 harg10 x0 x1 x2 x3 x4 x5 x7 x8 x9) 0) (carryAt (tabOf harg7 x6) (chOf harg1 harg2 harg3 harg4 harg5 harg6 harg8 harg9 harg10 x0 x1 x2 x3 x4 x5 x7 x8 x9) (arg12.view.readCov (Val := Elt F) ([⟨Rect.unit (s := S4x128x128) ![0, 0, 0] S4x128x128.size inb_S4x128x128_S4x128x128_0_0_0, k0_pay5⟩] : List (View.Piece (Elt F) S4x128x128 .f32)) (Rect.unit (s := S4x128x128) ![0, 0, 0] S4x128x128.size inb_S4x128x128_S4x128x128_0_0_0).toLoadRect) 0)) shapeCasts_S4x128x128_S4x128x128⟩,
    ⟨Rect.unit (s := S4x128x128) ![0, 0, 0] S4x128x128.size inb_S4x128x128_S4x128x128_0_0_0, k0_pay5⟩] := by
  unfold kernelRun0_A
  dsimp only
  sl_unfold_words
  rfl

end Runs

end Cert.KernelIdeal.Body

end
-- ==== Proof.PiecesB.lean ====
/- The stores of a later grid point. -/
module

public import proofs.«01_k».proof.Proof.Body

@[expose] public section

noncomputable section

namespace Cert.KernelIdeal.Body

open Cert.KernelIdeal Cert.KernelIdeal.Gen Idealize.ShloMosaic Idealize.ShloMosaic.TcCoe Idealize.SL.Sem

variable {F : FTy → Type} [FloatOps F]

section Runs
variable (c : Dev nD) (i : grid0.Coords)
  {arg1 : Memref sig .tc .vmem S512x512 .f32} (harg1 : arg1.IsWhole) {arg2 : Memref sig .tc .vmem S512x512 .f32} (harg2 : arg2.IsWhole) {arg3 : Memref sig .tc .vmem S512x512 .f32} (harg3 : arg3.IsWhole) {arg4 : Memref sig .tc .vmem S512x512 .f32} (harg4 : arg4.IsWhole) {arg5 : Memref sig .tc .vmem S512x128 .f32} (harg5 : arg5.IsWhole) {arg6 : Memref sig .tc .vmem S512x128 .f32} (harg6 : arg6.IsWhole) {arg7 : Memref sig .tc .vmem S4x4x128x128 .f32} (harg7 : arg7.IsWhole) {arg8 : Memref sig .tc .vmem S512x512 .f32} (harg8 : arg8.IsWhole) {arg9 : Memref sig .tc .vmem S4x4x128x128 .f32} (harg9 : arg9.IsWhole) {arg10 : Memref sig .tc .vmem S512x512 .f32} (harg10 : arg10.IsWhole) {arg11 : Memref sig .tc .vmem S512x2048 .bf16} (harg11 : arg11.IsWhole) {arg12 : Memref sig .tc .vmem S4x128x128 .f32} (harg12 : arg12.IsWhole)
  (x0 x1 x2 x3 : Vec F S512x512 .f32) (x4 x5 : Vec F S512x128 .f32) (x6 : Vec F S4x4x128x128 .f32) (x7 : Vec F S512x512 .f32)
  (x8 : Vec F S4x4x128x128 .f32) (x9 : Vec F S512x512 .f32) (xs0 : Vec F S4x128x128 .f32)

set_option maxHeartbeats 4000000 in
theorem piecesB (hc0 : ¬cond0_0 i) :
    ((kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0).1)
      = pieces (tabOf harg7 x6) (chOf harg1 harg2 harg3 harg4 harg5 harg6 harg8 harg9 harg10 x0 x1 x2 x3 x4 x5 x7 x8 x9)
          (View.readAt (Elt F) arg12.view (Rect.unit (s := S4x128x128) ![0, 0, 0] S4x128x128.size inb_S4x128x128_S4x128x128_0_0_0).toLoadRect (harg12.unread xs0)) := by
  unfold kernelRun0_B
  dsimp only
  sl_unfold_words
  rfl

end Runs

end Cert.KernelIdeal.Body

end
-- ==== Proof.PiecesB2.lean ====
/- The carry a later grid point leaves. -/
module

public import proofs.«01_k».proof.Proof.Body

@[expose] public section

noncomputable section

namespace Cert.KernelIdeal.Body

open Cert.KernelIdeal Cert.KernelIdeal.Gen Idealize.ShloMosaic Idealize.ShloMosaic.TcCoe Idealize.SL.Sem

variable {F : FTy → Type} [FloatOps F]

section Runs
variable (c : Dev nD) (i : grid0.Coords)
  {arg1 : Memref sig .tc .vmem S512x512 .f32} (harg1 : arg1.IsWhole) {arg2 : Memref sig .tc .vmem S512x512 .f32} (harg2 : arg2.IsWhole) {arg3 : Memref sig .tc .vmem S512x512 .f32} (harg3 : arg3.IsWhole) {arg4 : Memref sig .tc .vmem S512x512 .f32} (harg4 : arg4.IsWhole) {arg5 : Memref sig .tc .vmem S512x128 .f32} (harg5 : arg5.IsWhole) {arg6 : Memref sig .tc .vmem S512x128 .f32} (harg6 : arg6.IsWhole) {arg7 : Memref sig .tc .vmem S4x4x128x128 .f32} (harg7 : arg7.IsWhole) {arg8 : Memref sig .tc .vmem S512x512 .f32} (harg8 : arg8.IsWhole) {arg9 : Memref sig .tc .vmem S4x4x128x128 .f32} (harg9 : arg9.IsWhole) {arg10 : Memref sig .tc .vmem S512x512 .f32} (harg10 : arg10.IsWhole) {arg11 : Memref sig .tc .vmem S512x2048 .bf16} (harg11 : arg11.IsWhole) {arg12 : Memref sig .tc .vmem S4x128x128 .f32} (harg12 : arg12.IsWhole)
  (x0 x1 x2 x3 : Vec F S512x512 .f32) (x4 x5 : Vec F S512x128 .f32) (x6 : Vec F S4x4x128x128 .f32) (x7 : Vec F S512x512 .f32)
  (x8 : Vec F S4x4x128x128 .f32) (x9 : Vec F S512x512 .f32) (xs0 : Vec F S4x128x128 .f32)

set_option maxHeartbeats 4000000 in
theorem spiecesB (hc0 : ¬cond0_0 i) :
    ((kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0).2.1)
      = [⟨Rect.unit (s := S4x128x128) ![0, 0, 0] S4x128x128.size inb_S4x128x128_S4x128x128_0_0_0, shapeCast S4x128x128 (carry (tabOf harg7 x6) ((chOf harg1 harg2 harg3 harg4 harg5 harg6 harg8 harg9 harg10 x0 x1 x2 x3 x4 x5 x7 x8 x9) 0) (carryAt (tabOf harg7 x6) (chOf harg1 harg2 harg3 harg4 harg5 harg6 harg8 harg9 harg10 x0 x1 x2 x3 x4 x5 x7 x8 x9) (View.readAt (Elt F) arg12.view (Rect.unit (s := S4x128x128) ![0, 0, 0] S4x128x128.size inb_S4x128x128_S4x128x128_0_0_0).toLoadRect (harg12.unread xs0)) 0)) shapeCasts_S4x128x128_S4x128x128⟩] := by
  unfold kernelRun0_B
  dsimp only
  sl_unfold_words
  rfl

end Runs

end Cert.KernelIdeal.Body

end
-- ==== Proof.Block.lean ====
/- A block of the kernel, read at an index, in exact arithmetic: from real input blocks it stores the real gradient. -/
module

public import proofs.«01_k».proof.Proof.Chunk
public import Idealize.ShloMosaic.Lib.VecWindow
public import proofs.«01_k».proof.Proof.PiecesA
public import proofs.«01_k».proof.Proof.PiecesA2
public import proofs.«01_k».proof.Proof.PiecesB
public import proofs.«01_k».proof.Proof.PiecesB2

@[expose] public section

noncomputable section

namespace Cert.KernelIdeal.Body

open Cert.KernelIdeal Cert.KernelIdeal.Gen Idealize.ShloMosaic Idealize.ShloMosaic.TcCoe Idealize.SL.Sem Cert.Ret
open Finset (range)

/-! ## The loads -/

section Loads
variable {F : FTy → Type} [FloatOps F]

theorem cast_rows (y : FVec F S128x128 .f32) (i d : Fin 128) : shapeCast S128x128 y shapeCasts_S128x128_S128x128 (ix2 i d) = y (ix2 i d) := by
  pointwise []
theorem cast_tab (y : FVec F S4x1x128x128 .f32) (h : Fin 4) (i d : Fin 128) :
    shapeCast S4x128x128 y shapeCasts_S4x1x128x128_S4x128x128 (ix3 h i d) = y (ix4 h 0 i d) := by
  pointwise []
theorem cast_st (y : FVec F S1x4x128x128 .f32) (h : Fin 4) (i d : Fin 128) :
    shapeCast S4x128x128 y shapeCasts_S1x4x128x128_S4x128x128 (ix3 h i d) = y (ix4 0 h i d) := by
  pointwise []

theorem ldw_apply {M : Memref sig .tc .vmem S512x512 .f32} (hM : M.IsWhole) (x : Vec F S512x512 .f32) (c h : Fin 4) (i d : Fin 128) :
    ldw hM x c h (ix2 i d) = x (ix2 ⟨128 * c.val + i.val, by omega⟩ ⟨128 * h.val + d.val, by omega⟩) := by
  unfold ldw
  refine (congrFun (hM.read_unread x) _).trans ?_
  congr 1
  funext a
  apply Fin.ext
  match a with
  | 0 => show 128 * c.val + 0 + 1 * i.val = 128 * c.val + i.val; omega
  | 1 => show 0 + 128 * h.val + 1 * d.val = 128 * h.val + d.val; omega

theorem ldt_apply {M : Memref sig .tc .vmem S512x128 .f32} (hM : M.IsWhole) (x : Vec F S512x128 .f32) (c : Fin 4) (i d : Fin 128) :
    ldt hM x c (ix2 i d) = x (ix2 ⟨128 * c.val + i.val, by omega⟩ d) := by
  unfold ldt
  refine (cast_rows _ i d).trans ((congrFun (hM.read_unread x) _).trans ?_)
  congr 1
  funext a
  apply Fin.ext
  match a with
  | 0 => show 128 * c.val + 1 * i.val = 128 * c.val + i.val; omega
  | 1 => show 0 + 1 * d.val = d.val; omega

theorem ldtab_apply {M : Memref sig .tc .vmem S4x4x128x128 .f32} (hM : M.IsWhole) (x : Vec F S4x4x128x128 .f32) (k h : Fin 4) (i d : Fin 128) :
    ldtab hM x k (ix3 h i d) = x (ix4 h k i d) := by
  unfold ldtab
  refine (cast_tab _ h i d).trans ((congrFun (hM.read_unread x) _).trans ?_)
  congr 1
  funext a
  apply Fin.ext
  match a with
  | 0 => show 0 + 1 * h.val = h.val; omega
  | 1 => show k.val + 1 * 0 = k.val; omega
  | 2 => show 0 + 1 * i.val = i.val; omega
  | 3 => show 0 + 1 * d.val = d.val; omega

theorem ldS_apply {M : Memref sig .tc .vmem S4x4x128x128 .f32} (hM : M.IsWhole) (x : Vec F S4x4x128x128 .f32) (c h : Fin 4) (i d : Fin 128) :
    ldS hM x c (ix3 h i d) = x (ix4 c h i d) := by
  unfold ldS
  refine (cast_st _ h i d).trans ((congrFun (hM.read_unread x) _).trans ?_)
  congr 1
  funext a
  apply Fin.ext
  match a with
  | 0 => show c.val + 1 * 0 = c.val; omega
  | 1 => show 0 + 1 * h.val = h.val; omega
  | 2 => show 0 + 1 * i.val = i.val; omega
  | 3 => show 0 + 1 * d.val = d.val; omega

end Loads

/-! ## A chunk on real arrays -/

/-- The tables hold the decays. -/
structure IsTab (E : Env) (t : Tab Ideal) : Prop where
  dm : ∀ h i j, t.dm (ix3 h i j) = ((D (E.lg h.val) i.val j.val : ℝ) : EReal)
  qd : ∀ h i e, t.qd (ix3 h i e) = ((Real.exp (E.lg h.val * ((i.val : ℝ) + 1)) : ℝ) : EReal)
  kd : ∀ h i e, t.kd (ix3 h i e) = ((Real.exp (E.lg h.val * (127 - (i.val : ℝ))) : ℝ) : EReal)
  cg : ∀ h i e, t.cg (ix3 h i e) = ((Real.exp (E.lg h.val * 128) : ℝ) : EReal)

/-- The arrays of chunk `n`. -/
structure IsCh (E : Env) (n : ℕ) (x : Ch Ideal) : Prop where
  cos : ∀ i d, x.cos (ix2 i d) = ((E.C (128 * n + i.val) d.val : ℝ) : EReal)
  sin : ∀ i d, x.sin (ix2 i d) = ((E.S (128 * n + i.val) d.val : ℝ) : EReal)
  q : ∀ h i d, x.q (ix3 h i d) = ((E.q h.val (128 * n + i.val) d.val : ℝ) : EReal)
  k : ∀ h i d, x.k (ix3 h i d) = ((E.k h.val (128 * n + i.val) d.val : ℝ) : EReal)
  v : ∀ h i d, x.v (ix3 h i d) = ((E.v h.val (128 * n + i.val) d.val : ℝ) : EReal)
  g : ∀ h i d, x.g (ix3 h i d) = ((E.g h.val (128 * n + i.val) d.val : ℝ) : EReal)
  o : ∀ h i d, x.o (ix3 h i d) = ((E.o h.val (128 * n + i.val) d.val : ℝ) : EReal)
  dy : ∀ h i d, x.dy (ix3 h i d) = ((E.dy h.val (128 * n + i.val) d.val : ℝ) : EReal)
  S : ∀ h d e, x.S (ix3 h d e) = ((E.St h.val n d.val e.val : ℝ) : EReal)

def IsT (E : Env) (n : ℕ) (T : A3) : Prop := ∀ h d e, T (ix3 h d e) = ((E.T h.val n d.val e.val : ℝ) : EReal)

section Chunk
variable {E : Env} {t : Tab Ideal} (ht : IsTab E t) {n : ℕ} (hn : n < 32) {x : Ch Ideal} (hx : IsCh E n x) {T : A3} (hT : IsT E (n + 1) T)

include hx in
theorem do_apply (h : Fin 4) (i d : Fin 128) : doF x.g x.o x.dy (ix3 h i d) = ((E.dO h.val (128 * n + i.val) d.val : ℝ) : EReal) :=
  do_real (o := E.o h.val (128 * n + i.val)) (g := E.g h.val (128 * n + i.val)) (y := E.dy h.val (128 * n + i.val)) d
    (hx.g h i) (hx.o h i) (hx.dy h i)

include hx in
theorem unrot_real {X : A2} {z : ℕ → ℕ → ℝ} (hX : ∀ i d, X (ix2 i d) = ((z (128 * n + i.val) d.val : ℝ) : EReal)) (i d : Fin 128) :
    unrot x.cos x.sin X (ix2 i d) = ((E.back z (128 * n + i.val) d.val : ℝ) : EReal) := by
  rw [unrot_apply, hX, hX, hx.cos, hx.sin, Env.back, EReal.coe_add, EReal.coe_mul, EReal.coe_mul]
  rfl

include ht hn hx hT

theorem val_real (h w : Fin 4) (i d : Fin 128) : val t x T h w (ix2 i d) = ((E.out w.val h.val (128 * n + i.val) d.val : ℝ) : EReal) := by
  match w with
  | 0 =>
    exact unrot_real hx (fun i d => by
      rw [head_apply]
      exact dq_real hn (hx.k h) (hx.v h) (do_apply hx h) (hx.S h) (ht.dm h) (ht.qd h) i d) i d
  | 1 =>
    exact unrot_real hx (fun i d => by
      rw [head_apply]
      exact dk_real hn (hx.q h) (hx.v h) (do_apply hx h) (hT h) (ht.dm h) (ht.kd h) i d) i d
  | 2 =>
    show head h _ _ = _
    rw [head_apply]
    exact dv_real hn (hx.q h) (hx.k h) (do_apply hx h) (hT h) (ht.dm h) (ht.kd h) i d
  | 3 =>
    show head h _ _ = _
    rw [head_apply]
    exact dg_real (o := E.o h.val (128 * n + i.val)) (g := E.g h.val (128 * n + i.val)) (y := E.dy h.val (128 * n + i.val)) d
      (hx.g h i) (hx.o h i) (hx.dy h i)

theorem carry_real : IsT E n (carry t x T) := fun h d e =>
  dT_real hn (hx.q h) (do_apply hx h) (hT h) (ht.qd h) (ht.cg h) d e

end Chunk

/-! ## A grid point on real arrays -/

section Point
variable {E : Env} {t : Tab Ideal} (ht : IsTab E t) {r : ℕ} (hr : r < 8) {x : Fin 4 → Ch Ideal} (hx : ∀ c : Fin 4, IsCh E (4 * r + c.val) (x c))
  {T : A3} (hT : IsT E (4 * r + 4) T)
include ht hr hx hT

theorem carryAt_real (c : Fin 4) : IsT E (4 * r + c.val + 1) (carryAt t x T c) := by
  have h3 : IsT E (4 * r + 3) (carry t (x 3) T) := carry_real ht (by omega) (hx 3) hT
  have h2 : IsT E (4 * r + 2) (carry t (x 2) (carry t (x 3) T)) := carry_real ht (by omega) (hx 2) h3
  have h1 : IsT E (4 * r + 1) (carry t (x 1) (carry t (x 2) (carry t (x 3) T))) := carry_real ht (by omega) (hx 1) h2
  match c with
  | 3 => exact hT
  | 2 => exact h3
  | 1 => exact h2
  | 0 => exact h1

theorem carry_last : IsT E (4 * r) (carry t (x 0) (carryAt t x T 0)) :=
  carry_real ht (by omega) (hx 0) (carryAt_real ht hr hx hT 0)

/-- What the grid point stores at a row and a column of its block. -/
def blockG (E : Env) (r : ℕ) (y : S512x2048.Idx) : EReal :=
  ((E.out ((y 1).val / 512) ((y 1).val % 512 / 128) (512 * r + (y 0).val) ((y 1).val % 128) : ℝ) : EReal)

omit ht hr hx hT in
theorem mem_pieces (P : View.Piece (Elt Ideal) S512x2048 .bf16) (hP : P ∈ pieces t x T) :
    ∃ c h w : Fin 4, P = piece c h w (val t (x c) (carryAt t x T c) h w) := by
  simp only [pieces, chunkPieces, headPieces, List.mem_append, List.mem_cons, List.not_mem_nil, or_false] at hP
  rcases hP with ((hP | hP) | hP) | hP <;> rcases hP with ((hP | hP) | hP) | hP <;> rcases hP with hP | hP | hP | hP <;> exact ⟨_, _, _, hP⟩

theorem piece_real (P : View.Piece (Elt Ideal) S512x2048 .bf16) (hP : P ∈ pieces t x T) (z : P.1.shape.Idx) : P.2 z = blockG E r (P.1.emb z) := by
  obtain ⟨c, h, w, rfl⟩ := mem_pieces P hP
  have e := val_real ht (by omega) (hx c) (carryAt_real ht hr hx hT c) h w (z 0) (z 1)
  rw [show z = ix2 (z 0) (z 1) from eq_ix2 z]
  refine e.trans ?_
  have h0 : (z 0).val < 128 := (z 0).isLt
  have h1 : (z 1).val < 128 := (z 1).isLt
  show _ = ((E.out ((512 * w.val + 128 * h.val + 1 * (z 1).val) / 512) ((512 * w.val + 128 * h.val + 1 * (z 1).val) % 512 / 128)
    (512 * r + (128 * c.val + 1 * (z 0).val)) ((512 * w.val + 128 * h.val + 1 * (z 1).val) % 128) : ℝ) : EReal)
  rw [show (512 * w.val + 128 * h.val + 1 * (z 1).val) / 512 = w.val by omega, show (512 * w.val + 128 * h.val + 1 * (z 1).val) % 512 / 128 = h.val by omega,
    show 512 * r + (128 * c.val + 1 * (z 0).val) = 128 * (4 * r + c.val) + (z 0).val by omega,
    show (512 * w.val + 128 * h.val + 1 * (z 1).val) % 128 = (z 1).val by omega]

end Point

/-! ## A grid point on real blocks -/

/-- The blocks of the grid point of row block `r`. -/
structure IsBlk (E : Env) (r : ℕ) (x0 x1 x2 x3 : Vec Ideal S512x512 .f32) (x4 x5 : Vec Ideal S512x128 .f32) (x6 : Vec Ideal S4x4x128x128 .f32)
    (x7 : Vec Ideal S512x512 .f32) (x8 : Vec Ideal S4x4x128x128 .f32) (x9 : Vec Ideal S512x512 .f32) : Prop where
  h0 : ∀ a b, x0 (ix2 a b) = ((E.p (512 * r + a.val) (512 * 0 + b.val) : ℝ) : EReal)
  h1 : ∀ a b, x1 (ix2 a b) = ((E.p (512 * r + a.val) (512 * 1 + b.val) : ℝ) : EReal)
  h2 : ∀ a b, x2 (ix2 a b) = ((E.p (512 * r + a.val) (512 * 2 + b.val) : ℝ) : EReal)
  h3 : ∀ a b, x3 (ix2 a b) = ((E.p (512 * r + a.val) (512 * 3 + b.val) : ℝ) : EReal)
  h4 : ∀ a d, x4 (ix2 a d) = ((E.C (512 * r + a.val) d.val : ℝ) : EReal)
  h5 : ∀ a d, x5 (ix2 a d) = ((E.S (512 * r + a.val) d.val : ℝ) : EReal)
  dm : ∀ h i j, x6 (ix4 h 0 i j) = ((D (E.lg h.val) i.val j.val : ℝ) : EReal)
  qd : ∀ h i e, x6 (ix4 h 1 i e) = ((Real.exp (E.lg h.val * ((i.val : ℝ) + 1)) : ℝ) : EReal)
  kd : ∀ h i e, x6 (ix4 h 2 i e) = ((Real.exp (E.lg h.val * (127 - (i.val : ℝ))) : ℝ) : EReal)
  cg : ∀ h i e, x6 (ix4 h 3 i e) = ((Real.exp (E.lg h.val * 128) : ℝ) : EReal)
  h7 : ∀ (a : Fin 512) (h : Fin 4) (d : Fin 128), x7 (ix2 a ⟨128 * h.val + d.val, by omega⟩) = ((E.o h.val (512 * r + a.val) d.val : ℝ) : EReal)
  h8 : ∀ c h d e, x8 (ix4 c h d e) = ((E.St h.val (4 * r + c.val) d.val e.val : ℝ) : EReal)
  h9 : ∀ a b, x9 (ix2 a b) = ((E.y (512 * r + a.val) b.val : ℝ) : EReal)

theorem zero_real {E : Env} {r : ℕ} (hr7 : r = 7) : IsT E (4 * r + 4) (k0_pay5 : FVec Ideal S4x128x128 .f32) := by
  subst hr7
  intro h d e
  rw [E.T_top]
  pointwise [k0_pay5]
  rfl

section Blk
variable {E : Env} {r : ℕ}
variable (c : Dev nD) (i : grid0.Coords)
  {arg1 : Memref sig .tc .vmem S512x512 .f32} (harg1 : arg1.IsWhole) {arg2 : Memref sig .tc .vmem S512x512 .f32} (harg2 : arg2.IsWhole) {arg3 : Memref sig .tc .vmem S512x512 .f32} (harg3 : arg3.IsWhole) {arg4 : Memref sig .tc .vmem S512x512 .f32} (harg4 : arg4.IsWhole) {arg5 : Memref sig .tc .vmem S512x128 .f32} (harg5 : arg5.IsWhole) {arg6 : Memref sig .tc .vmem S512x128 .f32} (harg6 : arg6.IsWhole) {arg7 : Memref sig .tc .vmem S4x4x128x128 .f32} (harg7 : arg7.IsWhole) {arg8 : Memref sig .tc .vmem S512x512 .f32} (harg8 : arg8.IsWhole) {arg9 : Memref sig .tc .vmem S4x4x128x128 .f32} (harg9 : arg9.IsWhole) {arg10 : Memref sig .tc .vmem S512x512 .f32} (harg10 : arg10.IsWhole) {arg11 : Memref sig .tc .vmem S512x2048 .bf16} (harg11 : arg11.IsWhole) {arg12 : Memref sig .tc .vmem S4x128x128 .f32} (harg12 : arg12.IsWhole)
  {x0 x1 x2 x3 : Vec Ideal S512x512 .f32} {x4 x5 : Vec Ideal S512x128 .f32} {x6 : Vec Ideal S4x4x128x128 .f32} {x7 : Vec Ideal S512x512 .f32}
  {x8 : Vec Ideal S4x4x128x128 .f32} {x9 : Vec Ideal S512x512 .f32} {xs0 : Vec Ideal S4x128x128 .f32}
  (hb : IsBlk E r x0 x1 x2 x3 x4 x5 x6 x7 x8 x9)
include hb

theorem tabOf_real : IsTab E (tabOf harg7 x6) where
  dm h i j := (ldtab_apply harg7 x6 0 h i j).trans (hb.dm h i j)
  qd h i j := (ldtab_apply harg7 x6 1 h i j).trans (hb.qd h i j)
  kd h i j := (ldtab_apply harg7 x6 2 h i j).trans (hb.kd h i j)
  cg h i j := (ldtab_apply harg7 x6 3 h i j).trans (hb.cg h i j)

omit hb in
theorem raw_of {M : Memref sig .tc .vmem S512x512 .f32} (hM : M.IsWhole) {x : Vec Ideal S512x512 .f32} {w : ℕ}
    (hx : ∀ a b, x (ix2 a b) = ((E.p (512 * r + a.val) (512 * w + b.val) : ℝ) : EReal)) (n h : Fin 4) (i d : Fin 128) :
    ldw hM x n h (ix2 i d) = ((E.raw w h.val (128 * (4 * r + n.val) + i.val) d.val : ℝ) : EReal) := by
  rw [ldw_apply, hx, Env.raw, show 128 * (4 * r + n.val) + i.val = 512 * r + (128 * n.val + i.val) by omega, Nat.add_assoc (512 * w)]

theorem cos_of (n : Fin 4) (i d : Fin 128) : ldt harg5 x4 n (ix2 i d) = ((E.C (128 * (4 * r + n.val) + i.val) d.val : ℝ) : EReal) := by
  rw [ldt_apply, hb.h4, show 128 * (4 * r + n.val) + i.val = 512 * r + (128 * n.val + i.val) by omega]

theorem sin_of (n : Fin 4) (i d : Fin 128) : ldt harg6 x5 n (ix2 i d) = ((E.S (128 * (4 * r + n.val) + i.val) d.val : ℝ) : EReal) := by
  rw [ldt_apply, hb.h5, show 128 * (4 * r + n.val) + i.val = 512 * r + (128 * n.val + i.val) by omega]

theorem turn_of {M : Memref sig .tc .vmem S512x512 .f32} (hM : M.IsWhole) {x : Vec Ideal S512x512 .f32} {w : ℕ}
    (hx : ∀ a b, x (ix2 a b) = ((E.p (512 * r + a.val) (512 * w + b.val) : ℝ) : EReal)) (n h : Fin 4) (i d : Fin 128) :
    stack (fun h => rot (ldt harg5 x4 n) (ldt harg6 x5 n) (ldw hM x n h)) (ix3 h i d)
      = ((E.turn w h.val (128 * (4 * r + n.val) + i.val) d.val : ℝ) : EReal) := by
  rw [stack_apply, rot_apply, raw_of hM hx, raw_of hM hx, cos_of harg5 hb, sin_of harg6 hb, Env.turn, EReal.coe_add, EReal.coe_mul, EReal.coe_mul]
  rfl

theorem row_of (n : Fin 4) (i : Fin 128) : 512 * r + (128 * n.val + i.val) = 128 * (4 * r + n.val) + i.val := by omega

theorem k_of (n h : Fin 4) (i d : Fin 128) :
    mulf (stack fun h => rot (ldt harg5 x4 n) (ldt harg6 x5 n) (ldw harg2 x1 n h)) scaleV (ix3 h i d)
      = ((E.k h.val (128 * (4 * r + n.val) + i.val) d.val : ℝ) : EReal) := by
  refine (scale_apply (n := 0) (by decide) _ h i d).trans ?_
  rw [turn_of harg5 harg6 hb harg2 hb.h1 n, ← EReal.coe_mul, Env.k]

theorem o_of (n h : Fin 4) (i d : Fin 128) :
    stack (fun h => shapeCast S128x128 (ldw harg8 x7 n h) shapeCasts_S128x128_S128x128) (ix3 h i d)
      = ((E.o h.val (128 * (4 * r + n.val) + i.val) d.val : ℝ) : EReal) := by
  refine (stack_apply _ h i d).trans ((cast_rows (F := Ideal) (ldw harg8 x7 n h) i d).trans ?_)
  rw [ldw_apply, hb.h7, ← row_of hb n i]

theorem dy_of (n h : Fin 4) (i d : Fin 128) :
    stack (fun h => ldw harg10 x9 n h) (ix3 h i d) = ((E.dy h.val (128 * (4 * r + n.val) + i.val) d.val : ℝ) : EReal) := by
  refine (stack_apply _ h i d).trans ?_
  rw [ldw_apply, hb.h9, Env.dy, ← row_of hb n i]

theorem chOf_real (n : Fin 4) :
    IsCh E (4 * r + n.val) (chOf harg1 harg2 harg3 harg4 harg5 harg6 harg8 harg9 harg10 x0 x1 x2 x3 x4 x5 x7 x8 x9 n) where
  cos := cos_of harg5 hb n
  sin := sin_of harg6 hb n
  q := turn_of harg5 harg6 hb harg1 hb.h0 n
  k := k_of harg2 harg5 harg6 hb n
  v h i d := (stack_apply _ h i d).trans (raw_of harg3 hb.h2 n h i d)
  g h i d := (stack_apply _ h i d).trans (raw_of harg4 hb.h3 n h i d)
  o := o_of harg8 hb n
  dy := dy_of harg10 hb n
  S h d e := (ldS_apply harg9 x8 n h d e).trans (hb.h8 n h d e)

variable (hr : r < 8)
include hr

theorem out_B (hT : IsT E (4 * r + 4) xs0) (hc0 : ¬cond0_0 i) (y : S512x2048.Idx) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 y
      = blockG E r y := by
  unfold out0_B_10
  refine View.read_writes_apply_of_pieces _ _ (blockG E r) _ ?_ y (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 y)
  rw [piecesB]
  rw [View.readAt_full, harg12.read_unread]
  exact piece_real (tabOf_real harg7 hb) hr (chOf_real harg1 harg2 harg3 harg4 harg5 harg6 harg8 harg9 harg10 hb) hT

theorem out_A (hr7 : r = 7) (hc0 : cond0_0 i) (y : S512x2048.Idx) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 y
      = blockG E r y := by
  unfold out0_A_10
  refine View.read_writes_apply_of_pieces _ _ (blockG E r) _ ?_ y (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 y)
  rw [piecesA]
  rw [View.readCov_full]
  exact piece_real (tabOf_real harg7 hb) hr (chOf_real harg1 harg2 harg3 harg4 harg5 harg6 harg8 harg9 harg10 hb) (zero_real hr7)

theorem sout_B (hT : IsT E (4 * r + 4) xs0) (hc0 : ¬cond0_0 i) :
    IsT E (4 * r) (sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0) := by
  unfold sout0_B_0
  rw [spiecesB, View.read_writes_full, shapeCast_self, View.readAt_full, harg12.read_unread]
  exact carry_last (tabOf_real harg7 hb) hr (chOf_real harg1 harg2 harg3 harg4 harg5 harg6 harg8 harg9 harg10 hb) hT

theorem sout_A (hr7 : r = 7) (hc0 : cond0_0 i) :
    IsT E (4 * r) (sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9) := by
  unfold sout0_A_0
  rw [spiecesA, View.read_writes_full, shapeCast_self, View.readCov_full]
  exact carry_last (tabOf_real harg7 hb) hr (chOf_real harg1 harg2 harg3 harg4 harg5 harg6 harg8 harg9 harg10 hb) (zero_real hr7)

end Blk

end Cert.KernelIdeal.Body

end
-- ==== Proof.Host.lean ====
/- What the host operations before the call leave in the call's operands: the tables, the retention and the states. -/
module

public import proofs.«01_k».proof.Proof.Gen.KernelIdeal.Value
public import proofs.«01_k».proof.Proof.Gen.ReferenceIdeal.Read
public import Idealize.ShloMosaic.Lib.Claim

@[expose] public section

noncomputable section

namespace Cert.KernelIdeal.Body

open Cert.KernelIdeal Cert.KernelIdeal.Gen Idealize.ShloMosaic Idealize.ShloMosaic.TcCoe Idealize.SL.Sem
open Cert.ReferenceIdeal.Read (val_main_v17 val_main_v19 val_main_v63 val_main_v64 val_main_v80 val_main_v90 val_main_v94)

section Terms
variable (F : FTy → Type) [FloatOps F]

def hCos : FVec F S4096x128 .f32 :=
  concatenate S4096x128 1 [⟨S4096x64, val_main_v17 (F := F)⟩, ⟨S4096x64, val_main_v17 (F := F)⟩] concatenates_S4096x64_S4096x64_S4096x128_d1
def hSin : FVec F S4096x128 .f32 :=
  concatenate S4096x128 1 [⟨S4096x64, Host.negf (val_main_v19 (F := F))⟩, ⟨S4096x64, val_main_v19 (F := F)⟩] concatenates_S4096x64_S4096x64_S4096x128_d1

/-- The positions in a chunk; their differences; which are not negative. -/
def pos : FVec F S128 .f32 := sitofp .f32 (iotaInDim S128 32 0)
def diff : FVec F S128x128 .f32 :=
  subf (broadcastInDim S128x128 ![0, 1] bcast_S128x1_S128x128_0_1 (broadcastInDim S128x1 ![0] bcast_S128_S128x1_0 (pos F)))
    (broadcastInDim S128x128 ![0, 1] bcast_S1x128_S128x128_0_1 (broadcastInDim S1x128 ![1] bcast_S128_S1x128_1 (pos F)))
def zero : FVec F S_ .f32 := constant S_ .f32 0x00000000#32
def causal : IVec S128x128 1 := cmpf .oge (diff F) (broadcastInDim S128x128 ![] bcast_S_S128x128 (zero F))
def hDm : FVec F S4x128x128 .f32 :=
  select (broadcastInDim S4x128x128 ![0, 1, 2] bcast_S1x128x128_S4x128x128_0_1_2 (broadcastInDim S1x128x128 ![1, 2] bcast_S128x128_S1x128x128_1_2 (causal F)))
    (Host.exp (mulf (broadcastInDim S4x128x128 ![0, 1, 2] bcast_S4x1x1_S4x128x128_0_1_2 (broadcastInDim S4x1x1 ![0] bcast_S4_S4x1x1_0 (val_main_v80 (F := F))))
      (broadcastInDim S4x128x128 ![0, 1, 2] bcast_S1x128x128_S4x128x128_0_1_2 (broadcastInDim S1x128x128 ![1, 2] bcast_S128x128_S1x128x128_1_2
        (select (causal F) (diff F) (broadcastInDim S128x128 ![] bcast_S_S128x128 (zero F)))))))
    (broadcastInDim S4x128x128 ![] bcast_S_S4x128x128 (zero F))
def hQd : FVec F S4x128 .f32 :=
  Host.exp (mulf (broadcastInDim S4x128 ![0, 1] bcast_S4x1_S4x128_0_1 (broadcastInDim S4x1 ![0] bcast_S4_S4x1_0 (val_main_v80 (F := F))))
    (broadcastInDim S4x128 ![0, 1] bcast_S1x128_S4x128_0_1 (addf (broadcastInDim S1x128 ![1] bcast_S128_S1x128_1 (pos F))
      (broadcastInDim S1x128 ![] bcast_S_S1x128 (constant S_ .f32 0x3F800000#32)))))
def hKd : FVec F S4x128 .f32 :=
  Host.exp (mulf (broadcastInDim S4x128 ![0, 1] bcast_S4x1_S4x128_0_1 (broadcastInDim S4x1 ![0] bcast_S4_S4x1_0 (val_main_v80 (F := F))))
    (broadcastInDim S4x128 ![0, 1] bcast_S1x128_S4x128_0_1 (subf (broadcastInDim S1x128 ![] bcast_S_S1x128 (constant S_ .f32 0x42FE0000#32))
      (broadcastInDim S1x128 ![1] bcast_S128_S1x128_1 (pos F)))))
def hCg : FVec F S4 .f32 := Host.exp (mulf (val_main_v80 (F := F)) (broadcastInDim S4 ![] bcast_S_S4 (constant S_ .f32 0x43000000#32)))
def row (x : FVec F S4x128 .f32) : FVec F S4x128x128 .f32 :=
  broadcastInDim S4x128x128 ![0, 1, 2] bcast_S4x128x1_S4x128x128_0_1_2 (broadcastInDim S4x128x1 ![0, 1] bcast_S4x128_S4x128x1_0_1 x)
def lay (x : FVec F S4x128x128 .f32) : FVec F S4x1x128x128 .f32 := broadcastInDim S4x1x128x128 ![0, 2, 3] bcast_S4x128x128_S4x1x128x128_0_2_3 x
def hTab : FVec F S4x4x128x128 .f32 :=
  concatenate S4x4x128x128 1 [⟨S4x1x128x128, lay F (hDm F)⟩, ⟨S4x1x128x128, lay F (row F (hQd F))⟩, ⟨S4x1x128x128, lay F (row F (hKd F))⟩,
    ⟨S4x1x128x128, lay F (broadcastInDim S4x128x128 ![0, 1, 2] bcast_S4x1x1_S4x128x128_0_1_2 (broadcastInDim S4x1x1 ![0] bcast_S4_S4x1x1_0 (hCg F)))⟩]
    concatenates_S4x1x128x128_S4x1x128x128_S4x1x128x128_S4x1x128x128_S4x4x128x128_d1

variable {F}
def hO (x : FVec F S4096x3072 .f32) : FVec F S4096x512 .f32 := shapeCast S4096x512 (val_main_v94 (F := F) x) shapeCasts_S4096x4x128_S4096x512
variable (F)

/-- How long before the start of a chunk a position lies, less one. -/
def gap : FVec F S32x4096 .f32 :=
  subf (broadcastInDim S32x4096 ![0, 1] bcast_S32x1_S32x4096_0_1
      (subf (broadcastInDim S32x1 ![0] bcast_S32_S32x1_0 (mulf (sitofp .f32 (iotaInDim S32 32 0)) (broadcastInDim S32 ![] bcast_S_S32 (constant S_ .f32 0x43000000#32))))
        (broadcastInDim S32x1 ![] bcast_S_S32x1 (constant S_ .f32 0x3F800000#32))))
    (broadcastInDim S32x4096 ![0, 1] bcast_S1x4096_S32x4096_0_1 (broadcastInDim S1x4096 ![1] bcast_S4096_S1x4096_1 (sitofp .f32 (iotaInDim S4096 32 0))))
def before : IVec S32x4096 1 := cmpf .oge (gap F) (broadcastInDim S32x4096 ![] bcast_S_S32x4096 (zero F))
def hW : FVec F S32x4096x4 .f32 :=
  select (broadcastInDim S32x4096x4 ![0, 1, 2] bcast_S32x4096x1_S32x4096x4_0_1_2 (broadcastInDim S32x4096x1 ![0, 1] bcast_S32x4096_S32x4096x1_0_1 (before F)))
    (Host.exp (mulf (broadcastInDim S32x4096x4 ![0, 1, 2] bcast_S1x1x4_S32x4096x4_0_1_2 (broadcastInDim S1x1x4 ![2] bcast_S4_S1x1x4_2 (val_main_v80 (F := F))))
      (broadcastInDim S32x4096x4 ![0, 1, 2] bcast_S32x4096x1_S32x4096x4_0_1_2 (broadcastInDim S32x4096x1 ![0, 1] bcast_S32x4096_S32x4096x1_0_1
        (select (before F) (gap F) (broadcastInDim S32x4096 ![] bcast_S_S32x4096 (zero F)))))))
    (broadcastInDim S32x4096x4 ![] bcast_S_S32x4096x4 (zero F))
variable {F}
def hKW (x : FVec F S4096x3072 .f32) : FVec F S32x4096x4x128 .f32 :=
  mulf (broadcastInDim S32x4096x4x128 ![0, 1, 2, 3] bcast_S32x4096x4x1_S32x4096x4x128_0_1_2_3
      (broadcastInDim S32x4096x4x1 ![0, 1, 2] bcast_S32x4096x4_S32x4096x4x1_0_1_2 (hW F)))
    (broadcastInDim S32x4096x4x128 ![0, 1, 2, 3] bcast_S1x4096x4x128_S32x4096x4x128_0_1_2_3
      (broadcastInDim S1x4096x4x128 ![1, 2, 3] bcast_S4096x4x128_S1x4096x4x128_1_2_3 (val_main_v90 (F := F) x)))
def hS (x : FVec F S4096x3072 .f32) : FVec F S32x4x128x128 .f32 :=
  transpose S32x4x128x128 [2, 0, 3, 1] (Host.dotGeneral dot_S4096x4x128_S32x4096x4x128_S4x128x32x128_0_1_2_03_1_2 none (val_main_v64 (F := F) x) (hKW x))
    transposes_S4x128x32x128_S32x4x128x128_2_0_3_1

end Terms

section Entry
variable {F : FTy → Type} [FloatOps F] (m : (ℓ : Loc nD τ sig) → Buf (Elt F) ℓ) (c : Dev nD)

set_option maxRecDepth 8192
set_option maxHeartbeats 4000000

theorem V_cos : V m c main_v14 = hCos F := by
  entry_read
  rfl
theorem V_sin : V m c main_v16 = hSin F := by
  entry_read
  rfl
theorem V_tab : V m c main_v71 = hTab F := by
  entry_read
  rfl
theorem V_o : V m c main_v167 = hO (m ((c : Thread nD τ).loc main_arg0)) := by
  entry_read
  rfl
theorem V_S : V m c main_v206 = hS (m ((c : Thread nD τ).loc main_arg0)) := by
  entry_read
  rfl

end Entry

end Cert.KernelIdeal.Body

end
-- ==== Proof.Ref.lean ====
/- The values the reference works with, over the reals: the angles, the turned queries and keys, the decays and the retention. -/
module

public import proofs.«01_k».proof.Proof.Gen.ReferenceIdeal.Read
public import Idealize.ShloMosaic.Lib.Pointwise
public import proofs.«01_k».proof.Proof.Spec

@[expose] public section

noncomputable section

namespace Cert.ReferenceIdeal.Read

open Cert.ReferenceIdeal Cert.ReferenceIdeal.Gen Idealize.ShloMosaic Idealize.ShloMosaic.TcCoe Idealize.SL.Sem Cert.Ret
open Finset (range)

/-! ## Scalars -/

theorem sit (n : ℕ) (h : n < 4096) : (FloatOps.sitofp FTy.f32 (BitVec.ofNat 32 n) : Ideal FTy.f32) = ((n : ℝ) : EReal) := by
  have e : (BitVec.ofNat 32 n).toInt = (n : ℤ) := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e]
  rfl

/-- The log of 2, as its float word gives it. -/
def ln2 : ℝ := 11629080 / 16777216

theorem lit_ln2 : Ideal.ofBits .f32 0x3F317218#32 = ((ln2 : ℝ) : EReal) := by
  simp [Ideal.ofBits, Ideal.ieee, ln2, -EReal.coe_mul]; norm_num
theorem lit_m5 : Ideal.ofBits .f32 0xC0A00000#32 = ((-5 : ℝ) : EReal) := by
  simp [Ideal.ofBits, Ideal.ieee, -EReal.coe_mul, -EReal.coe_neg]; norm_num
theorem lit_64 : Ideal.ofBits .f32 0x42800000#32 = ((64 : ℝ) : EReal) := by
  simp [Ideal.ofBits, Ideal.ieee, -EReal.coe_mul]; norm_num
theorem lit_1e4 : Ideal.ofBits .f32 0x461C4000#32 = ((10000 : ℝ) : EReal) := by
  simp [Ideal.ofBits, Ideal.ieee, -EReal.coe_mul]; norm_num
theorem lit_mh : Ideal.ofBits .f32 0xBF000000#32 = ((-(1 / 2) : ℝ) : EReal) := by
  simp [Ideal.ofBits, Ideal.ieee, -EReal.coe_mul, -EReal.coe_neg]; norm_num

theorem decay (l x : ℝ) :
    Scalar.select (BitVec.ofBool (decide ((0 : EReal) ≤ (x : EReal)))) (Ideal.exp (Scalar.select (BitVec.ofBool (decide ((0 : EReal) ≤ (x : EReal)))) ((l : EReal) * (x : EReal)) 0)) (0 : EReal)
      = ((if 0 ≤ x then Real.exp (l * x) else 0 : ℝ) : EReal) := by
  have e : ((0 : EReal) ≤ (x : EReal)) ↔ 0 ≤ x := EReal.coe_nonneg
  by_cases h : 0 ≤ x
  · rw [if_pos h, decide_eq_true (e.mpr h)]
    show Ideal.exp ((l : EReal) * (x : EReal)) = _
    rw [← EReal.coe_mul, Ideal.exp_coe]
  · rw [if_neg h, decide_eq_false (fun k => h (e.mp k))]
    rfl

/-! ## The environment -/

def angle (t d : ℕ) : ℝ := (t : ℝ) * Real.rpow 10000 (-(d : ℝ) / 64)

/-- The retention's inputs, for a projection `p` and a gradient `y`. -/
def env (p y : ℕ → ℕ → ℝ) : Env where
  p := p
  y := y
  lg h := Real.log (1 - Real.exp (ln2 * (-5 - (h : ℝ))))
  c t d := Real.cos (angle t d)
  s t d := Real.sin (angle t d)

theorem angle_apply (t : Fin 4096) (d : Fin 64) : val_main_v16 (F := Ideal) (ix2 t d) = ((angle t d : ℝ) : EReal) := by
  pointwise [val_main_v16, val_main_v14, val_main_v12, val_main_v11, val_main_v15, val_main_v13, val_main_v10, val_main_v9, val_main_cst_0, val_main_v8, val_main_v7, val_main_cst, val_main_v6, val_main_v5]
  rw [sit _ t.isLt, sit _ (by omega), lit_1e4, lit_64, ← EReal.coe_neg, Ideal.div_coe (by norm_num), ← EReal.coe_mul, mul_one_div, Ideal.pow_coe_coe, ← EReal.coe_mul]
  rfl

variable (p y : ℕ → ℕ → ℝ)

theorem cos_apply' (t : Fin 4096) (d : Fin 64) : val_main_v17 (F := Ideal) (ix2 t d) = (((env p y).c t d : ℝ) : EReal) :=
  (congrArg Ideal.cos (angle_apply t d)).trans (Ideal.cos_coe _)
theorem sin_apply' (t : Fin 4096) (d : Fin 64) : val_main_v19 (F := Ideal) (ix2 t d) = (((env p y).s t d : ℝ) : EReal) :=
  (congrArg Ideal.sin (angle_apply t d)).trans (Ideal.sin_coe _)

theorem lg_apply (h : Fin 4) : val_main_v80 (F := Ideal) (ix1 h) = (((env p y).lg h : ℝ) : EReal) := by
  pointwise [val_main_v80, val_main_v79, val_main_v78, val_main_v77, val_main_v76, val_main_cst_5, val_main_v75, val_main_v74, val_main_cst_4, val_main_v73]
  rw [sit _ (by omega), lit_ln2, lit_m5, ← EReal.coe_sub, ← EReal.coe_mul, Ideal.exp_coe, ← EReal.coe_neg, Ideal.log1p]
  have hn : ln2 * (-5 - (h.val : ℝ)) < 0 := by
    have : (0 : ℝ) ≤ (h.val : ℝ) := Nat.cast_nonneg _
    have : (0 : ℝ) < ln2 := by norm_num [ln2]
    nlinarith
  have h1 : Real.exp (ln2 * (-5 - (h.val : ℝ))) < 1 := by
    have := Real.exp_lt_exp.mpr hn
    rwa [Real.exp_zero] at this
  rw [show ((1 : EReal) + ((-Real.exp (ln2 * (-5 - (h.val : ℝ))) : ℝ) : EReal)) = ((1 - Real.exp (ln2 * (-5 - (h.val : ℝ))) : ℝ) : EReal) by
    rw [← EReal.coe_one, ← EReal.coe_add]
    congr 1, Ideal.log_coe, if_neg (by linarith)]
  rfl

theorem causal_apply (t s : Fin 4096) : val_main_v70 (F := Ideal) (ix2 t s) = (((t.val : ℝ) - (s.val : ℝ) : ℝ) : EReal) := by
  pointwise [val_main_v70, val_main_v69, val_main_v68, val_main_v67, val_main_v66, val_main_v65]
  rw [sit _ t.isLt, sit _ s.isLt, EReal.coe_sub]

theorem mask_apply (t s : Fin 4096) :
    val_main_v72 (F := Ideal) (ix2 t s) = BitVec.ofBool (decide ((0 : EReal) ≤ (((t.val : ℝ) - (s.val : ℝ) : ℝ) : EReal))) := by
  pointwise [val_main_v72, val_main_v71, val_main_cst_3]
  rw [causal_apply]

theorem D_apply (h : Fin 4) (t s : Fin 4096) :
    val_main_v88 (F := Ideal) (ix3 h t s) = ((D ((env p y).lg h) t s : ℝ) : EReal) := by
  pointwise [val_main_v88, val_main_call1_v2, val_main_call1_v1, val_main_call1_v0, val_main_cst_7, val_main_v87, val_main_v86, val_main_v85, val_main_v84, val_main_v83, val_main_v82, val_main_call0_v1, val_main_call0_v0, val_main_cst_6, val_main_v81, id_eq]
  rw [lg_apply p y, mask_apply, causal_apply]
  refine (decay _ _).trans ?_
  rw [D]
  simp only [sub_nonneg, Nat.cast_le]

/-! ## The heads -/

variable {X : FVec Ideal S4096x3072 .f32} (hX : ∀ (t : Fin 4096) (j : Fin 3072), X (ix2 t j) = ((p t j : ℝ) : EReal))
include y hX

theorem raw0 (t : Fin 4096) (h : Fin 4) (d : Fin 128) : val_main_v4 (F := Ideal) X (ix3 t h d) = (((env p y).raw 0 h t d : ℝ) : EReal) := by
  pointwise [val_main_v4, val_main_v0]
  rw [hX, Env.raw]
  congr 2
  show h.val * 128 + d.val = 512 * 0 + 128 * h.val + d.val
  omega
theorem raw1 (t : Fin 4096) (h : Fin 4) (d : Fin 128) : val_main_v34 (F := Ideal) X (ix3 t h d) = (((env p y).raw 1 h t d : ℝ) : EReal) := by
  pointwise [val_main_v34, val_main_v1]
  rw [hX, Env.raw]
  congr 2
  show 512 + (h.val * 128 + d.val) = 512 * 1 + 128 * h.val + d.val
  omega
theorem v_apply (t : Fin 4096) (h : Fin 4) (d : Fin 128) : val_main_v64 (F := Ideal) X (ix3 t h d) = (((env p y).v h t d : ℝ) : EReal) := by
  pointwise [val_main_v64, val_main_v2]
  rw [hX, Env.v, Env.raw]
  congr 2
  show 1024 + (h.val * 128 + d.val) = 512 * 2 + 128 * h.val + d.val
  omega

theorem q_apply (t : Fin 4096) (h : Fin 4) (d : Fin 128) : val_main_v33 (F := Ideal) X (ix3 t h d) = (((env p y).q h t d : ℝ) : EReal) := by
  pointwise [val_main_v33]
  have hd := d.isLt
  split
  · next hh =>
    pointwise [val_main_v27, val_main_v26, val_main_v25, val_main_v24, val_main_v23, val_main_v22, val_main_v21, val_main_v20, val_main_v18]
    rw [raw0 p y hX, raw0 p y hX, cos_apply' p y, sin_apply' p y]
    simp only [← EReal.coe_mul, ← EReal.coe_sub]
    congr 1
    rw [Env.q, Env.turn, Env.C, Env.S, if_pos hh, Nat.mod_eq_of_lt (show d.val < 64 from hh), Nat.mod_eq_of_lt (show d.val + 64 < 128 by omega), Nat.add_comm d.val 64]
    ring
  · next hh =>
    pointwise [val_main_v32, val_main_v31, val_main_v30, val_main_v29, val_main_v28, val_main_v22, val_main_v21, val_main_v20, val_main_v18]
    rw [raw0 p y hX, raw0 p y hX, cos_apply' p y, sin_apply' p y]
    simp only [← EReal.coe_mul, ← EReal.coe_add]
    congr 1
    rw [Env.q, Env.turn, Env.C, Env.S, if_neg hh, show d.val % 64 = d.val - 64 by omega, show (d.val + 64) % 128 = d.val - 64 by omega, show 64 + (d.val - 64) = d.val by omega]
    ring

theorem k_apply (t : Fin 4096) (h : Fin 4) (d : Fin 128) : val_main_v90 (F := Ideal) X (ix3 t h d) = (((env p y).k h t d : ℝ) : EReal) := by
  have hk : val_main_v63 (F := Ideal) X (ix3 t h d) = (((env p y).turn 1 h t d : ℝ) : EReal) := by
    pointwise [val_main_v63]
    have hd := d.isLt
    split
    · next hh =>
      pointwise [val_main_v57, val_main_v56, val_main_v55, val_main_v54, val_main_v53, val_main_v52, val_main_v51, val_main_v50, val_main_v48]
      rw [raw1 p y hX, raw1 p y hX, show val_main_v47 (F := Ideal) = val_main_v17 from rfl, show val_main_v49 (F := Ideal) = val_main_v19 from rfl, cos_apply' p y, sin_apply' p y]
      simp only [← EReal.coe_mul, ← EReal.coe_sub]
      congr 1
      rw [Env.turn, Env.C, Env.S, if_pos hh, Nat.mod_eq_of_lt (show d.val < 64 from hh), Nat.mod_eq_of_lt (show d.val + 64 < 128 by omega), Nat.add_comm d.val 64]
      ring
    · next hh =>
      pointwise [val_main_v62, val_main_v61, val_main_v60, val_main_v59, val_main_v58, val_main_v52, val_main_v51, val_main_v50, val_main_v48]
      rw [raw1 p y hX, raw1 p y hX, show val_main_v47 (F := Ideal) = val_main_v17 from rfl, show val_main_v49 (F := Ideal) = val_main_v19 from rfl, cos_apply' p y, sin_apply' p y]
      simp only [← EReal.coe_mul, ← EReal.coe_add]
      congr 1
      rw [Env.turn, Env.C, Env.S, if_neg hh, show d.val % 64 = d.val - 64 by omega, show (d.val + 64) % 128 = d.val - 64 by omega, show 64 + (d.val - 64) = d.val by omega]
      ring
  pointwise [val_main_v90, val_main_v89, val_main_cst_8]
  rw [hk, lit_sc, ← EReal.coe_mul]
  rfl

/-! ## The retention -/

theorem A_apply (h : Fin 4) (t s : Fin 4096) :
    val_main_v91 (F := Ideal) X (ix3 h t s) = ((∑ d ∈ range 128, (env p y).q h t d * (env p y).k h s d : ℝ) : EReal) := by
  pointwise [val_main_v91]
  exact sum_coe _ (fun d => (env p y).q h t d * (env p y).k h s d) fun e => by rw [q_apply p y hX, k_apply p y hX, ← EReal.coe_mul]

theorem P_apply (h : Fin 4) (t s : Fin 4096) :
    val_main_v92 (F := Ideal) X (ix3 h t s) = ((rP ((env p y).lg h) ((env p y).q h) ((env p y).k h) t s : ℝ) : EReal) := by
  pointwise [val_main_v92]
  rw [A_apply p y hX, D_apply p y, ← EReal.coe_mul]
  rfl

theorem o_apply (t : Fin 4096) (h : Fin 4) (e : Fin 128) : val_main_v94 (F := Ideal) X (ix3 t h e) = (((env p y).o h t e : ℝ) : EReal) := by
  pointwise [val_main_v94, val_main_v93]
  exact sum_coe _ (fun s => rP ((env p y).lg h) ((env p y).q h) ((env p y).k h) t s * (env p y).v h s e) fun s => by
    rw [v_apply p y hX, P_apply p y hX, ← EReal.coe_mul, mul_comm]

end Cert.ReferenceIdeal.Read

end
-- ==== Proof.HostReal.lean ====
/- The call's operands that the host computes, over the reals. -/
module

public import proofs.«01_k».proof.Proof.Host
public import proofs.«01_k».proof.Proof.Ref

@[expose] public section

noncomputable section

namespace Cert.KernelIdeal.Body

open Cert.KernelIdeal Cert.KernelIdeal.Gen Idealize.ShloMosaic Idealize.ShloMosaic.TcCoe Idealize.SL.Sem Cert.Ret
open Cert.ReferenceIdeal.Read (val_main_v17 val_main_v19 val_main_v63 val_main_v64 val_main_v80 val_main_v90 val_main_v94 env sit cos_apply' sin_apply' lg_apply k_apply v_apply o_apply)
open Finset (range)

variable (p y : ℕ → ℕ → ℝ)

theorem lit_127 : Ideal.ofBits .f32 0x42FE0000#32 = ((127 : ℝ) : EReal) := by
  simp [Ideal.ofBits, Ideal.ieee, -EReal.coe_mul]; norm_num

theorem decay_if (l x : ℝ) :
    (if (0 : EReal) ≤ (x : EReal) then Ideal.exp ((l : EReal) * if (0 : EReal) ≤ (x : EReal) then (x : EReal) else 0) else 0)
      = ((if 0 ≤ x then Real.exp (l * x) else 0 : ℝ) : EReal) := by
  have e : ((0 : EReal) ≤ (x : EReal)) ↔ 0 ≤ x := EReal.coe_nonneg
  by_cases h : 0 ≤ x
  · rw [if_pos h, if_pos (e.mpr h), if_pos (e.mpr h), ← EReal.coe_mul, Ideal.exp_coe]
  · rw [if_neg h, if_neg (fun k => h (e.mp k))]
    rfl

theorem hCos_apply (t : Fin 4096) (d : Fin 128) : hCos Ideal (ix2 t d) = (((env p y).C t d : ℝ) : EReal) := by
  pointwise [hCos]
  have hd := d.isLt
  rw [Env.C]
  split
  · next hh =>
    refine (cos_apply' p y _ _).trans ?_
    rw [Nat.mod_eq_of_lt (show d.val < 64 from hh)]
  · next hh =>
    refine (cos_apply' p y _ _).trans ?_
    rw [show d.val % 64 = d.val - 64 by omega]

theorem hSin_apply (t : Fin 4096) (d : Fin 128) : hSin Ideal (ix2 t d) = (((env p y).S t d : ℝ) : EReal) := by
  pointwise [hSin]
  have hd := d.isLt
  rw [Env.S]
  split
  · next hh =>
    rw [Nat.mod_eq_of_lt (show d.val < 64 from hh), EReal.coe_neg]
    exact congrArg (fun z => -z) (sin_apply' p y _ _)
  · next hh =>
    rw [show d.val % 64 = d.val - 64 by omega]
    exact sin_apply' p y _ _

theorem pos_apply (i : Fin 128) : pos Ideal (ix1 i) = ((i.val : ℝ) : EReal) := by
  pointwise [pos]
  exact sit _ (by omega)

theorem diff_apply (i j : Fin 128) : diff Ideal (ix2 i j) = (((i.val : ℝ) - (j.val : ℝ) : ℝ) : EReal) := by
  pointwise [diff]
  rw [pos_apply, pos_apply, EReal.coe_sub]

theorem hDm_apply (h : Fin 4) (i j : Fin 128) : hDm Ideal (ix3 h i j) = ((D ((env p y).lg h) i j : ℝ) : EReal) := by
  pointwise [hDm, causal, zero]
  rw [lg_apply p y, diff_apply]
  refine (decay_if _ _).trans ?_
  rw [D]
  simp only [sub_nonneg, Nat.cast_le]

theorem hQd_apply (h : Fin 4) (i : Fin 128) : hQd Ideal (ix2 h i) = ((Real.exp ((env p y).lg h * (i.val + 1)) : ℝ) : EReal) := by
  pointwise [hQd]
  rw [lg_apply p y, pos_apply, ← EReal.coe_one, ← EReal.coe_add, ← EReal.coe_mul, Ideal.exp_coe]
theorem hKd_apply (h : Fin 4) (i : Fin 128) : hKd Ideal (ix2 h i) = ((Real.exp ((env p y).lg h * (127 - i.val)) : ℝ) : EReal) := by
  pointwise [hKd]
  rw [lg_apply p y, pos_apply, lit_127, ← EReal.coe_sub, ← EReal.coe_mul, Ideal.exp_coe]
theorem hCg_apply (h : Fin 4) : hCg Ideal (ix1 h) = ((Real.exp ((env p y).lg h * 128) : ℝ) : EReal) := by
  pointwise [hCg]
  rw [lg_apply p y, lit_128, ← EReal.coe_mul, Ideal.exp_coe]

theorem tab_dm (h : Fin 4) (i j : Fin 128) : hTab Ideal (ix4 h 0 i j) = ((D ((env p y).lg h) i j : ℝ) : EReal) := by
  pointwise [hTab, lay]
  exact hDm_apply p y h i j
theorem tab_qd (h : Fin 4) (i j : Fin 128) : hTab Ideal (ix4 h 1 i j) = ((Real.exp ((env p y).lg h * (i.val + 1)) : ℝ) : EReal) := by
  pointwise [hTab, lay, row]
  exact hQd_apply p y h i
theorem tab_kd (h : Fin 4) (i j : Fin 128) : hTab Ideal (ix4 h 2 i j) = ((Real.exp ((env p y).lg h * (127 - i.val)) : ℝ) : EReal) := by
  pointwise [hTab, lay, row]
  exact hKd_apply p y h i
theorem tab_cg (h : Fin 4) (i j : Fin 128) : hTab Ideal (ix4 h 3 i j) = ((Real.exp ((env p y).lg h * 128) : ℝ) : EReal) := by
  pointwise [hTab, lay]
  exact hCg_apply p y h

theorem gap_apply (n : Fin 32) (s : Fin 4096) : gap Ideal (ix2 n s) = ((128 * (n.val : ℝ) - 1 - (s.val : ℝ) : ℝ) : EReal) := by
  pointwise [gap]
  rw [sit _ s.isLt, sit _ (by omega), lit_128, ← EReal.coe_one]
  simp only [← EReal.coe_mul, ← EReal.coe_sub]
  rw [mul_comm]

theorem hW_apply (n : Fin 32) (s : Fin 4096) (h : Fin 4) : hW Ideal (ix3 n s h) = ((W ((env p y).lg h) n s : ℝ) : EReal) := by
  pointwise [hW, before, zero]
  rw [lg_apply p y, gap_apply]
  refine (decay_if _ _).trans ?_
  rw [W]
  congr 1
  have e : (0 ≤ 128 * (n.val : ℝ) - 1 - (s.val : ℝ)) ↔ s.val < 128 * n.val := by
    rw [sub_nonneg, le_sub_iff_add_le]
    exact_mod_cast Iff.rfl
  by_cases hs : s.val < 128 * n.val
  · rw [if_pos hs, if_pos (e.mpr hs)]
  · rw [if_neg hs, if_neg fun k => hs (e.mp k)]

variable {X : FVec Ideal S4096x3072 .f32} (hX : ∀ (t : Fin 4096) (j : Fin 3072), X (ix2 t j) = ((p t j : ℝ) : EReal))
include hX

theorem hO_apply (t : Fin 4096) (j : Fin 512) : hO X (ix2 t j) = (((env p y).o (j / 128) t (j % 128) : ℝ) : EReal) := by
  pointwise [hO]
  exact o_apply p y hX _ _ _

theorem hKW_apply (n : Fin 32) (s : Fin 4096) (h : Fin 4) (d : Fin 128) :
    hKW X (ix4 n s h d) = ((W ((env p y).lg h) n s * (env p y).k h s d : ℝ) : EReal) := by
  pointwise [hKW]
  rw [hW_apply p y, EReal.coe_mul]
  congr 1
  exact k_apply p y hX s h d

theorem hS_apply (n : Fin 32) (h : Fin 4) (d e : Fin 128) : hS X (ix4 n h d e) = (((env p y).St h n d e : ℝ) : EReal) := by
  pointwise [hS]
  exact sum_coe _ (fun s => W ((env p y).lg h) n s * (env p y).k h s d * (env p y).v h s e) fun s => by
    rw [hKW_apply p y hX]
    refine (congrArg (· * _) (v_apply p y hX s h e)).trans ?_
    rw [← EReal.coe_mul, mul_comm]

end Cert.KernelIdeal.Body

end
-- ==== Proof.Value.lean ====
/- What the retention's gradient kernel leaves in its result, over the reals: block by block, from the last one to the first. -/
module

public import proofs.«01_k».proof.Proof.Block
public import proofs.«01_k».proof.Proof.HostReal

@[expose] public section

noncomputable section

namespace Cert.KernelIdeal.Body

open Cert.KernelIdeal Cert.KernelIdeal.Gen Idealize.ShloMosaic Idealize.ShloMosaic.TcCoe Idealize.SL.Sem Cert.Ret
open Cert.ReferenceIdeal.Read (env)

/-! ## Which block each window takes at a point -/

theorem ix0 : ∀ t : Fin grid0.N, win0_0.index t = ![7 - t.val, 0] := by decide +kernel
theorem ix1 : ∀ t : Fin grid0.N, win0_1.index t = ![7 - t.val, 1] := by decide +kernel
theorem ix2' : ∀ t : Fin grid0.N, win0_2.index t = ![7 - t.val, 2] := by decide +kernel
theorem ix3' : ∀ t : Fin grid0.N, win0_3.index t = ![7 - t.val, 3] := by decide +kernel
theorem ix4' : ∀ t : Fin grid0.N, win0_4.index t = ![7 - t.val, 0] := by decide +kernel
theorem ix5 : ∀ t : Fin grid0.N, win0_5.index t = ![7 - t.val, 0] := by decide +kernel
theorem ix6 : ∀ t : Fin grid0.N, win0_6.index t = ![0, 0, 0, 0] := by decide +kernel
theorem ix7 : ∀ t : Fin grid0.N, win0_7.index t = ![7 - t.val, 0] := by decide +kernel
theorem ix8 : ∀ t : Fin grid0.N, win0_8.index t = ![7 - t.val, 0, 0, 0] := by decide +kernel
theorem ix9 : ∀ t : Fin grid0.N, win0_9.index t = ![7 - t.val, 0] := by decide +kernel
/-- No block of the result is cut. -/
theorem xsize10 : ∀ (t : Fin grid0.N) (a : Fin 2), win0_10.xsize (grid0.coords t) a = (![512, 2048] : Fin 2 → ℕ) a := by decide +kernel
theorem ix10 : ∀ t : Fin grid0.N, win0_10.index t = ![7 - t.val, 0] := by decide +kernel

section Reads
variable (m : (ℓ : Loc nD τ sig) → Buf (Elt Ideal) ℓ) (c : Dev nD) (t : Fin cfg0.N)

theorem read0 (a b : Fin 512) :
    (iblk m c 0 t : Vec Ideal S512x512 .f32) (ix2 a b) = m ((c : Thread nD τ).loc main_arg0) (ix2 (⟨512 * (7 - t.val) + a.val, by omega⟩ : Fin 4096) (⟨512 * 0 + b.val, by omega⟩ : Fin 3072)) := by
  unfold iblk
  rw [View.read_apply]
  show V m c main_arg0 _ = _
  rw [V_main_arg0]
  congr 1
  funext x
  apply Fin.ext
  match x with
  | ⟨0, _⟩ => show win0_0.index t 0 * 512 + 1 * a.val = 512 * (7 - t.val) + a.val; rw [congrFun (ix0 t) 0]; show (7 - t.val) * 512 + 1 * a.val = _; omega
  | ⟨1, _⟩ => show win0_0.index t 1 * 512 + 1 * b.val = 512 * 0 + b.val; rw [congrFun (ix0 t) 1]; show 0 * 512 + 1 * b.val = _; omega

theorem read1 (a b : Fin 512) :
    (iblk m c 1 t : Vec Ideal S512x512 .f32) (ix2 a b) = m ((c : Thread nD τ).loc main_arg0) (ix2 (⟨512 * (7 - t.val) + a.val, by omega⟩ : Fin 4096) (⟨512 * 1 + b.val, by omega⟩ : Fin 3072)) := by
  unfold iblk
  rw [View.read_apply]
  show V m c main_arg0 _ = _
  rw [V_main_arg0]
  congr 1
  funext x
  apply Fin.ext
  match x with
  | ⟨0, _⟩ => show win0_1.index t 0 * 512 + 1 * a.val = 512 * (7 - t.val) + a.val; rw [congrFun (ix1 t) 0]; show (7 - t.val) * 512 + 1 * a.val = _; omega
  | ⟨1, _⟩ => show win0_1.index t 1 * 512 + 1 * b.val = 512 * 1 + b.val; rw [congrFun (ix1 t) 1]; show 1 * 512 + 1 * b.val = _; omega

theorem read2 (a b : Fin 512) :
    (iblk m c 2 t : Vec Ideal S512x512 .f32) (ix2 a b) = m ((c : Thread nD τ).loc main_arg0) (ix2 (⟨512 * (7 - t.val) + a.val, by omega⟩ : Fin 4096) (⟨512 * 2 + b.val, by omega⟩ : Fin 3072)) := by
  unfold iblk
  rw [View.read_apply]
  show V m c main_arg0 _ = _
  rw [V_main_arg0]
  congr 1
  funext x
  apply Fin.ext
  match x with
  | ⟨0, _⟩ => show win0_2.index t 0 * 512 + 1 * a.val = 512 * (7 - t.val) + a.val; rw [congrFun (ix2' t) 0]; show (7 - t.val) * 512 + 1 * a.val = _; omega
  | ⟨1, _⟩ => show win0_2.index t 1 * 512 + 1 * b.val = 512 * 2 + b.val; rw [congrFun (ix2' t) 1]; show 2 * 512 + 1 * b.val = _; omega

theorem read3 (a b : Fin 512) :
    (iblk m c 3 t : Vec Ideal S512x512 .f32) (ix2 a b) = m ((c : Thread nD τ).loc main_arg0) (ix2 (⟨512 * (7 - t.val) + a.val, by omega⟩ : Fin 4096) (⟨512 * 3 + b.val, by omega⟩ : Fin 3072)) := by
  unfold iblk
  rw [View.read_apply]
  show V m c main_arg0 _ = _
  rw [V_main_arg0]
  congr 1
  funext x
  apply Fin.ext
  match x with
  | ⟨0, _⟩ => show win0_3.index t 0 * 512 + 1 * a.val = 512 * (7 - t.val) + a.val; rw [congrFun (ix3' t) 0]; show (7 - t.val) * 512 + 1 * a.val = _; omega
  | ⟨1, _⟩ => show win0_3.index t 1 * 512 + 1 * b.val = 512 * 3 + b.val; rw [congrFun (ix3' t) 1]; show 3 * 512 + 1 * b.val = _; omega

theorem read4 (a : Fin 512) (d : Fin 128) :
    (iblk m c 4 t : Vec Ideal S512x128 .f32) (ix2 a d) = V m c main_v14 (ix2 (⟨512 * (7 - t.val) + a.val, by omega⟩ : Fin 4096) d) := by
  unfold iblk
  rw [View.read_apply]
  show V m c main_v14 _ = _
  congr 1
  funext x
  apply Fin.ext
  match x with
  | ⟨0, _⟩ => show win0_4.index t 0 * 512 + 1 * a.val = 512 * (7 - t.val) + a.val; rw [congrFun (ix4' t) 0]; show (7 - t.val) * 512 + 1 * a.val = _; omega
  | ⟨1, _⟩ => show win0_4.index t 1 * 128 + 1 * d.val = d.val; rw [congrFun (ix4' t) 1]; show 0 * 128 + 1 * d.val = _; omega

theorem read5 (a : Fin 512) (d : Fin 128) :
    (iblk m c 5 t : Vec Ideal S512x128 .f32) (ix2 a d) = V m c main_v16 (ix2 (⟨512 * (7 - t.val) + a.val, by omega⟩ : Fin 4096) d) := by
  unfold iblk
  rw [View.read_apply]
  show V m c main_v16 _ = _
  congr 1
  funext x
  apply Fin.ext
  match x with
  | ⟨0, _⟩ => show win0_5.index t 0 * 512 + 1 * a.val = 512 * (7 - t.val) + a.val; rw [congrFun (ix5 t) 0]; show (7 - t.val) * 512 + 1 * a.val = _; omega
  | ⟨1, _⟩ => show win0_5.index t 1 * 128 + 1 * d.val = d.val; rw [congrFun (ix5 t) 1]; show 0 * 128 + 1 * d.val = _; omega

theorem read6 (h u : Fin 4) (i j : Fin 128) : (iblk m c 6 t : Vec Ideal S4x4x128x128 .f32) (ix4 h u i j) = V m c main_v71 (ix4 h u i j) := by
  unfold iblk
  rw [View.read_apply]
  show V m c main_v71 _ = _
  congr 1
  funext x
  apply Fin.ext
  match x with
  | ⟨0, _⟩ => show win0_6.index t 0 * 4 + 1 * h.val = h.val; rw [congrFun (ix6 t) 0]; show 0 * 4 + 1 * h.val = _; omega
  | ⟨1, _⟩ => show win0_6.index t 1 * 4 + 1 * u.val = u.val; rw [congrFun (ix6 t) 1]; show 0 * 4 + 1 * u.val = _; omega
  | ⟨2, _⟩ => show win0_6.index t 2 * 128 + 1 * i.val = i.val; rw [congrFun (ix6 t) 2]; show 0 * 128 + 1 * i.val = _; omega
  | ⟨3, _⟩ => show win0_6.index t 3 * 128 + 1 * j.val = j.val; rw [congrFun (ix6 t) 3]; show 0 * 128 + 1 * j.val = _; omega

theorem read7 (a b : Fin 512) :
    (iblk m c 7 t : Vec Ideal S512x512 .f32) (ix2 a b) = V m c main_v167 (ix2 (⟨512 * (7 - t.val) + a.val, by omega⟩ : Fin 4096) b) := by
  unfold iblk
  rw [View.read_apply]
  show V m c main_v167 _ = _
  congr 1
  funext x
  apply Fin.ext
  match x with
  | ⟨0, _⟩ => show win0_7.index t 0 * 512 + 1 * a.val = 512 * (7 - t.val) + a.val; rw [congrFun (ix7 t) 0]; show (7 - t.val) * 512 + 1 * a.val = _; omega
  | ⟨1, _⟩ => show win0_7.index t 1 * 512 + 1 * b.val = b.val; rw [congrFun (ix7 t) 1]; show 0 * 512 + 1 * b.val = _; omega

theorem read8 (n h : Fin 4) (d e : Fin 128) :
    (iblk m c 8 t : Vec Ideal S4x4x128x128 .f32) (ix4 n h d e) = V m c main_v206 (ix4 (⟨4 * (7 - t.val) + n.val, by omega⟩ : Fin 32) h d e) := by
  unfold iblk
  rw [View.read_apply]
  show V m c main_v206 _ = _
  congr 1
  funext x
  apply Fin.ext
  match x with
  | ⟨0, _⟩ => show win0_8.index t 0 * 4 + 1 * n.val = 4 * (7 - t.val) + n.val; rw [congrFun (ix8 t) 0]; show (7 - t.val) * 4 + 1 * n.val = _; omega
  | ⟨1, _⟩ => show win0_8.index t 1 * 4 + 1 * h.val = h.val; rw [congrFun (ix8 t) 1]; show 0 * 4 + 1 * h.val = _; omega
  | ⟨2, _⟩ => show win0_8.index t 2 * 128 + 1 * d.val = d.val; rw [congrFun (ix8 t) 2]; show 0 * 128 + 1 * d.val = _; omega
  | ⟨3, _⟩ => show win0_8.index t 3 * 128 + 1 * e.val = e.val; rw [congrFun (ix8 t) 3]; show 0 * 128 + 1 * e.val = _; omega

theorem read9 (a b : Fin 512) :
    (iblk m c 9 t : Vec Ideal S512x512 .f32) (ix2 a b) = m ((c : Thread nD τ).loc main_arg1) (ix2 (⟨512 * (7 - t.val) + a.val, by omega⟩ : Fin 4096) (⟨b.val, by omega⟩ : Fin 1024)) := by
  unfold iblk
  rw [View.read_apply]
  show V m c main_arg1 _ = _
  rw [V_main_arg1]
  congr 1
  funext x
  apply Fin.ext
  match x with
  | ⟨0, _⟩ => show win0_9.index t 0 * 512 + 1 * a.val = 512 * (7 - t.val) + a.val; rw [congrFun (ix9 t) 0]; show (7 - t.val) * 512 + 1 * a.val = _; omega
  | ⟨1, _⟩ => show win0_9.index t 1 * 512 + 1 * b.val = b.val; rw [congrFun (ix9 t) 1]; show 0 * 512 + 1 * b.val = _; omega

end Reads

section Run
variable (m : (ℓ : Loc nD τ sig) → Buf (Elt Ideal) ℓ) (c : Dev nD) (p y : ℕ → ℕ → ℝ)
variable (hX : ∀ (t : Fin 4096) (j : Fin 3072), (m ((c : Thread nD τ).loc main_arg0) : FVec Ideal S4096x3072 .f32) (ix2 t j) = ((p t j : ℝ) : EReal))
variable (hY : ∀ (t : Fin 4096) (j : Fin 1024), (m ((c : Thread nD τ).loc main_arg1) : FVec Ideal S4096x1024 .f32) (ix2 t j) = ((y t j : ℝ) : EReal))
include hX hY

/-- The blocks of point `t` are those of block `7 - t` of the rows. -/
theorem isBlk (t : Fin cfg0.N) : IsBlk (env p y) (7 - t.val) (iblk m c 0 t) (iblk m c 1 t) (iblk m c 2 t) (iblk m c 3 t) (iblk m c 4 t) (iblk m c 5 t)
    (iblk m c 6 t) (iblk m c 7 t) (iblk m c 8 t) (iblk m c 9 t) where
  h0 a b := (read0 m c t a b).trans (hX _ _)
  h1 a b := (read1 m c t a b).trans (hX _ _)
  h2 a b := (read2 m c t a b).trans (hX _ _)
  h3 a b := (read3 m c t a b).trans (hX _ _)
  h4 a d := (read4 m c t a d).trans ((congrFun (V_cos m c) _).trans (hCos_apply p y _ _))
  h5 a d := (read5 m c t a d).trans ((congrFun (V_sin m c) _).trans (hSin_apply p y _ _))
  dm h i j := (read6 m c t h 0 i j).trans ((congrFun (V_tab m c) _).trans (tab_dm p y h i j))
  qd h i j := (read6 m c t h 1 i j).trans ((congrFun (V_tab m c) _).trans (tab_qd p y h i j))
  kd h i j := (read6 m c t h 2 i j).trans ((congrFun (V_tab m c) _).trans (tab_kd p y h i j))
  cg h i j := (read6 m c t h 3 i j).trans ((congrFun (V_tab m c) _).trans (tab_cg p y h i j))
  h7 a h d := by
    refine (read7 m c t a _).trans ((congrFun (V_o m c) _).trans ((hO_apply p y hX _ _).trans ?_))
    show (((env p y).o ((128 * h.val + d.val) / 128) _ ((128 * h.val + d.val) % 128) : ℝ) : EReal) = _
    rw [show (128 * h.val + d.val) / 128 = h.val by omega, show (128 * h.val + d.val) % 128 = d.val by omega]
  h8 n h d e := (read8 m c t n h d e).trans ((congrFun (V_S m c) _).trans (hS_apply p y hX _ _ _ _))
  h9 a b := (read9 m c t a b).trans (hY _ _)

theorem state : ∀ (n : ℕ) (h : n < cfg0.N), IsT (env p y) (4 * (7 - n)) (outsAt0 m c n h).2
  | 0, h => by
    rw [outsAt0_A m c ⟨0, h⟩ rfl]
    dsimp only
    exact sout_A c (grid0.coords ⟨0, h⟩) (hs0_0 ⟨0, h⟩) (hs0_1 ⟨0, h⟩) (hs0_2 ⟨0, h⟩) (hs0_3 ⟨0, h⟩) (hs0_4 ⟨0, h⟩) (hs0_5 ⟨0, h⟩) (hs0_6 ⟨0, h⟩) (hs0_7 ⟨0, h⟩) (hs0_8 ⟨0, h⟩) (hs0_9 ⟨0, h⟩) (hs0_10 ⟨0, h⟩) (Memref.isWhole_whole _) (isBlk m c p y hX hY ⟨0, h⟩) (by omega) rfl ((hcond0_0 ⟨0, h⟩).mpr rfl)
  | n + 1, h => by
    have hN : n + 1 < 8 := lt_of_lt_of_eq h N_0
    have hB : ¬(⟨n + 1, h⟩ : Fin cfg0.N).val % 8 = 0 := by dsimp only; omega
    rw [outsAt0_B m c ⟨n + 1, h⟩ hB]
    dsimp only
    refine sout_B c (grid0.coords ⟨n + 1, h⟩) (hs0_0 ⟨n + 1, h⟩) (hs0_1 ⟨n + 1, h⟩) (hs0_2 ⟨n + 1, h⟩) (hs0_3 ⟨n + 1, h⟩) (hs0_4 ⟨n + 1, h⟩) (hs0_5 ⟨n + 1, h⟩) (hs0_6 ⟨n + 1, h⟩) (hs0_7 ⟨n + 1, h⟩) (hs0_8 ⟨n + 1, h⟩) (hs0_9 ⟨n + 1, h⟩) (hs0_10 ⟨n + 1, h⟩) (Memref.isWhole_whole _) (isBlk m c p y hX hY ⟨n + 1, h⟩) (by omega) ?_ (fun h' => hB ((hcond0_0 _).mp h'))
    have := state n (Nat.lt_of_succ_lt h)
    rw [show 4 * (7 - n) = 4 * (7 - (n + 1)) + 4 by omega] at this
    exact this

theorem outs (t : Fin cfg0.N) (z : S512x2048.Idx) : (outsAt0 m c t.val t.isLt).1 z = blockG (env p y) (7 - t.val) z := by
  have hN : t.val < 8 := lt_of_lt_of_eq t.isLt N_0
  by_cases h0 : t.val % 8 = 0
  · rw [outsAt0_A m c t h0]
    exact out_A c (grid0.coords t) (hs0_0 t) (hs0_1 t) (hs0_2 t) (hs0_3 t) (hs0_4 t) (hs0_5 t) (hs0_6 t) (hs0_7 t) (hs0_8 t) (hs0_9 t) (hs0_10 t) (Memref.isWhole_whole _) (isBlk m c p y hX hY t) (by omega) (by omega) ((hcond0_0 t).mpr h0) z
  · rw [outsAt0_B m c t h0]
    refine out_B c (grid0.coords t) (hs0_0 t) (hs0_1 t) (hs0_2 t) (hs0_3 t) (hs0_4 t) (hs0_5 t) (hs0_6 t) (hs0_7 t) (hs0_8 t) (hs0_9 t) (hs0_10 t) (Memref.isWhole_whole _) (isBlk m c p y hX hY t) (by omega) ?_ (fun h' => h0 ((hcond0_0 t).mp h')) z
    have := state m c p y hX hY (t.val - 1) (Nat.lt_of_le_of_lt (Nat.sub_le _ _) t.isLt)
    rw [show 4 * (7 - (t.val - 1)) = 4 * (7 - t.val) + 4 by omega] at this
    exact this

/-- The kernel's result: the gradient of the projection's four parts. -/
theorem result (t : Fin 4096) (j : Fin 3072) (hj : j.val < 2048) :
    ((dats m 0 c).arrAt 10 cfg0.N : FVec Ideal S4096x3072 .bf16) (ix2 t j) = (((env p y).out (j / 512) (j % 512 / 128) t (j % 128) : ℝ) : EReal) := by
  have hu : 7 - t.val / 512 < cfg0.N := by rw [show cfg0.N = 8 from N_0]; omega
  have hf : (cfg0.win 10).flush ⟨7 - t.val / 512, hu⟩ = true := by rw [flush0_10]
  let z : ((cfg0.win 10).xblock (cfg0.grid.coords ⟨7 - t.val / 512, hu⟩)).Idx := fun a => ⟨(ix2 (⟨t.val % 512, by omega⟩ : Fin 512) (⟨j.val, hj⟩ : Fin 2048) a).val,
    lt_of_lt_of_eq (ix2 (⟨t.val % 512, by omega⟩ : Fin 512) (⟨j.val, hj⟩ : Fin 2048) a).isLt (xsize10 ⟨7 - t.val / 512, hu⟩ a).symm⟩
  have hr : ((cfg0.win 10).blk ⟨7 - t.val / 512, hu⟩).view.emb z = (ix2 t j : S4096x3072.Idx) := by
    funext x
    apply Fin.ext
    match x with
    | ⟨0, _⟩ => show win0_10.index ⟨7 - t.val / 512, hu⟩ 0 * 512 + 1 * (t.val % 512) = t.val; rw [congrFun (ix10 ⟨7 - t.val / 512, hu⟩) 0]; show (7 - (7 - t.val / 512)) * 512 + 1 * (t.val % 512) = _; omega
    | ⟨1, _⟩ => show win0_10.index ⟨7 - t.val / 512, hu⟩ 1 * 2048 + 1 * j.val = j.val; rw [congrFun (ix10 ⟨7 - t.val / 512, hu⟩) 1]; show 0 * 2048 + 1 * j.val = _; omega
  have h : ((dats m 0 c).arrAt 10 cfg0.N : FVec Ideal S4096x3072 .bf16) (((cfg0.win 10).blk ⟨7 - t.val / 512, hu⟩).view.emb z)
      = blockG (env p y) (7 - (7 - t.val / 512)) (ix2 (⟨t.val % 512, by omega⟩ : Fin 512) (⟨j.val, hj⟩ : Fin 2048)) :=
    (congrFun ((Value.blocks10 m c ⟨7 - t.val / 512, hu⟩ hf).trans (Value.flushed10 m c ⟨7 - t.val / 512, hu⟩)) z).trans
      (outs m c p y hX hY ⟨7 - t.val / 512, hu⟩ _)
  rw [hr] at h
  refine h.trans ?_
  show (((env p y).out (j.val / 512) (j.val % 512 / 128) (512 * (7 - (7 - t.val / 512)) + t.val % 512) (j.val % 128) : ℝ) : EReal) = _
  rw [show 512 * (7 - (7 - t.val / 512)) + t.val % 512 = t.val by omega]

end Run

end Cert.KernelIdeal.Body

end
-- ==== Proof.RefGrad.lean ====
/- The reference's result, over the reals. -/
module

public import proofs.«01_k».proof.Proof.Ref

@[expose] public section

noncomputable section

namespace Cert.ReferenceIdeal.Read

open Cert.ReferenceIdeal Cert.ReferenceIdeal.Gen Idealize.ShloMosaic Idealize.ShloMosaic.TcCoe Idealize.SL.Sem Cert.Ret
open Finset (range)

variable (p y : ℕ → ℕ → ℝ)
variable {X : FVec Ideal S4096x3072 .f32} (hX : ∀ (t : Fin 4096) (j : Fin 3072), X (ix2 t j) = ((p t j : ℝ) : EReal))
variable {Y : FVec Ideal S4096x1024 .f32} (hY : ∀ (t : Fin 4096) (j : Fin 1024), Y (ix2 t j) = ((y t j : ℝ) : EReal))
include hX

/-! ## The head norm and the gate -/

/-- The mean square, with the constant added. -/
def ms (h t : ℕ) : ℝ := (∑ e ∈ range 128, (env p y).o h t e * (env p y).o h t e) / 128 + eps

omit hX in
theorem ms_pos' (h t : ℕ) : 0 < ms p y h t := ms_pos eps eps_pos _

theorem ms_apply (t : Fin 4096) (h : Fin 4) (z : Fin 1) : val_main_v101 (F := Ideal) X (ix3 t h z) = ((ms p y h t : ℝ) : EReal) := by
  pointwise [val_main_v101, val_main_v100, val_main_cst_11, val_main_v99, val_main_v98, val_main_cst_10, val_main_v97, val_main_v96, val_main_v95, val_main_cst_9]
  rw [sum_coe _ (fun e => (env p y).o h t e * (env p y).o h t e) fun e => by rw [o_apply p y hX, ← EReal.coe_mul], lit_128, div_128, lit_eps, ← EReal.coe_add]
  rfl

theorem rr_apply (t : Fin 4096) (h : Fin 4) (z : Fin 1) : val_main_v102 (F := Ideal) X (ix3 t h z) = ((rr eps ((env p y).o h t) : ℝ) : EReal) := by
  pointwise [val_main_v102]
  rw [ms_apply p y hX, rsqrt_pos (ms_pos' p y _ _)]
  rfl

theorem half_apply (t : Fin 4096) (h : Fin 4) (z : Fin 1) :
    val_main_v105 (F := Ideal) X (ix3 t h z) = ((-(1 / 2) * (rr eps ((env p y).o h t) / ms p y h t) : ℝ) : EReal) := by
  pointwise [val_main_v105, val_main_v104, val_main_cst_12, val_main_v103]
  rw [rr_apply p y hX, ms_apply p y hX, Ideal.div_coe (ms_pos' p y _ _).ne', lit_mh, ← EReal.coe_mul, mul_one_div, ← EReal.coe_mul]

theorem n_apply (t : Fin 4096) (j : Fin 512) : val_main_v108 (F := Ideal) X (ix2 t j)
    = (((env p y).o (j / 128) t (j % 128) * rr eps ((env p y).o (j / 128) t) : ℝ) : EReal) := by
  pointwise [val_main_v108, val_main_v107, val_main_v106]
  rw [o_apply p y hX, rr_apply p y hX, ← EReal.coe_mul]

theorem g_apply (t : Fin 4096) (j : Fin 512) : val_main_v3 (F := Ideal) X (ix2 t j) = (((env p y).g (j / 128) t (j % 128) : ℝ) : EReal) := by
  pointwise [val_main_v3]
  rw [hX, Env.g, Env.raw]
  congr 2
  show 1536 + j.val = 512 * 3 + 128 * (j.val / 128) + j.val % 128
  omega

theorem sgm_apply (t : Fin 4096) (j : Fin 512) : val_main_v109_2 (F := Ideal) X (ix2 t j) = ((sgm ((env p y).g (j / 128) t (j % 128)) : ℝ) : EReal) := by
  pointwise [val_main_v109_2, val_main_call2_v0, val_main_call2_v1, val_main_call2_cst, val_main_call2_v2, val_main_call2_v3, val_main_call2_cst_0, val_main_call2_v4]
  rw [g_apply p y hX, ← EReal.coe_neg, Ideal.exp_coe, ← EReal.coe_one, ← EReal.coe_add, Ideal.div_coe (one_add_exp_ne _), ← EReal.coe_mul, one_mul, one_div]
  rfl

include hY

theorem dy_apply (t : Fin 4096) (j : Fin 512) : val_main_v111 (F := Ideal) Y (ix2 t j) = (((env p y).dy (j / 128) t (j % 128) : ℝ) : EReal) := by
  pointwise [val_main_v111]
  rw [hY, Env.dy]
  congr 2
  show j.val = 128 * (j.val / 128) + j.val % 128
  omega

theorem dg_apply (t : Fin 4096) (j : Fin 512) : val_main_v114 (F := Ideal) X Y (ix2 t j) = (((env p y).dg (j / 128) t (j % 128) : ℝ) : EReal) := by
  pointwise [val_main_v114, val_main_call3_v0, val_main_call3_v1, val_main_call3_v2, val_main_v112, val_main_v109_1, val_main_call2_v7, val_main_call2_v6, val_main_call2_cst_1]
  rw [n_apply p y hX, dy_apply p y hX hY, sgm_apply p y hX, g_apply p y hX, ← EReal.coe_one]
  simp only [← EReal.coe_mul, ← EReal.coe_add, ← EReal.coe_sub]
  congr 1
  rw [Env.dg]
  ring

theorem dn_apply (t : Fin 4096) (h : Fin 4) (d : Fin 128) : val_main_v115 (F := Ideal) X Y (ix3 t h d) = (((env p y).dn h t d : ℝ) : EReal) := by
  pointwise [val_main_v115, val_main_v113, val_main_v109_0]
  rw [dy_apply p y hX hY, sgm_apply p y hX, g_apply p y hX, ← EReal.coe_mul, ← EReal.coe_mul, Env.dn]
  have h1 : (h.val * 128 + d.val) / 128 = h.val := by omega
  have h2 : (h.val * 128 + d.val) % 128 = d.val := by omega
  simp only [h1, h2]

theorem do_apply (t : Fin 4096) (h : Fin 4) (d : Fin 128) : val_main_v129 (F := Ideal) X Y (ix3 t h d) = (((env p y).dO h t d : ℝ) : EReal) := by
  have hs : ∀ z : Fin 1, val_main_v118 (F := Ideal) X Y (ix3 t h z) = ((∑ a ∈ range 128, (env p y).o h t a * (env p y).dn h t a : ℝ) : EReal) := by
    intro z
    pointwise [val_main_v118, val_main_v117, val_main_v116, val_main_cst_13]
    exact sum_coe _ (fun a => (env p y).o h t a * (env p y).dn h t a) fun e => by rw [o_apply p y hX, dn_apply p y hX hY, ← EReal.coe_mul]
  pointwise [val_main_v129, val_main_v128, val_main_v127, val_main_v126, val_main_v125, val_main_v124, val_main_v123, val_main_v122, val_main_v121, val_main_v120, val_main_v119, val_main_cst_14, val_main_cst_15]
  rw [Fin.sum_univ_one, hs, half_apply p y hX, rr_apply p y hX, dn_apply p y hX hY, o_apply p y hX, lit_128]
  simp only [← EReal.coe_mul, ← EReal.coe_add, div_128]
  rw [rdo_eq eps eps_pos ((env p y).o h t) ((env p y).dn h t) d (ms p y h t) rfl]
  rfl

/-! ## The gradients of the queries, the keys and the values -/

theorem dP_apply (h : Fin 4) (t s : Fin 4096) :
    val_main_v134 (F := Ideal) X Y (ix3 h t s) = ((rdP ((env p y).lg h) ((env p y).v h) ((env p y).dO h) t s : ℝ) : EReal) := by
  pointwise [val_main_v134, val_main_v131, val_main_v130]
  rw [sum_coe _ (fun e => (env p y).dO h t e * (env p y).v h s e) fun e => by rw [do_apply p y hX hY, v_apply p y hX, ← EReal.coe_mul], D_apply p y, ← EReal.coe_mul]
  rfl

theorem dq_apply (t : Fin 4096) (h : Fin 4) (d : Fin 128) : val_main_v138 (F := Ideal) X Y (ix3 t h d) = (((env p y).dq h t d : ℝ) : EReal) := by
  pointwise [val_main_v138, val_main_v137]
  exact sum_coe _ (fun s => rdP ((env p y).lg h) ((env p y).v h) ((env p y).dO h) t s * (env p y).k h s d) fun s => by
    rw [dP_apply p y hX hY, k_apply p y hX, ← EReal.coe_mul]

theorem dk_apply (t : Fin 4096) (h : Fin 4) (d : Fin 128) : val_main_v140 (F := Ideal) X Y (ix3 t h d) = (((env p y).dk h t d : ℝ) : EReal) := by
  pointwise [val_main_v140, val_main_v139, val_main_cst_16, val_main_v136, val_main_v135]
  rw [sum_coe _ (fun s => rdP ((env p y).lg h) ((env p y).v h) ((env p y).dO h) s t * (env p y).q h s d) fun s => by
    rw [dP_apply p y hX hY, q_apply p y hX, ← EReal.coe_mul], lit_sc, ← EReal.coe_mul]
  rfl

theorem dv_apply (t : Fin 4096) (j : Fin 512) : val_main_v141 (F := Ideal) X Y (ix2 t j) = (((env p y).dv (j / 128) t (j % 128) : ℝ) : EReal) := by
  pointwise [val_main_v141, val_main_v133, val_main_v132, val_main_v130]
  exact sum_coe _ (fun s => (env p y).dO (j / 128) s (j % 128) * rP ((env p y).lg (j / 128)) ((env p y).q (j / 128)) ((env p y).k (j / 128)) s t) fun s => by
    rw [do_apply p y hX hY, P_apply p y hX, ← EReal.coe_mul]

theorem q_back (t : Fin 4096) (j : Fin 512) :
    val_main_v175 (F := Ideal) X Y (ix2 t j) = (((env p y).back ((env p y).dq (j / 128)) t (j % 128) : ℝ) : EReal) := by
  have hm : j.val % 128 < 128 := Nat.mod_lt _ (by norm_num)
  have hj : j.val / 128 < 4 := by omega
  pointwise [val_main_v175, val_main_v174, val_main_v173, val_main_v172, val_main_cst_19, val_main_cst_20]
  by_cases hd : j.val % 128 < 64
  · rw [dif_neg (by omega), dif_pos ⟨hj, hd⟩, zero_add]
    pointwise [val_main_v171, val_main_v170, val_main_v169, val_main_v164, val_main_v163, val_main_v160, val_main_v159, val_main_v20, val_main_v18]
    simp only [dq_apply p y hX hY, cos_apply' p y, sin_apply' p y]
    simp only [← EReal.coe_mul, ← EReal.coe_add]
    congr 1
    rw [Env.back, Env.C, Env.S, Nat.mod_eq_of_lt hd, Nat.mod_eq_of_lt (show j.val % 128 + 64 < 128 by omega), Nat.add_comm (j.val % 128) 64,
      if_neg (by omega), show (64 + j.val % 128) % 64 = j.val % 128 by omega]
    ring
  · rw [dif_pos ⟨hj, by omega, by omega⟩, dif_neg (by omega), add_zero]
    pointwise [val_main_v168, val_main_v167, val_main_v166, val_main_v165, val_main_v162, val_main_v161, val_main_v160, val_main_v159, val_main_v20, val_main_v18]
    simp only [dq_apply p y hX hY, cos_apply' p y, sin_apply' p y]
    simp only [← EReal.coe_mul, ← EReal.coe_add, ← EReal.coe_neg]
    congr 1
    rw [Env.back, Env.C, Env.S, show (j.val % 128 + 64) % 128 = j.val % 128 - 64 by omega, if_pos (by omega), show (j.val % 128 - 64) % 64 = j.val % 128 - 64 by omega,
      show j.val % 128 % 64 = j.val % 128 - 64 by omega, show 64 + (j.val % 128 - 64) = j.val % 128 by omega]
    ring

theorem k_back (t : Fin 4096) (j : Fin 512) :
    val_main_v158 (F := Ideal) X Y (ix2 t j) = (((env p y).back ((env p y).dk (j / 128)) t (j % 128) : ℝ) : EReal) := by
  have hm : j.val % 128 < 128 := Nat.mod_lt _ (by norm_num)
  have hj : j.val / 128 < 4 := by omega
  pointwise [val_main_v158, val_main_v157, val_main_v156, val_main_v155, val_main_cst_17, val_main_cst_18]
  by_cases hd : j.val % 128 < 64
  · rw [dif_neg (by omega), dif_pos ⟨hj, hd⟩, zero_add]
    pointwise [val_main_v154, val_main_v153, val_main_v152, val_main_v147, val_main_v146, val_main_v143, val_main_v142, val_main_v50, val_main_v48]
    simp only [dk_apply p y hX hY, show val_main_v47 (F := Ideal) = val_main_v17 from rfl, show val_main_v49 (F := Ideal) = val_main_v19 from rfl, cos_apply' p y, sin_apply' p y]
    simp only [← EReal.coe_mul, ← EReal.coe_add]
    congr 1
    rw [Env.back, Env.C, Env.S, Nat.mod_eq_of_lt hd, Nat.mod_eq_of_lt (show j.val % 128 + 64 < 128 by omega), Nat.add_comm (j.val % 128) 64,
      if_neg (by omega), show (64 + j.val % 128) % 64 = j.val % 128 by omega]
    ring
  · rw [dif_pos ⟨hj, by omega, by omega⟩, dif_neg (by omega), add_zero]
    pointwise [val_main_v151, val_main_v150, val_main_v149, val_main_v148, val_main_v145, val_main_v144, val_main_v143, val_main_v142, val_main_v50, val_main_v48]
    simp only [dk_apply p y hX hY, show val_main_v47 (F := Ideal) = val_main_v17 from rfl, show val_main_v49 (F := Ideal) = val_main_v19 from rfl, cos_apply' p y, sin_apply' p y]
    simp only [← EReal.coe_mul, ← EReal.coe_add, ← EReal.coe_neg]
    congr 1
    rw [Env.back, Env.C, Env.S, show (j.val % 128 + 64) % 128 = j.val % 128 - 64 by omega, if_pos (by omega), show (j.val % 128 - 64) % 64 = j.val % 128 - 64 by omega,
      show j.val % 128 % 64 = j.val % 128 - 64 by omega, show 64 + (j.val % 128 - 64) = j.val % 128 by omega]
    ring

/-- The reference's result: the gradient of the projection's four parts. -/
theorem out_apply (t : Fin 4096) (j : Fin 3072) (hj : j.val < 2048) :
    val_main_v183 (F := Ideal) X Y (ix2 t j) = (((env p y).out (j / 512) (j % 512 / 128) t (j % 128) : ℝ) : EReal) := by
  show val_main_v182 (F := Ideal) X Y (ix2 t j) = _
  pointwise [val_main_v182, val_main_v181, val_main_v180, val_main_v179, val_main_v178, val_main_v177, val_main_v176, val_main_cst_21, val_main_cst_22, val_main_cst_23, val_main_cst_24]
  rw [Env.out]
  have hc : j.val < 512 ∨ (512 ≤ j.val ∧ j.val < 1024) ∨ (1024 ≤ j.val ∧ j.val < 1536) ∨ (1536 ≤ j.val ∧ j.val < 2048) := by omega
  obtain h | ⟨h, h'⟩ | ⟨h, h'⟩ | ⟨h, h'⟩ := hc
  · rw [dif_neg (by omega), dif_neg (by omega), dif_neg (by omega), dif_pos h, if_pos (by omega), q_back p y hX hY]
    simp only [zero_add]
    rw [show j.val % 512 = j.val by omega]
  · rw [dif_neg (by omega), dif_neg (by omega), dif_pos (by omega), dif_neg (by omega), if_neg (by omega), if_pos (by omega), k_back p y hX hY]
    simp only [zero_add, add_zero]
    rw [show (j.val - 512) / 128 = j.val % 512 / 128 by omega, show (j.val - 512) % 128 = j.val % 128 by omega]
  · rw [dif_neg (by omega), dif_pos (by omega), dif_neg (by omega), dif_neg (by omega), if_neg (by omega), if_neg (by omega), if_pos (by omega), dv_apply p y hX hY]
    simp only [zero_add, add_zero]
    rw [show (j.val - 1024) / 128 = j.val % 512 / 128 by omega, show (j.val - 1024) % 128 = j.val % 128 by omega]
  · rw [dif_pos (by omega), dif_neg (by omega), dif_neg (by omega), dif_neg (by omega), if_neg (by omega), if_neg (by omega), if_neg (by omega), dg_apply p y hX hY]
    simp only [add_zero]
    rw [show (j.val - 1536) / 128 = j.val % 512 / 128 by omega, show (j.val - 1536) % 128 = j.val % 128 by omega]

end Cert.ReferenceIdeal.Read

end
-- ==== Proof.Agree.lean ====
/- The kernel's result and the reference's agree, in exact arithmetic, wherever the kernel writes. -/
module

public import proofs.«01_k».proof.Defs
public import proofs.«01_k».proof.Proof.Value
public import proofs.«01_k».proof.Proof.RefGrad

@[expose] public section

noncomputable section

namespace Cert.Proof

open Idealize.ShloMosaic Idealize.ShloMosaic.TcCoe Idealize.SL.Sem Cert.Ret
open Cert.ReferenceIdeal.Read (env)

theorem lit_inf : Ideal.ofBits .f32 0x7F800000#32 = ⊤ := by
  simp [Ideal.ofBits, Ideal.ieee]

/-- A value whose magnitude is below infinity is real. -/
theorem real_of (x : EReal) (h : Ideal.cmp .olt (max x (-x)) (Ideal.ofBits .f32 0x7F800000#32) = 1#1) : x = ((x.toReal : ℝ) : EReal) := by
  rw [lit_inf] at h
  have hlt : max x (-x) < ⊤ := by
    by_contra hn
    rw [Ideal.cmp, decide_eq_false hn] at h
    exact absurd h (by decide)
  refine (EReal.coe_toReal (fun e => ?_) (fun e => ?_)).symm
  · rw [e] at hlt; exact absurd hlt (by simp)
  · rw [e] at hlt; exact absurd hlt (by simp)

/-- A matrix's entries as reals, by row and column. -/
def entries {a b : ℕ} (X : FVec Ideal ⟨2, ![a, b]⟩ .f32) (t j : ℕ) : ℝ :=
  if h : t < a ∧ j < b then (X (ix2 ⟨t, h.1⟩ ⟨j, h.2⟩)).toReal else 0

theorem entries_apply {a b : ℕ} {X : FVec Ideal ⟨2, ![a, b]⟩ .f32}
    (h : ∀ i, Ideal.cmp .olt (max (X i) (-(X i))) (Ideal.ofBits .f32 0x7F800000#32) = 1#1) (t : Fin a) (j : Fin b) :
    X (ix2 t j) = ((entries X t j : ℝ) : EReal) := by
  rw [entries, dif_pos ⟨t.isLt, j.isLt⟩]
  exact real_of _ (h _)

theorem written_lt [Cert.On_written.Facts] (X : FVec Ideal Cert.On_written.S4096x3072 .f32) (Y : FVec Ideal Cert.On_written.S4096x1024 .f32) (t : Fin 4096) (j : Fin 3072)
    (h : Cert.On_written.fn (F := Ideal) X Y (ix2 t j) = 1#1) : j.val < 2048 := by
  by_contra hn
  have h' : BitVec.ofBool ((BitVec.ofNat 32 j.val).slt 2048#32) = 1#1 := h
  have hj := j.isLt
  have e : (BitVec.ofNat 32 j.val).slt 2048#32 = false := by
    rw [BitVec.slt_eq_decide, BitVec.toInt_eq_toNat_of_lt (by rw [BitVec.toNat_ofNat]; omega), BitVec.toNat_ofNat, Nat.mod_eq_of_lt (by omega)]
    exact decide_eq_false (by show ¬((j.val : ℤ) < 2048); omega)
  rw [e] at h'
  exact absurd h' (by decide)

theorem agree [Cert.Pre_finite.Facts] [Cert.On_written.Facts] : Cert.algebraic_KernelIdeal_ReferenceIdeal_on_written_pre_finite := by
  intro m g m' g' hpre hargs
  refine ⟨fun (c : Dev Cert.KernelIdeal.nD) (i : (⟨2, ![4096, 3072]⟩ : Shape).Idx) => (((env (entries (m ((c.tc : Thread Cert.KernelIdeal.nD Cert.KernelIdeal.τ).loc Cert.KernelIdeal.main_arg0))) (entries (m ((c.tc : Thread Cert.KernelIdeal.nD Cert.KernelIdeal.τ).loc Cert.KernelIdeal.main_arg1)))).out
    ((i 1).val / 512) ((i 1).val % 512 / 128) (i 0).val ((i 1).val % 128) : ℝ) : EReal), ?_, ?_⟩
  · refine (θ_run Cert.KernelIdeal.defs _ _).mono (fun r h c => ⟨fun i hi => ?_, (h c).2⟩) (Cert.KernelIdeal.Value.run_blocks (F := Ideal) m g)
    have hX := entries_apply (X := m ((c.tc : Thread Cert.KernelIdeal.nD Cert.KernelIdeal.τ).loc Cert.KernelIdeal.main_arg0)) fun i => congrFun (hpre c).1 i
    have hY := entries_apply (X := m ((c.tc : Thread Cert.KernelIdeal.nD Cert.KernelIdeal.τ).loc Cert.KernelIdeal.main_arg1)) fun i => congrFun (hpre c).2 i
    obtain ⟨t, j, rfl⟩ : ∃ (t : Fin 4096) (j : Fin 3072), i = ix2 t j := ⟨i 0, i 1, eq_ix2 i⟩
    rw [(h c).1]
    exact Cert.KernelIdeal.Body.result m c _ _ hX hY t j (written_lt _ _ t j hi)
  · refine (θ_run Cert.ReferenceIdeal.defs _ _).mono (fun r h c => ⟨fun i hi => ?_, (h c).2⟩) (Cert.ReferenceIdeal.Value.run (F := Ideal) m' g')
    have hX := entries_apply (X := m ((c.tc : Thread Cert.KernelIdeal.nD Cert.KernelIdeal.τ).loc Cert.KernelIdeal.main_arg0)) fun i => congrFun (hpre c).1 i
    have hY := entries_apply (X := m ((c.tc : Thread Cert.KernelIdeal.nD Cert.KernelIdeal.τ).loc Cert.KernelIdeal.main_arg1)) fun i => congrFun (hpre c).2 i
    obtain ⟨t, j, rfl⟩ : ∃ (t : Fin 4096) (j : Fin 3072), i = ix2 t j := ⟨i 0, i 1, eq_ix2 i⟩
    rw [(h c).1]
    refine (congrFun (Cert.ReferenceIdeal.Read.val_main_v183_eq _) (ix2 t j)).trans ?_
    rw [StableHlo.launchContents_devRef, StableHlo.launchContents_devRef, (hargs c).1, (hargs c).2]
    exact Cert.ReferenceIdeal.Read.out_apply _ _ hX hY t j (written_lt _ _ t j hi)

end Cert.Proof

end
-- ==== Proof.UpValue.lean ====
/- The up projection with its rectifier: the frames, and the kernel's result beside the reference's. -/
module

public import proofs.«01_k».proof.Defs
public import proofs.«01_k».proof.Proof.Gen.Up
public import proofs.«01_k».proof.Proof.Gen.UpIdeal.Value
public import proofs.«01_k».proof.Proof.Gen.UpReferenceIdeal
public import proofs.«01_k».proof.Proof.Gen.UpReferenceIdeal.Read
public import Idealize.ShloMosaic.Adequacy
public import Idealize.ShloMosaic.Init
public import Idealize.ShloMosaic.Lib.Claim
public import Idealize.ShloMosaic.Lib.Pointwise
public import Idealize.ShloMosaic.Lib.Pipeline.ValueKit.Basic

@[expose] public section

noncomputable section

namespace Cert.UpIdeal.Body

open Cert.UpIdeal Cert.UpIdeal.Gen Idealize.ShloMosaic Idealize.ShloMosaic.TcCoe Idealize.SL.Sem

/-- One result: a token's row times a feature's column, cut off below at zero. -/
def up (h : FVec Ideal S4096x1024 .f32) (w : FVec Ideal S1024x4096 .f32) (t j : Fin 4096) : EReal :=
  max (∑ k : Fin 1024, h (ix2 t k) * w (ix2 k j)) 0

theorem lit_zero : Ideal.ofBits .f32 0x00000000#32 = 0 := by
  simp [Ideal.ofBits, Ideal.ieee, -EReal.coe_mul]

theorem pay (a : FVec Ideal S4096x1024 .bf16) (b : FVec Ideal S1x1024x512 .bf16) (t : Fin 4096) (j : Fin 512) :
    k0_pay1 (F := Ideal) a b (ix2 t j) = max (∑ k : Fin 1024, a (ix2 t k) * b (ix3 (0 : Fin 1) k j)) 0 := by
  pointwise [k0_pay1]

section Run
variable (m : (ℓ : Loc nD τ sig) → Buf (Elt Ideal) ℓ) (c : Dev nD)

theorem host_h (t : Fin 4096) (k : Fin 1024) :
    (V m c main_v0 : FVec Ideal S4096x1024 .bf16) (ix2 t k) = (m ((c : Thread nD τ).loc main_arg0) : FVec Ideal S4096x1024 .f32) (ix2 t k) := by
  entry_read
  rfl

theorem shards_apply (w : FVec Ideal S1024x4096 .f32) (s : Fin 8) (k : Fin 1024) (j : Fin 512) :
    (truncf .bf16 (transpose S8x1024x512 [1, 0, 2] (shapeCast S1024x8x512 w shapeCasts_S1024x4096_S1024x8x512) transposes_S1024x8x512_S8x1024x512_1_0_2) bitsLt_bf16_f32 : FVec Ideal S8x1024x512 .bf16) (ix3 s k j)
      = w (ix2 k (⟨s.val * 512 + j.val, by omega⟩ : Fin 4096)) := by
  pointwise []

theorem host_w (s : Fin 8) (k : Fin 1024) (j : Fin 512) :
    (V m c main_v3 : FVec Ideal S8x1024x512 .bf16) (ix3 s k j)
      = (m ((c : Thread nD τ).loc main_arg1) : FVec Ideal S1024x4096 .f32) (ix2 k (⟨s.val * 512 + j.val, by omega⟩ : Fin 4096)) := by
  entry_read
  exact shards_apply _ s k j

theorem ix0 : ∀ t : Fin grid0.N, win0_0.index t = ![0, 0] := by decide +kernel
theorem ix1 : ∀ t : Fin grid0.N, win0_1.index t = ![t.val, 0, 0] := by decide +kernel
theorem ix2' : ∀ t : Fin grid0.N, win0_2.index t = ![0, t.val] := by decide +kernel

theorem read0 (t : Fin cfg0.N) (a : Fin 4096) (k : Fin 1024) :
    (iblk m c 0 t : FVec Ideal S4096x1024 .bf16) (ix2 a k) = (m ((c : Thread nD τ).loc main_arg0) : FVec Ideal S4096x1024 .f32) (ix2 a k) := by
  refine Eq.trans ?_ (host_h m c a k)
  unfold iblk
  rw [View.read_apply]
  show V m c main_v0 _ = _
  congr 1
  funext x
  apply Fin.ext
  match x with
  | ⟨0, _⟩ => show win0_0.index t 0 * 4096 + 1 * a.val = a.val; rw [congrFun (ix0 t) 0]; show 0 * 4096 + 1 * a.val = _; omega
  | ⟨1, _⟩ => show win0_0.index t 1 * 1024 + 1 * k.val = k.val; rw [congrFun (ix0 t) 1]; show 0 * 1024 + 1 * k.val = _; omega

theorem read1 (t : Fin cfg0.N) (k : Fin 1024) (j : Fin 512) :
    (iblk m c 1 t : FVec Ideal S1x1024x512 .bf16) (ix3 (0 : Fin 1) k j)
      = (m ((c : Thread nD τ).loc main_arg1) : FVec Ideal S1024x4096 .f32) (ix2 k (⟨t.val * 512 + j.val, by have := lt_of_lt_of_eq t.isLt N_0; omega⟩ : Fin 4096)) := by
  rw [← host_w m c (⟨t.val, lt_of_lt_of_eq t.isLt N_0⟩ : Fin 8) k j]
  unfold iblk
  rw [View.read_apply]
  show V m c main_v3 _ = _
  congr 1
  funext x
  apply Fin.ext
  match x with
  | ⟨0, _⟩ => show win0_1.index t 0 * 1 + 1 * 0 = t.val; rw [congrFun (ix1 t) 0]; show t.val * 1 + 1 * 0 = _; omega
  | ⟨1, _⟩ => show win0_1.index t 1 * 1024 + 1 * k.val = k.val; rw [congrFun (ix1 t) 1]; show 0 * 1024 + 1 * k.val = _; omega
  | ⟨2, _⟩ => show win0_1.index t 2 * 512 + 1 * j.val = j.val; rw [congrFun (ix1 t) 2]; show 0 * 512 + 1 * j.val = _; omega

/-- The kernel's result, read at an index. -/
theorem result (t j : Fin 4096) :
    ((dats m 0 c).arrAt 2 cfg0.N : FVec Ideal S4096x4096 .bf16) (ix2 t j) = up (m ((c : Thread nD τ).loc main_arg0)) (m ((c : Thread nD τ).loc main_arg1)) t j := by
  have hu : j.val / 512 < cfg0.N := by rw [show cfg0.N = 8 from N_0]; omega
  have hr : ((cfg0.win 2).blk ⟨j.val / 512, hu⟩).view.emb (ix2 t (⟨j.val % 512, by omega⟩ : Fin 512)) = (ix2 t j : S4096x4096.Idx) := by
    funext x
    apply Fin.ext
    match x with
    | ⟨0, _⟩ => show win0_2.index ⟨j.val / 512, hu⟩ 0 * 4096 + 1 * t.val = t.val; rw [congrFun (ix2' ⟨j.val / 512, hu⟩) 0]; show 0 * 4096 + 1 * t.val = _; omega
    | ⟨1, _⟩ => show win0_2.index ⟨j.val / 512, hu⟩ 1 * 512 + 1 * (j.val % 512) = j.val; rw [congrFun (ix2' ⟨j.val / 512, hu⟩) 1]; show j.val / 512 * 512 + 1 * (j.val % 512) = _; omega
  have h := congrFun ((Value.blocks2 m c ⟨j.val / 512, hu⟩ (flush0_2 _)).trans (Value.flushed2 m c ⟨j.val / 512, hu⟩)) (ix2 t (⟨j.val % 512, by omega⟩ : Fin 512))
  rw [View.read_apply, hr] at h
  refine h.trans ?_
  show out0_2 (F := Ideal) (iblk m c 0 _) (iblk m c 1 _) (ix2 t (⟨j.val % 512, by omega⟩ : Fin 512)) = _
  unfold out0_2
  rw [View.canon_cons_unit_lit _ _ _ (by decide), View.ld_unit_lit _ _ (by decide), View.ld_unit_lit _ _ (by decide), pay]
  simp only [read0, read1]
  unfold up
  have e : (⟨j.val / 512 * 512 + j.val % 512, by omega⟩ : Fin 4096) = j := Fin.ext (by show j.val / 512 * 512 + j.val % 512 = j.val; omega)
  rw [e]

end Run

end Cert.UpIdeal.Body

namespace Cert.Proof

open Idealize.ShloMosaic Idealize.SL.Sem Cert.UpIdeal.Body

theorem up_defs_eq : Cert.UpIdeal.defs₀ (F := Bits) = Cert.Up.defs₀ (F := Bits) := by
  unfold Cert.Up.defs₀ Cert.UpIdeal.defs₀
  congr 1
  funext l a
  match l, a with
  | 0, (t, s) => rfl

theorem frame_up : Cert.quiescent_Up := fun m g _ => by
  have h := Cert.UpIdeal.Gen.frame (F := Bits) m g
  unfold Cert.UpIdeal.defs at h
  rw [up_defs_eq] at h
  exact h

theorem frame_up_reference : Cert.quiescent_UpReferenceIdeal := fun m g _ => by
  refine (θ_run Cert.UpReferenceIdeal.defs _ _).mono (fun r h => ?_) (Cert.UpReferenceIdeal.Value.run (F := Ideal) m g)
  exact ⟨fun c => (h c).2, sem_eq_zero_of_no_sems (by decide) _⟩

theorem up_reference (h : FVec Ideal Cert.UpReferenceIdeal.S4096x1024 .f32) (w : FVec Ideal Cert.UpReferenceIdeal.S1024x4096 .f32) (t j : Fin 4096) :
    Cert.UpReferenceIdeal.Read.val_main_v2 (F := Ideal) h w (ix2 t j) = up h w t j := by
  pointwise [Cert.UpReferenceIdeal.Read.val_main_v2, Cert.UpReferenceIdeal.Read.val_main_v1, Cert.UpReferenceIdeal.Read.val_main_v0, Cert.UpReferenceIdeal.Read.val_main_call0_v0, Cert.UpReferenceIdeal.Read.val_main_call0_cst]
  rfl

theorem agree_up : Cert.algebraic_UpIdeal_UpReferenceIdeal := by
  intro m g m' g' _ hargs
  refine ⟨fun (c : Dev Cert.UpIdeal.nD) (i : (⟨2, ![4096, 4096]⟩ : Shape).Idx) =>
    up (m ((c.tc : Thread Cert.UpIdeal.nD Cert.UpIdeal.τ).loc Cert.UpIdeal.main_arg0)) (m ((c.tc : Thread Cert.UpIdeal.nD Cert.UpIdeal.τ).loc Cert.UpIdeal.main_arg1)) (i 0) (i 1), ?_, ?_⟩
  · refine (θ_run Cert.UpIdeal.defs _ _).mono (fun r h c => ⟨?_, (h c).2⟩) (Cert.UpIdeal.Value.run_blocks (F := Ideal) m g)
    rw [(h c).1]
    funext i
    obtain ⟨t, j, rfl⟩ : ∃ t j : Fin 4096, i = ix2 t j := ⟨i 0, i 1, eq_ix2 i⟩
    exact result m c t j
  · refine (θ_run Cert.UpReferenceIdeal.defs _ _).mono (fun r h c => ⟨?_, (h c).2⟩) (Cert.UpReferenceIdeal.Value.run (F := Ideal) m' g')
    rw [(h c).1]
    funext i
    obtain ⟨t, j, rfl⟩ : ∃ t j : Fin 4096, i = ix2 t j := ⟨i 0, i 1, eq_ix2 i⟩
    refine (congrFun (Cert.UpReferenceIdeal.Read.val_main_v2_eq _ _) (ix2 t j)).trans ?_
    rw [(hargs c).1, (hargs c).2]
    exact up_reference _ _ t j

end Cert.Proof

end
-- ==== Proof.DactValue.lean ====
/- The gradient at the rectifier's input: the frames, and the kernel's result beside the reference's. -/
module

public import proofs.«01_k».proof.Defs
public import proofs.«01_k».proof.Proof.Gen.Dact
public import proofs.«01_k».proof.Proof.Gen.DactIdeal.Value
public import proofs.«01_k».proof.Proof.Gen.DactReferenceIdeal
public import proofs.«01_k».proof.Proof.Gen.DactReferenceIdeal.Read
public import Idealize.ShloMosaic.Adequacy
public import Idealize.ShloMosaic.Init
public import Idealize.ShloMosaic.Lib.Claim
public import Idealize.ShloMosaic.Lib.Pointwise
public import Idealize.ShloMosaic.Lib.Pipeline.ValueKit.Basic

@[expose] public section

noncomputable section

namespace Cert.DactIdeal.Body

open Cert.DactIdeal Cert.DactIdeal.Gen Idealize.ShloMosaic Idealize.ShloMosaic.TcCoe Idealize.SL.Sem
open Cert.DactReferenceIdeal.Read (val_main_v0 val_main_v1)

/-- The rectified up projection. -/
def act (h : FVec Ideal S4096x1024 .f32) (w : FVec Ideal S1024x4096 .f32) (t j : Fin 4096) : EReal :=
  max (∑ k : Fin 1024, h (ix2 t k) * w (ix2 k j)) 0

/-- The gradient at one rectifier's input: what comes back through the down projection, times twice what it put out. -/
def dact (h : FVec Ideal S4096x1024 .f32) (w : FVec Ideal S1024x4096 .f32) (wd dy : FVec Ideal S4096x1024 .f32) (t j : Fin 4096) : EReal :=
  (∑ k : Fin 1024, dy (ix2 t k) * wd (ix2 j k)) * (Ideal.ofBits .f32 0x40000000#32 * act h w t j)

theorem pay (a : FVec Ideal S4096x1024 .bf16) (b : FVec Ideal S512x1024 .bf16) (r : FVec Ideal S4096x512 .bf16) (t : Fin 4096) (j : Fin 512) :
    k0_pay1 (F := Ideal) a b r (ix2 t j) = (∑ k : Fin 1024, a (ix2 t k) * b (ix2 j k)) * (Ideal.ofBits .f32 0x40000000#32 * r (ix2 t j)) := by
  pointwise [k0_pay1]

section Run
variable (m : (ℓ : Loc nD τ sig) → Buf (Elt Ideal) ℓ) (c : Dev nD)

theorem act_apply (h : FVec Ideal S4096x1024 .f32) (w : FVec Ideal S1024x4096 .f32) (t j : Fin 4096) :
    (truncf .bf16 (val_main_v1 (F := Ideal) h w) bitsLt_bf16_f32 : FVec Ideal S4096x4096 .bf16) (ix2 t j) = act h w t j := by
  pointwise [val_main_v1, val_main_v0, Cert.DactReferenceIdeal.Read.val_main_call0_v0, Cert.DactReferenceIdeal.Read.val_main_call0_cst]
  rfl

theorem host_r (t j : Fin 4096) :
    (V m c main_v2 : FVec Ideal S4096x4096 .bf16) (ix2 t j) = act (m ((c : Thread nD τ).loc main_arg0)) (m ((c : Thread nD τ).loc main_arg1)) t j := by
  entry_read
  exact act_apply _ _ t j

theorem host_dy (t : Fin 4096) (k : Fin 1024) :
    (V m c main_v3 : FVec Ideal S4096x1024 .bf16) (ix2 t k) = (m ((c : Thread nD τ).loc main_arg3) : FVec Ideal S4096x1024 .f32) (ix2 t k) := by
  entry_read
  rfl

theorem host_wd (t : Fin 4096) (k : Fin 1024) :
    (V m c main_v4 : FVec Ideal S4096x1024 .bf16) (ix2 t k) = (m ((c : Thread nD τ).loc main_arg2) : FVec Ideal S4096x1024 .f32) (ix2 t k) := by
  entry_read
  rfl

theorem ix0 : ∀ t : Fin grid0.N, win0_0.index t = ![0, 0] := by decide +kernel
theorem ix1 : ∀ t : Fin grid0.N, win0_1.index t = ![t.val, 0] := by decide +kernel
theorem ix2' : ∀ t : Fin grid0.N, win0_2.index t = ![0, t.val] := by decide +kernel
theorem ix3' : ∀ t : Fin grid0.N, win0_3.index t = ![0, t.val] := by decide +kernel

theorem read0 (t : Fin cfg0.N) (a : Fin 4096) (k : Fin 1024) :
    (iblk m c 0 t : FVec Ideal S4096x1024 .bf16) (ix2 a k) = (m ((c : Thread nD τ).loc main_arg3) : FVec Ideal S4096x1024 .f32) (ix2 a k) := by
  refine Eq.trans ?_ (host_dy m c a k)
  unfold iblk
  rw [View.read_apply]
  show V m c main_v3 _ = _
  congr 1
  funext x
  apply Fin.ext
  match x with
  | ⟨0, _⟩ => show win0_0.index t 0 * 4096 + 1 * a.val = a.val; rw [congrFun (ix0 t) 0]; show 0 * 4096 + 1 * a.val = _; omega
  | ⟨1, _⟩ => show win0_0.index t 1 * 1024 + 1 * k.val = k.val; rw [congrFun (ix0 t) 1]; show 0 * 1024 + 1 * k.val = _; omega

theorem read1 (t : Fin cfg0.N) (j : Fin 512) (k : Fin 1024) :
    (iblk m c 1 t : FVec Ideal S512x1024 .bf16) (ix2 j k)
      = (m ((c : Thread nD τ).loc main_arg2) : FVec Ideal S4096x1024 .f32) (ix2 (⟨t.val * 512 + j.val, by have := lt_of_lt_of_eq t.isLt N_0; omega⟩ : Fin 4096) k) := by
  refine Eq.trans ?_ (host_wd m c _ k)
  unfold iblk
  rw [View.read_apply]
  show V m c main_v4 _ = _
  congr 1
  funext x
  apply Fin.ext
  match x with
  | ⟨0, _⟩ => show win0_1.index t 0 * 512 + 1 * j.val = t.val * 512 + j.val; rw [congrFun (ix1 t) 0]; show t.val * 512 + 1 * j.val = _; omega
  | ⟨1, _⟩ => show win0_1.index t 1 * 1024 + 1 * k.val = k.val; rw [congrFun (ix1 t) 1]; show 0 * 1024 + 1 * k.val = _; omega

theorem read2 (t : Fin cfg0.N) (a : Fin 4096) (j : Fin 512) :
    (iblk m c 2 t : FVec Ideal S4096x512 .bf16) (ix2 a j)
      = act (m ((c : Thread nD τ).loc main_arg0)) (m ((c : Thread nD τ).loc main_arg1)) a (⟨t.val * 512 + j.val, by have := lt_of_lt_of_eq t.isLt N_0; omega⟩ : Fin 4096) := by
  refine Eq.trans ?_ (host_r m c a _)
  unfold iblk
  rw [View.read_apply]
  show V m c main_v2 _ = _
  congr 1
  funext x
  apply Fin.ext
  match x with
  | ⟨0, _⟩ => show win0_2.index t 0 * 4096 + 1 * a.val = a.val; rw [congrFun (ix2' t) 0]; show 0 * 4096 + 1 * a.val = _; omega
  | ⟨1, _⟩ => show win0_2.index t 1 * 512 + 1 * j.val = t.val * 512 + j.val; rw [congrFun (ix2' t) 1]; show t.val * 512 + 1 * j.val = _; omega

/-- The kernel's result, read at an index. -/
theorem result (t j : Fin 4096) :
    ((dats m 0 c).arrAt 3 cfg0.N : FVec Ideal S4096x4096 .bf16) (ix2 t j)
      = dact (m ((c : Thread nD τ).loc main_arg0)) (m ((c : Thread nD τ).loc main_arg1)) (m ((c : Thread nD τ).loc main_arg2)) (m ((c : Thread nD τ).loc main_arg3)) t j := by
  have hu : j.val / 512 < cfg0.N := by rw [show cfg0.N = 8 from N_0]; omega
  have hr : ((cfg0.win 3).blk ⟨j.val / 512, hu⟩).view.emb (ix2 t (⟨j.val % 512, by omega⟩ : Fin 512)) = (ix2 t j : S4096x4096.Idx) := by
    funext x
    apply Fin.ext
    match x with
    | ⟨0, _⟩ => show win0_3.index ⟨j.val / 512, hu⟩ 0 * 4096 + 1 * t.val = t.val; rw [congrFun (ix3' ⟨j.val / 512, hu⟩) 0]; show 0 * 4096 + 1 * t.val = _; omega
    | ⟨1, _⟩ => show win0_3.index ⟨j.val / 512, hu⟩ 1 * 512 + 1 * (j.val % 512) = j.val; rw [congrFun (ix3' ⟨j.val / 512, hu⟩) 1]; show j.val / 512 * 512 + 1 * (j.val % 512) = _; omega
  have h := congrFun ((Value.blocks3 m c ⟨j.val / 512, hu⟩ (flush0_3 _)).trans (Value.flushed3 m c ⟨j.val / 512, hu⟩)) (ix2 t (⟨j.val % 512, by omega⟩ : Fin 512))
  rw [View.read_apply, hr] at h
  refine h.trans ?_
  show out0_3 (F := Ideal) (iblk m c 0 _) (iblk m c 1 _) (iblk m c 2 _) (ix2 t (⟨j.val % 512, by omega⟩ : Fin 512)) = _
  unfold out0_3
  rw [View.canon_cons_unit_lit _ _ _ (by decide), View.ld_unit_lit _ _ (by decide), View.ld_unit_lit _ _ (by decide), View.ld_unit_lit _ _ (by decide), pay]
  simp only [read0, read1, read2]
  unfold dact
  have e : (⟨j.val / 512 * 512 + j.val % 512, by omega⟩ : Fin 4096) = j := Fin.ext (by show j.val / 512 * 512 + j.val % 512 = j.val; omega)
  rw [e]

end Run

end Cert.DactIdeal.Body

namespace Cert.Proof

open Idealize.ShloMosaic Idealize.SL.Sem Cert.DactIdeal.Body

theorem dact_defs_eq : Cert.DactIdeal.defs₀ (F := Bits) = Cert.Dact.defs₀ (F := Bits) := by
  unfold Cert.Dact.defs₀ Cert.DactIdeal.defs₀
  congr 1
  funext l a
  match l, a with
  | 0, (t, s) => rfl

theorem frame_dact : Cert.quiescent_Dact := fun m g _ => by
  have h := Cert.DactIdeal.Gen.frame (F := Bits) m g
  unfold Cert.DactIdeal.defs at h
  rw [dact_defs_eq] at h
  exact h

theorem frame_dact_reference : Cert.quiescent_DactReferenceIdeal := fun m g _ => by
  refine (θ_run Cert.DactReferenceIdeal.defs _ _).mono (fun r h => ?_) (Cert.DactReferenceIdeal.Value.run (F := Ideal) m g)
  exact ⟨fun c => (h c).2, sem_eq_zero_of_no_sems (by decide) _⟩

/-- Where the rectifier is shut both sides are zero. -/
theorem dact_reference (h : FVec Ideal Cert.DactReferenceIdeal.S4096x1024 .f32) (w : FVec Ideal Cert.DactReferenceIdeal.S1024x4096 .f32)
    (wd dy : FVec Ideal Cert.DactReferenceIdeal.S4096x1024 .f32) (t j : Fin 4096) :
    Cert.DactReferenceIdeal.Read.val_main_v13 (F := Ideal) h w wd dy (ix2 t j) = dact h w wd dy t j := by
  pointwise [Cert.DactReferenceIdeal.Read.val_main_v13, Cert.DactReferenceIdeal.Read.val_main_v12, Cert.DactReferenceIdeal.Read.val_main_v11,
    Cert.DactReferenceIdeal.Read.val_main_v10, Cert.DactReferenceIdeal.Read.val_main_v9, Cert.DactReferenceIdeal.Read.val_main_v7, Cert.DactReferenceIdeal.Read.val_main_v6,
    Cert.DactReferenceIdeal.Read.val_main_v3, Cert.DactReferenceIdeal.Read.val_main_v2, Cert.DactReferenceIdeal.Read.val_main_cst, Cert.DactReferenceIdeal.Read.val_main_cst_1,
    Cert.DactReferenceIdeal.Read.val_main_cst_2, Cert.DactReferenceIdeal.Read.val_main_v1, Cert.DactReferenceIdeal.Read.val_main_v0, Cert.DactReferenceIdeal.Read.val_main_call0_v0,
    Cert.DactReferenceIdeal.Read.val_main_call0_cst]
  unfold dact act
  split
  · rfl
  · next hn =>
    rw [max_eq_right (not_lt.mp hn), mul_zero, mul_zero]

theorem agree_dact : Cert.algebraic_DactIdeal_DactReferenceIdeal := by
  intro m g m' g' _ hargs
  refine ⟨fun (c : Dev Cert.DactIdeal.nD) (i : (⟨2, ![4096, 4096]⟩ : Shape).Idx) =>
    dact (m ((c.tc : Thread Cert.DactIdeal.nD Cert.DactIdeal.τ).loc Cert.DactIdeal.main_arg0)) (m ((c.tc : Thread Cert.DactIdeal.nD Cert.DactIdeal.τ).loc Cert.DactIdeal.main_arg1))
      (m ((c.tc : Thread Cert.DactIdeal.nD Cert.DactIdeal.τ).loc Cert.DactIdeal.main_arg2)) (m ((c.tc : Thread Cert.DactIdeal.nD Cert.DactIdeal.τ).loc Cert.DactIdeal.main_arg3)) (i 0) (i 1), ?_, ?_⟩
  · refine (θ_run Cert.DactIdeal.defs _ _).mono (fun r h c => ⟨?_, (h c).2⟩) (Cert.DactIdeal.Value.run_blocks (F := Ideal) m g)
    rw [(h c).1]
    funext i
    obtain ⟨t, j, rfl⟩ : ∃ t j : Fin 4096, i = ix2 t j := ⟨i 0, i 1, eq_ix2 i⟩
    exact result m c t j
  · refine (θ_run Cert.DactReferenceIdeal.defs _ _).mono (fun r h c => ⟨?_, (h c).2⟩) (Cert.DactReferenceIdeal.Value.run (F := Ideal) m' g')
    rw [(h c).1]
    funext i
    obtain ⟨t, j, rfl⟩ : ∃ t j : Fin 4096, i = ix2 t j := ⟨i 0, i 1, eq_ix2 i⟩
    refine (congrFun (Cert.DactReferenceIdeal.Read.val_main_v13_eq _ _ _ _) (ix2 t j)).trans ?_
    rw [(hargs c).1, (hargs c).2.1, (hargs c).2.2.1, (hargs c).2.2.2]
    exact dact_reference _ _ _ _ t j

end Cert.Proof

end
-- ==== Proof.Sums.lean ====
/- A sum taken a piece at a time, and arrays read at natural numbers. -/
module

public import Idealize.ShloMosaic.PureOps.Ideal
public import Idealize.ShloMosaic.Lib.Pointwise

@[expose] public section

noncomputable section

namespace Cert.Sums

open Idealize.ShloMosaic

/-- A matrix read at natural numbers, zero outside. -/
def nat2 {a b : ℕ} (X : (⟨2, ![a, b]⟩ : Shape).Idx → EReal) (i j : ℕ) : EReal :=
  if h : i < a ∧ j < b then X (ix2 ⟨i, h.1⟩ ⟨j, h.2⟩) else 0

theorem nat2_of {a b : ℕ} (X : (⟨2, ![a, b]⟩ : Shape).Idx → EReal) {i j : ℕ} (hi : i < a) (hj : j < b) :
    nat2 X i j = X (ix2 ⟨i, hi⟩ ⟨j, hj⟩) := dif_pos ⟨hi, hj⟩

theorem nat2_fin {a b : ℕ} (X : (⟨2, ![a, b]⟩ : Shape).Idx → EReal) (i : Fin a) (j : Fin b) : nat2 X i j = X (ix2 i j) :=
  nat2_of X i.isLt j.isLt

/-- Two matrices equal entry by entry read the same. -/
theorem nat2_congr {a b : ℕ} {X Y : (⟨2, ![a, b]⟩ : Shape).Idx → EReal} (h : ∀ (i : Fin a) (j : Fin b), X (ix2 i j) = Y (ix2 i j)) : nat2 X = nat2 Y := by
  funext i j
  unfold nat2
  split
  · exact h _ _
  · rfl

/-- The first `n` terms. -/
def upTo (f : ℕ → EReal) (n : ℕ) : EReal := ∑ k ∈ Finset.range n, f k

theorem upTo_zero (f : ℕ → EReal) : upTo f 0 = 0 := Finset.sum_range_zero f

/-- The next `b` terms added. -/
theorem upTo_add (f : ℕ → EReal) (n b : ℕ) : upTo f (n + b) = upTo f n + ∑ k : Fin b, f (n + k.val) := by
  unfold upTo
  rw [Finset.sum_range_add, Finset.sum_range (fun k => f (n + k))]

/-- The first `b` terms. -/
theorem upTo_first (f : ℕ → EReal) (b : ℕ) : upTo f b = ∑ k : Fin b, f k.val := Finset.sum_range f

/-- An accumulator that starts over every `P` points and takes in `B` more terms at each point holds, after each point but
    a round's last, the sum of the terms met in the round. -/
theorem sweep {N P B : ℕ} (s : (n : ℕ) → n < N → EReal) (f : ℕ → ℕ → EReal)
    (hA : ∀ n h, n % P = 0 → s n h = ∑ k : Fin B, f (n / P) (n % P * B + k.val))
    (hB : ∀ n (h : n + 1 < N), (n + 1) % P ≠ 0 → (n + 1) % P + 1 < P →
      s (n + 1) h = s n (Nat.lt_of_succ_lt h) + ∑ k : Fin B, f ((n + 1) / P) ((n + 1) % P * B + k.val)) :
    ∀ n (h : n < N), n % P + 1 < P → s n h = upTo (f (n / P)) (n % P * B + B) := by
  intro n
  induction n with
  | zero =>
    intro h _
    rw [hA 0 h (Nat.zero_mod _), upTo_add, Nat.zero_mod, Nat.zero_mul, upTo_zero]
    exact (zero_add _).symm
  | succ n ih =>
    intro h hl
    by_cases h0 : (n + 1) % P = 0
    · rw [hA (n + 1) h h0, upTo_add, h0, Nat.zero_mul, upTo_zero]
      exact (zero_add _).symm
    · have hP : 0 < P := by omega
      have hm : (n + 1) % P = n % P + 1 := by
        rw [Nat.add_mod, Nat.mod_eq_of_lt (show 1 < P by omega)]
        have h1 := Nat.mod_lt n hP
        rcases Nat.lt_or_ge (n % P + 1) P with h2 | h2
        · exact Nat.mod_eq_of_lt h2
        · exfalso; apply h0
          rw [Nat.add_mod, Nat.mod_eq_of_lt (show 1 < P by omega), show n % P + 1 = P by omega, Nat.mod_self]
      have hd : (n + 1) / P = n / P := by
        have h1 := Nat.div_add_mod (n + 1) P
        have h2 := Nat.div_add_mod n P
        rw [hm] at h1
        exact Nat.eq_of_mul_eq_mul_left hP (by omega)
      rw [hB n h h0 hl, ih (Nat.lt_of_succ_lt h) (by omega), upTo_add _ ((n + 1) % P * B), hd, hm, Nat.add_mul, Nat.one_mul]

end Cert.Sums

end
-- ==== Proof.DwdValue.lean ====
/- The gradient of the down projection's weights: the frames, and the kernel's result beside the reference's. -/
module

public import proofs.«01_k».proof.Defs
public import proofs.«01_k».proof.Proof.Sums
public import proofs.«01_k».proof.Proof.Gen.Dwd
public import proofs.«01_k».proof.Proof.Gen.DwdIdeal.Value
public import proofs.«01_k».proof.Proof.Gen.DwdReferenceIdeal
public import proofs.«01_k».proof.Proof.Gen.DwdReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic

@[expose] public section

noncomputable section

namespace Cert.DwdIdeal.Body

open Cert.DwdIdeal Cert.DwdIdeal.Gen Idealize.ShloMosaic Idealize.ShloMosaic.TcCoe Idealize.SL.Sem Cert.Sums
open Cert.DwdReferenceIdeal.Read (val_main_v1 val_main_v2)

/-- One token's part of one entry: the square of what the rectifier put out, times what comes back. -/
def term (r : FVec Ideal S4096x4096 .f32) (dy : FVec Ideal S4096x1024 .f32) (j n : ℕ) (t : ℕ) : EReal :=
  nat2 r t j * nat2 r t j * nat2 dy t n

section Pays
variable (a b : FVec Ideal S1024x1024 .bf16) (acc : FVec Ideal S1024x1024 .f32) (i j : Fin 1024)

theorem pay1 : k0_pay1 (F := Ideal) a b (ix2 i j) = ∑ k : Fin 1024, a (ix2 k i) * a (ix2 k i) * b (ix2 k j) := by
  pointwise [k0_pay1]
theorem pay2 : k0_pay2 (F := Ideal) acc a b (ix2 i j) = acc (ix2 i j) + ∑ k : Fin 1024, a (ix2 k i) * a (ix2 k i) * b (ix2 k j) := by
  pointwise [k0_pay2]
theorem pay3 : k0_pay3 (F := Ideal) acc a b (ix2 i j) = acc (ix2 i j) + ∑ k : Fin 1024, a (ix2 k i) * a (ix2 k i) * b (ix2 k j) := by
  pointwise [k0_pay3]

end Pays

section Runs
/-- A load of a whole block reads the block. -/
theorem ld_whole {e : EltTy} (inb : ∀ a, (![0, 0] : Fin 2 → ℕ) a + S1024x1024.size a ≤ S1024x1024.size a) (X : S1024x1024.Idx → Elt Ideal e) :
    View.ld X (Rect.unit (s := S1024x1024) ![0, 0] ![1024, 1024] inb) = X := View.ld_unit_lit inb X (by decide)

variable (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .f32) (harg6 : arg6.IsWhole)
  (x0 x1 : FVec Ideal S1024x1024 .bf16) (xs : FVec Ideal S1024x1024 .f32)

theorem first (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 (F := Ideal) x0 x1 := by
  unfold sout0_A_0 kernelRun0_A
  dsimp only
  sl_unfold_words
  rw [View.read_writes_junk_eq_canon, View.canon_cons_unit_lit _ _ _ (by decide)]
  simp only [View.readAt_eq_ld, harg3.read_unread, harg4.read_unread, ld_whole]

theorem next (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay2 (F := Ideal) xs x0 x1 := by
  unfold sout0_B_0 kernelRun0_B
  dsimp only
  sl_unfold_words
  rw [View.read_writes_junk_eq_canon, View.canon_cons_unit_lit _ _ _ (by decide)]
  simp only [View.readAt_eq_ld, harg3.read_unread, harg4.read_unread, harg6.read_unread, ld_whole]

theorem last (hc0 : ¬cond0_0 i) (hc1 : ¬cond0_1 i) (hc2 : cond0_2 i) :
    out0_C_2 (F := Ideal) c i arg3 harg3 arg4 harg4 arg5 harg5 arg6 harg6 hc0 hc1 hc2 x0 x1 xs = k0_pay3 (F := Ideal) xs x0 x1 := by
  unfold out0_C_2 kernelRun0_C
  dsimp only
  sl_unfold_words
  rw [View.read_writes_junk_eq_canon, View.canon_cons_unit_lit _ _ _ (by decide)]
  simp only [View.readAt_eq_ld, harg3.read_unread, harg4.read_unread, harg6.read_unread, ld_whole]

end Runs

section Run
variable (m : (ℓ : Loc nD τ sig) → Buf (Elt Ideal) ℓ) (c : Dev nD)

/-- What the rectifier put out, and what comes back. -/
def R : FVec Ideal S4096x4096 .f32 := val_main_v2 (F := Ideal) (m ((c : Thread nD τ).loc main_arg0)) (m ((c : Thread nD τ).loc main_arg1))
def DY : FVec Ideal S4096x1024 .f32 := m ((c : Thread nD τ).loc main_arg2)

theorem host_r (t j : Fin 4096) : (V m c main_v2 : FVec Ideal S4096x4096 .bf16) (ix2 t j) = R m c (ix2 t j) := by
  entry_read
  rfl

theorem host_dy (t : Fin 4096) (n : Fin 1024) : (V m c main_v3 : FVec Ideal S4096x1024 .bf16) (ix2 t n) = DY m c (ix2 t n) := by
  entry_read
  rfl

theorem ix0 : ∀ t : Fin grid0.N, win0_0.index t = ![t.val % 4, t.val / 4] := by decide +kernel
theorem ix1 : ∀ t : Fin grid0.N, win0_1.index t = ![t.val % 4, 0] := by decide +kernel

/-- The two blocks a point reads. -/
abbrev blk0 (t : Fin cfg0.N) : FVec Ideal S1024x1024 .bf16 := iblk m c 0 t
abbrev blk1 (t : Fin cfg0.N) : FVec Ideal S1024x1024 .bf16 := iblk m c 1 t

theorem read0 (t : Fin cfg0.N) (k a : Fin 1024) :
    blk0 m c t (ix2 k a) = nat2 (R m c) (t.val % 4 * 1024 + k.val) (t.val / 4 * 1024 + a.val) := by
  have hN := lt_of_lt_of_eq t.isLt N_0
  rw [nat2_of _ (by omega) (by omega)]
  refine Eq.trans ?_ (host_r m c _ _)
  unfold blk0 iblk
  rw [View.read_apply]
  show V m c main_v2 _ = _
  congr 1
  funext x
  apply Fin.ext
  match x with
  | ⟨0, _⟩ => show win0_0.index t 0 * 1024 + 1 * k.val = t.val % 4 * 1024 + k.val; rw [congrFun (ix0 t) 0]; show t.val % 4 * 1024 + 1 * k.val = _; omega
  | ⟨1, _⟩ => show win0_0.index t 1 * 1024 + 1 * a.val = t.val / 4 * 1024 + a.val; rw [congrFun (ix0 t) 1]; show t.val / 4 * 1024 + 1 * a.val = _; omega

theorem read1 (t : Fin cfg0.N) (k b : Fin 1024) :
    blk1 m c t (ix2 k b) = nat2 (DY m c) (t.val % 4 * 1024 + k.val) b.val := by
  have hN := lt_of_lt_of_eq t.isLt N_0
  rw [nat2_of _ (by omega) (by omega)]
  refine Eq.trans ?_ (host_dy m c _ _)
  unfold blk1 iblk
  rw [View.read_apply]
  show V m c main_v3 _ = _
  congr 1
  funext x
  apply Fin.ext
  match x with
  | ⟨0, _⟩ => show win0_1.index t 0 * 1024 + 1 * k.val = t.val % 4 * 1024 + k.val; rw [congrFun (ix1 t) 0]; show t.val % 4 * 1024 + 1 * k.val = _; omega
  | ⟨1, _⟩ => show win0_1.index t 1 * 1024 + 1 * b.val = b.val; rw [congrFun (ix1 t) 1]; show 0 * 1024 + 1 * b.val = _; omega

/-- One point's product is the next 1024 tokens' terms. -/
theorem piece (t : Fin cfg0.N) (a b : Fin 1024) :
    ∑ k : Fin 1024, blk0 m c t (ix2 k a) * blk0 m c t (ix2 k a) * blk1 m c t (ix2 k b)
      = ∑ k : Fin 1024, term (R m c) (DY m c) (t.val / 4 * 1024 + a.val) b.val (t.val % 4 * 1024 + k.val) := by
  simp only [read0, read1, term]

/-- What the accumulator holds after each point but a block's last. -/
theorem state : ∀ (n : ℕ) (h : n < cfg0.N), n % 4 < 3 → ∀ a b : Fin 1024,
    (outsAt0 m c n h).2 (ix2 a b) = upTo (term (R m c) (DY m c) (n / 4 * 1024 + a.val) b.val) (n % 4 * 1024 + 1024) := by
  intro n
  induction n with
  | zero =>
    intro h _ a b
    rw [outsAt0_A m c ⟨0, h⟩ (Nat.zero_mod _) (by show ¬(1 ≤ 0 % 4 ∧ 0 % 4 ≤ 2); omega) (by show ¬(0 % 4 = 3); omega)]
    dsimp only
    rw [first, pay1, piece, upTo_add]
    dsimp only
    rw [Nat.zero_mod, Nat.zero_mul, upTo_zero]
    exact (zero_add _).symm
  | succ n ih =>
    intro h hl a b
    by_cases h0 : (n + 1) % 4 = 0
    · rw [outsAt0_A m c ⟨n + 1, h⟩ h0 (by show ¬(1 ≤ (n + 1) % 4 ∧ (n + 1) % 4 ≤ 2); omega) (by show ¬((n + 1) % 4 = 3); omega)]
      dsimp only
      rw [first, pay1, piece, upTo_add]
      dsimp only
      rw [h0, Nat.zero_mul, upTo_zero, zero_add]
    · rw [outsAt0_B m c ⟨n + 1, h⟩ h0 (by show 1 ≤ (n + 1) % 4 ∧ (n + 1) % 4 ≤ 2; omega) (by show ¬((n + 1) % 4 = 3); omega)]
      dsimp only
      rw [next, pay2, piece, upTo_add]
      dsimp only
      congr 1
      refine (ih (Nat.lt_of_succ_lt h) (by omega) a b).trans ?_
      rw [show n / 4 = (n + 1) / 4 by omega, show n % 4 * 1024 + 1024 = (n + 1) % 4 * 1024 by omega]

/-- What a block's last point leaves in the result. -/
theorem outs (t : Fin cfg0.N) (hl : t.val % 4 = 3) (a b : Fin 1024) :
    (outsAt0 m c t.val t.isLt).1 (ix2 a b) = upTo (term (R m c) (DY m c) (t.val / 4 * 1024 + a.val) b.val) 4096 := by
  rw [outsAt0_C m c t (by omega) (by omega) hl]
  dsimp only
  rw [last, pay3, piece, show 4096 = 3072 + 1024 by omega, upTo_add, state m c (t.val - 1) _ (by omega), hl]
  congr 1
  rw [show (t.val - 1) / 4 = t.val / 4 by omega, show (t.val - 1) % 4 * 1024 + 1024 = 3072 by omega]

/-- The kernel's result. -/
theorem result (j : Fin 4096) (n : Fin 1024) :
    (Value.G2 m c : FVec Ideal S4096x1024 .bf16) (ix2 j n) = upTo (term (R m c) (DY m c) j n) 4096 := by
  have hp : Value.pt2Of (ix2 j n) = 4 * (j.val / 1024) + 3 := by
    show 4 * (1 * (j.val / 1024 - 0) + 1 * (n.val / 1024 - 0)) + 3 = _
    omega
  have hu : Value.pt2Of (ix2 j n) < cfg0.N := by rw [hp, show cfg0.N = 16 from N_0]; omega
  unfold Value.G2
  rw [dif_pos hu, ← Value.outsAt0_sweep m c _ hu]
  have hl : Value.loc2Of (ix2 j n) = ix2 (⟨j.val % 1024, by omega⟩ : Fin 1024) n := by
    funext x
    apply Fin.ext
    match x with
    | ⟨0, _⟩ => rfl
    | ⟨1, _⟩ => show n.val % 1024 = n.val; omega
  rw [hl]
  refine (outs m c ⟨Value.pt2Of (ix2 j n), hu⟩ (by show Value.pt2Of (ix2 j n) % 4 = 3; omega) _ _).trans ?_
  show upTo (term (R m c) (DY m c) (Value.pt2Of (ix2 j n) / 4 * 1024 + j.val % 1024) n.val) 4096 = _
  rw [show Value.pt2Of (ix2 j n) / 4 * 1024 + j.val % 1024 = j.val by omega]

end Run

end Cert.DwdIdeal.Body

namespace Cert.Proof

open Idealize.ShloMosaic Idealize.SL.Sem Cert.DwdIdeal.Body Cert.Sums
open Cert.DwdReferenceIdeal.Read

theorem dwd_defs_eq : Cert.DwdIdeal.defs₀ (F := Bits) = Cert.Dwd.defs₀ (F := Bits) := by
  unfold Cert.Dwd.defs₀ Cert.DwdIdeal.defs₀
  congr 1
  funext l a
  match l, a with
  | 0, (t, s) => rfl

theorem frame_dwd : Cert.quiescent_Dwd := fun m g _ => by
  have h := Cert.DwdIdeal.Gen.frame (F := Bits) m g
  unfold Cert.DwdIdeal.defs at h
  rw [dwd_defs_eq] at h
  exact h

theorem frame_dwd_reference : Cert.quiescent_DwdReferenceIdeal := fun m g _ => by
  refine (θ_run Cert.DwdReferenceIdeal.defs _ _).mono (fun r h => ?_) (Cert.DwdReferenceIdeal.Value.run (F := Ideal) m g)
  exact ⟨fun c => (h c).2, sem_eq_zero_of_no_sems (by decide) _⟩

theorem dwd_reference (h : FVec Ideal Cert.DwdReferenceIdeal.S4096x1024 .f32) (w : FVec Ideal Cert.DwdReferenceIdeal.S1024x4096 .f32)
    (dy : FVec Ideal Cert.DwdReferenceIdeal.S4096x1024 .f32) (j : Fin 4096) (n : Fin 1024) :
    val_main_v7 (F := Ideal) h w dy (ix2 j n) = upTo (term (val_main_v2 (F := Ideal) h w) dy j n) 4096 := by
  rw [upTo_first]
  pointwise [val_main_v7, val_main_v6, val_main_v5, val_main_v3]
  refine Finset.sum_congr rfl fun t _ => ?_
  unfold term
  rw [nat2_fin, nat2_fin]
  exact mul_comm _ _

theorem agree_dwd : Cert.algebraic_DwdIdeal_DwdReferenceIdeal := by
  intro m g m' g' _ hargs
  refine ⟨fun (c : Dev Cert.DwdIdeal.nD) (i : (⟨2, ![4096, 1024]⟩ : Shape).Idx) => upTo (term (R m c) (DY m c) (i 0).val (i 1).val) 4096, ?_, ?_⟩
  · refine (θ_run Cert.DwdIdeal.defs _ _).mono (fun r h c => ⟨?_, (h c).2⟩) (Cert.DwdIdeal.Value.run (F := Ideal) m g)
    rw [(h c).1]
    funext i
    obtain ⟨j, n, rfl⟩ : ∃ (j : Fin 4096) (n : Fin 1024), i = ix2 j n := ⟨i 0, i 1, eq_ix2 i⟩
    exact result m c j n
  · refine (θ_run Cert.DwdReferenceIdeal.defs _ _).mono (fun r h c => ⟨?_, (h c).2⟩) (Cert.DwdReferenceIdeal.Value.run (F := Ideal) m' g')
    rw [(h c).1]
    funext i
    obtain ⟨j, n, rfl⟩ : ∃ (j : Fin 4096) (n : Fin 1024), i = ix2 j n := ⟨i 0, i 1, eq_ix2 i⟩
    refine (congrFun (val_main_v7_eq _ _ _) (ix2 j n)).trans ?_
    rw [(hargs c).1, (hargs c).2.1, (hargs c).2.2]
    exact dwd_reference _ _ _ j n

end Cert.Proof

end
-- ==== Proof.DwuValue.lean ====
/- The gradient of the up projection's weights: the frames, and the kernel's result beside the reference's. -/
module

public import proofs.«01_k».proof.Defs
public import proofs.«01_k».proof.Proof.Sums
public import proofs.«01_k».proof.Proof.Gen.Dwu
public import proofs.«01_k».proof.Proof.Gen.DwuIdeal.Value
public import proofs.«01_k».proof.Proof.Gen.DwuReferenceIdeal
public import proofs.«01_k».proof.Proof.Gen.DwuReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.DwuIdeal.Body

open Cert.DwuIdeal Cert.DwuIdeal.Gen Idealize.ShloMosaic Idealize.ShloMosaic.TcCoe Idealize.SL.Sem Cert.Sums
open Cert.DwuReferenceIdeal.Read (val_main_v11)

/-- One token's part of one entry: the normed input times what comes back. -/
def term (x : FVec Ideal S4096x1024 .f32) (du : FVec Ideal S4096x4096 .bf16) (j n : ℕ) (t : ℕ) : EReal :=
  nat2 x t j * nat2 du t n

section Pays
variable (a b : FVec Ideal S1024x1024 .bf16) (acc : FVec Ideal S1024x1024 .f32) (i j : Fin 1024)

theorem pay1 : k0_pay1 (F := Ideal) a b (ix2 i j) = ∑ k : Fin 1024, a (ix2 k i) * b (ix2 k j) := by
  pointwise [k0_pay1]
theorem pay2 : k0_pay2 (F := Ideal) acc a b (ix2 i j) = acc (ix2 i j) + ∑ k : Fin 1024, a (ix2 k i) * b (ix2 k j) := by
  pointwise [k0_pay2]
theorem pay4 (j : Fin 512) : k0_pay4 (F := Ideal) acc a b (ix3 0 i j) = acc (ix2 i ⟨j.val, by omega⟩) + ∑ k : Fin 1024, a (ix2 k i) * b (ix2 k ⟨j.val, by omega⟩) := by
  pointwise [k0_pay4, k0_pay3]
theorem pay5 (j : Fin 512) : k0_pay5 (F := Ideal) acc a b (ix3 0 i j) = acc (ix2 i ⟨512 + j.val, by omega⟩) + ∑ k : Fin 1024, a (ix2 k i) * b (ix2 k ⟨512 + j.val, by omega⟩) := by
  pointwise [k0_pay5, k0_pay3]

end Pays

section Runs
/-- A load of a whole block reads the block. -/
theorem ld_whole {e : EltTy} (inb : ∀ a, (![0, 0] : Fin 2 → ℕ) a + S1024x1024.size a ≤ S1024x1024.size a) (X : S1024x1024.Idx → Elt Ideal e) :
    View.ld X (Rect.unit (s := S1024x1024) ![0, 0] ![1024, 1024] inb) = X := View.ld_unit_lit inb X (by decide)

variable (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S2x1024x512 .bf16) (harg5 : arg5.IsWhole) (arg6 : Memref sig .tc .vmem S1024x1024 .f32) (harg6 : arg6.IsWhole)
  (x0 x1 : FVec Ideal S1024x1024 .bf16) (xs : FVec Ideal S1024x1024 .f32)

theorem first (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 (F := Ideal) x0 x1 := by
  unfold sout0_A_0 kernelRun0_A
  dsimp only
  sl_unfold_words
  rw [View.read_writes_junk_eq_canon, View.canon_cons_unit_lit _ _ _ (by decide)]
  simp only [View.readAt_eq_ld, harg3.read_unread, harg4.read_unread, ld_whole]

theorem next (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay2 (F := Ideal) xs x0 x1 := by
  unfold sout0_B_0 kernelRun0_B
  dsimp only
  sl_unfold_words
  rw [View.read_writes_junk_eq_canon, View.canon_cons_unit_lit _ _ _ (by decide)]
  simp only [View.readAt_eq_ld, harg3.read_unread, harg4.read_unread, harg6.read_unread, ld_whole]

theorem last (hc0 : ¬cond0_0 i) (hc1 : ¬cond0_1 i) (hc2 : cond0_2 i) (s : Fin 2) (a : Fin 1024) (j : Fin 512) :
    (out0_C_2 (F := Ideal) c i arg3 harg3 arg4 harg4 arg5 harg5 arg6 harg6 hc0 hc1 hc2 x0 x1 xs : FVec Ideal S2x1024x512 .bf16) (ix3 s a j)
      = xs (ix2 a ⟨s.val * 512 + j.val, by omega⟩) + ∑ k : Fin 1024, x0 (ix2 k a) * x1 (ix2 k ⟨s.val * 512 + j.val, by omega⟩) := by
  unfold out0_C_2 kernelRun0_C
  dsimp only
  sl_unfold_words
  rw [View.read_writes_junk_eq_canon]
  simp only [View.readAt_eq_ld, harg3.read_unread, harg4.read_unread, harg6.read_unread, ld_whole]
  canon_tiles y h using (View.cover_of_tiled_head _ _ _ (by rfl) _)
  · obtain rfl : y = ix3 0 a j := by
      funext e
      match e with
      | ⟨0, _⟩ => exact Fin.ext (Nat.lt_one_iff.mp y0_lt)
      | ⟨1, _⟩ => exact Fin.ext h1.symm
      | ⟨2, _⟩ => exact Fin.ext h2.symm
    obtain rfl : s = 1 := Fin.ext h0
    rw [pay5]
    rfl
  · obtain rfl : y = ix3 0 a j := by
      funext e
      match e with
      | ⟨0, _⟩ => exact Fin.ext (Nat.lt_one_iff.mp y0_lt)
      | ⟨1, _⟩ => exact Fin.ext h1.symm
      | ⟨2, _⟩ => exact Fin.ext h2.symm
    obtain rfl : s = 0 := Fin.ext (h0.trans (Nat.lt_one_iff.mp y0_lt))
    rw [pay4]
    simp only [Fin.val_zero, Nat.zero_mul, Nat.zero_add]

end Runs

section Run
variable (m : (ℓ : Loc nD τ sig) → Buf (Elt Ideal) ℓ) (c : Dev nD)

/-- The normed input, and what comes back. -/
def X : FVec Ideal S4096x1024 .f32 := val_main_v11 (F := Ideal) (m ((c : Thread nD τ).loc main_arg0)) (m ((c : Thread nD τ).loc main_arg1))
def DU : FVec Ideal S4096x4096 .bf16 := m ((c : Thread nD τ).loc main_arg2)

theorem host_x (t : Fin 4096) (j : Fin 1024) : (V m c main_v12 : FVec Ideal S4096x1024 .bf16) (ix2 t j) = X m c (ix2 t j) := by
  entry_read
  rfl

theorem host_du (t n : Fin 4096) : (V m c main_arg2 : FVec Ideal S4096x4096 .bf16) (ix2 t n) = DU m c (ix2 t n) := by
  entry_read
  rfl

theorem ix0 : ∀ t : Fin grid0.N, win0_0.index t = ![t.val % 4, 0] := by decide +kernel
theorem ix1 : ∀ t : Fin grid0.N, win0_1.index t = ![t.val % 4, t.val / 4] := by decide +kernel

/-- The two blocks a point reads. -/
abbrev blk0 (t : Fin cfg0.N) : FVec Ideal S1024x1024 .bf16 := iblk m c 0 t
abbrev blk1 (t : Fin cfg0.N) : FVec Ideal S1024x1024 .bf16 := iblk m c 1 t

theorem read0 (t : Fin cfg0.N) (k a : Fin 1024) : blk0 m c t (ix2 k a) = nat2 (X m c) (t.val % 4 * 1024 + k.val) a.val := by
  have hN := lt_of_lt_of_eq t.isLt N_0
  rw [nat2_of _ (by omega) (by omega)]
  refine Eq.trans ?_ (host_x m c _ _)
  unfold blk0 iblk
  rw [View.read_apply]
  show V m c main_v12 _ = _
  congr 1
  funext x
  apply Fin.ext
  match x with
  | ⟨0, _⟩ => show win0_0.index t 0 * 1024 + 1 * k.val = t.val % 4 * 1024 + k.val; rw [congrFun (ix0 t) 0]; show t.val % 4 * 1024 + 1 * k.val = _; omega
  | ⟨1, _⟩ => show win0_0.index t 1 * 1024 + 1 * a.val = a.val; rw [congrFun (ix0 t) 1]; show 0 * 1024 + 1 * a.val = _; omega

theorem read1 (t : Fin cfg0.N) (k b : Fin 1024) : blk1 m c t (ix2 k b) = nat2 (DU m c) (t.val % 4 * 1024 + k.val) (t.val / 4 * 1024 + b.val) := by
  have hN := lt_of_lt_of_eq t.isLt N_0
  rw [nat2_of _ (by omega) (by omega)]
  refine Eq.trans ?_ (host_du m c _ _)
  unfold blk1 iblk
  rw [View.read_apply]
  show V m c main_arg2 _ = _
  congr 1
  funext x
  apply Fin.ext
  match x with
  | ⟨0, _⟩ => show win0_1.index t 0 * 1024 + 1 * k.val = t.val % 4 * 1024 + k.val; rw [congrFun (ix1 t) 0]; show t.val % 4 * 1024 + 1 * k.val = _; omega
  | ⟨1, _⟩ => show win0_1.index t 1 * 1024 + 1 * b.val = t.val / 4 * 1024 + b.val; rw [congrFun (ix1 t) 1]; show t.val / 4 * 1024 + 1 * b.val = _; omega

/-- One point's product is the next 1024 tokens' terms. -/
theorem piece (t : Fin cfg0.N) (a b : Fin 1024) :
    ∑ k : Fin 1024, blk0 m c t (ix2 k a) * blk1 m c t (ix2 k b)
      = ∑ k : Fin 1024, term (X m c) (DU m c) a.val (t.val / 4 * 1024 + b.val) (t.val % 4 * 1024 + k.val) := by
  simp only [read0, read1, term]

/-- What the accumulator holds after each point but a block's last. -/
theorem state (n : ℕ) (h : n < cfg0.N) (hl : n % 4 + 1 < 4) (a b : Fin 1024) :
    (outsAt0 m c n h).2 (ix2 a b) = upTo (term (X m c) (DU m c) a.val (n / 4 * 1024 + b.val)) (n % 4 * 1024 + 1024) := by
  refine sweep (P := 4) (B := 1024) (fun n h => (outsAt0 m c n h).2 (ix2 a b)) (fun q => term (X m c) (DU m c) a.val (q * 1024 + b.val)) ?_ ?_ n h hl
  · intro n h h0
    rw [outsAt0_A m c ⟨n, h⟩ h0 (by show ¬(1 ≤ n % 4 ∧ n % 4 ≤ 2); omega) (by show ¬(n % 4 = 3); omega)]
    dsimp only
    rw [first, pay1, piece]
  · intro n h h0 hl
    rw [outsAt0_B m c ⟨n + 1, h⟩ h0 (by show 1 ≤ (n + 1) % 4 ∧ (n + 1) % 4 ≤ 2; omega) (by show ¬((n + 1) % 4 = 3); omega)]
    dsimp only
    rw [next, pay2, piece]
    rfl

/-- What a block's last point leaves in the result. -/
theorem outs (t : Fin cfg0.N) (hl : t.val % 4 = 3) (s : Fin 2) (a : Fin 1024) (j : Fin 512) :
    ((outsAt0 m c t.val t.isLt).1 : FVec Ideal S2x1024x512 .bf16) (ix3 s a j)
      = upTo (term (X m c) (DU m c) a.val (t.val / 4 * 1024 + (s.val * 512 + j.val))) 4096 := by
  rw [outsAt0_C m c t (by omega) (by omega) hl]
  dsimp only
  rw [last, piece, show 4096 = 3072 + 1024 by omega, upTo_add, state m c (t.val - 1) _ (by omega), hl]
  congr 1
  rw [show (t.val - 1) / 4 = t.val / 4 by omega, show (t.val - 1) % 4 * 1024 + 1024 = 3072 by omega]

/-- The kernel's result. -/
theorem result (s : Fin 8) (a : Fin 1024) (j : Fin 512) :
    (Value.G2 m c : FVec Ideal S8x1024x512 .bf16) (ix3 s a j) = upTo (term (X m c) (DU m c) a.val (s.val * 512 + j.val)) 4096 := by
  have hp : Value.pt2Of (ix3 s a j) = 4 * (s.val / 2) + 3 := by
    show 4 * (1 * (s.val / 2 - 0) + 1 * (a.val / 1024 - 0) + 1 * (j.val / 512 - 0)) + 3 = _
    omega
  have hu : Value.pt2Of (ix3 s a j) < cfg0.N := by rw [hp, show cfg0.N = 16 from N_0]; omega
  unfold Value.G2
  rw [dif_pos hu, ← Value.outsAt0_sweep m c _ hu]
  have hl : Value.loc2Of (ix3 s a j) = ix3 (⟨s.val % 2, by omega⟩ : Fin 2) a j := by
    funext x
    apply Fin.ext
    match x with
    | ⟨0, _⟩ => rfl
    | ⟨1, _⟩ => show a.val % 1024 = a.val; omega
    | ⟨2, _⟩ => show j.val % 512 = j.val; omega
  rw [hl]
  refine (outs m c ⟨Value.pt2Of (ix3 s a j), hu⟩ (by show Value.pt2Of (ix3 s a j) % 4 = 3; omega) _ _ _).trans ?_
  show upTo (term (X m c) (DU m c) a.val (Value.pt2Of (ix3 s a j) / 4 * 1024 + (s.val % 2 * 512 + j.val))) 4096 = _
  rw [show Value.pt2Of (ix3 s a j) / 4 * 1024 + (s.val % 2 * 512 + j.val) = s.val * 512 + j.val by omega]

end Run

end Cert.DwuIdeal.Body

namespace Cert.Proof

open Idealize.ShloMosaic Idealize.SL.Sem Cert.DwuIdeal.Body Cert.Sums
open Cert.DwuReferenceIdeal.Read

theorem dwu_defs_eq : Cert.DwuIdeal.defs₀ (F := Bits) = Cert.Dwu.defs₀ (F := Bits) := by
  unfold Cert.Dwu.defs₀ Cert.DwuIdeal.defs₀
  congr 1
  funext l a
  match l, a with
  | 0, (t, s) => rfl

theorem frame_dwu : Cert.quiescent_Dwu := fun m g _ => by
  have h := Cert.DwuIdeal.Gen.frame (F := Bits) m g
  unfold Cert.DwuIdeal.defs at h
  rw [dwu_defs_eq] at h
  exact h

theorem frame_dwu_reference : Cert.quiescent_DwuReferenceIdeal := fun m g _ => by
  refine (θ_run Cert.DwuReferenceIdeal.defs _ _).mono (fun r h => ?_) (Cert.DwuReferenceIdeal.Value.run (F := Ideal) m g)
  exact ⟨fun c => (h c).2, sem_eq_zero_of_no_sems (by decide) _⟩

theorem dwu_reference (x : FVec Ideal Cert.DwuReferenceIdeal.S4096x1024 .f32) (nw : FVec Ideal Cert.DwuReferenceIdeal.S1x1024 .f32)
    (du : FVec Ideal Cert.DwuReferenceIdeal.S4096x4096 .bf16) (s : Fin 8) (a : Fin 1024) (j : Fin 512) :
    val_main_v19 (F := Ideal) x nw du (ix3 s a j) = upTo (term (val_main_v11 (F := Ideal) x nw) du a.val (s.val * 512 + j.val)) 4096 := by
  rw [upTo_first]
  pointwise [val_main_v19, val_main_v18, val_main_v17, val_main_v16, val_main_v15, val_main_v14]
  refine Finset.sum_congr rfl fun t _ => ?_
  unfold term
  rw [nat2_of _ t.isLt a.isLt, nat2_of _ t.isLt (by omega)]
  exact mul_comm _ _

theorem agree_dwu : Cert.algebraic_DwuIdeal_DwuReferenceIdeal := by
  intro m g m' g' _ hargs
  refine ⟨fun (c : Dev Cert.DwuIdeal.nD) (i : (⟨3, ![8, 1024, 512]⟩ : Shape).Idx) => upTo (term (X m c) (DU m c) (i 1).val ((i 0).val * 512 + (i 2).val)) 4096, ?_, ?_⟩
  · refine (θ_run Cert.DwuIdeal.defs _ _).mono (fun r h c => ⟨?_, (h c).2⟩) (Cert.DwuIdeal.Value.run (F := Ideal) m g)
    rw [(h c).1]
    funext i
    obtain ⟨s, a, j, rfl⟩ : ∃ (s : Fin 8) (a : Fin 1024) (j : Fin 512), i = ix3 s a j := ⟨i 0, i 1, i 2, eq_ix3 i⟩
    exact result m c s a j
  · refine (θ_run Cert.DwuReferenceIdeal.defs _ _).mono (fun r h c => ⟨?_, (h c).2⟩) (Cert.DwuReferenceIdeal.Value.run (F := Ideal) m' g')
    rw [(h c).1]
    funext i
    obtain ⟨s, a, j, rfl⟩ : ∃ (s : Fin 8) (a : Fin 1024) (j : Fin 512), i = ix3 s a j := ⟨i 0, i 1, i 2, eq_ix3 i⟩
    refine (congrFun (val_main_v19_eq _ _ _) (ix3 s a j)).trans ?_
    rw [(hargs c).1, (hargs c).2.1, (hargs c).2.2]
    exact dwu_reference _ _ _ s a j

end Cert.Proof

end
-- ==== Proof.Norm.lean ====
/- The root-mean-square norm of a row, forward and backward, over the extended reals. -/
module

public import proofs.«01_k».proof.Proof.Sums
public import Idealize.ShloMosaic.PureOps.Ideal
public import Idealize.ShloMosaic.Lib.Pointwise

@[expose] public section

noncomputable section

namespace Cert.Norm

open Idealize.ShloMosaic

theorem lit_1024 : Ideal.ofBits .f32 0x44800000#32 = ((1024 : ℝ) : EReal) := by
  simp [Ideal.ofBits, Ideal.ieee, -EReal.coe_mul]; norm_num
theorem lit_small : Ideal.ofBits .f32 0x358637BD#32 = ((8796093 / 8796093022208 : ℝ) : EReal) := by
  simp [Ideal.ofBits, Ideal.ieee, -EReal.coe_mul]; norm_num
theorem lit_half : Ideal.ofBits .f32 0xBF000000#32 = ((-(1 / 2) : ℝ) : EReal) := by
  simp [Ideal.ofBits, Ideal.ieee, -EReal.coe_mul, -EReal.coe_neg]; norm_num

/-- A row's mean square with the small number added, and one over its root. -/
def msq (x : Fin 1024 → EReal) : EReal :=
  Ideal.div (∑ k : Fin 1024, x k * x k) (Ideal.ofBits .f32 0x44800000#32) + Ideal.ofBits .f32 0x358637BD#32
def scale (x : Fin 1024 → EReal) : EReal := Ideal.rsqrt (msq x)

/-- The normed row times the norm's weight. -/
def normed (x : Fin 1024 → EReal) (w : EReal) (j : Fin 1024) : EReal := x j * scale x * w

/-- The gradient at a row from the gradient `dn` at its normed self, added to the residual's, as the kernel writes it. -/
def back (x dn : Fin 1024 → EReal) (dxo : EReal) (j : Fin 1024) : EReal :=
  dxo + scale x * (dn j - x j * scale x * Ideal.div (∑ b : Fin 1024, dn b * (x b * scale x)) (Ideal.ofBits .f32 0x44800000#32))

/-- What comes back through the mean square, and the same gradient, as differentiating the norm writes it. -/
def through (x dn : Fin 1024 → EReal) : EReal :=
  ∑ _b : Fin 1, Ideal.div ((∑ b : Fin 1024, x b * dn b) * (Ideal.ofBits .f32 0xBF000000#32 * Ideal.div (scale x) (msq x))) (Ideal.ofBits .f32 0x44800000#32)
def vjp (x dn : Fin 1024 → EReal) (dxo : EReal) (j : Fin 1024) : EReal :=
  dxo + dn j * scale x + x j * through x dn + through x dn * x j

/-- A positive real factor comes out of a sum. -/
theorem sum_mul_pos {n : ℕ} (f : Fin n → EReal) (r : ℝ) (hr : 0 ≤ r) : ∑ b : Fin n, f b * (r : EReal) = (∑ b : Fin n, f b) * (r : EReal) := by
  induction n with
  | zero => simp
  | succ n ih =>
    rw [Fin.sum_univ_succ, Fin.sum_univ_succ, ih, EReal.right_distrib_of_nonneg_of_ne_top (by exact_mod_cast hr) (EReal.coe_ne_top r)]

/-- Twice a real multiple of one thing. -/
theorem twice (s : EReal) (a : ℝ) : s * (a : EReal) + s * (a : EReal) = s * ((2 * a : ℝ) : EReal) := by
  induction s with
  | coe s => rw [← EReal.coe_mul, ← EReal.coe_add, ← EReal.coe_mul]; congr 1; ring
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

theorem sq_nonneg' (x : EReal) : 0 ≤ x * x := by
  induction x with
  | coe x => rw [← EReal.coe_mul]; exact_mod_cast mul_self_nonneg x
  | top => simp
  | bot => simp

/-- A row has an entry that is not real and an infinite mean square, or is real with a positive one. -/
theorem row_cases (x : Fin 1024 → EReal) :
    msq x = ⊤ ∨ ∃ (X : Fin 1024 → ℝ) (v : ℝ), (∀ k, x k = (X k : EReal)) ∧ 0 < v ∧ msq x = (v : EReal) := by
  by_cases h : ∀ k, x k ≠ ⊤ ∧ x k ≠ ⊥
  · right
    have hX : ∀ k, x k = ((x k).toReal : EReal) := fun k => (EReal.coe_toReal (h k).1 (h k).2).symm
    have hs : ∃ s : ℝ, 0 ≤ s ∧ ∑ k : Fin 1024, x k * x k = (s : EReal) := by
      refine ⟨∑ k : Fin 1024, (x k).toReal * (x k).toReal, Finset.sum_nonneg fun k _ => mul_self_nonneg _, ?_⟩
      have hc : ∀ (S : Finset (Fin 1024)), ((∑ k ∈ S, (x k).toReal * (x k).toReal : ℝ) : EReal) = ∑ k ∈ S, x k * x k := by
        intro S
        induction S using Finset.cons_induction with
        | empty => simp
        | cons a S ha ih => rw [Finset.sum_cons, Finset.sum_cons, EReal.coe_add, ih, EReal.coe_mul, ← hX a]
      exact (hc Finset.univ).symm
    obtain ⟨s, h0, hs⟩ := hs
    refine ⟨fun k => (x k).toReal, s * (1 / 1024) + 8796093 / 8796093022208, hX, by positivity, ?_⟩
    rw [msq, hs, lit_1024, lit_small, Ideal.div_coe (by norm_num), ← EReal.coe_mul, ← EReal.coe_add]
  · left
    have ⟨k, hk⟩ : ∃ k, x k * x k = ⊤ := by
      by_contra hn
      apply h
      intro k
      refine ⟨fun e => hn ⟨k, ?_⟩, fun e => hn ⟨k, ?_⟩⟩
      · rw [e]; rfl
      · rw [e]; rfl
    have hs : ∑ k : Fin 1024, x k * x k = ⊤ := by
      refine top_le_iff.mp ?_
      rw [← hk]
      exact Finset.single_le_sum (f := fun k => x k * x k) (fun i _ => sq_nonneg' (x i)) (Finset.mem_univ k)
    rw [msq, hs, lit_1024, lit_small, Ideal.div_coe (by norm_num), EReal.top_mul_coe_of_pos (by norm_num), EReal.top_add_coe]

/-- The two forms of the gradient are one. -/
theorem back_eq (x dn : Fin 1024 → EReal) (dxo : EReal) (j : Fin 1024) : back x dn dxo j = vjp x dn dxo j := by
  unfold back vjp through
  rw [Fin.sum_univ_one, lit_1024, lit_half, Ideal.div_coe (by norm_num), Ideal.div_coe (by norm_num)]
  rcases row_cases x with h | ⟨X, v, hX, hv, h⟩
  · have hs : scale x = 0 := by rw [scale, h]; rfl
    have hd : Ideal.div 0 ⊤ = 0 := by rw [Ideal.div, if_neg (by simp), zero_mul]
    rw [hs, h, hd]
    simp
  · have hr : scale x = (((√v)⁻¹ : ℝ) : EReal) := by
      rw [scale, h, Ideal.rsqrt_coe, if_neg (by linarith), if_neg (by linarith)]
    have hp : 0 < (√v)⁻¹ := inv_pos.mpr (Real.sqrt_pos.mpr hv)
    have hq : (√v)⁻¹ * (√v)⁻¹ = 1 / v := by rw [← mul_inv, Real.mul_self_sqrt hv.le, one_div]
    have hsum : ∑ b : Fin 1024, dn b * (x b * scale x) = (∑ b : Fin 1024, x b * dn b) * (((√v)⁻¹ : ℝ) : EReal) := by
      rw [← sum_mul_pos _ _ hp.le]
      refine Finset.sum_congr rfl fun b _ => ?_
      rw [hr, ← mul_assoc, mul_comm (dn b)]
    rw [hsum, hr, h, hX j, Ideal.div_coe hv.ne']
    generalize (∑ b : Fin 1024, x b * dn b) = S
    generalize dn j = D
    generalize X j = y
    generalize hρ : (√v)⁻¹ = ρ at hp hq ⊢
    have e1 : (ρ : EReal) * (D - (y : EReal) * (ρ : EReal) * (S * (ρ : EReal) * ((1 / 1024 : ℝ) : EReal)))
        = D * (ρ : EReal) + S * ((-(y * ρ * ρ * ρ * (1 / 1024)) : ℝ) : EReal) := by
      rw [sub_eq_add_neg, EReal.left_distrib_of_nonneg_of_ne_top (by exact_mod_cast hp.le) (EReal.coe_ne_top ρ), mul_comm (ρ : EReal) D]
      congr 1
      rw [mul_assoc S, ← EReal.coe_mul, ← EReal.coe_mul, mul_comm ((y * ρ : ℝ) : EReal), mul_assoc S, ← EReal.coe_mul, ← mul_neg, ← EReal.coe_neg, mul_comm (ρ : EReal), mul_assoc S, ← EReal.coe_mul]
      congr 2
      ring
    have e2 : S * (((-(1 / 2) : ℝ) : EReal) * ((ρ : EReal) * ((1 / v : ℝ) : EReal))) * ((1 / 1024 : ℝ) : EReal) = S * ((-(1 / 2) * (ρ * (1 / v)) * (1 / 1024) : ℝ) : EReal) := by
      rw [← EReal.coe_mul, ← EReal.coe_mul, mul_assoc S, ← EReal.coe_mul]
    rw [e1, e2, mul_comm (y : EReal), mul_assoc S, ← EReal.coe_mul, ← add_assoc, add_assoc (dxo + D * (ρ : EReal)), twice]
    congr 3
    rw [← hq]
    ring

/-- The gradient at a row whose normed self has gradient `d` before the norm's weight `w`, as the kernel and as differentiating write it. -/
def grad (x d w : Fin 1024 → EReal) (dxo : EReal) (j : Fin 1024) : EReal := back x (fun b => d b * w b) dxo j
theorem grad_eq (x d w : Fin 1024 → EReal) (dxo : EReal) (j : Fin 1024) : grad x d w dxo j = vjp x (fun b => d b * w b) dxo j := back_eq _ _ _ _

/-- One token's part of the gradient of the norm's weight. -/
def share (d x : ℕ → Fin 1024 → EReal) (j : Fin 1024) (t : ℕ) : EReal := d t j * (x t j * scale (x t))

/-- Two halves of a block of terms, the later one first. -/
theorem two_halves {b c : ℕ} (hc : c = b + b) (f : ℕ → EReal) (n : ℕ) :
    ∑ k : Fin b, f (n + (b + k.val)) + ∑ k : Fin b, f (n + k.val) = ∑ k : Fin c, f (n + k.val) := by
  subst hc
  rw [Fin.sum_univ_add, add_comm]
  rfl

/-- A row of column sums that the last point of each block of tokens sets or adds to, and the other points leave: `cnt` counts
    the blocks done. -/
theorem columns {N : ℕ} (s : (n : ℕ) → n < N → EReal) (g : ℕ → EReal) (cnt : ℕ → ℕ) (h0 : cnt 0 = 0)
    (hstep : ∀ n, cnt (n + 1) = cnt n ∨ cnt (n + 1) = cnt n + 1)
    (hidle : ∀ n (h : n + 1 < N), cnt (n + 1) = cnt n → s (n + 1) h = s n (Nat.lt_of_succ_lt h))
    (hset : ∀ n (h : n + 1 < N), cnt n = 0 → cnt (n + 1) = 1 → s (n + 1) h = ∑ k : Fin 1024, g (cnt n * 1024 + k.val))
    (hadd : ∀ n (h : n + 1 < N), cnt n ≠ 0 → cnt (n + 1) = cnt n + 1 →
      s (n + 1) h = s n (Nat.lt_of_succ_lt h) + ∑ k : Fin 1024, g (cnt n * 1024 + k.val)) :
    ∀ n (h : n < N), cnt n ≠ 0 → s n h = Sums.upTo g (cnt n * 1024) := by
  intro n
  induction n with
  | zero => intro _ h; exact absurd h0 h
  | succ n ih =>
    intro h hn
    rcases hstep n with e | e
    · rw [hidle n h e, ih _ (by rwa [e] at hn), e]
    · rw [e, Nat.add_mul, Nat.one_mul, Sums.upTo_add]
      by_cases hz : cnt n = 0
      · rw [hset n h hz (by rw [e, hz]), hz, Nat.zero_mul, Sums.upTo_zero, zero_add]
      · rw [hadd n h hz e, ih _ hz]

end Cert.Norm

end
-- ==== Proof.DhValue.lean ====
/- The gradient at the MLP's input: the frames, and the kernel's three results beside the reference's. -/
module

public import proofs.«01_k».proof.Defs
public import proofs.«01_k».proof.Proof.Sums
public import proofs.«01_k».proof.Proof.Norm
public import proofs.«01_k».proof.Proof.Gen.Dh
public import proofs.«01_k».proof.Proof.Gen.DhIdeal.Value
public import proofs.«01_k».proof.Proof.Gen.DhReferenceIdeal
public import proofs.«01_k».proof.Proof.Gen.DhReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.DhIdeal.Body

open Cert.DhIdeal Cert.DhIdeal.Gen Idealize.ShloMosaic Idealize.ShloMosaic.TcCoe Idealize.SL.Sem Cert.Sums

/-- One hidden unit's part of one entry of the gradient at the normed row, and the entry. -/
def term (du : FVec Ideal S4096x4096 .bf16) (w : FVec Ideal S1024x4096 .f32) (t j : ℕ) (k : ℕ) : EReal := nat2 du t k * nat2 w j k
def D (du : FVec Ideal S4096x4096 .bf16) (w : FVec Ideal S1024x4096 .f32) (t : ℕ) (j : Fin 1024) : EReal := upTo (term du w t j.val) 4096

/-- A row of the input. -/
def row (x : FVec Ideal S4096x1024 .f32) (t : ℕ) (j : Fin 1024) : EReal := nat2 x t j.val

/-- One entry of the input's gradient, and one of the norm weight's. -/
def dx (x : FVec Ideal S4096x1024 .f32) (nw : FVec Ideal S1x1024 .f32) (w : FVec Ideal S1024x4096 .f32) (du : FVec Ideal S4096x4096 .bf16)
    (dxo : FVec Ideal S4096x1024 .f32) (t : ℕ) (j : Fin 1024) : EReal :=
  Norm.grad (row x t) (D du w t) (fun b => nw (ix2 0 b)) (row dxo t j) j
def dnw (x : FVec Ideal S4096x1024 .f32) (w : FVec Ideal S1024x4096 .f32) (du : FVec Ideal S4096x4096 .bf16) (j : Fin 1024) : EReal :=
  upTo (Norm.share (D du w) (row x) j) 4096

section Pays
variable (aH aL : FVec Ideal S1024x512 .bf16) (bH bL : FVec Ideal S1x1024x512 .bf16) (acc x dxo : FVec Ideal S1024x1024 .f32) (nw p : FVec Ideal S1x1024 .f32) (t j : Fin 1024)

theorem pay1 : k0_pay1 (F := Ideal) aH bH aL bL (ix2 t j)
    = ∑ k : Fin 512, aH (ix2 t k) * bH (ix3 (0 : Fin 1) j k) + ∑ k : Fin 512, aL (ix2 t k) * bL (ix3 (0 : Fin 1) j k) := by
  pointwise [k0_pay1]
theorem pay2 : k0_pay2 (F := Ideal) acc aH bH aL bL (ix2 t j)
    = acc (ix2 t j) + (∑ k : Fin 512, aH (ix2 t k) * bH (ix3 (0 : Fin 1) j k) + ∑ k : Fin 512, aL (ix2 t k) * bL (ix3 (0 : Fin 1) j k)) := by
  pointwise [k0_pay2]
theorem pay7 : k0_pay7 (F := Ideal) acc aH bH aL bL (ix2 t j)
    = acc (ix2 t j) + (∑ k : Fin 512, aH (ix2 t k) * bH (ix3 (0 : Fin 1) j k) + ∑ k : Fin 512, aL (ix2 t k) * bL (ix3 (0 : Fin 1) j k)) := by
  pointwise [k0_pay7]
theorem pay8 : k0_pay8 (F := Ideal) x (ix2 t 0) = Norm.scale (fun k => x (ix2 t k)) := by
  pointwise [k0_pay8]
  rfl
theorem pay9 : k0_pay9 (F := Ideal) x (ix2 t j) = x (ix2 t j) * k0_pay8 (F := Ideal) x (ix2 t 0) := by
  pointwise [k0_pay9]
theorem pay10 : k0_pay10 (F := Ideal) acc aH bH aL bL nw (ix2 t j) = k0_pay7 (F := Ideal) acc aH bH aL bL (ix2 t j) * nw (ix2 0 j) := by
  pointwise [k0_pay10]
theorem pay11 : k0_pay11 (F := Ideal) acc aH bH aL bL x nw (ix2 t j)
    = Ideal.div (∑ b : Fin 1024, k0_pay10 (F := Ideal) acc aH bH aL bL nw (ix2 t b) * k0_pay9 (F := Ideal) x (ix2 t b)) (Ideal.ofBits .f32 0x44800000#32) := by
  pointwise [k0_pay11]
theorem pay3 (r : FVec Ideal S1024x1 .f32) (xh dn q : FVec Ideal S1024x1024 .f32) :
    k0_pay3 (F := Ideal) dxo r xh dn q (ix2 t j) = dxo (ix2 t j) + r (ix2 t 0) * (dn (ix2 t j) - xh (ix2 t j) * q (ix2 t j)) := by
  pointwise [k0_pay3]
theorem pay5 (r : FVec Ideal S1024x1 .f32) (xh dn q : FVec Ideal S1024x1024 .f32) :
    k0_pay5 (F := Ideal) dxo r xh dn q (ix2 t j) = k0_pay3 (F := Ideal) dxo r xh dn q (ix2 t j) := by
  pointwise [k0_pay5]
theorem pay4 (dh xh : FVec Ideal S1024x1024 .f32) : k0_pay4 (F := Ideal) dh xh (ix2 0 j) = ∑ k : Fin 1024, dh (ix2 k j) * xh (ix2 k j) := by
  pointwise [k0_pay4]
theorem pay6 (dh xh : FVec Ideal S1024x1024 .f32) : k0_pay6 (F := Ideal) dh xh p (ix2 0 j) = p (ix2 0 j) + k0_pay4 (F := Ideal) dh xh (ix2 0 j) := by
  pointwise [k0_pay6]

/-- A last point's gradient of a row, and its column sums. -/
theorem pay_dx : k0_pay3 (F := Ideal) dxo (k0_pay8 x) (k0_pay9 x) (k0_pay10 acc aH bH aL bL nw) (k0_pay11 acc aH bH aL bL x nw) (ix2 t j)
    = Norm.grad (fun b => x (ix2 t b)) (fun b => k0_pay7 (F := Ideal) acc aH bH aL bL (ix2 t b)) (fun b => nw (ix2 0 b)) (dxo (ix2 t j)) j := by
  rw [pay3, pay11]
  simp only [pay9, pay10, pay8]
  rfl
theorem pay_dnw : k0_pay4 (F := Ideal) (k0_pay7 acc aH bH aL bL) (k0_pay9 x) (ix2 0 j)
    = ∑ k : Fin 1024, k0_pay7 (F := Ideal) acc aH bH aL bL (ix2 k j) * (x (ix2 k j) * Norm.scale (fun b => x (ix2 k b))) := by
  rw [pay4]
  simp only [pay9, pay8]

end Pays

section Runs
/-- A load of a whole block reads the block. -/
theorem ld_whole {e : EltTy} (inb : ∀ a, (![0, 0] : Fin 2 → ℕ) a + S1024x1024.size a ≤ S1024x1024.size a) (X : S1024x1024.Idx → Elt Ideal e) :
    View.ld X (Rect.unit (s := S1024x1024) ![0, 0] ![1024, 1024] inb) = X := View.ld_unit_lit inb X (by decide)
theorem ld_row {e : EltTy} (inb : ∀ a, (![0, 0] : Fin 2 → ℕ) a + S1x1024.size a ≤ S1x1024.size a) (X : S1x1024.Idx → Elt Ideal e) :
    View.ld X (Rect.unit (s := S1x1024) ![0, 0] ![1, 1024] inb) = X := View.ld_unit_lit inb X (by decide)

/-- The two halves of what comes back, and of the weights. -/
abbrev aHi (x : S1024x1024.Idx → Elt Ideal .bf16) : FVec Ideal S1024x512 .bf16 := View.ld (Val := Elt Ideal) x (Rect.unit (s := S1024x1024) ![0, 512] ![1024, 512] inb_S1024x1024_S1024x512_0_512)
abbrev aLo (x : S1024x1024.Idx → Elt Ideal .bf16) : FVec Ideal S1024x512 .bf16 := View.ld (Val := Elt Ideal) x (Rect.unit (s := S1024x1024) ![0, 0] ![1024, 512] inb_S1024x1024_S1024x512_0_0)
abbrev bHi (x : S2x1024x512.Idx → Elt Ideal .bf16) : FVec Ideal S1x1024x512 .bf16 := View.ld (Val := Elt Ideal) x (Rect.unit (s := S2x1024x512) ![1, 0, 0] ![1, 1024, 512] inb_S2x1024x512_S1x1024x512_1_0_0)
abbrev bLo (x : S2x1024x512.Idx → Elt Ideal .bf16) : FVec Ideal S1x1024x512 .bf16 := View.ld (Val := Elt Ideal) x (Rect.unit (s := S2x1024x512) ![0, 0, 0] ![1, 1024, 512] inb_S2x1024x512_S1x1024x512_0_0_0)

variable (c : Dev nD) (i : grid0.Coords) (arg3 : Memref sig .tc .vmem S1024x1024 .bf16) (harg3 : arg3.IsWhole) (arg4 : Memref sig .tc .vmem S2x1024x512 .bf16) (harg4 : arg4.IsWhole)
  (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole)
  (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole)
  (arg11 : Memref sig .tc .vmem S1024x1024 .f32) (harg11 : arg11.IsWhole)
  (x0 : FVec Ideal S1024x1024 .bf16) (x1 : FVec Ideal S2x1024x512 .bf16) (x2 x3 : FVec Ideal S1024x1024 .f32) (x4 xo : FVec Ideal S1x1024 .f32) (xs : FVec Ideal S1024x1024 .f32)

theorem first (hc0 : cond0_0 i) (hc1 : ¬cond0_1 i) (hc2 : ¬cond0_2 i) :
    sout0_A_0 (F := Ideal) c i arg3 harg3 arg4 harg4 arg5 harg5 arg6 harg6 arg7 harg7 arg8 harg8 arg9 harg9 arg10 harg10 arg11 harg11 hc0 hc1 hc2 x0 x1 x2 x3 x4
      = k0_pay1 (F := Ideal) (aHi x0) (bHi x1) (aLo x0) (bLo x1) := by
  unfold sout0_A_0 kernelRun0_A
  dsimp only
  sl_unfold_words
  rw [View.read_writes_junk_eq_canon, View.canon_cons_unit_lit _ _ _ (by decide)]
  simp only [View.readAt_eq_ld, harg3.read_unread, harg4.read_unread]

theorem next (hc0 : ¬cond0_0 i) (hc1 : cond0_1 i) (hc2 : ¬cond0_2 i) :
    sout0_B_0 (F := Ideal) c i arg3 harg3 arg4 harg4 arg5 harg5 arg6 harg6 arg7 harg7 arg8 harg8 arg9 harg9 arg10 harg10 arg11 harg11 hc0 hc1 hc2 x0 x1 x2 x3 x4 xs
      = k0_pay2 (F := Ideal) xs (aHi x0) (bHi x1) (aLo x0) (bLo x1) := by
  unfold sout0_B_0 kernelRun0_B
  dsimp only
  sl_unfold_words
  rw [View.read_writes_junk_eq_canon, View.canon_cons_unit_lit _ _ _ (by decide)]
  simp only [View.readAt_eq_ld, harg3.read_unread, harg4.read_unread, harg11.read_unread, ld_whole]

/-- What a block's last point writes of the input's gradient. -/
abbrev lastDx : FVec Ideal S1024x1024 .f32 :=
  k0_pay3 (F := Ideal) x3 (k0_pay8 x2) (k0_pay9 x2) (k0_pay10 xs (aHi x0) (bHi x1) (aLo x0) (bLo x1) x4) (k0_pay11 xs (aHi x0) (bHi x1) (aLo x0) (bLo x1) x2 x4)

section C
variable (hc0 : ¬cond0_0 i) (hc1 : ¬cond0_1 i) (hc2 : cond0_2 i) (hc3 : cond0_3 i) (hc4 : ¬cond0_4 i)

theorem lastC_dx : out0_C_5 (F := Ideal) c i arg3 harg3 arg4 harg4 arg5 harg5 arg6 harg6 arg7 harg7 arg8 harg8 arg9 harg9 arg10 harg10 arg11 harg11 hc0 hc1 hc2 hc3 hc4 x0 x1 x2 x3 x4 xs
      = lastDx x0 x1 x2 x3 x4 xs := by
  unfold out0_C_5 kernelRun0_C
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, ld_whole, ld_row]

theorem lastC_low : out0_C_6 (F := Ideal) c i arg3 harg3 arg4 harg4 arg5 harg5 arg6 harg6 arg7 harg7 arg8 harg8 arg9 harg9 arg10 harg10 arg11 harg11 hc0 hc1 hc2 hc3 hc4 x0 x1 x2 x3 x4 xs
      = k0_pay5 (F := Ideal) x3 (k0_pay8 x2) (k0_pay9 x2) (k0_pay10 xs (aHi x0) (bHi x1) (aLo x0) (bLo x1) x4) (k0_pay11 xs (aHi x0) (bHi x1) (aLo x0) (bLo x1) x2 x4) := by
  unfold out0_C_6 kernelRun0_C
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, ld_whole, ld_row]

theorem lastC_dnw : out0_C_7 (F := Ideal) c i arg3 harg3 arg4 harg4 arg5 harg5 arg6 harg6 arg7 harg7 arg8 harg8 arg9 harg9 arg10 harg10 arg11 harg11 hc0 hc1 hc2 hc3 hc4 x0 x1 x2 x3 x4 xs
      = k0_pay4 (F := Ideal) (k0_pay7 xs (aHi x0) (bHi x1) (aLo x0) (bLo x1)) (k0_pay9 x2) := by
  unfold out0_C_7 kernelRun0_C
  dsimp only
  sl_unfold_words
  rw [View.read_writes_junk_eq_canon, View.canon_cons_unit_lit _ _ _ (by decide)]
  simp only [View.readAt_eq_ld, harg3.read_unread, harg4.read_unread, harg5.read_unread, harg11.read_unread, ld_whole]

end C

section D
variable (hc0 : ¬cond0_0 i) (hc1 : ¬cond0_1 i) (hc2 : cond0_2 i) (hc3 : ¬cond0_3 i) (hc4 : cond0_4 i)

theorem lastD_dx : out0_D_5 (F := Ideal) c i arg3 harg3 arg4 harg4 arg5 harg5 arg6 harg6 arg7 harg7 arg8 harg8 arg9 harg9 arg10 harg10 arg11 harg11 hc0 hc1 hc2 hc3 hc4 x0 x1 x2 x3 x4 xo xs
      = lastDx x0 x1 x2 x3 x4 xs := by
  unfold out0_D_5 kernelRun0_D
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, ld_whole, ld_row]

theorem lastD_low : out0_D_6 (F := Ideal) c i arg3 harg3 arg4 harg4 arg5 harg5 arg6 harg6 arg7 harg7 arg8 harg8 arg9 harg9 arg10 harg10 arg11 harg11 hc0 hc1 hc2 hc3 hc4 x0 x1 x2 x3 x4 xo xs
      = k0_pay5 (F := Ideal) x3 (k0_pay8 x2) (k0_pay9 x2) (k0_pay10 xs (aHi x0) (bHi x1) (aLo x0) (bLo x1) x4) (k0_pay11 xs (aHi x0) (bHi x1) (aLo x0) (bLo x1) x2 x4) := by
  unfold out0_D_6 kernelRun0_D
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, ld_whole, ld_row]

theorem lastD_dnw : out0_D_7 (F := Ideal) c i arg3 harg3 arg4 harg4 arg5 harg5 arg6 harg6 arg7 harg7 arg8 harg8 arg9 harg9 arg10 harg10 arg11 harg11 hc0 hc1 hc2 hc3 hc4 x0 x1 x2 x3 x4 xo xs
      = k0_pay6 (F := Ideal) (k0_pay7 xs (aHi x0) (bHi x1) (aLo x0) (bLo x1)) (k0_pay9 x2) xo := by
  unfold out0_D_7 kernelRun0_D
  dsimp only
  sl_unfold_words
  rw [View.read_writes_junk_eq_canon, View.canon_cons_unit_lit _ _ _ (by decide)]
  simp only [View.readAt_eq_ld, harg3.read_unread, harg4.read_unread, harg5.read_unread, harg10.read_unread, harg11.read_unread, ld_whole, ld_row]

end D

end Runs

section Run
variable (m : (ℓ : Loc nD τ sig) → Buf (Elt Ideal) ℓ) (c : Dev nD)

abbrev X : FVec Ideal S4096x1024 .f32 := m ((c : Thread nD τ).loc main_arg0)
abbrev NW : FVec Ideal S1x1024 .f32 := m ((c : Thread nD τ).loc main_arg1)
abbrev W : FVec Ideal S1024x4096 .f32 := m ((c : Thread nD τ).loc main_arg2)
abbrev DU : FVec Ideal S4096x4096 .bf16 := m ((c : Thread nD τ).loc main_arg3)
abbrev DXO : FVec Ideal S4096x1024 .f32 := m ((c : Thread nD τ).loc main_arg4)

theorem shards_apply (w : FVec Ideal S1024x4096 .f32) (s : Fin 8) (k : Fin 1024) (j : Fin 512) :
    (truncf .bf16 (transpose S8x1024x512 [1, 0, 2] (shapeCast S1024x8x512 w shapeCasts_S1024x4096_S1024x8x512) transposes_S1024x8x512_S8x1024x512_1_0_2) bitsLt_bf16_f32 : FVec Ideal S8x1024x512 .bf16) (ix3 s k j)
      = w (ix2 k (⟨s.val * 512 + j.val, by omega⟩ : Fin 4096)) := by
  pointwise []

theorem host_w (s : Fin 8) (j : Fin 1024) (k : Fin 512) :
    (V m c main_v2 : FVec Ideal S8x1024x512 .bf16) (ix3 s j k) = W m c (ix2 j (⟨s.val * 512 + k.val, by omega⟩ : Fin 4096)) := by
  entry_read
  exact shards_apply _ s j k

theorem ix0 : ∀ t : Fin grid0.N, win0_0.index t = ![t.val / 4, t.val % 4] := by decide +kernel
theorem ix1 : ∀ t : Fin grid0.N, win0_1.index t = ![t.val % 4, 0, 0] := by decide +kernel
theorem ix2' : ∀ t : Fin grid0.N, win0_2.index t = ![t.val / 4, 0] := by decide +kernel
theorem ix3' : ∀ t : Fin grid0.N, win0_3.index t = ![t.val / 4, 0] := by decide +kernel
theorem ix4 : ∀ t : Fin grid0.N, win0_4.index t = ![0, 0] := by decide +kernel

/-- The five blocks a point reads. -/
abbrev blk0 (t : Fin cfg0.N) : FVec Ideal S1024x1024 .bf16 := iblk m c 0 t
abbrev blk1 (t : Fin cfg0.N) : FVec Ideal S2x1024x512 .bf16 := iblk m c 1 t
abbrev blk2 (t : Fin cfg0.N) : FVec Ideal S1024x1024 .f32 := iblk m c 2 t
abbrev blk3 (t : Fin cfg0.N) : FVec Ideal S1024x1024 .f32 := iblk m c 3 t
abbrev blk4 (t : Fin cfg0.N) : FVec Ideal S1x1024 .f32 := iblk m c 4 t

theorem read0 (t : Fin cfg0.N) (a k : Fin 1024) :
    blk0 m c t (ix2 a k) = nat2 (DU m c) (t.val / 4 * 1024 + a.val) (t.val % 4 * 1024 + k.val) := by
  have hN := lt_of_lt_of_eq t.isLt N_0
  rw [nat2_of _ (by omega) (by omega)]
  unfold blk0 iblk
  rw [View.read_apply]
  show DU m c _ = _
  congr 1
  funext x
  apply Fin.ext
  match x with
  | ⟨0, _⟩ => show win0_0.index t 0 * 1024 + 1 * a.val = t.val / 4 * 1024 + a.val; rw [congrFun (ix0 t) 0]; show t.val / 4 * 1024 + 1 * a.val = _; omega
  | ⟨1, _⟩ => show win0_0.index t 1 * 1024 + 1 * k.val = t.val % 4 * 1024 + k.val; rw [congrFun (ix0 t) 1]; show t.val % 4 * 1024 + 1 * k.val = _; omega

theorem read1 (t : Fin cfg0.N) (s : Fin 2) (j : Fin 1024) (k : Fin 512) :
    blk1 m c t (ix3 s j k) = nat2 (W m c) j.val (t.val % 4 * 1024 + (s.val * 512 + k.val)) := by
  have hN := lt_of_lt_of_eq t.isLt N_0
  rw [nat2_of _ (by omega) (by omega)]
  have e := host_w m c (⟨t.val % 4 * 2 + s.val, by omega⟩ : Fin 8) j k
  have e' : (⟨(t.val % 4 * 2 + s.val) * 512 + k.val, by omega⟩ : Fin 4096) = ⟨t.val % 4 * 1024 + (s.val * 512 + k.val), by omega⟩ := Fin.ext (by dsimp only; omega)
  dsimp only at e
  rw [e'] at e
  refine Eq.trans ?_ e
  unfold blk1 iblk
  rw [View.read_apply]
  show V m c main_v2 _ = _
  congr 1
  funext x
  apply Fin.ext
  match x with
  | ⟨0, _⟩ => show win0_1.index t 0 * 2 + 1 * s.val = t.val % 4 * 2 + s.val; rw [congrFun (ix1 t) 0]; show t.val % 4 * 2 + 1 * s.val = _; omega
  | ⟨1, _⟩ => show win0_1.index t 1 * 1024 + 1 * j.val = j.val; rw [congrFun (ix1 t) 1]; show 0 * 1024 + 1 * j.val = _; omega
  | ⟨2, _⟩ => show win0_1.index t 2 * 512 + 1 * k.val = k.val; rw [congrFun (ix1 t) 2]; show 0 * 512 + 1 * k.val = _; omega

theorem read2 (t : Fin cfg0.N) (a j : Fin 1024) : blk2 m c t (ix2 a j) = row (X m c) (t.val / 4 * 1024 + a.val) j := by
  have hN := lt_of_lt_of_eq t.isLt N_0
  rw [row, nat2_of _ (by omega) (by omega)]
  unfold blk2 iblk
  rw [View.read_apply]
  show X m c _ = _
  congr 1
  funext x
  apply Fin.ext
  match x with
  | ⟨0, _⟩ => show win0_2.index t 0 * 1024 + 1 * a.val = t.val / 4 * 1024 + a.val; rw [congrFun (ix2' t) 0]; show t.val / 4 * 1024 + 1 * a.val = _; omega
  | ⟨1, _⟩ => show win0_2.index t 1 * 1024 + 1 * j.val = j.val; rw [congrFun (ix2' t) 1]; show 0 * 1024 + 1 * j.val = _; omega

theorem read3 (t : Fin cfg0.N) (a j : Fin 1024) : blk3 m c t (ix2 a j) = row (DXO m c) (t.val / 4 * 1024 + a.val) j := by
  have hN := lt_of_lt_of_eq t.isLt N_0
  rw [row, nat2_of _ (by omega) (by omega)]
  unfold blk3 iblk
  rw [View.read_apply]
  show DXO m c _ = _
  congr 1
  funext x
  apply Fin.ext
  match x with
  | ⟨0, _⟩ => show win0_3.index t 0 * 1024 + 1 * a.val = t.val / 4 * 1024 + a.val; rw [congrFun (ix3' t) 0]; show t.val / 4 * 1024 + 1 * a.val = _; omega
  | ⟨1, _⟩ => show win0_3.index t 1 * 1024 + 1 * j.val = j.val; rw [congrFun (ix3' t) 1]; show 0 * 1024 + 1 * j.val = _; omega

theorem read4 (t : Fin cfg0.N) (j : Fin 1024) : blk4 m c t (ix2 0 j) = NW m c (ix2 0 j) := by
  unfold blk4 iblk
  rw [View.read_apply]
  show NW m c _ = _
  congr 1
  funext x
  apply Fin.ext
  match x with
  | ⟨0, _⟩ => show win0_4.index t 0 * 1 + 1 * 0 = 0; rw [congrFun (ix4 t) 0]; rfl
  | ⟨1, _⟩ => show win0_4.index t 1 * 1024 + 1 * j.val = j.val; rw [congrFun (ix4 t) 1]; show 0 * 1024 + 1 * j.val = _; omega

theorem readHi (t : Fin cfg0.N) (a : Fin 1024) (k : Fin 512) :
    aHi (blk0 m c t) (ix2 a k) = nat2 (DU m c) (t.val / 4 * 1024 + a.val) (t.val % 4 * 1024 + (512 + k.val)) := by
  unfold aHi
  rw [View.ld_unit_apply_of _ _ _ _ _ (ix2 a (⟨512 + k.val, by omega⟩ : Fin 1024)) (fun x => by match x with
    | ⟨0, _⟩ => show a.val = 0 + a.val; omega
    | ⟨1, _⟩ => show 512 + k.val = 512 + k.val; rfl)]
  exact read0 m c t a _
theorem readLo (t : Fin cfg0.N) (a : Fin 1024) (k : Fin 512) :
    aLo (blk0 m c t) (ix2 a k) = nat2 (DU m c) (t.val / 4 * 1024 + a.val) (t.val % 4 * 1024 + k.val) := by
  unfold aLo
  rw [View.ld_unit_apply_of _ _ _ _ _ (ix2 a (⟨k.val, by omega⟩ : Fin 1024)) (fun x => by match x with
    | ⟨0, _⟩ => show a.val = 0 + a.val; omega
    | ⟨1, _⟩ => show k.val = 0 + k.val; omega)]
  exact read0 m c t a _
theorem readWHi (t : Fin cfg0.N) (j : Fin 1024) (k : Fin 512) :
    bHi (blk1 m c t) (ix3 (0 : Fin 1) j k) = nat2 (W m c) j.val (t.val % 4 * 1024 + (512 + k.val)) := by
  unfold bHi
  rw [View.ld_unit_apply_of _ _ _ _ _ (ix3 (1 : Fin 2) j k) (fun x => by match x with
    | ⟨0, _⟩ => rfl
    | ⟨1, _⟩ => show j.val = 0 + j.val; omega
    | ⟨2, _⟩ => show k.val = 0 + k.val; omega)]
  exact read1 m c t 1 j k
theorem readWLo (t : Fin cfg0.N) (j : Fin 1024) (k : Fin 512) :
    bLo (blk1 m c t) (ix3 (0 : Fin 1) j k) = nat2 (W m c) j.val (t.val % 4 * 1024 + k.val) := by
  unfold bLo
  rw [View.ld_unit_apply_of _ _ _ _ _ (ix3 (0 : Fin 2) j k) (fun x => by match x with
    | ⟨0, _⟩ => rfl
    | ⟨1, _⟩ => show j.val = 0 + j.val; omega
    | ⟨2, _⟩ => show k.val = 0 + k.val; omega)]
  refine (read1 m c t 0 j k).trans ?_
  rw [show ((0 : Fin 2) : Fin 2).val * 512 + k.val = k.val by show 0 * 512 + k.val = k.val; omega]

/-- One point's product is the next 1024 hidden units' terms. -/
theorem piece (t : Fin cfg0.N) (a b : Fin 1024) :
    ∑ k : Fin 512, aHi (blk0 m c t) (ix2 a k) * bHi (blk1 m c t) (ix3 (0 : Fin 1) b k) + ∑ k : Fin 512, aLo (blk0 m c t) (ix2 a k) * bLo (blk1 m c t) (ix3 (0 : Fin 1) b k)
      = ∑ k : Fin 1024, term (DU m c) (W m c) (t.val / 4 * 1024 + a.val) b.val (t.val % 4 * 1024 + k.val) := by
  rw [← Norm.two_halves (show 1024 = 512 + 512 from rfl)]
  simp only [readHi, readLo, readWHi, readWLo, term]

/-- What the accumulator holds after each point but a block's last. -/
theorem state (a b : Fin 1024) (n : ℕ) (h : n < cfg0.N) (hl : n % 4 + 1 < 4) :
    (outsAt0 m c n h).2.2.2 (ix2 a b) = upTo (term (DU m c) (W m c) (n / 4 * 1024 + a.val) b.val) (n % 4 * 1024 + 1024) := by
  refine sweep (fun n h => (outsAt0 m c n h).2.2.2 (ix2 a b)) (fun q => term (DU m c) (W m c) (q * 1024 + a.val) b.val) ?_ ?_ n h hl
  · intro n h h0
    rw [outsAt0_A m c ⟨n, h⟩ h0 (by show ¬(1 ≤ n % 4 ∧ n % 4 ≤ 2); omega) (by show ¬(n % 4 = 3); omega)]
    dsimp only
    rw [first, pay1]
    exact piece m c ⟨n, h⟩ a b
  · intro n h h0 hl
    rw [outsAt0_B m c ⟨n + 1, h⟩ h0 (by show 1 ≤ (n + 1) % 4 ∧ (n + 1) % 4 ≤ 2; omega) (by show ¬((n + 1) % 4 = 3); omega)]
    dsimp only
    rw [next, pay2]
    exact congrArg (_ + ·) (piece m c ⟨n + 1, h⟩ a b)

/-- What a point's predecessor left in the accumulator. -/
abbrev acc (t : Fin cfg0.N) : FVec Ideal S1024x1024 .f32 := (outsAt0 m c (t.val - 1) (Nat.lt_of_le_of_lt (Nat.sub_le _ _) t.isLt)).2.2.2

/-- A block's last point has the whole sum, and the input's gradient from it. -/
theorem whole (t : Fin cfg0.N) (hl : t.val % 4 = 3) (a b : Fin 1024) :
    k0_pay7 (F := Ideal) (acc m c t) (aHi (blk0 m c t)) (bHi (blk1 m c t)) (aLo (blk0 m c t)) (bLo (blk1 m c t)) (ix2 a b)
      = D (DU m c) (W m c) (t.val / 4 * 1024 + a.val) b := by
  have e := state m c a b (t.val - 1) (Nat.lt_of_le_of_lt (Nat.sub_le _ _) t.isLt) (by omega)
  rw [pay7, piece, D, show 4096 = 3072 + 1024 from rfl, upTo_add _ 3072 1024, hl]
  rw [show (t.val - 1) / 4 = t.val / 4 by omega, show (t.val - 1) % 4 * 1024 + 1024 = 3072 by omega] at e
  exact congrArg (· + _) e

theorem last_dx (t : Fin cfg0.N) (hl : t.val % 4 = 3) (a b : Fin 1024) :
    lastDx (blk0 m c t) (blk1 m c t) (blk2 m c t) (blk3 m c t) (blk4 m c t) (acc m c t) (ix2 a b)
      = dx (X m c) (NW m c) (W m c) (DU m c) (DXO m c) (t.val / 4 * 1024 + a.val) b := by
  unfold lastDx
  rw [pay_dx, read3]
  simp only [whole m c t hl, read2, read4]
  rfl

theorem last_dnw (t : Fin cfg0.N) (hl : t.val % 4 = 3) (b : Fin 1024) :
    k0_pay4 (F := Ideal) (k0_pay7 (acc m c t) (aHi (blk0 m c t)) (bHi (blk1 m c t)) (aLo (blk0 m c t)) (bLo (blk1 m c t))) (k0_pay9 (blk2 m c t)) (ix2 0 b)
      = ∑ k : Fin 1024, Norm.share (D (DU m c) (W m c)) (row (X m c)) b (t.val / 4 * 1024 + k.val) := by
  rw [pay_dnw]
  simp only [whole m c t hl, read2]
  rfl

/-- What a block's last point leaves in the first two results. -/
theorem outs_dx (t : Fin cfg0.N) (hl : t.val % 4 = 3) (a b : Fin 1024) :
    (outsAt0 m c t.val t.isLt).1 (ix2 a b) = dx (X m c) (NW m c) (W m c) (DU m c) (DXO m c) (t.val / 4 * 1024 + a.val) b := by
  by_cases h4 : 4 ≤ t.val
  · rw [outsAt0_D m c t (by omega) (by omega) hl (by omega) h4]
    dsimp only
    rw [lastD_dx]
    exact last_dx m c t hl a b
  · rw [outsAt0_C m c t (by omega) (by omega) hl (by omega) h4]
    dsimp only
    rw [lastC_dx]
    exact last_dx m c t hl a b
theorem outs_low (t : Fin cfg0.N) (hl : t.val % 4 = 3) (a b : Fin 1024) :
    (outsAt0 m c t.val t.isLt).2.1 (ix2 a b) = dx (X m c) (NW m c) (W m c) (DU m c) (DXO m c) (t.val / 4 * 1024 + a.val) b := by
  by_cases h4 : 4 ≤ t.val
  · rw [outsAt0_D m c t (by omega) (by omega) hl (by omega) h4]
    dsimp only
    rw [lastD_low, pay5]
    exact last_dx m c t hl a b
  · rw [outsAt0_C m c t (by omega) (by omega) hl (by omega) h4]
    dsimp only
    rw [lastC_low, pay5]
    exact last_dx m c t hl a b

/-- What the column sums are once a block is done. -/
theorem outs_dnw (b : Fin 1024) (n : ℕ) (h : n < cfg0.N) (hn : (n + 1) / 4 ≠ 0) :
    (outsAt0 m c n h).2.2.1 (ix2 0 b) = upTo (Norm.share (D (DU m c) (W m c)) (row (X m c)) b) ((n + 1) / 4 * 1024) := by
  refine Norm.columns (fun n h => (outsAt0 m c n h).2.2.1 (ix2 0 b)) (Norm.share (D (DU m c) (W m c)) (row (X m c)) b) (fun n => (n + 1) / 4) rfl
    (fun n => by omega) ?_ ?_ ?_ n h hn
  · intro n h e
    by_cases h0 : (n + 1) % 4 = 0
    · rw [outsAt0_A m c ⟨n + 1, h⟩ h0 (by show ¬(1 ≤ (n + 1) % 4 ∧ (n + 1) % 4 ≤ 2); omega) (by show ¬((n + 1) % 4 = 3); omega)]
      rfl
    · rw [outsAt0_B m c ⟨n + 1, h⟩ h0 (by show 1 ≤ (n + 1) % 4 ∧ (n + 1) % 4 ≤ 2; omega) (by show ¬((n + 1) % 4 = 3); omega)]
      rfl
  · intro n h e e'
    have hl : (⟨n + 1, h⟩ : Fin cfg0.N).val % 4 = 3 := by show (n + 1) % 4 = 3; omega
    rw [outsAt0_C m c ⟨n + 1, h⟩ (by show ¬(n + 1) % 4 = 0; omega) (by show ¬(1 ≤ (n + 1) % 4 ∧ (n + 1) % 4 ≤ 2); omega) hl (by show n + 1 < 4; omega) (by show ¬4 ≤ n + 1; omega)]
    dsimp only
    rw [lastC_dnw]
    exact last_dnw m c ⟨n + 1, h⟩ hl b
  · intro n h e e'
    have hl : (⟨n + 1, h⟩ : Fin cfg0.N).val % 4 = 3 := by show (n + 1) % 4 = 3; omega
    rw [outsAt0_D m c ⟨n + 1, h⟩ (by show ¬(n + 1) % 4 = 0; omega) (by show ¬(1 ≤ (n + 1) % 4 ∧ (n + 1) % 4 ≤ 2); omega) hl (by show ¬n + 1 < 4; omega) (by show 4 ≤ n + 1; omega)]
    dsimp only
    rw [lastD_dnw, pay6]
    exact congrArg (_ + ·) (last_dnw m c ⟨n + 1, h⟩ hl b)

/-- The kernel's first result. -/
theorem result_dx (t : Fin 4096) (j : Fin 1024) :
    (Value.G5 m c : FVec Ideal S4096x1024 .f32) (ix2 t j) = dx (X m c) (NW m c) (W m c) (DU m c) (DXO m c) t j := by
  have hp : Value.pt5Of (ix2 t j) = 4 * (t.val / 1024) + 3 := by
    show 4 * (1 * (t.val / 1024 - 0) + 1 * (j.val / 1024 - 0)) + 3 = _
    omega
  have hu : Value.pt5Of (ix2 t j) < cfg0.N := by rw [hp, show cfg0.N = 16 from N_0]; omega
  unfold Value.G5
  rw [dif_pos hu, ← Value.outsAt0_sweep m c _ hu]
  have hl : Value.loc5Of (ix2 t j) = ix2 (⟨t.val % 1024, by omega⟩ : Fin 1024) j := by
    funext x
    apply Fin.ext
    match x with
    | ⟨0, _⟩ => rfl
    | ⟨1, _⟩ => show j.val % 1024 = j.val; omega
  rw [hl]
  refine (outs_dx m c ⟨Value.pt5Of (ix2 t j), hu⟩ (by show Value.pt5Of (ix2 t j) % 4 = 3; omega) _ _).trans ?_
  show dx _ _ _ _ _ (Value.pt5Of (ix2 t j) / 4 * 1024 + t.val % 1024) j = _
  rw [show Value.pt5Of (ix2 t j) / 4 * 1024 + t.val % 1024 = t.val by omega]

/-- The kernel's second result. -/
theorem result_low (t : Fin 4096) (j : Fin 1024) :
    (Value.G6 m c : FVec Ideal S4096x1024 .bf16) (ix2 t j) = dx (X m c) (NW m c) (W m c) (DU m c) (DXO m c) t j := by
  have hp : Value.pt6Of (ix2 t j) = 4 * (t.val / 1024) + 3 := by
    show 4 * (1 * (t.val / 1024 - 0) + 1 * (j.val / 1024 - 0)) + 3 = _
    omega
  have hu : Value.pt6Of (ix2 t j) < cfg0.N := by rw [hp, show cfg0.N = 16 from N_0]; omega
  unfold Value.G6
  rw [dif_pos hu, ← Value.outsAt0_sweep m c _ hu]
  have hl : Value.loc6Of (ix2 t j) = ix2 (⟨t.val % 1024, by omega⟩ : Fin 1024) j := by
    funext x
    apply Fin.ext
    match x with
    | ⟨0, _⟩ => rfl
    | ⟨1, _⟩ => show j.val % 1024 = j.val; omega
  rw [hl]
  refine (outs_low m c ⟨Value.pt6Of (ix2 t j), hu⟩ (by show Value.pt6Of (ix2 t j) % 4 = 3; omega) _ _).trans ?_
  show dx _ _ _ _ _ (Value.pt6Of (ix2 t j) / 4 * 1024 + t.val % 1024) j = _
  rw [show Value.pt6Of (ix2 t j) / 4 * 1024 + t.val % 1024 = t.val by omega]

/-- The kernel's third result. -/
theorem result_dnw (j : Fin 1024) : (Value.G7 m c : FVec Ideal S1x1024 .f32) (ix2 0 j) = dnw (X m c) (W m c) (DU m c) j := by
  have hp : Value.pt7Of (ix2 0 j) = 15 := by
    show 16 * (1 * (0 / 1 - 0) + 1 * (j.val / 1024 - 0)) + 15 = _
    omega
  have hu : Value.pt7Of (ix2 0 j) < cfg0.N := by rw [hp, show cfg0.N = 16 from N_0]; omega
  unfold Value.G7
  rw [dif_pos hu, ← Value.outsAt0_sweep m c _ hu]
  have hl : Value.loc7Of (ix2 0 j) = ix2 0 j := by
    funext x
    apply Fin.ext
    match x with
    | ⟨0, _⟩ => rfl
    | ⟨1, _⟩ => show j.val % 1024 = j.val; omega
  rw [hl]
  refine (outs_dnw m c j _ hu (by omega)).trans ?_
  rw [show (Value.pt7Of (ix2 0 j) + 1) / 4 * 1024 = 4096 by omega]
  rfl

end Run

end Cert.DhIdeal.Body

namespace Cert.Proof

open Idealize.ShloMosaic Idealize.SL.Sem Cert.DhIdeal.Body Cert.Sums
open Cert.DhReferenceIdeal.Read

theorem dh_defs_eq : Cert.DhIdeal.defs₀ (F := Bits) = Cert.Dh.defs₀ (F := Bits) := by
  unfold Cert.Dh.defs₀ Cert.DhIdeal.defs₀
  congr 1
  funext l a
  match l, a with
  | 0, (t, s) => rfl

theorem frame_dh : Cert.quiescent_Dh := fun m g _ => by
  have h := Cert.DhIdeal.Gen.frame (F := Bits) m g
  unfold Cert.DhIdeal.defs at h
  rw [dh_defs_eq] at h
  exact h

theorem frame_dh_reference : Cert.quiescent_DhReferenceIdeal := fun m g _ => by
  refine (θ_run Cert.DhReferenceIdeal.defs _ _).mono (fun r h => ?_) (Cert.DhReferenceIdeal.Value.run (F := Ideal) m g)
  exact ⟨fun c => (h c).2.2.2, sem_eq_zero_of_no_sems (by decide) _⟩

section
variable (x : FVec Ideal Cert.DhReferenceIdeal.S4096x1024 .f32) (nw : FVec Ideal Cert.DhReferenceIdeal.S1x1024 .f32)
    (w : FVec Ideal Cert.DhReferenceIdeal.S1024x4096 .f32) (du : FVec Ideal Cert.DhReferenceIdeal.S4096x4096 .bf16) (dxo : FVec Ideal Cert.DhReferenceIdeal.S4096x1024 .f32)
    (t : Fin 4096) (j : Fin 1024)

theorem dh_product : val_main_v17 (F := Ideal) w du (ix2 t j) = D du w t j := by
  rw [D, upTo_first]
  pointwise [val_main_v17, val_main_v16, val_main_v15]
  refine Finset.sum_congr rfl fun k _ => ?_
  unfold term
  rw [nat2_fin, nat2_fin]

theorem dh_dx : val_main_v37 (F := Ideal) x nw w du dxo (ix2 t j) = dx x nw w du dxo t j := by
  have hr : ∀ (y : FVec Ideal Cert.DhReferenceIdeal.S4096x1024 .f32) (b : Fin 1024), y (ix2 t b) = row y t b := fun y b => (nat2_fin y t b).symm
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6]
  simp only [dh_product]
  simp only [hr]
  rw [dx, Norm.grad_eq]
  rfl

theorem dh_low : val_main_v38 (F := Ideal) x nw w du dxo (ix2 t j) = dx x nw w du dxo t j := by
  rw [← dh_dx]
  rfl

theorem dh_dnw : val_main_v20 (F := Ideal) x w du (ix2 0 j) = dnw x w du j := by
  rw [dnw, upTo_first]
  pointwise [val_main_v20, val_main_v19, val_main_v18, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  refine Finset.sum_congr rfl fun t _ => ?_
  have hr : ∀ (b : Fin 1024), x (ix2 t b) = row x t b := fun b => (nat2_fin x t b).symm
  simp only [dh_product]
  simp only [hr]
  exact mul_comm _ _

end

theorem agree_dh : Cert.algebraic_DhIdeal_DhReferenceIdeal := by
  intro m g m' g' _ hargs
  refine ⟨fun (c : Dev Cert.DhIdeal.nD) (i : (⟨2, ![4096, 1024]⟩ : Shape).Idx) => dx (X m c) (NW m c) (W m c) (DU m c) (DXO m c) (i 0).val (i 1),
    fun (c : Dev Cert.DhIdeal.nD) (i : (⟨2, ![4096, 1024]⟩ : Shape).Idx) => dx (X m c) (NW m c) (W m c) (DU m c) (DXO m c) (i 0).val (i 1),
    fun (c : Dev Cert.DhIdeal.nD) (i : (⟨2, ![1, 1024]⟩ : Shape).Idx) => dnw (X m c) (W m c) (DU m c) (i 1), ?_, ?_⟩
  · refine (θ_run Cert.DhIdeal.defs _ _).mono (fun r h c => ⟨?_, ?_, ?_, (h c).2.2.2⟩) (Cert.DhIdeal.Value.run (F := Ideal) m g)
    · rw [(h c).1]
      funext i
      obtain ⟨t, j, rfl⟩ : ∃ (t : Fin 4096) (j : Fin 1024), i = ix2 t j := ⟨i 0, i 1, eq_ix2 i⟩
      exact result_dx m c t j
    · rw [(h c).2.1]
      funext i
      obtain ⟨t, j, rfl⟩ : ∃ (t : Fin 4096) (j : Fin 1024), i = ix2 t j := ⟨i 0, i 1, eq_ix2 i⟩
      exact result_low m c t j
    · rw [(h c).2.2.1]
      funext i
      obtain ⟨t, j, rfl⟩ : ∃ (t : Fin 1) (j : Fin 1024), i = ix2 t j := ⟨i 0, i 1, eq_ix2 i⟩
      obtain rfl : t = 0 := Subsingleton.elim _ _
      exact result_dnw m c j
  · refine (θ_run Cert.DhReferenceIdeal.defs _ _).mono (fun r h c => ⟨?_, ?_, ?_, (h c).2.2.2⟩) (Cert.DhReferenceIdeal.Value.run (F := Ideal) m' g')
    · rw [(h c).1]
      funext i
      obtain ⟨t, j, rfl⟩ : ∃ (t : Fin 4096) (j : Fin 1024), i = ix2 t j := ⟨i 0, i 1, eq_ix2 i⟩
      refine (congrFun (val_main_v37_eq m' c) (ix2 t j)).trans ?_
      rw [(hargs c).1, (hargs c).2.1, (hargs c).2.2.1, (hargs c).2.2.2.1, (hargs c).2.2.2.2]
      exact dh_dx _ _ _ _ _ t j
    · rw [(h c).2.1]
      funext i
      obtain ⟨t, j, rfl⟩ : ∃ (t : Fin 4096) (j : Fin 1024), i = ix2 t j := ⟨i 0, i 1, eq_ix2 i⟩
      refine (congrFun (val_main_v38_eq m' c) (ix2 t j)).trans ?_
      rw [(hargs c).1, (hargs c).2.1, (hargs c).2.2.1, (hargs c).2.2.2.1, (hargs c).2.2.2.2]
      exact dh_low _ _ _ _ _ t j
    · rw [(h c).2.2.1]
      funext i
      obtain ⟨t, j, rfl⟩ : ∃ (t : Fin 1) (j : Fin 1024), i = ix2 t j := ⟨i 0, i 1, eq_ix2 i⟩
      obtain rfl : t = 0 := Subsingleton.elim _ _
      refine (congrFun (val_main_v20_eq _ _ _) (ix2 0 j)).trans ?_
      rw [(hargs c).1, (hargs c).2.2.1, (hargs c).2.2.2.1]
      exact dh_dnw _ _ _ j

end Cert.Proof

end
-- ==== Proof.InEvenValue.lean ====
/- The even layer's input projection: the frames, and the kernel's result beside the reference's. -/
module

public import proofs.«01_k».proof.Defs
public import proofs.«01_k».proof.Proof.Gen.InEven
public import proofs.«01_k».proof.Proof.Gen.InEvenIdeal.Value
public import proofs.«01_k».proof.Proof.Gen.InEvenReferenceIdeal
public import proofs.«01_k».proof.Proof.Gen.InEvenReferenceIdeal.Read
public import Idealize.ShloMosaic.Adequacy
public import Idealize.ShloMosaic.Init
public import Idealize.ShloMosaic.Lib.Claim
public import Idealize.ShloMosaic.Lib.Pointwise
public import Idealize.ShloMosaic.Lib.Pipeline.ValueKit.Basic

@[expose] public section

noncomputable section

namespace Cert.InEvenIdeal.Body

open Cert.InEvenIdeal Cert.InEvenIdeal.Gen Idealize.ShloMosaic Idealize.ShloMosaic.TcCoe Idealize.SL.Sem

/-- One result: a token's row times a feature's column. -/
def proj (h : FVec Ideal S4096x1024 .f32) (w : FVec Ideal S1024x3072 .f32) (t : Fin 4096) (j : Fin 3072) : EReal :=
  ∑ k : Fin 1024, h (ix2 t k) * w (ix2 k j)

theorem pay (a : FVec Ideal S4096x1024 .bf16) (b : FVec Ideal S1x1024x384 .bf16) (t : Fin 4096) (j : Fin 384) :
    k0_pay1 (F := Ideal) a b (ix2 t j) = ∑ k : Fin 1024, a (ix2 t k) * b (ix3 (0 : Fin 1) k j) := by
  pointwise [k0_pay1]

section Run
variable (m : (ℓ : Loc nD τ sig) → Buf (Elt Ideal) ℓ) (c : Dev nD)

theorem host_h (t : Fin 4096) (k : Fin 1024) :
    (V m c main_v0 : FVec Ideal S4096x1024 .bf16) (ix2 t k) = (m ((c : Thread nD τ).loc main_arg0) : FVec Ideal S4096x1024 .f32) (ix2 t k) := by
  entry_read
  rfl

theorem shards_apply (w : FVec Ideal S1024x3072 .f32) (s : Fin 8) (k : Fin 1024) (j : Fin 384) :
    (truncf .bf16 (transpose S8x1024x384 [1, 0, 2] (shapeCast S1024x8x384 w shapeCasts_S1024x3072_S1024x8x384) transposes_S1024x8x384_S8x1024x384_1_0_2) bitsLt_bf16_f32 : FVec Ideal S8x1024x384 .bf16) (ix3 s k j)
      = w (ix2 k (⟨s.val * 384 + j.val, by omega⟩ : Fin 3072)) := by
  pointwise []

theorem host_w (s : Fin 8) (k : Fin 1024) (j : Fin 384) :
    (V m c main_v3 : FVec Ideal S8x1024x384 .bf16) (ix3 s k j)
      = (m ((c : Thread nD τ).loc main_arg1) : FVec Ideal S1024x3072 .f32) (ix2 k (⟨s.val * 384 + j.val, by omega⟩ : Fin 3072)) := by
  entry_read
  exact shards_apply _ s k j

theorem ix0 : ∀ t : Fin grid0.N, win0_0.index t = ![0, 0] := by decide +kernel
theorem ix1 : ∀ t : Fin grid0.N, win0_1.index t = ![t.val, 0, 0] := by decide +kernel
theorem ix2' : ∀ t : Fin grid0.N, win0_2.index t = ![0, t.val] := by decide +kernel

theorem read0 (t : Fin cfg0.N) (a : Fin 4096) (k : Fin 1024) :
    (iblk m c 0 t : FVec Ideal S4096x1024 .bf16) (ix2 a k) = (m ((c : Thread nD τ).loc main_arg0) : FVec Ideal S4096x1024 .f32) (ix2 a k) := by
  refine Eq.trans ?_ (host_h m c a k)
  unfold iblk
  rw [View.read_apply]
  show V m c main_v0 _ = _
  congr 1
  funext x
  apply Fin.ext
  match x with
  | ⟨0, _⟩ => show win0_0.index t 0 * 4096 + 1 * a.val = a.val; rw [congrFun (ix0 t) 0]; show 0 * 4096 + 1 * a.val = _; omega
  | ⟨1, _⟩ => show win0_0.index t 1 * 1024 + 1 * k.val = k.val; rw [congrFun (ix0 t) 1]; show 0 * 1024 + 1 * k.val = _; omega

theorem read1 (t : Fin cfg0.N) (k : Fin 1024) (j : Fin 384) :
    (iblk m c 1 t : FVec Ideal S1x1024x384 .bf16) (ix3 (0 : Fin 1) k j)
      = (m ((c : Thread nD τ).loc main_arg1) : FVec Ideal S1024x3072 .f32) (ix2 k (⟨t.val * 384 + j.val, by have := lt_of_lt_of_eq t.isLt N_0; omega⟩ : Fin 3072)) := by
  rw [← host_w m c (⟨t.val, lt_of_lt_of_eq t.isLt N_0⟩ : Fin 8) k j]
  unfold iblk
  rw [View.read_apply]
  show V m c main_v3 _ = _
  congr 1
  funext x
  apply Fin.ext
  match x with
  | ⟨0, _⟩ => show win0_1.index t 0 * 1 + 1 * 0 = t.val; rw [congrFun (ix1 t) 0]; show t.val * 1 + 1 * 0 = _; omega
  | ⟨1, _⟩ => show win0_1.index t 1 * 1024 + 1 * k.val = k.val; rw [congrFun (ix1 t) 1]; show 0 * 1024 + 1 * k.val = _; omega
  | ⟨2, _⟩ => show win0_1.index t 2 * 384 + 1 * j.val = j.val; rw [congrFun (ix1 t) 2]; show 0 * 384 + 1 * j.val = _; omega

/-- The kernel's result, read at an index. -/
theorem result (t : Fin 4096) (j : Fin 3072) :
    ((dats m 0 c).arrAt 2 cfg0.N : FVec Ideal S4096x3072 .f32) (ix2 t j) = proj (m ((c : Thread nD τ).loc main_arg0)) (m ((c : Thread nD τ).loc main_arg1)) t j := by
  have hu : j.val / 384 < cfg0.N := by rw [show cfg0.N = 8 from N_0]; omega
  have hr : ((cfg0.win 2).blk ⟨j.val / 384, hu⟩).view.emb (ix2 t (⟨j.val % 384, by omega⟩ : Fin 384)) = (ix2 t j : S4096x3072.Idx) := by
    funext x
    apply Fin.ext
    match x with
    | ⟨0, _⟩ => show win0_2.index ⟨j.val / 384, hu⟩ 0 * 4096 + 1 * t.val = t.val; rw [congrFun (ix2' ⟨j.val / 384, hu⟩) 0]; show 0 * 4096 + 1 * t.val = _; omega
    | ⟨1, _⟩ => show win0_2.index ⟨j.val / 384, hu⟩ 1 * 384 + 1 * (j.val % 384) = j.val; rw [congrFun (ix2' ⟨j.val / 384, hu⟩) 1]; show j.val / 384 * 384 + 1 * (j.val % 384) = _; omega
  have h := congrFun ((Value.blocks2 m c ⟨j.val / 384, hu⟩ (flush0_2 _)).trans (Value.flushed2 m c ⟨j.val / 384, hu⟩)) (ix2 t (⟨j.val % 384, by omega⟩ : Fin 384))
  rw [View.read_apply, hr] at h
  refine h.trans ?_
  show out0_2 (F := Ideal) (iblk m c 0 _) (iblk m c 1 _) (ix2 t (⟨j.val % 384, by omega⟩ : Fin 384)) = _
  unfold out0_2
  rw [View.canon_cons_unit_lit _ _ _ (by decide), View.ld_unit_lit _ _ (by decide), View.ld_unit_lit _ _ (by decide), pay]
  simp only [read0, read1]
  unfold proj
  have e : (⟨j.val / 384 * 384 + j.val % 384, by omega⟩ : Fin 3072) = j := Fin.ext (by show j.val / 384 * 384 + j.val % 384 = j.val; omega)
  rw [e]

end Run

end Cert.InEvenIdeal.Body

namespace Cert.Proof

open Idealize.ShloMosaic Idealize.SL.Sem Cert.InEvenIdeal.Body

theorem ineven_defs_eq : Cert.InEvenIdeal.defs₀ (F := Bits) = Cert.InEven.defs₀ (F := Bits) := by
  unfold Cert.InEven.defs₀ Cert.InEvenIdeal.defs₀
  congr 1
  funext l a
  match l, a with
  | 0, (t, s) => rfl

theorem frame_ineven : Cert.quiescent_InEven := fun m g _ => by
  have h := Cert.InEvenIdeal.Gen.frame (F := Bits) m g
  unfold Cert.InEvenIdeal.defs at h
  rw [ineven_defs_eq] at h
  exact h

theorem frame_ineven_reference : Cert.quiescent_InEvenReferenceIdeal := fun m g _ => by
  refine (θ_run Cert.InEvenReferenceIdeal.defs _ _).mono (fun r h => ?_) (Cert.InEvenReferenceIdeal.Value.run (F := Ideal) m g)
  exact ⟨fun c => (h c).2, sem_eq_zero_of_no_sems (by decide) _⟩

theorem ineven_reference (h : FVec Ideal Cert.InEvenReferenceIdeal.S4096x1024 .f32) (w : FVec Ideal Cert.InEvenReferenceIdeal.S1024x3072 .f32) (t : Fin 4096) (j : Fin 3072) :
    Cert.InEvenReferenceIdeal.Read.val_main_v0 (F := Ideal) h w (ix2 t j) = proj h w t j := by
  pointwise [Cert.InEvenReferenceIdeal.Read.val_main_v0]
  rfl

theorem agree_ineven : Cert.algebraic_InEvenIdeal_InEvenReferenceIdeal := by
  intro m g m' g' _ hargs
  refine ⟨fun (c : Dev Cert.InEvenIdeal.nD) (i : (⟨2, ![4096, 3072]⟩ : Shape).Idx) =>
    proj (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (i 0) (i 1), ?_, ?_⟩
  · refine (θ_run Cert.InEvenIdeal.defs _ _).mono (fun r h c => ⟨?_, (h c).2⟩) (Cert.InEvenIdeal.Value.run_blocks (F := Ideal) m g)
    rw [(h c).1]
    funext i
    obtain ⟨t, j, rfl⟩ : ∃ (t : Fin 4096) (j : Fin 3072), i = ix2 t j := ⟨i 0, i 1, eq_ix2 i⟩
    exact result m c t j
  · refine (θ_run Cert.InEvenReferenceIdeal.defs _ _).mono (fun r h c => ⟨?_, (h c).2⟩) (Cert.InEvenReferenceIdeal.Value.run (F := Ideal) m' g')
    rw [(h c).1]
    funext i
    obtain ⟨t, j, rfl⟩ : ∃ (t : Fin 4096) (j : Fin 3072), i = ix2 t j := ⟨i 0, i 1, eq_ix2 i⟩
    refine (congrFun (Cert.InEvenReferenceIdeal.Read.val_main_v0_eq _ _) (ix2 t j)).trans ?_
    rw [(hargs c).1, (hargs c).2]
    exact ineven_reference _ _ t j

end Cert.Proof

end
-- ==== Proof.InOddValue.lean ====
/- The odd layer's input projection: the frames, and the kernel's result beside the reference's. -/
module

public import proofs.«01_k».proof.Defs
public import proofs.«01_k».proof.Proof.Gen.InOdd
public import proofs.«01_k».proof.Proof.Gen.InOddIdeal.Value
public import proofs.«01_k».proof.Proof.Gen.InOddReferenceIdeal
public import proofs.«01_k».proof.Proof.Gen.InOddReferenceIdeal.Read
public import Idealize.ShloMosaic.Adequacy
public import Idealize.ShloMosaic.Init
public import Idealize.ShloMosaic.Lib.Claim
public import Idealize.ShloMosaic.Lib.Pointwise
public import Idealize.ShloMosaic.Lib.Pipeline.ValueKit.Basic

@[expose] public section

noncomputable section

namespace Cert.InOddIdeal.Body

open Cert.InOddIdeal Cert.InOddIdeal.Gen Idealize.ShloMosaic Idealize.ShloMosaic.TcCoe Idealize.SL.Sem

/-- One result: a token's row times a feature's column. -/
def proj (h : FVec Ideal S4096x1024 .f32) (w : FVec Ideal S1024x4224 .f32) (t : Fin 4096) (j : Fin 4224) : EReal :=
  ∑ k : Fin 1024, h (ix2 t k) * w (ix2 k j)

theorem pay (a : FVec Ideal S2048x1024 .bf16) (b : FVec Ideal S1024x1408 .bf16) (t : Fin 2048) (j : Fin 1408) :
    k0_pay1 (F := Ideal) a b (ix2 t j) = ∑ k : Fin 1024, a (ix2 t k) * b (ix2 k j) := by
  pointwise [k0_pay1]

section Run
variable (m : (ℓ : Loc nD τ sig) → Buf (Elt Ideal) ℓ) (c : Dev nD)

theorem host_h (t : Fin 4096) (k : Fin 1024) :
    (V m c main_v0 : FVec Ideal S4096x1024 .bf16) (ix2 t k) = (m ((c : Thread nD τ).loc main_arg0) : FVec Ideal S4096x1024 .f32) (ix2 t k) := by
  entry_read
  rfl

theorem host_w (k : Fin 1024) (j : Fin 4224) :
    (V m c main_v1 : FVec Ideal S1024x4224 .bf16) (ix2 k j) = (m ((c : Thread nD τ).loc main_arg1) : FVec Ideal S1024x4224 .f32) (ix2 k j) := by
  entry_read
  rfl

theorem ix0 : ∀ t : Fin grid0.N, win0_0.index t = ![t.val / 3, 0] := by decide +kernel
theorem ix1 : ∀ t : Fin grid0.N, win0_1.index t = ![0, t.val % 3] := by decide +kernel
theorem ix2' : ∀ t : Fin grid0.N, win0_2.index t = ![t.val / 3, t.val % 3] := by decide +kernel

theorem read0 (t : Fin cfg0.N) (a : Fin 2048) (k : Fin 1024) :
    (iblk m c 0 t : FVec Ideal S2048x1024 .bf16) (ix2 a k)
      = (m ((c : Thread nD τ).loc main_arg0) : FVec Ideal S4096x1024 .f32) (ix2 (⟨t.val / 3 * 2048 + a.val, by have := lt_of_lt_of_eq t.isLt N_0; omega⟩ : Fin 4096) k) := by
  refine Eq.trans ?_ (host_h m c _ k)
  unfold iblk
  rw [View.read_apply]
  show V m c main_v0 _ = _
  congr 1
  funext x
  apply Fin.ext
  match x with
  | ⟨0, _⟩ => show win0_0.index t 0 * 2048 + 1 * a.val = t.val / 3 * 2048 + a.val; rw [congrFun (ix0 t) 0]; show t.val / 3 * 2048 + 1 * a.val = _; omega
  | ⟨1, _⟩ => show win0_0.index t 1 * 1024 + 1 * k.val = k.val; rw [congrFun (ix0 t) 1]; show 0 * 1024 + 1 * k.val = _; omega

theorem read1 (t : Fin cfg0.N) (k : Fin 1024) (j : Fin 1408) :
    (iblk m c 1 t : FVec Ideal S1024x1408 .bf16) (ix2 k j)
      = (m ((c : Thread nD τ).loc main_arg1) : FVec Ideal S1024x4224 .f32) (ix2 k (⟨t.val % 3 * 1408 + j.val, by omega⟩ : Fin 4224)) := by
  refine Eq.trans ?_ (host_w m c k _)
  unfold iblk
  rw [View.read_apply]
  show V m c main_v1 _ = _
  congr 1
  funext x
  apply Fin.ext
  match x with
  | ⟨0, _⟩ => show win0_1.index t 0 * 1024 + 1 * k.val = k.val; rw [congrFun (ix1 t) 0]; show 0 * 1024 + 1 * k.val = _; omega
  | ⟨1, _⟩ => show win0_1.index t 1 * 1408 + 1 * j.val = t.val % 3 * 1408 + j.val; rw [congrFun (ix1 t) 1]; show t.val % 3 * 1408 + 1 * j.val = _; omega

/-- The kernel's result, read at an index. -/
theorem result (t : Fin 4096) (j : Fin 4224) :
    ((dats m 0 c).arrAt 2 cfg0.N : FVec Ideal S4096x4224 .f32) (ix2 t j) = proj (m ((c : Thread nD τ).loc main_arg0)) (m ((c : Thread nD τ).loc main_arg1)) t j := by
  obtain ⟨u, hu, hd, hm⟩ : ∃ u, u < cfg0.N ∧ u / 3 = t.val / 2048 ∧ u % 3 = j.val / 1408 :=
    ⟨t.val / 2048 * 3 + j.val / 1408, by rw [show cfg0.N = 6 from N_0]; omega, by omega, by omega⟩
  have hr : ((cfg0.win 2).blk ⟨u, hu⟩).view.emb (ix2 (⟨t.val % 2048, by omega⟩ : Fin 2048) (⟨j.val % 1408, by omega⟩ : Fin 1408)) = (ix2 t j : S4096x4224.Idx) := by
    funext x
    apply Fin.ext
    match x with
    | ⟨0, _⟩ => show win0_2.index ⟨u, hu⟩ 0 * 2048 + 1 * (t.val % 2048) = t.val; rw [congrFun (ix2' ⟨u, hu⟩) 0]; show u / 3 * 2048 + 1 * (t.val % 2048) = _; omega
    | ⟨1, _⟩ => show win0_2.index ⟨u, hu⟩ 1 * 1408 + 1 * (j.val % 1408) = j.val; rw [congrFun (ix2' ⟨u, hu⟩) 1]; show u % 3 * 1408 + 1 * (j.val % 1408) = _; omega
  have h := congrFun ((Value.blocks2 m c ⟨u, hu⟩ (flush0_2 _)).trans (Value.flushed2 m c ⟨u, hu⟩)) (ix2 (⟨t.val % 2048, by omega⟩ : Fin 2048) (⟨j.val % 1408, by omega⟩ : Fin 1408))
  rw [View.read_apply, hr] at h
  refine h.trans ?_
  show out0_2 (F := Ideal) (iblk m c 0 _) (iblk m c 1 _) (ix2 (⟨t.val % 2048, by omega⟩ : Fin 2048) (⟨j.val % 1408, by omega⟩ : Fin 1408)) = _
  unfold out0_2
  rw [View.canon_cons_unit_lit _ _ _ (by decide), View.ld_unit_lit _ _ (by decide), View.ld_unit_lit _ _ (by decide), pay]
  simp only [read0, read1]
  unfold proj
  have e0 : (⟨u / 3 * 2048 + t.val % 2048, by omega⟩ : Fin 4096) = t := Fin.ext (by show u / 3 * 2048 + t.val % 2048 = t.val; omega)
  have e1 : (⟨u % 3 * 1408 + j.val % 1408, by omega⟩ : Fin 4224) = j := Fin.ext (by show u % 3 * 1408 + j.val % 1408 = j.val; omega)
  rw [e0, e1]

end Run

end Cert.InOddIdeal.Body

namespace Cert.Proof

open Idealize.ShloMosaic Idealize.SL.Sem Cert.InOddIdeal.Body

theorem inodd_defs_eq : Cert.InOddIdeal.defs₀ (F := Bits) = Cert.InOdd.defs₀ (F := Bits) := by
  unfold Cert.InOdd.defs₀ Cert.InOddIdeal.defs₀
  congr 1
  funext l a
  match l, a with
  | 0, (t, s) => rfl

theorem frame_inodd : Cert.quiescent_InOdd := fun m g _ => by
  have h := Cert.InOddIdeal.Gen.frame (F := Bits) m g
  unfold Cert.InOddIdeal.defs at h
  rw [inodd_defs_eq] at h
  exact h

theorem frame_inodd_reference : Cert.quiescent_InOddReferenceIdeal := fun m g _ => by
  refine (θ_run Cert.InOddReferenceIdeal.defs _ _).mono (fun r h => ?_) (Cert.InOddReferenceIdeal.Value.run (F := Ideal) m g)
  exact ⟨fun c => (h c).2, sem_eq_zero_of_no_sems (by decide) _⟩

theorem inodd_reference (h : FVec Ideal Cert.InOddReferenceIdeal.S4096x1024 .f32) (w : FVec Ideal Cert.InOddReferenceIdeal.S1024x4224 .f32) (t : Fin 4096) (j : Fin 4224) :
    Cert.InOddReferenceIdeal.Read.val_main_v0 (F := Ideal) h w (ix2 t j) = proj h w t j := by
  pointwise [Cert.InOddReferenceIdeal.Read.val_main_v0]
  rfl

theorem agree_inodd : Cert.algebraic_InOddIdeal_InOddReferenceIdeal := by
  intro m g m' g' _ hargs
  refine ⟨fun (c : Dev Cert.InOddIdeal.nD) (i : (⟨2, ![4096, 4224]⟩ : Shape).Idx) =>
    proj (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (i 0) (i 1), ?_, ?_⟩
  · refine (θ_run Cert.InOddIdeal.defs _ _).mono (fun r h c => ⟨?_, (h c).2⟩) (Cert.InOddIdeal.Value.run_blocks (F := Ideal) m g)
    rw [(h c).1]
    funext i
    obtain ⟨t, j, rfl⟩ : ∃ (t : Fin 4096) (j : Fin 4224), i = ix2 t j := ⟨i 0, i 1, eq_ix2 i⟩
    exact result m c t j
  · refine (θ_run Cert.InOddReferenceIdeal.defs _ _).mono (fun r h c => ⟨?_, (h c).2⟩) (Cert.InOddReferenceIdeal.Value.run (F := Ideal) m' g')
    rw [(h c).1]
    funext i
    obtain ⟨t, j, rfl⟩ : ∃ (t : Fin 4096) (j : Fin 4224), i = ix2 t j := ⟨i 0, i 1, eq_ix2 i⟩
    refine (congrFun (Cert.InOddReferenceIdeal.Read.val_main_v0_eq _ _) (ix2 t j)).trans ?_
    rw [(hargs c).1, (hargs c).2]
    exact inodd_reference _ _ t j

end Cert.Proof

end
-- ==== Proof.InEvenDwValue.lean ====
/- The gradient of the even layer's input projection: the frames, and the kernel's result beside the reference's. -/
module

public import proofs.«01_k».proof.Defs
public import proofs.«01_k».proof.Proof.Sums
public import proofs.«01_k».proof.Proof.Gen.InEvenDw
public import proofs.«01_k».proof.Proof.Gen.InEvenDwIdeal.Value
public import proofs.«01_k».proof.Proof.Gen.InEvenDwReferenceIdeal
public import proofs.«01_k».proof.Proof.Gen.InEvenDwReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.InEvenDwIdeal.Body

open Cert.InEvenDwIdeal Cert.InEvenDwIdeal.Gen Idealize.ShloMosaic Idealize.ShloMosaic.TcCoe Idealize.SL.Sem Cert.Sums
open Cert.InEvenDwReferenceIdeal.Read (val_main_v11)

/-- One token's part of one entry: the normed input times what comes back. -/
def term (x : FVec Ideal S4096x1024 .f32) (du : FVec Ideal S4096x3072 .bf16) (j n : ℕ) (t : ℕ) : EReal :=
  nat2 x t j * nat2 du t n

section Pays
variable (a : FVec Ideal S1024x1024 .bf16) (b : FVec Ideal S1024x768 .bf16) (acc : FVec Ideal S1024x768 .f32) (i : Fin 1024) (j : Fin 768)

theorem pay1 : k0_pay1 (F := Ideal) a b (ix2 i j) = ∑ k : Fin 1024, a (ix2 k i) * b (ix2 k j) := by
  pointwise [k0_pay1]
theorem pay2 : k0_pay2 (F := Ideal) acc a b (ix2 i j) = acc (ix2 i j) + ∑ k : Fin 1024, a (ix2 k i) * b (ix2 k j) := by
  pointwise [k0_pay2]
theorem pay4 (j : Fin 384) : k0_pay4 (F := Ideal) acc a b (ix3 0 i j) = acc (ix2 i ⟨j.val, by omega⟩) + ∑ k : Fin 1024, a (ix2 k i) * b (ix2 k ⟨j.val, by omega⟩) := by
  pointwise [k0_pay4, k0_pay3]
theorem pay5 (j : Fin 384) : k0_pay5 (F := Ideal) acc a b (ix3 0 i j) = acc (ix2 i ⟨384 + j.val, by omega⟩) + ∑ k : Fin 1024, a (ix2 k i) * b (ix2 k ⟨384 + j.val, by omega⟩) := by
  pointwise [k0_pay5, k0_pay3]

end Pays

section Runs
/-- A load of a whole block reads the block. -/
theorem ld_whole {e : EltTy} (inb : ∀ a, (![0, 0] : Fin 2 → ℕ) a + S1024x1024.size a ≤ S1024x1024.size a) (X : S1024x1024.Idx → Elt Ideal e) :
    View.ld X (Rect.unit (s := S1024x1024) ![0, 0] ![1024, 1024] inb) = X := View.ld_unit_lit inb X (by decide)
/-- The same for the other operand's blocks. -/
theorem ld_wide {e : EltTy} (inb : ∀ a, (![0, 0] : Fin 2 → ℕ) a + S1024x768.size a ≤ S1024x768.size a) (X : S1024x768.Idx → Elt Ideal e) :
    View.ld X (Rect.unit (s := S1024x768) ![0, 0] ![1024, 768] inb) = X := View.ld_unit_lit inb X (by decide)

variable (c : Dev nD) (i : grid0.Coords) (arg3 : Memref sig .tc .vmem S1024x1024 .bf16) (harg3 : arg3.IsWhole) (arg4 : Memref sig .tc .vmem S1024x768 .bf16) (harg4 : arg4.IsWhole)
  (arg5 : Memref sig .tc .vmem S2x1024x384 .bf16) (harg5 : arg5.IsWhole) (arg6 : Memref sig .tc .vmem S1024x768 .f32) (harg6 : arg6.IsWhole)
  (x0 : FVec Ideal S1024x1024 .bf16) (x1 : FVec Ideal S1024x768 .bf16) (xs : FVec Ideal S1024x768 .f32)

theorem first (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 (F := Ideal) x0 x1 := by
  unfold sout0_A_0 kernelRun0_A
  dsimp only
  sl_unfold_words
  rw [View.read_writes_junk_eq_canon, View.canon_cons_unit_lit _ _ _ (by decide)]
  simp only [View.readAt_eq_ld, harg3.read_unread, harg4.read_unread, ld_whole, ld_wide]

theorem next (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay2 (F := Ideal) xs x0 x1 := by
  unfold sout0_B_0 kernelRun0_B
  dsimp only
  sl_unfold_words
  rw [View.read_writes_junk_eq_canon, View.canon_cons_unit_lit _ _ _ (by decide)]
  simp only [View.readAt_eq_ld, harg3.read_unread, harg4.read_unread, harg6.read_unread, ld_whole, ld_wide]

theorem last (hc0 : ¬cond0_0 i) (hc1 : ¬cond0_1 i) (hc2 : cond0_2 i) (s : Fin 2) (a : Fin 1024) (j : Fin 384) :
    (out0_C_2 (F := Ideal) c i arg3 harg3 arg4 harg4 arg5 harg5 arg6 harg6 hc0 hc1 hc2 x0 x1 xs : FVec Ideal S2x1024x384 .bf16) (ix3 s a j)
      = xs (ix2 a ⟨s.val * 384 + j.val, by omega⟩) + ∑ k : Fin 1024, x0 (ix2 k a) * x1 (ix2 k ⟨s.val * 384 + j.val, by omega⟩) := by
  unfold out0_C_2 kernelRun0_C
  dsimp only
  sl_unfold_words
  rw [View.read_writes_junk_eq_canon]
  simp only [View.readAt_eq_ld, harg3.read_unread, harg4.read_unread, harg6.read_unread, ld_whole, ld_wide]
  canon_tiles y h using (View.cover_of_tiled_head _ _ _ (by rfl) _)
  · obtain rfl : y = ix3 0 a j := by
      funext e
      match e with
      | ⟨0, _⟩ => exact Fin.ext (Nat.lt_one_iff.mp y0_lt)
      | ⟨1, _⟩ => exact Fin.ext h1.symm
      | ⟨2, _⟩ => exact Fin.ext h2.symm
    obtain rfl : s = 1 := Fin.ext h0
    rw [pay5]
    rfl
  · obtain rfl : y = ix3 0 a j := by
      funext e
      match e with
      | ⟨0, _⟩ => exact Fin.ext (Nat.lt_one_iff.mp y0_lt)
      | ⟨1, _⟩ => exact Fin.ext h1.symm
      | ⟨2, _⟩ => exact Fin.ext h2.symm
    obtain rfl : s = 0 := Fin.ext (h0.trans (Nat.lt_one_iff.mp y0_lt))
    rw [pay4]
    simp only [Fin.val_zero, Nat.zero_mul, Nat.zero_add]

end Runs

section Run
variable (m : (ℓ : Loc nD τ sig) → Buf (Elt Ideal) ℓ) (c : Dev nD)

/-- The normed input, and what comes back. -/
def X : FVec Ideal S4096x1024 .f32 := val_main_v11 (F := Ideal) (m ((c : Thread nD τ).loc main_arg0)) (m ((c : Thread nD τ).loc main_arg1))
def DU : FVec Ideal S4096x3072 .bf16 := m ((c : Thread nD τ).loc main_arg2)

theorem host_x (t : Fin 4096) (j : Fin 1024) : (V m c main_v12 : FVec Ideal S4096x1024 .bf16) (ix2 t j) = X m c (ix2 t j) := by
  entry_read
  rfl

theorem host_du (t : Fin 4096) (n : Fin 3072) : (V m c main_arg2 : FVec Ideal S4096x3072 .bf16) (ix2 t n) = DU m c (ix2 t n) := by
  entry_read
  rfl

theorem ix0 : ∀ t : Fin grid0.N, win0_0.index t = ![t.val % 4, 0] := by decide +kernel
theorem ix1 : ∀ t : Fin grid0.N, win0_1.index t = ![t.val % 4, t.val / 4] := by decide +kernel

/-- The two blocks a point reads. -/
abbrev blk0 (t : Fin cfg0.N) : FVec Ideal S1024x1024 .bf16 := iblk m c 0 t
abbrev blk1 (t : Fin cfg0.N) : FVec Ideal S1024x768 .bf16 := iblk m c 1 t

theorem read0 (t : Fin cfg0.N) (k a : Fin 1024) : blk0 m c t (ix2 k a) = nat2 (X m c) (t.val % 4 * 1024 + k.val) a.val := by
  have hN := lt_of_lt_of_eq t.isLt N_0
  rw [nat2_of _ (by omega) (by omega)]
  refine Eq.trans ?_ (host_x m c _ _)
  unfold blk0 iblk
  rw [View.read_apply]
  show V m c main_v12 _ = _
  congr 1
  funext x
  apply Fin.ext
  match x with
  | ⟨0, _⟩ => show win0_0.index t 0 * 1024 + 1 * k.val = t.val % 4 * 1024 + k.val; rw [congrFun (ix0 t) 0]; show t.val % 4 * 1024 + 1 * k.val = _; omega
  | ⟨1, _⟩ => show win0_0.index t 1 * 1024 + 1 * a.val = a.val; rw [congrFun (ix0 t) 1]; show 0 * 1024 + 1 * a.val = _; omega

theorem read1 (t : Fin cfg0.N) (k : Fin 1024) (b : Fin 768) : blk1 m c t (ix2 k b) = nat2 (DU m c) (t.val % 4 * 1024 + k.val) (t.val / 4 * 768 + b.val) := by
  have hN := lt_of_lt_of_eq t.isLt N_0
  rw [nat2_of _ (by omega) (by omega)]
  refine Eq.trans ?_ (host_du m c _ _)
  unfold blk1 iblk
  rw [View.read_apply]
  show V m c main_arg2 _ = _
  congr 1
  funext x
  apply Fin.ext
  match x with
  | ⟨0, _⟩ => show win0_1.index t 0 * 1024 + 1 * k.val = t.val % 4 * 1024 + k.val; rw [congrFun (ix1 t) 0]; show t.val % 4 * 1024 + 1 * k.val = _; omega
  | ⟨1, _⟩ => show win0_1.index t 1 * 768 + 1 * b.val = t.val / 4 * 768 + b.val; rw [congrFun (ix1 t) 1]; show t.val / 4 * 768 + 1 * b.val = _; omega

/-- One point's product is the next 1024 tokens' terms. -/
theorem piece (t : Fin cfg0.N) (a : Fin 1024) (b : Fin 768) :
    ∑ k : Fin 1024, blk0 m c t (ix2 k a) * blk1 m c t (ix2 k b)
      = ∑ k : Fin 1024, term (X m c) (DU m c) a.val (t.val / 4 * 768 + b.val) (t.val % 4 * 1024 + k.val) := by
  simp only [read0, read1, term]

/-- What the accumulator holds after each point but a block's last. -/
theorem state (n : ℕ) (h : n < cfg0.N) (hl : n % 4 + 1 < 4) (a : Fin 1024) (b : Fin 768) :
    (outsAt0 m c n h).2 (ix2 a b) = upTo (term (X m c) (DU m c) a.val (n / 4 * 768 + b.val)) (n % 4 * 1024 + 1024) := by
  refine sweep (P := 4) (B := 1024) (fun n h => (outsAt0 m c n h).2 (ix2 a b)) (fun q => term (X m c) (DU m c) a.val (q * 768 + b.val)) ?_ ?_ n h hl
  · intro n h h0
    rw [outsAt0_A m c ⟨n, h⟩ h0 (by show ¬(1 ≤ n % 4 ∧ n % 4 ≤ 2); omega) (by show ¬(n % 4 = 3); omega)]
    dsimp only
    rw [first, pay1, piece]
  · intro n h h0 hl
    rw [outsAt0_B m c ⟨n + 1, h⟩ h0 (by show 1 ≤ (n + 1) % 4 ∧ (n + 1) % 4 ≤ 2; omega) (by show ¬((n + 1) % 4 = 3); omega)]
    dsimp only
    rw [next, pay2, piece]
    rfl

/-- What a block's last point leaves in the result. -/
theorem outs (t : Fin cfg0.N) (hl : t.val % 4 = 3) (s : Fin 2) (a : Fin 1024) (j : Fin 384) :
    ((outsAt0 m c t.val t.isLt).1 : FVec Ideal S2x1024x384 .bf16) (ix3 s a j)
      = upTo (term (X m c) (DU m c) a.val (t.val / 4 * 768 + (s.val * 384 + j.val))) 4096 := by
  rw [outsAt0_C m c t (by omega) (by omega) hl]
  dsimp only
  rw [last, piece, show 4096 = 3072 + 1024 by omega, upTo_add, state m c (t.val - 1) _ (by omega), hl]
  congr 1
  rw [show (t.val - 1) / 4 = t.val / 4 by omega, show (t.val - 1) % 4 * 1024 + 1024 = 3072 by omega]

/-- The kernel's result. -/
theorem result (s : Fin 8) (a : Fin 1024) (j : Fin 384) :
    (Value.G2 m c : FVec Ideal S8x1024x384 .bf16) (ix3 s a j) = upTo (term (X m c) (DU m c) a.val (s.val * 384 + j.val)) 4096 := by
  have hp : Value.pt2Of (ix3 s a j) = 4 * (s.val / 2) + 3 := by
    show 4 * (1 * (s.val / 2 - 0) + 1 * (a.val / 1024 - 0) + 1 * (j.val / 384 - 0)) + 3 = _
    omega
  have hu : Value.pt2Of (ix3 s a j) < cfg0.N := by rw [hp, show cfg0.N = 16 from N_0]; omega
  unfold Value.G2
  rw [dif_pos hu, ← Value.outsAt0_sweep m c _ hu]
  have hl : Value.loc2Of (ix3 s a j) = ix3 (⟨s.val % 2, by omega⟩ : Fin 2) a j := by
    funext x
    apply Fin.ext
    match x with
    | ⟨0, _⟩ => rfl
    | ⟨1, _⟩ => show a.val % 1024 = a.val; omega
    | ⟨2, _⟩ => show j.val % 384 = j.val; omega
  rw [hl]
  refine (outs m c ⟨Value.pt2Of (ix3 s a j), hu⟩ (by show Value.pt2Of (ix3 s a j) % 4 = 3; omega) _ _ _).trans ?_
  show upTo (term (X m c) (DU m c) a.val (Value.pt2Of (ix3 s a j) / 4 * 768 + (s.val % 2 * 384 + j.val))) 4096 = _
  rw [show Value.pt2Of (ix3 s a j) / 4 * 768 + (s.val % 2 * 384 + j.val) = s.val * 384 + j.val by omega]

end Run

end Cert.InEvenDwIdeal.Body

namespace Cert.Proof

open Idealize.ShloMosaic Idealize.SL.Sem Cert.InEvenDwIdeal.Body Cert.Sums
open Cert.InEvenDwReferenceIdeal.Read

theorem inevendw_defs_eq : Cert.InEvenDwIdeal.defs₀ (F := Bits) = Cert.InEvenDw.defs₀ (F := Bits) := by
  unfold Cert.InEvenDw.defs₀ Cert.InEvenDwIdeal.defs₀
  congr 1
  funext l a
  match l, a with
  | 0, (t, s) => rfl

theorem frame_inevendw : Cert.quiescent_InEvenDw := fun m g _ => by
  have h := Cert.InEvenDwIdeal.Gen.frame (F := Bits) m g
  unfold Cert.InEvenDwIdeal.defs at h
  rw [inevendw_defs_eq] at h
  exact h

theorem frame_inevendw_reference : Cert.quiescent_InEvenDwReferenceIdeal := fun m g _ => by
  refine (θ_run Cert.InEvenDwReferenceIdeal.defs _ _).mono (fun r h => ?_) (Cert.InEvenDwReferenceIdeal.Value.run (F := Ideal) m g)
  exact ⟨fun c => (h c).2, sem_eq_zero_of_no_sems (by decide) _⟩

theorem inevendw_reference (x : FVec Ideal Cert.InEvenDwReferenceIdeal.S4096x1024 .f32) (nw : FVec Ideal Cert.InEvenDwReferenceIdeal.S1x1024 .f32)
    (du : FVec Ideal Cert.InEvenDwReferenceIdeal.S4096x3072 .bf16) (s : Fin 8) (a : Fin 1024) (j : Fin 384) :
    val_main_v19 (F := Ideal) x nw du (ix3 s a j) = upTo (term (val_main_v11 (F := Ideal) x nw) du a.val (s.val * 384 + j.val)) 4096 := by
  rw [upTo_first]
  pointwise [val_main_v19, val_main_v18, val_main_v17, val_main_v16, val_main_v15, val_main_v14]
  refine Finset.sum_congr rfl fun t _ => ?_
  unfold term
  rw [nat2_of _ t.isLt a.isLt, nat2_of _ t.isLt (by omega)]
  exact mul_comm _ _

theorem agree_inevendw : Cert.algebraic_InEvenDwIdeal_InEvenDwReferenceIdeal := by
  intro m g m' g' _ hargs
  refine ⟨fun (c : Dev Cert.InEvenDwIdeal.nD) (i : (⟨3, ![8, 1024, 384]⟩ : Shape).Idx) => upTo (term (X m c) (DU m c) (i 1).val ((i 0).val * 384 + (i 2).val)) 4096, ?_, ?_⟩
  · refine (θ_run Cert.InEvenDwIdeal.defs _ _).mono (fun r h c => ⟨?_, (h c).2⟩) (Cert.InEvenDwIdeal.Value.run (F := Ideal) m g)
    rw [(h c).1]
    funext i
    obtain ⟨s, a, j, rfl⟩ : ∃ (s : Fin 8) (a : Fin 1024) (j : Fin 384), i = ix3 s a j := ⟨i 0, i 1, i 2, eq_ix3 i⟩
    exact result m c s a j
  · refine (θ_run Cert.InEvenDwReferenceIdeal.defs _ _).mono (fun r h c => ⟨?_, (h c).2⟩) (Cert.InEvenDwReferenceIdeal.Value.run (F := Ideal) m' g')
    rw [(h c).1]
    funext i
    obtain ⟨s, a, j, rfl⟩ : ∃ (s : Fin 8) (a : Fin 1024) (j : Fin 384), i = ix3 s a j := ⟨i 0, i 1, i 2, eq_ix3 i⟩
    refine (congrFun (val_main_v19_eq _ _ _) (ix3 s a j)).trans ?_
    rw [(hargs c).1, (hargs c).2.1, (hargs c).2.2]
    exact inevendw_reference _ _ _ s a j

end Cert.Proof

end
-- ==== Proof.InOddDwValue.lean ====
/- The gradient of the odd layer's input projection: the frames, and the kernel's result beside the reference's. -/
module

public import proofs.«01_k».proof.Defs
public import proofs.«01_k».proof.Proof.Sums
public import proofs.«01_k».proof.Proof.Gen.InOddDw
public import proofs.«01_k».proof.Proof.Gen.InOddDwIdeal.Value
public import proofs.«01_k».proof.Proof.Gen.InOddDwReferenceIdeal
public import proofs.«01_k».proof.Proof.Gen.InOddDwReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.InOddDwIdeal.Body

open Cert.InOddDwIdeal Cert.InOddDwIdeal.Gen Idealize.ShloMosaic Idealize.ShloMosaic.TcCoe Idealize.SL.Sem Cert.Sums
open Cert.InOddDwReferenceIdeal.Read (val_main_v11)

/-- One token's part of one entry: the normed input times what comes back. -/
def term (x : FVec Ideal S4096x1024 .f32) (du : FVec Ideal S4096x4224 .bf16) (j n : ℕ) (t : ℕ) : EReal :=
  nat2 x t j * nat2 du t n

section Pays
variable (a : FVec Ideal S1024x1024 .bf16) (b : FVec Ideal S1024x1408 .bf16) (acc : FVec Ideal S1024x1408 .f32) (i : Fin 1024) (j : Fin 1408)

theorem pay1 : k0_pay1 (F := Ideal) a b (ix2 i j) = ∑ k : Fin 1024, a (ix2 k i) * b (ix2 k j) := by
  pointwise [k0_pay1]
theorem pay2 : k0_pay2 (F := Ideal) acc a b (ix2 i j) = acc (ix2 i j) + ∑ k : Fin 1024, a (ix2 k i) * b (ix2 k j) := by
  pointwise [k0_pay2]
theorem pay3 : k0_pay3 (F := Ideal) acc a b (ix2 i j) = acc (ix2 i j) + ∑ k : Fin 1024, a (ix2 k i) * b (ix2 k j) := by
  pointwise [k0_pay3]

end Pays

section Runs
/-- A load of a whole block reads the block. -/
theorem ld_whole {e : EltTy} (inb : ∀ a, (![0, 0] : Fin 2 → ℕ) a + S1024x1024.size a ≤ S1024x1024.size a) (X : S1024x1024.Idx → Elt Ideal e) :
    View.ld X (Rect.unit (s := S1024x1024) ![0, 0] ![1024, 1024] inb) = X := View.ld_unit_lit inb X (by decide)
/-- The same for the other operand's blocks. -/
theorem ld_wide {e : EltTy} (inb : ∀ a, (![0, 0] : Fin 2 → ℕ) a + S1024x1408.size a ≤ S1024x1408.size a) (X : S1024x1408.Idx → Elt Ideal e) :
    View.ld X (Rect.unit (s := S1024x1408) ![0, 0] ![1024, 1408] inb) = X := View.ld_unit_lit inb X (by decide)

variable (c : Dev nD) (i : grid0.Coords) (arg3 : Memref sig .tc .vmem S1024x1024 .bf16) (harg3 : arg3.IsWhole) (arg4 : Memref sig .tc .vmem S1024x1408 .bf16) (harg4 : arg4.IsWhole)
  (arg5 : Memref sig .tc .vmem S1024x1408 .bf16) (harg5 : arg5.IsWhole) (arg6 : Memref sig .tc .vmem S1024x1408 .f32) (harg6 : arg6.IsWhole)
  (x0 : FVec Ideal S1024x1024 .bf16) (x1 : FVec Ideal S1024x1408 .bf16) (xs : FVec Ideal S1024x1408 .f32)

theorem first (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 (F := Ideal) x0 x1 := by
  unfold sout0_A_0 kernelRun0_A
  dsimp only
  sl_unfold_words
  rw [View.read_writes_junk_eq_canon, View.canon_cons_unit_lit _ _ _ (by decide)]
  simp only [View.readAt_eq_ld, harg3.read_unread, harg4.read_unread, ld_whole, ld_wide]

theorem next (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay2 (F := Ideal) xs x0 x1 := by
  unfold sout0_B_0 kernelRun0_B
  dsimp only
  sl_unfold_words
  rw [View.read_writes_junk_eq_canon, View.canon_cons_unit_lit _ _ _ (by decide)]
  simp only [View.readAt_eq_ld, harg3.read_unread, harg4.read_unread, harg6.read_unread, ld_whole, ld_wide]

theorem last (hc0 : ¬cond0_0 i) (hc1 : ¬cond0_1 i) (hc2 : cond0_2 i) :
    out0_C_2 (F := Ideal) c i arg3 harg3 arg4 harg4 arg5 harg5 arg6 harg6 hc0 hc1 hc2 x0 x1 xs = k0_pay3 (F := Ideal) xs x0 x1 := by
  unfold out0_C_2 kernelRun0_C
  dsimp only
  sl_unfold_words
  rw [View.read_writes_junk_eq_canon, View.canon_cons_unit_lit _ _ _ (by decide)]
  simp only [View.readAt_eq_ld, harg3.read_unread, harg4.read_unread, harg6.read_unread, ld_whole, ld_wide]

end Runs

section Run
variable (m : (ℓ : Loc nD τ sig) → Buf (Elt Ideal) ℓ) (c : Dev nD)

/-- The normed input, and what comes back. -/
def X : FVec Ideal S4096x1024 .f32 := val_main_v11 (F := Ideal) (m ((c : Thread nD τ).loc main_arg0)) (m ((c : Thread nD τ).loc main_arg1))
def DU : FVec Ideal S4096x4224 .bf16 := m ((c : Thread nD τ).loc main_arg2)

theorem host_x (t : Fin 4096) (j : Fin 1024) : (V m c main_v12 : FVec Ideal S4096x1024 .bf16) (ix2 t j) = X m c (ix2 t j) := by
  entry_read
  rfl

theorem host_du (t : Fin 4096) (n : Fin 4224) : (V m c main_arg2 : FVec Ideal S4096x4224 .bf16) (ix2 t n) = DU m c (ix2 t n) := by
  entry_read
  rfl

theorem ix0 : ∀ t : Fin grid0.N, win0_0.index t = ![t.val % 4, 0] := by decide +kernel
theorem ix1 : ∀ t : Fin grid0.N, win0_1.index t = ![t.val % 4, t.val / 4] := by decide +kernel

/-- The two blocks a point reads. -/
abbrev blk0 (t : Fin cfg0.N) : FVec Ideal S1024x1024 .bf16 := iblk m c 0 t
abbrev blk1 (t : Fin cfg0.N) : FVec Ideal S1024x1408 .bf16 := iblk m c 1 t

theorem read0 (t : Fin cfg0.N) (k a : Fin 1024) : blk0 m c t (ix2 k a) = nat2 (X m c) (t.val % 4 * 1024 + k.val) a.val := by
  have hN := lt_of_lt_of_eq t.isLt N_0
  rw [nat2_of _ (by omega) (by omega)]
  refine Eq.trans ?_ (host_x m c _ _)
  unfold blk0 iblk
  rw [View.read_apply]
  show V m c main_v12 _ = _
  congr 1
  funext x
  apply Fin.ext
  match x with
  | ⟨0, _⟩ => show win0_0.index t 0 * 1024 + 1 * k.val = t.val % 4 * 1024 + k.val; rw [congrFun (ix0 t) 0]; show t.val % 4 * 1024 + 1 * k.val = _; omega
  | ⟨1, _⟩ => show win0_0.index t 1 * 1024 + 1 * a.val = a.val; rw [congrFun (ix0 t) 1]; show 0 * 1024 + 1 * a.val = _; omega

theorem read1 (t : Fin cfg0.N) (k : Fin 1024) (b : Fin 1408) : blk1 m c t (ix2 k b) = nat2 (DU m c) (t.val % 4 * 1024 + k.val) (t.val / 4 * 1408 + b.val) := by
  have hN := lt_of_lt_of_eq t.isLt N_0
  rw [nat2_of _ (by omega) (by omega)]
  refine Eq.trans ?_ (host_du m c _ _)
  unfold blk1 iblk
  rw [View.read_apply]
  show V m c main_arg2 _ = _
  congr 1
  funext x
  apply Fin.ext
  match x with
  | ⟨0, _⟩ => show win0_1.index t 0 * 1024 + 1 * k.val = t.val % 4 * 1024 + k.val; rw [congrFun (ix1 t) 0]; show t.val % 4 * 1024 + 1 * k.val = _; omega
  | ⟨1, _⟩ => show win0_1.index t 1 * 1408 + 1 * b.val = t.val / 4 * 1408 + b.val; rw [congrFun (ix1 t) 1]; show t.val / 4 * 1408 + 1 * b.val = _; omega

/-- One point's product is the next 1024 tokens' terms. -/
theorem piece (t : Fin cfg0.N) (a : Fin 1024) (b : Fin 1408) :
    ∑ k : Fin 1024, blk0 m c t (ix2 k a) * blk1 m c t (ix2 k b)
      = ∑ k : Fin 1024, term (X m c) (DU m c) a.val (t.val / 4 * 1408 + b.val) (t.val % 4 * 1024 + k.val) := by
  simp only [read0, read1, term]

/-- What the accumulator holds after each point but a block's last. -/
theorem state (n : ℕ) (h : n < cfg0.N) (hl : n % 4 + 1 < 4) (a : Fin 1024) (b : Fin 1408) :
    (outsAt0 m c n h).2 (ix2 a b) = upTo (term (X m c) (DU m c) a.val (n / 4 * 1408 + b.val)) (n % 4 * 1024 + 1024) := by
  refine sweep (P := 4) (B := 1024) (fun n h => (outsAt0 m c n h).2 (ix2 a b)) (fun q => term (X m c) (DU m c) a.val (q * 1408 + b.val)) ?_ ?_ n h hl
  · intro n h h0
    rw [outsAt0_A m c ⟨n, h⟩ h0 (by show ¬(1 ≤ n % 4 ∧ n % 4 ≤ 2); omega) (by show ¬(n % 4 = 3); omega)]
    dsimp only
    rw [first, pay1, piece]
  · intro n h h0 hl
    rw [outsAt0_B m c ⟨n + 1, h⟩ h0 (by show 1 ≤ (n + 1) % 4 ∧ (n + 1) % 4 ≤ 2; omega) (by show ¬((n + 1) % 4 = 3); omega)]
    dsimp only
    rw [next, pay2, piece]
    rfl

/-- What a block's last point leaves in the result. -/
theorem outs (t : Fin cfg0.N) (hl : t.val % 4 = 3) (a : Fin 1024) (b : Fin 1408) :
    (outsAt0 m c t.val t.isLt).1 (ix2 a b) = upTo (term (X m c) (DU m c) a.val (t.val / 4 * 1408 + b.val)) 4096 := by
  rw [outsAt0_C m c t (by omega) (by omega) hl]
  dsimp only
  rw [last, pay3, piece, show 4096 = 3072 + 1024 by omega, upTo_add, state m c (t.val - 1) _ (by omega), hl]
  congr 1
  rw [show (t.val - 1) / 4 = t.val / 4 by omega, show (t.val - 1) % 4 * 1024 + 1024 = 3072 by omega]

/-- The kernel's result. -/
theorem result (a : Fin 1024) (n : Fin 4224) :
    (Value.G2 m c : FVec Ideal S1024x4224 .bf16) (ix2 a n) = upTo (term (X m c) (DU m c) a.val n.val) 4096 := by
  have hp : Value.pt2Of (ix2 a n) = 4 * (n.val / 1408) + 3 := by
    show 4 * (3 * (a.val / 1024 - 0) + 1 * (n.val / 1408 - 0)) + 3 = _
    omega
  have hu : Value.pt2Of (ix2 a n) < cfg0.N := by rw [hp, show cfg0.N = 12 from N_0]; omega
  unfold Value.G2
  rw [dif_pos hu, ← Value.outsAt0_sweep m c _ hu]
  have hl : Value.loc2Of (ix2 a n) = ix2 a (⟨n.val % 1408, by omega⟩ : Fin 1408) := by
    funext x
    apply Fin.ext
    match x with
    | ⟨0, _⟩ => show a.val % 1024 = a.val; omega
    | ⟨1, _⟩ => rfl
  rw [hl]
  refine (outs m c ⟨Value.pt2Of (ix2 a n), hu⟩ (by show Value.pt2Of (ix2 a n) % 4 = 3; omega) _ _).trans ?_
  show upTo (term (X m c) (DU m c) a.val (Value.pt2Of (ix2 a n) / 4 * 1408 + n.val % 1408)) 4096 = _
  rw [show Value.pt2Of (ix2 a n) / 4 * 1408 + n.val % 1408 = n.val by omega]

end Run

end Cert.InOddDwIdeal.Body

namespace Cert.Proof

open Idealize.ShloMosaic Idealize.SL.Sem Cert.InOddDwIdeal.Body Cert.Sums
open Cert.InOddDwReferenceIdeal.Read

theorem inodddw_defs_eq : Cert.InOddDwIdeal.defs₀ (F := Bits) = Cert.InOddDw.defs₀ (F := Bits) := by
  unfold Cert.InOddDw.defs₀ Cert.InOddDwIdeal.defs₀
  congr 1
  funext l a
  match l, a with
  | 0, (t, s) => rfl

theorem frame_inodddw : Cert.quiescent_InOddDw := fun m g _ => by
  have h := Cert.InOddDwIdeal.Gen.frame (F := Bits) m g
  unfold Cert.InOddDwIdeal.defs at h
  rw [inodddw_defs_eq] at h
  exact h

theorem frame_inodddw_reference : Cert.quiescent_InOddDwReferenceIdeal := fun m g _ => by
  refine (θ_run Cert.InOddDwReferenceIdeal.defs _ _).mono (fun r h => ?_) (Cert.InOddDwReferenceIdeal.Value.run (F := Ideal) m g)
  exact ⟨fun c => (h c).2, sem_eq_zero_of_no_sems (by decide) _⟩

theorem inodddw_reference (x : FVec Ideal Cert.InOddDwReferenceIdeal.S4096x1024 .f32) (nw : FVec Ideal Cert.InOddDwReferenceIdeal.S1x1024 .f32)
    (du : FVec Ideal Cert.InOddDwReferenceIdeal.S4096x4224 .bf16) (a : Fin 1024) (n : Fin 4224) :
    val_main_v17 (F := Ideal) x nw du (ix2 a n) = upTo (term (val_main_v11 (F := Ideal) x nw) du a.val n.val) 4096 := by
  rw [upTo_first]
  pointwise [val_main_v17, val_main_v16, val_main_v15, val_main_v14]
  refine Finset.sum_congr rfl fun t _ => ?_
  unfold term
  rw [nat2_of _ t.isLt a.isLt, nat2_of _ t.isLt (by omega)]
  exact mul_comm _ _

theorem agree_inodddw : Cert.algebraic_InOddDwIdeal_InOddDwReferenceIdeal := by
  intro m g m' g' _ hargs
  refine ⟨fun (c : Dev Cert.InOddDwIdeal.nD) (i : (⟨2, ![1024, 4224]⟩ : Shape).Idx) => upTo (term (X m c) (DU m c) (i 0).val (i 1).val) 4096, ?_, ?_⟩
  · refine (θ_run Cert.InOddDwIdeal.defs _ _).mono (fun r h c => ⟨?_, (h c).2⟩) (Cert.InOddDwIdeal.Value.run (F := Ideal) m g)
    rw [(h c).1]
    funext i
    obtain ⟨a, n, rfl⟩ : ∃ (a : Fin 1024) (n : Fin 4224), i = ix2 a n := ⟨i 0, i 1, eq_ix2 i⟩
    exact result m c a n
  · refine (θ_run Cert.InOddDwReferenceIdeal.defs _ _).mono (fun r h c => ⟨?_, (h c).2⟩) (Cert.InOddDwReferenceIdeal.Value.run (F := Ideal) m' g')
    rw [(h c).1]
    funext i
    obtain ⟨a, n, rfl⟩ : ∃ (a : Fin 1024) (n : Fin 4224), i = ix2 a n := ⟨i 0, i 1, eq_ix2 i⟩
    refine (congrFun (val_main_v17_eq _ _ _) (ix2 a n)).trans ?_
    rw [(hargs c).1, (hargs c).2.1, (hargs c).2.2]
    exact inodddw_reference _ _ _ a n

end Cert.Proof

end
-- ==== Proof.OutDwValue.lean ====
/- The gradient of the output projection's weights: the frames, and the kernel's result beside the reference's. -/
module

public import proofs.«01_k».proof.Defs
public import proofs.«01_k».proof.Proof.Sums
public import proofs.«01_k».proof.Proof.Gen.OutDw
public import proofs.«01_k».proof.Proof.Gen.OutDwIdeal.Value
public import proofs.«01_k».proof.Proof.Gen.OutDwReferenceIdeal
public import proofs.«01_k».proof.Proof.Gen.OutDwReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.OutDwIdeal.Body

open Cert.OutDwIdeal Cert.OutDwIdeal.Gen Idealize.ShloMosaic Idealize.ShloMosaic.TcCoe Idealize.SL.Sem Cert.Sums

/-- One token's part of one entry: the output projection's input times what comes back. -/
def term (x : FVec Ideal S4096x1024 .bf16) (du : FVec Ideal S4096x1024 .f32) (j n : ℕ) (t : ℕ) : EReal :=
  nat2 x t j * nat2 du t n

section Pays
variable (a : FVec Ideal S1024x1024 .bf16) (b : FVec Ideal S1024x512 .bf16) (acc : FVec Ideal S1024x512 .f32) (i : Fin 1024) (j : Fin 512)

theorem pay1 : k0_pay1 (F := Ideal) a b (ix2 i j) = ∑ k : Fin 1024, a (ix2 k i) * b (ix2 k j) := by
  pointwise [k0_pay1]
theorem pay2 : k0_pay2 (F := Ideal) acc a b (ix2 i j) = acc (ix2 i j) + ∑ k : Fin 1024, a (ix2 k i) * b (ix2 k j) := by
  pointwise [k0_pay2]
theorem pay3 : k0_pay3 (F := Ideal) acc a b (ix2 i j) = acc (ix2 i j) + ∑ k : Fin 1024, a (ix2 k i) * b (ix2 k j) := by
  pointwise [k0_pay3]

end Pays

section Runs
/-- A load of a whole block reads the block. -/
theorem ld_whole {e : EltTy} (inb : ∀ a, (![0, 0] : Fin 2 → ℕ) a + S1024x1024.size a ≤ S1024x1024.size a) (X : S1024x1024.Idx → Elt Ideal e) :
    View.ld X (Rect.unit (s := S1024x1024) ![0, 0] ![1024, 1024] inb) = X := View.ld_unit_lit inb X (by decide)
/-- The same for the other operand's blocks. -/
theorem ld_wide {e : EltTy} (inb : ∀ a, (![0, 0] : Fin 2 → ℕ) a + S1024x512.size a ≤ S1024x512.size a) (X : S1024x512.Idx → Elt Ideal e) :
    View.ld X (Rect.unit (s := S1024x512) ![0, 0] ![1024, 512] inb) = X := View.ld_unit_lit inb X (by decide)

variable (c : Dev nD) (i : grid0.Coords) (arg3 : Memref sig .tc .vmem S1024x1024 .bf16) (harg3 : arg3.IsWhole) (arg4 : Memref sig .tc .vmem S1024x512 .bf16) (harg4 : arg4.IsWhole)
  (arg5 : Memref sig .tc .vmem S1024x512 .bf16) (harg5 : arg5.IsWhole) (arg6 : Memref sig .tc .vmem S1024x512 .f32) (harg6 : arg6.IsWhole)
  (x0 : FVec Ideal S1024x1024 .bf16) (x1 : FVec Ideal S1024x512 .bf16) (xs : FVec Ideal S1024x512 .f32)

theorem first (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 (F := Ideal) x0 x1 := by
  unfold sout0_A_0 kernelRun0_A
  dsimp only
  sl_unfold_words
  rw [View.read_writes_junk_eq_canon, View.canon_cons_unit_lit _ _ _ (by decide)]
  simp only [View.readAt_eq_ld, harg3.read_unread, harg4.read_unread, ld_whole, ld_wide]

theorem next (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay2 (F := Ideal) xs x0 x1 := by
  unfold sout0_B_0 kernelRun0_B
  dsimp only
  sl_unfold_words
  rw [View.read_writes_junk_eq_canon, View.canon_cons_unit_lit _ _ _ (by decide)]
  simp only [View.readAt_eq_ld, harg3.read_unread, harg4.read_unread, harg6.read_unread, ld_whole, ld_wide]

theorem last (hc0 : ¬cond0_0 i) (hc1 : ¬cond0_1 i) (hc2 : cond0_2 i) :
    out0_C_2 (F := Ideal) c i arg3 harg3 arg4 harg4 arg5 harg5 arg6 harg6 hc0 hc1 hc2 x0 x1 xs = k0_pay3 (F := Ideal) xs x0 x1 := by
  unfold out0_C_2 kernelRun0_C
  dsimp only
  sl_unfold_words
  rw [View.read_writes_junk_eq_canon, View.canon_cons_unit_lit _ _ _ (by decide)]
  simp only [View.readAt_eq_ld, harg3.read_unread, harg4.read_unread, harg6.read_unread, ld_whole, ld_wide]

end Runs

section Run
variable (m : (ℓ : Loc nD τ sig) → Buf (Elt Ideal) ℓ) (c : Dev nD)

/-- The output projection's input, and what comes back. -/
def X : FVec Ideal S4096x1024 .bf16 := m ((c : Thread nD τ).loc main_arg0)
def DX : FVec Ideal S4096x1024 .f32 := m ((c : Thread nD τ).loc main_arg1)

theorem host_x (t : Fin 4096) (j : Fin 1024) : (V m c main_arg0 : FVec Ideal S4096x1024 .bf16) (ix2 t j) = X m c (ix2 t j) := by
  entry_read
  rfl

theorem host_dx (t : Fin 4096) (n : Fin 1024) : (V m c main_v0 : FVec Ideal S4096x1024 .bf16) (ix2 t n) = DX m c (ix2 t n) := by
  entry_read
  rfl

theorem ix0 : ∀ t : Fin grid0.N, win0_0.index t = ![t.val % 4, 0] := by decide +kernel
theorem ix1 : ∀ t : Fin grid0.N, win0_1.index t = ![t.val % 4, t.val / 4] := by decide +kernel

/-- The two blocks a point reads. -/
abbrev blk0 (t : Fin cfg0.N) : FVec Ideal S1024x1024 .bf16 := iblk m c 0 t
abbrev blk1 (t : Fin cfg0.N) : FVec Ideal S1024x512 .bf16 := iblk m c 1 t

theorem read0 (t : Fin cfg0.N) (k a : Fin 1024) : blk0 m c t (ix2 k a) = nat2 (X m c) (t.val % 4 * 1024 + k.val) a.val := by
  have hN := lt_of_lt_of_eq t.isLt N_0
  rw [nat2_of _ (by omega) (by omega)]
  refine Eq.trans ?_ (host_x m c _ _)
  unfold blk0 iblk
  rw [View.read_apply]
  show V m c main_arg0 _ = _
  congr 1
  funext x
  apply Fin.ext
  match x with
  | ⟨0, _⟩ => show win0_0.index t 0 * 1024 + 1 * k.val = t.val % 4 * 1024 + k.val; rw [congrFun (ix0 t) 0]; show t.val % 4 * 1024 + 1 * k.val = _; omega
  | ⟨1, _⟩ => show win0_0.index t 1 * 1024 + 1 * a.val = a.val; rw [congrFun (ix0 t) 1]; show 0 * 1024 + 1 * a.val = _; omega

theorem read1 (t : Fin cfg0.N) (k : Fin 1024) (b : Fin 512) : blk1 m c t (ix2 k b) = nat2 (DX m c) (t.val % 4 * 1024 + k.val) (t.val / 4 * 512 + b.val) := by
  have hN := lt_of_lt_of_eq t.isLt N_0
  rw [nat2_of _ (by omega) (by omega)]
  refine Eq.trans ?_ (host_dx m c _ _)
  unfold blk1 iblk
  rw [View.read_apply]
  show V m c main_v0 _ = _
  congr 1
  funext x
  apply Fin.ext
  match x with
  | ⟨0, _⟩ => show win0_1.index t 0 * 1024 + 1 * k.val = t.val % 4 * 1024 + k.val; rw [congrFun (ix1 t) 0]; show t.val % 4 * 1024 + 1 * k.val = _; omega
  | ⟨1, _⟩ => show win0_1.index t 1 * 512 + 1 * b.val = t.val / 4 * 512 + b.val; rw [congrFun (ix1 t) 1]; show t.val / 4 * 512 + 1 * b.val = _; omega

/-- One point's product is the next 1024 tokens' terms. -/
theorem piece (t : Fin cfg0.N) (a : Fin 1024) (b : Fin 512) :
    ∑ k : Fin 1024, blk0 m c t (ix2 k a) * blk1 m c t (ix2 k b)
      = ∑ k : Fin 1024, term (X m c) (DX m c) a.val (t.val / 4 * 512 + b.val) (t.val % 4 * 1024 + k.val) := by
  simp only [read0, read1, term]

/-- What the accumulator holds after each point but a block's last. -/
theorem state (n : ℕ) (h : n < cfg0.N) (hl : n % 4 + 1 < 4) (a : Fin 1024) (b : Fin 512) :
    (outsAt0 m c n h).2 (ix2 a b) = upTo (term (X m c) (DX m c) a.val (n / 4 * 512 + b.val)) (n % 4 * 1024 + 1024) := by
  refine sweep (P := 4) (B := 1024) (fun n h => (outsAt0 m c n h).2 (ix2 a b)) (fun q => term (X m c) (DX m c) a.val (q * 512 + b.val)) ?_ ?_ n h hl
  · intro n h h0
    rw [outsAt0_A m c ⟨n, h⟩ h0 (by show ¬(1 ≤ n % 4 ∧ n % 4 ≤ 2); omega) (by show ¬(n % 4 = 3); omega)]
    dsimp only
    rw [first, pay1, piece]
  · intro n h h0 hl
    rw [outsAt0_B m c ⟨n + 1, h⟩ h0 (by show 1 ≤ (n + 1) % 4 ∧ (n + 1) % 4 ≤ 2; omega) (by show ¬((n + 1) % 4 = 3); omega)]
    dsimp only
    rw [next, pay2, piece]
    rfl

/-- What a block's last point leaves in the result. -/
theorem outs (t : Fin cfg0.N) (hl : t.val % 4 = 3) (a : Fin 1024) (b : Fin 512) :
    (outsAt0 m c t.val t.isLt).1 (ix2 a b) = upTo (term (X m c) (DX m c) a.val (t.val / 4 * 512 + b.val)) 4096 := by
  rw [outsAt0_C m c t (by omega) (by omega) hl]
  dsimp only
  rw [last, pay3, piece, show 4096 = 3072 + 1024 by omega, upTo_add, state m c (t.val - 1) _ (by omega), hl]
  congr 1
  rw [show (t.val - 1) / 4 = t.val / 4 by omega, show (t.val - 1) % 4 * 1024 + 1024 = 3072 by omega]

/-- The kernel's result. -/
theorem result (a : Fin 1024) (n : Fin 1024) :
    (Value.G2 m c : FVec Ideal S1024x1024 .bf16) (ix2 a n) = upTo (term (X m c) (DX m c) a.val n.val) 4096 := by
  have hp : Value.pt2Of (ix2 a n) = 4 * (n.val / 512) + 3 := by
    show 4 * (2 * (a.val / 1024 - 0) + 1 * (n.val / 512 - 0)) + 3 = _
    omega
  have hu : Value.pt2Of (ix2 a n) < cfg0.N := by rw [hp, show cfg0.N = 8 from N_0]; omega
  unfold Value.G2
  rw [dif_pos hu, ← Value.outsAt0_sweep m c _ hu]
  have hl : Value.loc2Of (ix2 a n) = ix2 a (⟨n.val % 512, by omega⟩ : Fin 512) := by
    funext x
    apply Fin.ext
    match x with
    | ⟨0, _⟩ => show a.val % 1024 = a.val; omega
    | ⟨1, _⟩ => rfl
  rw [hl]
  refine (outs m c ⟨Value.pt2Of (ix2 a n), hu⟩ (by show Value.pt2Of (ix2 a n) % 4 = 3; omega) _ _).trans ?_
  show upTo (term (X m c) (DX m c) a.val (Value.pt2Of (ix2 a n) / 4 * 512 + n.val % 512)) 4096 = _
  rw [show Value.pt2Of (ix2 a n) / 4 * 512 + n.val % 512 = n.val by omega]

end Run

end Cert.OutDwIdeal.Body

namespace Cert.Proof

open Idealize.ShloMosaic Idealize.SL.Sem Cert.OutDwIdeal.Body Cert.Sums
open Cert.OutDwReferenceIdeal.Read

theorem outdw_defs_eq : Cert.OutDwIdeal.defs₀ (F := Bits) = Cert.OutDw.defs₀ (F := Bits) := by
  unfold Cert.OutDw.defs₀ Cert.OutDwIdeal.defs₀
  congr 1
  funext l a
  match l, a with
  | 0, (t, s) => rfl

theorem frame_outdw : Cert.quiescent_OutDw := fun m g _ => by
  have h := Cert.OutDwIdeal.Gen.frame (F := Bits) m g
  unfold Cert.OutDwIdeal.defs at h
  rw [outdw_defs_eq] at h
  exact h

theorem frame_outdw_reference : Cert.quiescent_OutDwReferenceIdeal := fun m g _ => by
  refine (θ_run Cert.OutDwReferenceIdeal.defs _ _).mono (fun r h => ?_) (Cert.OutDwReferenceIdeal.Value.run (F := Ideal) m g)
  exact ⟨fun c => (h c).2, sem_eq_zero_of_no_sems (by decide) _⟩

theorem outdw_reference (y : FVec Ideal Cert.OutDwReferenceIdeal.S4096x1024 .bf16) (dx : FVec Ideal Cert.OutDwReferenceIdeal.S4096x1024 .f32) (a : Fin 1024) (n : Fin 1024) :
    val_main_v5 (F := Ideal) y dx (ix2 a n) = upTo (term y dx a.val n.val) 4096 := by
  rw [upTo_first]
  pointwise [val_main_v5, val_main_v4, val_main_v3, val_main_v2, val_main_v1]
  refine Finset.sum_congr rfl fun t _ => ?_
  unfold term
  rw [nat2_of _ t.isLt a.isLt, nat2_of _ t.isLt (by omega)]
  exact mul_comm _ _

theorem agree_outdw : Cert.algebraic_OutDwIdeal_OutDwReferenceIdeal := by
  intro m g m' g' _ hargs
  refine ⟨fun (c : Dev Cert.OutDwIdeal.nD) (i : (⟨2, ![1024, 1024]⟩ : Shape).Idx) => upTo (term (X m c) (DX m c) (i 0).val (i 1).val) 4096, ?_, ?_⟩
  · refine (θ_run Cert.OutDwIdeal.defs _ _).mono (fun r h c => ⟨?_, (h c).2⟩) (Cert.OutDwIdeal.Value.run (F := Ideal) m g)
    rw [(h c).1]
    funext i
    obtain ⟨a, n, rfl⟩ : ∃ (a : Fin 1024) (n : Fin 1024), i = ix2 a n := ⟨i 0, i 1, eq_ix2 i⟩
    exact result m c a n
  · refine (θ_run Cert.OutDwReferenceIdeal.defs _ _).mono (fun r h c => ⟨?_, (h c).2⟩) (Cert.OutDwReferenceIdeal.Value.run (F := Ideal) m' g')
    rw [(h c).1]
    funext i
    obtain ⟨a, n, rfl⟩ : ∃ (a : Fin 1024) (n : Fin 1024), i = ix2 a n := ⟨i 0, i 1, eq_ix2 i⟩
    refine (congrFun (val_main_v5_eq _ _) (ix2 a n)).trans ?_
    rw [(hargs c).1, (hargs c).2]
    exact outdw_reference _ _ a n

end Cert.Proof

end
-- ==== Proof.OutDxValue.lean ====
/- The gradient at the output projection's input: the frames, and the kernel's result beside the reference's. -/
module

public import proofs.«01_k».proof.Defs
public import proofs.«01_k».proof.Proof.Gen.OutDx
public import proofs.«01_k».proof.Proof.Gen.OutDxIdeal.Value
public import proofs.«01_k».proof.Proof.Gen.OutDxReferenceIdeal
public import proofs.«01_k».proof.Proof.Gen.OutDxReferenceIdeal.Read
public import Idealize.ShloMosaic.Adequacy
public import Idealize.ShloMosaic.Init
public import Idealize.ShloMosaic.Lib.Claim
public import Idealize.ShloMosaic.Lib.Pointwise
public import Idealize.ShloMosaic.Lib.Pipeline.ValueKit.Basic

@[expose] public section

noncomputable section

namespace Cert.OutDxIdeal.Body

open Cert.OutDxIdeal Cert.OutDxIdeal.Gen Idealize.ShloMosaic Idealize.ShloMosaic.TcCoe Idealize.SL.Sem

/-- One result: what comes back at a token, times a row of the weights. -/
def back (w : FVec Ideal S1024x1024 .f32) (dx : FVec Ideal S4096x1024 .f32) (t : Fin 4096) (j : Fin 1024) : EReal :=
  ∑ k : Fin 1024, dx (ix2 t k) * w (ix2 j k)

theorem pay (a : FVec Ideal S4096x1024 .bf16) (b : FVec Ideal S512x1024 .bf16) (t : Fin 4096) (j : Fin 512) :
    k0_pay1 (F := Ideal) a b (ix2 t j) = ∑ k : Fin 1024, a (ix2 t k) * b (ix2 j k) := by
  pointwise [k0_pay1]

section Run
variable (m : (ℓ : Loc nD τ sig) → Buf (Elt Ideal) ℓ) (c : Dev nD)

theorem host_h (t : Fin 4096) (k : Fin 1024) :
    (V m c main_v0 : FVec Ideal S4096x1024 .bf16) (ix2 t k) = (m ((c : Thread nD τ).loc main_arg1) : FVec Ideal S4096x1024 .f32) (ix2 t k) := by
  entry_read
  rfl

theorem host_w (j k : Fin 1024) :
    (V m c main_v1 : FVec Ideal S1024x1024 .bf16) (ix2 j k) = (m ((c : Thread nD τ).loc main_arg0) : FVec Ideal S1024x1024 .f32) (ix2 j k) := by
  entry_read
  rfl

theorem ix0 : ∀ t : Fin grid0.N, win0_0.index t = ![0, 0] := by decide +kernel
theorem ix1 : ∀ t : Fin grid0.N, win0_1.index t = ![t.val, 0] := by decide +kernel
theorem ix2' : ∀ t : Fin grid0.N, win0_2.index t = ![0, t.val] := by decide +kernel

theorem read0 (t : Fin cfg0.N) (a : Fin 4096) (k : Fin 1024) :
    (iblk m c 0 t : FVec Ideal S4096x1024 .bf16) (ix2 a k) = (m ((c : Thread nD τ).loc main_arg1) : FVec Ideal S4096x1024 .f32) (ix2 a k) := by
  refine Eq.trans ?_ (host_h m c a k)
  unfold iblk
  rw [View.read_apply]
  show V m c main_v0 _ = _
  congr 1
  funext x
  apply Fin.ext
  match x with
  | ⟨0, _⟩ => show win0_0.index t 0 * 4096 + 1 * a.val = a.val; rw [congrFun (ix0 t) 0]; show 0 * 4096 + 1 * a.val = _; omega
  | ⟨1, _⟩ => show win0_0.index t 1 * 1024 + 1 * k.val = k.val; rw [congrFun (ix0 t) 1]; show 0 * 1024 + 1 * k.val = _; omega

theorem read1 (t : Fin cfg0.N) (j : Fin 512) (k : Fin 1024) :
    (iblk m c 1 t : FVec Ideal S512x1024 .bf16) (ix2 j k)
      = (m ((c : Thread nD τ).loc main_arg0) : FVec Ideal S1024x1024 .f32) (ix2 (⟨t.val * 512 + j.val, by have := lt_of_lt_of_eq t.isLt N_0; omega⟩ : Fin 1024) k) := by
  refine Eq.trans ?_ (host_w m c _ k)
  unfold iblk
  rw [View.read_apply]
  show V m c main_v1 _ = _
  congr 1
  funext x
  apply Fin.ext
  match x with
  | ⟨0, _⟩ => show win0_1.index t 0 * 512 + 1 * j.val = t.val * 512 + j.val; rw [congrFun (ix1 t) 0]; show t.val * 512 + 1 * j.val = _; omega
  | ⟨1, _⟩ => show win0_1.index t 1 * 1024 + 1 * k.val = k.val; rw [congrFun (ix1 t) 1]; show 0 * 1024 + 1 * k.val = _; omega

/-- The kernel's result, read at an index. -/
theorem result (t : Fin 4096) (j : Fin 1024) :
    ((dats m 0 c).arrAt 2 cfg0.N : FVec Ideal S4096x1024 .f32) (ix2 t j) = back (m ((c : Thread nD τ).loc main_arg0)) (m ((c : Thread nD τ).loc main_arg1)) t j := by
  have hu : j.val / 512 < cfg0.N := by rw [show cfg0.N = 2 from N_0]; omega
  have hr : ((cfg0.win 2).blk ⟨j.val / 512, hu⟩).view.emb (ix2 t (⟨j.val % 512, by omega⟩ : Fin 512)) = (ix2 t j : S4096x1024.Idx) := by
    funext x
    apply Fin.ext
    match x with
    | ⟨0, _⟩ => show win0_2.index ⟨j.val / 512, hu⟩ 0 * 4096 + 1 * t.val = t.val; rw [congrFun (ix2' ⟨j.val / 512, hu⟩) 0]; show 0 * 4096 + 1 * t.val = _; omega
    | ⟨1, _⟩ => show win0_2.index ⟨j.val / 512, hu⟩ 1 * 512 + 1 * (j.val % 512) = j.val; rw [congrFun (ix2' ⟨j.val / 512, hu⟩) 1]; show j.val / 512 * 512 + 1 * (j.val % 512) = _; omega
  have h := congrFun ((Value.blocks2 m c ⟨j.val / 512, hu⟩ (flush0_2 _)).trans (Value.flushed2 m c ⟨j.val / 512, hu⟩)) (ix2 t (⟨j.val % 512, by omega⟩ : Fin 512))
  rw [View.read_apply, hr] at h
  refine h.trans ?_
  show out0_2 (F := Ideal) (iblk m c 0 _) (iblk m c 1 _) (ix2 t (⟨j.val % 512, by omega⟩ : Fin 512)) = _
  unfold out0_2
  rw [View.canon_cons_unit_lit _ _ _ (by decide), View.ld_unit_lit _ _ (by decide), View.ld_unit_lit _ _ (by decide), pay]
  simp only [read0, read1]
  unfold back
  have e : (⟨j.val / 512 * 512 + j.val % 512, by omega⟩ : Fin 1024) = j := Fin.ext (by show j.val / 512 * 512 + j.val % 512 = j.val; omega)
  rw [e]

end Run

end Cert.OutDxIdeal.Body

namespace Cert.Proof

open Idealize.ShloMosaic Idealize.SL.Sem Cert.OutDxIdeal.Body

theorem outdx_defs_eq : Cert.OutDxIdeal.defs₀ (F := Bits) = Cert.OutDx.defs₀ (F := Bits) := by
  unfold Cert.OutDx.defs₀ Cert.OutDxIdeal.defs₀
  congr 1
  funext l a
  match l, a with
  | 0, (t, s) => rfl

theorem frame_outdx : Cert.quiescent_OutDx := fun m g _ => by
  have h := Cert.OutDxIdeal.Gen.frame (F := Bits) m g
  unfold Cert.OutDxIdeal.defs at h
  rw [outdx_defs_eq] at h
  exact h

theorem frame_outdx_reference : Cert.quiescent_OutDxReferenceIdeal := fun m g _ => by
  refine (θ_run Cert.OutDxReferenceIdeal.defs _ _).mono (fun r h => ?_) (Cert.OutDxReferenceIdeal.Value.run (F := Ideal) m g)
  exact ⟨fun c => (h c).2, sem_eq_zero_of_no_sems (by decide) _⟩

theorem outdx_reference (w : FVec Ideal Cert.OutDxReferenceIdeal.S1024x1024 .f32) (dx : FVec Ideal Cert.OutDxReferenceIdeal.S4096x1024 .f32) (t : Fin 4096) (j : Fin 1024) :
    Cert.OutDxReferenceIdeal.Read.val_main_v2 (F := Ideal) w dx (ix2 t j) = back w dx t j := by
  pointwise [Cert.OutDxReferenceIdeal.Read.val_main_v2]
  rfl

theorem agree_outdx : Cert.algebraic_OutDxIdeal_OutDxReferenceIdeal := by
  intro m g m' g' _ hargs
  refine ⟨fun (c : Dev Cert.OutDxIdeal.nD) (i : (⟨2, ![4096, 1024]⟩ : Shape).Idx) =>
    back (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)) (i 0) (i 1), ?_, ?_⟩
  · refine (θ_run Cert.OutDxIdeal.defs _ _).mono (fun r h c => ⟨?_, (h c).2⟩) (Cert.OutDxIdeal.Value.run_blocks (F := Ideal) m g)
    rw [(h c).1]
    funext i
    obtain ⟨t, j, rfl⟩ : ∃ (t : Fin 4096) (j : Fin 1024), i = ix2 t j := ⟨i 0, i 1, eq_ix2 i⟩
    exact result m c t j
  · refine (θ_run Cert.OutDxReferenceIdeal.defs _ _).mono (fun r h c => ⟨?_, (h c).2⟩) (Cert.OutDxReferenceIdeal.Value.run (F := Ideal) m' g')
    rw [(h c).1]
    funext i
    obtain ⟨t, j, rfl⟩ : ∃ (t : Fin 4096) (j : Fin 1024), i = ix2 t j := ⟨i 0, i 1, eq_ix2 i⟩
    refine (congrFun (Cert.OutDxReferenceIdeal.Read.val_main_v2_eq _ _) (ix2 t j)).trans ?_
    rw [(hargs c).1, (hargs c).2]
    exact outdx_reference _ _ t j

end Cert.Proof

end
-- ==== Proof.OutValue.lean ====
/- The output projection with the residual and the norm: the frames, and the kernel's two results beside the reference's. -/
module

public import proofs.«01_k».proof.Defs
public import proofs.«01_k».proof.Proof.Norm
public import proofs.«01_k».proof.Proof.Gen.Out
public import proofs.«01_k».proof.Proof.Gen.OutIdeal.Value
public import proofs.«01_k».proof.Proof.Gen.OutReferenceIdeal
public import proofs.«01_k».proof.Proof.Gen.OutReferenceIdeal.Read
public import Idealize.ShloMosaic.Adequacy
public import Idealize.ShloMosaic.Init
public import Idealize.ShloMosaic.Lib.Claim
public import Idealize.ShloMosaic.Lib.Pointwise
public import Idealize.ShloMosaic.Lib.Pipeline.ValueKit.Basic

@[expose] public section

noncomputable section

namespace Cert.OutIdeal.Body

open Cert.OutIdeal Cert.OutIdeal.Gen Idealize.ShloMosaic Idealize.ShloMosaic.TcCoe Idealize.SL.Sem

/-- One residual result: the residual plus a row of the mixer's output times a column of the weights. -/
def res (x : FVec Ideal S4096x1024 .f32) (y : FVec Ideal S4096x1024 .bf16) (w : FVec Ideal S1024x1024 .f32) (t : Fin 4096) (j : Fin 1024) : EReal :=
  x (ix2 t j) + ∑ k : Fin 1024, y (ix2 t k) * w (ix2 k j)

/-- One normed result. -/
def normal (x : FVec Ideal S4096x1024 .f32) (y : FVec Ideal S4096x1024 .bf16) (w : FVec Ideal S1024x1024 .f32) (nw : FVec Ideal S1x1024 .f32)
    (t : Fin 4096) (j : Fin 1024) : EReal :=
  Norm.normed (res x y w t) (nw (ix2 0 j)) j

section Pays
variable (a b : FVec Ideal S1024x1024 .bf16) (x : FVec Ideal S1024x1024 .f32) (nw : FVec Ideal S1x1024 .f32) (t j : Fin 1024)

theorem pay1 : k0_pay1 (F := Ideal) a b x (ix2 t j) = x (ix2 t j) + ∑ k : Fin 1024, a (ix2 t k) * b (ix2 k j) := by
  pointwise [k0_pay1]

theorem pay2 : k0_pay2 (F := Ideal) a b x nw (ix2 t j) = Norm.normed (fun k => k0_pay1 (F := Ideal) a b x (ix2 t k)) (nw (ix2 0 j)) j := by
  pointwise [k0_pay2]
  rfl

end Pays

section Run
variable (m : (ℓ : Loc nD τ sig) → Buf (Elt Ideal) ℓ) (c : Dev nD)

abbrev X : FVec Ideal S4096x1024 .f32 := m ((c : Thread nD τ).loc main_arg0)
abbrev Y : FVec Ideal S4096x1024 .bf16 := m ((c : Thread nD τ).loc main_arg1)
abbrev W : FVec Ideal S1024x1024 .f32 := m ((c : Thread nD τ).loc main_arg2)
abbrev NW : FVec Ideal S1x1024 .f32 := m ((c : Thread nD τ).loc main_arg3)

theorem host_w (k j : Fin 1024) : (V m c main_v0 : FVec Ideal S1024x1024 .bf16) (ix2 k j) = W m c (ix2 k j) := by
  entry_read
  rfl

theorem ix0 : ∀ t : Fin grid0.N, win0_0.index t = ![t.val, 0] := by decide +kernel
theorem ix1 : ∀ t : Fin grid0.N, win0_1.index t = ![0, 0] := by decide +kernel
theorem ix2' : ∀ t : Fin grid0.N, win0_2.index t = ![t.val, 0] := by decide +kernel
theorem ix3 : ∀ t : Fin grid0.N, win0_3.index t = ![0, 0] := by decide +kernel
theorem ix4 : ∀ t : Fin grid0.N, win0_4.index t = ![t.val, 0] := by decide +kernel
theorem ix5 : ∀ t : Fin grid0.N, win0_5.index t = ![t.val, 0] := by decide +kernel

/-- The four blocks a point reads. -/
abbrev blk0 (t : Fin cfg0.N) : FVec Ideal S1024x1024 .bf16 := iblk m c 0 t
abbrev blk1 (t : Fin cfg0.N) : FVec Ideal S1024x1024 .bf16 := iblk m c 1 t
abbrev blk2 (t : Fin cfg0.N) : FVec Ideal S1024x1024 .f32 := iblk m c 2 t
abbrev blk3 (t : Fin cfg0.N) : FVec Ideal S1x1024 .f32 := iblk m c 3 t

/-- The token a block's row is. -/
abbrev tok (t : Fin cfg0.N) (a : Fin 1024) : Fin 4096 := ⟨t.val * 1024 + a.val, by have := lt_of_lt_of_eq t.isLt N_0; omega⟩

theorem read0 (t : Fin cfg0.N) (a k : Fin 1024) : blk0 m c t (ix2 a k) = Y m c (ix2 (tok t a) k) := by
  unfold blk0 iblk
  rw [View.read_apply]
  show V m c main_arg1 _ = _
  rw [show V m c main_arg1 = m ((c : Thread nD τ).loc main_arg1) from rfl]
  unfold Y
  congr 1
  funext x
  apply Fin.ext
  match x with
  | ⟨0, _⟩ => show win0_0.index t 0 * 1024 + 1 * a.val = t.val * 1024 + a.val; rw [congrFun (ix0 t) 0]; show t.val * 1024 + 1 * a.val = _; omega
  | ⟨1, _⟩ => show win0_0.index t 1 * 1024 + 1 * k.val = k.val; rw [congrFun (ix0 t) 1]; show 0 * 1024 + 1 * k.val = _; omega

theorem read1 (t : Fin cfg0.N) (k j : Fin 1024) : blk1 m c t (ix2 k j) = W m c (ix2 k j) := by
  refine Eq.trans ?_ (host_w m c k j)
  unfold blk1 iblk
  rw [View.read_apply]
  show V m c main_v0 _ = _
  congr 1
  funext x
  apply Fin.ext
  match x with
  | ⟨0, _⟩ => show win0_1.index t 0 * 1024 + 1 * k.val = k.val; rw [congrFun (ix1 t) 0]; show 0 * 1024 + 1 * k.val = _; omega
  | ⟨1, _⟩ => show win0_1.index t 1 * 1024 + 1 * j.val = j.val; rw [congrFun (ix1 t) 1]; show 0 * 1024 + 1 * j.val = _; omega

theorem read2 (t : Fin cfg0.N) (a k : Fin 1024) : blk2 m c t (ix2 a k) = X m c (ix2 (tok t a) k) := by
  unfold blk2 iblk
  rw [View.read_apply]
  show V m c main_arg0 _ = _
  rw [show V m c main_arg0 = m ((c : Thread nD τ).loc main_arg0) from rfl]
  unfold X
  congr 1
  funext x
  apply Fin.ext
  match x with
  | ⟨0, _⟩ => show win0_2.index t 0 * 1024 + 1 * a.val = t.val * 1024 + a.val; rw [congrFun (ix2' t) 0]; show t.val * 1024 + 1 * a.val = _; omega
  | ⟨1, _⟩ => show win0_2.index t 1 * 1024 + 1 * k.val = k.val; rw [congrFun (ix2' t) 1]; show 0 * 1024 + 1 * k.val = _; omega

theorem read3 (t : Fin cfg0.N) (j : Fin 1024) : blk3 m c t (ix2 0 j) = NW m c (ix2 0 j) := by
  unfold blk3 iblk
  rw [View.read_apply]
  show V m c main_arg3 _ = _
  rw [show V m c main_arg3 = m ((c : Thread nD τ).loc main_arg3) from rfl]
  unfold NW
  congr 1
  funext x
  apply Fin.ext
  match x with
  | ⟨0, _⟩ => show win0_3.index t 0 * 1 + 1 * 0 = 0; rw [congrFun (ix3 t) 0]; rfl
  | ⟨1, _⟩ => show win0_3.index t 1 * 1024 + 1 * j.val = j.val; rw [congrFun (ix3 t) 1]; show 0 * 1024 + 1 * j.val = _; omega

/-- A point's sum is its tokens' residual. -/
theorem sum_res (t : Fin cfg0.N) (a j : Fin 1024) :
    k0_pay1 (F := Ideal) (blk0 m c t) (blk1 m c t) (blk2 m c t) (ix2 a j) = res (X m c) (Y m c) (W m c) (tok t a) j := by
  rw [pay1]
  simp only [read0, read1, read2]
  rfl

/-- The point that writes a token, and the token's row there. -/
abbrev pt (t : Fin 4096) : Fin cfg0.N := ⟨t.val / 1024, by rw [show cfg0.N = 4 from N_0]; omega⟩
abbrev row (t : Fin 4096) : Fin 1024 := ⟨t.val % 1024, by omega⟩
theorem tok_pt (t : Fin 4096) : tok (pt t) (row t) = t := Fin.ext (by show t.val / 1024 * 1024 + t.val % 1024 = t.val; omega)

/-- The kernel's residual result, read at an index. -/
theorem result_res (t : Fin 4096) (j : Fin 1024) :
    ((dats m 0 c).arrAt 4 cfg0.N : FVec Ideal S4096x1024 .f32) (ix2 t j) = res (X m c) (Y m c) (W m c) t j := by
  have hr : ((cfg0.win 4).blk (pt t)).view.emb (ix2 (row t) j) = (ix2 t j : S4096x1024.Idx) := by
    funext x
    apply Fin.ext
    match x with
    | ⟨0, _⟩ => show win0_4.index (pt t) 0 * 1024 + 1 * (t.val % 1024) = t.val; rw [congrFun (ix4 (pt t)) 0]; show t.val / 1024 * 1024 + 1 * (t.val % 1024) = _; omega
    | ⟨1, _⟩ => show win0_4.index (pt t) 1 * 1024 + 1 * j.val = j.val; rw [congrFun (ix4 (pt t)) 1]; show 0 * 1024 + 1 * j.val = _; omega
  have h := congrFun ((Value.blocks4 m c (pt t) (flush0_4 _)).trans (Value.flushed4 m c (pt t))) (ix2 (row t) j)
  rw [View.read_apply, hr] at h
  refine h.trans ?_
  show out0_4 (F := Ideal) (blk0 m c (pt t)) (blk1 m c (pt t)) (blk2 m c (pt t)) (blk3 m c (pt t)) (ix2 (row t) j) = _
  unfold out0_4
  rw [View.canon_cons_unit_lit _ _ _ (by decide)]
  iterate 3 rw [View.ld_unit_lit _ _ (by decide)]
  rw [sum_res, tok_pt]

/-- The kernel's normed result, read at an index. -/
theorem result_norm (t : Fin 4096) (j : Fin 1024) :
    ((dats m 0 c).arrAt 5 cfg0.N : FVec Ideal S4096x1024 .bf16) (ix2 t j) = normal (X m c) (Y m c) (W m c) (NW m c) t j := by
  have hr : ((cfg0.win 5).blk (pt t)).view.emb (ix2 (row t) j) = (ix2 t j : S4096x1024.Idx) := by
    funext x
    apply Fin.ext
    match x with
    | ⟨0, _⟩ => show win0_5.index (pt t) 0 * 1024 + 1 * (t.val % 1024) = t.val; rw [congrFun (ix5 (pt t)) 0]; show t.val / 1024 * 1024 + 1 * (t.val % 1024) = _; omega
    | ⟨1, _⟩ => show win0_5.index (pt t) 1 * 1024 + 1 * j.val = j.val; rw [congrFun (ix5 (pt t)) 1]; show 0 * 1024 + 1 * j.val = _; omega
  have h := congrFun ((Value.blocks5 m c (pt t) (flush0_5 _)).trans (Value.flushed5 m c (pt t))) (ix2 (row t) j)
  rw [View.read_apply, hr] at h
  refine h.trans ?_
  show out0_5 (F := Ideal) (blk0 m c (pt t)) (blk1 m c (pt t)) (blk2 m c (pt t)) (blk3 m c (pt t)) (ix2 (row t) j) = _
  unfold out0_5
  rw [View.canon_cons_unit_lit _ _ _ (by decide)]
  iterate 4 rw [View.ld_unit_lit _ _ (by decide)]
  rw [pay2, read3]
  simp only [sum_res, tok_pt]
  rfl

end Run

end Cert.OutIdeal.Body

namespace Cert.Proof

open Idealize.ShloMosaic Idealize.SL.Sem Cert.OutIdeal.Body
open Cert.OutReferenceIdeal.Read

theorem out_defs_eq : Cert.OutIdeal.defs₀ (F := Bits) = Cert.Out.defs₀ (F := Bits) := by
  unfold Cert.Out.defs₀ Cert.OutIdeal.defs₀
  congr 1
  funext l a
  match l, a with
  | 0, (t, s) => rfl

theorem frame_out : Cert.quiescent_Out := fun m g _ => by
  have h := Cert.OutIdeal.Gen.frame (F := Bits) m g
  unfold Cert.OutIdeal.defs at h
  rw [out_defs_eq] at h
  exact h

theorem frame_out_reference : Cert.quiescent_OutReferenceIdeal := fun m g _ => by
  refine (θ_run Cert.OutReferenceIdeal.defs _ _).mono (fun r h => ?_) (Cert.OutReferenceIdeal.Value.run (F := Ideal) m g)
  exact ⟨fun c => (h c).2.2, sem_eq_zero_of_no_sems (by decide) _⟩

section
variable (x : FVec Ideal Cert.OutReferenceIdeal.S4096x1024 .f32) (y : FVec Ideal Cert.OutReferenceIdeal.S4096x1024 .bf16)
    (w : FVec Ideal Cert.OutReferenceIdeal.S1024x1024 .f32) (nw : FVec Ideal Cert.OutReferenceIdeal.S1x1024 .f32) (t : Fin 4096) (j : Fin 1024)

theorem out_res : val_main_v2 (F := Ideal) x y w (ix2 t j) = res x y w t j := by
  pointwise [val_main_v2, val_main_v1, val_main_v0]
  rfl

theorem out_norm : val_main_v15 (F := Ideal) x y w nw (ix2 t j) = normal x y w nw t j := by
  pointwise [val_main_v15, val_main_v14, val_main_v13, val_main_v12, val_main_v11, val_main_v10, val_main_v9, val_main_v8, val_main_v7, val_main_v6, val_main_v5, val_main_v4, val_main_v3, val_main_cst, val_main_cst_0, val_main_cst_1]
  simp only [out_res]
  rfl

end

theorem agree_out : Cert.algebraic_OutIdeal_OutReferenceIdeal := by
  intro m g m' g' _ hargs
  refine ⟨fun (c : Dev Cert.OutIdeal.nD) (i : (⟨2, ![4096, 1024]⟩ : Shape).Idx) => res (X m c) (Y m c) (W m c) (i 0) (i 1),
    fun (c : Dev Cert.OutIdeal.nD) (i : (⟨2, ![4096, 1024]⟩ : Shape).Idx) => normal (X m c) (Y m c) (W m c) (NW m c) (i 0) (i 1), ?_, ?_⟩
  · refine (θ_run Cert.OutIdeal.defs _ _).mono (fun r h c => ⟨?_, ?_, (h c).2.2⟩) (Cert.OutIdeal.Value.run_blocks (F := Ideal) m g)
    · rw [(h c).1]
      funext i
      obtain ⟨t, j, rfl⟩ : ∃ (t : Fin 4096) (j : Fin 1024), i = ix2 t j := ⟨i 0, i 1, eq_ix2 i⟩
      exact result_res m c t j
    · rw [(h c).2.1]
      funext i
      obtain ⟨t, j, rfl⟩ : ∃ (t : Fin 4096) (j : Fin 1024), i = ix2 t j := ⟨i 0, i 1, eq_ix2 i⟩
      exact result_norm m c t j
  · refine (θ_run Cert.OutReferenceIdeal.defs _ _).mono (fun r h c => ⟨?_, ?_, (h c).2.2⟩) (Cert.OutReferenceIdeal.Value.run (F := Ideal) m' g')
    · rw [(h c).1]
      funext i
      obtain ⟨t, j, rfl⟩ : ∃ (t : Fin 4096) (j : Fin 1024), i = ix2 t j := ⟨i 0, i 1, eq_ix2 i⟩
      refine (congrFun (val_main_v2_eq _ _ _) (ix2 t j)).trans ?_
      rw [(hargs c).1, (hargs c).2.1, (hargs c).2.2.1]
      exact out_res _ _ _ t j
    · rw [(h c).2.1]
      funext i
      obtain ⟨t, j, rfl⟩ : ∃ (t : Fin 4096) (j : Fin 1024), i = ix2 t j := ⟨i 0, i 1, eq_ix2 i⟩
      refine (congrFun (val_main_v15_eq _ _ _ _) (ix2 t j)).trans ?_
      rw [(hargs c).1, (hargs c).2.1, (hargs c).2.2.1, (hargs c).2.2.2]
      exact out_norm _ _ _ _ t j

end Cert.Proof

end
-- ==== Proof.DownValue.lean ====
/- The down projection with the residual and the norm: the frames, and the kernel's two results beside the reference's. -/
module

public import proofs.«01_k».proof.Defs
public import proofs.«01_k».proof.Proof.Sums
public import proofs.«01_k».proof.Proof.Norm
public import proofs.«01_k».proof.Proof.Gen.Down
public import proofs.«01_k».proof.Proof.Gen.DownIdeal.Value
public import proofs.«01_k».proof.Proof.Gen.DownReferenceIdeal
public import proofs.«01_k».proof.Proof.Gen.DownReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic

@[expose] public section

noncomputable section

namespace Cert.DownIdeal.Body

open Cert.DownIdeal Cert.DownIdeal.Gen Idealize.ShloMosaic Idealize.ShloMosaic.TcCoe Idealize.SL.Sem Cert.Sums

/-- One hidden unit's part of one entry. -/
def term (r : FVec Ideal S4096x4096 .bf16) (w : FVec Ideal S4096x1024 .f32) (t j : ℕ) (k : ℕ) : EReal :=
  nat2 r t k * nat2 r t k * nat2 w k j

/-- One residual result, and one normed result. -/
def res (x : FVec Ideal S4096x1024 .f32) (r : FVec Ideal S4096x4096 .bf16) (w : FVec Ideal S4096x1024 .f32) (t : ℕ) (j : Fin 1024) : EReal :=
  nat2 x t j + upTo (term r w t j) 4096
def normal (x : FVec Ideal S4096x1024 .f32) (r : FVec Ideal S4096x4096 .bf16) (w : FVec Ideal S4096x1024 .f32) (nw : FVec Ideal S1x1024 .f32)
    (t : ℕ) (j : Fin 1024) : EReal :=
  Norm.normed (res x r w t) (nw (ix2 0 j)) j

section Pays
variable (a b : FVec Ideal S1024x1024 .bf16) (acc x : FVec Ideal S1024x1024 .f32) (nw : FVec Ideal S1x1024 .f32) (i j : Fin 1024)

theorem pay1 : k0_pay1 (F := Ideal) a b (ix2 i j) = ∑ k : Fin 1024, a (ix2 i k) * a (ix2 i k) * b (ix2 k j) := by
  pointwise [k0_pay1]
theorem pay2 : k0_pay2 (F := Ideal) acc a b (ix2 i j) = acc (ix2 i j) + ∑ k : Fin 1024, a (ix2 i k) * a (ix2 i k) * b (ix2 k j) := by
  pointwise [k0_pay2]
theorem pay3 : k0_pay3 (F := Ideal) acc a b x (ix2 i j) = x (ix2 i j) + (acc (ix2 i j) + ∑ k : Fin 1024, a (ix2 i k) * a (ix2 i k) * b (ix2 k j)) := by
  pointwise [k0_pay3]
theorem pay4 : k0_pay4 (F := Ideal) acc a b x nw (ix2 i j) = Norm.normed (fun k => k0_pay3 (F := Ideal) acc a b x (ix2 i k)) (nw (ix2 0 j)) j := by
  pointwise [k0_pay4]
  rfl

end Pays

section Runs
/-- A load of a whole block reads the block. -/
theorem ld_whole {e : EltTy} (inb : ∀ a, (![0, 0] : Fin 2 → ℕ) a + S1024x1024.size a ≤ S1024x1024.size a) (X : S1024x1024.Idx → Elt Ideal e) :
    View.ld X (Rect.unit (s := S1024x1024) ![0, 0] ![1024, 1024] inb) = X := View.ld_unit_lit inb X (by decide)
theorem ld_row {e : EltTy} (inb : ∀ a, (![0, 0] : Fin 2 → ℕ) a + S1x1024.size a ≤ S1x1024.size a) (X : S1x1024.Idx → Elt Ideal e) :
    View.ld X (Rect.unit (s := S1x1024) ![0, 0] ![1, 1024] inb) = X := View.ld_unit_lit inb X (by decide)

variable (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole)
  (arg8 : Memref sig .tc .vmem S1024x1024 .bf16) (harg8 : arg8.IsWhole) (arg9 : Memref sig .tc .vmem S1024x1024 .f32) (harg9 : arg9.IsWhole)
  (x0 x1 : FVec Ideal S1024x1024 .bf16) (x2 : FVec Ideal S1024x1024 .f32) (x3 : FVec Ideal S1x1024 .f32) (xs : FVec Ideal S1024x1024 .f32)

theorem first (hc0 : cond0_0 i) (hc1 : ¬cond0_1 i) (hc2 : ¬cond0_2 i) :
    sout0_A_0 (F := Ideal) c i arg3 harg3 arg4 harg4 arg5 harg5 arg6 harg6 arg7 harg7 arg8 harg8 arg9 harg9 hc0 hc1 hc2 x0 x1 x2 x3 = k0_pay1 (F := Ideal) x0 x1 := by
  unfold sout0_A_0 kernelRun0_A
  dsimp only
  sl_unfold_words
  rw [View.read_writes_junk_eq_canon, View.canon_cons_unit_lit _ _ _ (by decide)]
  simp only [View.readAt_eq_ld, harg3.read_unread, harg4.read_unread, ld_whole]

theorem next (hc0 : ¬cond0_0 i) (hc1 : cond0_1 i) (hc2 : ¬cond0_2 i) :
    sout0_B_0 (F := Ideal) c i arg3 harg3 arg4 harg4 arg5 harg5 arg6 harg6 arg7 harg7 arg8 harg8 arg9 harg9 hc0 hc1 hc2 x0 x1 x2 x3 xs = k0_pay2 (F := Ideal) xs x0 x1 := by
  unfold sout0_B_0 kernelRun0_B
  dsimp only
  sl_unfold_words
  rw [View.read_writes_junk_eq_canon, View.canon_cons_unit_lit _ _ _ (by decide)]
  simp only [View.readAt_eq_ld, harg3.read_unread, harg4.read_unread, harg9.read_unread, ld_whole]

theorem last_res (hc0 : ¬cond0_0 i) (hc1 : ¬cond0_1 i) (hc2 : cond0_2 i) :
    out0_C_4 (F := Ideal) c i arg3 harg3 arg4 harg4 arg5 harg5 arg6 harg6 arg7 harg7 arg8 harg8 arg9 harg9 hc0 hc1 hc2 x0 x1 x2 x3 xs = k0_pay3 (F := Ideal) xs x0 x1 x2 := by
  unfold out0_C_4 kernelRun0_C
  dsimp only
  sl_unfold_words
  rw [View.read_writes_junk_eq_canon, View.canon_cons_unit_lit _ _ _ (by decide)]
  simp only [View.readAt_eq_ld, harg3.read_unread, harg4.read_unread, harg5.read_unread, harg9.read_unread, ld_whole]

theorem last_norm (hc0 : ¬cond0_0 i) (hc1 : ¬cond0_1 i) (hc2 : cond0_2 i) :
    out0_C_5 (F := Ideal) c i arg3 harg3 arg4 harg4 arg5 harg5 arg6 harg6 arg7 harg7 arg8 harg8 arg9 harg9 hc0 hc1 hc2 x0 x1 x2 x3 xs = k0_pay4 (F := Ideal) xs x0 x1 x2 x3 := by
  unfold out0_C_5 kernelRun0_C
  dsimp only
  sl_unfold_words
  rw [View.read_writes_junk_eq_canon, View.canon_cons_unit_lit _ _ _ (by decide)]
  simp only [View.readAt_eq_ld, harg3.read_unread, harg4.read_unread, harg5.read_unread, harg6.read_unread, harg9.read_unread, ld_whole, ld_row]

end Runs

section Run
variable (m : (ℓ : Loc nD τ sig) → Buf (Elt Ideal) ℓ) (c : Dev nD)

abbrev X : FVec Ideal S4096x1024 .f32 := m ((c : Thread nD τ).loc main_arg0)
abbrev R : FVec Ideal S4096x4096 .bf16 := m ((c : Thread nD τ).loc main_arg1)
abbrev W : FVec Ideal S4096x1024 .f32 := m ((c : Thread nD τ).loc main_arg2)
abbrev NW : FVec Ideal S1x1024 .f32 := m ((c : Thread nD τ).loc main_arg3)

theorem host_w (k : Fin 4096) (j : Fin 1024) : (V m c main_v0 : FVec Ideal S4096x1024 .bf16) (ix2 k j) = W m c (ix2 k j) := by
  entry_read
  rfl

theorem ix0 : ∀ t : Fin grid0.N, win0_0.index t = ![t.val / 4, t.val % 4] := by decide +kernel
theorem ix1 : ∀ t : Fin grid0.N, win0_1.index t = ![t.val % 4, 0] := by decide +kernel
theorem ix2' : ∀ t : Fin grid0.N, win0_2.index t = ![t.val / 4, 0] := by decide +kernel
theorem ix3 : ∀ t : Fin grid0.N, win0_3.index t = ![0, 0] := by decide +kernel

/-- The four blocks a point reads. -/
abbrev blk0 (t : Fin cfg0.N) : FVec Ideal S1024x1024 .bf16 := iblk m c 0 t
abbrev blk1 (t : Fin cfg0.N) : FVec Ideal S1024x1024 .bf16 := iblk m c 1 t
abbrev blk2 (t : Fin cfg0.N) : FVec Ideal S1024x1024 .f32 := iblk m c 2 t
abbrev blk3 (t : Fin cfg0.N) : FVec Ideal S1x1024 .f32 := iblk m c 3 t

theorem read0 (t : Fin cfg0.N) (a k : Fin 1024) :
    blk0 m c t (ix2 a k) = nat2 (R m c) (t.val / 4 * 1024 + a.val) (t.val % 4 * 1024 + k.val) := by
  have hN := lt_of_lt_of_eq t.isLt N_0
  rw [nat2_of _ (by omega) (by omega)]
  unfold blk0 iblk
  rw [View.read_apply]
  show R m c _ = _
  congr 1
  funext x
  apply Fin.ext
  match x with
  | ⟨0, _⟩ => show win0_0.index t 0 * 1024 + 1 * a.val = t.val / 4 * 1024 + a.val; rw [congrFun (ix0 t) 0]; show t.val / 4 * 1024 + 1 * a.val = _; omega
  | ⟨1, _⟩ => show win0_0.index t 1 * 1024 + 1 * k.val = t.val % 4 * 1024 + k.val; rw [congrFun (ix0 t) 1]; show t.val % 4 * 1024 + 1 * k.val = _; omega

theorem read1 (t : Fin cfg0.N) (k j : Fin 1024) : blk1 m c t (ix2 k j) = nat2 (W m c) (t.val % 4 * 1024 + k.val) j.val := by
  have hN := lt_of_lt_of_eq t.isLt N_0
  rw [nat2_of _ (by omega) (by omega)]
  refine Eq.trans ?_ (host_w m c _ _)
  unfold blk1 iblk
  rw [View.read_apply]
  show V m c main_v0 _ = _
  congr 1
  funext x
  apply Fin.ext
  match x with
  | ⟨0, _⟩ => show win0_1.index t 0 * 1024 + 1 * k.val = t.val % 4 * 1024 + k.val; rw [congrFun (ix1 t) 0]; show t.val % 4 * 1024 + 1 * k.val = _; omega
  | ⟨1, _⟩ => show win0_1.index t 1 * 1024 + 1 * j.val = j.val; rw [congrFun (ix1 t) 1]; show 0 * 1024 + 1 * j.val = _; omega

theorem read2 (t : Fin cfg0.N) (a j : Fin 1024) : blk2 m c t (ix2 a j) = nat2 (X m c) (t.val / 4 * 1024 + a.val) j.val := by
  have hN := lt_of_lt_of_eq t.isLt N_0
  rw [nat2_of _ (by omega) (by omega)]
  unfold blk2 iblk
  rw [View.read_apply]
  show X m c _ = _
  congr 1
  funext x
  apply Fin.ext
  match x with
  | ⟨0, _⟩ => show win0_2.index t 0 * 1024 + 1 * a.val = t.val / 4 * 1024 + a.val; rw [congrFun (ix2' t) 0]; show t.val / 4 * 1024 + 1 * a.val = _; omega
  | ⟨1, _⟩ => show win0_2.index t 1 * 1024 + 1 * j.val = j.val; rw [congrFun (ix2' t) 1]; show 0 * 1024 + 1 * j.val = _; omega

theorem read3 (t : Fin cfg0.N) (j : Fin 1024) : blk3 m c t (ix2 0 j) = NW m c (ix2 0 j) := by
  unfold blk3 iblk
  rw [View.read_apply]
  show NW m c _ = _
  congr 1
  funext x
  apply Fin.ext
  match x with
  | ⟨0, _⟩ => show win0_3.index t 0 * 1 + 1 * 0 = 0; rw [congrFun (ix3 t) 0]; rfl
  | ⟨1, _⟩ => show win0_3.index t 1 * 1024 + 1 * j.val = j.val; rw [congrFun (ix3 t) 1]; show 0 * 1024 + 1 * j.val = _; omega

/-- One point's product is the next 1024 hidden units' terms. -/
theorem piece (t : Fin cfg0.N) (a b : Fin 1024) :
    ∑ k : Fin 1024, blk0 m c t (ix2 a k) * blk0 m c t (ix2 a k) * blk1 m c t (ix2 k b)
      = ∑ k : Fin 1024, term (R m c) (W m c) (t.val / 4 * 1024 + a.val) b.val (t.val % 4 * 1024 + k.val) := by
  simp only [read0, read1, term]

/-- What the accumulator holds after each point but a block's last. -/
theorem state : ∀ (n : ℕ) (h : n < cfg0.N), n % 4 < 3 → ∀ a b : Fin 1024,
    (outsAt0 m c n h).2.2 (ix2 a b) = upTo (term (R m c) (W m c) (n / 4 * 1024 + a.val) b.val) (n % 4 * 1024 + 1024) := by
  intro n
  induction n with
  | zero =>
    intro h _ a b
    rw [outsAt0_A m c ⟨0, h⟩ (Nat.zero_mod _) (by show ¬(1 ≤ 0 % 4 ∧ 0 % 4 ≤ 2); omega) (by show ¬(0 % 4 = 3); omega)]
    dsimp only
    rw [first, pay1, piece, upTo_add]
    dsimp only
    rw [Nat.zero_mod, Nat.zero_mul, upTo_zero]
    exact (zero_add _).symm
  | succ n ih =>
    intro h hl a b
    by_cases h0 : (n + 1) % 4 = 0
    · rw [outsAt0_A m c ⟨n + 1, h⟩ h0 (by show ¬(1 ≤ (n + 1) % 4 ∧ (n + 1) % 4 ≤ 2); omega) (by show ¬((n + 1) % 4 = 3); omega)]
      dsimp only
      rw [first, pay1, piece, upTo_add]
      dsimp only
      rw [h0, Nat.zero_mul, upTo_zero, zero_add]
    · rw [outsAt0_B m c ⟨n + 1, h⟩ h0 (by show 1 ≤ (n + 1) % 4 ∧ (n + 1) % 4 ≤ 2; omega) (by show ¬((n + 1) % 4 = 3); omega)]
      dsimp only
      rw [next, pay2, piece, upTo_add]
      dsimp only
      congr 1
      refine (ih (Nat.lt_of_succ_lt h) (by omega) a b).trans ?_
      rw [show n / 4 = (n + 1) / 4 by omega, show n % 4 * 1024 + 1024 = (n + 1) % 4 * 1024 by omega]

/-- A block's last point has the whole sum. -/
theorem whole (t : Fin cfg0.N) (hl : t.val % 4 = 3) (a b : Fin 1024) :
    k0_pay3 (F := Ideal) (outsAt0 m c (t.val - 1) (Nat.lt_of_le_of_lt (Nat.sub_le _ _) t.isLt)).2.2 (blk0 m c t) (blk1 m c t) (blk2 m c t) (ix2 a b)
      = res (X m c) (R m c) (W m c) (t.val / 4 * 1024 + a.val) b := by
  rw [pay3, piece, read2, state m c (t.val - 1) _ (by omega), hl, res]
  show _ = nat2 _ _ _ + upTo (term (R m c) (W m c) (t.val / 4 * 1024 + a.val) b.val) (3072 + 1024)
  rw [upTo_add _ 3072 1024, show (t.val - 1) / 4 = t.val / 4 by omega, show (t.val - 1) % 4 * 1024 + 1024 = 3072 by omega]

/-- What a block's last point leaves in the two results. -/
theorem outs_res (t : Fin cfg0.N) (hl : t.val % 4 = 3) (a b : Fin 1024) :
    (outsAt0 m c t.val t.isLt).1 (ix2 a b) = res (X m c) (R m c) (W m c) (t.val / 4 * 1024 + a.val) b := by
  rw [outsAt0_C m c t (by omega) (by omega) hl]
  dsimp only
  rw [last_res]
  exact whole m c t hl a b
theorem outs_norm (t : Fin cfg0.N) (hl : t.val % 4 = 3) (a b : Fin 1024) :
    (outsAt0 m c t.val t.isLt).2.1 (ix2 a b) = normal (X m c) (R m c) (W m c) (NW m c) (t.val / 4 * 1024 + a.val) b := by
  rw [outsAt0_C m c t (by omega) (by omega) hl]
  dsimp only
  rw [last_norm, pay4]
  have e : (fun k => k0_pay3 (F := Ideal) (outsAt0 m c (t.val - 1) (Nat.lt_of_le_of_lt (Nat.sub_le _ _) t.isLt)).2.2 (blk0 m c t) (blk1 m c t) (blk2 m c t) (ix2 a k))
      = res (X m c) (R m c) (W m c) (t.val / 4 * 1024 + a.val) := funext fun k => whole m c t hl a k
  show Norm.normed (fun k => k0_pay3 (F := Ideal) _ (blk0 m c t) (blk1 m c t) (blk2 m c t) (ix2 a k)) (blk3 m c t (ix2 0 b)) b = _
  rw [e, read3]
  rfl

/-- The kernel's residual result. -/
theorem result_res (t : Fin 4096) (j : Fin 1024) : (Value.G4 m c : FVec Ideal S4096x1024 .f32) (ix2 t j) = res (X m c) (R m c) (W m c) t j := by
  have hp : Value.pt4Of (ix2 t j) = 4 * (t.val / 1024) + 3 := by
    show 4 * (1 * (t.val / 1024 - 0) + 1 * (j.val / 1024 - 0)) + 3 = _
    omega
  have hu : Value.pt4Of (ix2 t j) < cfg0.N := by rw [hp, show cfg0.N = 16 from N_0]; omega
  unfold Value.G4
  rw [dif_pos hu, ← Value.outsAt0_sweep m c _ hu]
  have hl : Value.loc4Of (ix2 t j) = ix2 (⟨t.val % 1024, by omega⟩ : Fin 1024) j := by
    funext x
    apply Fin.ext
    match x with
    | ⟨0, _⟩ => rfl
    | ⟨1, _⟩ => show j.val % 1024 = j.val; omega
  rw [hl]
  refine (outs_res m c ⟨Value.pt4Of (ix2 t j), hu⟩ (by show Value.pt4Of (ix2 t j) % 4 = 3; omega) _ _).trans ?_
  show res _ _ _ (Value.pt4Of (ix2 t j) / 4 * 1024 + t.val % 1024) j = _
  rw [show Value.pt4Of (ix2 t j) / 4 * 1024 + t.val % 1024 = t.val by omega]

/-- The kernel's normed result. -/
theorem result_norm (t : Fin 4096) (j : Fin 1024) :
    (Value.G5 m c : FVec Ideal S4096x1024 .bf16) (ix2 t j) = normal (X m c) (R m c) (W m c) (NW m c) t j := by
  have hp : Value.pt5Of (ix2 t j) = 4 * (t.val / 1024) + 3 := by
    show 4 * (1 * (t.val / 1024 - 0) + 1 * (j.val / 1024 - 0)) + 3 = _
    omega
  have hu : Value.pt5Of (ix2 t j) < cfg0.N := by rw [hp, show cfg0.N = 16 from N_0]; omega
  unfold Value.G5
  rw [dif_pos hu, ← Value.outsAt0_sweep m c _ hu]
  have hl : Value.loc5Of (ix2 t j) = ix2 (⟨t.val % 1024, by omega⟩ : Fin 1024) j := by
    funext x
    apply Fin.ext
    match x with
    | ⟨0, _⟩ => rfl
    | ⟨1, _⟩ => show j.val % 1024 = j.val; omega
  rw [hl]
  refine (outs_norm m c ⟨Value.pt5Of (ix2 t j), hu⟩ (by show Value.pt5Of (ix2 t j) % 4 = 3; omega) _ _).trans ?_
  show normal _ _ _ _ (Value.pt5Of (ix2 t j) / 4 * 1024 + t.val % 1024) j = _
  rw [show Value.pt5Of (ix2 t j) / 4 * 1024 + t.val % 1024 = t.val by omega]

end Run

end Cert.DownIdeal.Body

namespace Cert.Proof

open Idealize.ShloMosaic Idealize.SL.Sem Cert.DownIdeal.Body Cert.Sums
open Cert.DownReferenceIdeal.Read

theorem down_defs_eq : Cert.DownIdeal.defs₀ (F := Bits) = Cert.Down.defs₀ (F := Bits) := by
  unfold Cert.Down.defs₀ Cert.DownIdeal.defs₀
  congr 1
  funext l a
  match l, a with
  | 0, (t, s) => rfl

theorem frame_down : Cert.quiescent_Down := fun m g _ => by
  have h := Cert.DownIdeal.Gen.frame (F := Bits) m g
  unfold Cert.DownIdeal.defs at h
  rw [down_defs_eq] at h
  exact h

theorem frame_down_reference : Cert.quiescent_DownReferenceIdeal := fun m g _ => by
  refine (θ_run Cert.DownReferenceIdeal.defs _ _).mono (fun r h => ?_) (Cert.DownReferenceIdeal.Value.run (F := Ideal) m g)
  exact ⟨fun c => (h c).2.2, sem_eq_zero_of_no_sems (by decide) _⟩

section
variable (x : FVec Ideal Cert.DownReferenceIdeal.S4096x1024 .f32) (r : FVec Ideal Cert.DownReferenceIdeal.S4096x4096 .bf16)
    (w : FVec Ideal Cert.DownReferenceIdeal.S4096x1024 .f32) (nw : FVec Ideal Cert.DownReferenceIdeal.S1x1024 .f32) (t : Fin 4096) (j : Fin 1024)

theorem down_res : val_main_v3 (F := Ideal) x r w (ix2 t j) = res x r w t j := by
  rw [res, upTo_first, nat2_fin]
  pointwise [val_main_v3, val_main_v2, val_main_v1, val_main_v0]
  congr 1
  refine Finset.sum_congr rfl fun k _ => ?_
  unfold term
  rw [nat2_fin, nat2_fin]

theorem down_norm : val_main_v16 (F := Ideal) x r w nw (ix2 t j) = normal x r w nw t j := by
  pointwise [val_main_v16, val_main_v15, val_main_v14, val_main_v13, val_main_v12, val_main_v11, val_main_v10, val_main_v9, val_main_v8, val_main_v7, val_main_v6, val_main_v5, val_main_v4, val_main_cst, val_main_cst_0, val_main_cst_1]
  simp only [down_res]
  rfl

end

theorem agree_down : Cert.algebraic_DownIdeal_DownReferenceIdeal := by
  intro m g m' g' _ hargs
  refine ⟨fun (c : Dev Cert.DownIdeal.nD) (i : (⟨2, ![4096, 1024]⟩ : Shape).Idx) => res (X m c) (R m c) (W m c) (i 0).val (i 1),
    fun (c : Dev Cert.DownIdeal.nD) (i : (⟨2, ![4096, 1024]⟩ : Shape).Idx) => normal (X m c) (R m c) (W m c) (NW m c) (i 0).val (i 1), ?_, ?_⟩
  · refine (θ_run Cert.DownIdeal.defs _ _).mono (fun r h c => ⟨?_, ?_, (h c).2.2⟩) (Cert.DownIdeal.Value.run (F := Ideal) m g)
    · rw [(h c).1]
      funext i
      obtain ⟨t, j, rfl⟩ : ∃ (t : Fin 4096) (j : Fin 1024), i = ix2 t j := ⟨i 0, i 1, eq_ix2 i⟩
      exact result_res m c t j
    · rw [(h c).2.1]
      funext i
      obtain ⟨t, j, rfl⟩ : ∃ (t : Fin 4096) (j : Fin 1024), i = ix2 t j := ⟨i 0, i 1, eq_ix2 i⟩
      exact result_norm m c t j
  · refine (θ_run Cert.DownReferenceIdeal.defs _ _).mono (fun r h c => ⟨?_, ?_, (h c).2.2⟩) (Cert.DownReferenceIdeal.Value.run (F := Ideal) m' g')
    · rw [(h c).1]
      funext i
      obtain ⟨t, j, rfl⟩ : ∃ (t : Fin 4096) (j : Fin 1024), i = ix2 t j := ⟨i 0, i 1, eq_ix2 i⟩
      refine (congrFun (val_main_v3_eq _ _ _) (ix2 t j)).trans ?_
      rw [(hargs c).1, (hargs c).2.1, (hargs c).2.2.1]
      exact down_res _ _ _ t j
    · rw [(h c).2.1]
      funext i
      obtain ⟨t, j, rfl⟩ : ∃ (t : Fin 4096) (j : Fin 1024), i = ix2 t j := ⟨i 0, i 1, eq_ix2 i⟩
      refine (congrFun (val_main_v16_eq _ _ _ _) (ix2 t j)).trans ?_
      rw [(hargs c).1, (hargs c).2.1, (hargs c).2.2.1, (hargs c).2.2.2]
      exact down_norm _ _ _ _ t j

end Cert.Proof

end
-- ==== Proof.InEvenDxValue.lean ====
/- The gradient at an even block's input: the frames, and the kernel's three results beside the reference's. -/
module

public import proofs.«01_k».proof.Defs
public import proofs.«01_k».proof.Proof.Sums
public import proofs.«01_k».proof.Proof.Norm
public import proofs.«01_k».proof.Proof.Gen.InEvenDx
public import proofs.«01_k».proof.Proof.Gen.InEvenDxIdeal.Value
public import proofs.«01_k».proof.Proof.Gen.InEvenDxReferenceIdeal
public import proofs.«01_k».proof.Proof.Gen.InEvenDxReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.InEvenDxIdeal.Body

open Cert.InEvenDxIdeal Cert.InEvenDxIdeal.Gen Idealize.ShloMosaic Idealize.ShloMosaic.TcCoe Idealize.SL.Sem Cert.Sums

/-- One projected column's part of one entry of the gradient at the normed row, and the entry. -/
def term (du : FVec Ideal S4096x3072 .bf16) (w : FVec Ideal S1024x3072 .f32) (t j : ℕ) (k : ℕ) : EReal := nat2 du t k * nat2 w j k
def D (du : FVec Ideal S4096x3072 .bf16) (w : FVec Ideal S1024x3072 .f32) (t : ℕ) (j : Fin 1024) : EReal := upTo (term du w t j.val) 3072

/-- A row of the input. -/
def row (x : FVec Ideal S4096x1024 .f32) (t : ℕ) (j : Fin 1024) : EReal := nat2 x t j.val

/-- One entry of the input's gradient, and one of the norm weight's. -/
def dx (x : FVec Ideal S4096x1024 .f32) (nw : FVec Ideal S1x1024 .f32) (w : FVec Ideal S1024x3072 .f32) (du : FVec Ideal S4096x3072 .bf16)
    (dxo : FVec Ideal S4096x1024 .f32) (t : ℕ) (j : Fin 1024) : EReal :=
  Norm.grad (row x t) (D du w t) (fun b => nw (ix2 0 b)) (row dxo t j) j
def dnw (x : FVec Ideal S4096x1024 .f32) (w : FVec Ideal S1024x3072 .f32) (du : FVec Ideal S4096x3072 .bf16) (j : Fin 1024) : EReal :=
  upTo (Norm.share (D du w) (row x) j) 4096

section Pays
variable (aH aL : FVec Ideal S1024x384 .bf16) (bH bL : FVec Ideal S1x1024x384 .bf16) (acc x dxo : FVec Ideal S1024x1024 .f32) (nw p : FVec Ideal S1x1024 .f32) (t j : Fin 1024)

theorem pay1 : k0_pay1 (F := Ideal) aH bH aL bL (ix2 t j)
    = ∑ k : Fin 384, aH (ix2 t k) * bH (ix3 (0 : Fin 1) j k) + ∑ k : Fin 384, aL (ix2 t k) * bL (ix3 (0 : Fin 1) j k) := by
  pointwise [k0_pay1]
theorem pay2 : k0_pay2 (F := Ideal) acc aH bH aL bL (ix2 t j)
    = acc (ix2 t j) + (∑ k : Fin 384, aH (ix2 t k) * bH (ix3 (0 : Fin 1) j k) + ∑ k : Fin 384, aL (ix2 t k) * bL (ix3 (0 : Fin 1) j k)) := by
  pointwise [k0_pay2]
theorem pay7 : k0_pay7 (F := Ideal) acc aH bH aL bL (ix2 t j)
    = acc (ix2 t j) + (∑ k : Fin 384, aH (ix2 t k) * bH (ix3 (0 : Fin 1) j k) + ∑ k : Fin 384, aL (ix2 t k) * bL (ix3 (0 : Fin 1) j k)) := by
  pointwise [k0_pay7]
theorem pay8 : k0_pay8 (F := Ideal) x (ix2 t 0) = Norm.scale (fun k => x (ix2 t k)) := by
  pointwise [k0_pay8]
  rfl
theorem pay9 : k0_pay9 (F := Ideal) x (ix2 t j) = x (ix2 t j) * k0_pay8 (F := Ideal) x (ix2 t 0) := by
  pointwise [k0_pay9]
theorem pay10 : k0_pay10 (F := Ideal) acc aH bH aL bL nw (ix2 t j) = k0_pay7 (F := Ideal) acc aH bH aL bL (ix2 t j) * nw (ix2 0 j) := by
  pointwise [k0_pay10]
theorem pay11 : k0_pay11 (F := Ideal) acc aH bH aL bL x nw (ix2 t j)
    = Ideal.div (∑ b : Fin 1024, k0_pay10 (F := Ideal) acc aH bH aL bL nw (ix2 t b) * k0_pay9 (F := Ideal) x (ix2 t b)) (Ideal.ofBits .f32 0x44800000#32) := by
  pointwise [k0_pay11]
theorem pay3 (r : FVec Ideal S1024x1 .f32) (xh dn q : FVec Ideal S1024x1024 .f32) :
    k0_pay3 (F := Ideal) dxo r xh dn q (ix2 t j) = dxo (ix2 t j) + r (ix2 t 0) * (dn (ix2 t j) - xh (ix2 t j) * q (ix2 t j)) := by
  pointwise [k0_pay3]
theorem pay5 (r : FVec Ideal S1024x1 .f32) (xh dn q : FVec Ideal S1024x1024 .f32) :
    k0_pay5 (F := Ideal) dxo r xh dn q (ix2 t j) = k0_pay3 (F := Ideal) dxo r xh dn q (ix2 t j) := by
  pointwise [k0_pay5]
theorem pay4 (dh xh : FVec Ideal S1024x1024 .f32) : k0_pay4 (F := Ideal) dh xh (ix2 0 j) = ∑ k : Fin 1024, dh (ix2 k j) * xh (ix2 k j) := by
  pointwise [k0_pay4]
theorem pay6 (dh xh : FVec Ideal S1024x1024 .f32) : k0_pay6 (F := Ideal) dh xh p (ix2 0 j) = p (ix2 0 j) + k0_pay4 (F := Ideal) dh xh (ix2 0 j) := by
  pointwise [k0_pay6]

/-- A last point's gradient of a row, and its column sums. -/
theorem pay_dx : k0_pay3 (F := Ideal) dxo (k0_pay8 x) (k0_pay9 x) (k0_pay10 acc aH bH aL bL nw) (k0_pay11 acc aH bH aL bL x nw) (ix2 t j)
    = Norm.grad (fun b => x (ix2 t b)) (fun b => k0_pay7 (F := Ideal) acc aH bH aL bL (ix2 t b)) (fun b => nw (ix2 0 b)) (dxo (ix2 t j)) j := by
  rw [pay3, pay11]
  simp only [pay9, pay10, pay8]
  rfl
theorem pay_dnw : k0_pay4 (F := Ideal) (k0_pay7 acc aH bH aL bL) (k0_pay9 x) (ix2 0 j)
    = ∑ k : Fin 1024, k0_pay7 (F := Ideal) acc aH bH aL bL (ix2 k j) * (x (ix2 k j) * Norm.scale (fun b => x (ix2 k b))) := by
  rw [pay4]
  simp only [pay9, pay8]

end Pays

section Runs
/-- A load of a whole block reads the block. -/
theorem ld_whole {e : EltTy} (inb : ∀ a, (![0, 0] : Fin 2 → ℕ) a + S1024x1024.size a ≤ S1024x1024.size a) (X : S1024x1024.Idx → Elt Ideal e) :
    View.ld X (Rect.unit (s := S1024x1024) ![0, 0] ![1024, 1024] inb) = X := View.ld_unit_lit inb X (by decide)
theorem ld_row {e : EltTy} (inb : ∀ a, (![0, 0] : Fin 2 → ℕ) a + S1x1024.size a ≤ S1x1024.size a) (X : S1x1024.Idx → Elt Ideal e) :
    View.ld X (Rect.unit (s := S1x1024) ![0, 0] ![1, 1024] inb) = X := View.ld_unit_lit inb X (by decide)

/-- The two halves of what comes back, and of the weights. -/
abbrev aHi (x : S1024x768.Idx → Elt Ideal .bf16) : FVec Ideal S1024x384 .bf16 := View.ld (Val := Elt Ideal) x (Rect.unit (s := S1024x768) ![0, 384] ![1024, 384] inb_S1024x768_S1024x384_0_384)
abbrev aLo (x : S1024x768.Idx → Elt Ideal .bf16) : FVec Ideal S1024x384 .bf16 := View.ld (Val := Elt Ideal) x (Rect.unit (s := S1024x768) ![0, 0] ![1024, 384] inb_S1024x768_S1024x384_0_0)
abbrev bHi (x : S2x1024x384.Idx → Elt Ideal .bf16) : FVec Ideal S1x1024x384 .bf16 := View.ld (Val := Elt Ideal) x (Rect.unit (s := S2x1024x384) ![1, 0, 0] ![1, 1024, 384] inb_S2x1024x384_S1x1024x384_1_0_0)
abbrev bLo (x : S2x1024x384.Idx → Elt Ideal .bf16) : FVec Ideal S1x1024x384 .bf16 := View.ld (Val := Elt Ideal) x (Rect.unit (s := S2x1024x384) ![0, 0, 0] ![1, 1024, 384] inb_S2x1024x384_S1x1024x384_0_0_0)

variable (c : Dev nD) (i : grid0.Coords) (arg3 : Memref sig .tc .vmem S1024x768 .bf16) (harg3 : arg3.IsWhole) (arg4 : Memref sig .tc .vmem S2x1024x384 .bf16) (harg4 : arg4.IsWhole)
  (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole)
  (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole)
  (arg11 : Memref sig .tc .vmem S1024x1024 .f32) (harg11 : arg11.IsWhole)
  (x0 : FVec Ideal S1024x768 .bf16) (x1 : FVec Ideal S2x1024x384 .bf16) (x2 x3 : FVec Ideal S1024x1024 .f32) (x4 xo : FVec Ideal S1x1024 .f32) (xs : FVec Ideal S1024x1024 .f32)

theorem first (hc0 : cond0_0 i) (hc1 : ¬cond0_1 i) (hc2 : ¬cond0_2 i) :
    sout0_A_0 (F := Ideal) c i arg3 harg3 arg4 harg4 arg5 harg5 arg6 harg6 arg7 harg7 arg8 harg8 arg9 harg9 arg10 harg10 arg11 harg11 hc0 hc1 hc2 x0 x1 x2 x3 x4
      = k0_pay1 (F := Ideal) (aHi x0) (bHi x1) (aLo x0) (bLo x1) := by
  unfold sout0_A_0 kernelRun0_A
  dsimp only
  sl_unfold_words
  rw [View.read_writes_junk_eq_canon, View.canon_cons_unit_lit _ _ _ (by decide)]
  simp only [View.readAt_eq_ld, harg3.read_unread, harg4.read_unread]

theorem next (hc0 : ¬cond0_0 i) (hc1 : cond0_1 i) (hc2 : ¬cond0_2 i) :
    sout0_B_0 (F := Ideal) c i arg3 harg3 arg4 harg4 arg5 harg5 arg6 harg6 arg7 harg7 arg8 harg8 arg9 harg9 arg10 harg10 arg11 harg11 hc0 hc1 hc2 x0 x1 x2 x3 x4 xs
      = k0_pay2 (F := Ideal) xs (aHi x0) (bHi x1) (aLo x0) (bLo x1) := by
  unfold sout0_B_0 kernelRun0_B
  dsimp only
  sl_unfold_words
  rw [View.read_writes_junk_eq_canon, View.canon_cons_unit_lit _ _ _ (by decide)]
  simp only [View.readAt_eq_ld, harg3.read_unread, harg4.read_unread, harg11.read_unread, ld_whole]

/-- What a block's last point writes of the input's gradient. -/
abbrev lastDx : FVec Ideal S1024x1024 .f32 :=
  k0_pay3 (F := Ideal) x3 (k0_pay8 x2) (k0_pay9 x2) (k0_pay10 xs (aHi x0) (bHi x1) (aLo x0) (bLo x1) x4) (k0_pay11 xs (aHi x0) (bHi x1) (aLo x0) (bLo x1) x2 x4)

section C
variable (hc0 : ¬cond0_0 i) (hc1 : ¬cond0_1 i) (hc2 : cond0_2 i) (hc3 : cond0_3 i) (hc4 : ¬cond0_4 i)

theorem lastC_dx : out0_C_5 (F := Ideal) c i arg3 harg3 arg4 harg4 arg5 harg5 arg6 harg6 arg7 harg7 arg8 harg8 arg9 harg9 arg10 harg10 arg11 harg11 hc0 hc1 hc2 hc3 hc4 x0 x1 x2 x3 x4 xs
      = lastDx x0 x1 x2 x3 x4 xs := by
  unfold out0_C_5 kernelRun0_C
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, ld_whole, ld_row]

theorem lastC_low : out0_C_6 (F := Ideal) c i arg3 harg3 arg4 harg4 arg5 harg5 arg6 harg6 arg7 harg7 arg8 harg8 arg9 harg9 arg10 harg10 arg11 harg11 hc0 hc1 hc2 hc3 hc4 x0 x1 x2 x3 x4 xs
      = k0_pay5 (F := Ideal) x3 (k0_pay8 x2) (k0_pay9 x2) (k0_pay10 xs (aHi x0) (bHi x1) (aLo x0) (bLo x1) x4) (k0_pay11 xs (aHi x0) (bHi x1) (aLo x0) (bLo x1) x2 x4) := by
  unfold out0_C_6 kernelRun0_C
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, ld_whole, ld_row]

theorem lastC_dnw : out0_C_7 (F := Ideal) c i arg3 harg3 arg4 harg4 arg5 harg5 arg6 harg6 arg7 harg7 arg8 harg8 arg9 harg9 arg10 harg10 arg11 harg11 hc0 hc1 hc2 hc3 hc4 x0 x1 x2 x3 x4 xs
      = k0_pay4 (F := Ideal) (k0_pay7 xs (aHi x0) (bHi x1) (aLo x0) (bLo x1)) (k0_pay9 x2) := by
  unfold out0_C_7 kernelRun0_C
  dsimp only
  sl_unfold_words
  rw [View.read_writes_junk_eq_canon, View.canon_cons_unit_lit _ _ _ (by decide)]
  simp only [View.readAt_eq_ld, harg3.read_unread, harg4.read_unread, harg5.read_unread, harg11.read_unread, ld_whole]

end C

section D
variable (hc0 : ¬cond0_0 i) (hc1 : ¬cond0_1 i) (hc2 : cond0_2 i) (hc3 : ¬cond0_3 i) (hc4 : cond0_4 i)

theorem lastD_dx : out0_D_5 (F := Ideal) c i arg3 harg3 arg4 harg4 arg5 harg5 arg6 harg6 arg7 harg7 arg8 harg8 arg9 harg9 arg10 harg10 arg11 harg11 hc0 hc1 hc2 hc3 hc4 x0 x1 x2 x3 x4 xo xs
      = lastDx x0 x1 x2 x3 x4 xs := by
  unfold out0_D_5 kernelRun0_D
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, ld_whole, ld_row]

theorem lastD_low : out0_D_6 (F := Ideal) c i arg3 harg3 arg4 harg4 arg5 harg5 arg6 harg6 arg7 harg7 arg8 harg8 arg9 harg9 arg10 harg10 arg11 harg11 hc0 hc1 hc2 hc3 hc4 x0 x1 x2 x3 x4 xo xs
      = k0_pay5 (F := Ideal) x3 (k0_pay8 x2) (k0_pay9 x2) (k0_pay10 xs (aHi x0) (bHi x1) (aLo x0) (bLo x1) x4) (k0_pay11 xs (aHi x0) (bHi x1) (aLo x0) (bLo x1) x2 x4) := by
  unfold out0_D_6 kernelRun0_D
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, ld_whole, ld_row]

theorem lastD_dnw : out0_D_7 (F := Ideal) c i arg3 harg3 arg4 harg4 arg5 harg5 arg6 harg6 arg7 harg7 arg8 harg8 arg9 harg9 arg10 harg10 arg11 harg11 hc0 hc1 hc2 hc3 hc4 x0 x1 x2 x3 x4 xo xs
      = k0_pay6 (F := Ideal) (k0_pay7 xs (aHi x0) (bHi x1) (aLo x0) (bLo x1)) (k0_pay9 x2) xo := by
  unfold out0_D_7 kernelRun0_D
  dsimp only
  sl_unfold_words
  rw [View.read_writes_junk_eq_canon, View.canon_cons_unit_lit _ _ _ (by decide)]
  simp only [View.readAt_eq_ld, harg3.read_unread, harg4.read_unread, harg5.read_unread, harg10.read_unread, harg11.read_unread, ld_whole, ld_row]

end D

end Runs

section Run
variable (m : (ℓ : Loc nD τ sig) → Buf (Elt Ideal) ℓ) (c : Dev nD)

abbrev X : FVec Ideal S4096x1024 .f32 := m ((c : Thread nD τ).loc main_arg0)
abbrev NW : FVec Ideal S1x1024 .f32 := m ((c : Thread nD τ).loc main_arg1)
abbrev W : FVec Ideal S1024x3072 .f32 := m ((c : Thread nD τ).loc main_arg2)
abbrev DU : FVec Ideal S4096x3072 .bf16 := m ((c : Thread nD τ).loc main_arg3)
abbrev DXO : FVec Ideal S4096x1024 .f32 := m ((c : Thread nD τ).loc main_arg4)

theorem shards_apply (w : FVec Ideal S1024x3072 .f32) (s : Fin 8) (k : Fin 1024) (j : Fin 384) :
    (truncf .bf16 (transpose S8x1024x384 [1, 0, 2] (shapeCast S1024x8x384 w shapeCasts_S1024x3072_S1024x8x384) transposes_S1024x8x384_S8x1024x384_1_0_2) bitsLt_bf16_f32 : FVec Ideal S8x1024x384 .bf16) (ix3 s k j)
      = w (ix2 k (⟨s.val * 384 + j.val, by omega⟩ : Fin 3072)) := by
  pointwise []

theorem host_w (s : Fin 8) (j : Fin 1024) (k : Fin 384) :
    (V m c main_v2 : FVec Ideal S8x1024x384 .bf16) (ix3 s j k) = W m c (ix2 j (⟨s.val * 384 + k.val, by omega⟩ : Fin 3072)) := by
  entry_read
  exact shards_apply _ s j k

theorem ix0 : ∀ t : Fin grid0.N, win0_0.index t = ![t.val / 4, t.val % 4] := by decide +kernel
theorem ix1 : ∀ t : Fin grid0.N, win0_1.index t = ![t.val % 4, 0, 0] := by decide +kernel
theorem ix2' : ∀ t : Fin grid0.N, win0_2.index t = ![t.val / 4, 0] := by decide +kernel
theorem ix3' : ∀ t : Fin grid0.N, win0_3.index t = ![t.val / 4, 0] := by decide +kernel
theorem ix4 : ∀ t : Fin grid0.N, win0_4.index t = ![0, 0] := by decide +kernel

/-- The five blocks a point reads. -/
abbrev blk0 (t : Fin cfg0.N) : FVec Ideal S1024x768 .bf16 := iblk m c 0 t
abbrev blk1 (t : Fin cfg0.N) : FVec Ideal S2x1024x384 .bf16 := iblk m c 1 t
abbrev blk2 (t : Fin cfg0.N) : FVec Ideal S1024x1024 .f32 := iblk m c 2 t
abbrev blk3 (t : Fin cfg0.N) : FVec Ideal S1024x1024 .f32 := iblk m c 3 t
abbrev blk4 (t : Fin cfg0.N) : FVec Ideal S1x1024 .f32 := iblk m c 4 t

theorem read0 (t : Fin cfg0.N) (a : Fin 1024) (k : Fin 768) :
    blk0 m c t (ix2 a k) = nat2 (DU m c) (t.val / 4 * 1024 + a.val) (t.val % 4 * 768 + k.val) := by
  have hN := lt_of_lt_of_eq t.isLt N_0
  rw [nat2_of _ (by omega) (by omega)]
  unfold blk0 iblk
  rw [View.read_apply]
  show DU m c _ = _
  congr 1
  funext x
  apply Fin.ext
  match x with
  | ⟨0, _⟩ => show win0_0.index t 0 * 1024 + 1 * a.val = t.val / 4 * 1024 + a.val; rw [congrFun (ix0 t) 0]; show t.val / 4 * 1024 + 1 * a.val = _; omega
  | ⟨1, _⟩ => show win0_0.index t 1 * 768 + 1 * k.val = t.val % 4 * 768 + k.val; rw [congrFun (ix0 t) 1]; show t.val % 4 * 768 + 1 * k.val = _; omega

theorem read1 (t : Fin cfg0.N) (s : Fin 2) (j : Fin 1024) (k : Fin 384) :
    blk1 m c t (ix3 s j k) = nat2 (W m c) j.val (t.val % 4 * 768 + (s.val * 384 + k.val)) := by
  have hN := lt_of_lt_of_eq t.isLt N_0
  rw [nat2_of _ (by omega) (by omega)]
  have e := host_w m c (⟨t.val % 4 * 2 + s.val, by omega⟩ : Fin 8) j k
  have e' : (⟨(t.val % 4 * 2 + s.val) * 384 + k.val, by omega⟩ : Fin 3072) = ⟨t.val % 4 * 768 + (s.val * 384 + k.val), by omega⟩ := Fin.ext (by dsimp only; omega)
  dsimp only at e
  rw [e'] at e
  refine Eq.trans ?_ e
  unfold blk1 iblk
  rw [View.read_apply]
  show V m c main_v2 _ = _
  congr 1
  funext x
  apply Fin.ext
  match x with
  | ⟨0, _⟩ => show win0_1.index t 0 * 2 + 1 * s.val = t.val % 4 * 2 + s.val; rw [congrFun (ix1 t) 0]; show t.val % 4 * 2 + 1 * s.val = _; omega
  | ⟨1, _⟩ => show win0_1.index t 1 * 1024 + 1 * j.val = j.val; rw [congrFun (ix1 t) 1]; show 0 * 1024 + 1 * j.val = _; omega
  | ⟨2, _⟩ => show win0_1.index t 2 * 384 + 1 * k.val = k.val; rw [congrFun (ix1 t) 2]; show 0 * 384 + 1 * k.val = _; omega

theorem read2 (t : Fin cfg0.N) (a j : Fin 1024) : blk2 m c t (ix2 a j) = row (X m c) (t.val / 4 * 1024 + a.val) j := by
  have hN := lt_of_lt_of_eq t.isLt N_0
  rw [row, nat2_of _ (by omega) (by omega)]
  unfold blk2 iblk
  rw [View.read_apply]
  show X m c _ = _
  congr 1
  funext x
  apply Fin.ext
  match x with
  | ⟨0, _⟩ => show win0_2.index t 0 * 1024 + 1 * a.val = t.val / 4 * 1024 + a.val; rw [congrFun (ix2' t) 0]; show t.val / 4 * 1024 + 1 * a.val = _; omega
  | ⟨1, _⟩ => show win0_2.index t 1 * 1024 + 1 * j.val = j.val; rw [congrFun (ix2' t) 1]; show 0 * 1024 + 1 * j.val = _; omega

theorem read3 (t : Fin cfg0.N) (a j : Fin 1024) : blk3 m c t (ix2 a j) = row (DXO m c) (t.val / 4 * 1024 + a.val) j := by
  have hN := lt_of_lt_of_eq t.isLt N_0
  rw [row, nat2_of _ (by omega) (by omega)]
  unfold blk3 iblk
  rw [View.read_apply]
  show DXO m c _ = _
  congr 1
  funext x
  apply Fin.ext
  match x with
  | ⟨0, _⟩ => show win0_3.index t 0 * 1024 + 1 * a.val = t.val / 4 * 1024 + a.val; rw [congrFun (ix3' t) 0]; show t.val / 4 * 1024 + 1 * a.val = _; omega
  | ⟨1, _⟩ => show win0_3.index t 1 * 1024 + 1 * j.val = j.val; rw [congrFun (ix3' t) 1]; show 0 * 1024 + 1 * j.val = _; omega

theorem read4 (t : Fin cfg0.N) (j : Fin 1024) : blk4 m c t (ix2 0 j) = NW m c (ix2 0 j) := by
  unfold blk4 iblk
  rw [View.read_apply]
  show NW m c _ = _
  congr 1
  funext x
  apply Fin.ext
  match x with
  | ⟨0, _⟩ => show win0_4.index t 0 * 1 + 1 * 0 = 0; rw [congrFun (ix4 t) 0]; rfl
  | ⟨1, _⟩ => show win0_4.index t 1 * 1024 + 1 * j.val = j.val; rw [congrFun (ix4 t) 1]; show 0 * 1024 + 1 * j.val = _; omega

theorem readHi (t : Fin cfg0.N) (a : Fin 1024) (k : Fin 384) :
    aHi (blk0 m c t) (ix2 a k) = nat2 (DU m c) (t.val / 4 * 1024 + a.val) (t.val % 4 * 768 + (384 + k.val)) := by
  unfold aHi
  rw [View.ld_unit_apply_of _ _ _ _ _ (ix2 a (⟨384 + k.val, by omega⟩ : Fin 768)) (fun x => by match x with
    | ⟨0, _⟩ => show a.val = 0 + a.val; omega
    | ⟨1, _⟩ => show 384 + k.val = 384 + k.val; rfl)]
  exact read0 m c t a _
theorem readLo (t : Fin cfg0.N) (a : Fin 1024) (k : Fin 384) :
    aLo (blk0 m c t) (ix2 a k) = nat2 (DU m c) (t.val / 4 * 1024 + a.val) (t.val % 4 * 768 + k.val) := by
  unfold aLo
  rw [View.ld_unit_apply_of _ _ _ _ _ (ix2 a (⟨k.val, by omega⟩ : Fin 768)) (fun x => by match x with
    | ⟨0, _⟩ => show a.val = 0 + a.val; omega
    | ⟨1, _⟩ => show k.val = 0 + k.val; omega)]
  exact read0 m c t a _
theorem readWHi (t : Fin cfg0.N) (j : Fin 1024) (k : Fin 384) :
    bHi (blk1 m c t) (ix3 (0 : Fin 1) j k) = nat2 (W m c) j.val (t.val % 4 * 768 + (384 + k.val)) := by
  unfold bHi
  rw [View.ld_unit_apply_of _ _ _ _ _ (ix3 (1 : Fin 2) j k) (fun x => by match x with
    | ⟨0, _⟩ => rfl
    | ⟨1, _⟩ => show j.val = 0 + j.val; omega
    | ⟨2, _⟩ => show k.val = 0 + k.val; omega)]
  exact read1 m c t 1 j k
theorem readWLo (t : Fin cfg0.N) (j : Fin 1024) (k : Fin 384) :
    bLo (blk1 m c t) (ix3 (0 : Fin 1) j k) = nat2 (W m c) j.val (t.val % 4 * 768 + k.val) := by
  unfold bLo
  rw [View.ld_unit_apply_of _ _ _ _ _ (ix3 (0 : Fin 2) j k) (fun x => by match x with
    | ⟨0, _⟩ => rfl
    | ⟨1, _⟩ => show j.val = 0 + j.val; omega
    | ⟨2, _⟩ => show k.val = 0 + k.val; omega)]
  refine (read1 m c t 0 j k).trans ?_
  rw [show ((0 : Fin 2) : Fin 2).val * 384 + k.val = k.val by show 0 * 384 + k.val = k.val; omega]

/-- One point's product is the next 768 columns' terms. -/
theorem piece (t : Fin cfg0.N) (a b : Fin 1024) :
    ∑ k : Fin 384, aHi (blk0 m c t) (ix2 a k) * bHi (blk1 m c t) (ix3 (0 : Fin 1) b k) + ∑ k : Fin 384, aLo (blk0 m c t) (ix2 a k) * bLo (blk1 m c t) (ix3 (0 : Fin 1) b k)
      = ∑ k : Fin 768, term (DU m c) (W m c) (t.val / 4 * 1024 + a.val) b.val (t.val % 4 * 768 + k.val) := by
  rw [← Norm.two_halves (show 768 = 384 + 384 from rfl)]
  simp only [readHi, readLo, readWHi, readWLo, term]

/-- What the accumulator holds after each point but a block's last. -/
theorem state (a b : Fin 1024) (n : ℕ) (h : n < cfg0.N) (hl : n % 4 + 1 < 4) :
    (outsAt0 m c n h).2.2.2 (ix2 a b) = upTo (term (DU m c) (W m c) (n / 4 * 1024 + a.val) b.val) (n % 4 * 768 + 768) := by
  refine sweep (fun n h => (outsAt0 m c n h).2.2.2 (ix2 a b)) (fun q => term (DU m c) (W m c) (q * 1024 + a.val) b.val) ?_ ?_ n h hl
  · intro n h h0
    rw [outsAt0_A m c ⟨n, h⟩ h0 (by show ¬(1 ≤ n % 4 ∧ n % 4 ≤ 2); omega) (by show ¬(n % 4 = 3); omega)]
    dsimp only
    rw [first, pay1]
    exact piece m c ⟨n, h⟩ a b
  · intro n h h0 hl
    rw [outsAt0_B m c ⟨n + 1, h⟩ h0 (by show 1 ≤ (n + 1) % 4 ∧ (n + 1) % 4 ≤ 2; omega) (by show ¬((n + 1) % 4 = 3); omega)]
    dsimp only
    rw [next, pay2]
    exact congrArg (_ + ·) (piece m c ⟨n + 1, h⟩ a b)

/-- What a point's predecessor left in the accumulator. -/
abbrev acc (t : Fin cfg0.N) : FVec Ideal S1024x1024 .f32 := (outsAt0 m c (t.val - 1) (Nat.lt_of_le_of_lt (Nat.sub_le _ _) t.isLt)).2.2.2

/-- A block's last point has the whole sum, and the input's gradient from it. -/
theorem whole (t : Fin cfg0.N) (hl : t.val % 4 = 3) (a b : Fin 1024) :
    k0_pay7 (F := Ideal) (acc m c t) (aHi (blk0 m c t)) (bHi (blk1 m c t)) (aLo (blk0 m c t)) (bLo (blk1 m c t)) (ix2 a b)
      = D (DU m c) (W m c) (t.val / 4 * 1024 + a.val) b := by
  have e := state m c a b (t.val - 1) (Nat.lt_of_le_of_lt (Nat.sub_le _ _) t.isLt) (by omega)
  rw [pay7, piece, D, show 3072 = 2304 + 768 from rfl, upTo_add _ 2304 768, hl]
  rw [show (t.val - 1) / 4 = t.val / 4 by omega, show (t.val - 1) % 4 * 768 + 768 = 2304 by omega] at e
  exact congrArg (· + _) e

theorem last_dx (t : Fin cfg0.N) (hl : t.val % 4 = 3) (a b : Fin 1024) :
    lastDx (blk0 m c t) (blk1 m c t) (blk2 m c t) (blk3 m c t) (blk4 m c t) (acc m c t) (ix2 a b)
      = dx (X m c) (NW m c) (W m c) (DU m c) (DXO m c) (t.val / 4 * 1024 + a.val) b := by
  unfold lastDx
  rw [pay_dx, read3]
  simp only [whole m c t hl, read2, read4]
  rfl

theorem last_dnw (t : Fin cfg0.N) (hl : t.val % 4 = 3) (b : Fin 1024) :
    k0_pay4 (F := Ideal) (k0_pay7 (acc m c t) (aHi (blk0 m c t)) (bHi (blk1 m c t)) (aLo (blk0 m c t)) (bLo (blk1 m c t))) (k0_pay9 (blk2 m c t)) (ix2 0 b)
      = ∑ k : Fin 1024, Norm.share (D (DU m c) (W m c)) (row (X m c)) b (t.val / 4 * 1024 + k.val) := by
  rw [pay_dnw]
  simp only [whole m c t hl, read2]
  rfl

/-- What a block's last point leaves in the first two results. -/
theorem outs_dx (t : Fin cfg0.N) (hl : t.val % 4 = 3) (a b : Fin 1024) :
    (outsAt0 m c t.val t.isLt).1 (ix2 a b) = dx (X m c) (NW m c) (W m c) (DU m c) (DXO m c) (t.val / 4 * 1024 + a.val) b := by
  by_cases h4 : 4 ≤ t.val
  · rw [outsAt0_D m c t (by omega) (by omega) hl (by omega) h4]
    dsimp only
    rw [lastD_dx]
    exact last_dx m c t hl a b
  · rw [outsAt0_C m c t (by omega) (by omega) hl (by omega) h4]
    dsimp only
    rw [lastC_dx]
    exact last_dx m c t hl a b
theorem outs_low (t : Fin cfg0.N) (hl : t.val % 4 = 3) (a b : Fin 1024) :
    (outsAt0 m c t.val t.isLt).2.1 (ix2 a b) = dx (X m c) (NW m c) (W m c) (DU m c) (DXO m c) (t.val / 4 * 1024 + a.val) b := by
  by_cases h4 : 4 ≤ t.val
  · rw [outsAt0_D m c t (by omega) (by omega) hl (by omega) h4]
    dsimp only
    rw [lastD_low, pay5]
    exact last_dx m c t hl a b
  · rw [outsAt0_C m c t (by omega) (by omega) hl (by omega) h4]
    dsimp only
    rw [lastC_low, pay5]
    exact last_dx m c t hl a b

/-- What the column sums are once a block is done. -/
theorem outs_dnw (b : Fin 1024) (n : ℕ) (h : n < cfg0.N) (hn : (n + 1) / 4 ≠ 0) :
    (outsAt0 m c n h).2.2.1 (ix2 0 b) = upTo (Norm.share (D (DU m c) (W m c)) (row (X m c)) b) ((n + 1) / 4 * 1024) := by
  refine Norm.columns (fun n h => (outsAt0 m c n h).2.2.1 (ix2 0 b)) (Norm.share (D (DU m c) (W m c)) (row (X m c)) b) (fun n => (n + 1) / 4) rfl
    (fun n => by omega) ?_ ?_ ?_ n h hn
  · intro n h e
    by_cases h0 : (n + 1) % 4 = 0
    · rw [outsAt0_A m c ⟨n + 1, h⟩ h0 (by show ¬(1 ≤ (n + 1) % 4 ∧ (n + 1) % 4 ≤ 2); omega) (by show ¬((n + 1) % 4 = 3); omega)]
      rfl
    · rw [outsAt0_B m c ⟨n + 1, h⟩ h0 (by show 1 ≤ (n + 1) % 4 ∧ (n + 1) % 4 ≤ 2; omega) (by show ¬((n + 1) % 4 = 3); omega)]
      rfl
  · intro n h e e'
    have hl : (⟨n + 1, h⟩ : Fin cfg0.N).val % 4 = 3 := by show (n + 1) % 4 = 3; omega
    rw [outsAt0_C m c ⟨n + 1, h⟩ (by show ¬(n + 1) % 4 = 0; omega) (by show ¬(1 ≤ (n + 1) % 4 ∧ (n + 1) % 4 ≤ 2); omega) hl (by show n + 1 < 4; omega) (by show ¬4 ≤ n + 1; omega)]
    dsimp only
    rw [lastC_dnw]
    exact last_dnw m c ⟨n + 1, h⟩ hl b
  · intro n h e e'
    have hl : (⟨n + 1, h⟩ : Fin cfg0.N).val % 4 = 3 := by show (n + 1) % 4 = 3; omega
    rw [outsAt0_D m c ⟨n + 1, h⟩ (by show ¬(n + 1) % 4 = 0; omega) (by show ¬(1 ≤ (n + 1) % 4 ∧ (n + 1) % 4 ≤ 2); omega) hl (by show ¬n + 1 < 4; omega) (by show 4 ≤ n + 1; omega)]
    dsimp only
    rw [lastD_dnw, pay6]
    exact congrArg (_ + ·) (last_dnw m c ⟨n + 1, h⟩ hl b)

/-- The kernel's first result. -/
theorem result_dx (t : Fin 4096) (j : Fin 1024) :
    (Value.G5 m c : FVec Ideal S4096x1024 .f32) (ix2 t j) = dx (X m c) (NW m c) (W m c) (DU m c) (DXO m c) t j := by
  have hp : Value.pt5Of (ix2 t j) = 4 * (t.val / 1024) + 3 := by
    show 4 * (1 * (t.val / 1024 - 0) + 1 * (j.val / 1024 - 0)) + 3 = _
    omega
  have hu : Value.pt5Of (ix2 t j) < cfg0.N := by rw [hp, show cfg0.N = 16 from N_0]; omega
  unfold Value.G5
  rw [dif_pos hu, ← Value.outsAt0_sweep m c _ hu]
  have hl : Value.loc5Of (ix2 t j) = ix2 (⟨t.val % 1024, by omega⟩ : Fin 1024) j := by
    funext x
    apply Fin.ext
    match x with
    | ⟨0, _⟩ => rfl
    | ⟨1, _⟩ => show j.val % 1024 = j.val; omega
  rw [hl]
  refine (outs_dx m c ⟨Value.pt5Of (ix2 t j), hu⟩ (by show Value.pt5Of (ix2 t j) % 4 = 3; omega) _ _).trans ?_
  show dx _ _ _ _ _ (Value.pt5Of (ix2 t j) / 4 * 1024 + t.val % 1024) j = _
  rw [show Value.pt5Of (ix2 t j) / 4 * 1024 + t.val % 1024 = t.val by omega]

/-- The kernel's second result. -/
theorem result_low (t : Fin 4096) (j : Fin 1024) :
    (Value.G6 m c : FVec Ideal S4096x1024 .bf16) (ix2 t j) = dx (X m c) (NW m c) (W m c) (DU m c) (DXO m c) t j := by
  have hp : Value.pt6Of (ix2 t j) = 4 * (t.val / 1024) + 3 := by
    show 4 * (1 * (t.val / 1024 - 0) + 1 * (j.val / 1024 - 0)) + 3 = _
    omega
  have hu : Value.pt6Of (ix2 t j) < cfg0.N := by rw [hp, show cfg0.N = 16 from N_0]; omega
  unfold Value.G6
  rw [dif_pos hu, ← Value.outsAt0_sweep m c _ hu]
  have hl : Value.loc6Of (ix2 t j) = ix2 (⟨t.val % 1024, by omega⟩ : Fin 1024) j := by
    funext x
    apply Fin.ext
    match x with
    | ⟨0, _⟩ => rfl
    | ⟨1, _⟩ => show j.val % 1024 = j.val; omega
  rw [hl]
  refine (outs_low m c ⟨Value.pt6Of (ix2 t j), hu⟩ (by show Value.pt6Of (ix2 t j) % 4 = 3; omega) _ _).trans ?_
  show dx _ _ _ _ _ (Value.pt6Of (ix2 t j) / 4 * 1024 + t.val % 1024) j = _
  rw [show Value.pt6Of (ix2 t j) / 4 * 1024 + t.val % 1024 = t.val by omega]

/-- The kernel's third result. -/
theorem result_dnw (j : Fin 1024) : (Value.G7 m c : FVec Ideal S1x1024 .f32) (ix2 0 j) = dnw (X m c) (W m c) (DU m c) j := by
  have hp : Value.pt7Of (ix2 0 j) = 15 := by
    show 16 * (1 * (0 / 1 - 0) + 1 * (j.val / 1024 - 0)) + 15 = _
    omega
  have hu : Value.pt7Of (ix2 0 j) < cfg0.N := by rw [hp, show cfg0.N = 16 from N_0]; omega
  unfold Value.G7
  rw [dif_pos hu, ← Value.outsAt0_sweep m c _ hu]
  have hl : Value.loc7Of (ix2 0 j) = ix2 0 j := by
    funext x
    apply Fin.ext
    match x with
    | ⟨0, _⟩ => rfl
    | ⟨1, _⟩ => show j.val % 1024 = j.val; omega
  rw [hl]
  refine (outs_dnw m c j _ hu (by omega)).trans ?_
  rw [show (Value.pt7Of (ix2 0 j) + 1) / 4 * 1024 = 4096 by omega]
  rfl

end Run

end Cert.InEvenDxIdeal.Body

namespace Cert.Proof

open Idealize.ShloMosaic Idealize.SL.Sem Cert.InEvenDxIdeal.Body Cert.Sums
open Cert.InEvenDxReferenceIdeal.Read

theorem inevendx_defs_eq : Cert.InEvenDxIdeal.defs₀ (F := Bits) = Cert.InEvenDx.defs₀ (F := Bits) := by
  unfold Cert.InEvenDx.defs₀ Cert.InEvenDxIdeal.defs₀
  congr 1
  funext l a
  match l, a with
  | 0, (t, s) => rfl

theorem frame_inevendx : Cert.quiescent_InEvenDx := fun m g _ => by
  have h := Cert.InEvenDxIdeal.Gen.frame (F := Bits) m g
  unfold Cert.InEvenDxIdeal.defs at h
  rw [inevendx_defs_eq] at h
  exact h

theorem frame_inevendx_reference : Cert.quiescent_InEvenDxReferenceIdeal := fun m g _ => by
  refine (θ_run Cert.InEvenDxReferenceIdeal.defs _ _).mono (fun r h => ?_) (Cert.InEvenDxReferenceIdeal.Value.run (F := Ideal) m g)
  exact ⟨fun c => (h c).2.2.2, sem_eq_zero_of_no_sems (by decide) _⟩

section
variable (x : FVec Ideal Cert.InEvenDxReferenceIdeal.S4096x1024 .f32) (nw : FVec Ideal Cert.InEvenDxReferenceIdeal.S1x1024 .f32)
    (w : FVec Ideal Cert.InEvenDxReferenceIdeal.S1024x3072 .f32) (du : FVec Ideal Cert.InEvenDxReferenceIdeal.S4096x3072 .bf16) (dxo : FVec Ideal Cert.InEvenDxReferenceIdeal.S4096x1024 .f32)
    (t : Fin 4096) (j : Fin 1024)

theorem inevendx_product : val_main_v17 (F := Ideal) w du (ix2 t j) = D du w t j := by
  rw [D, upTo_first]
  pointwise [val_main_v17, val_main_v16, val_main_v15]
  refine Finset.sum_congr rfl fun k _ => ?_
  unfold term
  rw [nat2_fin, nat2_fin]

theorem inevendx_dx : val_main_v37 (F := Ideal) x nw w du dxo (ix2 t j) = dx x nw w du dxo t j := by
  have hr : ∀ (y : FVec Ideal Cert.InEvenDxReferenceIdeal.S4096x1024 .f32) (b : Fin 1024), y (ix2 t b) = row y t b := fun y b => (nat2_fin y t b).symm
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6]
  simp only [inevendx_product]
  simp only [hr]
  rw [dx, Norm.grad_eq]
  rfl

theorem inevendx_low : val_main_v38 (F := Ideal) x nw w du dxo (ix2 t j) = dx x nw w du dxo t j := by
  rw [← inevendx_dx]
  rfl

theorem inevendx_dnw : val_main_v20 (F := Ideal) x w du (ix2 0 j) = dnw x w du j := by
  rw [dnw, upTo_first]
  pointwise [val_main_v20, val_main_v19, val_main_v18, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  refine Finset.sum_congr rfl fun t _ => ?_
  have hr : ∀ (b : Fin 1024), x (ix2 t b) = row x t b := fun b => (nat2_fin x t b).symm
  simp only [inevendx_product]
  simp only [hr]
  exact mul_comm _ _

end

theorem agree_inevendx : Cert.algebraic_InEvenDxIdeal_InEvenDxReferenceIdeal := by
  intro m g m' g' _ hargs
  refine ⟨fun (c : Dev Cert.InEvenDxIdeal.nD) (i : (⟨2, ![4096, 1024]⟩ : Shape).Idx) => dx (X m c) (NW m c) (W m c) (DU m c) (DXO m c) (i 0).val (i 1),
    fun (c : Dev Cert.InEvenDxIdeal.nD) (i : (⟨2, ![4096, 1024]⟩ : Shape).Idx) => dx (X m c) (NW m c) (W m c) (DU m c) (DXO m c) (i 0).val (i 1),
    fun (c : Dev Cert.InEvenDxIdeal.nD) (i : (⟨2, ![1, 1024]⟩ : Shape).Idx) => dnw (X m c) (W m c) (DU m c) (i 1), ?_, ?_⟩
  · refine (θ_run Cert.InEvenDxIdeal.defs _ _).mono (fun r h c => ⟨?_, ?_, ?_, (h c).2.2.2⟩) (Cert.InEvenDxIdeal.Value.run (F := Ideal) m g)
    · rw [(h c).1]
      funext i
      obtain ⟨t, j, rfl⟩ : ∃ (t : Fin 4096) (j : Fin 1024), i = ix2 t j := ⟨i 0, i 1, eq_ix2 i⟩
      exact result_dx m c t j
    · rw [(h c).2.1]
      funext i
      obtain ⟨t, j, rfl⟩ : ∃ (t : Fin 4096) (j : Fin 1024), i = ix2 t j := ⟨i 0, i 1, eq_ix2 i⟩
      exact result_low m c t j
    · rw [(h c).2.2.1]
      funext i
      obtain ⟨t, j, rfl⟩ : ∃ (t : Fin 1) (j : Fin 1024), i = ix2 t j := ⟨i 0, i 1, eq_ix2 i⟩
      obtain rfl : t = 0 := Subsingleton.elim _ _
      exact result_dnw m c j
  · refine (θ_run Cert.InEvenDxReferenceIdeal.defs _ _).mono (fun r h c => ⟨?_, ?_, ?_, (h c).2.2.2⟩) (Cert.InEvenDxReferenceIdeal.Value.run (F := Ideal) m' g')
    · rw [(h c).1]
      funext i
      obtain ⟨t, j, rfl⟩ : ∃ (t : Fin 4096) (j : Fin 1024), i = ix2 t j := ⟨i 0, i 1, eq_ix2 i⟩
      refine (congrFun (val_main_v37_eq m' c) (ix2 t j)).trans ?_
      rw [(hargs c).1, (hargs c).2.1, (hargs c).2.2.1, (hargs c).2.2.2.1, (hargs c).2.2.2.2]
      exact inevendx_dx _ _ _ _ _ t j
    · rw [(h c).2.1]
      funext i
      obtain ⟨t, j, rfl⟩ : ∃ (t : Fin 4096) (j : Fin 1024), i = ix2 t j := ⟨i 0, i 1, eq_ix2 i⟩
      refine (congrFun (val_main_v38_eq m' c) (ix2 t j)).trans ?_
      rw [(hargs c).1, (hargs c).2.1, (hargs c).2.2.1, (hargs c).2.2.2.1, (hargs c).2.2.2.2]
      exact inevendx_low _ _ _ _ _ t j
    · rw [(h c).2.2.1]
      funext i
      obtain ⟨t, j, rfl⟩ : ∃ (t : Fin 1) (j : Fin 1024), i = ix2 t j := ⟨i 0, i 1, eq_ix2 i⟩
      obtain rfl : t = 0 := Subsingleton.elim _ _
      refine (congrFun (val_main_v20_eq _ _ _) (ix2 0 j)).trans ?_
      rw [(hargs c).1, (hargs c).2.2.1, (hargs c).2.2.2.1]
      exact inevendx_dnw _ _ _ j

end Cert.Proof

end
-- ==== Proof.InOddDxValue.lean ====
/- The gradient at an odd block's input: the frames, and the kernel's three results beside the reference's. -/
module

public import proofs.«01_k».proof.Defs
public import proofs.«01_k».proof.Proof.Sums
public import proofs.«01_k».proof.Proof.Norm
public import proofs.«01_k».proof.Proof.Gen.InOddDx
public import proofs.«01_k».proof.Proof.Gen.InOddDxIdeal.Value
public import proofs.«01_k».proof.Proof.Gen.InOddDxReferenceIdeal
public import proofs.«01_k».proof.Proof.Gen.InOddDxReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.InOddDxIdeal.Body

open Cert.InOddDxIdeal Cert.InOddDxIdeal.Gen Idealize.ShloMosaic Idealize.ShloMosaic.TcCoe Idealize.SL.Sem Cert.Sums

/-- One projected column's part of one entry of the gradient at the normed row, and the entry. -/
def term (du : FVec Ideal S4096x4224 .bf16) (w : FVec Ideal S1024x4224 .f32) (t j : ℕ) (k : ℕ) : EReal := nat2 du t k * nat2 w j k
def D (du : FVec Ideal S4096x4224 .bf16) (w : FVec Ideal S1024x4224 .f32) (t : ℕ) (j : Fin 1024) : EReal := upTo (term du w t j.val) 4224

/-- A row of the input. -/
def row (x : FVec Ideal S4096x1024 .f32) (t : ℕ) (j : Fin 1024) : EReal := nat2 x t j.val

/-- One entry of the input's gradient, and one of the norm weight's. -/
def dx (x : FVec Ideal S4096x1024 .f32) (nw : FVec Ideal S1x1024 .f32) (w : FVec Ideal S1024x4224 .f32) (du : FVec Ideal S4096x4224 .bf16)
    (dxo : FVec Ideal S4096x1024 .f32) (t : ℕ) (j : Fin 1024) : EReal :=
  Norm.grad (row x t) (D du w t) (fun b => nw (ix2 0 b)) (row dxo t j) j
def dnw (x : FVec Ideal S4096x1024 .f32) (w : FVec Ideal S1024x4224 .f32) (du : FVec Ideal S4096x4224 .bf16) (j : Fin 1024) : EReal :=
  upTo (Norm.share (D du w) (row x) j) 4096

section Pays
variable (a b : FVec Ideal S1024x1408 .bf16) (acc x dxo : FVec Ideal S1024x1024 .f32) (nw p q : FVec Ideal S1x1024 .f32) (t j : Fin 1024)

theorem pay1 : k0_pay1 (F := Ideal) a b (ix2 t j) = ∑ k : Fin 1408, a (ix2 t k) * b (ix2 j k) := by
  pointwise [k0_pay1]
theorem pay2 : k0_pay2 (F := Ideal) acc a b (ix2 t j) = acc (ix2 t j) + ∑ k : Fin 1408, a (ix2 t k) * b (ix2 j k) := by
  pointwise [k0_pay2]
theorem pay4 : k0_pay4 (F := Ideal) acc a b (ix2 t j) = acc (ix2 t j) + ∑ k : Fin 1408, a (ix2 t k) * b (ix2 j k) := by
  pointwise [k0_pay4]
theorem pay5 : k0_pay5 (F := Ideal) x (ix2 t 0) = Norm.scale (fun k => x (ix2 t k)) := by
  pointwise [k0_pay5]
  rfl
theorem pay6 : k0_pay6 (F := Ideal) x (ix2 t j) = x (ix2 t j) * k0_pay5 (F := Ideal) x (ix2 t 0) := by
  pointwise [k0_pay6]
theorem pay3 : k0_pay3 (F := Ideal) q p (ix2 0 j) = p (ix2 0 j) + q (ix2 0 j) := by
  pointwise [k0_pay3]

/-- A last point's gradient of a row, and its column sums. -/
theorem pay_dx : k0_pay7 (F := Ideal) acc a b x dxo nw (ix2 t j)
    = Norm.grad (fun k => x (ix2 t k)) (fun k => k0_pay4 (F := Ideal) acc a b (ix2 t k)) (fun k => nw (ix2 0 k)) (dxo (ix2 t j)) j := by
  pointwise [k0_pay7]
  simp only [pay6, pay5]
  rfl
theorem pay_low : k0_pay9 (F := Ideal) acc a b x dxo nw (ix2 t j) = k0_pay7 (F := Ideal) acc a b x dxo nw (ix2 t j) := by
  pointwise [k0_pay9]
theorem pay_dnw : k0_pay8 (F := Ideal) acc a b x (ix2 0 j)
    = ∑ k : Fin 1024, k0_pay4 (F := Ideal) acc a b (ix2 k j) * (x (ix2 k j) * Norm.scale (fun b => x (ix2 k b))) := by
  pointwise [k0_pay8]
  simp only [pay6, pay5]

end Pays

section Runs
/-- A load of a whole block reads the block. -/
theorem ld_whole {e : EltTy} (inb : ∀ a, (![0, 0] : Fin 2 → ℕ) a + S1024x1024.size a ≤ S1024x1024.size a) (X : S1024x1024.Idx → Elt Ideal e) :
    View.ld X (Rect.unit (s := S1024x1024) ![0, 0] ![1024, 1024] inb) = X := View.ld_unit_lit inb X (by decide)
theorem ld_row {e : EltTy} (inb : ∀ a, (![0, 0] : Fin 2 → ℕ) a + S1x1024.size a ≤ S1x1024.size a) (X : S1x1024.Idx → Elt Ideal e) :
    View.ld X (Rect.unit (s := S1x1024) ![0, 0] ![1, 1024] inb) = X := View.ld_unit_lit inb X (by decide)

theorem ld_wide {e : EltTy} (inb : ∀ a, (![0, 0] : Fin 2 → ℕ) a + S1024x1408.size a ≤ S1024x1408.size a) (X : S1024x1408.Idx → Elt Ideal e) :
    View.ld X (Rect.unit (s := S1024x1408) ![0, 0] ![1024, 1408] inb) = X := View.ld_unit_lit inb X (by decide)

variable (c : Dev nD) (i : grid0.Coords) (arg3 : Memref sig .tc .vmem S1024x1408 .bf16) (harg3 : arg3.IsWhole) (arg4 : Memref sig .tc .vmem S1024x1408 .bf16) (harg4 : arg4.IsWhole)
  (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole)
  (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole)
  (arg11 : Memref sig .tc .vmem S1024x1024 .f32) (harg11 : arg11.IsWhole)
  (x0 x1 : FVec Ideal S1024x1408 .bf16) (x2 x3 : FVec Ideal S1024x1024 .f32) (x4 xo : FVec Ideal S1x1024 .f32) (xs : FVec Ideal S1024x1024 .f32)

theorem first (hc0 : cond0_0 i) (hc1 : ¬cond0_1 i) (hc2 : ¬cond0_2 i) :
    sout0_A_0 (F := Ideal) c i arg3 harg3 arg4 harg4 arg5 harg5 arg6 harg6 arg7 harg7 arg8 harg8 arg9 harg9 arg10 harg10 arg11 harg11 hc0 hc1 hc2 x0 x1 x2 x3 x4
      = k0_pay1 (F := Ideal) x0 x1 := by
  unfold sout0_A_0 kernelRun0_A
  dsimp only
  sl_unfold_words
  rw [View.read_writes_junk_eq_canon, View.canon_cons_unit_lit _ _ _ (by decide)]
  simp only [View.readAt_eq_ld, harg3.read_unread, harg4.read_unread, ld_wide]

theorem next (hc0 : ¬cond0_0 i) (hc1 : cond0_1 i) (hc2 : ¬cond0_2 i) :
    sout0_B_0 (F := Ideal) c i arg3 harg3 arg4 harg4 arg5 harg5 arg6 harg6 arg7 harg7 arg8 harg8 arg9 harg9 arg10 harg10 arg11 harg11 hc0 hc1 hc2 x0 x1 x2 x3 x4 xs
      = k0_pay2 (F := Ideal) xs x0 x1 := by
  unfold sout0_B_0 kernelRun0_B
  dsimp only
  sl_unfold_words
  rw [View.read_writes_junk_eq_canon, View.canon_cons_unit_lit _ _ _ (by decide)]
  simp only [View.readAt_eq_ld, harg3.read_unread, harg4.read_unread, harg11.read_unread, ld_whole, ld_wide]

section C
variable (hc0 : ¬cond0_0 i) (hc1 : ¬cond0_1 i) (hc2 : cond0_2 i) (hc3 : cond0_3 i) (hc4 : ¬cond0_4 i)

theorem lastC_dx : out0_C_5 (F := Ideal) c i arg3 harg3 arg4 harg4 arg5 harg5 arg6 harg6 arg7 harg7 arg8 harg8 arg9 harg9 arg10 harg10 arg11 harg11 hc0 hc1 hc2 hc3 hc4 x0 x1 x2 x3 x4 xs
      = k0_pay7 (F := Ideal) xs x0 x1 x2 x3 x4 := by
  unfold out0_C_5 kernelRun0_C
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, ld_whole, ld_row, ld_wide]

theorem lastC_low : out0_C_6 (F := Ideal) c i arg3 harg3 arg4 harg4 arg5 harg5 arg6 harg6 arg7 harg7 arg8 harg8 arg9 harg9 arg10 harg10 arg11 harg11 hc0 hc1 hc2 hc3 hc4 x0 x1 x2 x3 x4 xs
      = k0_pay9 (F := Ideal) xs x0 x1 x2 x3 x4 := by
  unfold out0_C_6 kernelRun0_C
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, ld_whole, ld_row, ld_wide]

theorem lastC_dnw : out0_C_7 (F := Ideal) c i arg3 harg3 arg4 harg4 arg5 harg5 arg6 harg6 arg7 harg7 arg8 harg8 arg9 harg9 arg10 harg10 arg11 harg11 hc0 hc1 hc2 hc3 hc4 x0 x1 x2 x3 x4 xs
      = k0_pay8 (F := Ideal) xs x0 x1 x2 := by
  unfold out0_C_7 kernelRun0_C
  dsimp only
  sl_unfold_words
  rw [View.read_writes_junk_eq_canon, View.canon_cons_unit_lit _ _ _ (by decide)]
  simp only [View.readAt_eq_ld, harg3.read_unread, harg4.read_unread, harg5.read_unread, harg11.read_unread, ld_whole, ld_wide]

end C

section D
variable (hc0 : ¬cond0_0 i) (hc1 : ¬cond0_1 i) (hc2 : cond0_2 i) (hc3 : ¬cond0_3 i) (hc4 : cond0_4 i)

theorem lastD_dx : out0_D_5 (F := Ideal) c i arg3 harg3 arg4 harg4 arg5 harg5 arg6 harg6 arg7 harg7 arg8 harg8 arg9 harg9 arg10 harg10 arg11 harg11 hc0 hc1 hc2 hc3 hc4 x0 x1 x2 x3 x4 xo xs
      = k0_pay7 (F := Ideal) xs x0 x1 x2 x3 x4 := by
  unfold out0_D_5 kernelRun0_D
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, ld_whole, ld_row, ld_wide]

theorem lastD_low : out0_D_6 (F := Ideal) c i arg3 harg3 arg4 harg4 arg5 harg5 arg6 harg6 arg7 harg7 arg8 harg8 arg9 harg9 arg10 harg10 arg11 harg11 hc0 hc1 hc2 hc3 hc4 x0 x1 x2 x3 x4 xo xs
      = k0_pay9 (F := Ideal) xs x0 x1 x2 x3 x4 := by
  unfold out0_D_6 kernelRun0_D
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, ld_whole, ld_row, ld_wide]

theorem lastD_dnw : out0_D_7 (F := Ideal) c i arg3 harg3 arg4 harg4 arg5 harg5 arg6 harg6 arg7 harg7 arg8 harg8 arg9 harg9 arg10 harg10 arg11 harg11 hc0 hc1 hc2 hc3 hc4 x0 x1 x2 x3 x4 xo xs
      = k0_pay3 (F := Ideal) (k0_pay8 xs x0 x1 x2) xo := by
  unfold out0_D_7 kernelRun0_D
  dsimp only
  sl_unfold_words
  rw [View.read_writes_junk_eq_canon, View.canon_cons_unit_lit _ _ _ (by decide)]
  simp only [View.readAt_eq_ld, harg3.read_unread, harg4.read_unread, harg5.read_unread, harg10.read_unread, harg11.read_unread, ld_whole, ld_row, ld_wide]

end D

end Runs

section Run
variable (m : (ℓ : Loc nD τ sig) → Buf (Elt Ideal) ℓ) (c : Dev nD)

abbrev X : FVec Ideal S4096x1024 .f32 := m ((c : Thread nD τ).loc main_arg0)
abbrev NW : FVec Ideal S1x1024 .f32 := m ((c : Thread nD τ).loc main_arg1)
abbrev W : FVec Ideal S1024x4224 .f32 := m ((c : Thread nD τ).loc main_arg2)
abbrev DU : FVec Ideal S4096x4224 .bf16 := m ((c : Thread nD τ).loc main_arg3)
abbrev DXO : FVec Ideal S4096x1024 .f32 := m ((c : Thread nD τ).loc main_arg4)

theorem host_w (j : Fin 1024) (k : Fin 4224) : (V m c main_v0 : FVec Ideal S1024x4224 .bf16) (ix2 j k) = W m c (ix2 j k) := by
  entry_read
  pointwise []

theorem ix0 : ∀ t : Fin grid0.N, win0_0.index t = ![t.val / 3, t.val % 3] := by decide +kernel
theorem ix1 : ∀ t : Fin grid0.N, win0_1.index t = ![0, t.val % 3] := by decide +kernel
theorem ix2' : ∀ t : Fin grid0.N, win0_2.index t = ![t.val / 3, 0] := by decide +kernel
theorem ix3' : ∀ t : Fin grid0.N, win0_3.index t = ![t.val / 3, 0] := by decide +kernel
theorem ix4 : ∀ t : Fin grid0.N, win0_4.index t = ![0, 0] := by decide +kernel

/-- The five blocks a point reads. -/
abbrev blk0 (t : Fin cfg0.N) : FVec Ideal S1024x1408 .bf16 := iblk m c 0 t
abbrev blk1 (t : Fin cfg0.N) : FVec Ideal S1024x1408 .bf16 := iblk m c 1 t
abbrev blk2 (t : Fin cfg0.N) : FVec Ideal S1024x1024 .f32 := iblk m c 2 t
abbrev blk3 (t : Fin cfg0.N) : FVec Ideal S1024x1024 .f32 := iblk m c 3 t
abbrev blk4 (t : Fin cfg0.N) : FVec Ideal S1x1024 .f32 := iblk m c 4 t

theorem read0 (t : Fin cfg0.N) (a : Fin 1024) (k : Fin 1408) :
    blk0 m c t (ix2 a k) = nat2 (DU m c) (t.val / 3 * 1024 + a.val) (t.val % 3 * 1408 + k.val) := by
  have hN := lt_of_lt_of_eq t.isLt N_0
  rw [nat2_of _ (by omega) (by omega)]
  unfold blk0 iblk
  rw [View.read_apply]
  show DU m c _ = _
  congr 1
  funext x
  apply Fin.ext
  match x with
  | ⟨0, _⟩ => show win0_0.index t 0 * 1024 + 1 * a.val = t.val / 3 * 1024 + a.val; rw [congrFun (ix0 t) 0]; show t.val / 3 * 1024 + 1 * a.val = _; omega
  | ⟨1, _⟩ => show win0_0.index t 1 * 1408 + 1 * k.val = t.val % 3 * 1408 + k.val; rw [congrFun (ix0 t) 1]; show t.val % 3 * 1408 + 1 * k.val = _; omega

theorem read1 (t : Fin cfg0.N) (j : Fin 1024) (k : Fin 1408) : blk1 m c t (ix2 j k) = nat2 (W m c) j.val (t.val % 3 * 1408 + k.val) := by
  have hN := lt_of_lt_of_eq t.isLt N_0
  rw [nat2_of _ (by omega) (by omega)]
  refine Eq.trans ?_ (host_w m c j (⟨t.val % 3 * 1408 + k.val, by omega⟩ : Fin 4224))
  unfold blk1 iblk
  rw [View.read_apply]
  show V m c main_v0 _ = _
  congr 1
  funext x
  apply Fin.ext
  match x with
  | ⟨0, _⟩ => show win0_1.index t 0 * 1024 + 1 * j.val = j.val; rw [congrFun (ix1 t) 0]; show 0 * 1024 + 1 * j.val = _; omega
  | ⟨1, _⟩ => show win0_1.index t 1 * 1408 + 1 * k.val = t.val % 3 * 1408 + k.val; rw [congrFun (ix1 t) 1]; show t.val % 3 * 1408 + 1 * k.val = _; omega

theorem read2 (t : Fin cfg0.N) (a j : Fin 1024) : blk2 m c t (ix2 a j) = row (X m c) (t.val / 3 * 1024 + a.val) j := by
  have hN := lt_of_lt_of_eq t.isLt N_0
  rw [row, nat2_of _ (by omega) (by omega)]
  unfold blk2 iblk
  rw [View.read_apply]
  show X m c _ = _
  congr 1
  funext x
  apply Fin.ext
  match x with
  | ⟨0, _⟩ => show win0_2.index t 0 * 1024 + 1 * a.val = t.val / 3 * 1024 + a.val; rw [congrFun (ix2' t) 0]; show t.val / 3 * 1024 + 1 * a.val = _; omega
  | ⟨1, _⟩ => show win0_2.index t 1 * 1024 + 1 * j.val = j.val; rw [congrFun (ix2' t) 1]; show 0 * 1024 + 1 * j.val = _; omega

theorem read3 (t : Fin cfg0.N) (a j : Fin 1024) : blk3 m c t (ix2 a j) = row (DXO m c) (t.val / 3 * 1024 + a.val) j := by
  have hN := lt_of_lt_of_eq t.isLt N_0
  rw [row, nat2_of _ (by omega) (by omega)]
  unfold blk3 iblk
  rw [View.read_apply]
  show DXO m c _ = _
  congr 1
  funext x
  apply Fin.ext
  match x with
  | ⟨0, _⟩ => show win0_3.index t 0 * 1024 + 1 * a.val = t.val / 3 * 1024 + a.val; rw [congrFun (ix3' t) 0]; show t.val / 3 * 1024 + 1 * a.val = _; omega
  | ⟨1, _⟩ => show win0_3.index t 1 * 1024 + 1 * j.val = j.val; rw [congrFun (ix3' t) 1]; show 0 * 1024 + 1 * j.val = _; omega

theorem read4 (t : Fin cfg0.N) (j : Fin 1024) : blk4 m c t (ix2 0 j) = NW m c (ix2 0 j) := by
  unfold blk4 iblk
  rw [View.read_apply]
  show NW m c _ = _
  congr 1
  funext x
  apply Fin.ext
  match x with
  | ⟨0, _⟩ => show win0_4.index t 0 * 1 + 1 * 0 = 0; rw [congrFun (ix4 t) 0]; rfl
  | ⟨1, _⟩ => show win0_4.index t 1 * 1024 + 1 * j.val = j.val; rw [congrFun (ix4 t) 1]; show 0 * 1024 + 1 * j.val = _; omega

/-- One point's product is the next 1408 columns' terms. -/
theorem piece (t : Fin cfg0.N) (a b : Fin 1024) :
    ∑ k : Fin 1408, blk0 m c t (ix2 a k) * blk1 m c t (ix2 b k)
      = ∑ k : Fin 1408, term (DU m c) (W m c) (t.val / 3 * 1024 + a.val) b.val (t.val % 3 * 1408 + k.val) := by
  simp only [read0, read1, term]

/-- What the accumulator holds after each point but a block's last. -/
theorem state (a b : Fin 1024) (n : ℕ) (h : n < cfg0.N) (hl : n % 3 + 1 < 3) :
    (outsAt0 m c n h).2.2.2 (ix2 a b) = upTo (term (DU m c) (W m c) (n / 3 * 1024 + a.val) b.val) (n % 3 * 1408 + 1408) := by
  refine sweep (fun n h => (outsAt0 m c n h).2.2.2 (ix2 a b)) (fun q => term (DU m c) (W m c) (q * 1024 + a.val) b.val) ?_ ?_ n h hl
  · intro n h h0
    rw [outsAt0_A m c ⟨n, h⟩ h0 (by show ¬(n % 3 = 1); omega) (by show ¬(n % 3 = 2); omega)]
    dsimp only
    rw [first, pay1]
    exact piece m c ⟨n, h⟩ a b
  · intro n h h0 hl
    rw [outsAt0_B m c ⟨n + 1, h⟩ h0 (by show (n + 1) % 3 = 1; omega) (by show ¬((n + 1) % 3 = 2); omega)]
    dsimp only
    rw [next, pay2]
    exact congrArg (_ + ·) (piece m c ⟨n + 1, h⟩ a b)

/-- What a point's predecessor left in the accumulator. -/
abbrev acc (t : Fin cfg0.N) : FVec Ideal S1024x1024 .f32 := (outsAt0 m c (t.val - 1) (Nat.lt_of_le_of_lt (Nat.sub_le _ _) t.isLt)).2.2.2

/-- A block's last point has the whole sum, and the input's gradient from it. -/
theorem whole (t : Fin cfg0.N) (hl : t.val % 3 = 2) (a b : Fin 1024) :
    k0_pay4 (F := Ideal) (acc m c t) (blk0 m c t) (blk1 m c t) (ix2 a b)
      = D (DU m c) (W m c) (t.val / 3 * 1024 + a.val) b := by
  have e := state m c a b (t.val - 1) (Nat.lt_of_le_of_lt (Nat.sub_le _ _) t.isLt) (by omega)
  rw [pay4, piece, D, show 4224 = 2816 + 1408 from rfl, upTo_add _ 2816 1408, hl]
  rw [show (t.val - 1) / 3 = t.val / 3 by omega, show (t.val - 1) % 3 * 1408 + 1408 = 2816 by omega] at e
  exact congrArg (· + _) e

theorem last_dx (t : Fin cfg0.N) (hl : t.val % 3 = 2) (a b : Fin 1024) :
    k0_pay7 (F := Ideal) (acc m c t) (blk0 m c t) (blk1 m c t) (blk2 m c t) (blk3 m c t) (blk4 m c t) (ix2 a b)
      = dx (X m c) (NW m c) (W m c) (DU m c) (DXO m c) (t.val / 3 * 1024 + a.val) b := by
  rw [pay_dx, read3]
  simp only [whole m c t hl, read2, read4]
  rfl

theorem last_dnw (t : Fin cfg0.N) (hl : t.val % 3 = 2) (b : Fin 1024) :
    k0_pay8 (F := Ideal) (acc m c t) (blk0 m c t) (blk1 m c t) (blk2 m c t) (ix2 0 b)
      = ∑ k : Fin 1024, Norm.share (D (DU m c) (W m c)) (row (X m c)) b (t.val / 3 * 1024 + k.val) := by
  rw [pay_dnw]
  simp only [whole m c t hl, read2]
  rfl

/-- What a block's last point leaves in the first two results. -/
theorem outs_dx (t : Fin cfg0.N) (hl : t.val % 3 = 2) (a b : Fin 1024) :
    (outsAt0 m c t.val t.isLt).1 (ix2 a b) = dx (X m c) (NW m c) (W m c) (DU m c) (DXO m c) (t.val / 3 * 1024 + a.val) b := by
  by_cases h4 : 3 ≤ t.val
  · rw [outsAt0_D m c t (by omega) (by omega) hl (by omega) h4]
    dsimp only
    rw [lastD_dx]
    exact last_dx m c t hl a b
  · rw [outsAt0_C m c t (by omega) (by omega) hl (by omega) h4]
    dsimp only
    rw [lastC_dx]
    exact last_dx m c t hl a b
theorem outs_low (t : Fin cfg0.N) (hl : t.val % 3 = 2) (a b : Fin 1024) :
    (outsAt0 m c t.val t.isLt).2.1 (ix2 a b) = dx (X m c) (NW m c) (W m c) (DU m c) (DXO m c) (t.val / 3 * 1024 + a.val) b := by
  by_cases h4 : 3 ≤ t.val
  · rw [outsAt0_D m c t (by omega) (by omega) hl (by omega) h4]
    dsimp only
    rw [lastD_low, pay_low]
    exact last_dx m c t hl a b
  · rw [outsAt0_C m c t (by omega) (by omega) hl (by omega) h4]
    dsimp only
    rw [lastC_low, pay_low]
    exact last_dx m c t hl a b

/-- What the column sums are once a block is done. -/
theorem outs_dnw (b : Fin 1024) (n : ℕ) (h : n < cfg0.N) (hn : (n + 1) / 3 ≠ 0) :
    (outsAt0 m c n h).2.2.1 (ix2 0 b) = upTo (Norm.share (D (DU m c) (W m c)) (row (X m c)) b) ((n + 1) / 3 * 1024) := by
  refine Norm.columns (fun n h => (outsAt0 m c n h).2.2.1 (ix2 0 b)) (Norm.share (D (DU m c) (W m c)) (row (X m c)) b) (fun n => (n + 1) / 3) rfl
    (fun n => by omega) ?_ ?_ ?_ n h hn
  · intro n h e
    by_cases h0 : (n + 1) % 3 = 0
    · rw [outsAt0_A m c ⟨n + 1, h⟩ h0 (by show ¬((n + 1) % 3 = 1); omega) (by show ¬((n + 1) % 3 = 2); omega)]
      rfl
    · rw [outsAt0_B m c ⟨n + 1, h⟩ h0 (by show (n + 1) % 3 = 1; omega) (by show ¬((n + 1) % 3 = 2); omega)]
      rfl
  · intro n h e e'
    have hl : (⟨n + 1, h⟩ : Fin cfg0.N).val % 3 = 2 := by show (n + 1) % 3 = 2; omega
    rw [outsAt0_C m c ⟨n + 1, h⟩ (by show ¬(n + 1) % 3 = 0; omega) (by show ¬((n + 1) % 3 = 1); omega) hl (by show n + 1 < 3; omega) (by show ¬3 ≤ n + 1; omega)]
    dsimp only
    rw [lastC_dnw]
    exact last_dnw m c ⟨n + 1, h⟩ hl b
  · intro n h e e'
    have hl : (⟨n + 1, h⟩ : Fin cfg0.N).val % 3 = 2 := by show (n + 1) % 3 = 2; omega
    rw [outsAt0_D m c ⟨n + 1, h⟩ (by show ¬(n + 1) % 3 = 0; omega) (by show ¬((n + 1) % 3 = 1); omega) hl (by show ¬n + 1 < 3; omega) (by show 3 ≤ n + 1; omega)]
    dsimp only
    rw [lastD_dnw, pay3]
    exact congrArg (_ + ·) (last_dnw m c ⟨n + 1, h⟩ hl b)

/-- The kernel's first result. -/
theorem result_dx (t : Fin 4096) (j : Fin 1024) :
    (Value.G5 m c : FVec Ideal S4096x1024 .f32) (ix2 t j) = dx (X m c) (NW m c) (W m c) (DU m c) (DXO m c) t j := by
  have hp : Value.pt5Of (ix2 t j) = 3 * (t.val / 1024) + 2 := by
    show 3 * (1 * (t.val / 1024 - 0) + 1 * (j.val / 1024 - 0)) + 2 = _
    omega
  have hu : Value.pt5Of (ix2 t j) < cfg0.N := by rw [hp, show cfg0.N = 12 from N_0]; omega
  unfold Value.G5
  rw [dif_pos hu, ← Value.outsAt0_sweep m c _ hu]
  have hl : Value.loc5Of (ix2 t j) = ix2 (⟨t.val % 1024, by omega⟩ : Fin 1024) j := by
    funext x
    apply Fin.ext
    match x with
    | ⟨0, _⟩ => rfl
    | ⟨1, _⟩ => show j.val % 1024 = j.val; omega
  rw [hl]
  refine (outs_dx m c ⟨Value.pt5Of (ix2 t j), hu⟩ (by show Value.pt5Of (ix2 t j) % 3 = 2; omega) _ _).trans ?_
  show dx _ _ _ _ _ (Value.pt5Of (ix2 t j) / 3 * 1024 + t.val % 1024) j = _
  rw [show Value.pt5Of (ix2 t j) / 3 * 1024 + t.val % 1024 = t.val by omega]

/-- The kernel's second result. -/
theorem result_low (t : Fin 4096) (j : Fin 1024) :
    (Value.G6 m c : FVec Ideal S4096x1024 .bf16) (ix2 t j) = dx (X m c) (NW m c) (W m c) (DU m c) (DXO m c) t j := by
  have hp : Value.pt6Of (ix2 t j) = 3 * (t.val / 1024) + 2 := by
    show 3 * (1 * (t.val / 1024 - 0) + 1 * (j.val / 1024 - 0)) + 2 = _
    omega
  have hu : Value.pt6Of (ix2 t j) < cfg0.N := by rw [hp, show cfg0.N = 12 from N_0]; omega
  unfold Value.G6
  rw [dif_pos hu, ← Value.outsAt0_sweep m c _ hu]
  have hl : Value.loc6Of (ix2 t j) = ix2 (⟨t.val % 1024, by omega⟩ : Fin 1024) j := by
    funext x
    apply Fin.ext
    match x with
    | ⟨0, _⟩ => rfl
    | ⟨1, _⟩ => show j.val % 1024 = j.val; omega
  rw [hl]
  refine (outs_low m c ⟨Value.pt6Of (ix2 t j), hu⟩ (by show Value.pt6Of (ix2 t j) % 3 = 2; omega) _ _).trans ?_
  show dx _ _ _ _ _ (Value.pt6Of (ix2 t j) / 3 * 1024 + t.val % 1024) j = _
  rw [show Value.pt6Of (ix2 t j) / 3 * 1024 + t.val % 1024 = t.val by omega]

/-- The kernel's third result. -/
theorem result_dnw (j : Fin 1024) : (Value.G7 m c : FVec Ideal S1x1024 .f32) (ix2 0 j) = dnw (X m c) (W m c) (DU m c) j := by
  have hp : Value.pt7Of (ix2 0 j) = 11 := by
    show 12 * (1 * (0 / 1 - 0) + 1 * (j.val / 1024 - 0)) + 11 = _
    omega
  have hu : Value.pt7Of (ix2 0 j) < cfg0.N := by rw [hp, show cfg0.N = 12 from N_0]; omega
  unfold Value.G7
  rw [dif_pos hu, ← Value.outsAt0_sweep m c _ hu]
  have hl : Value.loc7Of (ix2 0 j) = ix2 0 j := by
    funext x
    apply Fin.ext
    match x with
    | ⟨0, _⟩ => rfl
    | ⟨1, _⟩ => show j.val % 1024 = j.val; omega
  rw [hl]
  refine (outs_dnw m c j _ hu (by omega)).trans ?_
  rw [show (Value.pt7Of (ix2 0 j) + 1) / 3 * 1024 = 4096 by omega]
  rfl

end Run

end Cert.InOddDxIdeal.Body

namespace Cert.Proof

open Idealize.ShloMosaic Idealize.SL.Sem Cert.InOddDxIdeal.Body Cert.Sums
open Cert.InOddDxReferenceIdeal.Read

theorem inodddx_defs_eq : Cert.InOddDxIdeal.defs₀ (F := Bits) = Cert.InOddDx.defs₀ (F := Bits) := by
  unfold Cert.InOddDx.defs₀ Cert.InOddDxIdeal.defs₀
  congr 1
  funext l a
  match l, a with
  | 0, (t, s) => rfl

theorem frame_inodddx : Cert.quiescent_InOddDx := fun m g _ => by
  have h := Cert.InOddDxIdeal.Gen.frame (F := Bits) m g
  unfold Cert.InOddDxIdeal.defs at h
  rw [inodddx_defs_eq] at h
  exact h

theorem frame_inodddx_reference : Cert.quiescent_InOddDxReferenceIdeal := fun m g _ => by
  refine (θ_run Cert.InOddDxReferenceIdeal.defs _ _).mono (fun r h => ?_) (Cert.InOddDxReferenceIdeal.Value.run (F := Ideal) m g)
  exact ⟨fun c => (h c).2.2.2, sem_eq_zero_of_no_sems (by decide) _⟩

section
variable (x : FVec Ideal Cert.InOddDxReferenceIdeal.S4096x1024 .f32) (nw : FVec Ideal Cert.InOddDxReferenceIdeal.S1x1024 .f32)
    (w : FVec Ideal Cert.InOddDxReferenceIdeal.S1024x4224 .f32) (du : FVec Ideal Cert.InOddDxReferenceIdeal.S4096x4224 .bf16) (dxo : FVec Ideal Cert.InOddDxReferenceIdeal.S4096x1024 .f32)
    (t : Fin 4096) (j : Fin 1024)

theorem inodddx_product : val_main_v17 (F := Ideal) w du (ix2 t j) = D du w t j := by
  rw [D, upTo_first]
  pointwise [val_main_v17, val_main_v16, val_main_v15]
  refine Finset.sum_congr rfl fun k _ => ?_
  unfold term
  rw [nat2_fin, nat2_fin]

theorem inodddx_dx : val_main_v37 (F := Ideal) x nw w du dxo (ix2 t j) = dx x nw w du dxo t j := by
  have hr : ∀ (y : FVec Ideal Cert.InOddDxReferenceIdeal.S4096x1024 .f32) (b : Fin 1024), y (ix2 t b) = row y t b := fun y b => (nat2_fin y t b).symm
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6]
  simp only [inodddx_product]
  simp only [hr]
  rw [dx, Norm.grad_eq]
  rfl

theorem inodddx_low : val_main_v38 (F := Ideal) x nw w du dxo (ix2 t j) = dx x nw w du dxo t j := by
  rw [← inodddx_dx]
  rfl

theorem inodddx_dnw : val_main_v20 (F := Ideal) x w du (ix2 0 j) = dnw x w du j := by
  rw [dnw, upTo_first]
  pointwise [val_main_v20, val_main_v19, val_main_v18, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  refine Finset.sum_congr rfl fun t _ => ?_
  have hr : ∀ (b : Fin 1024), x (ix2 t b) = row x t b := fun b => (nat2_fin x t b).symm
  simp only [inodddx_product]
  simp only [hr]
  exact mul_comm _ _

end

theorem agree_inodddx : Cert.algebraic_InOddDxIdeal_InOddDxReferenceIdeal := by
  intro m g m' g' _ hargs
  refine ⟨fun (c : Dev Cert.InOddDxIdeal.nD) (i : (⟨2, ![4096, 1024]⟩ : Shape).Idx) => dx (X m c) (NW m c) (W m c) (DU m c) (DXO m c) (i 0).val (i 1),
    fun (c : Dev Cert.InOddDxIdeal.nD) (i : (⟨2, ![4096, 1024]⟩ : Shape).Idx) => dx (X m c) (NW m c) (W m c) (DU m c) (DXO m c) (i 0).val (i 1),
    fun (c : Dev Cert.InOddDxIdeal.nD) (i : (⟨2, ![1, 1024]⟩ : Shape).Idx) => dnw (X m c) (W m c) (DU m c) (i 1), ?_, ?_⟩
  · refine (θ_run Cert.InOddDxIdeal.defs _ _).mono (fun r h c => ⟨?_, ?_, ?_, (h c).2.2.2⟩) (Cert.InOddDxIdeal.Value.run (F := Ideal) m g)
    · rw [(h c).1]
      funext i
      obtain ⟨t, j, rfl⟩ : ∃ (t : Fin 4096) (j : Fin 1024), i = ix2 t j := ⟨i 0, i 1, eq_ix2 i⟩
      exact result_dx m c t j
    · rw [(h c).2.1]
      funext i
      obtain ⟨t, j, rfl⟩ : ∃ (t : Fin 4096) (j : Fin 1024), i = ix2 t j := ⟨i 0, i 1, eq_ix2 i⟩
      exact result_low m c t j
    · rw [(h c).2.2.1]
      funext i
      obtain ⟨t, j, rfl⟩ : ∃ (t : Fin 1) (j : Fin 1024), i = ix2 t j := ⟨i 0, i 1, eq_ix2 i⟩
      obtain rfl : t = 0 := Subsingleton.elim _ _
      exact result_dnw m c j
  · refine (θ_run Cert.InOddDxReferenceIdeal.defs _ _).mono (fun r h c => ⟨?_, ?_, ?_, (h c).2.2.2⟩) (Cert.InOddDxReferenceIdeal.Value.run (F := Ideal) m' g')
    · rw [(h c).1]
      funext i
      obtain ⟨t, j, rfl⟩ : ∃ (t : Fin 4096) (j : Fin 1024), i = ix2 t j := ⟨i 0, i 1, eq_ix2 i⟩
      refine (congrFun (val_main_v37_eq m' c) (ix2 t j)).trans ?_
      rw [(hargs c).1, (hargs c).2.1, (hargs c).2.2.1, (hargs c).2.2.2.1, (hargs c).2.2.2.2]
      exact inodddx_dx _ _ _ _ _ t j
    · rw [(h c).2.1]
      funext i
      obtain ⟨t, j, rfl⟩ : ∃ (t : Fin 4096) (j : Fin 1024), i = ix2 t j := ⟨i 0, i 1, eq_ix2 i⟩
      refine (congrFun (val_main_v38_eq m' c) (ix2 t j)).trans ?_
      rw [(hargs c).1, (hargs c).2.1, (hargs c).2.2.1, (hargs c).2.2.2.1, (hargs c).2.2.2.2]
      exact inodddx_low _ _ _ _ _ t j
    · rw [(h c).2.2.1]
      funext i
      obtain ⟨t, j, rfl⟩ : ∃ (t : Fin 1) (j : Fin 1024), i = ix2 t j := ⟨i 0, i 1, eq_ix2 i⟩
      obtain rfl : t = 0 := Subsingleton.elim _ _
      refine (congrFun (val_main_v20_eq _ _ _) (ix2 0 j)).trans ?_
      rw [(hargs c).1, (hargs c).2.2.1, (hargs c).2.2.2.1]
      exact inodddx_dnw _ _ _ j

end Cert.Proof

end
-- ==== Proof.HeadValue.lean ====
/- The last down projection with the loss head: the frames, and the kernel's four results beside the reference's. -/
module

public import proofs.«01_k».proof.Defs
public import proofs.«01_k».proof.Proof.Sums
public import proofs.«01_k».proof.Proof.Norm
public import proofs.«01_k».proof.Proof.Gen.Head
public import proofs.«01_k».proof.Proof.Gen.HeadIdeal.Value
public import proofs.«01_k».proof.Proof.Gen.HeadReferenceIdeal
public import proofs.«01_k».proof.Proof.Gen.HeadReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic

@[expose] public section

noncomputable section

namespace Cert.HeadIdeal.Body

open Cert.HeadIdeal Cert.HeadIdeal.Gen Idealize.ShloMosaic Idealize.ShloMosaic.TcCoe Idealize.SL.Sem Cert.Sums

theorem lit_two : Ideal.ofBits .f32 0x40000000#32 = ((2 : ℝ) : EReal) := by
  simp [Ideal.ofBits, Ideal.ieee, -EReal.coe_mul]; norm_num
theorem lit_plus_half : Ideal.ofBits .f32 0x3F000000#32 = ((1 / 2 : ℝ) : EReal) := by
  simp [Ideal.ofBits, Ideal.ieee, -EReal.coe_mul]; norm_num
theorem lit_part : Ideal.ofBits .f32 0x3A800000#32 = ((1 / 1024 : ℝ) : EReal) := by
  simp [Ideal.ofBits, Ideal.ieee, -EReal.coe_mul]; norm_num

/-- The loss's gradient at one output: half of twice the error, shared out over the features. -/
theorem slope (e : EReal) :
    Ideal.div (Ideal.ofBits .f32 0x3F000000#32) (Ideal.ofBits .f32 0x44800000#32) * (Ideal.ofBits .f32 0x40000000#32 * e)
      = e * Ideal.ofBits .f32 0x3A800000#32 := by
  rw [lit_two, lit_plus_half, lit_part, Norm.lit_1024, Ideal.div_coe (by norm_num), ← mul_assoc, ← EReal.coe_mul, ← EReal.coe_mul, mul_comm e]
  congr 2
  norm_num

/-- One hidden unit's part of one entry, and one entry of the residual result. -/
def term (r : FVec Ideal S4096x4096 .bf16) (w : FVec Ideal S4096x1024 .f32) (t j : ℕ) (k : ℕ) : EReal :=
  nat2 r t k * nat2 r t k * nat2 w k j
def res (x : FVec Ideal S4096x1024 .f32) (r : FVec Ideal S4096x4096 .bf16) (w : FVec Ideal S4096x1024 .f32) (t : ℕ) (j : Fin 1024) : EReal :=
  nat2 x t j + upTo (term r w t j) 4096

/-- One output's error from its row, and the gradient at the output. -/
def off (x : Fin 1024 → EReal) (nw tgt : EReal) (j : Fin 1024) : EReal := Norm.normed x nw j - tgt
def down (x : Fin 1024 → EReal) (nw tgt : EReal) (j : Fin 1024) : EReal := off x nw tgt j * Ideal.ofBits .f32 0x3A800000#32

/-- One token's mean squared error. -/
def miss (x nw tgt : Fin 1024 → EReal) : EReal :=
  Ideal.div (∑ k : Fin 1024, off x (nw k) (tgt k) k * off x (nw k) (tgt k) k) (Ideal.ofBits .f32 0x44800000#32)

section
variable (x : FVec Ideal S4096x1024 .f32) (r : FVec Ideal S4096x4096 .bf16) (w : FVec Ideal S4096x1024 .f32) (nw : FVec Ideal S1x1024 .f32) (tgt : FVec Ideal S4096x1024 .f32)

/-- The norm's weights and a token's targets. -/
def wt (j : Fin 1024) : EReal := nw (ix2 0 j)
def aim (t : ℕ) (j : Fin 1024) : EReal := nat2 tgt t j

/-- The gradient at the output, the loss, the residual stream's gradient and the norm weight's. -/
def D (t : ℕ) (j : Fin 1024) : EReal := down (res x r w t) (wt nw j) (aim tgt t j) j
def part (t : ℕ) : EReal := miss (res x r w t) (wt nw) (aim tgt t) * Ideal.ofBits .f32 0x3F000000#32
def loss : EReal := upTo (part x r w nw tgt) 4096
def dx (t : ℕ) (j : Fin 1024) : EReal := Norm.grad (res x r w t) (D x r w nw tgt t) (wt nw) 0 j
def dnw (j : Fin 1024) : EReal := upTo (Norm.share (D x r w nw tgt) (res x r w) j) 4096

end

section Pays
variable (a b : FVec Ideal S1024x1024 .bf16) (acc x : FVec Ideal S1024x1024 .f32) (nw p : FVec Ideal S1x1024 .f32) (tgt : FVec Ideal S1024x1024 .f32) (i j : Fin 1024)

theorem pay1 : k0_pay1 (F := Ideal) a b (ix2 i j) = ∑ k : Fin 1024, a (ix2 i k) * a (ix2 i k) * b (ix2 k j) := by
  pointwise [k0_pay1]
theorem pay2 : k0_pay2 (F := Ideal) acc a b (ix2 i j) = acc (ix2 i j) + ∑ k : Fin 1024, a (ix2 i k) * a (ix2 i k) * b (ix2 k j) := by
  pointwise [k0_pay2]
theorem pay9 : k0_pay9 (F := Ideal) acc a b x (ix2 i j) = x (ix2 i j) + (acc (ix2 i j) + ∑ k : Fin 1024, a (ix2 i k) * a (ix2 i k) * b (ix2 k j)) := by
  pointwise [k0_pay9]

/-- A row of the residual result in the block, and of the targets. -/
abbrev line (i : Fin 1024) (k : Fin 1024) : EReal := k0_pay9 (F := Ideal) acc a b x (ix2 i k)
abbrev goal (i : Fin 1024) (k : Fin 1024) : EReal := tgt (ix2 i k)
abbrev slot (k : Fin 1024) : EReal := nw (ix2 0 k)

theorem pay10 : k0_pay10 (F := Ideal) acc a b x (ix2 i 0) = Norm.scale (line a b acc x i) := by
  pointwise [k0_pay10]
  rfl
theorem pay11 : k0_pay11 (F := Ideal) acc a b x (ix2 i j) = line a b acc x i j * Norm.scale (line a b acc x i) := by
  rw [← pay10]
  pointwise [k0_pay11]
theorem pay12 : k0_pay12 (F := Ideal) acc a b x nw tgt (ix2 i j) = off (line a b acc x i) (slot nw j) (goal tgt i j) j := by
  pointwise [k0_pay12]
  rw [pay11]
  rfl
theorem pay13 : k0_pay13 (F := Ideal) acc a b x nw tgt (ix2 (0 : Fin 1) (0 : Fin 1))
    = Ideal.ofBits .f32 0x3F000000#32 * ∑ k : Fin 1024, miss (line a b acc x k) (slot nw) (goal tgt k) := by
  pointwise [k0_pay13]
  simp only [pay12]
  rfl
theorem pay14 : k0_pay14 (F := Ideal) acc a b x nw tgt (ix2 i j) = down (line a b acc x i) (slot nw j) (goal tgt i j) j := by
  rw [down, ← pay12]
  pointwise [k0_pay14]
theorem pay15 : k0_pay15 (F := Ideal) acc a b x nw tgt (ix2 i j) = down (line a b acc x i) (slot nw j) (goal tgt i j) j * slot nw j := by
  rw [← pay14]
  pointwise [k0_pay15]
theorem pay16 : k0_pay16 (F := Ideal) acc a b x nw tgt (ix2 i j)
    = k0_pay15 (F := Ideal) acc a b x nw tgt (ix2 i j) * k0_pay11 (F := Ideal) acc a b x (ix2 i j) := by
  pointwise [k0_pay16]
theorem pay3 (r : FVec Ideal S1024x1 .f32) (xh dn q : FVec Ideal S1024x1024 .f32) : k0_pay3 (F := Ideal) r xh dn q (ix2 i j)
    = r (ix2 i 0) * (dn (ix2 i j) - xh (ix2 i j) * Ideal.div (∑ k : Fin 1024, q (ix2 i k)) (Ideal.ofBits .f32 0x44800000#32)) := by
  pointwise [k0_pay3]
theorem pay7 (r : FVec Ideal S1024x1 .f32) (xh dn q : FVec Ideal S1024x1024 .f32) : k0_pay7 (F := Ideal) r xh dn q (ix2 i j) = k0_pay3 (F := Ideal) r xh dn q (ix2 i j) := by
  pointwise [k0_pay7]
theorem pay4 (l : FVec Ideal S1x1 .f32) : k0_pay4 (F := Ideal) l (ix2 0 j) = l (ix2 0 0) := by
  pointwise [k0_pay4]
theorem pay6 (l : FVec Ideal S1x1 .f32) : k0_pay6 (F := Ideal) l p (ix2 0 j) = p (ix2 0 j) + k0_pay4 (F := Ideal) l (ix2 0 j) := by
  pointwise [k0_pay6]
theorem pay5 (xh dh : FVec Ideal S1024x1024 .f32) : k0_pay5 (F := Ideal) xh dh (ix2 0 j) = ∑ k : Fin 1024, dh (ix2 k j) * xh (ix2 k j) := by
  pointwise [k0_pay5]
theorem pay8 (xh dh : FVec Ideal S1024x1024 .f32) : k0_pay8 (F := Ideal) xh dh p (ix2 0 j) = p (ix2 0 j) + k0_pay5 (F := Ideal) xh dh (ix2 0 j) := by
  pointwise [k0_pay8]

/-- What a block's last point makes: its part of the loss, the gradient at its rows, and its part of the weight's gradient. -/
abbrev lastLoss : FVec Ideal S1x1 .f32 := k0_pay13 (F := Ideal) acc a b x nw tgt
abbrev lastDx : FVec Ideal S1024x1024 .f32 :=
  k0_pay3 (F := Ideal) (k0_pay10 acc a b x) (k0_pay11 acc a b x) (k0_pay15 acc a b x nw tgt) (k0_pay16 acc a b x nw tgt)
abbrev lastLow : FVec Ideal S1024x1024 .bf16 :=
  k0_pay7 (F := Ideal) (k0_pay10 acc a b x) (k0_pay11 acc a b x) (k0_pay15 acc a b x nw tgt) (k0_pay16 acc a b x nw tgt)

theorem pay_loss : k0_pay4 (F := Ideal) (lastLoss a b acc x nw tgt) (ix2 0 j)
    = ∑ k : Fin 1024, miss (line a b acc x k) (slot nw) (goal tgt k) * Ideal.ofBits .f32 0x3F000000#32 := by
  unfold lastLoss
  rw [pay4, pay13, lit_plus_half, Norm.sum_mul_pos _ _ (by norm_num), mul_comm]
theorem pay_dx : lastDx a b acc x nw tgt (ix2 i j)
    = Norm.grad (line a b acc x i) (fun k => down (line a b acc x i) (slot nw k) (goal tgt i k) k) (slot nw) 0 j := by
  unfold lastDx
  rw [pay3, Norm.grad, Norm.back, zero_add]
  simp only [pay16, pay15, pay11, pay10]
theorem pay_dnw : k0_pay5 (F := Ideal) (k0_pay11 acc a b x) (k0_pay14 acc a b x nw tgt) (ix2 0 j)
    = ∑ k : Fin 1024, down (line a b acc x k) (slot nw j) (goal tgt k j) j * (line a b acc x k j * Norm.scale (line a b acc x k)) := by
  rw [pay5]
  simp only [pay14, pay11]

end Pays

section Runs
/-- A load of a whole block reads the block. -/
theorem ld_whole {e : EltTy} (inb : ∀ a, (![0, 0] : Fin 2 → ℕ) a + S1024x1024.size a ≤ S1024x1024.size a) (X : S1024x1024.Idx → Elt Ideal e) :
    View.ld X (Rect.unit (s := S1024x1024) ![0, 0] ![1024, 1024] inb) = X := View.ld_unit_lit inb X (by decide)
theorem ld_row {e : EltTy} (inb : ∀ a, (![0, 0] : Fin 2 → ℕ) a + S1x1024.size a ≤ S1x1024.size a) (X : S1x1024.Idx → Elt Ideal e) :
    View.ld X (Rect.unit (s := S1x1024) ![0, 0] ![1, 1024] inb) = X := View.ld_unit_lit inb X (by decide)

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole)
  (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole)
  (arg9 : Memref sig .tc .vmem S1024x1024 .f32) (harg9 : arg9.IsWhole) (arg10 : Memref sig .tc .vmem S1024x1024 .bf16) (harg10 : arg10.IsWhole)
  (arg11 : Memref sig .tc .vmem S1x1024 .f32) (harg11 : arg11.IsWhole) (arg12 : Memref sig .tc .vmem S1024x1024 .f32) (harg12 : arg12.IsWhole)
  (x0 x1 : FVec Ideal S1024x1024 .bf16) (x2 : FVec Ideal S1024x1024 .f32) (x3 : FVec Ideal S1x1024 .f32) (x4 : FVec Ideal S1024x1024 .f32) (xo5 xo8 : FVec Ideal S1x1024 .f32) (xs : FVec Ideal S1024x1024 .f32)

theorem first (hc0 : cond0_0 i) (hc1 : ¬cond0_1 i) (hc2 : ¬cond0_2 i) :
    sout0_A_0 (F := Ideal) c i arg3 harg3 arg4 harg4 arg5 harg5 arg6 harg6 arg7 harg7 arg8 harg8 arg9 harg9 arg10 harg10 arg11 harg11 arg12 harg12 hc0 hc1 hc2 x0 x1 x2 x3 x4 = k0_pay1 (F := Ideal) x0 x1 := by
  unfold sout0_A_0 kernelRun0_A
  dsimp only
  sl_unfold_words
  rw [View.read_writes_junk_eq_canon, View.canon_cons_unit_lit _ _ _ (by decide)]
  simp only [View.readAt_eq_ld, harg3.read_unread, harg4.read_unread, ld_whole]

theorem next (hc0 : ¬cond0_0 i) (hc1 : cond0_1 i) (hc2 : ¬cond0_2 i) :
    sout0_B_0 (F := Ideal) c i arg3 harg3 arg4 harg4 arg5 harg5 arg6 harg6 arg7 harg7 arg8 harg8 arg9 harg9 arg10 harg10 arg11 harg11 arg12 harg12 hc0 hc1 hc2 x0 x1 x2 x3 x4 xs = k0_pay2 (F := Ideal) xs x0 x1 := by
  unfold sout0_B_0 kernelRun0_B
  dsimp only
  sl_unfold_words
  rw [View.read_writes_junk_eq_canon, View.canon_cons_unit_lit _ _ _ (by decide)]
  simp only [View.readAt_eq_ld, harg3.read_unread, harg4.read_unread, harg12.read_unread, ld_whole]

section C
variable (hc0 : ¬cond0_0 i) (hc1 : ¬cond0_1 i) (hc2 : cond0_2 i) (hc3 : cond0_3 i) (hc4 : ¬cond0_4 i) (hc5 : cond0_5 i) (hc6 : ¬cond0_6 i)

theorem lastC_loss : out0_C_5 (F := Ideal) c i arg3 harg3 arg4 harg4 arg5 harg5 arg6 harg6 arg7 harg7 arg8 harg8 arg9 harg9 arg10 harg10 arg11 harg11 arg12 harg12 hc0 hc1 hc2 hc3 hc4 hc5 hc6 x0 x1 x2 x3 x4 xs
      = k0_pay4 (F := Ideal) (lastLoss x0 x1 xs x2 x3 x4) := by
  unfold out0_C_5 kernelRun0_C
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg12.read_unread, ld_whole, ld_row]

theorem lastC_dx : out0_C_6 (F := Ideal) c i arg3 harg3 arg4 harg4 arg5 harg5 arg6 harg6 arg7 harg7 arg8 harg8 arg9 harg9 arg10 harg10 arg11 harg11 arg12 harg12 hc0 hc1 hc2 hc3 hc4 hc5 hc6 x0 x1 x2 x3 x4 xs
      = lastDx x0 x1 xs x2 x3 x4 := by
  unfold out0_C_6 kernelRun0_C
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg12.read_unread, ld_whole, ld_row]

theorem lastC_low : out0_C_7 (F := Ideal) c i arg3 harg3 arg4 harg4 arg5 harg5 arg6 harg6 arg7 harg7 arg8 harg8 arg9 harg9 arg10 harg10 arg11 harg11 arg12 harg12 hc0 hc1 hc2 hc3 hc4 hc5 hc6 x0 x1 x2 x3 x4 xs
      = lastLow x0 x1 xs x2 x3 x4 := by
  unfold out0_C_7 kernelRun0_C
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg12.read_unread, ld_whole, ld_row]

theorem lastC_dnw : out0_C_8 (F := Ideal) c i arg3 harg3 arg4 harg4 arg5 harg5 arg6 harg6 arg7 harg7 arg8 harg8 arg9 harg9 arg10 harg10 arg11 harg11 arg12 harg12 hc0 hc1 hc2 hc3 hc4 hc5 hc6 x0 x1 x2 x3 x4 xs
      = k0_pay5 (F := Ideal) (k0_pay11 xs x0 x1 x2) (k0_pay14 xs x0 x1 x2 x3 x4) := by
  unfold out0_C_8 kernelRun0_C
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg12.read_unread, ld_whole, ld_row]

end C

section D
variable (hc0 : ¬cond0_0 i) (hc1 : ¬cond0_1 i) (hc2 : cond0_2 i) (hc3 : ¬cond0_3 i) (hc4 : cond0_4 i) (hc5 : ¬cond0_5 i) (hc6 : cond0_6 i)

theorem lastD_loss : out0_D_5 (F := Ideal) c i arg3 harg3 arg4 harg4 arg5 harg5 arg6 harg6 arg7 harg7 arg8 harg8 arg9 harg9 arg10 harg10 arg11 harg11 arg12 harg12 hc0 hc1 hc2 hc3 hc4 hc5 hc6 x0 x1 x2 x3 x4 xo5 xo8 xs
      = k0_pay6 (F := Ideal) (lastLoss x0 x1 xs x2 x3 x4) xo5 := by
  unfold out0_D_5 kernelRun0_D
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg8.read_unread, harg12.read_unread, ld_whole, ld_row]

theorem lastD_dx : out0_D_6 (F := Ideal) c i arg3 harg3 arg4 harg4 arg5 harg5 arg6 harg6 arg7 harg7 arg8 harg8 arg9 harg9 arg10 harg10 arg11 harg11 arg12 harg12 hc0 hc1 hc2 hc3 hc4 hc5 hc6 x0 x1 x2 x3 x4 xo5 xo8 xs
      = lastDx x0 x1 xs x2 x3 x4 := by
  unfold out0_D_6 kernelRun0_D
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg12.read_unread, ld_whole, ld_row]

theorem lastD_low : out0_D_7 (F := Ideal) c i arg3 harg3 arg4 harg4 arg5 harg5 arg6 harg6 arg7 harg7 arg8 harg8 arg9 harg9 arg10 harg10 arg11 harg11 arg12 harg12 hc0 hc1 hc2 hc3 hc4 hc5 hc6 x0 x1 x2 x3 x4 xo5 xo8 xs
      = lastLow x0 x1 xs x2 x3 x4 := by
  unfold out0_D_7 kernelRun0_D
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg12.read_unread, ld_whole, ld_row]

theorem lastD_dnw : out0_D_8 (F := Ideal) c i arg3 harg3 arg4 harg4 arg5 harg5 arg6 harg6 arg7 harg7 arg8 harg8 arg9 harg9 arg10 harg10 arg11 harg11 arg12 harg12 hc0 hc1 hc2 hc3 hc4 hc5 hc6 x0 x1 x2 x3 x4 xo5 xo8 xs
      = k0_pay8 (F := Ideal) (k0_pay11 xs x0 x1 x2) (k0_pay14 xs x0 x1 x2 x3 x4) xo8 := by
  unfold out0_D_8 kernelRun0_D
  dsimp only
  sl_unfold_words
  rw [View.read_writes_junk_eq_canon, View.canon_cons_unit_lit _ _ _ (by decide)]
  simp only [View.readAt_eq_ld, harg3.read_unread, harg4.read_unread, harg5.read_unread, harg6.read_unread, harg7.read_unread, harg11.read_unread, harg12.read_unread, ld_whole, ld_row]

end D

end Runs

section Run
variable (m : (ℓ : Loc nD τ sig) → Buf (Elt Ideal) ℓ) (c : Dev nD)

abbrev X : FVec Ideal S4096x1024 .f32 := m ((c : Thread nD τ).loc main_arg0)
abbrev R : FVec Ideal S4096x4096 .bf16 := m ((c : Thread nD τ).loc main_arg1)
abbrev W : FVec Ideal S4096x1024 .f32 := m ((c : Thread nD τ).loc main_arg2)
abbrev NW : FVec Ideal S1x1024 .f32 := m ((c : Thread nD τ).loc main_arg3)
abbrev TGT : FVec Ideal S4096x1024 .f32 := m ((c : Thread nD τ).loc main_arg4)

theorem host_w (k : Fin 4096) (j : Fin 1024) : (V m c main_v0 : FVec Ideal S4096x1024 .bf16) (ix2 k j) = W m c (ix2 k j) := by
  entry_read
  rfl

theorem ix0 : ∀ t : Fin grid0.N, win0_0.index t = ![t.val / 4, t.val % 4] := by decide +kernel
theorem ix1 : ∀ t : Fin grid0.N, win0_1.index t = ![t.val % 4, 0] := by decide +kernel
theorem ix2' : ∀ t : Fin grid0.N, win0_2.index t = ![t.val / 4, 0] := by decide +kernel
theorem ix3 : ∀ t : Fin grid0.N, win0_3.index t = ![0, 0] := by decide +kernel
theorem ix4 : ∀ t : Fin grid0.N, win0_4.index t = ![t.val / 4, 0] := by decide +kernel

/-- The five blocks a point reads. -/
abbrev blk0 (t : Fin cfg0.N) : FVec Ideal S1024x1024 .bf16 := iblk m c 0 t
abbrev blk1 (t : Fin cfg0.N) : FVec Ideal S1024x1024 .bf16 := iblk m c 1 t
abbrev blk2 (t : Fin cfg0.N) : FVec Ideal S1024x1024 .f32 := iblk m c 2 t
abbrev blk3 (t : Fin cfg0.N) : FVec Ideal S1x1024 .f32 := iblk m c 3 t
abbrev blk4 (t : Fin cfg0.N) : FVec Ideal S1024x1024 .f32 := iblk m c 4 t

theorem read0 (t : Fin cfg0.N) (a k : Fin 1024) :
    blk0 m c t (ix2 a k) = nat2 (R m c) (t.val / 4 * 1024 + a.val) (t.val % 4 * 1024 + k.val) := by
  have hN := lt_of_lt_of_eq t.isLt N_0
  rw [nat2_of _ (by omega) (by omega)]
  unfold blk0 iblk
  rw [View.read_apply]
  show R m c _ = _
  congr 1
  funext x
  apply Fin.ext
  match x with
  | ⟨0, _⟩ => show win0_0.index t 0 * 1024 + 1 * a.val = t.val / 4 * 1024 + a.val; rw [congrFun (ix0 t) 0]; show t.val / 4 * 1024 + 1 * a.val = _; omega
  | ⟨1, _⟩ => show win0_0.index t 1 * 1024 + 1 * k.val = t.val % 4 * 1024 + k.val; rw [congrFun (ix0 t) 1]; show t.val % 4 * 1024 + 1 * k.val = _; omega

theorem read1 (t : Fin cfg0.N) (k j : Fin 1024) : blk1 m c t (ix2 k j) = nat2 (W m c) (t.val % 4 * 1024 + k.val) j.val := by
  have hN := lt_of_lt_of_eq t.isLt N_0
  rw [nat2_of _ (by omega) (by omega)]
  refine Eq.trans ?_ (host_w m c _ _)
  unfold blk1 iblk
  rw [View.read_apply]
  show V m c main_v0 _ = _
  congr 1
  funext x
  apply Fin.ext
  match x with
  | ⟨0, _⟩ => show win0_1.index t 0 * 1024 + 1 * k.val = t.val % 4 * 1024 + k.val; rw [congrFun (ix1 t) 0]; show t.val % 4 * 1024 + 1 * k.val = _; omega
  | ⟨1, _⟩ => show win0_1.index t 1 * 1024 + 1 * j.val = j.val; rw [congrFun (ix1 t) 1]; show 0 * 1024 + 1 * j.val = _; omega

theorem read2 (t : Fin cfg0.N) (a j : Fin 1024) : blk2 m c t (ix2 a j) = nat2 (X m c) (t.val / 4 * 1024 + a.val) j.val := by
  have hN := lt_of_lt_of_eq t.isLt N_0
  rw [nat2_of _ (by omega) (by omega)]
  unfold blk2 iblk
  rw [View.read_apply]
  show X m c _ = _
  congr 1
  funext x
  apply Fin.ext
  match x with
  | ⟨0, _⟩ => show win0_2.index t 0 * 1024 + 1 * a.val = t.val / 4 * 1024 + a.val; rw [congrFun (ix2' t) 0]; show t.val / 4 * 1024 + 1 * a.val = _; omega
  | ⟨1, _⟩ => show win0_2.index t 1 * 1024 + 1 * j.val = j.val; rw [congrFun (ix2' t) 1]; show 0 * 1024 + 1 * j.val = _; omega

theorem read3 (t : Fin cfg0.N) (j : Fin 1024) : blk3 m c t (ix2 0 j) = NW m c (ix2 0 j) := by
  unfold blk3 iblk
  rw [View.read_apply]
  show NW m c _ = _
  congr 1
  funext x
  apply Fin.ext
  match x with
  | ⟨0, _⟩ => show win0_3.index t 0 * 1 + 1 * 0 = 0; rw [congrFun (ix3 t) 0]; rfl
  | ⟨1, _⟩ => show win0_3.index t 1 * 1024 + 1 * j.val = j.val; rw [congrFun (ix3 t) 1]; show 0 * 1024 + 1 * j.val = _; omega

theorem read4 (t : Fin cfg0.N) (a j : Fin 1024) : blk4 m c t (ix2 a j) = nat2 (TGT m c) (t.val / 4 * 1024 + a.val) j.val := by
  have hN := lt_of_lt_of_eq t.isLt N_0
  rw [nat2_of _ (by omega) (by omega)]
  unfold blk4 iblk
  rw [View.read_apply]
  show TGT m c _ = _
  congr 1
  funext x
  apply Fin.ext
  match x with
  | ⟨0, _⟩ => show win0_4.index t 0 * 1024 + 1 * a.val = t.val / 4 * 1024 + a.val; rw [congrFun (ix4 t) 0]; show t.val / 4 * 1024 + 1 * a.val = _; omega
  | ⟨1, _⟩ => show win0_4.index t 1 * 1024 + 1 * j.val = j.val; rw [congrFun (ix4 t) 1]; show 0 * 1024 + 1 * j.val = _; omega

/-- One point's product is the next 1024 hidden units' terms. -/
theorem piece (t : Fin cfg0.N) (a b : Fin 1024) :
    ∑ k : Fin 1024, blk0 m c t (ix2 a k) * blk0 m c t (ix2 a k) * blk1 m c t (ix2 k b)
      = ∑ k : Fin 1024, term (R m c) (W m c) (t.val / 4 * 1024 + a.val) b.val (t.val % 4 * 1024 + k.val) := by
  simp only [read0, read1, term]

/-- What the accumulator holds after each point but a block's last. -/
theorem state (a b : Fin 1024) (n : ℕ) (h : n < cfg0.N) (hl : n % 4 + 1 < 4) :
    (outsAt0 m c n h).2.2.2.2 (ix2 a b) = upTo (term (R m c) (W m c) (n / 4 * 1024 + a.val) b.val) (n % 4 * 1024 + 1024) := by
  refine sweep (fun n h => (outsAt0 m c n h).2.2.2.2 (ix2 a b)) (fun q => term (R m c) (W m c) (q * 1024 + a.val) b.val) ?_ ?_ n h hl
  · intro n h h0
    rw [outsAt0_A m c ⟨n, h⟩ h0 (by show ¬(1 ≤ n % 4 ∧ n % 4 ≤ 2); omega) (by show ¬(n % 4 = 3); omega)]
    dsimp only
    rw [first, pay1]
    exact piece m c ⟨n, h⟩ a b
  · intro n h h0 hl
    rw [outsAt0_B m c ⟨n + 1, h⟩ h0 (by show 1 ≤ (n + 1) % 4 ∧ (n + 1) % 4 ≤ 2; omega) (by show ¬((n + 1) % 4 = 3); omega)]
    dsimp only
    rw [next, pay2]
    exact congrArg (_ + ·) (piece m c ⟨n + 1, h⟩ a b)

/-- What a point's predecessor left in the accumulator. -/
abbrev acc (t : Fin cfg0.N) : FVec Ideal S1024x1024 .f32 := (outsAt0 m c (t.val - 1) (Nat.lt_of_le_of_lt (Nat.sub_le _ _) t.isLt)).2.2.2.2

/-- A block's last point has the whole rows. -/
theorem whole (t : Fin cfg0.N) (hl : t.val % 4 = 3) (a : Fin 1024) :
    line (blk0 m c t) (blk1 m c t) (acc m c t) (blk2 m c t) a = res (X m c) (R m c) (W m c) (t.val / 4 * 1024 + a.val) := by
  funext b
  have e := state m c a b (t.val - 1) (Nat.lt_of_le_of_lt (Nat.sub_le _ _) t.isLt) (by omega)
  unfold line
  rw [pay9, piece, read2, res]
  show _ = nat2 _ _ _ + upTo (term (R m c) (W m c) (t.val / 4 * 1024 + a.val) b.val) (3072 + 1024)
  rw [upTo_add _ 3072 1024, hl]
  rw [show (t.val - 1) / 4 = t.val / 4 by omega, show (t.val - 1) % 4 * 1024 + 1024 = 3072 by omega] at e
  exact congrArg (fun z => _ + (z + _)) e
theorem goals (t : Fin cfg0.N) (a : Fin 1024) : goal (blk4 m c t) a = aim (TGT m c) (t.val / 4 * 1024 + a.val) := funext fun b => read4 m c t a b
theorem slots (t : Fin cfg0.N) : slot (blk3 m c t) = wt (NW m c) := funext fun b => read3 m c t b

theorem last_loss (t : Fin cfg0.N) (hl : t.val % 4 = 3) (b : Fin 1024) :
    k0_pay4 (F := Ideal) (lastLoss (blk0 m c t) (blk1 m c t) (acc m c t) (blk2 m c t) (blk3 m c t) (blk4 m c t)) (ix2 0 b)
      = ∑ k : Fin 1024, part (X m c) (R m c) (W m c) (NW m c) (TGT m c) (t.val / 4 * 1024 + k.val) := by
  rw [pay_loss, slots]
  simp only [whole m c t hl, goals]
  rfl
theorem last_dx (t : Fin cfg0.N) (hl : t.val % 4 = 3) (a b : Fin 1024) :
    lastDx (blk0 m c t) (blk1 m c t) (acc m c t) (blk2 m c t) (blk3 m c t) (blk4 m c t) (ix2 a b)
      = dx (X m c) (R m c) (W m c) (NW m c) (TGT m c) (t.val / 4 * 1024 + a.val) b := by
  rw [pay_dx, slots, goals, whole m c t hl]
  rfl
theorem last_dnw (t : Fin cfg0.N) (hl : t.val % 4 = 3) (b : Fin 1024) :
    k0_pay5 (F := Ideal) (k0_pay11 (acc m c t) (blk0 m c t) (blk1 m c t) (blk2 m c t)) (k0_pay14 (acc m c t) (blk0 m c t) (blk1 m c t) (blk2 m c t) (blk3 m c t) (blk4 m c t)) (ix2 0 b)
      = ∑ k : Fin 1024, Norm.share (D (X m c) (R m c) (W m c) (NW m c) (TGT m c)) (res (X m c) (R m c) (W m c)) b (t.val / 4 * 1024 + k.val) := by
  rw [pay_dnw, slots]
  refine Finset.sum_congr rfl fun k _ => ?_
  rw [whole m c t hl k, goals]
  rfl

/-- What a block's last point leaves in the two gradients at the rows. -/
theorem outs_dx (t : Fin cfg0.N) (hl : t.val % 4 = 3) (a b : Fin 1024) :
    (outsAt0 m c t.val t.isLt).2.1 (ix2 a b) = dx (X m c) (R m c) (W m c) (NW m c) (TGT m c) (t.val / 4 * 1024 + a.val) b := by
  by_cases h4 : 4 ≤ t.val
  · rw [outsAt0_D m c t (by omega) (by omega) hl (by omega) h4 (by omega) h4]
    dsimp only
    rw [lastD_dx]
    exact last_dx m c t hl a b
  · rw [outsAt0_C m c t (by omega) (by omega) hl (by omega) h4 (by omega) h4]
    dsimp only
    rw [lastC_dx]
    exact last_dx m c t hl a b
theorem outs_low (t : Fin cfg0.N) (hl : t.val % 4 = 3) (a b : Fin 1024) :
    (outsAt0 m c t.val t.isLt).2.2.1 (ix2 a b) = dx (X m c) (R m c) (W m c) (NW m c) (TGT m c) (t.val / 4 * 1024 + a.val) b := by
  by_cases h4 : 4 ≤ t.val
  · rw [outsAt0_D m c t (by omega) (by omega) hl (by omega) h4 (by omega) h4]
    dsimp only
    rw [lastD_low]
    refine (pay7 _ _ _ _ _ _).trans ?_
    exact last_dx m c t hl a b
  · rw [outsAt0_C m c t (by omega) (by omega) hl (by omega) h4 (by omega) h4]
    dsimp only
    rw [lastC_low]
    refine (pay7 _ _ _ _ _ _).trans ?_
    exact last_dx m c t hl a b

/-- What the running loss is once a block is done. -/
theorem outs_loss (b : Fin 1024) (n : ℕ) (h : n < cfg0.N) (hn : (n + 1) / 4 ≠ 0) :
    (outsAt0 m c n h).1 (ix2 0 b) = upTo (part (X m c) (R m c) (W m c) (NW m c) (TGT m c)) ((n + 1) / 4 * 1024) := by
  refine Norm.columns (fun n h => (outsAt0 m c n h).1 (ix2 0 b)) (part (X m c) (R m c) (W m c) (NW m c) (TGT m c)) (fun n => (n + 1) / 4) rfl
    (fun n => by omega) ?_ ?_ ?_ n h hn
  · intro n h e
    by_cases h0 : (n + 1) % 4 = 0
    · rw [outsAt0_A m c ⟨n + 1, h⟩ h0 (by show ¬(1 ≤ (n + 1) % 4 ∧ (n + 1) % 4 ≤ 2); omega) (by show ¬((n + 1) % 4 = 3); omega)]
      rfl
    · rw [outsAt0_B m c ⟨n + 1, h⟩ h0 (by show 1 ≤ (n + 1) % 4 ∧ (n + 1) % 4 ≤ 2; omega) (by show ¬((n + 1) % 4 = 3); omega)]
      rfl
  · intro n h e e'
    have hl : (⟨n + 1, h⟩ : Fin cfg0.N).val % 4 = 3 := by show (n + 1) % 4 = 3; omega
    have hs : (⟨n + 1, h⟩ : Fin cfg0.N).val < 4 := by show n + 1 < 4; omega
    rw [outsAt0_C m c ⟨n + 1, h⟩ (by omega) (by omega) hl hs (by omega) hs (by omega)]
    dsimp only
    rw [lastC_loss]
    exact last_loss m c ⟨n + 1, h⟩ hl b
  · intro n h e e'
    have hl : (⟨n + 1, h⟩ : Fin cfg0.N).val % 4 = 3 := by show (n + 1) % 4 = 3; omega
    have hs : 4 ≤ (⟨n + 1, h⟩ : Fin cfg0.N).val := by show 4 ≤ n + 1; omega
    rw [outsAt0_D m c ⟨n + 1, h⟩ (by omega) (by omega) hl (by omega) hs (by omega) hs]
    dsimp only
    rw [lastD_loss, pay6]
    exact congrArg (_ + ·) (last_loss m c ⟨n + 1, h⟩ hl b)

/-- What the running column sums are once a block is done. -/
theorem outs_dnw (b : Fin 1024) (n : ℕ) (h : n < cfg0.N) (hn : (n + 1) / 4 ≠ 0) :
    (outsAt0 m c n h).2.2.2.1 (ix2 0 b) = upTo (Norm.share (D (X m c) (R m c) (W m c) (NW m c) (TGT m c)) (res (X m c) (R m c) (W m c)) b) ((n + 1) / 4 * 1024) := by
  refine Norm.columns (fun n h => (outsAt0 m c n h).2.2.2.1 (ix2 0 b)) (Norm.share (D (X m c) (R m c) (W m c) (NW m c) (TGT m c)) (res (X m c) (R m c) (W m c)) b) (fun n => (n + 1) / 4) rfl
    (fun n => by omega) ?_ ?_ ?_ n h hn
  · intro n h e
    by_cases h0 : (n + 1) % 4 = 0
    · rw [outsAt0_A m c ⟨n + 1, h⟩ h0 (by show ¬(1 ≤ (n + 1) % 4 ∧ (n + 1) % 4 ≤ 2); omega) (by show ¬((n + 1) % 4 = 3); omega)]
      rfl
    · rw [outsAt0_B m c ⟨n + 1, h⟩ h0 (by show 1 ≤ (n + 1) % 4 ∧ (n + 1) % 4 ≤ 2; omega) (by show ¬((n + 1) % 4 = 3); omega)]
      rfl
  · intro n h e e'
    have hl : (⟨n + 1, h⟩ : Fin cfg0.N).val % 4 = 3 := by show (n + 1) % 4 = 3; omega
    have hs : (⟨n + 1, h⟩ : Fin cfg0.N).val < 4 := by show n + 1 < 4; omega
    rw [outsAt0_C m c ⟨n + 1, h⟩ (by omega) (by omega) hl hs (by omega) hs (by omega)]
    dsimp only
    rw [lastC_dnw]
    exact last_dnw m c ⟨n + 1, h⟩ hl b
  · intro n h e e'
    have hl : (⟨n + 1, h⟩ : Fin cfg0.N).val % 4 = 3 := by show (n + 1) % 4 = 3; omega
    have hs : 4 ≤ (⟨n + 1, h⟩ : Fin cfg0.N).val := by show 4 ≤ n + 1; omega
    rw [outsAt0_D m c ⟨n + 1, h⟩ (by omega) (by omega) hl (by omega) hs (by omega) hs]
    dsimp only
    rw [lastD_dnw, pay8]
    exact congrArg (_ + ·) (last_dnw m c ⟨n + 1, h⟩ hl b)

/-- The kernel's gradient at the residual stream, and the same in bf16. -/
theorem result_dx (t : Fin 4096) (j : Fin 1024) : (Value.G6 m c : FVec Ideal S4096x1024 .f32) (ix2 t j) = dx (X m c) (R m c) (W m c) (NW m c) (TGT m c) t j := by
  have hp : Value.pt6Of (ix2 t j) = 4 * (t.val / 1024) + 3 := by
    show 4 * (1 * (t.val / 1024 - 0) + 1 * (j.val / 1024 - 0)) + 3 = _
    omega
  have hu : Value.pt6Of (ix2 t j) < cfg0.N := by rw [hp, show cfg0.N = 16 from N_0]; omega
  unfold Value.G6
  rw [dif_pos hu, ← Value.outsAt0_sweep m c _ hu]
  have hl : Value.loc6Of (ix2 t j) = ix2 (⟨t.val % 1024, by omega⟩ : Fin 1024) j := by
    funext x
    apply Fin.ext
    match x with
    | ⟨0, _⟩ => rfl
    | ⟨1, _⟩ => show j.val % 1024 = j.val; omega
  rw [hl]
  refine (outs_dx m c ⟨Value.pt6Of (ix2 t j), hu⟩ (by show Value.pt6Of (ix2 t j) % 4 = 3; omega) _ _).trans ?_
  show dx _ _ _ _ _ (Value.pt6Of (ix2 t j) / 4 * 1024 + t.val % 1024) j = _
  rw [show Value.pt6Of (ix2 t j) / 4 * 1024 + t.val % 1024 = t.val by omega]
theorem result_low (t : Fin 4096) (j : Fin 1024) : (Value.G7 m c : FVec Ideal S4096x1024 .bf16) (ix2 t j) = dx (X m c) (R m c) (W m c) (NW m c) (TGT m c) t j := by
  have hp : Value.pt7Of (ix2 t j) = 4 * (t.val / 1024) + 3 := by
    show 4 * (1 * (t.val / 1024 - 0) + 1 * (j.val / 1024 - 0)) + 3 = _
    omega
  have hu : Value.pt7Of (ix2 t j) < cfg0.N := by rw [hp, show cfg0.N = 16 from N_0]; omega
  unfold Value.G7
  rw [dif_pos hu, ← Value.outsAt0_sweep m c _ hu]
  have hl : Value.loc7Of (ix2 t j) = ix2 (⟨t.val % 1024, by omega⟩ : Fin 1024) j := by
    funext x
    apply Fin.ext
    match x with
    | ⟨0, _⟩ => rfl
    | ⟨1, _⟩ => show j.val % 1024 = j.val; omega
  rw [hl]
  refine (outs_low m c ⟨Value.pt7Of (ix2 t j), hu⟩ (by show Value.pt7Of (ix2 t j) % 4 = 3; omega) _ _).trans ?_
  show dx _ _ _ _ _ (Value.pt7Of (ix2 t j) / 4 * 1024 + t.val % 1024) j = _
  rw [show Value.pt7Of (ix2 t j) / 4 * 1024 + t.val % 1024 = t.val by omega]

/-- The kernel's loss, and its gradient at the norm's weight. -/
theorem result_loss (j : Fin 1024) : (Value.G5 m c : FVec Ideal S1x1024 .f32) (ix2 0 j) = loss (X m c) (R m c) (W m c) (NW m c) (TGT m c) := by
  have hp : Value.pt5Of (ix2 0 j) = 15 := by
    show 16 * (1 * (0 / 1 - 0) + 1 * (j.val / 1024 - 0)) + 15 = _
    omega
  have hu : Value.pt5Of (ix2 0 j) < cfg0.N := by rw [hp, show cfg0.N = 16 from N_0]; omega
  unfold Value.G5
  rw [dif_pos hu, ← Value.outsAt0_sweep m c _ hu]
  have hl : Value.loc5Of (ix2 0 j) = ix2 0 j := by
    funext x
    apply Fin.ext
    match x with
    | ⟨0, _⟩ => rfl
    | ⟨1, _⟩ => show j.val % 1024 = j.val; omega
  rw [hl]
  refine (outs_loss m c j _ hu (by omega)).trans ?_
  rw [show (Value.pt5Of (ix2 0 j) + 1) / 4 * 1024 = 4096 by omega]
  rfl
theorem result_dnw (j : Fin 1024) : (Value.G8 m c : FVec Ideal S1x1024 .f32) (ix2 0 j) = dnw (X m c) (R m c) (W m c) (NW m c) (TGT m c) j := by
  have hp : Value.pt8Of (ix2 0 j) = 15 := by
    show 16 * (1 * (0 / 1 - 0) + 1 * (j.val / 1024 - 0)) + 15 = _
    omega
  have hu : Value.pt8Of (ix2 0 j) < cfg0.N := by rw [hp, show cfg0.N = 16 from N_0]; omega
  unfold Value.G8
  rw [dif_pos hu, ← Value.outsAt0_sweep m c _ hu]
  have hl : Value.loc8Of (ix2 0 j) = ix2 0 j := by
    funext x
    apply Fin.ext
    match x with
    | ⟨0, _⟩ => rfl
    | ⟨1, _⟩ => show j.val % 1024 = j.val; omega
  rw [hl]
  refine (outs_dnw m c j _ hu (by omega)).trans ?_
  rw [show (Value.pt8Of (ix2 0 j) + 1) / 4 * 1024 = 4096 by omega]
  rfl

end Run

end Cert.HeadIdeal.Body

namespace Cert.Proof

open Idealize.ShloMosaic Idealize.SL.Sem Cert.HeadIdeal.Body Cert.Sums
open Cert.HeadReferenceIdeal.Read

theorem head_defs_eq : Cert.HeadIdeal.defs₀ (F := Bits) = Cert.Head.defs₀ (F := Bits) := by
  unfold Cert.Head.defs₀ Cert.HeadIdeal.defs₀
  congr 1
  funext l a
  match l, a with
  | 0, (t, s) => rfl

theorem frame_head : Cert.quiescent_Head := fun m g _ => by
  have h := Cert.HeadIdeal.Gen.frame (F := Bits) m g
  unfold Cert.HeadIdeal.defs at h
  rw [head_defs_eq] at h
  exact h

theorem frame_head_reference : Cert.quiescent_HeadReferenceIdeal := fun m g _ => by
  refine (θ_run Cert.HeadReferenceIdeal.defs _ _).mono (fun r h => ?_) (Cert.HeadReferenceIdeal.Value.run (F := Ideal) m g)
  exact ⟨fun c => (h c).2.2.2.2, sem_eq_zero_of_no_sems (by decide) _⟩

section
variable (x : FVec Ideal Cert.HeadReferenceIdeal.S4096x1024 .f32) (r : FVec Ideal Cert.HeadReferenceIdeal.S4096x4096 .bf16)
    (w : FVec Ideal Cert.HeadReferenceIdeal.S4096x1024 .f32) (nw : FVec Ideal Cert.HeadReferenceIdeal.S1x1024 .f32)
    (tgt : FVec Ideal Cert.HeadReferenceIdeal.S4096x1024 .f32) (t : Fin 4096) (j : Fin 1024)

theorem head_res : val_main_v3 (F := Ideal) x r w (ix2 t j) = res x r w t j := by
  rw [res, upTo_first, nat2_fin]
  pointwise [val_main_v3, val_main_v2, val_main_v1, val_main_v0]
  congr 1
  refine Finset.sum_congr rfl fun k _ => ?_
  unfold term
  rw [nat2_fin, nat2_fin]

theorem head_msq (q : Fin 1) : val_main_v10 (F := Ideal) x r w (ix2 t q) = Norm.msq (res x r w t) := by
  pointwise [val_main_v10, val_main_v9, val_main_v8, val_main_v7, val_main_v6, val_main_v5, val_main_v4, val_main_cst, val_main_cst_0, val_main_cst_1]
  simp only [head_res]
  rfl

theorem head_scale (q : Fin 1) : val_main_v11 (F := Ideal) x r w (ix2 t q) = Norm.scale (res x r w t) := by
  pointwise [val_main_v11]
  rw [head_msq]
  rfl

theorem head_hat : val_main_v16 (F := Ideal) x r w (ix2 t j) = res x r w t j * Norm.scale (res x r w t) := by
  pointwise [val_main_v16, val_main_v15]
  rw [head_res, head_scale]

theorem head_off : val_main_v19 (F := Ideal) x r w nw tgt (ix2 t j) = off (res x r w t) (wt nw j) (aim tgt t j) j := by
  pointwise [val_main_v19, val_main_v18, val_main_v17]
  rw [head_hat, aim, nat2_fin]
  rfl

theorem head_D : val_main_v33 (F := Ideal) x r w nw tgt (ix2 t j) = D x r w nw tgt t j := by
  pointwise [val_main_v33, val_main_v32, val_main_v31, val_main_v30, val_main_v29, val_main_v28, val_main_v22, val_main_v21, val_main_cst_3, val_main_cst_8, val_main_cst_9, val_main_cst_10]
  rw [head_off, slope]
  rfl

theorem head_loss : val_main_v53 (F := Ideal) x r w nw tgt (ix2 0 j) = loss x r w nw tgt := by
  pointwise [val_main_v53, val_main_v27, val_main_v26, val_main_v25, val_main_v24, val_main_v23, val_main_v20, val_main_cst_4, val_main_cst_5, val_main_cst_6, val_main_cst_7]
  simp only [head_off]
  rw [loss, upTo_first]
  unfold part
  rw [lit_plus_half, Norm.sum_mul_pos _ _ (by norm_num), mul_comm]
  rfl

theorem head_dx : val_main_v52 (F := Ideal) x r w nw tgt (ix2 t j) = dx x r w nw tgt t j := by
  rw [dx, Norm.grad_eq, Norm.vjp, zero_add]
  pointwise [val_main_v52, val_main_v51, val_main_v50, val_main_v49, val_main_v48, val_main_v47, val_main_v46, val_main_v45, val_main_v44, val_main_v43, val_main_v42, val_main_v41, val_main_v40, val_main_v39, val_main_v38, val_main_v37, val_main_v14, val_main_v13, val_main_v12, val_main_cst_2, val_main_cst_12, val_main_cst_13, val_main_cst_14]
  simp only [head_D, head_res, head_scale, head_msq]
  rfl

theorem head_low : val_main_v54 (F := Ideal) x r w nw tgt (ix2 t j) = dx x r w nw tgt t j := by
  rw [← head_dx]
  pointwise [val_main_v54]

theorem head_dnw : val_main_v36 (F := Ideal) x r w nw tgt (ix2 0 j) = dnw x r w nw tgt j := by
  rw [dnw, upTo_first]
  pointwise [val_main_v36, val_main_v35, val_main_v34, val_main_cst_11]
  refine Finset.sum_congr rfl fun k _ => ?_
  rw [head_D, head_hat, mul_comm]
  rfl

end

theorem agree_head : Cert.algebraic_HeadIdeal_HeadReferenceIdeal := by
  intro m g m' g' _ hargs
  refine ⟨fun (c : Dev Cert.HeadIdeal.nD) (_ : (⟨2, ![1, 1024]⟩ : Shape).Idx) => loss (X m c) (R m c) (W m c) (NW m c) (TGT m c),
    fun (c : Dev Cert.HeadIdeal.nD) (i : (⟨2, ![4096, 1024]⟩ : Shape).Idx) => dx (X m c) (R m c) (W m c) (NW m c) (TGT m c) (i 0).val (i 1),
    fun (c : Dev Cert.HeadIdeal.nD) (i : (⟨2, ![4096, 1024]⟩ : Shape).Idx) => dx (X m c) (R m c) (W m c) (NW m c) (TGT m c) (i 0).val (i 1),
    fun (c : Dev Cert.HeadIdeal.nD) (i : (⟨2, ![1, 1024]⟩ : Shape).Idx) => dnw (X m c) (R m c) (W m c) (NW m c) (TGT m c) (i 1), ?_, ?_⟩
  · refine (θ_run Cert.HeadIdeal.defs _ _).mono (fun r h c => ⟨?_, ?_, ?_, ?_, (h c).2.2.2.2⟩) (Cert.HeadIdeal.Value.run (F := Ideal) m g)
    · rw [(h c).1]
      funext i
      obtain ⟨t, j, rfl⟩ : ∃ (t : Fin 1) (j : Fin 1024), i = ix2 t j := ⟨i 0, i 1, eq_ix2 i⟩
      obtain rfl : t = 0 := Subsingleton.elim _ _
      exact result_loss m c j
    · rw [(h c).2.1]
      funext i
      obtain ⟨t, j, rfl⟩ : ∃ (t : Fin 4096) (j : Fin 1024), i = ix2 t j := ⟨i 0, i 1, eq_ix2 i⟩
      exact result_dx m c t j
    · rw [(h c).2.2.1]
      funext i
      obtain ⟨t, j, rfl⟩ : ∃ (t : Fin 4096) (j : Fin 1024), i = ix2 t j := ⟨i 0, i 1, eq_ix2 i⟩
      exact result_low m c t j
    · rw [(h c).2.2.2.1]
      funext i
      obtain ⟨t, j, rfl⟩ : ∃ (t : Fin 1) (j : Fin 1024), i = ix2 t j := ⟨i 0, i 1, eq_ix2 i⟩
      obtain rfl : t = 0 := Subsingleton.elim _ _
      exact result_dnw m c j
  · refine (θ_run Cert.HeadReferenceIdeal.defs _ _).mono (fun r h c => ⟨?_, ?_, ?_, ?_, (h c).2.2.2.2⟩) (Cert.HeadReferenceIdeal.Value.run (F := Ideal) m' g')
    · rw [(h c).1]
      funext i
      obtain ⟨t, j, rfl⟩ : ∃ (t : Fin 1) (j : Fin 1024), i = ix2 t j := ⟨i 0, i 1, eq_ix2 i⟩
      obtain rfl : t = 0 := Subsingleton.elim _ _
      refine (congrFun (val_main_v53_eq _ _ _ _ _) _).trans ?_
      rw [(hargs c).1, (hargs c).2.1, (hargs c).2.2.1, (hargs c).2.2.2.1, (hargs c).2.2.2.2]
      exact head_loss _ _ _ _ _ j
    · rw [(h c).2.1]
      funext i
      obtain ⟨t, j, rfl⟩ : ∃ (t : Fin 4096) (j : Fin 1024), i = ix2 t j := ⟨i 0, i 1, eq_ix2 i⟩
      refine (congrFun (val_main_v52_eq _ _) _).trans ?_
      rw [(hargs c).1, (hargs c).2.1, (hargs c).2.2.1, (hargs c).2.2.2.1, (hargs c).2.2.2.2]
      exact head_dx _ _ _ _ _ t j
    · rw [(h c).2.2.1]
      funext i
      obtain ⟨t, j, rfl⟩ : ∃ (t : Fin 4096) (j : Fin 1024), i = ix2 t j := ⟨i 0, i 1, eq_ix2 i⟩
      refine (congrFun (val_main_v54_eq _ _) _).trans ?_
      rw [(hargs c).1, (hargs c).2.1, (hargs c).2.2.1, (hargs c).2.2.2.1, (hargs c).2.2.2.2]
      exact head_low _ _ _ _ _ t j
    · rw [(h c).2.2.2.1]
      funext i
      obtain ⟨t, j, rfl⟩ : ∃ (t : Fin 1) (j : Fin 1024), i = ix2 t j := ⟨i 0, i 1, eq_ix2 i⟩
      obtain rfl : t = 0 := Subsingleton.elim _ _
      refine (congrFun (val_main_v36_eq _ _ _ _ _) _).trans ?_
      rw [(hargs c).1, (hargs c).2.1, (hargs c).2.2.1, (hargs c).2.2.2.1, (hargs c).2.2.2.2]
      exact head_dnw _ _ _ _ _ j

end Cert.Proof

end
-- ==== Proof.Adam.lean ====
/- One AdamW step at one weight, over the extended reals. -/
module

public import Idealize.ShloMosaic.PureOps.Ideal

@[expose] public section

noncomputable section

namespace Cert.Adam

open Idealize.ShloMosaic

/-- The two moving averages after the step: of the gradient and of its square. -/
def mean (g m : EReal) : EReal := Ideal.ofBits .f32 0x3F666666#32 * m + Ideal.ofBits .f32 0x3DCCCCCD#32 * g
def power (g v : EReal) : EReal := Ideal.ofBits .f32 0x3F7FBE77#32 * v + Ideal.ofBits .f32 0x3A83126F#32 * (g * g)

/-- What the step adds to the weight, from the two averages after it. -/
def move (w m v : EReal) : EReal :=
  Ideal.ofBits .f32 0xBA83126F#32
    * (Ideal.div (Ideal.div m (Ideal.ofBits .f32 0x3F26BD02#32)) (Ideal.sqrt (Ideal.div v (Ideal.ofBits .f32 0x3C231ACC#32)) + Ideal.ofBits .f32 0x322BCC77#32)
      + Ideal.ofBits .f32 0x3C23D70A#32 * w)

end Cert.Adam

end
-- ==== Proof.AdamInValue.lean ====
/- The optimiser's step on the even input projection's weights: the frames, and the kernel's results beside the reference's. -/
module

public import proofs.«01_k».proof.Defs
public import proofs.«01_k».proof.Proof.Adam
public import proofs.«01_k».proof.Proof.Gen.AdamIn
public import proofs.«01_k».proof.Proof.Gen.AdamInIdeal.Value
public import proofs.«01_k».proof.Proof.Gen.AdamInReferenceIdeal
public import proofs.«01_k».proof.Proof.Gen.AdamInReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.AdamInIdeal.Body

open Cert.AdamInIdeal Cert.AdamInIdeal.Gen Idealize.ShloMosaic Idealize.ShloMosaic.TcCoe Idealize.SL.Sem Cert.Adam

section Pays
variable (g : FVec Ideal S512x384 .f32) (w x : FVec Ideal S1x512x384 .f32) (a : Fin 512) (j : Fin 384)

theorem pay_sum (s : FVec Ideal S8x512x384 .bf16) (q : FVec Ideal S1x512x384 .f32) :
    k0_pay11 (F := Ideal) q s w x (ix2 a j) = ∑ d : Fin 8, s (ix3 d a j) := by
  rw [Fin.sum_univ_eight]
  unfold k0_pay11
  pointwise [k0_pay2]
theorem pay_grad : k0_pay5 (F := Ideal) g (ix3 0 a j) = g (ix2 a j) := by
  pointwise [k0_pay5]
theorem pay_mean : k0_pay6 (F := Ideal) g x (ix3 0 a j) = mean (g (ix2 a j)) (x (ix3 0 a j)) := by
  pointwise [k0_pay6, k0_pay3]
  rfl
theorem pay_power : k0_pay7 (F := Ideal) g x (ix3 0 a j) = power (g (ix2 a j)) (x (ix3 0 a j)) := by
  pointwise [k0_pay7, k0_pay4]
  rfl
theorem pay_move (v : FVec Ideal S1x512x384 .f32) : k0_pay1 (F := Ideal) (k0_pay8 (F := Ideal) g x v) (k0_pay9 (F := Ideal) w) (k0_pay10 (F := Ideal)) (ix3 0 a j)
      = move (w (ix3 0 a j)) (mean (g (ix2 a j)) (x (ix3 0 a j))) (power (g (ix2 a j)) (v (ix3 0 a j))) := by
  pointwise [k0_pay1, k0_pay8, k0_pay9, k0_pay10, k0_pay3, k0_pay4]
  rfl

end Pays

section Run
variable (m : (ℓ : Loc nD τ sig) → Buf (Elt Ideal) ℓ) (c : Dev nD)

/-- The weights, what the eight devices sent, and the two averages before the step. -/
def W : FVec Ideal S1x1024x384 .f32 := m ((c : Thread nD τ).loc main_arg0)
def G : FVec Ideal S8x1024x384 .bf16 := m ((c : Thread nD τ).loc main_arg1)
def M : FVec Ideal S1x1024x384 .f32 := m ((c : Thread nD τ).loc main_arg2)
def Q : FVec Ideal S1x1024x384 .f32 := m ((c : Thread nD τ).loc main_arg3)

theorem ix0 : ∀ t : Fin grid0.N, win0_0.index t = ![0, t.val, 0] := by decide +kernel
theorem ix1 : ∀ t : Fin grid0.N, win0_1.index t = ![0, t.val, 0] := by decide +kernel
theorem ix2' : ∀ t : Fin grid0.N, win0_2.index t = ![0, t.val, 0] := by decide +kernel
theorem ix3' : ∀ t : Fin grid0.N, win0_3.index t = ![0, t.val, 0] := by decide +kernel
theorem ix4' : ∀ t : Fin grid0.N, win0_4.index t = ![0, t.val, 0] := by decide +kernel

/-- The row of the array a row of a block is. -/
abbrev row (t : Fin cfg0.N) (a : Fin 512) : Fin 1024 := ⟨t.val * 512 + a.val, by have := lt_of_lt_of_eq t.isLt N_0; omega⟩

/-- The blocks a point reads. -/
abbrev blk0 (t : Fin cfg0.N) : FVec Ideal S1x512x384 .f32 := iblk m c 0 t
abbrev blk1 (t : Fin cfg0.N) : FVec Ideal S8x512x384 .bf16 := iblk m c 1 t
abbrev blk2 (t : Fin cfg0.N) : FVec Ideal S1x512x384 .f32 := iblk m c 2 t
abbrev blk3 (t : Fin cfg0.N) : FVec Ideal S1x512x384 .f32 := iblk m c 3 t

theorem read0 (t : Fin cfg0.N) (a : Fin 512) (j : Fin 384) : blk0 m c t (ix3 0 a j) = W m c (ix3 0 (row t a) j) := by
  unfold blk0 iblk
  rw [View.read_apply]
  show W m c _ = _
  congr 1
  funext x
  apply Fin.ext
  match x with
  | ⟨0, _⟩ => show win0_0.index t 0 * 1 + 1 * 0 = 0; rw [congrFun (ix0 t) 0]; rfl
  | ⟨1, _⟩ => show win0_0.index t 1 * 512 + 1 * a.val = t.val * 512 + a.val; rw [congrFun (ix0 t) 1]; show t.val * 512 + 1 * a.val = _; omega
  | ⟨2, _⟩ => show win0_0.index t 2 * 384 + 1 * j.val = j.val; rw [congrFun (ix0 t) 2]; show 0 * 384 + 1 * j.val = _; omega

theorem read1 (t : Fin cfg0.N) (d : Fin 8) (a : Fin 512) (j : Fin 384) : blk1 m c t (ix3 d a j) = G m c (ix3 d (row t a) j) := by
  unfold blk1 iblk
  rw [View.read_apply]
  show G m c _ = _
  congr 1
  funext x
  apply Fin.ext
  match x with
  | ⟨0, _⟩ => show win0_1.index t 0 * 8 + 1 * d.val = d.val; rw [congrFun (ix1 t) 0]; show 0 * 8 + 1 * d.val = _; omega
  | ⟨1, _⟩ => show win0_1.index t 1 * 512 + 1 * a.val = t.val * 512 + a.val; rw [congrFun (ix1 t) 1]; show t.val * 512 + 1 * a.val = _; omega
  | ⟨2, _⟩ => show win0_1.index t 2 * 384 + 1 * j.val = j.val; rw [congrFun (ix1 t) 2]; show 0 * 384 + 1 * j.val = _; omega

theorem read2 (t : Fin cfg0.N) (a : Fin 512) (j : Fin 384) : blk2 m c t (ix3 0 a j) = M m c (ix3 0 (row t a) j) := by
  unfold blk2 iblk
  rw [View.read_apply]
  show M m c _ = _
  congr 1
  funext x
  apply Fin.ext
  match x with
  | ⟨0, _⟩ => show win0_2.index t 0 * 1 + 1 * 0 = 0; rw [congrFun (ix2' t) 0]; rfl
  | ⟨1, _⟩ => show win0_2.index t 1 * 512 + 1 * a.val = t.val * 512 + a.val; rw [congrFun (ix2' t) 1]; show t.val * 512 + 1 * a.val = _; omega
  | ⟨2, _⟩ => show win0_2.index t 2 * 384 + 1 * j.val = j.val; rw [congrFun (ix2' t) 2]; show 0 * 384 + 1 * j.val = _; omega

theorem read3 (t : Fin cfg0.N) (a : Fin 512) (j : Fin 384) : blk3 m c t (ix3 0 a j) = Q m c (ix3 0 (row t a) j) := by
  unfold blk3 iblk
  rw [View.read_apply]
  show Q m c _ = _
  congr 1
  funext x
  apply Fin.ext
  match x with
  | ⟨0, _⟩ => show win0_3.index t 0 * 1 + 1 * 0 = 0; rw [congrFun (ix3' t) 0]; rfl
  | ⟨1, _⟩ => show win0_3.index t 1 * 512 + 1 * a.val = t.val * 512 + a.val; rw [congrFun (ix3' t) 1]; show t.val * 512 + 1 * a.val = _; omega
  | ⟨2, _⟩ => show win0_3.index t 2 * 384 + 1 * j.val = j.val; rw [congrFun (ix3' t) 2]; show 0 * 384 + 1 * j.val = _; omega

end Run

/-- The four results at an index, from the four arguments. -/
def grad (G : FVec Ideal S8x1024x384 .bf16) (a : Fin 1024) (j : Fin 384) : EReal := ∑ d : Fin 8, G (ix3 d a j)
def newM (G : FVec Ideal S8x1024x384 .bf16) (M : FVec Ideal S1x1024x384 .f32) (a : Fin 1024) (j : Fin 384) : EReal := mean (grad G a j) (M (ix3 0 a j))
def newQ (G : FVec Ideal S8x1024x384 .bf16) (Q : FVec Ideal S1x1024x384 .f32) (a : Fin 1024) (j : Fin 384) : EReal := power (grad G a j) (Q (ix3 0 a j))
def delta (W : FVec Ideal S1x1024x384 .f32) (G : FVec Ideal S8x1024x384 .bf16) (M Q : FVec Ideal S1x1024x384 .f32) (a : Fin 1024) (j : Fin 384) : EReal :=
  move (W (ix3 0 a j)) (newM G M a j) (newQ G Q a j)

section Outs
variable (m : (ℓ : Loc nD τ sig) → Buf (Elt Ideal) ℓ) (c : Dev nD) (t : Fin cfg0.N) (a : Fin 512) (j : Fin 384)

theorem sum_at : k0_pay11 (F := Ideal) (blk0 m c t) (blk1 m c t) (blk2 m c t) (blk3 m c t) (ix2 a j) = grad (G m c) (row t a) j := by
  rw [pay_sum]
  exact Finset.sum_congr rfl fun d _ => read1 m c t d a j

theorem out4 : out0_4 (F := Ideal) (blk0 m c t) (blk1 m c t) (blk2 m c t) (blk3 m c t) (ix3 0 a j) = grad (G m c) (row t a) j := by
  unfold out0_4
  rw [View.canon_cons_unit_lit _ _ _ (by decide), pay_grad, sum_at]

theorem out5 : out0_5 (F := Ideal) (blk0 m c t) (blk1 m c t) (blk2 m c t) (blk3 m c t) (ix3 0 a j) = delta (W m c) (G m c) (M m c) (Q m c) (row t a) j := by
  unfold out0_5
  rw [View.canon_cons_unit_lit _ _ _ (by decide), View.ld_unit_lit _ _ (by decide), View.ld_unit_lit _ _ (by decide), View.ld_unit_lit _ _ (by decide),
    pay_move, sum_at, read0, read2, read3]
  rfl

theorem out6 : out0_6 (F := Ideal) (blk0 m c t) (blk1 m c t) (blk2 m c t) (blk3 m c t) (ix3 0 a j) = newM (G m c) (M m c) (row t a) j := by
  unfold out0_6
  rw [View.canon_cons_unit_lit _ _ _ (by decide), View.ld_unit_lit _ _ (by decide), pay_mean, sum_at, read2]
  rfl

theorem out7 : out0_7 (F := Ideal) (blk0 m c t) (blk1 m c t) (blk2 m c t) (blk3 m c t) (ix3 0 a j) = newQ (G m c) (Q m c) (row t a) j := by
  unfold out0_7
  rw [View.canon_cons_unit_lit _ _ _ (by decide), View.ld_unit_lit _ _ (by decide), pay_power, sum_at, read3]
  rfl

end Outs

section Results
variable (m : (ℓ : Loc nD τ sig) → Buf (Elt Ideal) ℓ) (c : Dev nD) (a : Fin 1024) (j : Fin 384)

/-- The point that writes a row, and the row in its block. -/
abbrev pt : Fin cfg0.N := ⟨a.val / 512, by rw [show cfg0.N = 2 from N_0]; omega⟩
abbrev loc : Fin 512 := ⟨a.val % 512, by omega⟩

theorem row_pt : row (pt a) (loc a) = a := Fin.ext (by show a.val / 512 * 512 + a.val % 512 = a.val; omega)

theorem emb (i : S1x1024x384.Idx) (h0 : (i 0).val = 0) (h1 : (i 1).val = win0_4.index (pt a) 1 * 512 + 1 * (a.val % 512)) (h2 : (i 2).val = j.val) : i = ix3 0 a j := by
  funext x
  apply Fin.ext
  match x with
  | ⟨0, _⟩ => exact h0
  | ⟨1, _⟩ =>
    refine h1.trans ?_
    rw [congrFun (ix4' (pt a)) 1]
    show a.val / 512 * 512 + 1 * (a.val % 512) = a.val
    omega
  | ⟨2, _⟩ => exact h2

theorem at4 : ((cfg0.win 4).blk (pt a)).view.emb (ix3 0 (loc a) j) = (ix3 0 a j : S1x1024x384.Idx) :=
  emb a j _ (by show win0_4.index (pt a) 0 * 1 + 1 * 0 = 0; rw [congrFun (ix4' (pt a)) 0]; rfl) rfl
    (by show win0_4.index (pt a) 2 * 384 + 1 * j.val = j.val; rw [congrFun (ix4' (pt a)) 2]; show 0 * 384 + 1 * j.val = j.val; omega)

theorem result4 : ((dats m 0 c).arrAt 4 cfg0.N : FVec Ideal S1x1024x384 .f32) (ix3 0 a j) = grad (G m c) a j := by
  have h := congrFun ((Value.blocks4 m c (pt a) (flush0_4 _)).trans (Value.flushed4 m c (pt a))) (ix3 0 (loc a) j)
  rw [View.read_apply, at4] at h
  exact h.trans ((out4 m c (pt a) (loc a) j).trans (by rw [row_pt]))

theorem result5 : ((dats m 0 c).arrAt 5 cfg0.N : FVec Ideal S1x1024x384 .f32) (ix3 0 a j) = delta (W m c) (G m c) (M m c) (Q m c) a j := by
  have h := congrFun ((Value.blocks5 m c (pt a) (flush0_5 _)).trans (Value.flushed5 m c (pt a))) (ix3 0 (loc a) j)
  rw [View.read_apply, show ((cfg0.win 5).blk (pt a)).view.emb (ix3 0 (loc a) j) = (ix3 0 a j : S1x1024x384.Idx) from at4 a j] at h
  exact h.trans ((out5 m c (pt a) (loc a) j).trans (by rw [row_pt]))

theorem result6 : ((dats m 0 c).arrAt 6 cfg0.N : FVec Ideal S1x1024x384 .f32) (ix3 0 a j) = newM (G m c) (M m c) a j := by
  have h := congrFun ((Value.blocks6 m c (pt a) (flush0_6 _)).trans (Value.flushed6 m c (pt a))) (ix3 0 (loc a) j)
  rw [View.read_apply, show ((cfg0.win 6).blk (pt a)).view.emb (ix3 0 (loc a) j) = (ix3 0 a j : S1x1024x384.Idx) from at4 a j] at h
  exact h.trans ((out6 m c (pt a) (loc a) j).trans (by rw [row_pt]))

theorem result7 : ((dats m 0 c).arrAt 7 cfg0.N : FVec Ideal S1x1024x384 .f32) (ix3 0 a j) = newQ (G m c) (Q m c) a j := by
  have h := congrFun ((Value.blocks7 m c (pt a) (flush0_7 _)).trans (Value.flushed7 m c (pt a))) (ix3 0 (loc a) j)
  rw [View.read_apply, show ((cfg0.win 7).blk (pt a)).view.emb (ix3 0 (loc a) j) = (ix3 0 a j : S1x1024x384.Idx) from at4 a j] at h
  exact h.trans ((out7 m c (pt a) (loc a) j).trans (by rw [row_pt]))

end Results

end Cert.AdamInIdeal.Body

namespace Cert.Proof

open Idealize.ShloMosaic Idealize.SL.Sem Cert.AdamInIdeal.Body Cert.Adam
open Cert.AdamInReferenceIdeal.Read

theorem adamin_defs_eq : Cert.AdamInIdeal.defs₀ (F := Bits) = Cert.AdamIn.defs₀ (F := Bits) := by
  unfold Cert.AdamIn.defs₀ Cert.AdamInIdeal.defs₀
  congr 1
  funext l a
  match l, a with
  | 0, (t, s) => rfl

theorem frame_adamin : Cert.quiescent_AdamIn := fun m g _ => by
  have h := Cert.AdamInIdeal.Gen.frame (F := Bits) m g
  unfold Cert.AdamInIdeal.defs at h
  rw [adamin_defs_eq] at h
  exact h

theorem frame_adamin_reference : Cert.quiescent_AdamInReferenceIdeal := fun m g _ => by
  refine (θ_run Cert.AdamInReferenceIdeal.defs _ _).mono (fun r h => ?_) (Cert.AdamInReferenceIdeal.Value.run (F := Ideal) m g)
  exact ⟨fun c => (h c).2.2.2.2, sem_eq_zero_of_no_sems (by decide) _⟩

section
variable (w : FVec Ideal Cert.AdamInReferenceIdeal.S1x1024x384 .f32) (gs : FVec Ideal Cert.AdamInReferenceIdeal.S8x1024x384 .bf16)
    (mo v : FVec Ideal Cert.AdamInReferenceIdeal.S1x1024x384 .f32) (a : Fin 1024) (j : Fin 384)

theorem adamin_grad : val_main_v2 (F := Ideal) gs (ix3 0 a j) = grad gs a j := by
  pointwise [val_main_v2, val_main_v1, val_main_v0, val_main_cst]
  rfl

theorem adamin_mean : val_main_v7 (F := Ideal) gs mo (ix3 0 a j) = newM gs mo a j := by
  pointwise [val_main_v7, val_main_v6, val_main_v5, val_main_v4, val_main_v3, val_main_cst_0, val_main_cst_1]
  rw [adamin_grad]
  rfl

theorem adamin_power : val_main_v13 (F := Ideal) gs v (ix3 0 a j) = newQ gs v a j := by
  pointwise [val_main_v13, val_main_v12, val_main_v11, val_main_v10, val_main_v9, val_main_v8, val_main_cst_2, val_main_cst_3]
  rw [adamin_grad]
  rfl

theorem adamin_move : val_main_v26 (F := Ideal) w gs mo v (ix3 0 a j) = delta w gs mo v a j := by
  pointwise [val_main_v26, val_main_v25, val_main_v24, val_main_v23, val_main_v22, val_main_v21, val_main_v20, val_main_v19, val_main_v18, val_main_v17, val_main_v16, val_main_v15, val_main_v14,
    val_main_cst_4, val_main_cst_5, val_main_cst_6, val_main_cst_7, val_main_cst_8]
  rw [adamin_mean, adamin_power]
  rfl

end

/-- Two arrays of one matrix agree if they do at every row and column. -/
theorem adamin_ext {f h : (⟨3, ![1, 1024, 384]⟩ : Shape).Idx → EReal} (e : ∀ (a : Fin 1024) (j : Fin 384), f (ix3 0 a j) = h (ix3 0 a j)) : f = h := by
  funext i
  obtain ⟨q, a, j, rfl⟩ : ∃ (q : Fin 1) (a : Fin 1024) (j : Fin 384), i = ix3 q a j := ⟨i 0, i 1, i 2, eq_ix3 i⟩
  obtain rfl : q = 0 := Subsingleton.elim _ _
  exact e a j

theorem agree_adamin : Cert.algebraic_AdamInIdeal_AdamInReferenceIdeal := by
  intro m g m' g' _ hargs
  refine ⟨fun (c : Dev Cert.AdamInIdeal.nD) (i : (⟨3, ![1, 1024, 384]⟩ : Shape).Idx) => grad (G m c) (i 1) (i 2),
    fun (c : Dev Cert.AdamInIdeal.nD) (i : (⟨3, ![1, 1024, 384]⟩ : Shape).Idx) => delta (W m c) (G m c) (M m c) (Q m c) (i 1) (i 2),
    fun (c : Dev Cert.AdamInIdeal.nD) (i : (⟨3, ![1, 1024, 384]⟩ : Shape).Idx) => newM (G m c) (M m c) (i 1) (i 2),
    fun (c : Dev Cert.AdamInIdeal.nD) (i : (⟨3, ![1, 1024, 384]⟩ : Shape).Idx) => newQ (G m c) (Q m c) (i 1) (i 2), ?_, ?_⟩
  · refine (θ_run Cert.AdamInIdeal.defs _ _).mono (fun r h c => ⟨?_, ?_, ?_, ?_, (h c).2.2.2.2⟩) (Cert.AdamInIdeal.Value.run_blocks (F := Ideal) m g)
    · rw [(h c).1]
      exact adamin_ext fun a j => result4 m c a j
    · rw [(h c).2.1]
      exact adamin_ext fun a j => result5 m c a j
    · rw [(h c).2.2.1]
      exact adamin_ext fun a j => result6 m c a j
    · rw [(h c).2.2.2.1]
      exact adamin_ext fun a j => result7 m c a j
  · refine (θ_run Cert.AdamInReferenceIdeal.defs _ _).mono (fun r h c => ⟨?_, ?_, ?_, ?_, (h c).2.2.2.2⟩) (Cert.AdamInReferenceIdeal.Value.run (F := Ideal) m' g')
    · rw [(h c).1, val_main_v2_eq, (hargs c).2.1]
      exact adamin_ext fun a j => adamin_grad _ a j
    · rw [(h c).2.1, val_main_v26_eq, (hargs c).1, (hargs c).2.1, (hargs c).2.2.1, (hargs c).2.2.2]
      exact adamin_ext fun a j => adamin_move _ _ _ _ a j
    · rw [(h c).2.2.1, val_main_v7_eq, (hargs c).2.1, (hargs c).2.2.1]
      exact adamin_ext fun a j => adamin_mean _ _ a j
    · rw [(h c).2.2.2.1, val_main_v13_eq, (hargs c).2.1, (hargs c).2.2.2]
      exact adamin_ext fun a j => adamin_power _ _ a j

end Cert.Proof

end
-- ==== Proof.AdamUpValue.lean ====
/- The optimiser's step on the second up projection's weights: the frames, and the kernel's results beside the reference's. -/
module

public import proofs.«01_k».proof.Defs
public import proofs.«01_k».proof.Proof.Adam
public import proofs.«01_k».proof.Proof.Gen.AdamUp
public import proofs.«01_k».proof.Proof.Gen.AdamUpIdeal.Value
public import proofs.«01_k».proof.Proof.Gen.AdamUpReferenceIdeal
public import proofs.«01_k».proof.Proof.Gen.AdamUpReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.AdamUpIdeal.Body

open Cert.AdamUpIdeal Cert.AdamUpIdeal.Gen Idealize.ShloMosaic Idealize.ShloMosaic.TcCoe Idealize.SL.Sem Cert.Adam

section Pays
variable (g : FVec Ideal S512x512 .f32) (w x : FVec Ideal S1x512x512 .f32) (a : Fin 512) (j : Fin 512)

theorem pay_sum (s : S8x512x512.Idx → Elt Ideal .bf16) (p0 p1 p2 p3 p4 p5 p6 p7 : FVec Ideal S1x512x512 .bf16)
    (h0 : p0 (ix3 0 a j) = s (ix3 0 a j)) (h1 : p1 (ix3 0 a j) = s (ix3 1 a j)) (h2 : p2 (ix3 0 a j) = s (ix3 2 a j)) (h3 : p3 (ix3 0 a j) = s (ix3 3 a j))
    (h4 : p4 (ix3 0 a j) = s (ix3 4 a j)) (h5 : p5 (ix3 0 a j) = s (ix3 5 a j)) (h6 : p6 (ix3 0 a j) = s (ix3 6 a j)) (h7 : p7 (ix3 0 a j) = s (ix3 7 a j)) :
    k0_pay2 (F := Ideal) p0 p1 p2 p3 p4 p5 p6 p7 (ix2 a j) = ∑ d : Fin 8, (s (ix3 d a j) : EReal) := by
  rw [Fin.sum_univ_eight, ← h0, ← h1, ← h2, ← h3, ← h4, ← h5, ← h6, ← h7]
  pointwise [k0_pay2]
theorem pay_grad : k0_pay5 (F := Ideal) g (ix3 0 a j) = g (ix2 a j) := by
  pointwise [k0_pay5]
theorem pay_mean : k0_pay6 (F := Ideal) g x (ix3 0 a j) = mean (g (ix2 a j)) (x (ix3 0 a j)) := by
  pointwise [k0_pay6, k0_pay3]
  rfl
theorem pay_power : k0_pay7 (F := Ideal) g x (ix3 0 a j) = power (g (ix2 a j)) (x (ix3 0 a j)) := by
  pointwise [k0_pay7, k0_pay4]
  rfl
theorem pay_move (v : FVec Ideal S1x512x512 .f32) : k0_pay1 (F := Ideal) (k0_pay8 (F := Ideal) g x v) (k0_pay9 (F := Ideal) w) (k0_pay10 (F := Ideal)) (ix3 0 a j)
      = move (w (ix3 0 a j)) (mean (g (ix2 a j)) (x (ix3 0 a j))) (power (g (ix2 a j)) (v (ix3 0 a j))) := by
  pointwise [k0_pay1, k0_pay8, k0_pay9, k0_pay10, k0_pay3, k0_pay4]
  rfl

end Pays

section Runs
variable (c : Dev nD) (i : grid0.Coords) (arg1 : Memref sig .tc .vmem S1x512x512 .f32) (harg1 : arg1.IsWhole) (arg2 : Memref sig .tc .vmem S8x512x512 .bf16) (harg2 : arg2.IsWhole)
  (arg3 : Memref sig .tc .vmem S1x512x512 .f32) (harg3 : arg3.IsWhole) (arg4 : Memref sig .tc .vmem S1x512x512 .f32) (harg4 : arg4.IsWhole)
  (arg9 : Memref sig .tc .vmem S1x512x512 .f32) (harg9 : arg9.IsWhole) (arg10 : Memref sig .tc .vmem S1x512x512 .f32) (harg10 : arg10.IsWhole)
  (arg11 : Memref sig .tc .vmem S1x512x512 .f32) (harg11 : arg11.IsWhole) (arg12 : Memref sig .tc .vmem S1x512x512 .f32) (harg12 : arg12.IsWhole)
  (x0 : FVec Ideal S1x512x512 .f32) (x1 : FVec Ideal S8x512x512 .bf16) (x2 x3 : FVec Ideal S1x512x512 .f32) (a j : Fin 512)

/-- What a block's sum is at an index. -/
abbrev sent : EReal := ∑ d : Fin 8, x1 (ix3 d a j)

/-- One device's part of the block, loaded by itself. -/
theorem ld_part (d : ℕ) (hd : d < 8) (inb : ∀ e, (![d, 0, 0] : Fin 3 → ℕ) e + S1x512x512.size e ≤ S8x512x512.size e) (X : S8x512x512.Idx → Elt Ideal .bf16) :
    View.ld X (Rect.unit (s := S8x512x512) ![d, 0, 0] S1x512x512.size inb) (ix3 0 a j) = X (ix3 ⟨d, hd⟩ a j) := by
  refine View.ld_unit_apply_of _ _ _ _ _ (ix3 ⟨d, hd⟩ a j) ?_
  intro e
  match e with
  | ⟨0, _⟩ => rfl
  | ⟨1, _⟩ => show a.val = 0 + a.val; omega
  | ⟨2, _⟩ => show j.val = 0 + j.val; omega

/-- A load of a whole block reads the block. -/
theorem ld_whole (inb : ∀ e, (![0, 0, 0] : Fin 3 → ℕ) e + S1x512x512.size e ≤ S1x512x512.size e) (X : S1x512x512.Idx → Elt Ideal .f32) :
    View.ld X (Rect.unit (s := S1x512x512) ![0, 0, 0] ![1, 512, 512] inb) = X := View.ld_unit_lit inb X (by decide)

theorem run4 : (out0_A_4 (F := Ideal) c i arg1 harg1 arg2 harg2 arg3 harg3 arg4 harg4 arg9 harg9 arg10 harg10 arg11 harg11 arg12 harg12 x0 x1 x2 x3 : FVec Ideal S1x512x512 .f32) (ix3 0 a j)
    = sent x1 a j := by
  unfold out0_A_4 kernelRun0_A
  dsimp only
  sl_unfold_words
  rw [View.read_writes_junk_eq_canon, View.canon_cons_unit_lit _ _ _ (by decide), pay_grad]
  simp only [View.readAt_eq_ld, harg2.read_unread]
  refine pay_sum a j x1 _ _ _ _ _ _ _ _ ?_ ?_ ?_ ?_ ?_ ?_ ?_ ?_ <;> exact ld_part a j _ (by decide) _ x1

theorem run5 : (out0_A_5 (F := Ideal) c i arg1 harg1 arg2 harg2 arg3 harg3 arg4 harg4 arg9 harg9 arg10 harg10 arg11 harg11 arg12 harg12 x0 x1 x2 x3 : FVec Ideal S1x512x512 .f32) (ix3 0 a j)
    = move (x0 (ix3 0 a j)) (mean (sent x1 a j) (x2 (ix3 0 a j))) (power (sent x1 a j) (x3 (ix3 0 a j))) := by
  unfold out0_A_5 kernelRun0_A
  dsimp only
  sl_unfold_words
  rw [View.read_writes_junk_eq_canon, View.canon_cons_unit_lit _ _ _ (by decide), pay_move]
  simp only [View.readAt_eq_ld, harg1.read_unread, harg2.read_unread, harg3.read_unread, harg4.read_unread]
  rw [ld_whole _ x0, ld_whole _ x2, ld_whole _ x3]
  congr 2
  all_goals refine pay_sum a j x1 _ _ _ _ _ _ _ _ ?_ ?_ ?_ ?_ ?_ ?_ ?_ ?_ <;> exact ld_part a j _ (by decide) _ x1

theorem run6 : (out0_A_6 (F := Ideal) c i arg1 harg1 arg2 harg2 arg3 harg3 arg4 harg4 arg9 harg9 arg10 harg10 arg11 harg11 arg12 harg12 x0 x1 x2 x3 : FVec Ideal S1x512x512 .f32) (ix3 0 a j)
    = mean (sent x1 a j) (x2 (ix3 0 a j)) := by
  unfold out0_A_6 kernelRun0_A
  dsimp only
  sl_unfold_words
  rw [View.read_writes_junk_eq_canon, View.canon_cons_unit_lit _ _ _ (by decide), pay_mean]
  simp only [View.readAt_eq_ld, harg2.read_unread, harg3.read_unread]
  rw [ld_whole _ x2]
  congr 1
  refine pay_sum a j x1 _ _ _ _ _ _ _ _ ?_ ?_ ?_ ?_ ?_ ?_ ?_ ?_ <;> exact ld_part a j _ (by decide) _ x1

theorem run7 : (out0_A_7 (F := Ideal) c i arg1 harg1 arg2 harg2 arg3 harg3 arg4 harg4 arg9 harg9 arg10 harg10 arg11 harg11 arg12 harg12 x0 x1 x2 x3 : FVec Ideal S1x512x512 .f32) (ix3 0 a j)
    = power (sent x1 a j) (x3 (ix3 0 a j)) := by
  unfold out0_A_7 kernelRun0_A
  dsimp only
  sl_unfold_words
  rw [View.read_writes_junk_eq_canon, View.canon_cons_unit_lit _ _ _ (by decide), pay_power]
  simp only [View.readAt_eq_ld, harg2.read_unread, harg4.read_unread]
  rw [ld_whole _ x3]
  congr 1
  refine pay_sum a j x1 _ _ _ _ _ _ _ _ ?_ ?_ ?_ ?_ ?_ ?_ ?_ ?_ <;> exact ld_part a j _ (by decide) _ x1

end Runs

section Run
variable (m : (ℓ : Loc nD τ sig) → Buf (Elt Ideal) ℓ) (c : Dev nD)

/-- The weights, what the eight devices sent, and the two averages before the step. -/
def W : FVec Ideal S2x1024x512 .f32 := m ((c : Thread nD τ).loc main_arg0)
def G : FVec Ideal S8x1024x512 .bf16 := m ((c : Thread nD τ).loc main_arg1)
def M : FVec Ideal S2x1024x512 .f32 := m ((c : Thread nD τ).loc main_arg2)
def Q : FVec Ideal S2x1024x512 .f32 := m ((c : Thread nD τ).loc main_arg3)

theorem ix0 : ∀ t : Fin grid0.N, win0_0.index t = ![1, t.val, 0] := by decide +kernel
theorem ix1 : ∀ t : Fin grid0.N, win0_1.index t = ![0, t.val, 0] := by decide +kernel
theorem ix2' : ∀ t : Fin grid0.N, win0_2.index t = ![1, t.val, 0] := by decide +kernel
theorem ix3' : ∀ t : Fin grid0.N, win0_3.index t = ![1, t.val, 0] := by decide +kernel
theorem ix4' : ∀ t : Fin grid0.N, win0_4.index t = ![1, t.val, 0] := by decide +kernel

/-- The row of the array a row of a block is. -/
abbrev row (t : Fin cfg0.N) (a : Fin 512) : Fin 1024 := ⟨t.val * 512 + a.val, by have := lt_of_lt_of_eq t.isLt N_0; omega⟩

/-- The blocks a point reads. -/
abbrev blk0 (t : Fin cfg0.N) : FVec Ideal S1x512x512 .f32 := iblk m c 0 t
abbrev blk1 (t : Fin cfg0.N) : FVec Ideal S8x512x512 .bf16 := iblk m c 1 t
abbrev blk2 (t : Fin cfg0.N) : FVec Ideal S1x512x512 .f32 := iblk m c 2 t
abbrev blk3 (t : Fin cfg0.N) : FVec Ideal S1x512x512 .f32 := iblk m c 3 t

theorem read0 (t : Fin cfg0.N) (a : Fin 512) (j : Fin 512) : blk0 m c t (ix3 0 a j) = W m c (ix3 1 (row t a) j) := by
  unfold blk0 iblk
  rw [View.read_apply]
  show W m c _ = _
  congr 1
  funext x
  apply Fin.ext
  match x with
  | ⟨0, _⟩ => show win0_0.index t 0 * 1 + 1 * 0 = 1; rw [congrFun (ix0 t) 0]; rfl
  | ⟨1, _⟩ => show win0_0.index t 1 * 512 + 1 * a.val = t.val * 512 + a.val; rw [congrFun (ix0 t) 1]; show t.val * 512 + 1 * a.val = _; omega
  | ⟨2, _⟩ => show win0_0.index t 2 * 512 + 1 * j.val = j.val; rw [congrFun (ix0 t) 2]; show 0 * 512 + 1 * j.val = _; omega

theorem read1 (t : Fin cfg0.N) (d : Fin 8) (a : Fin 512) (j : Fin 512) : blk1 m c t (ix3 d a j) = G m c (ix3 d (row t a) j) := by
  unfold blk1 iblk
  rw [View.read_apply]
  show G m c _ = _
  congr 1
  funext x
  apply Fin.ext
  match x with
  | ⟨0, _⟩ => show win0_1.index t 0 * 8 + 1 * d.val = d.val; rw [congrFun (ix1 t) 0]; show 0 * 8 + 1 * d.val = _; omega
  | ⟨1, _⟩ => show win0_1.index t 1 * 512 + 1 * a.val = t.val * 512 + a.val; rw [congrFun (ix1 t) 1]; show t.val * 512 + 1 * a.val = _; omega
  | ⟨2, _⟩ => show win0_1.index t 2 * 512 + 1 * j.val = j.val; rw [congrFun (ix1 t) 2]; show 0 * 512 + 1 * j.val = _; omega

theorem read2 (t : Fin cfg0.N) (a : Fin 512) (j : Fin 512) : blk2 m c t (ix3 0 a j) = M m c (ix3 1 (row t a) j) := by
  unfold blk2 iblk
  rw [View.read_apply]
  show M m c _ = _
  congr 1
  funext x
  apply Fin.ext
  match x with
  | ⟨0, _⟩ => show win0_2.index t 0 * 1 + 1 * 0 = 1; rw [congrFun (ix2' t) 0]; rfl
  | ⟨1, _⟩ => show win0_2.index t 1 * 512 + 1 * a.val = t.val * 512 + a.val; rw [congrFun (ix2' t) 1]; show t.val * 512 + 1 * a.val = _; omega
  | ⟨2, _⟩ => show win0_2.index t 2 * 512 + 1 * j.val = j.val; rw [congrFun (ix2' t) 2]; show 0 * 512 + 1 * j.val = _; omega

theorem read3 (t : Fin cfg0.N) (a : Fin 512) (j : Fin 512) : blk3 m c t (ix3 0 a j) = Q m c (ix3 1 (row t a) j) := by
  unfold blk3 iblk
  rw [View.read_apply]
  show Q m c _ = _
  congr 1
  funext x
  apply Fin.ext
  match x with
  | ⟨0, _⟩ => show win0_3.index t 0 * 1 + 1 * 0 = 1; rw [congrFun (ix3' t) 0]; rfl
  | ⟨1, _⟩ => show win0_3.index t 1 * 512 + 1 * a.val = t.val * 512 + a.val; rw [congrFun (ix3' t) 1]; show t.val * 512 + 1 * a.val = _; omega
  | ⟨2, _⟩ => show win0_3.index t 2 * 512 + 1 * j.val = j.val; rw [congrFun (ix3' t) 2]; show 0 * 512 + 1 * j.val = _; omega

end Run

/-- The second layer's four results at an index, from the four arguments. -/
def grad (G : FVec Ideal S8x1024x512 .bf16) (a : Fin 1024) (j : Fin 512) : EReal := ∑ d : Fin 8, G (ix3 d a j)
def newM (G : FVec Ideal S8x1024x512 .bf16) (M : FVec Ideal S2x1024x512 .f32) (a : Fin 1024) (j : Fin 512) : EReal := mean (grad G a j) (M (ix3 1 a j))
def newQ (G : FVec Ideal S8x1024x512 .bf16) (Q : FVec Ideal S2x1024x512 .f32) (a : Fin 1024) (j : Fin 512) : EReal := power (grad G a j) (Q (ix3 1 a j))
def delta (W : FVec Ideal S2x1024x512 .f32) (G : FVec Ideal S8x1024x512 .bf16) (M Q : FVec Ideal S2x1024x512 .f32) (a : Fin 1024) (j : Fin 512) : EReal :=
  move (W (ix3 1 a j)) (newM G M a j) (newQ G Q a j)

section Outs
variable (m : (ℓ : Loc nD τ sig) → Buf (Elt Ideal) ℓ) (c : Dev nD) (t : Fin cfg0.N) (a : Fin 512) (j : Fin 512)

theorem sum_at : sent (blk1 m c t) a j = grad (G m c) (row t a) j :=
  Finset.sum_congr rfl fun d _ => read1 m c t d a j

theorem out4 : ((outsAt0 m c t).1 : FVec Ideal S1x512x512 .f32) (ix3 0 a j) = grad (G m c) (row t a) j := by
  simp only [outsAt0]
  rw [run4]
  exact sum_at m c t a j

theorem out5 : ((outsAt0 m c t).2.1 : FVec Ideal S1x512x512 .f32) (ix3 0 a j) = delta (W m c) (G m c) (M m c) (Q m c) (row t a) j := by
  simp only [outsAt0]
  rw [run5]
  rw [sum_at]
  show move (blk0 m c t (ix3 0 a j)) (mean _ (blk2 m c t (ix3 0 a j))) (power _ (blk3 m c t (ix3 0 a j))) = _
  rw [read0, read2, read3]
  rfl

theorem out6 : ((outsAt0 m c t).2.2.1 : FVec Ideal S1x512x512 .f32) (ix3 0 a j) = newM (G m c) (M m c) (row t a) j := by
  simp only [outsAt0]
  rw [run6]
  rw [sum_at]
  show mean _ (blk2 m c t (ix3 0 a j)) = _
  rw [read2]
  rfl

theorem out7 : ((outsAt0 m c t).2.2.2 : FVec Ideal S1x512x512 .f32) (ix3 0 a j) = newQ (G m c) (Q m c) (row t a) j := by
  simp only [outsAt0]
  rw [run7]
  rw [sum_at]
  show power _ (blk3 m c t (ix3 0 a j)) = _
  rw [read3]
  rfl

end Outs

section Results
variable (m : (ℓ : Loc nD τ sig) → Buf (Elt Ideal) ℓ) (c : Dev nD) (a : Fin 1024) (j : Fin 512)

/-- The point that writes a row, and the row in its block. -/
abbrev pt : Fin cfg0.N := ⟨a.val / 512, by rw [show cfg0.N = 2 from N_0]; omega⟩
abbrev loc : Fin 512 := ⟨a.val % 512, by omega⟩

theorem row_pt : row (pt a) (loc a) = a := Fin.ext (by show a.val / 512 * 512 + a.val % 512 = a.val; omega)

theorem emb (i : S2x1024x512.Idx) (h0 : (i 0).val = 1) (h1 : (i 1).val = win0_4.index (pt a) 1 * 512 + 1 * (a.val % 512)) (h2 : (i 2).val = j.val) : i = ix3 1 a j := by
  funext x
  apply Fin.ext
  match x with
  | ⟨0, _⟩ => exact h0
  | ⟨1, _⟩ =>
    refine h1.trans ?_
    rw [congrFun (ix4' (pt a)) 1]
    show a.val / 512 * 512 + 1 * (a.val % 512) = a.val
    omega
  | ⟨2, _⟩ => exact h2

theorem at4 : ((cfg0.win 4).blk (pt a)).view.emb (ix3 0 (loc a) j) = (ix3 1 a j : S2x1024x512.Idx) :=
  emb a j _ (by show win0_4.index (pt a) 0 * 1 + 1 * 0 = 1; rw [congrFun (ix4' (pt a)) 0]; rfl) rfl
    (by show win0_4.index (pt a) 2 * 512 + 1 * j.val = j.val; rw [congrFun (ix4' (pt a)) 2]; show 0 * 512 + 1 * j.val = j.val; omega)

theorem result4 : ((dats m 0 c).arrAt 4 cfg0.N : FVec Ideal S2x1024x512 .f32) (ix3 1 a j) = grad (G m c) a j := by
  have h := congrFun ((Value.blocks4 m c (pt a) (flush0_4 _)).trans (Value.flushed4 m c (pt a))) (ix3 0 (loc a) j)
  rw [View.read_apply, at4] at h
  exact h.trans ((out4 m c (pt a) (loc a) j).trans (by rw [row_pt]))

theorem result5 : ((dats m 0 c).arrAt 5 cfg0.N : FVec Ideal S2x1024x512 .f32) (ix3 1 a j) = delta (W m c) (G m c) (M m c) (Q m c) a j := by
  have h := congrFun ((Value.blocks5 m c (pt a) (flush0_5 _)).trans (Value.flushed5 m c (pt a))) (ix3 0 (loc a) j)
  rw [View.read_apply, show ((cfg0.win 5).blk (pt a)).view.emb (ix3 0 (loc a) j) = (ix3 1 a j : S2x1024x512.Idx) from at4 a j] at h
  exact h.trans ((out5 m c (pt a) (loc a) j).trans (by rw [row_pt]))

theorem result6 : ((dats m 0 c).arrAt 6 cfg0.N : FVec Ideal S2x1024x512 .f32) (ix3 1 a j) = newM (G m c) (M m c) a j := by
  have h := congrFun ((Value.blocks6 m c (pt a) (flush0_6 _)).trans (Value.flushed6 m c (pt a))) (ix3 0 (loc a) j)
  rw [View.read_apply, show ((cfg0.win 6).blk (pt a)).view.emb (ix3 0 (loc a) j) = (ix3 1 a j : S2x1024x512.Idx) from at4 a j] at h
  exact h.trans ((out6 m c (pt a) (loc a) j).trans (by rw [row_pt]))

theorem result7 : ((dats m 0 c).arrAt 7 cfg0.N : FVec Ideal S2x1024x512 .f32) (ix3 1 a j) = newQ (G m c) (Q m c) a j := by
  have h := congrFun ((Value.blocks7 m c (pt a) (flush0_7 _)).trans (Value.flushed7 m c (pt a))) (ix3 0 (loc a) j)
  rw [View.read_apply, show ((cfg0.win 7).blk (pt a)).view.emb (ix3 0 (loc a) j) = (ix3 1 a j : S2x1024x512.Idx) from at4 a j] at h
  exact h.trans ((out7 m c (pt a) (loc a) j).trans (by rw [row_pt]))

/-- The first layer's results are the ones passed in. -/
theorem host4 : V m c main_v0_0 = m ((c : Thread nD τ).loc main_arg4) := by
  entry_read
  rfl
theorem host5 : V m c main_v0_1 = m ((c : Thread nD τ).loc main_arg5) := by
  entry_read
  rfl
theorem host6 : V m c main_v0_2 = m ((c : Thread nD τ).loc main_arg6) := by
  entry_read
  rfl
theorem host7 : V m c main_v0_3 = m ((c : Thread nD τ).loc main_arg7) := by
  entry_read
  rfl

theorem apart (t : Fin cfg0.N) : (ix3 0 a j : S2x1024x512.Idx) ∉ ((cfg0.win 4).blk t).view.set := by
  intro h
  obtain ⟨y, -, hy⟩ := Finset.mem_map.mp h
  have h0 : win0_4.index t 0 * 1 + 1 * (y 0).val = 0 := congrArg Fin.val (congrFun hy 0)
  rw [congrFun (ix4' t) 0] at h0
  exact absurd h0 (by show ¬(1 * 1 + 1 * (y 0).val = 0); omega)

theorem kept4 : ((dats m 0 c).arrAt 4 cfg0.N : FVec Ideal S2x1024x512 .f32) (ix3 0 a j) = (m ((c : Thread nD τ).loc main_arg4) : FVec Ideal S2x1024x512 .f32) (ix3 0 a j) :=
  (Value.entry4 m c _ fun t _ => apart a j t).trans (congrFun (host4 m c) _)
theorem kept5 : ((dats m 0 c).arrAt 5 cfg0.N : FVec Ideal S2x1024x512 .f32) (ix3 0 a j) = (m ((c : Thread nD τ).loc main_arg5) : FVec Ideal S2x1024x512 .f32) (ix3 0 a j) :=
  (Value.entry5 m c _ fun t _ => apart a j t).trans (congrFun (host5 m c) _)
theorem kept6 : ((dats m 0 c).arrAt 6 cfg0.N : FVec Ideal S2x1024x512 .f32) (ix3 0 a j) = (m ((c : Thread nD τ).loc main_arg6) : FVec Ideal S2x1024x512 .f32) (ix3 0 a j) :=
  (Value.entry6 m c _ fun t _ => apart a j t).trans (congrFun (host6 m c) _)
theorem kept7 : ((dats m 0 c).arrAt 7 cfg0.N : FVec Ideal S2x1024x512 .f32) (ix3 0 a j) = (m ((c : Thread nD τ).loc main_arg7) : FVec Ideal S2x1024x512 .f32) (ix3 0 a j) :=
  (Value.entry7 m c _ fun t _ => apart a j t).trans (congrFun (host7 m c) _)

end Results

/-- The first layer of one array above another layer. -/
def join (old : FVec Ideal S2x1024x512 .f32) (new : Fin 1024 → Fin 512 → EReal) (i : S2x1024x512.Idx) : EReal :=
  if (i 0).val = 0 then old i else new (i 1) (i 2)

end Cert.AdamUpIdeal.Body

namespace Cert.Proof

open Idealize.ShloMosaic Idealize.SL.Sem Cert.AdamUpIdeal.Body Cert.Adam
open Cert.AdamUpReferenceIdeal.Read

theorem adamup_defs_eq : Cert.AdamUpIdeal.defs₀ (F := Bits) = Cert.AdamUp.defs₀ (F := Bits) := by
  unfold Cert.AdamUp.defs₀ Cert.AdamUpIdeal.defs₀
  congr 1
  funext l a
  match l, a with
  | 0, (t, s) => rfl

theorem frame_adamup : Cert.quiescent_AdamUp := fun m g _ => by
  have h := Cert.AdamUpIdeal.Gen.frame (F := Bits) m g
  unfold Cert.AdamUpIdeal.defs at h
  rw [adamup_defs_eq] at h
  exact h

theorem frame_adamup_reference : Cert.quiescent_AdamUpReferenceIdeal := fun m g _ => by
  refine (θ_run Cert.AdamUpReferenceIdeal.defs _ _).mono (fun r h => ?_) (Cert.AdamUpReferenceIdeal.Value.run (F := Ideal) m g)
  exact ⟨fun c => (h c).2.2.2.2, sem_eq_zero_of_no_sems (by decide) _⟩

section
variable (w : FVec Ideal Cert.AdamUpReferenceIdeal.S2x1024x512 .f32) (gs : FVec Ideal Cert.AdamUpReferenceIdeal.S8x1024x512 .bf16)
    (mo v old : FVec Ideal Cert.AdamUpReferenceIdeal.S2x1024x512 .f32) (a : Fin 1024) (j : Fin 512)

theorem adamup_grad : val_main_v3 (F := Ideal) gs (ix3 0 a j) = grad gs a j := by
  pointwise [val_main_v3, val_main_v2, val_main_v1, val_main_cst]
  rfl

theorem adamup_mean : val_main_v10 (F := Ideal) gs mo (ix3 0 a j) = newM gs mo a j := by
  pointwise [val_main_v10, val_main_v9, val_main_v8, val_main_v7, val_main_v6, val_main_v4, val_main_cst_0, val_main_cst_1]
  rw [adamup_grad]
  rfl

theorem adamup_power : val_main_v16 (F := Ideal) gs v (ix3 0 a j) = newQ gs v a j := by
  pointwise [val_main_v16, val_main_v15, val_main_v14, val_main_v13, val_main_v12, val_main_v11, val_main_v5, val_main_cst_2, val_main_cst_3]
  rw [adamup_grad]
  rfl

theorem adamup_move : val_main_v29 (F := Ideal) w gs mo v (ix3 0 a j) = delta w gs mo v a j := by
  pointwise [val_main_v29, val_main_v28, val_main_v27, val_main_v26, val_main_v25, val_main_v24, val_main_v23, val_main_v22, val_main_v21, val_main_v20, val_main_v19, val_main_v18, val_main_v17,
    val_main_v0, val_main_cst_4, val_main_cst_5, val_main_cst_6, val_main_cst_7, val_main_cst_8]
  rw [adamup_mean, adamup_power]
  rfl

end

/-- Two arrays of two matrices agree if both matrices do at every row and column. -/
theorem adamup_ext {f h : (⟨3, ![2, 1024, 512]⟩ : Shape).Idx → EReal} (e0 : ∀ (a : Fin 1024) (j : Fin 512), f (ix3 0 a j) = h (ix3 0 a j))
    (e1 : ∀ (a : Fin 1024) (j : Fin 512), f (ix3 1 a j) = h (ix3 1 a j)) : f = h := by
  funext i
  obtain ⟨q, a, j, rfl⟩ : ∃ (q : Fin 2) (a : Fin 1024) (j : Fin 512), i = ix3 q a j := ⟨i 0, i 1, i 2, eq_ix3 i⟩
  match q with
  | 0 => exact e0 a j
  | 1 => exact e1 a j

section
variable (w : FVec Ideal Cert.AdamUpReferenceIdeal.S2x1024x512 .f32) (gs : FVec Ideal Cert.AdamUpReferenceIdeal.S8x1024x512 .bf16)
    (mo v old : FVec Ideal Cert.AdamUpReferenceIdeal.S2x1024x512 .f32)

theorem adamup_grads : val_main_v31 (F := Ideal) gs old = join old (grad gs) := by
  refine adamup_ext (fun a j => ?_) (fun a j => ?_)
  · pointwise [val_main_v31, val_main_v30]
    rfl
  · pointwise [val_main_v31]
    exact adamup_grad gs a j

theorem adamup_moves : val_main_v33 (F := Ideal) w gs mo v old = join old (delta w gs mo v) := by
  refine adamup_ext (fun a j => ?_) (fun a j => ?_)
  · pointwise [val_main_v33, val_main_v32]
    rfl
  · pointwise [val_main_v33]
    exact adamup_move w gs mo v a j

theorem adamup_means : val_main_v35 (F := Ideal) gs mo old = join old (newM gs mo) := by
  refine adamup_ext (fun a j => ?_) (fun a j => ?_)
  · pointwise [val_main_v35, val_main_v34]
    rfl
  · pointwise [val_main_v35]
    exact adamup_mean gs mo a j

theorem adamup_powers : val_main_v37 (F := Ideal) gs v old = join old (newQ gs v) := by
  refine adamup_ext (fun a j => ?_) (fun a j => ?_)
  · pointwise [val_main_v37, val_main_v36]
    rfl
  · pointwise [val_main_v37]
    exact adamup_power gs v a j

end

theorem agree_adamup : Cert.algebraic_AdamUpIdeal_AdamUpReferenceIdeal := by
  intro m g m' g' _ hargs
  refine ⟨fun (c : Dev Cert.AdamUpIdeal.nD) => join (m ((c.tc : Thread Cert.AdamUpIdeal.nD Cert.AdamUpIdeal.τ).loc Cert.AdamUpIdeal.main_arg4)) (grad (G m c)),
    fun (c : Dev Cert.AdamUpIdeal.nD) => join (m ((c.tc : Thread Cert.AdamUpIdeal.nD Cert.AdamUpIdeal.τ).loc Cert.AdamUpIdeal.main_arg5)) (delta (W m c) (G m c) (M m c) (Q m c)),
    fun (c : Dev Cert.AdamUpIdeal.nD) => join (m ((c.tc : Thread Cert.AdamUpIdeal.nD Cert.AdamUpIdeal.τ).loc Cert.AdamUpIdeal.main_arg6)) (newM (G m c) (M m c)),
    fun (c : Dev Cert.AdamUpIdeal.nD) => join (m ((c.tc : Thread Cert.AdamUpIdeal.nD Cert.AdamUpIdeal.τ).loc Cert.AdamUpIdeal.main_arg7)) (newQ (G m c) (Q m c)), ?_, ?_⟩
  · refine (θ_run Cert.AdamUpIdeal.defs _ _).mono (fun r h c => ⟨?_, ?_, ?_, ?_, (h c).2.2.2.2⟩) (Cert.AdamUpIdeal.Value.run_blocks (F := Ideal) m g)
    · rw [(h c).1]
      exact adamup_ext (fun a j => kept4 m c a j) fun a j => result4 m c a j
    · rw [(h c).2.1]
      exact adamup_ext (fun a j => kept5 m c a j) fun a j => result5 m c a j
    · rw [(h c).2.2.1]
      exact adamup_ext (fun a j => kept6 m c a j) fun a j => result6 m c a j
    · rw [(h c).2.2.2.1]
      exact adamup_ext (fun a j => kept7 m c a j) fun a j => result7 m c a j
  · refine (θ_run Cert.AdamUpReferenceIdeal.defs _ _).mono (fun r h c => ⟨?_, ?_, ?_, ?_, (h c).2.2.2.2⟩) (Cert.AdamUpReferenceIdeal.Value.run (F := Ideal) m' g')
    · rw [(h c).1, val_main_v31_eq, (hargs c).2.1, (hargs c).2.2.2.2.1]
      exact adamup_grads _ _
    · rw [(h c).2.1, val_main_v33_eq, (hargs c).1, (hargs c).2.1, (hargs c).2.2.1, (hargs c).2.2.2.1, (hargs c).2.2.2.2.2.1]
      exact adamup_moves _ _ _ _ _
    · rw [(h c).2.2.1, val_main_v35_eq, (hargs c).2.1, (hargs c).2.2.1, (hargs c).2.2.2.2.2.2.1]
      exact adamup_means _ _ _
    · rw [(h c).2.2.2.1, val_main_v37_eq, (hargs c).2.1, (hargs c).2.2.2.1, (hargs c).2.2.2.2.2.2.2]
      exact adamup_powers _ _ _

end Cert.Proof

end
-- ==== Proof.AdamUp0Value.lean ====
/- The optimiser's step on the first up projection's weights: the frames, and the kernel's results beside the reference's. -/
module

public import proofs.«01_k».proof.Defs
public import proofs.«01_k».proof.Proof.Adam
public import proofs.«01_k».proof.Proof.Gen.AdamUp0
public import proofs.«01_k».proof.Proof.Gen.AdamUp0Ideal.Value
public import proofs.«01_k».proof.Proof.Gen.AdamUp0ReferenceIdeal
public import proofs.«01_k».proof.Proof.Gen.AdamUp0ReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.AdamUp0Ideal.Body

open Cert.AdamUp0Ideal Cert.AdamUp0Ideal.Gen Idealize.ShloMosaic Idealize.ShloMosaic.TcCoe Idealize.SL.Sem Cert.Adam

section Pays
variable (g : FVec Ideal S512x512 .f32) (w x : FVec Ideal S1x512x512 .f32) (a : Fin 512) (j : Fin 512)

theorem pay_sum (s : FVec Ideal S8x512x512 .bf16) (q : FVec Ideal S1x512x512 .f32) :
    k0_pay11 (F := Ideal) q s w x (ix2 a j) = ∑ d : Fin 8, s (ix3 d a j) := by
  rw [Fin.sum_univ_eight]
  unfold k0_pay11
  pointwise [k0_pay2]
theorem pay_grad : k0_pay5 (F := Ideal) g (ix3 0 a j) = g (ix2 a j) := by
  pointwise [k0_pay5]
theorem pay_mean : k0_pay6 (F := Ideal) g x (ix3 0 a j) = mean (g (ix2 a j)) (x (ix3 0 a j)) := by
  pointwise [k0_pay6, k0_pay3]
  rfl
theorem pay_power : k0_pay7 (F := Ideal) g x (ix3 0 a j) = power (g (ix2 a j)) (x (ix3 0 a j)) := by
  pointwise [k0_pay7, k0_pay4]
  rfl
theorem pay_move (v : FVec Ideal S1x512x512 .f32) : k0_pay1 (F := Ideal) (k0_pay8 (F := Ideal) g x v) (k0_pay9 (F := Ideal) w) (k0_pay10 (F := Ideal)) (ix3 0 a j)
      = move (w (ix3 0 a j)) (mean (g (ix2 a j)) (x (ix3 0 a j))) (power (g (ix2 a j)) (v (ix3 0 a j))) := by
  pointwise [k0_pay1, k0_pay8, k0_pay9, k0_pay10, k0_pay3, k0_pay4]
  rfl

end Pays

section Run
variable (m : (ℓ : Loc nD τ sig) → Buf (Elt Ideal) ℓ) (c : Dev nD)

/-- The weights, what the eight devices sent, and the two averages before the step. -/
def W : FVec Ideal S2x1024x512 .f32 := m ((c : Thread nD τ).loc main_arg0)
def G : FVec Ideal S8x1024x512 .bf16 := m ((c : Thread nD τ).loc main_arg1)
def M : FVec Ideal S2x1024x512 .f32 := m ((c : Thread nD τ).loc main_arg2)
def Q : FVec Ideal S2x1024x512 .f32 := m ((c : Thread nD τ).loc main_arg3)

theorem ix0 : ∀ t : Fin grid0.N, win0_0.index t = ![0, t.val, 0] := by decide +kernel
theorem ix1 : ∀ t : Fin grid0.N, win0_1.index t = ![0, t.val, 0] := by decide +kernel
theorem ix2' : ∀ t : Fin grid0.N, win0_2.index t = ![0, t.val, 0] := by decide +kernel
theorem ix3' : ∀ t : Fin grid0.N, win0_3.index t = ![0, t.val, 0] := by decide +kernel
theorem ix4' : ∀ t : Fin grid0.N, win0_4.index t = ![0, t.val, 0] := by decide +kernel

/-- The row of the array a row of a block is. -/
abbrev row (t : Fin cfg0.N) (a : Fin 512) : Fin 1024 := ⟨t.val * 512 + a.val, by have := lt_of_lt_of_eq t.isLt N_0; omega⟩

/-- The blocks a point reads. -/
abbrev blk0 (t : Fin cfg0.N) : FVec Ideal S1x512x512 .f32 := iblk m c 0 t
abbrev blk1 (t : Fin cfg0.N) : FVec Ideal S8x512x512 .bf16 := iblk m c 1 t
abbrev blk2 (t : Fin cfg0.N) : FVec Ideal S1x512x512 .f32 := iblk m c 2 t
abbrev blk3 (t : Fin cfg0.N) : FVec Ideal S1x512x512 .f32 := iblk m c 3 t

theorem read0 (t : Fin cfg0.N) (a : Fin 512) (j : Fin 512) : blk0 m c t (ix3 0 a j) = W m c (ix3 0 (row t a) j) := by
  unfold blk0 iblk
  rw [View.read_apply]
  show W m c _ = _
  congr 1
  funext x
  apply Fin.ext
  match x with
  | ⟨0, _⟩ => show win0_0.index t 0 * 1 + 1 * 0 = 0; rw [congrFun (ix0 t) 0]; rfl
  | ⟨1, _⟩ => show win0_0.index t 1 * 512 + 1 * a.val = t.val * 512 + a.val; rw [congrFun (ix0 t) 1]; show t.val * 512 + 1 * a.val = _; omega
  | ⟨2, _⟩ => show win0_0.index t 2 * 512 + 1 * j.val = j.val; rw [congrFun (ix0 t) 2]; show 0 * 512 + 1 * j.val = _; omega

theorem read1 (t : Fin cfg0.N) (d : Fin 8) (a : Fin 512) (j : Fin 512) : blk1 m c t (ix3 d a j) = G m c (ix3 d (row t a) j) := by
  unfold blk1 iblk
  rw [View.read_apply]
  show G m c _ = _
  congr 1
  funext x
  apply Fin.ext
  match x with
  | ⟨0, _⟩ => show win0_1.index t 0 * 8 + 1 * d.val = d.val; rw [congrFun (ix1 t) 0]; show 0 * 8 + 1 * d.val = _; omega
  | ⟨1, _⟩ => show win0_1.index t 1 * 512 + 1 * a.val = t.val * 512 + a.val; rw [congrFun (ix1 t) 1]; show t.val * 512 + 1 * a.val = _; omega
  | ⟨2, _⟩ => show win0_1.index t 2 * 512 + 1 * j.val = j.val; rw [congrFun (ix1 t) 2]; show 0 * 512 + 1 * j.val = _; omega

theorem read2 (t : Fin cfg0.N) (a : Fin 512) (j : Fin 512) : blk2 m c t (ix3 0 a j) = M m c (ix3 0 (row t a) j) := by
  unfold blk2 iblk
  rw [View.read_apply]
  show M m c _ = _
  congr 1
  funext x
  apply Fin.ext
  match x with
  | ⟨0, _⟩ => show win0_2.index t 0 * 1 + 1 * 0 = 0; rw [congrFun (ix2' t) 0]; rfl
  | ⟨1, _⟩ => show win0_2.index t 1 * 512 + 1 * a.val = t.val * 512 + a.val; rw [congrFun (ix2' t) 1]; show t.val * 512 + 1 * a.val = _; omega
  | ⟨2, _⟩ => show win0_2.index t 2 * 512 + 1 * j.val = j.val; rw [congrFun (ix2' t) 2]; show 0 * 512 + 1 * j.val = _; omega

theorem read3 (t : Fin cfg0.N) (a : Fin 512) (j : Fin 512) : blk3 m c t (ix3 0 a j) = Q m c (ix3 0 (row t a) j) := by
  unfold blk3 iblk
  rw [View.read_apply]
  show Q m c _ = _
  congr 1
  funext x
  apply Fin.ext
  match x with
  | ⟨0, _⟩ => show win0_3.index t 0 * 1 + 1 * 0 = 0; rw [congrFun (ix3' t) 0]; rfl
  | ⟨1, _⟩ => show win0_3.index t 1 * 512 + 1 * a.val = t.val * 512 + a.val; rw [congrFun (ix3' t) 1]; show t.val * 512 + 1 * a.val = _; omega
  | ⟨2, _⟩ => show win0_3.index t 2 * 512 + 1 * j.val = j.val; rw [congrFun (ix3' t) 2]; show 0 * 512 + 1 * j.val = _; omega

end Run

/-- The four results at an index, from the four arguments. -/
def grad (G : FVec Ideal S8x1024x512 .bf16) (a : Fin 1024) (j : Fin 512) : EReal := ∑ d : Fin 8, G (ix3 d a j)
def newM (G : FVec Ideal S8x1024x512 .bf16) (M : FVec Ideal S2x1024x512 .f32) (a : Fin 1024) (j : Fin 512) : EReal := mean (grad G a j) (M (ix3 0 a j))
def newQ (G : FVec Ideal S8x1024x512 .bf16) (Q : FVec Ideal S2x1024x512 .f32) (a : Fin 1024) (j : Fin 512) : EReal := power (grad G a j) (Q (ix3 0 a j))
def delta (W : FVec Ideal S2x1024x512 .f32) (G : FVec Ideal S8x1024x512 .bf16) (M Q : FVec Ideal S2x1024x512 .f32) (a : Fin 1024) (j : Fin 512) : EReal :=
  move (W (ix3 0 a j)) (newM G M a j) (newQ G Q a j)

section Outs
variable (m : (ℓ : Loc nD τ sig) → Buf (Elt Ideal) ℓ) (c : Dev nD) (t : Fin cfg0.N) (a : Fin 512) (j : Fin 512)

theorem sum_at : k0_pay11 (F := Ideal) (blk0 m c t) (blk1 m c t) (blk2 m c t) (blk3 m c t) (ix2 a j) = grad (G m c) (row t a) j := by
  rw [pay_sum]
  exact Finset.sum_congr rfl fun d _ => read1 m c t d a j

theorem out4 : out0_4 (F := Ideal) (blk0 m c t) (blk1 m c t) (blk2 m c t) (blk3 m c t) (ix3 0 a j) = grad (G m c) (row t a) j := by
  unfold out0_4
  rw [View.canon_cons_unit_lit _ _ _ (by decide), pay_grad, sum_at]

theorem out5 : out0_5 (F := Ideal) (blk0 m c t) (blk1 m c t) (blk2 m c t) (blk3 m c t) (ix3 0 a j) = delta (W m c) (G m c) (M m c) (Q m c) (row t a) j := by
  unfold out0_5
  rw [View.canon_cons_unit_lit _ _ _ (by decide), View.ld_unit_lit _ _ (by decide), View.ld_unit_lit _ _ (by decide), View.ld_unit_lit _ _ (by decide),
    pay_move, sum_at, read0, read2, read3]
  rfl

theorem out6 : out0_6 (F := Ideal) (blk0 m c t) (blk1 m c t) (blk2 m c t) (blk3 m c t) (ix3 0 a j) = newM (G m c) (M m c) (row t a) j := by
  unfold out0_6
  rw [View.canon_cons_unit_lit _ _ _ (by decide), View.ld_unit_lit _ _ (by decide), pay_mean, sum_at, read2]
  rfl

theorem out7 : out0_7 (F := Ideal) (blk0 m c t) (blk1 m c t) (blk2 m c t) (blk3 m c t) (ix3 0 a j) = newQ (G m c) (Q m c) (row t a) j := by
  unfold out0_7
  rw [View.canon_cons_unit_lit _ _ _ (by decide), View.ld_unit_lit _ _ (by decide), pay_power, sum_at, read3]
  rfl

end Outs

section Results
variable (m : (ℓ : Loc nD τ sig) → Buf (Elt Ideal) ℓ) (c : Dev nD) (a : Fin 1024) (j : Fin 512)

/-- The point that writes a row, and the row in its block. -/
abbrev pt : Fin cfg0.N := ⟨a.val / 512, by rw [show cfg0.N = 2 from N_0]; omega⟩
abbrev loc : Fin 512 := ⟨a.val % 512, by omega⟩

theorem row_pt : row (pt a) (loc a) = a := Fin.ext (by show a.val / 512 * 512 + a.val % 512 = a.val; omega)

theorem emb (i : S2x1024x512.Idx) (h0 : (i 0).val = 0) (h1 : (i 1).val = win0_4.index (pt a) 1 * 512 + 1 * (a.val % 512)) (h2 : (i 2).val = j.val) : i = ix3 0 a j := by
  funext x
  apply Fin.ext
  match x with
  | ⟨0, _⟩ => exact h0
  | ⟨1, _⟩ =>
    refine h1.trans ?_
    rw [congrFun (ix4' (pt a)) 1]
    show a.val / 512 * 512 + 1 * (a.val % 512) = a.val
    omega
  | ⟨2, _⟩ => exact h2

theorem at4 : ((cfg0.win 4).blk (pt a)).view.emb (ix3 0 (loc a) j) = (ix3 0 a j : S2x1024x512.Idx) :=
  emb a j _ (by show win0_4.index (pt a) 0 * 1 + 1 * 0 = 0; rw [congrFun (ix4' (pt a)) 0]; rfl) rfl
    (by show win0_4.index (pt a) 2 * 512 + 1 * j.val = j.val; rw [congrFun (ix4' (pt a)) 2]; show 0 * 512 + 1 * j.val = j.val; omega)

theorem result4 : ((dats m 0 c).arrAt 4 cfg0.N : FVec Ideal S2x1024x512 .f32) (ix3 0 a j) = grad (G m c) a j := by
  have h := congrFun ((Value.blocks4 m c (pt a) (flush0_4 _)).trans (Value.flushed4 m c (pt a))) (ix3 0 (loc a) j)
  rw [View.read_apply, at4] at h
  exact h.trans ((out4 m c (pt a) (loc a) j).trans (by rw [row_pt]))

theorem result5 : ((dats m 0 c).arrAt 5 cfg0.N : FVec Ideal S2x1024x512 .f32) (ix3 0 a j) = delta (W m c) (G m c) (M m c) (Q m c) a j := by
  have h := congrFun ((Value.blocks5 m c (pt a) (flush0_5 _)).trans (Value.flushed5 m c (pt a))) (ix3 0 (loc a) j)
  rw [View.read_apply, show ((cfg0.win 5).blk (pt a)).view.emb (ix3 0 (loc a) j) = (ix3 0 a j : S2x1024x512.Idx) from at4 a j] at h
  exact h.trans ((out5 m c (pt a) (loc a) j).trans (by rw [row_pt]))

theorem result6 : ((dats m 0 c).arrAt 6 cfg0.N : FVec Ideal S2x1024x512 .f32) (ix3 0 a j) = newM (G m c) (M m c) a j := by
  have h := congrFun ((Value.blocks6 m c (pt a) (flush0_6 _)).trans (Value.flushed6 m c (pt a))) (ix3 0 (loc a) j)
  rw [View.read_apply, show ((cfg0.win 6).blk (pt a)).view.emb (ix3 0 (loc a) j) = (ix3 0 a j : S2x1024x512.Idx) from at4 a j] at h
  exact h.trans ((out6 m c (pt a) (loc a) j).trans (by rw [row_pt]))

theorem result7 : ((dats m 0 c).arrAt 7 cfg0.N : FVec Ideal S2x1024x512 .f32) (ix3 0 a j) = newQ (G m c) (Q m c) a j := by
  have h := congrFun ((Value.blocks7 m c (pt a) (flush0_7 _)).trans (Value.flushed7 m c (pt a))) (ix3 0 (loc a) j)
  rw [View.read_apply, show ((cfg0.win 7).blk (pt a)).view.emb (ix3 0 (loc a) j) = (ix3 0 a j : S2x1024x512.Idx) from at4 a j] at h
  exact h.trans ((out7 m c (pt a) (loc a) j).trans (by rw [row_pt]))

end Results

end Cert.AdamUp0Ideal.Body

namespace Cert.Proof

open Idealize.ShloMosaic Idealize.SL.Sem Cert.AdamUp0Ideal.Body Cert.Adam
open Cert.AdamUp0ReferenceIdeal.Read

theorem adamup0_defs_eq : Cert.AdamUp0Ideal.defs₀ (F := Bits) = Cert.AdamUp0.defs₀ (F := Bits) := by
  unfold Cert.AdamUp0.defs₀ Cert.AdamUp0Ideal.defs₀
  congr 1
  funext l a
  match l, a with
  | 0, (t, s) => rfl

theorem frame_adamup0 : Cert.quiescent_AdamUp0 := fun m g _ => by
  have h := Cert.AdamUp0Ideal.Gen.frame (F := Bits) m g
  unfold Cert.AdamUp0Ideal.defs at h
  rw [adamup0_defs_eq] at h
  exact h

theorem frame_adamup0_reference : Cert.quiescent_AdamUp0ReferenceIdeal := fun m g _ => by
  refine (θ_run Cert.AdamUp0ReferenceIdeal.defs _ _).mono (fun r h => ?_) (Cert.AdamUp0ReferenceIdeal.Value.run (F := Ideal) m g)
  exact ⟨fun c => (h c).2.2.2.2, sem_eq_zero_of_no_sems (by decide) _⟩

section
variable (w : FVec Ideal Cert.AdamUp0ReferenceIdeal.S2x1024x512 .f32) (gs : FVec Ideal Cert.AdamUp0ReferenceIdeal.S8x1024x512 .bf16)
    (mo v : FVec Ideal Cert.AdamUp0ReferenceIdeal.S2x1024x512 .f32) (a : Fin 1024) (j : Fin 512)

theorem adamup0_grad : val_main_v3 (F := Ideal) gs (ix3 0 a j) = grad gs a j := by
  pointwise [val_main_v3, val_main_v2, val_main_v1, val_main_cst]
  rfl

theorem adamup0_mean : val_main_v10 (F := Ideal) gs mo (ix3 0 a j) = newM gs mo a j := by
  pointwise [val_main_v10, val_main_v9, val_main_v8, val_main_v7, val_main_v6, val_main_v4, val_main_cst_0, val_main_cst_1]
  rw [adamup0_grad]
  rfl

theorem adamup0_power : val_main_v16 (F := Ideal) gs v (ix3 0 a j) = newQ gs v a j := by
  pointwise [val_main_v16, val_main_v15, val_main_v14, val_main_v13, val_main_v12, val_main_v11, val_main_v5, val_main_cst_2, val_main_cst_3]
  rw [adamup0_grad]
  rfl

theorem adamup0_move : val_main_v29 (F := Ideal) w gs mo v (ix3 0 a j) = delta w gs mo v a j := by
  pointwise [val_main_v29, val_main_v28, val_main_v27, val_main_v26, val_main_v25, val_main_v24, val_main_v23, val_main_v22, val_main_v21, val_main_v20, val_main_v19, val_main_v18, val_main_v17,
    val_main_v0, val_main_cst_4, val_main_cst_5, val_main_cst_6, val_main_cst_7, val_main_cst_8]
  rw [adamup0_mean, adamup0_power]
  rfl

theorem adamup0_grads : val_main_v31 (F := Ideal) gs (ix3 0 a j) = grad gs a j := by
  pointwise [val_main_v31]
  exact adamup0_grad gs a j

theorem adamup0_moves : val_main_v33 (F := Ideal) w gs mo v (ix3 0 a j) = delta w gs mo v a j := by
  pointwise [val_main_v33]
  exact adamup0_move w gs mo v a j

theorem adamup0_means : val_main_v35 (F := Ideal) gs mo (ix3 0 a j) = newM gs mo a j := by
  pointwise [val_main_v35]
  exact adamup0_mean gs mo a j

theorem adamup0_powers : val_main_v37 (F := Ideal) gs v (ix3 0 a j) = newQ gs v a j := by
  pointwise [val_main_v37]
  exact adamup0_power gs v a j

end

/-- The mask's shapes fit. -/
instance first_layer_facts : Cert.On_first_layer.Facts where
  bcast_S_S2x1024x512 := by decide

/-- The mask holds on the first layer alone. -/
theorem first_layer_eq {q : Fin 2} (h : BitVec.ofBool ((BitVec.ofNat 32 q.val).slt 1#32) = 1#1) : q = 0 := by
  match q, h with
  | 0, _ => rfl
  | 1, h => exact absurd h (by decide)

theorem first_layer_at {i : (⟨3, ![2, 1024, 512]⟩ : Shape).Idx} (hi : BitVec.ofBool ((BitVec.ofNat 32 (i 0).val).slt 1#32) = 1#1) :
    ∃ (a : Fin 1024) (j : Fin 512), i = ix3 0 a j := by
  obtain ⟨q, a, j, rfl⟩ : ∃ (q : Fin 2) (a : Fin 1024) (j : Fin 512), i = ix3 q a j := ⟨i 0, i 1, i 2, eq_ix3 i⟩
  obtain rfl : q = 0 := first_layer_eq hi
  exact ⟨a, j, rfl⟩

theorem agree_adamup0 : Cert.algebraic_AdamUp0Ideal_AdamUp0ReferenceIdeal_on_first_layer := by
  intro m g m' g' _ hargs
  refine ⟨fun (c : Dev Cert.AdamUp0Ideal.nD) (i : (⟨3, ![2, 1024, 512]⟩ : Shape).Idx) => grad (G m c) (i 1) (i 2),
    fun (c : Dev Cert.AdamUp0Ideal.nD) (i : (⟨3, ![2, 1024, 512]⟩ : Shape).Idx) => delta (W m c) (G m c) (M m c) (Q m c) (i 1) (i 2),
    fun (c : Dev Cert.AdamUp0Ideal.nD) (i : (⟨3, ![2, 1024, 512]⟩ : Shape).Idx) => newM (G m c) (M m c) (i 1) (i 2),
    fun (c : Dev Cert.AdamUp0Ideal.nD) (i : (⟨3, ![2, 1024, 512]⟩ : Shape).Idx) => newQ (G m c) (Q m c) (i 1) (i 2), ?_, ?_⟩
  · refine (θ_run Cert.AdamUp0Ideal.defs _ _).mono (fun r h c => ⟨fun i hi => ?_, fun i hi => ?_, fun i hi => ?_, fun i hi => ?_, (h c).2.2.2.2⟩) (Cert.AdamUp0Ideal.Value.run_blocks (F := Ideal) m g)
    · obtain ⟨a, j, rfl⟩ := first_layer_at hi
      rw [(h c).1]
      exact result4 m c a j
    · obtain ⟨a, j, rfl⟩ := first_layer_at hi
      rw [(h c).2.1]
      exact result5 m c a j
    · obtain ⟨a, j, rfl⟩ := first_layer_at hi
      rw [(h c).2.2.1]
      exact result6 m c a j
    · obtain ⟨a, j, rfl⟩ := first_layer_at hi
      rw [(h c).2.2.2.1]
      exact result7 m c a j
  · refine (θ_run Cert.AdamUp0ReferenceIdeal.defs _ _).mono (fun r h c => ⟨fun i hi => ?_, fun i hi => ?_, fun i hi => ?_, fun i hi => ?_, (h c).2.2.2.2⟩) (Cert.AdamUp0ReferenceIdeal.Value.run (F := Ideal) m' g')
    · obtain ⟨a, j, rfl⟩ := first_layer_at hi
      rw [(h c).1, val_main_v31_eq, (hargs c).2.1]
      exact adamup0_grads _ a j
    · obtain ⟨a, j, rfl⟩ := first_layer_at hi
      rw [(h c).2.1, val_main_v33_eq, (hargs c).1, (hargs c).2.1, (hargs c).2.2.1, (hargs c).2.2.2]
      exact adamup0_moves _ _ _ _ a j
    · obtain ⟨a, j, rfl⟩ := first_layer_at hi
      rw [(h c).2.2.1, val_main_v35_eq, (hargs c).2.1, (hargs c).2.2.1]
      exact adamup0_means _ _ a j
    · obtain ⟨a, j, rfl⟩ := first_layer_at hi
      rw [(h c).2.2.2.1, val_main_v37_eq, (hargs c).2.1, (hargs c).2.2.2]
      exact adamup0_powers _ _ a j

end Cert.Proof

end
-- ==== Proof.AdamDownValue.lean ====
/- The optimiser's step on the second down projection's weights: the frames, and the kernel's results beside the reference's. -/
module

public import proofs.«01_k».proof.Defs
public import proofs.«01_k».proof.Proof.Adam
public import proofs.«01_k».proof.Proof.Gen.AdamDown
public import proofs.«01_k».proof.Proof.Gen.AdamDownIdeal.Value
public import proofs.«01_k».proof.Proof.Gen.AdamDownReferenceIdeal
public import proofs.«01_k».proof.Proof.Gen.AdamDownReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.AdamDownIdeal.Body

open Cert.AdamDownIdeal Cert.AdamDownIdeal.Gen Idealize.ShloMosaic Idealize.ShloMosaic.TcCoe Idealize.SL.Sem Cert.Adam

section Pays
variable (g : FVec Ideal S256x1024 .f32) (w x : FVec Ideal S1x256x1024 .f32) (a : Fin 256) (j : Fin 1024)

theorem pay_sum (s : S8x256x1024.Idx → Elt Ideal .bf16) (p0 p1 p2 p3 p4 p5 p6 p7 : FVec Ideal S1x256x1024 .bf16)
    (h0 : p0 (ix3 0 a j) = s (ix3 0 a j)) (h1 : p1 (ix3 0 a j) = s (ix3 1 a j)) (h2 : p2 (ix3 0 a j) = s (ix3 2 a j)) (h3 : p3 (ix3 0 a j) = s (ix3 3 a j))
    (h4 : p4 (ix3 0 a j) = s (ix3 4 a j)) (h5 : p5 (ix3 0 a j) = s (ix3 5 a j)) (h6 : p6 (ix3 0 a j) = s (ix3 6 a j)) (h7 : p7 (ix3 0 a j) = s (ix3 7 a j)) :
    k0_pay2 (F := Ideal) p0 p1 p2 p3 p4 p5 p6 p7 (ix2 a j) = ∑ d : Fin 8, (s (ix3 d a j) : EReal) := by
  rw [Fin.sum_univ_eight, ← h0, ← h1, ← h2, ← h3, ← h4, ← h5, ← h6, ← h7]
  pointwise [k0_pay2]
theorem pay_grad : k0_pay5 (F := Ideal) g (ix3 0 a j) = g (ix2 a j) := by
  pointwise [k0_pay5]
theorem pay_mean : k0_pay6 (F := Ideal) g x (ix3 0 a j) = mean (g (ix2 a j)) (x (ix3 0 a j)) := by
  pointwise [k0_pay6, k0_pay3]
  rfl
theorem pay_power : k0_pay7 (F := Ideal) g x (ix3 0 a j) = power (g (ix2 a j)) (x (ix3 0 a j)) := by
  pointwise [k0_pay7, k0_pay4]
  rfl
theorem pay_move (v : FVec Ideal S1x256x1024 .f32) : k0_pay1 (F := Ideal) (k0_pay8 (F := Ideal) g x v) (k0_pay9 (F := Ideal) w) (k0_pay10 (F := Ideal)) (ix3 0 a j)
      = move (w (ix3 0 a j)) (mean (g (ix2 a j)) (x (ix3 0 a j))) (power (g (ix2 a j)) (v (ix3 0 a j))) := by
  pointwise [k0_pay1, k0_pay8, k0_pay9, k0_pay10, k0_pay3, k0_pay4]
  rfl

end Pays

section Runs
variable (c : Dev nD) (i : grid0.Coords) (arg1 : Memref sig .tc .vmem S1x256x1024 .f32) (harg1 : arg1.IsWhole) (arg2 : Memref sig .tc .vmem S8x256x1024 .bf16) (harg2 : arg2.IsWhole)
  (arg3 : Memref sig .tc .vmem S1x256x1024 .f32) (harg3 : arg3.IsWhole) (arg4 : Memref sig .tc .vmem S1x256x1024 .f32) (harg4 : arg4.IsWhole)
  (arg9 : Memref sig .tc .vmem S1x256x1024 .f32) (harg9 : arg9.IsWhole) (arg10 : Memref sig .tc .vmem S1x256x1024 .f32) (harg10 : arg10.IsWhole)
  (arg11 : Memref sig .tc .vmem S1x256x1024 .f32) (harg11 : arg11.IsWhole) (arg12 : Memref sig .tc .vmem S1x256x1024 .f32) (harg12 : arg12.IsWhole)
  (x0 : FVec Ideal S1x256x1024 .f32) (x1 : FVec Ideal S8x256x1024 .bf16) (x2 x3 : FVec Ideal S1x256x1024 .f32) (a : Fin 256) (j : Fin 1024)

/-- What a block's sum is at an index. -/
abbrev sent : EReal := ∑ d : Fin 8, x1 (ix3 d a j)

/-- One device's part of the block, loaded by itself. -/
theorem ld_part (d : ℕ) (hd : d < 8) (inb : ∀ e, (![d, 0, 0] : Fin 3 → ℕ) e + S1x256x1024.size e ≤ S8x256x1024.size e) (X : S8x256x1024.Idx → Elt Ideal .bf16) :
    View.ld X (Rect.unit (s := S8x256x1024) ![d, 0, 0] S1x256x1024.size inb) (ix3 0 a j) = X (ix3 ⟨d, hd⟩ a j) := by
  refine View.ld_unit_apply_of _ _ _ _ _ (ix3 ⟨d, hd⟩ a j) ?_
  intro e
  match e with
  | ⟨0, _⟩ => rfl
  | ⟨1, _⟩ => show a.val = 0 + a.val; omega
  | ⟨2, _⟩ => show j.val = 0 + j.val; omega

/-- A load of a whole block reads the block. -/
theorem ld_whole (inb : ∀ e, (![0, 0, 0] : Fin 3 → ℕ) e + S1x256x1024.size e ≤ S1x256x1024.size e) (X : S1x256x1024.Idx → Elt Ideal .f32) :
    View.ld X (Rect.unit (s := S1x256x1024) ![0, 0, 0] ![1, 256, 1024] inb) = X := View.ld_unit_lit inb X (by decide)

theorem run4 : (out0_A_4 (F := Ideal) c i arg1 harg1 arg2 harg2 arg3 harg3 arg4 harg4 arg9 harg9 arg10 harg10 arg11 harg11 arg12 harg12 x0 x1 x2 x3 : FVec Ideal S1x256x1024 .f32) (ix3 0 a j)
    = sent x1 a j := by
  unfold out0_A_4 kernelRun0_A
  dsimp only
  sl_unfold_words
  rw [View.read_writes_junk_eq_canon, View.canon_cons_unit_lit _ _ _ (by decide), pay_grad]
  simp only [View.readAt_eq_ld, harg2.read_unread]
  refine pay_sum a j x1 _ _ _ _ _ _ _ _ ?_ ?_ ?_ ?_ ?_ ?_ ?_ ?_ <;> exact ld_part a j _ (by decide) _ x1

theorem run5 : (out0_A_5 (F := Ideal) c i arg1 harg1 arg2 harg2 arg3 harg3 arg4 harg4 arg9 harg9 arg10 harg10 arg11 harg11 arg12 harg12 x0 x1 x2 x3 : FVec Ideal S1x256x1024 .f32) (ix3 0 a j)
    = move (x0 (ix3 0 a j)) (mean (sent x1 a j) (x2 (ix3 0 a j))) (power (sent x1 a j) (x3 (ix3 0 a j))) := by
  unfold out0_A_5 kernelRun0_A
  dsimp only
  sl_unfold_words
  rw [View.read_writes_junk_eq_canon, View.canon_cons_unit_lit _ _ _ (by decide), pay_move]
  simp only [View.readAt_eq_ld, harg1.read_unread, harg2.read_unread, harg3.read_unread, harg4.read_unread]
  rw [ld_whole _ x0, ld_whole _ x2, ld_whole _ x3]
  congr 2
  all_goals refine pay_sum a j x1 _ _ _ _ _ _ _ _ ?_ ?_ ?_ ?_ ?_ ?_ ?_ ?_ <;> exact ld_part a j _ (by decide) _ x1

theorem run6 : (out0_A_6 (F := Ideal) c i arg1 harg1 arg2 harg2 arg3 harg3 arg4 harg4 arg9 harg9 arg10 harg10 arg11 harg11 arg12 harg12 x0 x1 x2 x3 : FVec Ideal S1x256x1024 .f32) (ix3 0 a j)
    = mean (sent x1 a j) (x2 (ix3 0 a j)) := by
  unfold out0_A_6 kernelRun0_A
  dsimp only
  sl_unfold_words
  rw [View.read_writes_junk_eq_canon, View.canon_cons_unit_lit _ _ _ (by decide), pay_mean]
  simp only [View.readAt_eq_ld, harg2.read_unread, harg3.read_unread]
  rw [ld_whole _ x2]
  congr 1
  refine pay_sum a j x1 _ _ _ _ _ _ _ _ ?_ ?_ ?_ ?_ ?_ ?_ ?_ ?_ <;> exact ld_part a j _ (by decide) _ x1

theorem run7 : (out0_A_7 (F := Ideal) c i arg1 harg1 arg2 harg2 arg3 harg3 arg4 harg4 arg9 harg9 arg10 harg10 arg11 harg11 arg12 harg12 x0 x1 x2 x3 : FVec Ideal S1x256x1024 .f32) (ix3 0 a j)
    = power (sent x1 a j) (x3 (ix3 0 a j)) := by
  unfold out0_A_7 kernelRun0_A
  dsimp only
  sl_unfold_words
  rw [View.read_writes_junk_eq_canon, View.canon_cons_unit_lit _ _ _ (by decide), pay_power]
  simp only [View.readAt_eq_ld, harg2.read_unread, harg4.read_unread]
  rw [ld_whole _ x3]
  congr 1
  refine pay_sum a j x1 _ _ _ _ _ _ _ _ ?_ ?_ ?_ ?_ ?_ ?_ ?_ ?_ <;> exact ld_part a j _ (by decide) _ x1

end Runs

section Run
variable (m : (ℓ : Loc nD τ sig) → Buf (Elt Ideal) ℓ) (c : Dev nD)

/-- The weights, what the eight devices sent, and the two averages before the step. -/
def W : FVec Ideal S2x512x1024 .f32 := m ((c : Thread nD τ).loc main_arg0)
def G : FVec Ideal S8x512x1024 .bf16 := m ((c : Thread nD τ).loc main_arg1)
def M : FVec Ideal S2x512x1024 .f32 := m ((c : Thread nD τ).loc main_arg2)
def Q : FVec Ideal S2x512x1024 .f32 := m ((c : Thread nD τ).loc main_arg3)

theorem ix0 : ∀ t : Fin grid0.N, win0_0.index t = ![1, t.val, 0] := by decide +kernel
theorem ix1 : ∀ t : Fin grid0.N, win0_1.index t = ![0, t.val, 0] := by decide +kernel
theorem ix2' : ∀ t : Fin grid0.N, win0_2.index t = ![1, t.val, 0] := by decide +kernel
theorem ix3' : ∀ t : Fin grid0.N, win0_3.index t = ![1, t.val, 0] := by decide +kernel
theorem ix4' : ∀ t : Fin grid0.N, win0_4.index t = ![1, t.val, 0] := by decide +kernel

/-- The row of the array a row of a block is. -/
abbrev row (t : Fin cfg0.N) (a : Fin 256) : Fin 512 := ⟨t.val * 256 + a.val, by have := lt_of_lt_of_eq t.isLt N_0; omega⟩

/-- The blocks a point reads. -/
abbrev blk0 (t : Fin cfg0.N) : FVec Ideal S1x256x1024 .f32 := iblk m c 0 t
abbrev blk1 (t : Fin cfg0.N) : FVec Ideal S8x256x1024 .bf16 := iblk m c 1 t
abbrev blk2 (t : Fin cfg0.N) : FVec Ideal S1x256x1024 .f32 := iblk m c 2 t
abbrev blk3 (t : Fin cfg0.N) : FVec Ideal S1x256x1024 .f32 := iblk m c 3 t

theorem read0 (t : Fin cfg0.N) (a : Fin 256) (j : Fin 1024) : blk0 m c t (ix3 0 a j) = W m c (ix3 1 (row t a) j) := by
  unfold blk0 iblk
  rw [View.read_apply]
  show W m c _ = _
  congr 1
  funext x
  apply Fin.ext
  match x with
  | ⟨0, _⟩ => show win0_0.index t 0 * 1 + 1 * 0 = 1; rw [congrFun (ix0 t) 0]; rfl
  | ⟨1, _⟩ => show win0_0.index t 1 * 256 + 1 * a.val = t.val * 256 + a.val; rw [congrFun (ix0 t) 1]; show t.val * 256 + 1 * a.val = _; omega
  | ⟨2, _⟩ => show win0_0.index t 2 * 1024 + 1 * j.val = j.val; rw [congrFun (ix0 t) 2]; show 0 * 1024 + 1 * j.val = _; omega

theorem read1 (t : Fin cfg0.N) (d : Fin 8) (a : Fin 256) (j : Fin 1024) : blk1 m c t (ix3 d a j) = G m c (ix3 d (row t a) j) := by
  unfold blk1 iblk
  rw [View.read_apply]
  show G m c _ = _
  congr 1
  funext x
  apply Fin.ext
  match x with
  | ⟨0, _⟩ => show win0_1.index t 0 * 8 + 1 * d.val = d.val; rw [congrFun (ix1 t) 0]; show 0 * 8 + 1 * d.val = _; omega
  | ⟨1, _⟩ => show win0_1.index t 1 * 256 + 1 * a.val = t.val * 256 + a.val; rw [congrFun (ix1 t) 1]; show t.val * 256 + 1 * a.val = _; omega
  | ⟨2, _⟩ => show win0_1.index t 2 * 1024 + 1 * j.val = j.val; rw [congrFun (ix1 t) 2]; show 0 * 1024 + 1 * j.val = _; omega

theorem read2 (t : Fin cfg0.N) (a : Fin 256) (j : Fin 1024) : blk2 m c t (ix3 0 a j) = M m c (ix3 1 (row t a) j) := by
  unfold blk2 iblk
  rw [View.read_apply]
  show M m c _ = _
  congr 1
  funext x
  apply Fin.ext
  match x with
  | ⟨0, _⟩ => show win0_2.index t 0 * 1 + 1 * 0 = 1; rw [congrFun (ix2' t) 0]; rfl
  | ⟨1, _⟩ => show win0_2.index t 1 * 256 + 1 * a.val = t.val * 256 + a.val; rw [congrFun (ix2' t) 1]; show t.val * 256 + 1 * a.val = _; omega
  | ⟨2, _⟩ => show win0_2.index t 2 * 1024 + 1 * j.val = j.val; rw [congrFun (ix2' t) 2]; show 0 * 1024 + 1 * j.val = _; omega

theorem read3 (t : Fin cfg0.N) (a : Fin 256) (j : Fin 1024) : blk3 m c t (ix3 0 a j) = Q m c (ix3 1 (row t a) j) := by
  unfold blk3 iblk
  rw [View.read_apply]
  show Q m c _ = _
  congr 1
  funext x
  apply Fin.ext
  match x with
  | ⟨0, _⟩ => show win0_3.index t 0 * 1 + 1 * 0 = 1; rw [congrFun (ix3' t) 0]; rfl
  | ⟨1, _⟩ => show win0_3.index t 1 * 256 + 1 * a.val = t.val * 256 + a.val; rw [congrFun (ix3' t) 1]; show t.val * 256 + 1 * a.val = _; omega
  | ⟨2, _⟩ => show win0_3.index t 2 * 1024 + 1 * j.val = j.val; rw [congrFun (ix3' t) 2]; show 0 * 1024 + 1 * j.val = _; omega

end Run

/-- The second layer's four results at an index, from the four arguments. -/
def grad (G : FVec Ideal S8x512x1024 .bf16) (a : Fin 512) (j : Fin 1024) : EReal := ∑ d : Fin 8, G (ix3 d a j)
def newM (G : FVec Ideal S8x512x1024 .bf16) (M : FVec Ideal S2x512x1024 .f32) (a : Fin 512) (j : Fin 1024) : EReal := mean (grad G a j) (M (ix3 1 a j))
def newQ (G : FVec Ideal S8x512x1024 .bf16) (Q : FVec Ideal S2x512x1024 .f32) (a : Fin 512) (j : Fin 1024) : EReal := power (grad G a j) (Q (ix3 1 a j))
def delta (W : FVec Ideal S2x512x1024 .f32) (G : FVec Ideal S8x512x1024 .bf16) (M Q : FVec Ideal S2x512x1024 .f32) (a : Fin 512) (j : Fin 1024) : EReal :=
  move (W (ix3 1 a j)) (newM G M a j) (newQ G Q a j)

section Outs
variable (m : (ℓ : Loc nD τ sig) → Buf (Elt Ideal) ℓ) (c : Dev nD) (t : Fin cfg0.N) (a : Fin 256) (j : Fin 1024)

theorem sum_at : sent (blk1 m c t) a j = grad (G m c) (row t a) j :=
  Finset.sum_congr rfl fun d _ => read1 m c t d a j

theorem out4 : ((outsAt0 m c t).1 : FVec Ideal S1x256x1024 .f32) (ix3 0 a j) = grad (G m c) (row t a) j := by
  simp only [outsAt0]
  rw [run4]
  exact sum_at m c t a j

theorem out5 : ((outsAt0 m c t).2.1 : FVec Ideal S1x256x1024 .f32) (ix3 0 a j) = delta (W m c) (G m c) (M m c) (Q m c) (row t a) j := by
  simp only [outsAt0]
  rw [run5]
  rw [sum_at]
  show move (blk0 m c t (ix3 0 a j)) (mean _ (blk2 m c t (ix3 0 a j))) (power _ (blk3 m c t (ix3 0 a j))) = _
  rw [read0, read2, read3]
  rfl

theorem out6 : ((outsAt0 m c t).2.2.1 : FVec Ideal S1x256x1024 .f32) (ix3 0 a j) = newM (G m c) (M m c) (row t a) j := by
  simp only [outsAt0]
  rw [run6]
  rw [sum_at]
  show mean _ (blk2 m c t (ix3 0 a j)) = _
  rw [read2]
  rfl

theorem out7 : ((outsAt0 m c t).2.2.2 : FVec Ideal S1x256x1024 .f32) (ix3 0 a j) = newQ (G m c) (Q m c) (row t a) j := by
  simp only [outsAt0]
  rw [run7]
  rw [sum_at]
  show power _ (blk3 m c t (ix3 0 a j)) = _
  rw [read3]
  rfl

end Outs

section Results
variable (m : (ℓ : Loc nD τ sig) → Buf (Elt Ideal) ℓ) (c : Dev nD) (a : Fin 512) (j : Fin 1024)

/-- The point that writes a row, and the row in its block. -/
abbrev pt : Fin cfg0.N := ⟨a.val / 256, by rw [show cfg0.N = 2 from N_0]; omega⟩
abbrev loc : Fin 256 := ⟨a.val % 256, by omega⟩

theorem row_pt : row (pt a) (loc a) = a := Fin.ext (by show a.val / 256 * 256 + a.val % 256 = a.val; omega)

theorem emb (i : S2x512x1024.Idx) (h0 : (i 0).val = 1) (h1 : (i 1).val = win0_4.index (pt a) 1 * 256 + 1 * (a.val % 256)) (h2 : (i 2).val = j.val) : i = ix3 1 a j := by
  funext x
  apply Fin.ext
  match x with
  | ⟨0, _⟩ => exact h0
  | ⟨1, _⟩ =>
    refine h1.trans ?_
    rw [congrFun (ix4' (pt a)) 1]
    show a.val / 256 * 256 + 1 * (a.val % 256) = a.val
    omega
  | ⟨2, _⟩ => exact h2

theorem at4 : ((cfg0.win 4).blk (pt a)).view.emb (ix3 0 (loc a) j) = (ix3 1 a j : S2x512x1024.Idx) :=
  emb a j _ (by show win0_4.index (pt a) 0 * 1 + 1 * 0 = 1; rw [congrFun (ix4' (pt a)) 0]; rfl) rfl
    (by show win0_4.index (pt a) 2 * 1024 + 1 * j.val = j.val; rw [congrFun (ix4' (pt a)) 2]; show 0 * 1024 + 1 * j.val = j.val; omega)

theorem result4 : ((dats m 0 c).arrAt 4 cfg0.N : FVec Ideal S2x512x1024 .f32) (ix3 1 a j) = grad (G m c) a j := by
  have h := congrFun ((Value.blocks4 m c (pt a) (flush0_4 _)).trans (Value.flushed4 m c (pt a))) (ix3 0 (loc a) j)
  rw [View.read_apply, at4] at h
  exact h.trans ((out4 m c (pt a) (loc a) j).trans (by rw [row_pt]))

theorem result5 : ((dats m 0 c).arrAt 5 cfg0.N : FVec Ideal S2x512x1024 .f32) (ix3 1 a j) = delta (W m c) (G m c) (M m c) (Q m c) a j := by
  have h := congrFun ((Value.blocks5 m c (pt a) (flush0_5 _)).trans (Value.flushed5 m c (pt a))) (ix3 0 (loc a) j)
  rw [View.read_apply, show ((cfg0.win 5).blk (pt a)).view.emb (ix3 0 (loc a) j) = (ix3 1 a j : S2x512x1024.Idx) from at4 a j] at h
  exact h.trans ((out5 m c (pt a) (loc a) j).trans (by rw [row_pt]))

theorem result6 : ((dats m 0 c).arrAt 6 cfg0.N : FVec Ideal S2x512x1024 .f32) (ix3 1 a j) = newM (G m c) (M m c) a j := by
  have h := congrFun ((Value.blocks6 m c (pt a) (flush0_6 _)).trans (Value.flushed6 m c (pt a))) (ix3 0 (loc a) j)
  rw [View.read_apply, show ((cfg0.win 6).blk (pt a)).view.emb (ix3 0 (loc a) j) = (ix3 1 a j : S2x512x1024.Idx) from at4 a j] at h
  exact h.trans ((out6 m c (pt a) (loc a) j).trans (by rw [row_pt]))

theorem result7 : ((dats m 0 c).arrAt 7 cfg0.N : FVec Ideal S2x512x1024 .f32) (ix3 1 a j) = newQ (G m c) (Q m c) a j := by
  have h := congrFun ((Value.blocks7 m c (pt a) (flush0_7 _)).trans (Value.flushed7 m c (pt a))) (ix3 0 (loc a) j)
  rw [View.read_apply, show ((cfg0.win 7).blk (pt a)).view.emb (ix3 0 (loc a) j) = (ix3 1 a j : S2x512x1024.Idx) from at4 a j] at h
  exact h.trans ((out7 m c (pt a) (loc a) j).trans (by rw [row_pt]))

/-- The first layer's results are the ones passed in. -/
theorem host4 : V m c main_v0_0 = m ((c : Thread nD τ).loc main_arg4) := by
  entry_read
  rfl
theorem host5 : V m c main_v0_1 = m ((c : Thread nD τ).loc main_arg5) := by
  entry_read
  rfl
theorem host6 : V m c main_v0_2 = m ((c : Thread nD τ).loc main_arg6) := by
  entry_read
  rfl
theorem host7 : V m c main_v0_3 = m ((c : Thread nD τ).loc main_arg7) := by
  entry_read
  rfl

theorem apart (t : Fin cfg0.N) : (ix3 0 a j : S2x512x1024.Idx) ∉ ((cfg0.win 4).blk t).view.set := by
  intro h
  obtain ⟨y, -, hy⟩ := Finset.mem_map.mp h
  have h0 : win0_4.index t 0 * 1 + 1 * (y 0).val = 0 := congrArg Fin.val (congrFun hy 0)
  rw [congrFun (ix4' t) 0] at h0
  exact absurd h0 (by show ¬(1 * 1 + 1 * (y 0).val = 0); omega)

theorem kept4 : ((dats m 0 c).arrAt 4 cfg0.N : FVec Ideal S2x512x1024 .f32) (ix3 0 a j) = (m ((c : Thread nD τ).loc main_arg4) : FVec Ideal S2x512x1024 .f32) (ix3 0 a j) :=
  (Value.entry4 m c _ fun t _ => apart a j t).trans (congrFun (host4 m c) _)
theorem kept5 : ((dats m 0 c).arrAt 5 cfg0.N : FVec Ideal S2x512x1024 .f32) (ix3 0 a j) = (m ((c : Thread nD τ).loc main_arg5) : FVec Ideal S2x512x1024 .f32) (ix3 0 a j) :=
  (Value.entry5 m c _ fun t _ => apart a j t).trans (congrFun (host5 m c) _)
theorem kept6 : ((dats m 0 c).arrAt 6 cfg0.N : FVec Ideal S2x512x1024 .f32) (ix3 0 a j) = (m ((c : Thread nD τ).loc main_arg6) : FVec Ideal S2x512x1024 .f32) (ix3 0 a j) :=
  (Value.entry6 m c _ fun t _ => apart a j t).trans (congrFun (host6 m c) _)
theorem kept7 : ((dats m 0 c).arrAt 7 cfg0.N : FVec Ideal S2x512x1024 .f32) (ix3 0 a j) = (m ((c : Thread nD τ).loc main_arg7) : FVec Ideal S2x512x1024 .f32) (ix3 0 a j) :=
  (Value.entry7 m c _ fun t _ => apart a j t).trans (congrFun (host7 m c) _)

end Results

/-- The first layer of one array above another layer. -/
def join (old : FVec Ideal S2x512x1024 .f32) (new : Fin 512 → Fin 1024 → EReal) (i : S2x512x1024.Idx) : EReal :=
  if (i 0).val = 0 then old i else new (i 1) (i 2)

end Cert.AdamDownIdeal.Body

namespace Cert.Proof

open Idealize.ShloMosaic Idealize.SL.Sem Cert.AdamDownIdeal.Body Cert.Adam
open Cert.AdamDownReferenceIdeal.Read

theorem adamdown_defs_eq : Cert.AdamDownIdeal.defs₀ (F := Bits) = Cert.AdamDown.defs₀ (F := Bits) := by
  unfold Cert.AdamDown.defs₀ Cert.AdamDownIdeal.defs₀
  congr 1
  funext l a
  match l, a with
  | 0, (t, s) => rfl

theorem frame_adamdown : Cert.quiescent_AdamDown := fun m g _ => by
  have h := Cert.AdamDownIdeal.Gen.frame (F := Bits) m g
  unfold Cert.AdamDownIdeal.defs at h
  rw [adamdown_defs_eq] at h
  exact h

theorem frame_adamdown_reference : Cert.quiescent_AdamDownReferenceIdeal := fun m g _ => by
  refine (θ_run Cert.AdamDownReferenceIdeal.defs _ _).mono (fun r h => ?_) (Cert.AdamDownReferenceIdeal.Value.run (F := Ideal) m g)
  exact ⟨fun c => (h c).2.2.2.2, sem_eq_zero_of_no_sems (by decide) _⟩

section
variable (w : FVec Ideal Cert.AdamDownReferenceIdeal.S2x512x1024 .f32) (gs : FVec Ideal Cert.AdamDownReferenceIdeal.S8x512x1024 .bf16)
    (mo v old : FVec Ideal Cert.AdamDownReferenceIdeal.S2x512x1024 .f32) (a : Fin 512) (j : Fin 1024)

theorem adamdown_grad : val_main_v3 (F := Ideal) gs (ix3 0 a j) = grad gs a j := by
  pointwise [val_main_v3, val_main_v2, val_main_v1, val_main_cst]
  rfl

theorem adamdown_mean : val_main_v10 (F := Ideal) gs mo (ix3 0 a j) = newM gs mo a j := by
  pointwise [val_main_v10, val_main_v9, val_main_v8, val_main_v7, val_main_v6, val_main_v4, val_main_cst_0, val_main_cst_1]
  rw [adamdown_grad]
  rfl

theorem adamdown_power : val_main_v16 (F := Ideal) gs v (ix3 0 a j) = newQ gs v a j := by
  pointwise [val_main_v16, val_main_v15, val_main_v14, val_main_v13, val_main_v12, val_main_v11, val_main_v5, val_main_cst_2, val_main_cst_3]
  rw [adamdown_grad]
  rfl

theorem adamdown_move : val_main_v29 (F := Ideal) w gs mo v (ix3 0 a j) = delta w gs mo v a j := by
  pointwise [val_main_v29, val_main_v28, val_main_v27, val_main_v26, val_main_v25, val_main_v24, val_main_v23, val_main_v22, val_main_v21, val_main_v20, val_main_v19, val_main_v18, val_main_v17,
    val_main_v0, val_main_cst_4, val_main_cst_5, val_main_cst_6, val_main_cst_7, val_main_cst_8]
  rw [adamdown_mean, adamdown_power]
  rfl

end

/-- Two arrays of two matrices agree if both matrices do at every row and column. -/
theorem adamdown_ext {f h : (⟨3, ![2, 512, 1024]⟩ : Shape).Idx → EReal} (e0 : ∀ (a : Fin 512) (j : Fin 1024), f (ix3 0 a j) = h (ix3 0 a j))
    (e1 : ∀ (a : Fin 512) (j : Fin 1024), f (ix3 1 a j) = h (ix3 1 a j)) : f = h := by
  funext i
  obtain ⟨q, a, j, rfl⟩ : ∃ (q : Fin 2) (a : Fin 512) (j : Fin 1024), i = ix3 q a j := ⟨i 0, i 1, i 2, eq_ix3 i⟩
  match q with
  | 0 => exact e0 a j
  | 1 => exact e1 a j

section
variable (w : FVec Ideal Cert.AdamDownReferenceIdeal.S2x512x1024 .f32) (gs : FVec Ideal Cert.AdamDownReferenceIdeal.S8x512x1024 .bf16)
    (mo v old : FVec Ideal Cert.AdamDownReferenceIdeal.S2x512x1024 .f32)

theorem adamdown_grads : val_main_v31 (F := Ideal) gs old = join old (grad gs) := by
  refine adamdown_ext (fun a j => ?_) (fun a j => ?_)
  · pointwise [val_main_v31, val_main_v30]
    rfl
  · pointwise [val_main_v31]
    exact adamdown_grad gs a j

theorem adamdown_moves : val_main_v33 (F := Ideal) w gs mo v old = join old (delta w gs mo v) := by
  refine adamdown_ext (fun a j => ?_) (fun a j => ?_)
  · pointwise [val_main_v33, val_main_v32]
    rfl
  · pointwise [val_main_v33]
    exact adamdown_move w gs mo v a j

theorem adamdown_means : val_main_v35 (F := Ideal) gs mo old = join old (newM gs mo) := by
  refine adamdown_ext (fun a j => ?_) (fun a j => ?_)
  · pointwise [val_main_v35, val_main_v34]
    rfl
  · pointwise [val_main_v35]
    exact adamdown_mean gs mo a j

theorem adamdown_powers : val_main_v37 (F := Ideal) gs v old = join old (newQ gs v) := by
  refine adamdown_ext (fun a j => ?_) (fun a j => ?_)
  · pointwise [val_main_v37, val_main_v36]
    rfl
  · pointwise [val_main_v37]
    exact adamdown_power gs v a j

end

theorem agree_adamdown : Cert.algebraic_AdamDownIdeal_AdamDownReferenceIdeal := by
  intro m g m' g' _ hargs
  refine ⟨fun (c : Dev Cert.AdamDownIdeal.nD) => join (m ((c.tc : Thread Cert.AdamDownIdeal.nD Cert.AdamDownIdeal.τ).loc Cert.AdamDownIdeal.main_arg4)) (grad (G m c)),
    fun (c : Dev Cert.AdamDownIdeal.nD) => join (m ((c.tc : Thread Cert.AdamDownIdeal.nD Cert.AdamDownIdeal.τ).loc Cert.AdamDownIdeal.main_arg5)) (delta (W m c) (G m c) (M m c) (Q m c)),
    fun (c : Dev Cert.AdamDownIdeal.nD) => join (m ((c.tc : Thread Cert.AdamDownIdeal.nD Cert.AdamDownIdeal.τ).loc Cert.AdamDownIdeal.main_arg6)) (newM (G m c) (M m c)),
    fun (c : Dev Cert.AdamDownIdeal.nD) => join (m ((c.tc : Thread Cert.AdamDownIdeal.nD Cert.AdamDownIdeal.τ).loc Cert.AdamDownIdeal.main_arg7)) (newQ (G m c) (Q m c)), ?_, ?_⟩
  · refine (θ_run Cert.AdamDownIdeal.defs _ _).mono (fun r h c => ⟨?_, ?_, ?_, ?_, (h c).2.2.2.2⟩) (Cert.AdamDownIdeal.Value.run_blocks (F := Ideal) m g)
    · rw [(h c).1]
      exact adamdown_ext (fun a j => kept4 m c a j) fun a j => result4 m c a j
    · rw [(h c).2.1]
      exact adamdown_ext (fun a j => kept5 m c a j) fun a j => result5 m c a j
    · rw [(h c).2.2.1]
      exact adamdown_ext (fun a j => kept6 m c a j) fun a j => result6 m c a j
    · rw [(h c).2.2.2.1]
      exact adamdown_ext (fun a j => kept7 m c a j) fun a j => result7 m c a j
  · refine (θ_run Cert.AdamDownReferenceIdeal.defs _ _).mono (fun r h c => ⟨?_, ?_, ?_, ?_, (h c).2.2.2.2⟩) (Cert.AdamDownReferenceIdeal.Value.run (F := Ideal) m' g')
    · rw [(h c).1, val_main_v31_eq, (hargs c).2.1, (hargs c).2.2.2.2.1]
      exact adamdown_grads _ _
    · rw [(h c).2.1, val_main_v33_eq, (hargs c).1, (hargs c).2.1, (hargs c).2.2.1, (hargs c).2.2.2.1, (hargs c).2.2.2.2.2.1]
      exact adamdown_moves _ _ _ _ _
    · rw [(h c).2.2.1, val_main_v35_eq, (hargs c).2.1, (hargs c).2.2.1, (hargs c).2.2.2.2.2.2.1]
      exact adamdown_means _ _ _
    · rw [(h c).2.2.2.1, val_main_v37_eq, (hargs c).2.1, (hargs c).2.2.2.1, (hargs c).2.2.2.2.2.2.2]
      exact adamdown_powers _ _ _

end Cert.Proof

end
-- ==== Proof.AdamOutValue.lean ====
/- The optimiser's step on an output projection's weights: the frames, and the kernel's results beside the reference's. -/
module

public import proofs.«01_k».proof.Defs
public import proofs.«01_k».proof.Proof.Adam
public import proofs.«01_k».proof.Proof.Gen.AdamOut
public import proofs.«01_k».proof.Proof.Gen.AdamOutIdeal.Value
public import proofs.«01_k».proof.Proof.Gen.AdamOutReferenceIdeal
public import proofs.«01_k».proof.Proof.Gen.AdamOutReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.AdamOutIdeal.Body

open Cert.AdamOutIdeal Cert.AdamOutIdeal.Gen Idealize.ShloMosaic Idealize.ShloMosaic.TcCoe Idealize.SL.Sem Cert.Adam

section Pays
variable (g : FVec Ideal S128x1024 .f32) (w x : FVec Ideal S1x128x1024 .f32) (a : Fin 128) (j : Fin 1024)

theorem pay_sum (s : FVec Ideal S8x128x1024 .bf16) (q : FVec Ideal S1x128x1024 .f32) :
    k0_pay11 (F := Ideal) q s w x (ix2 a j) = ∑ d : Fin 8, s (ix3 d a j) := by
  rw [Fin.sum_univ_eight]
  unfold k0_pay11
  pointwise [k0_pay2]
theorem pay_grad : k0_pay5 (F := Ideal) g (ix3 0 a j) = g (ix2 a j) := by
  pointwise [k0_pay5]
theorem pay_mean : k0_pay6 (F := Ideal) g x (ix3 0 a j) = mean (g (ix2 a j)) (x (ix3 0 a j)) := by
  pointwise [k0_pay6, k0_pay3]
  rfl
theorem pay_power : k0_pay7 (F := Ideal) g x (ix3 0 a j) = power (g (ix2 a j)) (x (ix3 0 a j)) := by
  pointwise [k0_pay7, k0_pay4]
  rfl
theorem pay_move (v : FVec Ideal S1x128x1024 .f32) : k0_pay1 (F := Ideal) (k0_pay8 (F := Ideal) g x v) (k0_pay9 (F := Ideal) w) (k0_pay10 (F := Ideal)) (ix3 0 a j)
      = move (w (ix3 0 a j)) (mean (g (ix2 a j)) (x (ix3 0 a j))) (power (g (ix2 a j)) (v (ix3 0 a j))) := by
  pointwise [k0_pay1, k0_pay8, k0_pay9, k0_pay10, k0_pay3, k0_pay4]
  rfl

end Pays

section Run
variable (m : (ℓ : Loc nD τ sig) → Buf (Elt Ideal) ℓ) (c : Dev nD)

/-- The weights, what the eight devices sent, and the two averages before the step. -/
def W : FVec Ideal S1x128x1024 .f32 := m ((c : Thread nD τ).loc main_arg0)
def G : FVec Ideal S8x128x1024 .bf16 := m ((c : Thread nD τ).loc main_arg1)
def M : FVec Ideal S1x128x1024 .f32 := m ((c : Thread nD τ).loc main_arg2)
def Q : FVec Ideal S1x128x1024 .f32 := m ((c : Thread nD τ).loc main_arg3)

theorem ix0 : ∀ t : Fin grid0.N, win0_0.index t = ![0, t.val, 0] := by decide +kernel
theorem ix1 : ∀ t : Fin grid0.N, win0_1.index t = ![0, t.val, 0] := by decide +kernel
theorem ix2' : ∀ t : Fin grid0.N, win0_2.index t = ![0, t.val, 0] := by decide +kernel
theorem ix3' : ∀ t : Fin grid0.N, win0_3.index t = ![0, t.val, 0] := by decide +kernel
theorem ix4' : ∀ t : Fin grid0.N, win0_4.index t = ![0, t.val, 0] := by decide +kernel

/-- The row of the array a row of a block is. -/
abbrev row (t : Fin cfg0.N) (a : Fin 128) : Fin 128 := ⟨t.val * 128 + a.val, by have := lt_of_lt_of_eq t.isLt N_0; omega⟩

/-- The blocks a point reads. -/
abbrev blk0 (t : Fin cfg0.N) : FVec Ideal S1x128x1024 .f32 := iblk m c 0 t
abbrev blk1 (t : Fin cfg0.N) : FVec Ideal S8x128x1024 .bf16 := iblk m c 1 t
abbrev blk2 (t : Fin cfg0.N) : FVec Ideal S1x128x1024 .f32 := iblk m c 2 t
abbrev blk3 (t : Fin cfg0.N) : FVec Ideal S1x128x1024 .f32 := iblk m c 3 t

theorem read0 (t : Fin cfg0.N) (a : Fin 128) (j : Fin 1024) : blk0 m c t (ix3 0 a j) = W m c (ix3 0 (row t a) j) := by
  unfold blk0 iblk
  rw [View.read_apply]
  show W m c _ = _
  congr 1
  funext x
  apply Fin.ext
  match x with
  | ⟨0, _⟩ => show win0_0.index t 0 * 1 + 1 * 0 = 0; rw [congrFun (ix0 t) 0]; rfl
  | ⟨1, _⟩ => show win0_0.index t 1 * 128 + 1 * a.val = t.val * 128 + a.val; rw [congrFun (ix0 t) 1]; show t.val * 128 + 1 * a.val = _; omega
  | ⟨2, _⟩ => show win0_0.index t 2 * 1024 + 1 * j.val = j.val; rw [congrFun (ix0 t) 2]; show 0 * 1024 + 1 * j.val = _; omega

theorem read1 (t : Fin cfg0.N) (d : Fin 8) (a : Fin 128) (j : Fin 1024) : blk1 m c t (ix3 d a j) = G m c (ix3 d (row t a) j) := by
  unfold blk1 iblk
  rw [View.read_apply]
  show G m c _ = _
  congr 1
  funext x
  apply Fin.ext
  match x with
  | ⟨0, _⟩ => show win0_1.index t 0 * 8 + 1 * d.val = d.val; rw [congrFun (ix1 t) 0]; show 0 * 8 + 1 * d.val = _; omega
  | ⟨1, _⟩ => show win0_1.index t 1 * 128 + 1 * a.val = t.val * 128 + a.val; rw [congrFun (ix1 t) 1]; show t.val * 128 + 1 * a.val = _; omega
  | ⟨2, _⟩ => show win0_1.index t 2 * 1024 + 1 * j.val = j.val; rw [congrFun (ix1 t) 2]; show 0 * 1024 + 1 * j.val = _; omega

theorem read2 (t : Fin cfg0.N) (a : Fin 128) (j : Fin 1024) : blk2 m c t (ix3 0 a j) = M m c (ix3 0 (row t a) j) := by
  unfold blk2 iblk
  rw [View.read_apply]
  show M m c _ = _
  congr 1
  funext x
  apply Fin.ext
  match x with
  | ⟨0, _⟩ => show win0_2.index t 0 * 1 + 1 * 0 = 0; rw [congrFun (ix2' t) 0]; rfl
  | ⟨1, _⟩ => show win0_2.index t 1 * 128 + 1 * a.val = t.val * 128 + a.val; rw [congrFun (ix2' t) 1]; show t.val * 128 + 1 * a.val = _; omega
  | ⟨2, _⟩ => show win0_2.index t 2 * 1024 + 1 * j.val = j.val; rw [congrFun (ix2' t) 2]; show 0 * 1024 + 1 * j.val = _; omega

theorem read3 (t : Fin cfg0.N) (a : Fin 128) (j : Fin 1024) : blk3 m c t (ix3 0 a j) = Q m c (ix3 0 (row t a) j) := by
  unfold blk3 iblk
  rw [View.read_apply]
  show Q m c _ = _
  congr 1
  funext x
  apply Fin.ext
  match x with
  | ⟨0, _⟩ => show win0_3.index t 0 * 1 + 1 * 0 = 0; rw [congrFun (ix3' t) 0]; rfl
  | ⟨1, _⟩ => show win0_3.index t 1 * 128 + 1 * a.val = t.val * 128 + a.val; rw [congrFun (ix3' t) 1]; show t.val * 128 + 1 * a.val = _; omega
  | ⟨2, _⟩ => show win0_3.index t 2 * 1024 + 1 * j.val = j.val; rw [congrFun (ix3' t) 2]; show 0 * 1024 + 1 * j.val = _; omega

end Run

/-- The four results at an index, from the four arguments. -/
def grad (G : FVec Ideal S8x128x1024 .bf16) (a : Fin 128) (j : Fin 1024) : EReal := ∑ d : Fin 8, G (ix3 d a j)
def newM (G : FVec Ideal S8x128x1024 .bf16) (M : FVec Ideal S1x128x1024 .f32) (a : Fin 128) (j : Fin 1024) : EReal := mean (grad G a j) (M (ix3 0 a j))
def newQ (G : FVec Ideal S8x128x1024 .bf16) (Q : FVec Ideal S1x128x1024 .f32) (a : Fin 128) (j : Fin 1024) : EReal := power (grad G a j) (Q (ix3 0 a j))
def delta (W : FVec Ideal S1x128x1024 .f32) (G : FVec Ideal S8x128x1024 .bf16) (M Q : FVec Ideal S1x128x1024 .f32) (a : Fin 128) (j : Fin 1024) : EReal :=
  move (W (ix3 0 a j)) (newM G M a j) (newQ G Q a j)

section Outs
variable (m : (ℓ : Loc nD τ sig) → Buf (Elt Ideal) ℓ) (c : Dev nD) (t : Fin cfg0.N) (a : Fin 128) (j : Fin 1024)

theorem sum_at : k0_pay11 (F := Ideal) (blk0 m c t) (blk1 m c t) (blk2 m c t) (blk3 m c t) (ix2 a j) = grad (G m c) (row t a) j := by
  rw [pay_sum]
  exact Finset.sum_congr rfl fun d _ => read1 m c t d a j

theorem out4 : out0_4 (F := Ideal) (blk0 m c t) (blk1 m c t) (blk2 m c t) (blk3 m c t) (ix3 0 a j) = grad (G m c) (row t a) j := by
  unfold out0_4
  rw [View.canon_cons_unit_lit _ _ _ (by decide), pay_grad, sum_at]

theorem out5 : out0_5 (F := Ideal) (blk0 m c t) (blk1 m c t) (blk2 m c t) (blk3 m c t) (ix3 0 a j) = delta (W m c) (G m c) (M m c) (Q m c) (row t a) j := by
  unfold out0_5
  rw [View.canon_cons_unit_lit _ _ _ (by decide), View.ld_unit_lit _ _ (by decide), View.ld_unit_lit _ _ (by decide), View.ld_unit_lit _ _ (by decide),
    pay_move, sum_at, read0, read2, read3]
  rfl

theorem out6 : out0_6 (F := Ideal) (blk0 m c t) (blk1 m c t) (blk2 m c t) (blk3 m c t) (ix3 0 a j) = newM (G m c) (M m c) (row t a) j := by
  unfold out0_6
  rw [View.canon_cons_unit_lit _ _ _ (by decide), View.ld_unit_lit _ _ (by decide), pay_mean, sum_at, read2]
  rfl

theorem out7 : out0_7 (F := Ideal) (blk0 m c t) (blk1 m c t) (blk2 m c t) (blk3 m c t) (ix3 0 a j) = newQ (G m c) (Q m c) (row t a) j := by
  unfold out0_7
  rw [View.canon_cons_unit_lit _ _ _ (by decide), View.ld_unit_lit _ _ (by decide), pay_power, sum_at, read3]
  rfl

end Outs

section Results
variable (m : (ℓ : Loc nD τ sig) → Buf (Elt Ideal) ℓ) (c : Dev nD) (a : Fin 128) (j : Fin 1024)

/-- The point that writes a row, and the row in its block. -/
abbrev pt : Fin cfg0.N := ⟨a.val / 128, by rw [show cfg0.N = 1 from N_0]; omega⟩
abbrev loc : Fin 128 := ⟨a.val % 128, by omega⟩

theorem row_pt : row (pt a) (loc a) = a := Fin.ext (by show a.val / 128 * 128 + a.val % 128 = a.val; omega)

theorem emb (i : S1x128x1024.Idx) (h0 : (i 0).val = 0) (h1 : (i 1).val = win0_4.index (pt a) 1 * 128 + 1 * (a.val % 128)) (h2 : (i 2).val = j.val) : i = ix3 0 a j := by
  funext x
  apply Fin.ext
  match x with
  | ⟨0, _⟩ => exact h0
  | ⟨1, _⟩ =>
    refine h1.trans ?_
    rw [congrFun (ix4' (pt a)) 1]
    show a.val / 128 * 128 + 1 * (a.val % 128) = a.val
    omega
  | ⟨2, _⟩ => exact h2

theorem at4 : ((cfg0.win 4).blk (pt a)).view.emb (ix3 0 (loc a) j) = (ix3 0 a j : S1x128x1024.Idx) :=
  emb a j _ (by show win0_4.index (pt a) 0 * 1 + 1 * 0 = 0; rw [congrFun (ix4' (pt a)) 0]; rfl) rfl
    (by show win0_4.index (pt a) 2 * 1024 + 1 * j.val = j.val; rw [congrFun (ix4' (pt a)) 2]; show 0 * 1024 + 1 * j.val = j.val; omega)

theorem result4 : ((dats m 0 c).arrAt 4 cfg0.N : FVec Ideal S1x128x1024 .f32) (ix3 0 a j) = grad (G m c) a j := by
  have h := congrFun ((Value.blocks4 m c (pt a) (flush0_4 _)).trans (Value.flushed4 m c (pt a))) (ix3 0 (loc a) j)
  rw [View.read_apply, at4] at h
  exact h.trans ((out4 m c (pt a) (loc a) j).trans (by rw [row_pt]))

theorem result5 : ((dats m 0 c).arrAt 5 cfg0.N : FVec Ideal S1x128x1024 .f32) (ix3 0 a j) = delta (W m c) (G m c) (M m c) (Q m c) a j := by
  have h := congrFun ((Value.blocks5 m c (pt a) (flush0_5 _)).trans (Value.flushed5 m c (pt a))) (ix3 0 (loc a) j)
  rw [View.read_apply, show ((cfg0.win 5).blk (pt a)).view.emb (ix3 0 (loc a) j) = (ix3 0 a j : S1x128x1024.Idx) from at4 a j] at h
  exact h.trans ((out5 m c (pt a) (loc a) j).trans (by rw [row_pt]))

theorem result6 : ((dats m 0 c).arrAt 6 cfg0.N : FVec Ideal S1x128x1024 .f32) (ix3 0 a j) = newM (G m c) (M m c) a j := by
  have h := congrFun ((Value.blocks6 m c (pt a) (flush0_6 _)).trans (Value.flushed6 m c (pt a))) (ix3 0 (loc a) j)
  rw [View.read_apply, show ((cfg0.win 6).blk (pt a)).view.emb (ix3 0 (loc a) j) = (ix3 0 a j : S1x128x1024.Idx) from at4 a j] at h
  exact h.trans ((out6 m c (pt a) (loc a) j).trans (by rw [row_pt]))

theorem result7 : ((dats m 0 c).arrAt 7 cfg0.N : FVec Ideal S1x128x1024 .f32) (ix3 0 a j) = newQ (G m c) (Q m c) a j := by
  have h := congrFun ((Value.blocks7 m c (pt a) (flush0_7 _)).trans (Value.flushed7 m c (pt a))) (ix3 0 (loc a) j)
  rw [View.read_apply, show ((cfg0.win 7).blk (pt a)).view.emb (ix3 0 (loc a) j) = (ix3 0 a j : S1x128x1024.Idx) from at4 a j] at h
  exact h.trans ((out7 m c (pt a) (loc a) j).trans (by rw [row_pt]))

end Results

end Cert.AdamOutIdeal.Body

namespace Cert.Proof

open Idealize.ShloMosaic Idealize.SL.Sem Cert.AdamOutIdeal.Body Cert.Adam
open Cert.AdamOutReferenceIdeal.Read

theorem adamout_defs_eq : Cert.AdamOutIdeal.defs₀ (F := Bits) = Cert.AdamOut.defs₀ (F := Bits) := by
  unfold Cert.AdamOut.defs₀ Cert.AdamOutIdeal.defs₀
  congr 1
  funext l a
  match l, a with
  | 0, (t, s) => rfl

theorem frame_adamout : Cert.quiescent_AdamOut := fun m g _ => by
  have h := Cert.AdamOutIdeal.Gen.frame (F := Bits) m g
  unfold Cert.AdamOutIdeal.defs at h
  rw [adamout_defs_eq] at h
  exact h

theorem frame_adamout_reference : Cert.quiescent_AdamOutReferenceIdeal := fun m g _ => by
  refine (θ_run Cert.AdamOutReferenceIdeal.defs _ _).mono (fun r h => ?_) (Cert.AdamOutReferenceIdeal.Value.run (F := Ideal) m g)
  exact ⟨fun c => (h c).2.2.2.2, sem_eq_zero_of_no_sems (by decide) _⟩

section
variable (w : FVec Ideal Cert.AdamOutReferenceIdeal.S1x128x1024 .f32) (gs : FVec Ideal Cert.AdamOutReferenceIdeal.S8x128x1024 .bf16)
    (mo v : FVec Ideal Cert.AdamOutReferenceIdeal.S1x128x1024 .f32) (a : Fin 128) (j : Fin 1024)

theorem adamout_grad : val_main_v2 (F := Ideal) gs (ix3 0 a j) = grad gs a j := by
  pointwise [val_main_v2, val_main_v1, val_main_v0, val_main_cst]
  rfl

theorem adamout_mean : val_main_v7 (F := Ideal) gs mo (ix3 0 a j) = newM gs mo a j := by
  pointwise [val_main_v7, val_main_v6, val_main_v5, val_main_v4, val_main_v3, val_main_cst_0, val_main_cst_1]
  rw [adamout_grad]
  rfl

theorem adamout_power : val_main_v13 (F := Ideal) gs v (ix3 0 a j) = newQ gs v a j := by
  pointwise [val_main_v13, val_main_v12, val_main_v11, val_main_v10, val_main_v9, val_main_v8, val_main_cst_2, val_main_cst_3]
  rw [adamout_grad]
  rfl

theorem adamout_move : val_main_v26 (F := Ideal) w gs mo v (ix3 0 a j) = delta w gs mo v a j := by
  pointwise [val_main_v26, val_main_v25, val_main_v24, val_main_v23, val_main_v22, val_main_v21, val_main_v20, val_main_v19, val_main_v18, val_main_v17, val_main_v16, val_main_v15, val_main_v14,
    val_main_cst_4, val_main_cst_5, val_main_cst_6, val_main_cst_7, val_main_cst_8]
  rw [adamout_mean, adamout_power]
  rfl

end

/-- Two arrays of one matrix agree if they do at every row and column. -/
theorem adamout_ext {f h : (⟨3, ![1, 128, 1024]⟩ : Shape).Idx → EReal} (e : ∀ (a : Fin 128) (j : Fin 1024), f (ix3 0 a j) = h (ix3 0 a j)) : f = h := by
  funext i
  obtain ⟨q, a, j, rfl⟩ : ∃ (q : Fin 1) (a : Fin 128) (j : Fin 1024), i = ix3 q a j := ⟨i 0, i 1, i 2, eq_ix3 i⟩
  obtain rfl : q = 0 := Subsingleton.elim _ _
  exact e a j

theorem agree_adamout : Cert.algebraic_AdamOutIdeal_AdamOutReferenceIdeal := by
  intro m g m' g' _ hargs
  refine ⟨fun (c : Dev Cert.AdamOutIdeal.nD) (i : (⟨3, ![1, 128, 1024]⟩ : Shape).Idx) => grad (G m c) (i 1) (i 2),
    fun (c : Dev Cert.AdamOutIdeal.nD) (i : (⟨3, ![1, 128, 1024]⟩ : Shape).Idx) => delta (W m c) (G m c) (M m c) (Q m c) (i 1) (i 2),
    fun (c : Dev Cert.AdamOutIdeal.nD) (i : (⟨3, ![1, 128, 1024]⟩ : Shape).Idx) => newM (G m c) (M m c) (i 1) (i 2),
    fun (c : Dev Cert.AdamOutIdeal.nD) (i : (⟨3, ![1, 128, 1024]⟩ : Shape).Idx) => newQ (G m c) (Q m c) (i 1) (i 2), ?_, ?_⟩
  · refine (θ_run Cert.AdamOutIdeal.defs _ _).mono (fun r h c => ⟨?_, ?_, ?_, ?_, (h c).2.2.2.2⟩) (Cert.AdamOutIdeal.Value.run_blocks (F := Ideal) m g)
    · rw [(h c).1]
      exact adamout_ext fun a j => result4 m c a j
    · rw [(h c).2.1]
      exact adamout_ext fun a j => result5 m c a j
    · rw [(h c).2.2.1]
      exact adamout_ext fun a j => result6 m c a j
    · rw [(h c).2.2.2.1]
      exact adamout_ext fun a j => result7 m c a j
  · refine (θ_run Cert.AdamOutReferenceIdeal.defs _ _).mono (fun r h c => ⟨?_, ?_, ?_, ?_, (h c).2.2.2.2⟩) (Cert.AdamOutReferenceIdeal.Value.run (F := Ideal) m' g')
    · rw [(h c).1, val_main_v2_eq, (hargs c).2.1]
      exact adamout_ext fun a j => adamout_grad _ a j
    · rw [(h c).2.1, val_main_v26_eq, (hargs c).1, (hargs c).2.1, (hargs c).2.2.1, (hargs c).2.2.2]
      exact adamout_ext fun a j => adamout_move _ _ _ _ a j
    · rw [(h c).2.2.1, val_main_v7_eq, (hargs c).2.1, (hargs c).2.2.1]
      exact adamout_ext fun a j => adamout_mean _ _ a j
    · rw [(h c).2.2.2.1, val_main_v13_eq, (hargs c).2.1, (hargs c).2.2.2]
      exact adamout_ext fun a j => adamout_power _ _ a j

end Cert.Proof

end
-- ==== Proof.AdamSmallValue.lean ====
/- The optimiser's step on the small parameters, packed in rows of 128: the frames, and the kernel's results beside the reference's. -/
module

public import proofs.«01_k».proof.Defs
public import proofs.«01_k».proof.Proof.Adam
public import proofs.«01_k».proof.Proof.Gen.AdamSmall
public import proofs.«01_k».proof.Proof.Gen.AdamSmallIdeal.Value
public import proofs.«01_k».proof.Proof.Gen.AdamSmallReferenceIdeal
public import proofs.«01_k».proof.Proof.Gen.AdamSmallReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.AdamSmallIdeal.Body

open Cert.AdamSmallIdeal Cert.AdamSmallIdeal.Gen Idealize.ShloMosaic Idealize.ShloMosaic.TcCoe Idealize.SL.Sem Cert.Adam

/-- The four results at an index, from the four arguments. -/
def grad (G : FVec Ideal S8x688x128 .f32) (a : Fin 688) (j : Fin 128) : EReal := ∑ d : Fin 8, G (ix3 d a j)
def newM (G : FVec Ideal S8x688x128 .f32) (M : FVec Ideal S688x128 .f32) (a : Fin 688) (j : Fin 128) : EReal := mean (grad G a j) (M (ix2 a j))
def newQ (G : FVec Ideal S8x688x128 .f32) (Q : FVec Ideal S688x128 .f32) (a : Fin 688) (j : Fin 128) : EReal := power (grad G a j) (Q (ix2 a j))
def delta (W : FVec Ideal S688x128 .f32) (G : FVec Ideal S8x688x128 .f32) (M Q : FVec Ideal S688x128 .f32) (a : Fin 688) (j : Fin 128) : EReal :=
  move (W (ix2 a j)) (newM G M a j) (newQ G Q a j)

section
variable (w : FVec Ideal S688x128 .f32) (s : FVec Ideal S8x688x128 .f32) (x v : FVec Ideal S688x128 .f32) (a : Fin 688) (j : Fin 128)

/-- A load of a whole block reads the block. -/
theorem ld_whole (y : S688x128.Idx → Elt Ideal .f32) : View.ld y r0_8 = y := View.ld_unit_zero (S := S688x128) Value.hz0 _ y

theorem out4 : Value.G4 (F := Ideal) w s x v (ix2 a j) = grad s a j := by
  unfold grad
  rw [Fin.sum_univ_eight]
  show k0_pay5 (F := Ideal) w s x v (ix2 a j) = _
  unfold k0_pay5
  pointwise [k0_pay3]

theorem out6 : Value.G6 (F := Ideal) w s x v (ix2 a j) = newM s x a j := by
  have h := out4 w s x v a j
  show k0_pay6 (F := Ideal) w s x v (ix2 a j) = _
  unfold k0_pay6
  rw [ld_whole x]
  show mean (Value.G4 (F := Ideal) w s x v (ix2 a j)) (x (ix2 a j)) = _
  rw [h]
  rfl

theorem out7 : Value.G7 (F := Ideal) w s x v (ix2 a j) = newQ s v a j := by
  have h := out4 w s x v a j
  show power (Value.G4 (F := Ideal) w s x v (ix2 a j)) (v (ix2 a j)) = _
  rw [h]
  rfl

theorem out5 : Value.G5 (F := Ideal) w s x v (ix2 a j) = delta w s x v a j := by
  show move (w (ix2 a j)) (Value.G6 (F := Ideal) w s x v (ix2 a j)) (Value.G7 (F := Ideal) w s x v (ix2 a j)) = _
  rw [out6, out7]
  rfl

end

/-- The weights, what the eight devices sent, and the two averages before the step. -/
def W (m : (ℓ : Loc nD τ sig) → Buf (Elt Ideal) ℓ) (c : Dev nD) : FVec Ideal S688x128 .f32 := m ((c : Thread nD τ).loc main_arg0)
def G (m : (ℓ : Loc nD τ sig) → Buf (Elt Ideal) ℓ) (c : Dev nD) : FVec Ideal S8x688x128 .f32 := m ((c : Thread nD τ).loc main_arg1)
def M (m : (ℓ : Loc nD τ sig) → Buf (Elt Ideal) ℓ) (c : Dev nD) : FVec Ideal S688x128 .f32 := m ((c : Thread nD τ).loc main_arg2)
def Q (m : (ℓ : Loc nD τ sig) → Buf (Elt Ideal) ℓ) (c : Dev nD) : FVec Ideal S688x128 .f32 := m ((c : Thread nD τ).loc main_arg3)

end Cert.AdamSmallIdeal.Body

namespace Cert.Proof

open Idealize.ShloMosaic Idealize.SL.Sem Cert.AdamSmallIdeal.Body Cert.Adam
open Cert.AdamSmallReferenceIdeal.Read

theorem adamsmall_defs_eq : Cert.AdamSmallIdeal.defs₀ (F := Bits) = Cert.AdamSmall.defs₀ (F := Bits) := by
  unfold Cert.AdamSmall.defs₀ Cert.AdamSmallIdeal.defs₀
  congr 1
  funext l a
  match l, a with
  | 0, (t, s) => rfl

theorem frame_adamsmall : Cert.quiescent_AdamSmall := fun m g _ => by
  have h := Cert.AdamSmallIdeal.Gen.frame (F := Bits) m g
  unfold Cert.AdamSmallIdeal.defs at h
  rw [adamsmall_defs_eq] at h
  exact h

theorem frame_adamsmall_reference : Cert.quiescent_AdamSmallReferenceIdeal := fun m g _ => by
  refine (θ_run Cert.AdamSmallReferenceIdeal.defs _ _).mono (fun r h => ?_) (Cert.AdamSmallReferenceIdeal.Value.run (F := Ideal) m g)
  exact ⟨fun c => (h c).2.2.2.2, sem_eq_zero_of_no_sems (by decide) _⟩

section
variable (w : FVec Ideal Cert.AdamSmallReferenceIdeal.S688x128 .f32) (gs : FVec Ideal Cert.AdamSmallReferenceIdeal.S8x688x128 .f32)
    (mo v : FVec Ideal Cert.AdamSmallReferenceIdeal.S688x128 .f32) (a : Fin 688) (j : Fin 128)

theorem adamsmall_grad : val_main_v0 (F := Ideal) gs (ix2 a j) = grad gs a j := by
  pointwise [val_main_v0, val_main_cst]
  rfl

theorem adamsmall_mean : val_main_v5 (F := Ideal) gs mo (ix2 a j) = newM gs mo a j := by
  pointwise [val_main_v5, val_main_v4, val_main_v3, val_main_v2, val_main_v1, val_main_cst_0, val_main_cst_1]
  rw [adamsmall_grad]
  rfl

theorem adamsmall_power : val_main_v11 (F := Ideal) gs v (ix2 a j) = newQ gs v a j := by
  pointwise [val_main_v11, val_main_v10, val_main_v9, val_main_v8, val_main_v7, val_main_v6, val_main_cst_2, val_main_cst_3]
  rw [adamsmall_grad]
  rfl

theorem adamsmall_move : val_main_v24 (F := Ideal) w gs mo v (ix2 a j) = delta w gs mo v a j := by
  pointwise [val_main_v24, val_main_v23, val_main_v22, val_main_v21, val_main_v20, val_main_v19, val_main_v18, val_main_v17, val_main_v16, val_main_v15, val_main_v14, val_main_v13, val_main_v12,
    val_main_cst_4, val_main_cst_5, val_main_cst_6, val_main_cst_7, val_main_cst_8]
  rw [adamsmall_mean, adamsmall_power]
  rfl

end

/-- Two matrices agree if they do at every row and column. -/
theorem adamsmall_ext {f h : (⟨2, ![688, 128]⟩ : Shape).Idx → EReal} (e : ∀ (a : Fin 688) (j : Fin 128), f (ix2 a j) = h (ix2 a j)) : f = h := by
  funext i
  rw [eq_ix2 i]
  exact e _ _

theorem agree_adamsmall : Cert.algebraic_AdamSmallIdeal_AdamSmallReferenceIdeal := by
  intro m g m' g' _ hargs
  refine ⟨fun (c : Dev Cert.AdamSmallIdeal.nD) (i : (⟨2, ![688, 128]⟩ : Shape).Idx) => grad (G m c) (i 0) (i 1),
    fun (c : Dev Cert.AdamSmallIdeal.nD) (i : (⟨2, ![688, 128]⟩ : Shape).Idx) => delta (W m c) (G m c) (M m c) (Q m c) (i 0) (i 1),
    fun (c : Dev Cert.AdamSmallIdeal.nD) (i : (⟨2, ![688, 128]⟩ : Shape).Idx) => newM (G m c) (M m c) (i 0) (i 1),
    fun (c : Dev Cert.AdamSmallIdeal.nD) (i : (⟨2, ![688, 128]⟩ : Shape).Idx) => newQ (G m c) (Q m c) (i 0) (i 1), ?_, ?_⟩
  · refine (θ_run Cert.AdamSmallIdeal.defs _ _).mono (fun r h c => ⟨?_, ?_, ?_, ?_, (h c).2.2.2.2⟩) (Cert.AdamSmallIdeal.Value.run (F := Ideal) m g)
    · rw [(h c).1]
      exact adamsmall_ext fun a j => out4 _ _ _ _ a j
    · rw [(h c).2.1]
      exact adamsmall_ext fun a j => out5 _ _ _ _ a j
    · rw [(h c).2.2.1]
      exact adamsmall_ext fun a j => out6 _ _ _ _ a j
    · rw [(h c).2.2.2.1]
      exact adamsmall_ext fun a j => out7 _ _ _ _ a j
  · refine (θ_run Cert.AdamSmallReferenceIdeal.defs _ _).mono (fun r h c => ⟨?_, ?_, ?_, ?_, (h c).2.2.2.2⟩) (Cert.AdamSmallReferenceIdeal.Value.run (F := Ideal) m' g')
    · rw [(h c).1, val_main_v0_eq, (hargs c).2.1]
      exact adamsmall_ext fun a j => adamsmall_grad _ a j
    · rw [(h c).2.1, val_main_v24_eq, (hargs c).1, (hargs c).2.1, (hargs c).2.2.1, (hargs c).2.2.2]
      exact adamsmall_ext fun a j => adamsmall_move _ _ _ _ a j
    · rw [(h c).2.2.1, val_main_v5_eq, (hargs c).2.1, (hargs c).2.2.1]
      exact adamsmall_ext fun a j => adamsmall_mean _ _ a j
    · rw [(h c).2.2.2.1, val_main_v11_eq, (hargs c).2.1, (hargs c).2.2.2]
      exact adamsmall_ext fun a j => adamsmall_power _ _ a j

end Cert.Proof

end
-- ==== Proof.AdamDown0Value.lean ====
/- The optimiser's step on the first down projection's weights: the frames, and the kernel's results beside the reference's. -/
module

public import proofs.«01_k».proof.Defs
public import proofs.«01_k».proof.Proof.Adam
public import proofs.«01_k».proof.Proof.AdamUp0Value
public import proofs.«01_k».proof.Proof.Gen.AdamDown0
public import proofs.«01_k».proof.Proof.Gen.AdamDown0Ideal.Value
public import proofs.«01_k».proof.Proof.Gen.AdamDown0ReferenceIdeal
public import proofs.«01_k».proof.Proof.Gen.AdamDown0ReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.AdamDown0Ideal.Body

open Cert.AdamDown0Ideal Cert.AdamDown0Ideal.Gen Idealize.ShloMosaic Idealize.ShloMosaic.TcCoe Idealize.SL.Sem Cert.Adam

section Pays
variable (g : FVec Ideal S256x1024 .f32) (w x : FVec Ideal S1x256x1024 .f32) (a : Fin 256) (j : Fin 1024)

theorem pay_sum (s : FVec Ideal S8x256x1024 .bf16) (q : FVec Ideal S1x256x1024 .f32) :
    k0_pay11 (F := Ideal) q s w x (ix2 a j) = ∑ d : Fin 8, s (ix3 d a j) := by
  rw [Fin.sum_univ_eight]
  unfold k0_pay11
  pointwise [k0_pay2]
theorem pay_grad : k0_pay5 (F := Ideal) g (ix3 0 a j) = g (ix2 a j) := by
  pointwise [k0_pay5]
theorem pay_mean : k0_pay6 (F := Ideal) g x (ix3 0 a j) = mean (g (ix2 a j)) (x (ix3 0 a j)) := by
  pointwise [k0_pay6, k0_pay3]
  rfl
theorem pay_power : k0_pay7 (F := Ideal) g x (ix3 0 a j) = power (g (ix2 a j)) (x (ix3 0 a j)) := by
  pointwise [k0_pay7, k0_pay4]
  rfl
theorem pay_move (v : FVec Ideal S1x256x1024 .f32) : k0_pay1 (F := Ideal) (k0_pay8 (F := Ideal) g x v) (k0_pay9 (F := Ideal) w) (k0_pay10 (F := Ideal)) (ix3 0 a j)
      = move (w (ix3 0 a j)) (mean (g (ix2 a j)) (x (ix3 0 a j))) (power (g (ix2 a j)) (v (ix3 0 a j))) := by
  pointwise [k0_pay1, k0_pay8, k0_pay9, k0_pay10, k0_pay3, k0_pay4]
  rfl

end Pays

section Run
variable (m : (ℓ : Loc nD τ sig) → Buf (Elt Ideal) ℓ) (c : Dev nD)

/-- The weights, what the eight devices sent, and the two averages before the step. -/
def W : FVec Ideal S2x512x1024 .f32 := m ((c : Thread nD τ).loc main_arg0)
def G : FVec Ideal S8x512x1024 .bf16 := m ((c : Thread nD τ).loc main_arg1)
def M : FVec Ideal S2x512x1024 .f32 := m ((c : Thread nD τ).loc main_arg2)
def Q : FVec Ideal S2x512x1024 .f32 := m ((c : Thread nD τ).loc main_arg3)

theorem ix0 : ∀ t : Fin grid0.N, win0_0.index t = ![0, t.val, 0] := by decide +kernel
theorem ix1 : ∀ t : Fin grid0.N, win0_1.index t = ![0, t.val, 0] := by decide +kernel
theorem ix2' : ∀ t : Fin grid0.N, win0_2.index t = ![0, t.val, 0] := by decide +kernel
theorem ix3' : ∀ t : Fin grid0.N, win0_3.index t = ![0, t.val, 0] := by decide +kernel
theorem ix4' : ∀ t : Fin grid0.N, win0_4.index t = ![0, t.val, 0] := by decide +kernel

/-- The row of the array a row of a block is. -/
abbrev row (t : Fin cfg0.N) (a : Fin 256) : Fin 512 := ⟨t.val * 256 + a.val, by have := lt_of_lt_of_eq t.isLt N_0; omega⟩

/-- The blocks a point reads. -/
abbrev blk0 (t : Fin cfg0.N) : FVec Ideal S1x256x1024 .f32 := iblk m c 0 t
abbrev blk1 (t : Fin cfg0.N) : FVec Ideal S8x256x1024 .bf16 := iblk m c 1 t
abbrev blk2 (t : Fin cfg0.N) : FVec Ideal S1x256x1024 .f32 := iblk m c 2 t
abbrev blk3 (t : Fin cfg0.N) : FVec Ideal S1x256x1024 .f32 := iblk m c 3 t

theorem read0 (t : Fin cfg0.N) (a : Fin 256) (j : Fin 1024) : blk0 m c t (ix3 0 a j) = W m c (ix3 0 (row t a) j) := by
  unfold blk0 iblk
  rw [View.read_apply]
  show W m c _ = _
  congr 1
  funext x
  apply Fin.ext
  match x with
  | ⟨0, _⟩ => show win0_0.index t 0 * 1 + 1 * 0 = 0; rw [congrFun (ix0 t) 0]; rfl
  | ⟨1, _⟩ => show win0_0.index t 1 * 256 + 1 * a.val = t.val * 256 + a.val; rw [congrFun (ix0 t) 1]; show t.val * 256 + 1 * a.val = _; omega
  | ⟨2, _⟩ => show win0_0.index t 2 * 1024 + 1 * j.val = j.val; rw [congrFun (ix0 t) 2]; show 0 * 1024 + 1 * j.val = _; omega

theorem read1 (t : Fin cfg0.N) (d : Fin 8) (a : Fin 256) (j : Fin 1024) : blk1 m c t (ix3 d a j) = G m c (ix3 d (row t a) j) := by
  unfold blk1 iblk
  rw [View.read_apply]
  show G m c _ = _
  congr 1
  funext x
  apply Fin.ext
  match x with
  | ⟨0, _⟩ => show win0_1.index t 0 * 8 + 1 * d.val = d.val; rw [congrFun (ix1 t) 0]; show 0 * 8 + 1 * d.val = _; omega
  | ⟨1, _⟩ => show win0_1.index t 1 * 256 + 1 * a.val = t.val * 256 + a.val; rw [congrFun (ix1 t) 1]; show t.val * 256 + 1 * a.val = _; omega
  | ⟨2, _⟩ => show win0_1.index t 2 * 1024 + 1 * j.val = j.val; rw [congrFun (ix1 t) 2]; show 0 * 1024 + 1 * j.val = _; omega

theorem read2 (t : Fin cfg0.N) (a : Fin 256) (j : Fin 1024) : blk2 m c t (ix3 0 a j) = M m c (ix3 0 (row t a) j) := by
  unfold blk2 iblk
  rw [View.read_apply]
  show M m c _ = _
  congr 1
  funext x
  apply Fin.ext
  match x with
  | ⟨0, _⟩ => show win0_2.index t 0 * 1 + 1 * 0 = 0; rw [congrFun (ix2' t) 0]; rfl
  | ⟨1, _⟩ => show win0_2.index t 1 * 256 + 1 * a.val = t.val * 256 + a.val; rw [congrFun (ix2' t) 1]; show t.val * 256 + 1 * a.val = _; omega
  | ⟨2, _⟩ => show win0_2.index t 2 * 1024 + 1 * j.val = j.val; rw [congrFun (ix2' t) 2]; show 0 * 1024 + 1 * j.val = _; omega

theorem read3 (t : Fin cfg0.N) (a : Fin 256) (j : Fin 1024) : blk3 m c t (ix3 0 a j) = Q m c (ix3 0 (row t a) j) := by
  unfold blk3 iblk
  rw [View.read_apply]
  show Q m c _ = _
  congr 1
  funext x
  apply Fin.ext
  match x with
  | ⟨0, _⟩ => show win0_3.index t 0 * 1 + 1 * 0 = 0; rw [congrFun (ix3' t) 0]; rfl
  | ⟨1, _⟩ => show win0_3.index t 1 * 256 + 1 * a.val = t.val * 256 + a.val; rw [congrFun (ix3' t) 1]; show t.val * 256 + 1 * a.val = _; omega
  | ⟨2, _⟩ => show win0_3.index t 2 * 1024 + 1 * j.val = j.val; rw [congrFun (ix3' t) 2]; show 0 * 1024 + 1 * j.val = _; omega

end Run

/-- The four results at an index, from the four arguments. -/
def grad (G : FVec Ideal S8x512x1024 .bf16) (a : Fin 512) (j : Fin 1024) : EReal := ∑ d : Fin 8, G (ix3 d a j)
def newM (G : FVec Ideal S8x512x1024 .bf16) (M : FVec Ideal S2x512x1024 .f32) (a : Fin 512) (j : Fin 1024) : EReal := mean (grad G a j) (M (ix3 0 a j))
def newQ (G : FVec Ideal S8x512x1024 .bf16) (Q : FVec Ideal S2x512x1024 .f32) (a : Fin 512) (j : Fin 1024) : EReal := power (grad G a j) (Q (ix3 0 a j))
def delta (W : FVec Ideal S2x512x1024 .f32) (G : FVec Ideal S8x512x1024 .bf16) (M Q : FVec Ideal S2x512x1024 .f32) (a : Fin 512) (j : Fin 1024) : EReal :=
  move (W (ix3 0 a j)) (newM G M a j) (newQ G Q a j)

section Outs
variable (m : (ℓ : Loc nD τ sig) → Buf (Elt Ideal) ℓ) (c : Dev nD) (t : Fin cfg0.N) (a : Fin 256) (j : Fin 1024)

theorem sum_at : k0_pay11 (F := Ideal) (blk0 m c t) (blk1 m c t) (blk2 m c t) (blk3 m c t) (ix2 a j) = grad (G m c) (row t a) j := by
  rw [pay_sum]
  exact Finset.sum_congr rfl fun d _ => read1 m c t d a j

theorem out4 : out0_4 (F := Ideal) (blk0 m c t) (blk1 m c t) (blk2 m c t) (blk3 m c t) (ix3 0 a j) = grad (G m c) (row t a) j := by
  unfold out0_4
  rw [View.canon_cons_unit_lit _ _ _ (by decide), pay_grad, sum_at]

theorem out5 : out0_5 (F := Ideal) (blk0 m c t) (blk1 m c t) (blk2 m c t) (blk3 m c t) (ix3 0 a j) = delta (W m c) (G m c) (M m c) (Q m c) (row t a) j := by
  unfold out0_5
  rw [View.canon_cons_unit_lit _ _ _ (by decide), View.ld_unit_lit _ _ (by decide), View.ld_unit_lit _ _ (by decide), View.ld_unit_lit _ _ (by decide),
    pay_move, sum_at, read0, read2, read3]
  rfl

theorem out6 : out0_6 (F := Ideal) (blk0 m c t) (blk1 m c t) (blk2 m c t) (blk3 m c t) (ix3 0 a j) = newM (G m c) (M m c) (row t a) j := by
  unfold out0_6
  rw [View.canon_cons_unit_lit _ _ _ (by decide), View.ld_unit_lit _ _ (by decide), pay_mean, sum_at, read2]
  rfl

theorem out7 : out0_7 (F := Ideal) (blk0 m c t) (blk1 m c t) (blk2 m c t) (blk3 m c t) (ix3 0 a j) = newQ (G m c) (Q m c) (row t a) j := by
  unfold out0_7
  rw [View.canon_cons_unit_lit _ _ _ (by decide), View.ld_unit_lit _ _ (by decide), pay_power, sum_at, read3]
  rfl

end Outs

section Results
variable (m : (ℓ : Loc nD τ sig) → Buf (Elt Ideal) ℓ) (c : Dev nD) (a : Fin 512) (j : Fin 1024)

/-- The point that writes a row, and the row in its block. -/
abbrev pt : Fin cfg0.N := ⟨a.val / 256, by rw [show cfg0.N = 2 from N_0]; omega⟩
abbrev loc : Fin 256 := ⟨a.val % 256, by omega⟩

theorem row_pt : row (pt a) (loc a) = a := Fin.ext (by show a.val / 256 * 256 + a.val % 256 = a.val; omega)

theorem emb (i : S2x512x1024.Idx) (h0 : (i 0).val = 0) (h1 : (i 1).val = win0_4.index (pt a) 1 * 256 + 1 * (a.val % 256)) (h2 : (i 2).val = j.val) : i = ix3 0 a j := by
  funext x
  apply Fin.ext
  match x with
  | ⟨0, _⟩ => exact h0
  | ⟨1, _⟩ =>
    refine h1.trans ?_
    rw [congrFun (ix4' (pt a)) 1]
    show a.val / 256 * 256 + 1 * (a.val % 256) = a.val
    omega
  | ⟨2, _⟩ => exact h2

theorem at4 : ((cfg0.win 4).blk (pt a)).view.emb (ix3 0 (loc a) j) = (ix3 0 a j : S2x512x1024.Idx) :=
  emb a j _ (by show win0_4.index (pt a) 0 * 1 + 1 * 0 = 0; rw [congrFun (ix4' (pt a)) 0]; rfl) rfl
    (by show win0_4.index (pt a) 2 * 1024 + 1 * j.val = j.val; rw [congrFun (ix4' (pt a)) 2]; show 0 * 1024 + 1 * j.val = j.val; omega)

theorem result4 : ((dats m 0 c).arrAt 4 cfg0.N : FVec Ideal S2x512x1024 .f32) (ix3 0 a j) = grad (G m c) a j := by
  have h := congrFun ((Value.blocks4 m c (pt a) (flush0_4 _)).trans (Value.flushed4 m c (pt a))) (ix3 0 (loc a) j)
  rw [View.read_apply, at4] at h
  exact h.trans ((out4 m c (pt a) (loc a) j).trans (by rw [row_pt]))

theorem result5 : ((dats m 0 c).arrAt 5 cfg0.N : FVec Ideal S2x512x1024 .f32) (ix3 0 a j) = delta (W m c) (G m c) (M m c) (Q m c) a j := by
  have h := congrFun ((Value.blocks5 m c (pt a) (flush0_5 _)).trans (Value.flushed5 m c (pt a))) (ix3 0 (loc a) j)
  rw [View.read_apply, show ((cfg0.win 5).blk (pt a)).view.emb (ix3 0 (loc a) j) = (ix3 0 a j : S2x512x1024.Idx) from at4 a j] at h
  exact h.trans ((out5 m c (pt a) (loc a) j).trans (by rw [row_pt]))

theorem result6 : ((dats m 0 c).arrAt 6 cfg0.N : FVec Ideal S2x512x1024 .f32) (ix3 0 a j) = newM (G m c) (M m c) a j := by
  have h := congrFun ((Value.blocks6 m c (pt a) (flush0_6 _)).trans (Value.flushed6 m c (pt a))) (ix3 0 (loc a) j)
  rw [View.read_apply, show ((cfg0.win 6).blk (pt a)).view.emb (ix3 0 (loc a) j) = (ix3 0 a j : S2x512x1024.Idx) from at4 a j] at h
  exact h.trans ((out6 m c (pt a) (loc a) j).trans (by rw [row_pt]))

theorem result7 : ((dats m 0 c).arrAt 7 cfg0.N : FVec Ideal S2x512x1024 .f32) (ix3 0 a j) = newQ (G m c) (Q m c) a j := by
  have h := congrFun ((Value.blocks7 m c (pt a) (flush0_7 _)).trans (Value.flushed7 m c (pt a))) (ix3 0 (loc a) j)
  rw [View.read_apply, show ((cfg0.win 7).blk (pt a)).view.emb (ix3 0 (loc a) j) = (ix3 0 a j : S2x512x1024.Idx) from at4 a j] at h
  exact h.trans ((out7 m c (pt a) (loc a) j).trans (by rw [row_pt]))

end Results

end Cert.AdamDown0Ideal.Body

namespace Cert.Proof

open Idealize.ShloMosaic Idealize.SL.Sem Cert.AdamDown0Ideal.Body Cert.Adam
open Cert.AdamDown0ReferenceIdeal.Read

theorem adamdown0_defs_eq : Cert.AdamDown0Ideal.defs₀ (F := Bits) = Cert.AdamDown0.defs₀ (F := Bits) := by
  unfold Cert.AdamDown0.defs₀ Cert.AdamDown0Ideal.defs₀
  congr 1
  funext l a
  match l, a with
  | 0, (t, s) => rfl

theorem frame_adamdown0 : Cert.quiescent_AdamDown0 := fun m g _ => by
  have h := Cert.AdamDown0Ideal.Gen.frame (F := Bits) m g
  unfold Cert.AdamDown0Ideal.defs at h
  rw [adamdown0_defs_eq] at h
  exact h

theorem frame_adamdown0_reference : Cert.quiescent_AdamDown0ReferenceIdeal := fun m g _ => by
  refine (θ_run Cert.AdamDown0ReferenceIdeal.defs _ _).mono (fun r h => ?_) (Cert.AdamDown0ReferenceIdeal.Value.run (F := Ideal) m g)
  exact ⟨fun c => (h c).2.2.2.2, sem_eq_zero_of_no_sems (by decide) _⟩

section
variable (w : FVec Ideal Cert.AdamDown0ReferenceIdeal.S2x512x1024 .f32) (gs : FVec Ideal Cert.AdamDown0ReferenceIdeal.S8x512x1024 .bf16)
    (mo v : FVec Ideal Cert.AdamDown0ReferenceIdeal.S2x512x1024 .f32) (a : Fin 512) (j : Fin 1024)

theorem adamdown0_grad : val_main_v3 (F := Ideal) gs (ix3 0 a j) = grad gs a j := by
  pointwise [val_main_v3, val_main_v2, val_main_v1, val_main_cst]
  rfl

theorem adamdown0_mean : val_main_v10 (F := Ideal) gs mo (ix3 0 a j) = newM gs mo a j := by
  pointwise [val_main_v10, val_main_v9, val_main_v8, val_main_v7, val_main_v6, val_main_v4, val_main_cst_0, val_main_cst_1]
  rw [adamdown0_grad]
  rfl

theorem adamdown0_power : val_main_v16 (F := Ideal) gs v (ix3 0 a j) = newQ gs v a j := by
  pointwise [val_main_v16, val_main_v15, val_main_v14, val_main_v13, val_main_v12, val_main_v11, val_main_v5, val_main_cst_2, val_main_cst_3]
  rw [adamdown0_grad]
  rfl

theorem adamdown0_move : val_main_v29 (F := Ideal) w gs mo v (ix3 0 a j) = delta w gs mo v a j := by
  pointwise [val_main_v29, val_main_v28, val_main_v27, val_main_v26, val_main_v25, val_main_v24, val_main_v23, val_main_v22, val_main_v21, val_main_v20, val_main_v19, val_main_v18, val_main_v17,
    val_main_v0, val_main_cst_4, val_main_cst_5, val_main_cst_6, val_main_cst_7, val_main_cst_8]
  rw [adamdown0_mean, adamdown0_power]
  rfl

theorem adamdown0_grads : val_main_v31 (F := Ideal) gs (ix3 0 a j) = grad gs a j := by
  pointwise [val_main_v31]
  exact adamdown0_grad gs a j

theorem adamdown0_moves : val_main_v33 (F := Ideal) w gs mo v (ix3 0 a j) = delta w gs mo v a j := by
  pointwise [val_main_v33]
  exact adamdown0_move w gs mo v a j

theorem adamdown0_means : val_main_v35 (F := Ideal) gs mo (ix3 0 a j) = newM gs mo a j := by
  pointwise [val_main_v35]
  exact adamdown0_mean gs mo a j

theorem adamdown0_powers : val_main_v37 (F := Ideal) gs v (ix3 0 a j) = newQ gs v a j := by
  pointwise [val_main_v37]
  exact adamdown0_power gs v a j

end

/-- The mask's shapes fit. -/
instance first_layer_down_facts : Cert.On_first_layer_down.Facts where
  bcast_S_S2x512x1024 := by decide

/-- The mask holds on the first layer alone. -/
theorem first_layer_down_at {i : (⟨3, ![2, 512, 1024]⟩ : Shape).Idx} (hi : BitVec.ofBool ((BitVec.ofNat 32 (i 0).val).slt 1#32) = 1#1) :
    ∃ (a : Fin 512) (j : Fin 1024), i = ix3 0 a j := by
  obtain ⟨q, a, j, rfl⟩ : ∃ (q : Fin 2) (a : Fin 512) (j : Fin 1024), i = ix3 q a j := ⟨i 0, i 1, i 2, eq_ix3 i⟩
  obtain rfl : q = 0 := first_layer_eq hi
  exact ⟨a, j, rfl⟩

theorem agree_adamdown0 : Cert.algebraic_AdamDown0Ideal_AdamDown0ReferenceIdeal_on_first_layer_down := by
  intro m g m' g' _ hargs
  refine ⟨fun (c : Dev Cert.AdamDown0Ideal.nD) (i : (⟨3, ![2, 512, 1024]⟩ : Shape).Idx) => grad (G m c) (i 1) (i 2),
    fun (c : Dev Cert.AdamDown0Ideal.nD) (i : (⟨3, ![2, 512, 1024]⟩ : Shape).Idx) => delta (W m c) (G m c) (M m c) (Q m c) (i 1) (i 2),
    fun (c : Dev Cert.AdamDown0Ideal.nD) (i : (⟨3, ![2, 512, 1024]⟩ : Shape).Idx) => newM (G m c) (M m c) (i 1) (i 2),
    fun (c : Dev Cert.AdamDown0Ideal.nD) (i : (⟨3, ![2, 512, 1024]⟩ : Shape).Idx) => newQ (G m c) (Q m c) (i 1) (i 2), ?_, ?_⟩
  · refine (θ_run Cert.AdamDown0Ideal.defs _ _).mono (fun r h c => ⟨fun i hi => ?_, fun i hi => ?_, fun i hi => ?_, fun i hi => ?_, (h c).2.2.2.2⟩) (Cert.AdamDown0Ideal.Value.run_blocks (F := Ideal) m g)
    · obtain ⟨a, j, rfl⟩ := first_layer_down_at hi
      rw [(h c).1]
      exact result4 m c a j
    · obtain ⟨a, j, rfl⟩ := first_layer_down_at hi
      rw [(h c).2.1]
      exact result5 m c a j
    · obtain ⟨a, j, rfl⟩ := first_layer_down_at hi
      rw [(h c).2.2.1]
      exact result6 m c a j
    · obtain ⟨a, j, rfl⟩ := first_layer_down_at hi
      rw [(h c).2.2.2.1]
      exact result7 m c a j
  · refine (θ_run Cert.AdamDown0ReferenceIdeal.defs _ _).mono (fun r h c => ⟨fun i hi => ?_, fun i hi => ?_, fun i hi => ?_, fun i hi => ?_, (h c).2.2.2.2⟩) (Cert.AdamDown0ReferenceIdeal.Value.run (F := Ideal) m' g')
    · obtain ⟨a, j, rfl⟩ := first_layer_down_at hi
      rw [(h c).1, val_main_v31_eq, (hargs c).2.1]
      exact adamdown0_grads _ a j
    · obtain ⟨a, j, rfl⟩ := first_layer_down_at hi
      rw [(h c).2.1, val_main_v33_eq, (hargs c).1, (hargs c).2.1, (hargs c).2.2.1, (hargs c).2.2.2]
      exact adamdown0_moves _ _ _ _ a j
    · obtain ⟨a, j, rfl⟩ := first_layer_down_at hi
      rw [(h c).2.2.1, val_main_v35_eq, (hargs c).2.1, (hargs c).2.2.1]
      exact adamdown0_means _ _ a j
    · obtain ⟨a, j, rfl⟩ := first_layer_down_at hi
      rw [(h c).2.2.2.1, val_main_v37_eq, (hargs c).2.1, (hargs c).2.2.2]
      exact adamdown0_powers _ _ a j

end Cert.Proof

end
-- ==== Proof.AdamNormValue.lean ====
/- The optimiser's step on the mixers' norm weights, in rows of 128: the frames, and the kernel's results beside the reference's. -/
module

public import proofs.«01_k».proof.Defs
public import proofs.«01_k».proof.Proof.Adam
public import proofs.«01_k».proof.Proof.Gen.AdamNorm
public import proofs.«01_k».proof.Proof.Gen.AdamNormIdeal.Value
public import proofs.«01_k».proof.Proof.Gen.AdamNormReferenceIdeal
public import proofs.«01_k».proof.Proof.Gen.AdamNormReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.AdamNormIdeal.Body

open Cert.AdamNormIdeal Cert.AdamNormIdeal.Gen Idealize.ShloMosaic Idealize.ShloMosaic.TcCoe Idealize.SL.Sem Cert.Adam

/-- The four results at an index, from the four arguments. -/
def grad (G : FVec Ideal S8x16x128 .f32) (a : Fin 16) (j : Fin 128) : EReal := ∑ d : Fin 8, G (ix3 d a j)
def newM (G : FVec Ideal S8x16x128 .f32) (M : FVec Ideal S16x128 .f32) (a : Fin 16) (j : Fin 128) : EReal := mean (grad G a j) (M (ix2 a j))
def newQ (G : FVec Ideal S8x16x128 .f32) (Q : FVec Ideal S16x128 .f32) (a : Fin 16) (j : Fin 128) : EReal := power (grad G a j) (Q (ix2 a j))
def delta (W : FVec Ideal S16x128 .f32) (G : FVec Ideal S8x16x128 .f32) (M Q : FVec Ideal S16x128 .f32) (a : Fin 16) (j : Fin 128) : EReal :=
  move (W (ix2 a j)) (newM G M a j) (newQ G Q a j)

section
variable (w : FVec Ideal S16x128 .f32) (s : FVec Ideal S8x16x128 .f32) (x v : FVec Ideal S16x128 .f32) (a : Fin 16) (j : Fin 128)

theorem hz : (![0, 0] : Fin 2 → Nat) = fun _ => 0 := funext fun a => by fin_cases a <;> rfl

/-- A load of a whole block reads the block, and a store of one leaves it. -/
theorem ld_whole (y : S16x128.Idx → Elt Ideal .f32) : View.ld y r0_8 = y := View.ld_unit_zero (S := S16x128) hz _ y
theorem st_whole (y : S16x128.Idx → Elt Ideal .f32) : View.canon [⟨r0_8, y⟩] = y := View.canon_unit_zero (S := S16x128) hz _ y

theorem out4 : out0_4 (F := Ideal) w s x v (ix2 a j) = grad s a j := by
  unfold grad out0_4
  rw [st_whole, Fin.sum_univ_eight]
  unfold k0_pay5
  pointwise [k0_pay3]

theorem sum_at : k0_pay5 (F := Ideal) w s x v (ix2 a j) = grad s a j := by
  have h := out4 w s x v a j
  unfold out0_4 at h
  rwa [st_whole] at h

theorem mean_at : k0_pay6 (F := Ideal) w s x v (ix2 a j) = newM s x a j := by
  unfold k0_pay6
  rw [ld_whole x]
  pointwise [k0_pay4]
  show mean (k0_pay5 (F := Ideal) w s x v (ix2 a j)) (x (ix2 a j)) = _
  rw [sum_at]
  rfl

theorem power_at : k0_pay1 (F := Ideal) (k0_pay5 (F := Ideal) w s x v) v (ix2 a j) = newQ s v a j := by
  pointwise [k0_pay1]
  rw [sum_at]
  rfl

theorem out6 : out0_6 (F := Ideal) w s x v (ix2 a j) = newM s x a j := by
  unfold out0_6
  rw [st_whole, mean_at]

theorem out7 : out0_7 (F := Ideal) w s x v (ix2 a j) = newQ s v a j := by
  unfold out0_7
  rw [st_whole, ld_whole v, power_at]

theorem out5 : out0_5 (F := Ideal) w s x v (ix2 a j) = delta w s x v a j := by
  unfold out0_5
  rw [st_whole, ld_whole v, ld_whole w]
  pointwise [k0_pay2]
  rw [mean_at, power_at]
  rfl

end

/-- Two rows of 1024 as rows of 128. -/
def lanes (y : FVec Ideal S2x1024 .f32) : FVec Ideal S16x128 .f32 := shapeCast S16x128 y shapeCasts_S2x1024_S16x128

section Run
variable (m : (ℓ : Loc nD τ sig) → Buf (Elt Ideal) ℓ) (c : Dev nD)

/-- The weights, what the eight devices sent, and the two averages before the step. -/
def W : FVec Ideal S2x1024 .f32 := m ((c : Thread nD τ).loc main_arg0)
def G : FVec Ideal S8x16x128 .f32 := m ((c : Thread nD τ).loc main_arg1)
def M : FVec Ideal S2x1024 .f32 := m ((c : Thread nD τ).loc main_arg2)
def Q : FVec Ideal S2x1024 .f32 := m ((c : Thread nD τ).loc main_arg3)

theorem host0 : V m c main_v0 = lanes (W m c) := by
  entry_read
  rfl
theorem host2 : V m c main_v1 = lanes (M m c) := by
  entry_read
  rfl
theorem host3 : V m c main_v2 = lanes (Q m c) := by
  entry_read
  rfl

/-- The one point, whose blocks are the arrays. -/
abbrev pt : Fin cfg0.N := ⟨0, by rw [show cfg0.N = 1 from N_0]; omega⟩

theorem read0 : iblk m c 0 pt = lanes (W m c) := by
  funext i
  unfold iblk
  rw [View.read_apply]
  show V m c main_v0 _ = _
  rw [host0]
  congr 1
  funext x
  apply Fin.ext
  match x with
  | ⟨0, _⟩ => show 0 * 16 + 1 * (i 0).val = (i 0).val; omega
  | ⟨1, _⟩ => show 0 * 128 + 1 * (i 1).val = (i 1).val; omega

theorem read1 : iblk m c 1 pt = G m c := by
  funext i
  unfold iblk
  rw [View.read_apply]
  show V m c main_arg1 _ = _
  rw [V_main_arg1]
  show G m c _ = _
  congr 1
  funext x
  apply Fin.ext
  match x with
  | ⟨0, _⟩ => show 0 * 8 + 1 * (i 0).val = (i 0).val; omega
  | ⟨1, _⟩ => show 0 * 16 + 1 * (i 1).val = (i 1).val; omega
  | ⟨2, _⟩ => show 0 * 128 + 1 * (i 2).val = (i 2).val; omega

theorem read2 : iblk m c 2 pt = lanes (M m c) := by
  funext i
  unfold iblk
  rw [View.read_apply]
  show V m c main_v1 _ = _
  rw [host2]
  congr 1
  funext x
  apply Fin.ext
  match x with
  | ⟨0, _⟩ => show 0 * 16 + 1 * (i 0).val = (i 0).val; omega
  | ⟨1, _⟩ => show 0 * 128 + 1 * (i 1).val = (i 1).val; omega

theorem read3 : iblk m c 3 pt = lanes (Q m c) := by
  funext i
  unfold iblk
  rw [View.read_apply]
  show V m c main_v2 _ = _
  rw [host3]
  congr 1
  funext x
  apply Fin.ext
  match x with
  | ⟨0, _⟩ => show 0 * 16 + 1 * (i 0).val = (i 0).val; omega
  | ⟨1, _⟩ => show 0 * 128 + 1 * (i 1).val = (i 1).val; omega

variable (a : Fin 16) (j : Fin 128)

theorem at4 : ((cfg0.win 4).blk pt).view.emb (ix2 a j) = (ix2 a j : S16x128.Idx) := by
  funext x
  apply Fin.ext
  match x with
  | ⟨0, _⟩ => show 0 * 16 + 1 * a.val = a.val; omega
  | ⟨1, _⟩ => show 0 * 128 + 1 * j.val = j.val; omega

theorem result4 : ((dats m 0 c).arrAt 4 cfg0.N : FVec Ideal S16x128 .f32) (ix2 a j) = grad (G m c) a j := by
  have h := congrFun ((Value.blocks4 m c pt (flush0_4 _)).trans (Value.flushed4 m c pt)) (ix2 a j)
  rw [View.read_apply, at4, read0, read1, read2, read3] at h
  exact h.trans (out4 _ _ _ _ a j)

theorem result5 : ((dats m 0 c).arrAt 5 cfg0.N : FVec Ideal S16x128 .f32) (ix2 a j) = delta (lanes (W m c)) (G m c) (lanes (M m c)) (lanes (Q m c)) a j := by
  have h := congrFun ((Value.blocks5 m c pt (flush0_5 _)).trans (Value.flushed5 m c pt)) (ix2 a j)
  rw [View.read_apply, show ((cfg0.win 5).blk pt).view.emb (ix2 a j) = (ix2 a j : S16x128.Idx) from at4 a j, read0, read1, read2, read3] at h
  exact h.trans (out5 _ _ _ _ a j)

theorem result6 : ((dats m 0 c).arrAt 6 cfg0.N : FVec Ideal S16x128 .f32) (ix2 a j) = newM (G m c) (lanes (M m c)) a j := by
  have h := congrFun ((Value.blocks6 m c pt (flush0_6 _)).trans (Value.flushed6 m c pt)) (ix2 a j)
  rw [View.read_apply, show ((cfg0.win 6).blk pt).view.emb (ix2 a j) = (ix2 a j : S16x128.Idx) from at4 a j, read0, read1, read2, read3] at h
  exact h.trans (out6 _ _ _ _ a j)

theorem result7 : ((dats m 0 c).arrAt 7 cfg0.N : FVec Ideal S16x128 .f32) (ix2 a j) = newQ (G m c) (lanes (Q m c)) a j := by
  have h := congrFun ((Value.blocks7 m c pt (flush0_7 _)).trans (Value.flushed7 m c pt)) (ix2 a j)
  rw [View.read_apply, show ((cfg0.win 7).blk pt).view.emb (ix2 a j) = (ix2 a j : S16x128.Idx) from at4 a j, read0, read1, read2, read3] at h
  exact h.trans (out7 _ _ _ _ a j)

end Run

end Cert.AdamNormIdeal.Body

namespace Cert.Proof

open Idealize.ShloMosaic Idealize.SL.Sem Cert.AdamNormIdeal.Body Cert.Adam
open Cert.AdamNormReferenceIdeal.Read

theorem adamnorm_defs_eq : Cert.AdamNormIdeal.defs₀ (F := Bits) = Cert.AdamNorm.defs₀ (F := Bits) := by
  unfold Cert.AdamNorm.defs₀ Cert.AdamNormIdeal.defs₀
  congr 1
  funext l a
  match l, a with
  | 0, (t, s) => rfl

theorem frame_adamnorm : Cert.quiescent_AdamNorm := fun m g _ => by
  have h := Cert.AdamNormIdeal.Gen.frame (F := Bits) m g
  unfold Cert.AdamNormIdeal.defs at h
  rw [adamnorm_defs_eq] at h
  exact h

theorem frame_adamnorm_reference : Cert.quiescent_AdamNormReferenceIdeal := fun m g _ => by
  refine (θ_run Cert.AdamNormReferenceIdeal.defs _ _).mono (fun r h => ?_) (Cert.AdamNormReferenceIdeal.Value.run (F := Ideal) m g)
  exact ⟨fun c => (h c).2.2.2.2, sem_eq_zero_of_no_sems (by decide) _⟩

section
variable (w : FVec Ideal Cert.AdamNormReferenceIdeal.S2x1024 .f32) (gs : FVec Ideal Cert.AdamNormReferenceIdeal.S8x16x128 .f32)
    (mo v : FVec Ideal Cert.AdamNormReferenceIdeal.S2x1024 .f32) (a : Fin 16) (j : Fin 128)

theorem adamnorm_grad : val_main_v1 (F := Ideal) gs (ix2 a j) = grad gs a j := by
  pointwise [val_main_v1, val_main_cst]
  rfl

theorem adamnorm_mean : val_main_v8 (F := Ideal) gs mo (ix2 a j) = newM gs (lanes mo) a j := by
  pointwise [val_main_v8, val_main_v7, val_main_v6, val_main_v5, val_main_v4, val_main_cst_0, val_main_cst_1]
  rw [adamnorm_grad]
  rfl

theorem adamnorm_power : val_main_v14 (F := Ideal) gs v (ix2 a j) = newQ gs (lanes v) a j := by
  pointwise [val_main_v14, val_main_v13, val_main_v12, val_main_v11, val_main_v10, val_main_v9, val_main_cst_2, val_main_cst_3]
  rw [adamnorm_grad]
  rfl

theorem adamnorm_move : val_main_v27 (F := Ideal) w gs mo v (ix2 a j) = delta (lanes w) gs (lanes mo) (lanes v) a j := by
  pointwise [val_main_v27, val_main_v26, val_main_v25, val_main_v24, val_main_v23, val_main_v22, val_main_v21, val_main_v20, val_main_v19, val_main_v18, val_main_v17, val_main_v16, val_main_v15,
    val_main_cst_4, val_main_cst_5, val_main_cst_6, val_main_cst_7, val_main_cst_8]
  rw [adamnorm_mean, adamnorm_power]
  rfl

end

/-- Two matrices agree if they do at every row and column. -/
theorem adamnorm_ext {f h : (⟨2, ![16, 128]⟩ : Shape).Idx → EReal} (e : ∀ (a : Fin 16) (j : Fin 128), f (ix2 a j) = h (ix2 a j)) : f = h := by
  funext i
  rw [eq_ix2 i]
  exact e _ _

theorem agree_adamnorm : Cert.algebraic_AdamNormIdeal_AdamNormReferenceIdeal := by
  intro m g m' g' _ hargs
  refine ⟨fun (c : Dev Cert.AdamNormIdeal.nD) (i : (⟨2, ![16, 128]⟩ : Shape).Idx) => grad (G m c) (i 0) (i 1),
    fun (c : Dev Cert.AdamNormIdeal.nD) (i : (⟨2, ![16, 128]⟩ : Shape).Idx) => delta (lanes (W m c)) (G m c) (lanes (M m c)) (lanes (Q m c)) (i 0) (i 1),
    fun (c : Dev Cert.AdamNormIdeal.nD) (i : (⟨2, ![16, 128]⟩ : Shape).Idx) => newM (G m c) (lanes (M m c)) (i 0) (i 1),
    fun (c : Dev Cert.AdamNormIdeal.nD) (i : (⟨2, ![16, 128]⟩ : Shape).Idx) => newQ (G m c) (lanes (Q m c)) (i 0) (i 1), ?_, ?_⟩
  · refine (θ_run Cert.AdamNormIdeal.defs _ _).mono (fun r h c => ⟨?_, ?_, ?_, ?_, (h c).2.2.2.2⟩) (Cert.AdamNormIdeal.Value.run_blocks (F := Ideal) m g)
    · rw [(h c).1]
      exact adamnorm_ext fun a j => result4 m c a j
    · rw [(h c).2.1]
      exact adamnorm_ext fun a j => result5 m c a j
    · rw [(h c).2.2.1]
      exact adamnorm_ext fun a j => result6 m c a j
    · rw [(h c).2.2.2.1]
      exact adamnorm_ext fun a j => result7 m c a j
  · refine (θ_run Cert.AdamNormReferenceIdeal.defs _ _).mono (fun r h c => ⟨?_, ?_, ?_, ?_, (h c).2.2.2.2⟩) (Cert.AdamNormReferenceIdeal.Value.run (F := Ideal) m' g')
    · rw [(h c).1, val_main_v1_eq, (hargs c).2.1]
      exact adamnorm_ext fun a j => adamnorm_grad _ a j
    · rw [(h c).2.1, val_main_v27_eq, (hargs c).1, (hargs c).2.1, (hargs c).2.2.1, (hargs c).2.2.2]
      exact adamnorm_ext fun a j => adamnorm_move _ _ _ _ a j
    · rw [(h c).2.2.1, val_main_v8_eq, (hargs c).2.1, (hargs c).2.2.1]
      exact adamnorm_ext fun a j => adamnorm_mean _ _ a j
    · rw [(h c).2.2.2.1, val_main_v14_eq, (hargs c).2.1, (hargs c).2.2.2]
      exact adamnorm_ext fun a j => adamnorm_power _ _ a j

end Cert.Proof

end
-- ==== Proof.AdamLruConvValue.lean ====
/- The optimiser's step on the recurrence's convolution's weights: the frames, and the kernel's results beside the reference's. -/
module

public import proofs.«01_k».proof.Defs
public import proofs.«01_k».proof.Proof.Adam
public import proofs.«01_k».proof.Proof.Gen.AdamLruConv
public import proofs.«01_k».proof.Proof.Gen.AdamLruConvIdeal.Value
public import proofs.«01_k».proof.Proof.Gen.AdamLruConvReferenceIdeal
public import proofs.«01_k».proof.Proof.Gen.AdamLruConvReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.AdamLruConvIdeal.Body

open Cert.AdamLruConvIdeal Cert.AdamLruConvIdeal.Gen Idealize.ShloMosaic Idealize.ShloMosaic.TcCoe Idealize.SL.Sem Cert.Adam

section
variable (w s x v : FVec Ideal S1x4x64 .f32) (a : Fin 4) (j : Fin 64)

/-- The four results at an index: the gradient is the argument, the rest one step's. -/
def newM : EReal := mean (s (ix3 0 a j)) (x (ix3 0 a j))
def newQ : EReal := power (s (ix3 0 a j)) (v (ix3 0 a j))
def delta : EReal := move (w (ix3 0 a j)) (newM s x a j) (newQ s v a j)

theorem out4 : Value.G4 (F := Ideal) w s x v (ix3 0 a j) = s (ix3 0 a j) := by
  pointwise [k0_pay5, k0_pay2]

theorem out6 : Value.G6 (F := Ideal) w s x v (ix3 0 a j) = newM s x a j := by
  pointwise [k0_pay6, k0_pay3, k0_pay2]
  rfl

theorem out7 : Value.G7 (F := Ideal) w s x v (ix3 0 a j) = newQ s v a j := by
  pointwise [k0_pay7, k0_pay4, k0_pay2]
  rfl

theorem out5 : Value.G5 (F := Ideal) w s x v (ix3 0 a j) = delta w s x v a j := by
  pointwise [k0_pay1, k0_pay8, k0_pay9, k0_pay3, k0_pay4, k0_pay2]
  rfl

end

/-- The weights, their gradient, and the two averages before the step. -/
def W (m : (ℓ : Loc nD τ sig) → Buf (Elt Ideal) ℓ) (c : Dev nD) : FVec Ideal S1x4x64 .f32 := m ((c : Thread nD τ).loc main_arg0)
def G (m : (ℓ : Loc nD τ sig) → Buf (Elt Ideal) ℓ) (c : Dev nD) : FVec Ideal S1x4x64 .f32 := m ((c : Thread nD τ).loc main_arg1)
def M (m : (ℓ : Loc nD τ sig) → Buf (Elt Ideal) ℓ) (c : Dev nD) : FVec Ideal S1x4x64 .f32 := m ((c : Thread nD τ).loc main_arg2)
def Q (m : (ℓ : Loc nD τ sig) → Buf (Elt Ideal) ℓ) (c : Dev nD) : FVec Ideal S1x4x64 .f32 := m ((c : Thread nD τ).loc main_arg3)

end Cert.AdamLruConvIdeal.Body

namespace Cert.Proof

open Idealize.ShloMosaic Idealize.SL.Sem Cert.AdamLruConvIdeal.Body Cert.Adam
open Cert.AdamLruConvReferenceIdeal.Read

theorem adamlruconv_defs_eq : Cert.AdamLruConvIdeal.defs₀ (F := Bits) = Cert.AdamLruConv.defs₀ (F := Bits) := by
  unfold Cert.AdamLruConv.defs₀ Cert.AdamLruConvIdeal.defs₀
  congr 1
  funext l a
  match l, a with
  | 0, (t, s) => rfl

theorem frame_adamlruconv : Cert.quiescent_AdamLruConv := fun m g _ => by
  have h := Cert.AdamLruConvIdeal.Gen.frame (F := Bits) m g
  unfold Cert.AdamLruConvIdeal.defs at h
  rw [adamlruconv_defs_eq] at h
  exact h

theorem frame_adamlruconv_reference : Cert.quiescent_AdamLruConvReferenceIdeal := fun m g _ => by
  refine (θ_run Cert.AdamLruConvReferenceIdeal.defs _ _).mono (fun r h => ?_) (Cert.AdamLruConvReferenceIdeal.Value.run (F := Ideal) m g)
  exact ⟨fun c => (h c).2.2.2.2, sem_eq_zero_of_no_sems (by decide) _⟩

section
variable (w s x v : FVec Ideal Cert.AdamLruConvReferenceIdeal.S1x4x64 .f32) (a : Fin 4) (j : Fin 64)

/-- A sum over the one part is the part. -/
theorem adamlruconv_grad : val_main_v1 (F := Ideal) s (ix3 0 a j) = s (ix3 0 a j) := by
  pointwise [val_main_v1, val_main_v0, val_main_cst]
  exact Fin.sum_univ_one _

theorem adamlruconv_mean : val_main_v6 (F := Ideal) s x (ix3 0 a j) = newM s x a j := by
  pointwise [val_main_v6, val_main_v5, val_main_v4, val_main_v3, val_main_v2, val_main_cst_0, val_main_cst_1]
  rw [adamlruconv_grad]
  rfl

theorem adamlruconv_power : val_main_v12 (F := Ideal) s v (ix3 0 a j) = newQ s v a j := by
  pointwise [val_main_v12, val_main_v11, val_main_v10, val_main_v9, val_main_v8, val_main_v7, val_main_cst_2, val_main_cst_3]
  rw [adamlruconv_grad]
  rfl

theorem adamlruconv_move : val_main_v25 (F := Ideal) w s x v (ix3 0 a j) = delta w s x v a j := by
  pointwise [val_main_v25, val_main_v24, val_main_v23, val_main_v22, val_main_v21, val_main_v20, val_main_v19, val_main_v18, val_main_v17, val_main_v16, val_main_v15, val_main_v14, val_main_v13,
    val_main_cst_4, val_main_cst_5, val_main_cst_6, val_main_cst_7, val_main_cst_8]
  rw [adamlruconv_mean, adamlruconv_power]
  rfl

end

/-- Two arrays of one matrix agree if they do at every row and column. -/
theorem adamlruconv_ext {f h : (⟨3, ![1, 4, 64]⟩ : Shape).Idx → EReal} (e : ∀ (a : Fin 4) (j : Fin 64), f (ix3 0 a j) = h (ix3 0 a j)) : f = h := by
  funext i
  obtain ⟨q, a, j, rfl⟩ : ∃ (q : Fin 1) (a : Fin 4) (j : Fin 64), i = ix3 q a j := ⟨i 0, i 1, i 2, eq_ix3 i⟩
  obtain rfl : q = 0 := Subsingleton.elim _ _
  exact e a j

theorem agree_adamlruconv : Cert.algebraic_AdamLruConvIdeal_AdamLruConvReferenceIdeal := by
  intro m g m' g' _ hargs
  refine ⟨fun (c : Dev Cert.AdamLruConvIdeal.nD) => G m c,
    fun (c : Dev Cert.AdamLruConvIdeal.nD) (i : (⟨3, ![1, 4, 64]⟩ : Shape).Idx) => delta (W m c) (G m c) (M m c) (Q m c) (i 1) (i 2),
    fun (c : Dev Cert.AdamLruConvIdeal.nD) (i : (⟨3, ![1, 4, 64]⟩ : Shape).Idx) => newM (G m c) (M m c) (i 1) (i 2),
    fun (c : Dev Cert.AdamLruConvIdeal.nD) (i : (⟨3, ![1, 4, 64]⟩ : Shape).Idx) => newQ (G m c) (Q m c) (i 1) (i 2), ?_, ?_⟩
  · refine (θ_run Cert.AdamLruConvIdeal.defs _ _).mono (fun r h c => ⟨?_, ?_, ?_, ?_, (h c).2.2.2.2⟩) (Cert.AdamLruConvIdeal.Value.run (F := Ideal) m g)
    · rw [(h c).1]
      exact adamlruconv_ext fun a j => out4 _ _ _ _ a j
    · rw [(h c).2.1]
      exact adamlruconv_ext fun a j => out5 _ _ _ _ a j
    · rw [(h c).2.2.1]
      exact adamlruconv_ext fun a j => out6 _ _ _ _ a j
    · rw [(h c).2.2.2.1]
      exact adamlruconv_ext fun a j => out7 _ _ _ _ a j
  · refine (θ_run Cert.AdamLruConvReferenceIdeal.defs _ _).mono (fun r h c => ⟨?_, ?_, ?_, ?_, (h c).2.2.2.2⟩) (Cert.AdamLruConvReferenceIdeal.Value.run (F := Ideal) m' g')
    · rw [(h c).1, val_main_v1_eq, (hargs c).2.1]
      exact adamlruconv_ext fun a j => adamlruconv_grad _ a j
    · rw [(h c).2.1, val_main_v25_eq, (hargs c).1, (hargs c).2.1, (hargs c).2.2.1, (hargs c).2.2.2]
      exact adamlruconv_ext fun a j => adamlruconv_move _ _ _ _ a j
    · rw [(h c).2.2.1, val_main_v6_eq, (hargs c).2.1, (hargs c).2.2.1]
      exact adamlruconv_ext fun a j => adamlruconv_mean _ _ a j
    · rw [(h c).2.2.2.1, val_main_v12_eq, (hargs c).2.1, (hargs c).2.2.2]
      exact adamlruconv_ext fun a j => adamlruconv_power _ _ a j

end Cert.Proof

end
-- ==== Proof.AdamGdnConvValue.lean ====
/- The optimiser's step on the delta rule's convolution's weights: the frames, and the kernel's results beside the reference's. -/
module

public import proofs.«01_k».proof.Defs
public import proofs.«01_k».proof.Proof.Adam
public import proofs.«01_k».proof.Proof.Gen.AdamGdnConv
public import proofs.«01_k».proof.Proof.Gen.AdamGdnConvIdeal.Value
public import proofs.«01_k».proof.Proof.Gen.AdamGdnConvReferenceIdeal
public import proofs.«01_k».proof.Proof.Gen.AdamGdnConvReferenceIdeal.Read
public import Idealize.ShloMosaic.Adequacy
public import Idealize.ShloMosaic.Init
public import Idealize.ShloMosaic.Lib.Claim
public import Idealize.ShloMosaic.Lib.Pointwise
public import Idealize.ShloMosaic.Lib.Tactic
public import Idealize.ShloMosaic.Lib.WholeRead
public import Idealize.ShloMosaic.Lib.Pipeline.ValueKit.Basic
public import Idealize.ShloMosaic.Lib.Pipeline.ValueKit.Tiles

@[expose] public section

noncomputable section

namespace Cert.AdamGdnConvIdeal.Body

open Cert.AdamGdnConvIdeal Cert.AdamGdnConvIdeal.Gen Idealize.ShloMosaic Idealize.ShloMosaic.TcCoe Idealize.SL.Sem Cert.Adam

section
variable (w s x v : FVec Ideal S1x4x384 .f32) (a : Fin 4) (j : Fin 384)

/-- The four results at an index: the gradient is the argument, the rest one step's. -/
def newM : EReal := mean (s (ix3 0 a j)) (x (ix3 0 a j))
def newQ : EReal := power (s (ix3 0 a j)) (v (ix3 0 a j))
def delta : EReal := move (w (ix3 0 a j)) (newM s x a j) (newQ s v a j)

theorem out4 : Value.G4 (F := Ideal) w s x v (ix3 0 a j) = s (ix3 0 a j) := by
  pointwise [k0_pay5, k0_pay2]

theorem out6 : Value.G6 (F := Ideal) w s x v (ix3 0 a j) = newM s x a j := by
  pointwise [k0_pay6, k0_pay3, k0_pay2]
  rfl

theorem out7 : Value.G7 (F := Ideal) w s x v (ix3 0 a j) = newQ s v a j := by
  pointwise [k0_pay7, k0_pay4, k0_pay2]
  rfl

theorem out5 : Value.G5 (F := Ideal) w s x v (ix3 0 a j) = delta w s x v a j := by
  pointwise [k0_pay1, k0_pay8, k0_pay9, k0_pay3, k0_pay4, k0_pay2]
  rfl

end

/-- The weights, their gradient, and the two averages before the step. -/
def W (m : (ℓ : Loc nD τ sig) → Buf (Elt Ideal) ℓ) (c : Dev nD) : FVec Ideal S1x4x384 .f32 := m ((c : Thread nD τ).loc main_arg0)
def G (m : (ℓ : Loc nD τ sig) → Buf (Elt Ideal) ℓ) (c : Dev nD) : FVec Ideal S1x4x384 .f32 := m ((c : Thread nD τ).loc main_arg1)
def M (m : (ℓ : Loc nD τ sig) → Buf (Elt Ideal) ℓ) (c : Dev nD) : FVec Ideal S1x4x384 .f32 := m ((c : Thread nD τ).loc main_arg2)
def Q (m : (ℓ : Loc nD τ sig) → Buf (Elt Ideal) ℓ) (c : Dev nD) : FVec Ideal S1x4x384 .f32 := m ((c : Thread nD τ).loc main_arg3)

end Cert.AdamGdnConvIdeal.Body

namespace Cert.Proof

open Idealize.ShloMosaic Idealize.SL.Sem Cert.AdamGdnConvIdeal.Body Cert.Adam
open Cert.AdamGdnConvReferenceIdeal.Read

theorem adamgdnconv_defs_eq : Cert.AdamGdnConvIdeal.defs₀ (F := Bits) = Cert.AdamGdnConv.defs₀ (F := Bits) := by
  unfold Cert.AdamGdnConv.defs₀ Cert.AdamGdnConvIdeal.defs₀
  congr 1
  funext l a
  match l, a with
  | 0, (t, s) => rfl

theorem frame_adamgdnconv : Cert.quiescent_AdamGdnConv := fun m g _ => by
  have h := Cert.AdamGdnConvIdeal.Gen.frame (F := Bits) m g
  unfold Cert.AdamGdnConvIdeal.defs at h
  rw [adamgdnconv_defs_eq] at h
  exact h

theorem frame_adamgdnconv_reference : Cert.quiescent_AdamGdnConvReferenceIdeal := fun m g _ => by
  refine (θ_run Cert.AdamGdnConvReferenceIdeal.defs _ _).mono (fun r h => ?_) (Cert.AdamGdnConvReferenceIdeal.Value.run (F := Ideal) m g)
  exact ⟨fun c => (h c).2.2.2.2, sem_eq_zero_of_no_sems (by decide) _⟩

section
variable (w s x v : FVec Ideal Cert.AdamGdnConvReferenceIdeal.S1x4x384 .f32) (a : Fin 4) (j : Fin 384)

/-- A sum over the one part is the part. -/
theorem adamgdnconv_grad : val_main_v1 (F := Ideal) s (ix3 0 a j) = s (ix3 0 a j) := by
  pointwise [val_main_v1, val_main_v0, val_main_cst]
  exact Fin.sum_univ_one _

theorem adamgdnconv_mean : val_main_v6 (F := Ideal) s x (ix3 0 a j) = newM s x a j := by
  pointwise [val_main_v6, val_main_v5, val_main_v4, val_main_v3, val_main_v2, val_main_cst_0, val_main_cst_1]
  rw [adamgdnconv_grad]
  rfl

theorem adamgdnconv_power : val_main_v12 (F := Ideal) s v (ix3 0 a j) = newQ s v a j := by
  pointwise [val_main_v12, val_main_v11, val_main_v10, val_main_v9, val_main_v8, val_main_v7, val_main_cst_2, val_main_cst_3]
  rw [adamgdnconv_grad]
  rfl

theorem adamgdnconv_move : val_main_v25 (F := Ideal) w s x v (ix3 0 a j) = delta w s x v a j := by
  pointwise [val_main_v25, val_main_v24, val_main_v23, val_main_v22, val_main_v21, val_main_v20, val_main_v19, val_main_v18, val_main_v17, val_main_v16, val_main_v15, val_main_v14, val_main_v13,
    val_main_cst_4, val_main_cst_5, val_main_cst_6, val_main_cst_7, val_main_cst_8]
  rw [adamgdnconv_mean, adamgdnconv_power]
  rfl

end

/-- Two arrays of one matrix agree if they do at every row and column. -/
theorem adamgdnconv_ext {f h : (⟨3, ![1, 4, 384]⟩ : Shape).Idx → EReal} (e : ∀ (a : Fin 4) (j : Fin 384), f (ix3 0 a j) = h (ix3 0 a j)) : f = h := by
  funext i
  obtain ⟨q, a, j, rfl⟩ : ∃ (q : Fin 1) (a : Fin 4) (j : Fin 384), i = ix3 q a j := ⟨i 0, i 1, i 2, eq_ix3 i⟩
  obtain rfl : q = 0 := Subsingleton.elim _ _
  exact e a j

theorem agree_adamgdnconv : Cert.algebraic_AdamGdnConvIdeal_AdamGdnConvReferenceIdeal := by
  intro m g m' g' _ hargs
  refine ⟨fun (c : Dev Cert.AdamGdnConvIdeal.nD) => G m c,
    fun (c : Dev Cert.AdamGdnConvIdeal.nD) (i : (⟨3, ![1, 4, 384]⟩ : Shape).Idx) => delta (W m c) (G m c) (M m c) (Q m c) (i 1) (i 2),
    fun (c : Dev Cert.AdamGdnConvIdeal.nD) (i : (⟨3, ![1, 4, 384]⟩ : Shape).Idx) => newM (G m c) (M m c) (i 1) (i 2),
    fun (c : Dev Cert.AdamGdnConvIdeal.nD) (i : (⟨3, ![1, 4, 384]⟩ : Shape).Idx) => newQ (G m c) (Q m c) (i 1) (i 2), ?_, ?_⟩
  · refine (θ_run Cert.AdamGdnConvIdeal.defs _ _).mono (fun r h c => ⟨?_, ?_, ?_, ?_, (h c).2.2.2.2⟩) (Cert.AdamGdnConvIdeal.Value.run (F := Ideal) m g)
    · rw [(h c).1]
      exact adamgdnconv_ext fun a j => out4 _ _ _ _ a j
    · rw [(h c).2.1]
      exact adamgdnconv_ext fun a j => out5 _ _ _ _ a j
    · rw [(h c).2.2.1]
      exact adamgdnconv_ext fun a j => out6 _ _ _ _ a j
    · rw [(h c).2.2.2.1]
      exact adamgdnconv_ext fun a j => out7 _ _ _ _ a j
  · refine (θ_run Cert.AdamGdnConvReferenceIdeal.defs _ _).mono (fun r h c => ⟨?_, ?_, ?_, ?_, (h c).2.2.2.2⟩) (Cert.AdamGdnConvReferenceIdeal.Value.run (F := Ideal) m' g')
    · rw [(h c).1, val_main_v1_eq, (hargs c).2.1]
      exact adamgdnconv_ext fun a j => adamgdnconv_grad _ a j
    · rw [(h c).2.1, val_main_v25_eq, (hargs c).1, (hargs c).2.1, (hargs c).2.2.1, (hargs c).2.2.2]
      exact adamgdnconv_ext fun a j => adamgdnconv_move _ _ _ _ a j
    · rw [(h c).2.2.1, val_main_v6_eq, (hargs c).2.1, (hargs c).2.2.1]
      exact adamgdnconv_ext fun a j => adamgdnconv_mean _ _ a j
    · rw [(h c).2.2.2.1, val_main_v12_eq, (hargs c).2.1, (hargs c).2.2.2]
      exact adamgdnconv_ext fun a j => adamgdnconv_power _ _ a j

end Cert.Proof

end
-- ==== Proof.LruConvPads.lean ====
/- The convolution before the recurrence: what one grid point stores. -/
module

public import proofs.«01_k».proof.Proof.Sums
public import proofs.«01_k».proof.Proof.Gen.LruConvIdeal.Value
public import Idealize.ShloMosaic.Lib.Pointwise
public import Idealize.ShloMosaic.Lib.Tactic
public import Idealize.ShloMosaic.Lib.WholeRead
public import Idealize.ShloMosaic.Lib.WritesUnit
public import Idealize.ShloMosaic.Lib.Pipeline.ValueKit.Tiles
public import Idealize.ShloMosaic.Lib.Pipeline.ValueKit.Basic

@[expose] public section

noncomputable section

namespace Cert.LruConvIdeal.Body

open Cert.LruConvIdeal Cert.LruConvIdeal.Gen Idealize.ShloMosaic Idealize.ShloMosaic.TcCoe Idealize.SL.Sem Cert.Sums

/-- The carried rows followed by the block's own rows. -/
def padded (base : FVec Ideal S1032x512 .f32) (x : FVec Ideal S1024x512 .f32) : FVec Ideal S1032x512 .f32 :=
  fun y => if 8 ≤ (y 0).val then nat2 x ((y 0).val - 8) (y 1).val else base y

/-- The convolution of a block: four taps over the padded rows, and the bias. -/
def Y (q : FVec Ideal S1032x512 .f32) (w : FVec Ideal S4x512 .f32) (b : FVec Ideal S1x512 .f32) (y : S1024x512.Idx) : EReal :=
  nat2 w 0 (y 1).val * nat2 q ((y 0).val + 5) (y 1).val + nat2 w 1 (y 1).val * nat2 q ((y 0).val + 6) (y 1).val
    + nat2 w 2 (y 1).val * nat2 q ((y 0).val + 7) (y 1).val + nat2 w 3 (y 1).val * nat2 q ((y 0).val + 8) (y 1).val + nat2 b 0 (y 1).val

theorem nat2_at {n k : ℕ} (f : (⟨2, ![n, k]⟩ : Shape).Idx → EReal) (y : (⟨2, ![n, k]⟩ : Shape).Idx) (a b : ℕ) (ha : (y 0).val = a) (hb : (y 1).val = b) :
    f y = nat2 f a b := by
  subst ha hb
  refine Eq.trans ?_ (nat2_of f (show (y 0).val < n from (y 0).isLt) (show (y 1).val < k from (y 1).isLt)).symm
  congr 1
  funext x
  match x with
  | ⟨0, _⟩ => rfl
  | ⟨1, _⟩ => rfl

theorem ld_pad (q : FVec Ideal S1032x512 .f32) (o l : ℕ) (size : Fin 2 → ℕ) (inb : ∀ a, (![o, l] : Fin 2 → ℕ) a + size a ≤ S1032x512.size a) :
    View.ld (Val := Elt Ideal) (e' := .f32) q (Rect.unit (s := S1032x512) ![o, l] size inb) = fun x => nat2 q (o + (x (0 : Fin 2)).val) (l + (x (1 : Fin 2)).val) := by
  funext x
  exact nat2_at q _ _ _ (by show o + 1 * _ = _; omega) (by show l + 1 * _ = _; omega)
theorem ld_taps (q : FVec Ideal S4x512 .f32) (o l : ℕ) (size : Fin 2 → ℕ) (inb : ∀ a, (![o, l] : Fin 2 → ℕ) a + size a ≤ S4x512.size a) :
    View.ld (Val := Elt Ideal) (e' := .f32) q (Rect.unit (s := S4x512) ![o, l] size inb) = fun x => nat2 q (o + (x (0 : Fin 2)).val) (l + (x (1 : Fin 2)).val) := by
  funext x
  exact nat2_at q _ _ _ (by show o + 1 * _ = _; omega) (by show l + 1 * _ = _; omega)
theorem ld_bias (q : FVec Ideal S1x512 .f32) (o l : ℕ) (size : Fin 2 → ℕ) (inb : ∀ a, (![o, l] : Fin 2 → ℕ) a + size a ≤ S1x512.size a) :
    View.ld (Val := Elt Ideal) (e' := .f32) q (Rect.unit (s := S1x512) ![o, l] size inb) = fun x => nat2 q (o + (x (0 : Fin 2)).val) (l + (x (1 : Fin 2)).val) := by
  funext x
  exact nat2_at q _ _ _ (by show o + 1 * _ = _; omega) (by show l + 1 * _ = _; omega)
theorem ld_whole (inb : ∀ a, (![0, 0] : Fin 2 → ℕ) a + (![1024, 512] : Fin 2 → ℕ) a ≤ S1024x512.size a) (X : S1024x512.Idx → Elt Ideal .f32) :
    View.ld X (Rect.unit (s := S1024x512) ![0, 0] ![1024, 512] inb) = X := View.ld_unit_lit (S := S1024x512) inb X (by decide)

theorem pay1 (v : FVec Ideal S8x512 .f32) : k0_pay1 (F := Ideal) v = v := by
  funext y; pointwise [k0_pay1]
theorem pay2 (y : S8x512.Idx) : k0_pay2 (F := Ideal) y = 0 := by
  pointwise [k0_pay2]
theorem pay3 (v : FVec Ideal S1024x512 .f32) : k0_pay3 (F := Ideal) v = v := by
  funext y; pointwise [k0_pay3]

theorem key (q : FVec Ideal S1032x512 .f32) (w : FVec Ideal S4x512 .f32) (b : FVec Ideal S1x512 .f32) (r l : ℕ)
    (inb : ∀ a, (![r, l] : Fin 2 → ℕ) a + (![64, 128] : Fin 2 → ℕ) a ≤ S1024x512.size a) (x : S64x128.Idx) :
    k0_pay4 (F := Ideal) (fun x => nat2 w (0 + (x (0 : Fin 2)).val) (l + (x (1 : Fin 2)).val))
      (fun x => nat2 q (r + 5 + (x (0 : Fin 2)).val) (l + (x (1 : Fin 2)).val)) (fun x => nat2 q (r + 6 + (x (0 : Fin 2)).val) (l + (x (1 : Fin 2)).val))
      (fun x => nat2 q (r + 7 + (x (0 : Fin 2)).val) (l + (x (1 : Fin 2)).val)) (fun x => nat2 q (r + 8 + (x (0 : Fin 2)).val) (l + (x (1 : Fin 2)).val))
      (fun x => nat2 b (0 + (x (0 : Fin 2)).val) (l + (x (1 : Fin 2)).val)) x
      = Y q w b ((Rect.unit (s := S1024x512) ![r, l] ![64, 128] inb).emb x) := by
  have h0 : (((Rect.unit (s := S1024x512) ![r, l] ![64, 128] inb).emb x) (0 : Fin 2)).val = r + (x (0 : Fin 2)).val := by
    show r + 1 * (x (0 : Fin 2)).val = _; omega
  have h1 : (((Rect.unit (s := S1024x512) ![r, l] ![64, 128] inb).emb x) (1 : Fin 2)).val = l + (x (1 : Fin 2)).val := by
    show l + 1 * (x (1 : Fin 2)).val = _; omega
  unfold Y
  rw [h0, h1]
  have e (k : ℕ) : r + (x (0 : Fin 2)).val + k = r + k + (x (0 : Fin 2)).val := by omega
  rw [e, e, e, e]
  pointwise [k0_pay4]

section Pad
variable {arg6 : Memref sig .tc .vmem S1032x512 .f32}

/-- What a buffer holds after the block's rows are stored eight rows down. -/
theorem read8 (v : View sig .tc .vmem S1032x512 .f32) (f : v.ty.Contents (Elt Ideal)) (X : FVec Ideal S1024x512 .f32)
    (inb : ∀ a, (![8, 0] : Fin 2 → ℕ) a + (![1024, 512] : Fin 2 → ℕ) a ≤ S1032x512.size a) (L : List (View.Piece (Elt Ideal) S1032x512 .f32)) (y : S1032x512.Idx) :
    v.read (Elt Ideal) (v.writes (Elt Ideal) f (⟨Rect.unit ![8, 0] ![1024, 512] inb, X⟩ :: L)) y
      = padded (v.read (Elt Ideal) (v.writes (Elt Ideal) f L)) X y := by
  have hy0 : (y 0).val < 1032 := (y 0).isLt
  have hy1 : (y 1).val < 512 := (y 1).isLt
  unfold padded
  split
  · rename_i h
    rw [nat2_of _ (by omega) hy1]
    exact View.read_writes_cons_unit_of_mem v f inb X L y (ix2 ⟨(y 0).val - 8, by omega⟩ ⟨(y 1).val, hy1⟩) rfl
      (Fin.forall_fin_two.mpr ⟨by show (y 0).val = 8 + ((y 0).val - 8); omega, by show (y 1).val = 0 + (y 1).val; omega⟩)
  · rename_i h
    exact View.read_writes_cons_unit_of_not_mem v f inb X L y rfl (0 : Fin 2) (Or.inl (by show (y 0).val < 8; omega))

theorem padded_congr (f g : FVec Ideal S1032x512 .f32) (X : FVec Ideal S1024x512 .f32) (h : ∀ y : S1032x512.Idx, (y 0).val < 8 → f y = g y) :
    padded f X = padded g X := by
  funext y
  unfold padded
  split
  · rfl
  · exact h y (by omega)

theorem base0 (Z : FVec Ideal S8x512 .f32) (hZ : ∀ y, Z y = 0) (v : View sig .tc .vmem S1032x512 .f32) (f : v.ty.Contents (Elt Ideal))
    (inb : ∀ a, (![0, 0] : Fin 2 → ℕ) a + (![8, 512] : Fin 2 → ℕ) a ≤ S1032x512.size a) (y : S1032x512.Idx) (hy : (y 0).val < 8) :
    v.read (Elt Ideal) (v.writes (Elt Ideal) f [⟨Rect.unit ![0, 0] ![8, 512] inb, Z⟩]) y = (0 : EReal) := by
  have hy1 : (y 1).val < 512 := (y 1).isLt
  rw [View.read_writes_cons_unit_of_mem v f inb Z [] y (ix2 ⟨(y 0).val, hy⟩ ⟨(y 1).val, hy1⟩) rfl
      (Fin.forall_fin_two.mpr ⟨by show (y 0).val = 0 + (y 0).val; omega, by show (y 1).val = 0 + (y 1).val; omega⟩)]
  exact hZ _

theorem readZ (Z : FVec Ideal S8x512 .f32) (hZ : ∀ y, Z y = 0) (v : View sig .tc .vmem S1032x512 .f32) (X : FVec Ideal S1024x512 .f32) (inb : ∀ a, (![8, 0] : Fin 2 → ℕ) a + (![1024, 512] : Fin 2 → ℕ) a ≤ S1032x512.size a)
    (inb' : ∀ a, (![0, 0] : Fin 2 → ℕ) a + (![8, 512] : Fin 2 → ℕ) a ≤ S1032x512.size a) (r : Rect S1032x512) :
    v.readCov (Val := Elt Ideal) [⟨Rect.unit ![8, 0] ![1024, 512] inb, X⟩, ⟨Rect.unit ![0, 0] ![8, 512] inb', Z⟩] r.toLoadRect
      = View.ld (Val := Elt Ideal) (e' := .f32) (padded (fun _ => (0 : EReal)) X) r := by
  unfold View.readCov
  rw [View.readAt_eq_ld]
  have e : v.read (Elt Ideal) (v.writes (Elt Ideal) v.junk [⟨Rect.unit ![8, 0] ![1024, 512] inb, X⟩, ⟨Rect.unit ![0, 0] ![8, 512] inb', Z⟩]) = padded (fun _ => (0 : EReal)) X := by
    funext y
    exact (read8 v _ X inb _ y).trans (congrFun (padded_congr _ _ X (base0 Z hZ v _ inb')) y)
  rw [e]

theorem readA (v : View sig .tc .vmem S1032x512 .f32) (X : FVec Ideal S1024x512 .f32) (inb : ∀ a, (![8, 0] : Fin 2 → ℕ) a + (![1024, 512] : Fin 2 → ℕ) a ≤ S1032x512.size a)
    (inb' : ∀ a, (![0, 0] : Fin 2 → ℕ) a + (![8, 512] : Fin 2 → ℕ) a ≤ S1032x512.size a) (r : Rect S1032x512) :
    v.readCov (Val := Elt Ideal) [⟨Rect.unit ![8, 0] ![1024, 512] inb, X⟩, ⟨Rect.unit ![0, 0] ![8, 512] inb', k0_pay2 (F := Ideal)⟩] r.toLoadRect
      = View.ld (Val := Elt Ideal) (e' := .f32) (padded (fun _ => (0 : EReal)) X) r :=
  readZ _ pay2 v X inb inb' r

theorem readB (harg6 : arg6.IsWhole) (xs : FVec Ideal S1032x512 .f32) (X : FVec Ideal S1024x512 .f32) (inb : ∀ a, (![8, 0] : Fin 2 → ℕ) a + (![1024, 512] : Fin 2 → ℕ) a ≤ S1032x512.size a) (r : Rect S1032x512) :
    View.readAt (Elt Ideal) arg6.view r.toLoadRect (arg6.view.writes (Elt Ideal) (harg6.unread xs) [⟨Rect.unit ![8, 0] ![1024, 512] inb, X⟩])
      = View.ld (Val := Elt Ideal) (e' := .f32) (padded xs X) r := by
  rw [View.readAt_eq_ld]
  congr 1
  funext y
  rw [read8]
  exact congrFun (padded_congr _ _ X fun y _ => congrFun (harg6.read_unread (Val := Elt Ideal) xs) y) y

theorem readC (v : View sig .tc .vmem S1032x512 .f32) (xs : FVec Ideal S1032x512 .f32) (X : FVec Ideal S1024x512 .f32) (inb : ∀ a, (![8, 0] : Fin 2 → ℕ) a + (![1024, 512] : Fin 2 → ℕ) a ≤ S1032x512.size a)
    (o l : ℕ) (size : Fin 2 → ℕ) (inb' : ∀ a, (![o, l] : Fin 2 → ℕ) a + size a ≤ S1032x512.size a) (h : 8 ≤ o) :
    v.readCov (Val := Elt Ideal) [⟨Rect.unit ![8, 0] ![1024, 512] inb, X⟩] (Rect.unit (s := S1032x512) ![o, l] size inb').toLoadRect
      = View.ld (Val := Elt Ideal) (e' := .f32) (padded xs X) (Rect.unit (s := S1032x512) ![o, l] size inb') := by
  unfold View.readCov
  rw [View.readAt_eq_ld]
  funext x
  refine (read8 v _ X inb [] _).trans ?_
  unfold padded
  have e : 8 ≤ (((Rect.unit (s := S1032x512) ![o, l] size inb').idx x) (0 : Fin 2)).val := by
    show 8 ≤ o + 1 * _; omega
  rw [if_pos e]
  exact (if_pos e).symm

theorem rd {sp : Space} {s : Shape} {a : Memref sig .tc sp s .f32} (h : a.IsWhole) (X : FVec Ideal s .f32) (r : Rect s) :
    View.readAt (Elt Ideal) a.view r.toLoadRect (h.unread X) = View.ld (Val := Elt Ideal) (e' := .f32) X r := by
  rw [View.readAt_eq_ld]
  congr 1
  exact h.read_unread _

theorem padded_hi (q : FVec Ideal S1032x512 .f32) (x : FVec Ideal S1024x512 .f32) {r l : ℕ} (h : 8 ≤ r) (hr : r < 1032) (hl : l < 512) :
    nat2 (padded q x) r l = nat2 x (r - 8) l := by
  rw [nat2_of (padded q x) hr hl]
  exact if_pos h

theorem padded_lo (q : FVec Ideal S1032x512 .f32) (x : FVec Ideal S1024x512 .f32) {r l : ℕ} (h : r < 8) (hl : l < 512) :
    nat2 (padded q x) r l = nat2 q r l := by
  rw [nat2_of (padded q x) (show r < 1032 by omega) hl, nat2_of q (show r < 1032 by omega) hl]
  exact if_neg (Nat.not_le.2 h)

end Pad

section Runs
variable (c : Dev nD) (i : grid0.Coords) (arg2 : Memref sig .tc .vmem S1024x512 .f32) (harg2 : arg2.IsWhole) (arg3 : Memref sig .tc .vmem S4x512 .f32) (harg3 : arg3.IsWhole) (arg4 : Memref sig .tc .vmem S1x512 .f32) (harg4 : arg4.IsWhole)
  (arg5 : Memref sig .tc .vmem S1024x512 .f32) (harg5 : arg5.IsWhole) (arg6 : Memref sig .tc .vmem S1032x512 .f32) (harg6 : arg6.IsWhole)
  (x0 : FVec Ideal S1024x512 .f32) (x1 : FVec Ideal S4x512 .f32) (x2 : FVec Ideal S1x512 .f32) (xs : FVec Ideal S1032x512 .f32)

set_option maxHeartbeats 8000000 in
theorem outA (hc0 : cond0_0 i) : out0_A_3 (F := Ideal) c i arg2 harg2 arg3 harg3 arg4 harg4 arg5 harg5 arg6 harg6 hc0 x0 x1 x2 = Y (padded (fun _ => (0 : EReal)) x0) x1 x2 := by
  unfold out0_A_3 kernelRun0_A
  dsimp only
  sl_unfold_words
  rw [View.read_writes_junk_eq_canon]
  funext y
  refine View.canon_eq_of_allAt _ y _ (View.cover_of_tiled_head _ _ _ (by rfl) y) ?_
  unfold View.AllAt
  repeat' refine List.forall_mem_cons.2 ⟨?_, ?_⟩
  all_goals first
    | exact fun _ h => absurd h List.not_mem_nil
    | (rintro x rfl
       dsimp only
       refine Eq.trans ?_ (key _ _ _ _ _ _ x)
       simp only [rd, ld_whole, pay3, readA, ld_pad, ld_taps, ld_bias]
       rfl)

theorem tailA (hc0 : cond0_0 i) (y : S1032x512.Idx) (hy : (y 0).val < 8) :
    sout0_A_0 (F := Ideal) c i arg2 harg2 arg3 harg3 arg4 harg4 arg5 harg5 arg6 harg6 hc0 x0 x1 x2 y = nat2 x0 ((y 0).val + 1016) (y 1).val := by
  have hy1 : (y 1).val < 512 := (y 1).isLt
  unfold sout0_A_0 kernelRun0_A
  dsimp only
  sl_unfold_words
  refine (View.read_writes_cons_unit_of_mem _ _ _ _ _ y (ix2 ⟨(y 0).val, hy⟩ ⟨(y 1).val, hy1⟩) rfl
      (Fin.forall_fin_two.mpr ⟨by show (y 0).val = 0 + (y 0).val; omega, by show (y 1).val = 0 + (y 1).val; omega⟩)).trans ?_
  simp only [rd, ld_whole, pay3, pay1, readA, ld_pad]
  show nat2 (padded _ x0) (1024 + (y 0).val) (0 + (y 1).val) = _
  rw [padded_hi _ _ (by omega) (by omega) (by omega)]
  congr 1 <;> omega

set_option maxHeartbeats 8000000 in
theorem outB (hc0 : ¬cond0_0 i) : out0_B_3 (F := Ideal) c i arg2 harg2 arg3 harg3 arg4 harg4 arg5 harg5 arg6 harg6 hc0 x0 x1 x2 xs = Y (padded xs x0) x1 x2 := by
  unfold out0_B_3 kernelRun0_B
  dsimp only
  sl_unfold_words
  rw [View.read_writes_junk_eq_canon]
  funext y
  refine View.canon_eq_of_allAt _ y _ (View.cover_of_tiled_head _ _ _ (by rfl) y) ?_
  unfold View.AllAt
  repeat' refine List.forall_mem_cons.2 ⟨?_, ?_⟩
  all_goals first
    | exact fun _ h => absurd h List.not_mem_nil
    | (rintro x rfl
       dsimp only
       refine Eq.trans ?_ (key _ _ _ _ _ _ x)
       simp only [rd, ld_whole, pay3, readB, readC arg6.view xs, Nat.reduceLeDiff, ld_pad, ld_taps, ld_bias]
       rfl)

theorem tailB (hc0 : ¬cond0_0 i) (y : S1032x512.Idx) (hy : (y 0).val < 8) :
    sout0_B_0 (F := Ideal) c i arg2 harg2 arg3 harg3 arg4 harg4 arg5 harg5 arg6 harg6 hc0 x0 x1 x2 xs y = nat2 x0 ((y 0).val + 1016) (y 1).val := by
  have hy1 : (y 1).val < 512 := (y 1).isLt
  unfold sout0_B_0 kernelRun0_B
  dsimp only
  sl_unfold_words
  refine (View.read_writes_cons_unit_of_mem _ _ _ _ _ y (ix2 ⟨(y 0).val, hy⟩ ⟨(y 1).val, hy1⟩) rfl
      (Fin.forall_fin_two.mpr ⟨by show (y 0).val = 0 + (y 0).val; omega, by show (y 1).val = 0 + (y 1).val; omega⟩)).trans ?_
  simp only [rd, ld_whole, pay3, pay1, readB, readC arg6.view xs, Nat.reduceLeDiff, ld_pad]
  show nat2 (padded _ x0) (1024 + (y 0).val) (0 + (y 1).val) = _
  rw [padded_hi _ _ (by omega) (by omega) (by omega)]
  congr 1 <;> omega

end Runs

end Cert.LruConvIdeal.Body

end
-- ==== Proof.LruConvValue.lean ====
/- The convolution before the recurrence: the frames, and the kernel's result beside the reference's. -/
module

public import proofs.«01_k».proof.Defs
public import proofs.«01_k».proof.Proof.LruConvPads
public import proofs.«01_k».proof.Proof.Gen.LruConv
public import proofs.«01_k».proof.Proof.Gen.LruConvReferenceIdeal
public import proofs.«01_k».proof.Proof.Gen.LruConvReferenceIdeal.Read
public import Idealize.ShloMosaic.Adequacy
public import Idealize.ShloMosaic.Init
public import Idealize.ShloMosaic.Lib.Claim
public import Idealize.ShloMosaic.Lib.KernelVsHost

@[expose] public section

noncomputable section

namespace Cert.LruConvIdeal.Body

open Cert.LruConvIdeal Cert.LruConvIdeal.Gen Idealize.ShloMosaic Idealize.ShloMosaic.TcCoe Idealize.SL.Sem Cert.Sums

/-- The tokens with three rows of zeros before them. -/
def tok (p : FVec Ideal S4096x3072 .f32) (s l : ℕ) : EReal := if 3 ≤ s then nat2 p (s - 3) (2048 + l) else 0

/-- One entry of the convolution. -/
def conv (p : FVec Ideal S4096x3072 .f32) (w : FVec Ideal S4x512 .f32) (b : FVec Ideal S1x512 .f32) (t l : ℕ) : EReal :=
  nat2 w 0 l * tok p t l + nat2 w 1 l * tok p (t + 1) l + nat2 w 2 l * tok p (t + 2) l + nat2 w 3 l * tok p (t + 3) l + nat2 b 0 l

section Run
variable (m : (ℓ : Loc nD τ sig) → Buf (Elt Ideal) ℓ) (c : Dev nD)

def P : FVec Ideal S4096x3072 .f32 := m ((c : Thread nD τ).loc main_arg0)
def Wt : FVec Ideal S4x512 .f32 := m ((c : Thread nD τ).loc main_arg1)
def B : FVec Ideal S1x512 .f32 := m ((c : Thread nD τ).loc main_arg2)

theorem ix0 : ∀ t : Fin grid0.N, win0_0.index t = ![t.val, 4] := by decide +kernel
theorem ix1 : ∀ t : Fin grid0.N, win0_1.index t = ![0, 0] := by decide +kernel
theorem ix2' : ∀ t : Fin grid0.N, win0_2.index t = ![0, 0] := by decide +kernel

/-- The three blocks a point reads. -/
abbrev blk0 (t : Fin cfg0.N) : FVec Ideal S1024x512 .f32 := iblk m c 0 t
abbrev blk1 (t : Fin cfg0.N) : FVec Ideal S4x512 .f32 := iblk m c 1 t
abbrev blk2 (t : Fin cfg0.N) : FVec Ideal S1x512 .f32 := iblk m c 2 t

theorem read0 (t : Fin cfg0.N) {r l : ℕ} (hr : r < 1024) (hl : l < 512) : nat2 (blk0 m c t) r l = nat2 (P m c) (1024 * t.val + r) (2048 + l) := by
  have hN := lt_of_lt_of_eq t.isLt N_0
  rw [nat2_of _ hr hl]
  unfold blk0 iblk
  rw [View.read_apply]
  refine nat2_at (P m c) _ _ _ ?_ ?_
  · show win0_0.index t 0 * 1024 + 1 * r = _; rw [congrFun (ix0 t) 0]; show t.val * 1024 + 1 * r = _; omega
  · show win0_0.index t 1 * 512 + 1 * l = _; rw [congrFun (ix0 t) 1]; show 4 * 512 + 1 * l = _; omega

theorem read1 (t : Fin cfg0.N) {r l : ℕ} (hr : r < 4) (hl : l < 512) : nat2 (blk1 m c t) r l = nat2 (Wt m c) r l := by
  rw [nat2_of _ hr hl]
  unfold blk1 iblk
  rw [View.read_apply]
  refine nat2_at (Wt m c) _ _ _ ?_ ?_
  · show win0_1.index t 0 * 4 + 1 * r = _; rw [congrFun (ix1 t) 0]; show 0 * 4 + 1 * r = _; omega
  · show win0_1.index t 1 * 512 + 1 * l = _; rw [congrFun (ix1 t) 1]; show 0 * 512 + 1 * l = _; omega

theorem read2 (t : Fin cfg0.N) {l : ℕ} (hl : l < 512) : nat2 (blk2 m c t) 0 l = nat2 (B m c) 0 l := by
  rw [nat2_of _ Nat.one_pos hl]
  unfold blk2 iblk
  rw [View.read_apply]
  refine nat2_at (B m c) _ _ _ ?_ ?_
  · show win0_2.index t 0 * 1 + 1 * 0 = _; rw [congrFun (ix2' t) 0]; rfl
  · show win0_2.index t 1 * 512 + 1 * l = _; rw [congrFun (ix2' t) 1]; show 0 * 512 + 1 * l = _; omega

/-- After each point the buffer's first eight rows are the block's last eight. -/
theorem carried (t : Fin cfg0.N) {s l : ℕ} (hs : s < 8) (hl : l < 512) :
    nat2 ((outsAt0 m c t.val t.isLt).2 : FVec Ideal S1032x512 .f32) s l = nat2 (P m c) (1024 * t.val + 1016 + s) (2048 + l) := by
  have e : nat2 ((outsAt0 m c t.val t.isLt).2 : FVec Ideal S1032x512 .f32) s l = nat2 (blk0 m c t) (s + 1016) l := by
    rw [nat2_of _ (show s < 1032 by omega) hl]
    by_cases h0 : t.val % 4 = 0
    · rw [outsAt0_A m c t h0]
      dsimp only
      exact tailA c (grid0.coords t) (ms0_0 t) (hs0_0 t) (ms0_1 t) (hs0_1 t) (ms0_2 t) (hs0_2 t) (ms0_3 t) (hs0_3 t) scM0_0 (Memref.isWhole_whole _) (blk0 m c t) (blk1 m c t) (blk2 m c t) ((hcond0_0 t).mpr h0) (ix2 ⟨s, by omega⟩ ⟨l, hl⟩) hs
    · rw [outsAt0_B m c t h0]
      dsimp only
      exact tailB c (grid0.coords t) (ms0_0 t) (hs0_0 t) (ms0_1 t) (hs0_1 t) (ms0_2 t) (hs0_2 t) (ms0_3 t) (hs0_3 t) scM0_0 (Memref.isWhole_whole _) (blk0 m c t) (blk1 m c t) (blk2 m c t) (outsAt0 m c (t.val - 1) (Nat.lt_of_le_of_lt (Nat.sub_le _ _) t.isLt)).2 (fun h => h0 ((hcond0_0 t).mp h)) (ix2 ⟨s, by omega⟩ ⟨l, hl⟩) hs
  rw [e, read0 m c t (by omega) hl]
  congr 1
  omega

/-- What a point stores, from what its padded rows hold. -/
theorem store (t : Fin cfg0.N) (q : FVec Ideal S1032x512 .f32)
    (hq : ∀ s l : ℕ, 5 ≤ s → s < 8 → l < 512 → nat2 q s l = tok (P m c) (1024 * t.val + s - 5) l) (r : Fin 1024) (l : Fin 512) :
    Y (padded q (blk0 m c t)) (blk1 m c t) (blk2 m c t) (ix2 r l) = conv (P m c) (Wt m c) (B m c) (1024 * t.val + r.val) l.val := by
  have h (s k : ℕ) (h5 : 5 ≤ s) (h1 : s < 1032) (hk : 1024 * t.val + s - 5 = k) : nat2 (padded q (blk0 m c t)) s l.val = tok (P m c) k l.val := by
    subst hk
    by_cases h8 : s < 8
    · rw [padded_lo _ _ h8 l.isLt]
      exact hq s l.val h5 h8 l.isLt
    · rw [padded_hi _ _ (by omega) h1 l.isLt, read0 m c t (by omega) l.isLt]
      unfold tok
      rw [if_pos (by omega)]
      congr 1
      omega
  have hr := r.isLt
  show nat2 (blk1 m c t) 0 l.val * nat2 _ (r.val + 5) l.val + nat2 (blk1 m c t) 1 l.val * nat2 _ (r.val + 6) l.val + nat2 (blk1 m c t) 2 l.val * nat2 _ (r.val + 7) l.val
    + nat2 (blk1 m c t) 3 l.val * nat2 _ (r.val + 8) l.val + nat2 (blk2 m c t) 0 l.val = _
  rw [h (r.val + 5) (1024 * t.val + r.val) (by omega) (by omega) (by omega), h (r.val + 6) (1024 * t.val + r.val + 1) (by omega) (by omega) (by omega),
    h (r.val + 7) (1024 * t.val + r.val + 2) (by omega) (by omega) (by omega), h (r.val + 8) (1024 * t.val + r.val + 3) (by omega) (by omega) (by omega),
    read1 m c t (by omega) l.isLt, read1 m c t (by omega) l.isLt, read1 m c t (by omega) l.isLt, read1 m c t (by omega) l.isLt, read2 m c t l.isLt]
  rfl

theorem outs (t : Fin cfg0.N) (r : Fin 1024) (l : Fin 512) :
    ((outsAt0 m c t.val t.isLt).1 : FVec Ideal S1024x512 .f32) (ix2 r l) = conv (P m c) (Wt m c) (B m c) (1024 * t.val + r.val) l.val := by
  have hN := lt_of_lt_of_eq t.isLt N_0
  by_cases h0 : t.val % 4 = 0
  · rw [outsAt0_A m c t h0]
    dsimp only
    refine (congrFun (outA c (grid0.coords t) (ms0_0 t) (hs0_0 t) (ms0_1 t) (hs0_1 t) (ms0_2 t) (hs0_2 t) (ms0_3 t) (hs0_3 t) scM0_0 (Memref.isWhole_whole _) (blk0 m c t) (blk1 m c t) (blk2 m c t) ((hcond0_0 t).mpr h0)) (ix2 r l)).trans (store m c t _ (fun s l h5 h8 hl => ?_) r l)
    rw [nat2_of _ (show s < 1032 by omega) hl]
    unfold tok
    rw [if_neg (by omega)]
  · rw [outsAt0_B m c t h0]
    dsimp only
    refine (congrFun (outB c (grid0.coords t) (ms0_0 t) (hs0_0 t) (ms0_1 t) (hs0_1 t) (ms0_2 t) (hs0_2 t) (ms0_3 t) (hs0_3 t) scM0_0 (Memref.isWhole_whole _) (blk0 m c t) (blk1 m c t) (blk2 m c t) (outsAt0 m c (t.val - 1) (Nat.lt_of_le_of_lt (Nat.sub_le _ _) t.isLt)).2 (fun h => h0 ((hcond0_0 t).mp h))) (ix2 r l)).trans (store m c t _ (fun s l h5 h8 hl => ?_) r l)
    refine (carried m c ⟨t.val - 1, by omega⟩ h8 hl).trans ?_
    unfold tok
    rw [if_pos (by omega)]
    congr 1
    show 1024 * (t.val - 1) + 1016 + s = _
    omega

theorem result (t : Fin 4096) (l : Fin 512) :
    (Value.G3 m c : FVec Ideal S4096x512 .f32) (ix2 t l) = conv (P m c) (Wt m c) (B m c) t.val l.val := by
  have hp : Value.pt3Of (ix2 t l) = t.val / 1024 := by
    show 1 * (t.val / 1024 - 0) + 1 * (l.val / 512 - 0) = _
    omega
  have hu : Value.pt3Of (ix2 t l) < cfg0.N := by rw [hp, show cfg0.N = 4 from N_0]; omega
  unfold Value.G3
  rw [dif_pos hu, ← Value.outsAt0_sweep m c _ hu]
  have hl : Value.loc3Of (ix2 t l) = ix2 (⟨t.val % 1024, by omega⟩ : Fin 1024) l := by
    funext x
    apply Fin.ext
    match x with
    | ⟨0, _⟩ => rfl
    | ⟨1, _⟩ => show l.val % 512 = l.val; omega
  rw [hl]
  refine (outs m c ⟨Value.pt3Of (ix2 t l), hu⟩ _ _).trans ?_
  show conv (P m c) (Wt m c) (B m c) (1024 * Value.pt3Of (ix2 t l) + t.val % 1024) l.val = _
  rw [hp, show 1024 * (t.val / 1024) + t.val % 1024 = t.val by omega]

end Run

end Cert.LruConvIdeal.Body

namespace Cert.Proof

open Idealize.ShloMosaic Idealize.SL.Sem Cert.LruConvIdeal.Body Cert.Sums
open Cert.LruConvReferenceIdeal.Read

theorem lruconv_defs_eq : Cert.LruConvIdeal.defs₀ (F := Bits) = Cert.LruConv.defs₀ (F := Bits) := by
  unfold Cert.LruConv.defs₀ Cert.LruConvIdeal.defs₀
  congr 1
  funext l a
  match l, a with
  | 0, (t, s) => rfl

theorem frame_lruconv : Cert.quiescent_LruConv := fun m g _ => by
  have h := Cert.LruConvIdeal.Gen.frame (F := Bits) m g
  unfold Cert.LruConvIdeal.defs at h
  rw [lruconv_defs_eq] at h
  exact h

theorem frame_lruconv_reference : Cert.quiescent_LruConvReferenceIdeal := fun m g _ => by
  refine (θ_run Cert.LruConvReferenceIdeal.defs _ _).mono (fun r h => ?_) (Cert.LruConvReferenceIdeal.Value.run (F := Ideal) m g)
  exact ⟨fun c => (h c).2, sem_eq_zero_of_no_sems (by decide) _⟩

/-- A shifted copy of the padded tokens. -/
theorem shifted (p : FVec Ideal Cert.LruConvReferenceIdeal.S4096x3072 .f32) (s : Fin 4099) (l : Fin 512) :
    val_main_v1 (F := Ideal) p (ix2 s l) = tok p s.val l.val := by
  have hs := s.isLt
  unfold val_main_v1 tok
  split
  · rename_i h
    refine (pad_apply_of_inside _ _ _ _ _ _ _ (ix2 s l) (ix2 (⟨s.val - 3, by omega⟩ : Fin 4096) l) ?_).trans ?_
    · exact Fin.forall_fin_two.mpr ⟨by show s.val = 3 + (s.val - 3) * (0 + 1); omega, by show l.val = 0 + l.val * (0 + 1); omega⟩
    · rw [val_main_v0_apply]
      exact nat2_at p _ _ _ rfl rfl
  · rename_i h
    refine (pad_apply_of_not_inside _ _ _ _ _ _ _ (ix2 s l) (0 : Fin 2) (fun hh => h hh.1)).trans ?_
    show (((0#32 : BitVec 32).toInt : ℝ) : EReal) = 0
    simp

theorem shifted_at (p : FVec Ideal Cert.LruConvReferenceIdeal.S4096x3072 .f32) (y : Cert.LruConvReferenceIdeal.S4099x512.Idx) {s l : ℕ} (hs : (y 0).val = s) (hl : (y 1).val = l) :
    val_main_v1 (F := Ideal) p y = tok p s l := by
  subst hs hl
  obtain ⟨s, l, rfl⟩ : ∃ (s : Fin 4099) (l : Fin 512), y = ix2 s l := ⟨y 0, y 1, eq_ix2 y⟩
  exact shifted p s l

theorem lruconv_reference (p : FVec Ideal Cert.LruConvReferenceIdeal.S4096x3072 .f32) (w : FVec Ideal Cert.LruConvReferenceIdeal.S4x512 .f32)
    (b : FVec Ideal Cert.LruConvReferenceIdeal.S1x512 .f32) (t : Fin 4096) (l : Fin 512) :
    val_main_v32 (F := Ideal) p w b (ix2 t l) = conv p w b t.val l.val := by
  have z : val_main_v8 (F := Ideal) (ix2 t l) = 0 := by pointwise [val_main_v8, val_main_cst]
  have p0 : val_main_v4 (F := Ideal) p (ix2 t l) = tok p t.val l.val := (val_main_v4_apply (F := Ideal) p (ix2 t l)).trans (shifted_at p _ rfl rfl)
  have p1 : val_main_v12 (F := Ideal) p (ix2 t l) = tok p (t.val + 1) l.val := (val_main_v12_apply (F := Ideal) p (ix2 t l)).trans (shifted_at p _ (Nat.add_comm 1 _) rfl)
  have p2 : val_main_v19 (F := Ideal) p (ix2 t l) = tok p (t.val + 2) l.val := (val_main_v19_apply (F := Ideal) p (ix2 t l)).trans (shifted_at p _ (Nat.add_comm 2 _) rfl)
  have p3 : val_main_v26 (F := Ideal) p (ix2 t l) = tok p (t.val + 3) l.val := (val_main_v26_apply (F := Ideal) p (ix2 t l)).trans (shifted_at p _ (Nat.add_comm 3 _) rfl)
  have w0 : val_main_v6 (F := Ideal) w (ix2 t l) = nat2 w 0 l.val := by
    rw [val_main_v6_apply, val_main_v5_apply, val_main_v3_apply, val_main_v2_apply]; exact nat2_at w _ _ _ rfl (Nat.mod_eq_of_lt l.isLt)
  have w1 : val_main_v14 (F := Ideal) w (ix2 t l) = nat2 w 1 l.val := by
    rw [val_main_v14_apply, val_main_v13_apply, val_main_v11_apply, val_main_v10_apply]; exact nat2_at w _ _ _ rfl (Nat.mod_eq_of_lt l.isLt)
  have w2 : val_main_v21 (F := Ideal) w (ix2 t l) = nat2 w 2 l.val := by
    rw [val_main_v21_apply, val_main_v20_apply, val_main_v18_apply, val_main_v17_apply]; exact nat2_at w _ _ _ rfl (Nat.mod_eq_of_lt l.isLt)
  have w3 : val_main_v28 (F := Ideal) w (ix2 t l) = nat2 w 3 l.val := by
    rw [val_main_v28_apply, val_main_v27_apply, val_main_v25_apply, val_main_v24_apply]; exact nat2_at w _ _ _ rfl (Nat.mod_eq_of_lt l.isLt)
  have b0 : val_main_v31 (F := Ideal) b (ix2 t l) = nat2 b 0 l.val := by
    rw [val_main_v31_apply]; exact nat2_at b _ _ _ rfl rfl
  show (((((val_main_v8 (F := Ideal) (ix2 t l) : EReal) + val_main_v6 (F := Ideal) w (ix2 t l) * val_main_v4 (F := Ideal) p (ix2 t l))
    + val_main_v14 (F := Ideal) w (ix2 t l) * val_main_v12 (F := Ideal) p (ix2 t l))
    + val_main_v21 (F := Ideal) w (ix2 t l) * val_main_v19 (F := Ideal) p (ix2 t l))
    + val_main_v28 (F := Ideal) w (ix2 t l) * val_main_v26 (F := Ideal) p (ix2 t l)) + val_main_v31 (F := Ideal) b (ix2 t l) = _
  rw [z, p0, p1, p2, p3, w0, w1, w2, w3, b0, zero_add]
  rfl

theorem agree_lruconv : Cert.algebraic_LruConvIdeal_LruConvReferenceIdeal := by
  intro m g m' g' _ hargs
  refine ⟨fun (c : Dev Cert.LruConvIdeal.nD) (i : (⟨2, ![4096, 512]⟩ : Shape).Idx) => conv (P m c) (Wt m c) (B m c) (i 0).val (i 1).val, ?_, ?_⟩
  · refine (θ_run Cert.LruConvIdeal.defs _ _).mono (fun r h c => ⟨?_, (h c).2⟩) (Cert.LruConvIdeal.Value.run (F := Ideal) m g)
    rw [(h c).1]
    funext i
    obtain ⟨j, n, rfl⟩ : ∃ (j : Fin 4096) (n : Fin 512), i = ix2 j n := ⟨i 0, i 1, eq_ix2 i⟩
    exact result m c j n
  · refine (θ_run Cert.LruConvReferenceIdeal.defs _ _).mono (fun r h c => ⟨?_, (h c).2⟩) (Cert.LruConvReferenceIdeal.Value.run (F := Ideal) m' g')
    rw [(h c).1]
    funext i
    obtain ⟨j, n, rfl⟩ : ∃ (j : Fin 4096) (n : Fin 512), i = ix2 j n := ⟨i 0, i 1, eq_ix2 i⟩
    refine (congrFun (val_main_v32_eq _ _ _) (ix2 j n)).trans ?_
    rw [(hargs c).1, (hargs c).2.1, (hargs c).2.2]
    exact lruconv_reference _ _ _ j n

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch

public import proofs.«01_k».proof.Proof.Gen.Kernel.Points
public import proofs.«01_k».proof.Proof.Gen.KernelIdeal

public import proofs.«01_k».proof.Proof.Gen.ReferenceIdeal
public import proofs.«01_k».proof.Proof.Gen.On_written
public import proofs.«01_k».proof.Proof.Gen.Pre_finite
public import proofs.«01_k».proof.Proof.Gen.KernelIdeal.Value
public import proofs.«01_k».proof.Proof.Gen.ReferenceIdeal.Read
public import proofs.«01_k».proof.Proof.Gen.Up
public import proofs.«01_k».proof.Proof.Gen.UpIdeal
public import proofs.«01_k».proof.Proof.Gen.UpIdeal.Value
public import proofs.«01_k».proof.Proof.Gen.UpReferenceIdeal
public import proofs.«01_k».proof.Proof.Gen.UpReferenceIdeal.Read
public import proofs.«01_k».proof.Proof.Gen.Dact
public import proofs.«01_k».proof.Proof.Gen.DactIdeal
public import proofs.«01_k».proof.Proof.Gen.DactIdeal.Value
public import proofs.«01_k».proof.Proof.Gen.DactReferenceIdeal
public import proofs.«01_k».proof.Proof.Gen.DactReferenceIdeal.Read
public import proofs.«01_k».proof.Proof.Gen.Dwd
public import proofs.«01_k».proof.Proof.Gen.DwdIdeal
public import proofs.«01_k».proof.Proof.Gen.DwdIdeal.Value
public import proofs.«01_k».proof.Proof.Gen.DwdReferenceIdeal
public import proofs.«01_k».proof.Proof.Gen.DwdReferenceIdeal.Read
public import proofs.«01_k».proof.Proof.Gen.Dwu
public import proofs.«01_k».proof.Proof.Gen.DwuIdeal
public import proofs.«01_k».proof.Proof.Gen.DwuIdeal.Value
public import proofs.«01_k».proof.Proof.Gen.DwuReferenceIdeal
public import proofs.«01_k».proof.Proof.Gen.DwuReferenceIdeal.Read
public import proofs.«01_k».proof.Proof.Gen.Dh
public import proofs.«01_k».proof.Proof.Gen.DhIdeal
public import proofs.«01_k».proof.Proof.Gen.DhIdeal.Value
public import proofs.«01_k».proof.Proof.Gen.DhReferenceIdeal
public import proofs.«01_k».proof.Proof.Gen.DhReferenceIdeal.Read
public import proofs.«01_k».proof.Proof.Gen.InEven
public import proofs.«01_k».proof.Proof.Gen.InEvenIdeal
public import proofs.«01_k».proof.Proof.Gen.InEvenIdeal.Value
public import proofs.«01_k».proof.Proof.Gen.InEvenReferenceIdeal
public import proofs.«01_k».proof.Proof.Gen.InEvenReferenceIdeal.Read
public import proofs.«01_k».proof.Proof.Gen.InOdd
public import proofs.«01_k».proof.Proof.Gen.InOddIdeal
public import proofs.«01_k».proof.Proof.Gen.InOddIdeal.Value
public import proofs.«01_k».proof.Proof.Gen.InOddReferenceIdeal
public import proofs.«01_k».proof.Proof.Gen.InOddReferenceIdeal.Read
public import proofs.«01_k».proof.Proof.Gen.InEvenDw
public import proofs.«01_k».proof.Proof.Gen.InEvenDwIdeal
public import proofs.«01_k».proof.Proof.Gen.InEvenDwIdeal.Value
public import proofs.«01_k».proof.Proof.Gen.InEvenDwReferenceIdeal
public import proofs.«01_k».proof.Proof.Gen.InEvenDwReferenceIdeal.Read
public import proofs.«01_k».proof.Proof.Gen.InOddDw
public import proofs.«01_k».proof.Proof.Gen.InOddDwIdeal
public import proofs.«01_k».proof.Proof.Gen.InOddDwIdeal.Value
public import proofs.«01_k».proof.Proof.Gen.InOddDwReferenceIdeal
public import proofs.«01_k».proof.Proof.Gen.InOddDwReferenceIdeal.Read
public import proofs.«01_k».proof.Proof.Gen.OutDw
public import proofs.«01_k».proof.Proof.Gen.OutDwIdeal
public import proofs.«01_k».proof.Proof.Gen.OutDwIdeal.Value
public import proofs.«01_k».proof.Proof.Gen.OutDwReferenceIdeal
public import proofs.«01_k».proof.Proof.Gen.OutDwReferenceIdeal.Read
public import proofs.«01_k».proof.Proof.Gen.OutDx
public import proofs.«01_k».proof.Proof.Gen.OutDxIdeal
public import proofs.«01_k».proof.Proof.Gen.OutDxIdeal.Value
public import proofs.«01_k».proof.Proof.Gen.OutDxReferenceIdeal
public import proofs.«01_k».proof.Proof.Gen.OutDxReferenceIdeal.Read
public import proofs.«01_k».proof.Proof.Gen.Out
public import proofs.«01_k».proof.Proof.Gen.OutIdeal
public import proofs.«01_k».proof.Proof.Gen.OutIdeal.Value
public import proofs.«01_k».proof.Proof.Gen.OutReferenceIdeal
public import proofs.«01_k».proof.Proof.Gen.OutReferenceIdeal.Read
public import proofs.«01_k».proof.Proof.Gen.Down
public import proofs.«01_k».proof.Proof.Gen.DownIdeal
public import proofs.«01_k».proof.Proof.Gen.DownIdeal.Value
public import proofs.«01_k».proof.Proof.Gen.DownReferenceIdeal
public import proofs.«01_k».proof.Proof.Gen.DownReferenceIdeal.Read
public import proofs.«01_k».proof.Proof.Gen.InEvenDx
public import proofs.«01_k».proof.Proof.Gen.InEvenDxIdeal
public import proofs.«01_k».proof.Proof.Gen.InEvenDxIdeal.Value
public import proofs.«01_k».proof.Proof.Gen.InEvenDxReferenceIdeal
public import proofs.«01_k».proof.Proof.Gen.InEvenDxReferenceIdeal.Read
public import proofs.«01_k».proof.Proof.Gen.InOddDx
public import proofs.«01_k».proof.Proof.Gen.InOddDxIdeal
public import proofs.«01_k».proof.Proof.Gen.InOddDxIdeal.Value
public import proofs.«01_k».proof.Proof.Gen.InOddDxReferenceIdeal
public import proofs.«01_k».proof.Proof.Gen.InOddDxReferenceIdeal.Read
public import proofs.«01_k».proof.Proof.Gen.Head
public import proofs.«01_k».proof.Proof.Gen.HeadIdeal
public import proofs.«01_k».proof.Proof.Gen.HeadIdeal.Value
public import proofs.«01_k».proof.Proof.Gen.HeadReferenceIdeal
public import proofs.«01_k».proof.Proof.Gen.HeadReferenceIdeal.Read
public import proofs.«01_k».proof.Proof.Gen.AdamIn
public import proofs.«01_k».proof.Proof.Gen.AdamInIdeal
public import proofs.«01_k».proof.Proof.Gen.AdamInIdeal.Value
public import proofs.«01_k».proof.Proof.Gen.AdamInReferenceIdeal
public import proofs.«01_k».proof.Proof.Gen.AdamInReferenceIdeal.Read
public import proofs.«01_k».proof.Proof.Gen.AdamUp
public import proofs.«01_k».proof.Proof.Gen.AdamUpIdeal
public import proofs.«01_k».proof.Proof.Gen.AdamUpIdeal.Value
public import proofs.«01_k».proof.Proof.Gen.AdamUpReferenceIdeal
public import proofs.«01_k».proof.Proof.Gen.AdamUpReferenceIdeal.Read
public import proofs.«01_k».proof.Proof.Gen.AdamUp0
public import proofs.«01_k».proof.Proof.Gen.AdamUp0Ideal
public import proofs.«01_k».proof.Proof.Gen.AdamUp0Ideal.Value
public import proofs.«01_k».proof.Proof.Gen.AdamUp0ReferenceIdeal
public import proofs.«01_k».proof.Proof.Gen.AdamUp0ReferenceIdeal.Read
public import proofs.«01_k».proof.Proof.Gen.AdamDown
public import proofs.«01_k».proof.Proof.Gen.AdamDownIdeal
public import proofs.«01_k».proof.Proof.Gen.AdamDownIdeal.Value
public import proofs.«01_k».proof.Proof.Gen.AdamDownReferenceIdeal
public import proofs.«01_k».proof.Proof.Gen.AdamDownReferenceIdeal.Read
public import proofs.«01_k».proof.Proof.Gen.AdamOut
public import proofs.«01_k».proof.Proof.Gen.AdamOutIdeal
public import proofs.«01_k».proof.Proof.Gen.AdamOutIdeal.Value
public import proofs.«01_k».proof.Proof.Gen.AdamOutReferenceIdeal
public import proofs.«01_k».proof.Proof.Gen.AdamOutReferenceIdeal.Read
public import proofs.«01_k».proof.Proof.Gen.AdamSmall
public import proofs.«01_k».proof.Proof.Gen.AdamSmallIdeal
public import proofs.«01_k».proof.Proof.Gen.AdamSmallIdeal.Value
public import proofs.«01_k».proof.Proof.Gen.AdamSmallReferenceIdeal
public import proofs.«01_k».proof.Proof.Gen.AdamSmallReferenceIdeal.Read
public import proofs.«01_k».proof.Proof.Gen.AdamDown0
public import proofs.«01_k».proof.Proof.Gen.AdamDown0Ideal
public import proofs.«01_k».proof.Proof.Gen.AdamDown0Ideal.Value
public import proofs.«01_k».proof.Proof.Gen.AdamDown0ReferenceIdeal
public import proofs.«01_k».proof.Proof.Gen.AdamDown0ReferenceIdeal.Read
public import proofs.«01_k».proof.Proof.Gen.AdamNorm
public import proofs.«01_k».proof.Proof.Gen.AdamNormIdeal
public import proofs.«01_k».proof.Proof.Gen.AdamNormIdeal.Value
public import proofs.«01_k».proof.Proof.Gen.AdamNormReferenceIdeal
public import proofs.«01_k».proof.Proof.Gen.AdamNormReferenceIdeal.Read
public import proofs.«01_k».proof.Proof.Gen.AdamLruConv
public import proofs.«01_k».proof.Proof.Gen.AdamLruConvIdeal
public import proofs.«01_k».proof.Proof.Gen.AdamLruConvIdeal.Value
public import proofs.«01_k».proof.Proof.Gen.AdamLruConvReferenceIdeal
public import proofs.«01_k».proof.Proof.Gen.AdamLruConvReferenceIdeal.Read
public import proofs.«01_k».proof.Proof.Gen.AdamGdnConv
public import proofs.«01_k».proof.Proof.Gen.AdamGdnConvIdeal
public import proofs.«01_k».proof.Proof.Gen.AdamGdnConvIdeal.Value
public import proofs.«01_k».proof.Proof.Gen.AdamGdnConvReferenceIdeal
public import proofs.«01_k».proof.Proof.Gen.AdamGdnConvReferenceIdeal.Read
public import proofs.«01_k».proof.Proof.Gen.LruConv
public import proofs.«01_k».proof.Proof.Gen.LruConvIdeal
public import proofs.«01_k».proof.Proof.Gen.LruConvIdeal.Value
public import proofs.«01_k».proof.Proof.Gen.LruConvReferenceIdeal
public import proofs.«01_k».proof.Proof.Gen.LruConvReferenceIdeal.Read
public import proofs.«01_k».proof.Proof.Frames
public import proofs.«01_k».proof.Proof.Agree
public import proofs.«01_k».proof.Proof.UpValue
public import proofs.«01_k».proof.Proof.DactValue
public import proofs.«01_k».proof.Proof.DwdValue
public import proofs.«01_k».proof.Proof.DwuValue
public import proofs.«01_k».proof.Proof.DhValue
public import proofs.«01_k».proof.Proof.InEvenValue
public import proofs.«01_k».proof.Proof.InOddValue
public import proofs.«01_k».proof.Proof.InEvenDwValue
public import proofs.«01_k».proof.Proof.InOddDwValue
public import proofs.«01_k».proof.Proof.OutDwValue
public import proofs.«01_k».proof.Proof.OutDxValue
public import proofs.«01_k».proof.Proof.OutValue
public import proofs.«01_k».proof.Proof.DownValue
public import proofs.«01_k».proof.Proof.InEvenDxValue
public import proofs.«01_k».proof.Proof.InOddDxValue
public import proofs.«01_k».proof.Proof.HeadValue
public import proofs.«01_k».proof.Proof.AdamInValue
public import proofs.«01_k».proof.Proof.AdamUpValue
public import proofs.«01_k».proof.Proof.AdamUp0Value
public import proofs.«01_k».proof.Proof.AdamDownValue
public import proofs.«01_k».proof.Proof.AdamOutValue
public import proofs.«01_k».proof.Proof.AdamSmallValue
public import proofs.«01_k».proof.Proof.AdamDown0Value
public import proofs.«01_k».proof.Proof.AdamNormValue
public import proofs.«01_k».proof.Proof.AdamLruConvValue
public import proofs.«01_k».proof.Proof.AdamGdnConvValue
public import proofs.«01_k».proof.Proof.LruConvValue
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Up.Gen.facts,
    Cert.UpIdeal.Gen.facts,
    Cert.UpReferenceIdeal.Gen.facts,
    Cert.Dact.Gen.facts,
    Cert.DactIdeal.Gen.facts,
    Cert.DactReferenceIdeal.Gen.facts,
    Cert.Dwd.Gen.facts,
    Cert.DwdIdeal.Gen.facts,
    Cert.DwdReferenceIdeal.Gen.facts,
    Cert.Dwu.Gen.facts,
    Cert.DwuIdeal.Gen.facts,
    Cert.DwuReferenceIdeal.Gen.facts,
    Cert.Dh.Gen.facts,
    Cert.DhIdeal.Gen.facts,
    Cert.DhReferenceIdeal.Gen.facts,
    Cert.InEven.Gen.facts,
    Cert.InEvenIdeal.Gen.facts,
    Cert.InEvenReferenceIdeal.Gen.facts,
    Cert.InOdd.Gen.facts,
    Cert.InOddIdeal.Gen.facts,
    Cert.InOddReferenceIdeal.Gen.facts,
    Cert.InEvenDw.Gen.facts,
    Cert.InEvenDwIdeal.Gen.facts,
    Cert.InEvenDwReferenceIdeal.Gen.facts,
    Cert.InOddDw.Gen.facts,
    Cert.InOddDwIdeal.Gen.facts,
    Cert.InOddDwReferenceIdeal.Gen.facts,
    Cert.OutDw.Gen.facts,
    Cert.OutDwIdeal.Gen.facts,
    Cert.OutDwReferenceIdeal.Gen.facts,
    Cert.OutDx.Gen.facts,
    Cert.OutDxIdeal.Gen.facts,
    Cert.OutDxReferenceIdeal.Gen.facts,
    Cert.Out.Gen.facts,
    Cert.OutIdeal.Gen.facts,
    Cert.OutReferenceIdeal.Gen.facts,
    Cert.Down.Gen.facts,
    Cert.DownIdeal.Gen.facts,
    Cert.DownReferenceIdeal.Gen.facts,
    Cert.InEvenDx.Gen.facts,
    Cert.InEvenDxIdeal.Gen.facts,
    Cert.InEvenDxReferenceIdeal.Gen.facts,
    Cert.InOddDx.Gen.facts,
    Cert.InOddDxIdeal.Gen.facts,
    Cert.InOddDxReferenceIdeal.Gen.facts,
    Cert.Head.Gen.facts,
    Cert.HeadIdeal.Gen.facts,
    Cert.HeadReferenceIdeal.Gen.facts,
    Cert.AdamIn.Gen.facts,
    Cert.AdamInIdeal.Gen.facts,
    Cert.AdamInReferenceIdeal.Gen.facts,
    Cert.AdamUp.Gen.facts,
    Cert.AdamUpIdeal.Gen.facts,
    Cert.AdamUpReferenceIdeal.Gen.facts,
    Cert.AdamUp0.Gen.facts,
    Cert.AdamUp0Ideal.Gen.facts,
    Cert.AdamUp0ReferenceIdeal.Gen.facts,
    Cert.AdamDown.Gen.facts,
    Cert.AdamDownIdeal.Gen.facts,
    Cert.AdamDownReferenceIdeal.Gen.facts,
    Cert.AdamOut.Gen.facts,
    Cert.AdamOutIdeal.Gen.facts,
    Cert.AdamOutReferenceIdeal.Gen.facts,
    Cert.AdamSmall.Gen.facts,
    Cert.AdamSmallIdeal.Gen.facts,
    Cert.AdamSmallReferenceIdeal.Gen.facts,
    Cert.AdamDown0.Gen.facts,
    Cert.AdamDown0Ideal.Gen.facts,
    Cert.AdamDown0ReferenceIdeal.Gen.facts,
    Cert.AdamNorm.Gen.facts,
    Cert.AdamNormIdeal.Gen.facts,
    Cert.AdamNormReferenceIdeal.Gen.facts,
    Cert.AdamLruConv.Gen.facts,
    Cert.AdamLruConvIdeal.Gen.facts,
    Cert.AdamLruConvReferenceIdeal.Gen.facts,
    Cert.AdamGdnConv.Gen.facts,
    Cert.AdamGdnConvIdeal.Gen.facts,
    Cert.AdamGdnConvReferenceIdeal.Gen.facts,
    Cert.LruConv.Gen.facts,
    Cert.LruConvIdeal.Gen.facts,
    Cert.LruConvReferenceIdeal.Gen.facts,
    Cert.Pre_finite.Gen.facts,
    Cert.On_written.Gen.facts,
    first_layer_facts,
    first_layer_down_facts,
    frame_kernel,
    fun m g _ => Cert.KernelIdeal.Gen.frame (F := Ideal) m g,
    fun m g _ => Cert.KernelIdeal.Gen.frame (F := Ideal) m g,
    frame_reference,
    fun m g _ => frame_reference m g trivial,
    frame_up,
    fun m g _ => Cert.UpIdeal.Gen.frame (F := Ideal) m g,
    frame_up_reference,
    frame_dact,
    fun m g _ => Cert.DactIdeal.Gen.frame (F := Ideal) m g,
    frame_dact_reference,
    frame_dwd,
    fun m g _ => Cert.DwdIdeal.Gen.frame (F := Ideal) m g,
    frame_dwd_reference,
    frame_dwu,
    fun m g _ => Cert.DwuIdeal.Gen.frame (F := Ideal) m g,
    frame_dwu_reference,
    frame_dh,
    fun m g _ => Cert.DhIdeal.Gen.frame (F := Ideal) m g,
    frame_dh_reference,
    frame_ineven,
    fun m g _ => Cert.InEvenIdeal.Gen.frame (F := Ideal) m g,
    frame_ineven_reference,
    frame_inodd,
    fun m g _ => Cert.InOddIdeal.Gen.frame (F := Ideal) m g,
    frame_inodd_reference,
    frame_inevendw,
    fun m g _ => Cert.InEvenDwIdeal.Gen.frame (F := Ideal) m g,
    frame_inevendw_reference,
    frame_inodddw,
    fun m g _ => Cert.InOddDwIdeal.Gen.frame (F := Ideal) m g,
    frame_inodddw_reference,
    frame_outdw,
    fun m g _ => Cert.OutDwIdeal.Gen.frame (F := Ideal) m g,
    frame_outdw_reference,
    frame_outdx,
    fun m g _ => Cert.OutDxIdeal.Gen.frame (F := Ideal) m g,
    frame_outdx_reference,
    frame_out,
    fun m g _ => Cert.OutIdeal.Gen.frame (F := Ideal) m g,
    frame_out_reference,
    frame_down,
    fun m g _ => Cert.DownIdeal.Gen.frame (F := Ideal) m g,
    frame_down_reference,
    frame_inevendx,
    fun m g _ => Cert.InEvenDxIdeal.Gen.frame (F := Ideal) m g,
    frame_inevendx_reference,
    frame_inodddx,
    fun m g _ => Cert.InOddDxIdeal.Gen.frame (F := Ideal) m g,
    frame_inodddx_reference,
    frame_head,
    fun m g _ => Cert.HeadIdeal.Gen.frame (F := Ideal) m g,
    frame_head_reference,
    frame_adamin,
    fun m g _ => Cert.AdamInIdeal.Gen.frame (F := Ideal) m g,
    frame_adamin_reference,
    frame_adamup,
    fun m g _ => Cert.AdamUpIdeal.Gen.frame (F := Ideal) m g,
    frame_adamup_reference,
    frame_adamup0,
    fun m g _ => Cert.AdamUp0Ideal.Gen.frame (F := Ideal) m g,
    frame_adamup0_reference,
    frame_adamdown,
    fun m g _ => Cert.AdamDownIdeal.Gen.frame (F := Ideal) m g,
    frame_adamdown_reference,
    frame_adamout,
    fun m g _ => Cert.AdamOutIdeal.Gen.frame (F := Ideal) m g,
    frame_adamout_reference,
    frame_adamsmall,
    fun m g _ => Cert.AdamSmallIdeal.Gen.frame (F := Ideal) m g,
    frame_adamsmall_reference,
    frame_adamdown0,
    fun m g _ => Cert.AdamDown0Ideal.Gen.frame (F := Ideal) m g,
    frame_adamdown0_reference,
    frame_adamnorm,
    fun m g _ => Cert.AdamNormIdeal.Gen.frame (F := Ideal) m g,
    frame_adamnorm_reference,
    frame_adamlruconv,
    fun m g _ => Cert.AdamLruConvIdeal.Gen.frame (F := Ideal) m g,
    frame_adamlruconv_reference,
    frame_adamgdnconv,
    fun m g _ => Cert.AdamGdnConvIdeal.Gen.frame (F := Ideal) m g,
    frame_adamgdnconv_reference,
    frame_lruconv,
    fun m g _ => Cert.LruConvIdeal.Gen.frame (F := Ideal) m g,
    frame_lruconv_reference,
    trivial,
    agree,
    trivial,
    agree_up,
    trivial,
    agree_dact,
    trivial,
    agree_dwd,
    trivial,
    agree_dwu,
    trivial,
    agree_dh,
    trivial,
    agree_ineven,
    trivial,
    agree_inodd,
    trivial,
    agree_inevendw,
    trivial,
    agree_inodddw,
    trivial,
    agree_outdw,
    trivial,
    agree_outdx,
    trivial,
    agree_out,
    trivial,
    agree_down,
    trivial,
    agree_inevendx,
    trivial,
    agree_inodddx,
    trivial,
    agree_head,
    trivial,
    agree_adamin,
    trivial,
    agree_adamup,
    trivial,
    agree_adamup0,
    trivial,
    agree_adamdown,
    trivial,
    agree_adamout,
    trivial,
    agree_adamsmall,
    trivial,
    agree_adamdown0,
    trivial,
    agree_adamnorm,
    trivial,
    agree_adamlruconv,
    trivial,
    agree_adamgdnconv,
    trivial,
    agree_lruconv⟩

end Cert.Proof

end
